-- ==== Defs.lean ====
def Pre_Kernel (m : (ℓ : Loc Cert.Kernel.nD Cert.Kernel.τ Cert.Kernel.sig) → Buf (Elt Bits) ℓ) : Prop :=
  True

def Pre_KernelIdeal (m : (ℓ : Loc Cert.KernelIdeal.nD Cert.KernelIdeal.τ Cert.KernelIdeal.sig) → Buf (Elt Ideal) ℓ) : Prop :=
  True

def Pre_ReferenceIdeal (m : (ℓ : Loc Cert.ReferenceIdeal.nD Cert.ReferenceIdeal.τ Cert.ReferenceIdeal.sig) → Buf (Elt Ideal) ℓ) : Prop :=
  True

def quiescent_Kernel [hKernel : Cert.Kernel.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (Cert.Kernel.threads (F := Bits)) ⟨m, fun _ => 0, g⟩ (fun r => (∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4)
      ∧ r.2.mem ((c.tc : Thread Cert.Kernel.nD Cert.Kernel.τ).loc Cert.Kernel.main_arg5) = m ((c.tc : Thread Cert.Kernel.nD Cert.Kernel.τ).loc Cert.Kernel.main_arg5))
      ∧ r.2.sem = fun _ => 0)

def quiescent_KernelIdeal [hKernelIdeal : Cert.KernelIdeal.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (Cert.KernelIdeal.threads (F := Ideal)) ⟨m, fun _ => 0, g⟩ (fun r => (∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
      ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ r.2.sem = fun _ => 0)

def quiescent_ReferenceIdeal [hReferenceIdeal : Cert.ReferenceIdeal.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => (∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4)
      ∧ r.2.mem ((c.tc : Thread Cert.ReferenceIdeal.nD Cert.ReferenceIdeal.τ).loc Cert.ReferenceIdeal.main_arg5) = m ((c.tc : Thread Cert.ReferenceIdeal.nD Cert.ReferenceIdeal.τ).loc Cert.ReferenceIdeal.main_arg5))
      ∧ r.2.sem = fun _ => 0)

def preserves_Kernel_KernelIdeal : Prop :=
  True

def algebraic_KernelIdeal_ReferenceIdeal [hKernelIdeal : Cert.KernelIdeal.Facts] [hReferenceIdeal : Cert.ReferenceIdeal.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)
      ∧ m' ((c.tc : Thread Cert.ReferenceIdeal.nD Cert.ReferenceIdeal.τ).loc Cert.ReferenceIdeal.main_arg5) = m ((c.tc : Thread Cert.KernelIdeal.nD Cert.KernelIdeal.τ).loc Cert.KernelIdeal.main_arg5)) →
    ∃ (v0 : (c : Dev Cert.KernelIdeal.nD) → Buf (Elt Ideal) ((c.tc : Thread Cert.KernelIdeal.nD Cert.KernelIdeal.τ).loc Cert.KernelIdeal.main_v1)),
      θ_run (Cert.KernelIdeal.defs (F := Ideal)) (Cert.KernelIdeal.threads (F := Ideal)) ⟨m, fun _ => 0, g⟩ (fun r => ∀ c : Dev Cert.KernelIdeal.nD,
          r.2.mem ((c.tc : Thread Cert.KernelIdeal.nD Cert.KernelIdeal.τ).loc Cert.KernelIdeal.main_v1) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4)
          ∧ r.2.mem ((c.tc : Thread Cert.KernelIdeal.nD Cert.KernelIdeal.τ).loc Cert.KernelIdeal.main_arg5) = m ((c.tc : Thread Cert.KernelIdeal.nD Cert.KernelIdeal.τ).loc Cert.KernelIdeal.main_arg5))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v217) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4)
          ∧ r.2.mem ((c.tc : Thread Cert.ReferenceIdeal.nD Cert.ReferenceIdeal.τ).loc Cert.ReferenceIdeal.main_arg5) = m' ((c.tc : Thread Cert.ReferenceIdeal.nD Cert.ReferenceIdeal.τ).loc Cert.ReferenceIdeal.main_arg5))

def Claim : Prop :=
  ∃ (hKernel : Cert.Kernel.Facts) (hKernelIdeal : Cert.KernelIdeal.Facts) (hReferenceIdeal : Cert.ReferenceIdeal.Facts),
    quiescent_Kernel (hKernel := hKernel)
    ∧ quiescent_KernelIdeal (hKernelIdeal := hKernelIdeal)
    ∧ quiescent_ReferenceIdeal (hReferenceIdeal := hReferenceIdeal)
    ∧ preserves_Kernel_KernelIdeal
    ∧ algebraic_KernelIdeal_ReferenceIdeal (hKernelIdeal := hKernelIdeal) (hReferenceIdeal := hReferenceIdeal)
-- ==== Kernel.lean ====
abbrev S1x6x16x16 : Shape := ⟨4, ![1, 6, 16, 16]⟩
abbrev S16x16 : Shape := ⟨2, ![16, 16]⟩
abbrev S16x16x16 : Shape := ⟨3, ![16, 16, 16]⟩
abbrev S4548 : Shape := ⟨1, ![4548]⟩
abbrev S72512 : Shape := ⟨1, ![72512]⟩
abbrev S6x16x16 : Shape := ⟨3, ![6, 16, 16]⟩
abbrev S2544 : Shape := ⟨1, ![2544]⟩
abbrev S_ : Shape := ⟨0, ![]⟩
abbrev S16 : Shape := ⟨1, ![16]⟩
abbrev S1 : Shape := ⟨1, ![1]⟩
abbrev S1x16 : Shape := ⟨2, ![1, 16]⟩
abbrev S2304 : Shape := ⟨1, ![2304]⟩
abbrev S1088 : Shape := ⟨1, ![1088]⟩
abbrev S4532x16 : Shape := ⟨2, ![4532, 16]⟩

abbrev nBuf : Table → Nat
  | .hbm => 9
  | .local .scVector .vmem => 8
  | _ => 0

abbrev bufTy : (tb : Table) → Fin (nBuf tb) → BufTy
  | .hbm, ⟨0, _⟩ => ⟨S1x6x16x16, .f32⟩
  | .hbm, ⟨1, _⟩ => ⟨S16x16, .f32⟩
  | .hbm, ⟨2, _⟩ => ⟨S16x16x16, .f32⟩
  | .hbm, ⟨3, _⟩ => ⟨S16x16, .f32⟩
  | .hbm, ⟨4, _⟩ => ⟨S16x16x16, .f32⟩
  | .hbm, ⟨5, _⟩ => ⟨S16x16, .f32⟩
  | .hbm, ⟨6, _⟩ => ⟨S4548, .i32⟩
  | .hbm, ⟨7, _⟩ => ⟨S72512, .f32⟩
  | .hbm, ⟨8, _⟩ => ⟨S4532x16, .f32⟩
  | .local .scVector .vmem, ⟨0, _⟩ => ⟨S1x6x16x16, .f32⟩
  | .local .scVector .vmem, ⟨1, _⟩ => ⟨S16x16, .f32⟩
  | .local .scVector .vmem, ⟨2, _⟩ => ⟨S6x16x16, .f32⟩
  | .local .scVector .vmem, ⟨3, _⟩ => ⟨S16x16, .f32⟩
  | .local .scVector .vmem, ⟨4, _⟩ => ⟨S6x16x16, .f32⟩
  | .local .scVector .vmem, ⟨5, _⟩ => ⟨S16x16, .f32⟩
  | .local .scVector .vmem, ⟨6, _⟩ => ⟨S4548, .i32⟩
  | .local .scVector .vmem, ⟨7, _⟩ => ⟨S2544, .f32⟩
  | _, _ => ⟨S1x6x16x16, .f32⟩

abbrev bufScoped : (cs : CoreSpace) → Fin (nBuf (.local .tc cs)) → Bool
  | _, _ => false

abbrev semScoped : Fin 4 → Bool
  | ⟨0, _⟩ => false
  | ⟨1, _⟩ => false
  | ⟨2, _⟩ => false
  | ⟨3, _⟩ => false
  | _ => false

abbrev dmaSemScoped : Fin 9 → Bool
  | ⟨0, _⟩ => false
  | ⟨1, _⟩ => false
  | ⟨2, _⟩ => false
  | ⟨3, _⟩ => false
  | ⟨4, _⟩ => false
  | ⟨5, _⟩ => false
  | ⟨6, _⟩ => false
  | ⟨7, _⟩ => false
  | ⟨8, _⟩ => false
  | _ => false

abbrev sig : RefSig :=
  ofTables nBuf rfl bufTy 4 9 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_v0 : Ref sig .tc := ⟨.hbm, 7, rfl⟩
abbrev main_v1 : Ref sig .tc := ⟨.hbm, 8, rfl⟩
abbrev main_arg0_scv : Ref sig .scVector := ⟨.hbm, 0, rfl⟩
abbrev main_arg1_scv : Ref sig .scVector := ⟨.hbm, 1, rfl⟩
abbrev main_arg2_scv : Ref sig .scVector := ⟨.hbm, 2, rfl⟩
abbrev main_arg3_scv : Ref sig .scVector := ⟨.hbm, 3, rfl⟩
abbrev main_arg4_scv : Ref sig .scVector := ⟨.hbm, 4, rfl⟩
abbrev main_arg5_scv : Ref sig .scVector := ⟨.hbm, 5, rfl⟩
abbrev main_c_scv : Ref sig .scVector := ⟨.hbm, 6, rfl⟩
abbrev main_v0_scv : Ref sig .scVector := ⟨.hbm, 7, rfl⟩
abbrev cc0_scratch0 : Ref sig .scVector := ⟨.vmem, 0, rfl⟩
abbrev cc0_scratch1 : Ref sig .scVector := ⟨.vmem, 1, rfl⟩
abbrev cc0_scratch2 : Ref sig .scVector := ⟨.vmem, 2, rfl⟩
abbrev cc0_scratch3 : Ref sig .scVector := ⟨.vmem, 3, rfl⟩
abbrev cc0_scratch4 : Ref sig .scVector := ⟨.vmem, 4, rfl⟩
abbrev cc0_scratch5 : Ref sig .scVector := ⟨.vmem, 5, rfl⟩
abbrev cc0_scratch6 : Ref sig .scVector := ⟨.vmem, 6, rfl⟩
abbrev cc0_scratch7 : Ref sig .scVector := ⟨.vmem, 7, rfl⟩
abbrev sc_start : Sem sig := 0
abbrev sc_done : Sem sig := 1
abbrev sc_go : Sem sig := 2
abbrev sc_taskDone : Sem sig := 3

abbrev nD : Nat := 1
abbrev τ : Topo := Topo.v7x

variable {F : FTy → Type} [FloatOps F]

abbrev grid0 : Pipeline.Grid := ⟨2, ![2, 16], ![false, false]⟩

def k0_chk1 (v13 : IVec S16 32) (v24 : IVec S16 32) : Prop :=
  (∀ a x, ((![v13, v24] : Fin 2 → IVec S16 32) a x).toNat < S16x16.size a)
theorem k0_idx1_inb : ∀ (v13 : IVec S16 32) (v24 : IVec S16 32) (k0_hw1 : k0_chk1 v13 v24), ∀ a x, ((![v13, v24] : Fin 2 → IVec S16 32) a x).toNat < S16x16.size a := fun v13 v24 k0_hw1 => k0_hw1

def k0_chk2 (v13 : IVec S16 32) (v27 : IVec S16 32) : Prop :=
  (∀ a x, ((![v13, v27] : Fin 2 → IVec S16 32) a x).toNat < S16x16.size a)
theorem k0_idx2_inb : ∀ (v13 : IVec S16 32) (v27 : IVec S16 32) (k0_hw2 : k0_chk2 v13 v27), ∀ a x, ((![v13, v27] : Fin 2 → IVec S16 32) a x).toNat < S16x16.size a := fun v13 v27 k0_hw2 => k0_hw2

def k0_chk3 (v13 : IVec S16 32) (v30 : IVec S16 32) : Prop :=
  (∀ a x, ((![v13, v30] : Fin 2 → IVec S16 32) a x).toNat < S16x16.size a)
theorem k0_idx3_inb : ∀ (v13 : IVec S16 32) (v30 : IVec S16 32) (k0_hw3 : k0_chk3 v13 v30), ∀ a x, ((![v13, v30] : Fin 2 → IVec S16 32) a x).toNat < S16x16.size a := fun v13 v30 k0_hw3 => k0_hw3

def k0_chk4 (v13 : IVec S16 32) (v33 : IVec S16 32) : Prop :=
  (∀ a x, ((![v13, v33] : Fin 2 → IVec S16 32) a x).toNat < S16x16.size a)
theorem k0_idx4_inb : ∀ (v13 : IVec S16 32) (v33 : IVec S16 32) (k0_hw4 : k0_chk4 v13 v33), ∀ a x, ((![v13, v33] : Fin 2 → IVec S16 32) a x).toNat < S16x16.size a := fun v13 v33 k0_hw4 => k0_hw4

def k0_chk5 (v13 : IVec S16 32) (v36 : IVec S16 32) : Prop :=
  (∀ a x, ((![v13, v36] : Fin 2 → IVec S16 32) a x).toNat < S16x16.size a)
theorem k0_idx5_inb : ∀ (v13 : IVec S16 32) (v36 : IVec S16 32) (k0_hw5 : k0_chk5 v13 v36), ∀ a x, ((![v13, v36] : Fin 2 → IVec S16 32) a x).toNat < S16x16.size a := fun v13 v36 k0_hw5 => k0_hw5

def k0_chk6 (v13 : IVec S16 32) (v39 : IVec S16 32) : Prop :=
  (∀ a x, ((![v13, v39] : Fin 2 → IVec S16 32) a x).toNat < S16x16.size a)
theorem k0_idx6_inb : ∀ (v13 : IVec S16 32) (v39 : IVec S16 32) (k0_hw6 : k0_chk6 v13 v39), ∀ a x, ((![v13, v39] : Fin 2 → IVec S16 32) a x).toNat < S16x16.size a := fun v13 v39 k0_hw6 => k0_hw6

def k0_chk7 (v13 : IVec S16 32) (v42 : IVec S16 32) : Prop :=
  (∀ a x, ((![v13, v42] : Fin 2 → IVec S16 32) a x).toNat < S16x16.size a)
theorem k0_idx7_inb : ∀ (v13 : IVec S16 32) (v42 : IVec S16 32) (k0_hw7 : k0_chk7 v13 v42), ∀ a x, ((![v13, v42] : Fin 2 → IVec S16 32) a x).toNat < S16x16.size a := fun v13 v42 k0_hw7 => k0_hw7

def k0_chk8 (v13 : IVec S16 32) (v45 : IVec S16 32) : Prop :=
  (∀ a x, ((![v13, v45] : Fin 2 → IVec S16 32) a x).toNat < S16x16.size a)
theorem k0_idx8_inb : ∀ (v13 : IVec S16 32) (v45 : IVec S16 32) (k0_hw8 : k0_chk8 v13 v45), ∀ a x, ((![v13, v45] : Fin 2 → IVec S16 32) a x).toNat < S16x16.size a := fun v13 v45 k0_hw8 => k0_hw8

def k0_chk9 (v13 : IVec S16 32) (v48 : IVec S16 32) : Prop :=
  (∀ a x, ((![v13, v48] : Fin 2 → IVec S16 32) a x).toNat < S16x16.size a)
theorem k0_idx9_inb : ∀ (v13 : IVec S16 32) (v48 : IVec S16 32) (k0_hw9 : k0_chk9 v13 v48), ∀ a x, ((![v13, v48] : Fin 2 → IVec S16 32) a x).toNat < S16x16.size a := fun v13 v48 k0_hw9 => k0_hw9

def k0_chk10 (v13 : IVec S16 32) (v51 : IVec S16 32) : Prop :=
  (∀ a x, ((![v13, v51] : Fin 2 → IVec S16 32) a x).toNat < S16x16.size a)
theorem k0_idx10_inb : ∀ (v13 : IVec S16 32) (v51 : IVec S16 32) (k0_hw10 : k0_chk10 v13 v51), ∀ a x, ((![v13, v51] : Fin 2 → IVec S16 32) a x).toNat < S16x16.size a := fun v13 v51 k0_hw10 => k0_hw10

def k0_chk11 (v13 : IVec S16 32) (v54 : IVec S16 32) : Prop :=
  (∀ a x, ((![v13, v54] : Fin 2 → IVec S16 32) a x).toNat < S16x16.size a)
theorem k0_idx11_inb : ∀ (v13 : IVec S16 32) (v54 : IVec S16 32) (k0_hw11 : k0_chk11 v13 v54), ∀ a x, ((![v13, v54] : Fin 2 → IVec S16 32) a x).toNat < S16x16.size a := fun v13 v54 k0_hw11 => k0_hw11

def k0_chk12 (v13 : IVec S16 32) (v57 : IVec S16 32) : Prop :=
  (∀ a x, ((![v13, v57] : Fin 2 → IVec S16 32) a x).toNat < S16x16.size a)
theorem k0_idx12_inb : ∀ (v13 : IVec S16 32) (v57 : IVec S16 32) (k0_hw12 : k0_chk12 v13 v57), ∀ a x, ((![v13, v57] : Fin 2 → IVec S16 32) a x).toNat < S16x16.size a := fun v13 v57 k0_hw12 => k0_hw12

def k0_chk13 (v13 : IVec S16 32) (v60 : IVec S16 32) : Prop :=
  (∀ a x, ((![v13, v60] : Fin 2 → IVec S16 32) a x).toNat < S16x16.size a)
theorem k0_idx13_inb : ∀ (v13 : IVec S16 32) (v60 : IVec S16 32) (k0_hw13 : k0_chk13 v13 v60), ∀ a x, ((![v13, v60] : Fin 2 → IVec S16 32) a x).toNat < S16x16.size a := fun v13 v60 k0_hw13 => k0_hw13

def k0_chk14 (v13 : IVec S16 32) (v63 : IVec S16 32) : Prop :=
  (∀ a x, ((![v13, v63] : Fin 2 → IVec S16 32) a x).toNat < S16x16.size a)
theorem k0_idx14_inb : ∀ (v13 : IVec S16 32) (v63 : IVec S16 32) (k0_hw14 : k0_chk14 v13 v63), ∀ a x, ((![v13, v63] : Fin 2 → IVec S16 32) a x).toNat < S16x16.size a := fun v13 v63 k0_hw14 => k0_hw14

def k0_chk15 (v13 : IVec S16 32) (v66 : IVec S16 32) : Prop :=
  (∀ a x, ((![v13, v66] : Fin 2 → IVec S16 32) a x).toNat < S16x16.size a)
theorem k0_idx15_inb : ∀ (v13 : IVec S16 32) (v66 : IVec S16 32) (k0_hw15 : k0_chk15 v13 v66), ∀ a x, ((![v13, v66] : Fin 2 → IVec S16 32) a x).toNat < S16x16.size a := fun v13 v66 k0_hw15 => k0_hw15

def k0_chk16 (v13 : IVec S16 32) (v69 : IVec S16 32) : Prop :=
  (∀ a x, ((![v13, v69] : Fin 2 → IVec S16 32) a x).toNat < S16x16.size a)
theorem k0_idx16_inb : ∀ (v13 : IVec S16 32) (v69 : IVec S16 32) (k0_hw16 : k0_chk16 v13 v69), ∀ a x, ((![v13, v69] : Fin 2 → IVec S16 32) a x).toNat < S16x16.size a := fun v13 v69 k0_hw16 => k0_hw16
@[reducible] def k0_t1_loop (i : grid0.Coords) : Scf.Loop 32 :=
  let c0_i32_40 : BitVec 32 := 0#32
  let c0_i32_38 : BitVec 32 := 0#32
  let c96_i32 : BitVec 32 := 96#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c144_i32 : BitVec 32 := 144#32
  let v10 : BitVec 32 := Scalar.muli v1 c144_i32
  let c144_i32_23 : BitVec 32 := 144#32
  let v11 : BitVec 32 := Scalar.addi v10 c144_i32_23
  let c4532_i32 : BitVec 32 := 4532#32
  let v12 : BitVec 32 := Scalar.minsi v11 c4532_i32
  let v72 : BitVec 32 := Scalar.minsi c96_i32 v12
  let c0_i32_29 : BitVec 32 := 0#32
  let v71 : BitVec 32 := Scalar.maxsi c0_i32_29 v10
  let v73 : BitVec 32 := Scalar.subi v72 v71
  let c15_i32_30 : BitVec 32 := 15#32
  let v74 : BitVec 32 := Scalar.addi v73 c15_i32_30
  let c0_i32_32 : BitVec 32 := 0#32
  let v76 : BitVec 1 := Scalar.cmpi .sgt v74 c0_i32_32
  let v77 : BitVec 32 := Scalar.extui v76
  let c0_i32_33 : BitVec 32 := 0#32
  let v78 : BitVec 1 := Scalar.cmpi .slt v74 c0_i32_33
  let v79 : BitVec 32 := Scalar.extui v78
  let v80 : BitVec 32 := Scalar.subi v77 v79
  let c16_i32_31 : BitVec 32 := 16#32
  let c0_i32_34 : BitVec 32 := 0#32
  let v81 : BitVec 1 := Scalar.cmpi .sgt c16_i32_31 c0_i32_34
  let v82 : BitVec 32 := Scalar.extui v81
  let c0_i32_35 : BitVec 32 := 0#32
  let v83 : BitVec 1 := Scalar.cmpi .slt c16_i32_31 c0_i32_35
  let v84 : BitVec 32 := Scalar.extui v83
  let v85 : BitVec 32 := Scalar.subi v82 v84
  let v86 : BitVec 1 := Scalar.cmpi .ne v80 v85
  let v87 : BitVec 32 := Scalar.remsi v74 c16_i32_31
  let c0_i32_36 : BitVec 32 := 0#32
  let v88 : BitVec 1 := Scalar.cmpi .ne v87 c0_i32_36
  let v89 : BitVec 1 := Scalar.andi v86 v88
  let v75 : BitVec 32 := Scalar.divsi v74 c16_i32_31
  let c1_i32_37 : BitVec 32 := 1#32
  let v90 : BitVec 32 := Scalar.subi v75 c1_i32_37
  let v91 : BitVec 32 := Scalar.select v89 v90 v75
  let v92 : BitVec 32 := Scalar.maxsi c0_i32_38 v91
  let v93 : BitVec 32 := Scalar.subi v92 c0_i32_40
  let c1_i32_41 : BitVec 32 := 1#32
  let v95 : BitVec 32 := Scalar.divsi v93 c1_i32_41
  let v96 : BitVec 32 := Scalar.muli v95 c1_i32_41
  let v97 : BitVec 32 := Scalar.addi c0_i32_40 v96
  let c1_i32_42 : BitVec 32 := 1#32
  ⟨c0_i32_40, v97, c1_i32_42⟩
def k0_off1 (i : grid0.Coords) (k0_t1 : Fin (k0_t1_loop i).trips) : Fin 1 → Nat :=
  let c0_i32_29 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c144_i32 : BitVec 32 := 144#32
  let v10 : BitVec 32 := Scalar.muli v1 c144_i32
  let v71 : BitVec 32 := Scalar.maxsi c0_i32_29 v10
  let c16_i32_52 : BitVec 32 := 16#32
  let c0_i32_40 : BitVec 32 := 0#32
  let c1_i32_42 : BitVec 32 := 1#32
  let arg25 : BitVec 32 := Scf.iv c0_i32_40 c1_i32_42 k0_t1
  let v105 : BitVec 32 := Scalar.muli c16_i32_52 arg25
  let v106 : BitVec 32 := Scalar.addi v71 v105
  let v107 : Index := Scalar.indexCast v106
  ![v107.toNat]

def k0_chk17 (i : grid0.Coords) (v15 : IVec S16 32) (k0_t1 : Fin (k0_t1_loop i).trips) (v115 : IVec S16 32) (v119 : IVec S16 32) (v121 : IVec S16 32) : Prop :=
  (∀ a x, ((![v15, v115, v119, v121] : Fin 4 → IVec S16 32) a x).toNat < S1x6x16x16.size a)
theorem k0_idx17_inb : ∀ (i : grid0.Coords) (v15 : IVec S16 32) (k0_t1 : Fin (k0_t1_loop i).trips) (v115 : IVec S16 32) (v119 : IVec S16 32) (v121 : IVec S16 32) (k0_hw17 : k0_chk17 i v15 k0_t1 v115 v119 v121), ∀ a x, ((![v15, v115, v119, v121] : Fin 4 → IVec S16 32) a x).toNat < S1x6x16x16.size a := fun i v15 k0_t1 v115 v119 v121 k0_hw17 => k0_hw17
def k0_off2 (i : grid0.Coords) (k0_t1 : Fin (k0_t1_loop i).trips) : Fin 1 → Nat :=
  let c16_i32_58 : BitVec 32 := 16#32
  let c0_i32_29 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c144_i32 : BitVec 32 := 144#32
  let v10 : BitVec 32 := Scalar.muli v1 c144_i32
  let v71 : BitVec 32 := Scalar.maxsi c0_i32_29 v10
  let c16_i32_52 : BitVec 32 := 16#32
  let c0_i32_40 : BitVec 32 := 0#32
  let c1_i32_42 : BitVec 32 := 1#32
  let arg25 : BitVec 32 := Scf.iv c0_i32_40 c1_i32_42 k0_t1
  let v105 : BitVec 32 := Scalar.muli c16_i32_52 arg25
  let v106 : BitVec 32 := Scalar.addi v71 v105
  let v109 : BitVec 32 := Scalar.subi v106 v10
  let c0_i32_57 : BitVec 32 := 0#32
  let v202 : BitVec 32 := Scalar.addi v109 c0_i32_57
  let v203 : BitVec 32 := Scalar.muli c16_i32_58 v202
  let v204 : Index := Scalar.indexCast v203
  ![v204.toNat]

def k0_chk18 (i : grid0.Coords) (v15 : IVec S16 32) (k0_t1 : Fin (k0_t1_loop i).trips) (v211 : IVec S16 32) (v215 : IVec S16 32) (v217 : IVec S16 32) : Prop :=
  (∀ a x, ((![v15, v211, v215, v217] : Fin 4 → IVec S16 32) a x).toNat < S1x6x16x16.size a)
theorem k0_idx18_inb : ∀ (i : grid0.Coords) (v15 : IVec S16 32) (k0_t1 : Fin (k0_t1_loop i).trips) (v211 : IVec S16 32) (v215 : IVec S16 32) (v217 : IVec S16 32) (k0_hw18 : k0_chk18 i v15 k0_t1 v211 v215 v217), ∀ a x, ((![v15, v211, v215, v217] : Fin 4 → IVec S16 32) a x).toNat < S1x6x16x16.size a := fun i v15 k0_t1 v211 v215 v217 k0_hw18 => k0_hw18
def k0_off3 (i : grid0.Coords) (k0_t1 : Fin (k0_t1_loop i).trips) : Fin 1 → Nat :=
  let c16_i32_64 : BitVec 32 := 16#32
  let c0_i32_29 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c144_i32 : BitVec 32 := 144#32
  let v10 : BitVec 32 := Scalar.muli v1 c144_i32
  let v71 : BitVec 32 := Scalar.maxsi c0_i32_29 v10
  let c16_i32_52 : BitVec 32 := 16#32
  let c0_i32_40 : BitVec 32 := 0#32
  let c1_i32_42 : BitVec 32 := 1#32
  let arg25 : BitVec 32 := Scf.iv c0_i32_40 c1_i32_42 k0_t1
  let v105 : BitVec 32 := Scalar.muli c16_i32_52 arg25
  let v106 : BitVec 32 := Scalar.addi v71 v105
  let v109 : BitVec 32 := Scalar.subi v106 v10
  let c1_i32_63 : BitVec 32 := 1#32
  let v298 : BitVec 32 := Scalar.addi v109 c1_i32_63
  let v299 : BitVec 32 := Scalar.muli c16_i32_64 v298
  let v300 : Index := Scalar.indexCast v299
  ![v300.toNat]

def k0_chk19 (i : grid0.Coords) (v15 : IVec S16 32) (k0_t1 : Fin (k0_t1_loop i).trips) (v307 : IVec S16 32) (v311 : IVec S16 32) (v313 : IVec S16 32) : Prop :=
  (∀ a x, ((![v15, v307, v311, v313] : Fin 4 → IVec S16 32) a x).toNat < S1x6x16x16.size a)
theorem k0_idx19_inb : ∀ (i : grid0.Coords) (v15 : IVec S16 32) (k0_t1 : Fin (k0_t1_loop i).trips) (v307 : IVec S16 32) (v311 : IVec S16 32) (v313 : IVec S16 32) (k0_hw19 : k0_chk19 i v15 k0_t1 v307 v311 v313), ∀ a x, ((![v15, v307, v311, v313] : Fin 4 → IVec S16 32) a x).toNat < S1x6x16x16.size a := fun i v15 k0_t1 v307 v311 v313 k0_hw19 => k0_hw19
def k0_off4 (i : grid0.Coords) (k0_t1 : Fin (k0_t1_loop i).trips) : Fin 1 → Nat :=
  let c16_i32_70 : BitVec 32 := 16#32
  let c0_i32_29 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c144_i32 : BitVec 32 := 144#32
  let v10 : BitVec 32 := Scalar.muli v1 c144_i32
  let v71 : BitVec 32 := Scalar.maxsi c0_i32_29 v10
  let c16_i32_52 : BitVec 32 := 16#32
  let c0_i32_40 : BitVec 32 := 0#32
  let c1_i32_42 : BitVec 32 := 1#32
  let arg25 : BitVec 32 := Scf.iv c0_i32_40 c1_i32_42 k0_t1
  let v105 : BitVec 32 := Scalar.muli c16_i32_52 arg25
  let v106 : BitVec 32 := Scalar.addi v71 v105
  let v109 : BitVec 32 := Scalar.subi v106 v10
  let c2_i32_69 : BitVec 32 := 2#32
  let v394 : BitVec 32 := Scalar.addi v109 c2_i32_69
  let v395 : BitVec 32 := Scalar.muli c16_i32_70 v394
  let v396 : Index := Scalar.indexCast v395
  ![v396.toNat]

def k0_chk20 (i : grid0.Coords) (v15 : IVec S16 32) (k0_t1 : Fin (k0_t1_loop i).trips) (v403 : IVec S16 32) (v407 : IVec S16 32) (v409 : IVec S16 32) : Prop :=
  (∀ a x, ((![v15, v403, v407, v409] : Fin 4 → IVec S16 32) a x).toNat < S1x6x16x16.size a)
theorem k0_idx20_inb : ∀ (i : grid0.Coords) (v15 : IVec S16 32) (k0_t1 : Fin (k0_t1_loop i).trips) (v403 : IVec S16 32) (v407 : IVec S16 32) (v409 : IVec S16 32) (k0_hw20 : k0_chk20 i v15 k0_t1 v403 v407 v409), ∀ a x, ((![v15, v403, v407, v409] : Fin 4 → IVec S16 32) a x).toNat < S1x6x16x16.size a := fun i v15 k0_t1 v403 v407 v409 k0_hw20 => k0_hw20
def k0_off5 (i : grid0.Coords) (k0_t1 : Fin (k0_t1_loop i).trips) : Fin 1 → Nat :=
  let c16_i32_76 : BitVec 32 := 16#32
  let c0_i32_29 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c144_i32 : BitVec 32 := 144#32
  let v10 : BitVec 32 := Scalar.muli v1 c144_i32
  let v71 : BitVec 32 := Scalar.maxsi c0_i32_29 v10
  let c16_i32_52 : BitVec 32 := 16#32
  let c0_i32_40 : BitVec 32 := 0#32
  let c1_i32_42 : BitVec 32 := 1#32
  let arg25 : BitVec 32 := Scf.iv c0_i32_40 c1_i32_42 k0_t1
  let v105 : BitVec 32 := Scalar.muli c16_i32_52 arg25
  let v106 : BitVec 32 := Scalar.addi v71 v105
  let v109 : BitVec 32 := Scalar.subi v106 v10
  let c3_i32_75 : BitVec 32 := 3#32
  let v490 : BitVec 32 := Scalar.addi v109 c3_i32_75
  let v491 : BitVec 32 := Scalar.muli c16_i32_76 v490
  let v492 : Index := Scalar.indexCast v491
  ![v492.toNat]

def k0_chk21 (i : grid0.Coords) (v15 : IVec S16 32) (k0_t1 : Fin (k0_t1_loop i).trips) (v499 : IVec S16 32) (v503 : IVec S16 32) (v505 : IVec S16 32) : Prop :=
  (∀ a x, ((![v15, v499, v503, v505] : Fin 4 → IVec S16 32) a x).toNat < S1x6x16x16.size a)
theorem k0_idx21_inb : ∀ (i : grid0.Coords) (v15 : IVec S16 32) (k0_t1 : Fin (k0_t1_loop i).trips) (v499 : IVec S16 32) (v503 : IVec S16 32) (v505 : IVec S16 32) (k0_hw21 : k0_chk21 i v15 k0_t1 v499 v503 v505), ∀ a x, ((![v15, v499, v503, v505] : Fin 4 → IVec S16 32) a x).toNat < S1x6x16x16.size a := fun i v15 k0_t1 v499 v503 v505 k0_hw21 => k0_hw21
def k0_off6 (i : grid0.Coords) (k0_t1 : Fin (k0_t1_loop i).trips) : Fin 1 → Nat :=
  let c16_i32_82 : BitVec 32 := 16#32
  let c0_i32_29 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c144_i32 : BitVec 32 := 144#32
  let v10 : BitVec 32 := Scalar.muli v1 c144_i32
  let v71 : BitVec 32 := Scalar.maxsi c0_i32_29 v10
  let c16_i32_52 : BitVec 32 := 16#32
  let c0_i32_40 : BitVec 32 := 0#32
  let c1_i32_42 : BitVec 32 := 1#32
  let arg25 : BitVec 32 := Scf.iv c0_i32_40 c1_i32_42 k0_t1
  let v105 : BitVec 32 := Scalar.muli c16_i32_52 arg25
  let v106 : BitVec 32 := Scalar.addi v71 v105
  let v109 : BitVec 32 := Scalar.subi v106 v10
  let c4_i32_81 : BitVec 32 := 4#32
  let v586 : BitVec 32 := Scalar.addi v109 c4_i32_81
  let v587 : BitVec 32 := Scalar.muli c16_i32_82 v586
  let v588 : Index := Scalar.indexCast v587
  ![v588.toNat]

def k0_chk22 (i : grid0.Coords) (v15 : IVec S16 32) (k0_t1 : Fin (k0_t1_loop i).trips) (v595 : IVec S16 32) (v599 : IVec S16 32) (v601 : IVec S16 32) : Prop :=
  (∀ a x, ((![v15, v595, v599, v601] : Fin 4 → IVec S16 32) a x).toNat < S1x6x16x16.size a)
theorem k0_idx22_inb : ∀ (i : grid0.Coords) (v15 : IVec S16 32) (k0_t1 : Fin (k0_t1_loop i).trips) (v595 : IVec S16 32) (v599 : IVec S16 32) (v601 : IVec S16 32) (k0_hw22 : k0_chk22 i v15 k0_t1 v595 v599 v601), ∀ a x, ((![v15, v595, v599, v601] : Fin 4 → IVec S16 32) a x).toNat < S1x6x16x16.size a := fun i v15 k0_t1 v595 v599 v601 k0_hw22 => k0_hw22
def k0_off7 (i : grid0.Coords) (k0_t1 : Fin (k0_t1_loop i).trips) : Fin 1 → Nat :=
  let c16_i32_88 : BitVec 32 := 16#32
  let c0_i32_29 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c144_i32 : BitVec 32 := 144#32
  let v10 : BitVec 32 := Scalar.muli v1 c144_i32
  let v71 : BitVec 32 := Scalar.maxsi c0_i32_29 v10
  let c16_i32_52 : BitVec 32 := 16#32
  let c0_i32_40 : BitVec 32 := 0#32
  let c1_i32_42 : BitVec 32 := 1#32
  let arg25 : BitVec 32 := Scf.iv c0_i32_40 c1_i32_42 k0_t1
  let v105 : BitVec 32 := Scalar.muli c16_i32_52 arg25
  let v106 : BitVec 32 := Scalar.addi v71 v105
  let v109 : BitVec 32 := Scalar.subi v106 v10
  let c5_i32_87 : BitVec 32 := 5#32
  let v682 : BitVec 32 := Scalar.addi v109 c5_i32_87
  let v683 : BitVec 32 := Scalar.muli c16_i32_88 v682
  let v684 : Index := Scalar.indexCast v683
  ![v684.toNat]

def k0_chk23 (i : grid0.Coords) (v15 : IVec S16 32) (k0_t1 : Fin (k0_t1_loop i).trips) (v691 : IVec S16 32) (v695 : IVec S16 32) (v697 : IVec S16 32) : Prop :=
  (∀ a x, ((![v15, v691, v695, v697] : Fin 4 → IVec S16 32) a x).toNat < S1x6x16x16.size a)
theorem k0_idx23_inb : ∀ (i : grid0.Coords) (v15 : IVec S16 32) (k0_t1 : Fin (k0_t1_loop i).trips) (v691 : IVec S16 32) (v695 : IVec S16 32) (v697 : IVec S16 32) (k0_hw23 : k0_chk23 i v15 k0_t1 v691 v695 v697), ∀ a x, ((![v15, v691, v695, v697] : Fin 4 → IVec S16 32) a x).toNat < S1x6x16x16.size a := fun i v15 k0_t1 v691 v695 v697 k0_hw23 => k0_hw23
def k0_off8 (i : grid0.Coords) (k0_t1 : Fin (k0_t1_loop i).trips) : Fin 1 → Nat :=
  let c16_i32_94 : BitVec 32 := 16#32
  let c0_i32_29 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c144_i32 : BitVec 32 := 144#32
  let v10 : BitVec 32 := Scalar.muli v1 c144_i32
  let v71 : BitVec 32 := Scalar.maxsi c0_i32_29 v10
  let c16_i32_52 : BitVec 32 := 16#32
  let c0_i32_40 : BitVec 32 := 0#32
  let c1_i32_42 : BitVec 32 := 1#32
  let arg25 : BitVec 32 := Scf.iv c0_i32_40 c1_i32_42 k0_t1
  let v105 : BitVec 32 := Scalar.muli c16_i32_52 arg25
  let v106 : BitVec 32 := Scalar.addi v71 v105
  let v109 : BitVec 32 := Scalar.subi v106 v10
  let c6_i32_93 : BitVec 32 := 6#32
  let v778 : BitVec 32 := Scalar.addi v109 c6_i32_93
  let v779 : BitVec 32 := Scalar.muli c16_i32_94 v778
  let v780 : Index := Scalar.indexCast v779
  ![v780.toNat]

def k0_chk24 (i : grid0.Coords) (v15 : IVec S16 32) (k0_t1 : Fin (k0_t1_loop i).trips) (v787 : IVec S16 32) (v791 : IVec S16 32) (v793 : IVec S16 32) : Prop :=
  (∀ a x, ((![v15, v787, v791, v793] : Fin 4 → IVec S16 32) a x).toNat < S1x6x16x16.size a)
theorem k0_idx24_inb : ∀ (i : grid0.Coords) (v15 : IVec S16 32) (k0_t1 : Fin (k0_t1_loop i).trips) (v787 : IVec S16 32) (v791 : IVec S16 32) (v793 : IVec S16 32) (k0_hw24 : k0_chk24 i v15 k0_t1 v787 v791 v793), ∀ a x, ((![v15, v787, v791, v793] : Fin 4 → IVec S16 32) a x).toNat < S1x6x16x16.size a := fun i v15 k0_t1 v787 v791 v793 k0_hw24 => k0_hw24
def k0_off9 (i : grid0.Coords) (k0_t1 : Fin (k0_t1_loop i).trips) : Fin 1 → Nat :=
  let c16_i32_100 : BitVec 32 := 16#32
  let c0_i32_29 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c144_i32 : BitVec 32 := 144#32
  let v10 : BitVec 32 := Scalar.muli v1 c144_i32
  let v71 : BitVec 32 := Scalar.maxsi c0_i32_29 v10
  let c16_i32_52 : BitVec 32 := 16#32
  let c0_i32_40 : BitVec 32 := 0#32
  let c1_i32_42 : BitVec 32 := 1#32
  let arg25 : BitVec 32 := Scf.iv c0_i32_40 c1_i32_42 k0_t1
  let v105 : BitVec 32 := Scalar.muli c16_i32_52 arg25
  let v106 : BitVec 32 := Scalar.addi v71 v105
  let v109 : BitVec 32 := Scalar.subi v106 v10
  let c7_i32_99 : BitVec 32 := 7#32
  let v874 : BitVec 32 := Scalar.addi v109 c7_i32_99
  let v875 : BitVec 32 := Scalar.muli c16_i32_100 v874
  let v876 : Index := Scalar.indexCast v875
  ![v876.toNat]

def k0_chk25 (i : grid0.Coords) (v15 : IVec S16 32) (k0_t1 : Fin (k0_t1_loop i).trips) (v883 : IVec S16 32) (v887 : IVec S16 32) (v889 : IVec S16 32) : Prop :=
  (∀ a x, ((![v15, v883, v887, v889] : Fin 4 → IVec S16 32) a x).toNat < S1x6x16x16.size a)
theorem k0_idx25_inb : ∀ (i : grid0.Coords) (v15 : IVec S16 32) (k0_t1 : Fin (k0_t1_loop i).trips) (v883 : IVec S16 32) (v887 : IVec S16 32) (v889 : IVec S16 32) (k0_hw25 : k0_chk25 i v15 k0_t1 v883 v887 v889), ∀ a x, ((![v15, v883, v887, v889] : Fin 4 → IVec S16 32) a x).toNat < S1x6x16x16.size a := fun i v15 k0_t1 v883 v887 v889 k0_hw25 => k0_hw25
def k0_off10 (i : grid0.Coords) (k0_t1 : Fin (k0_t1_loop i).trips) : Fin 1 → Nat :=
  let c16_i32_106 : BitVec 32 := 16#32
  let c0_i32_29 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c144_i32 : BitVec 32 := 144#32
  let v10 : BitVec 32 := Scalar.muli v1 c144_i32
  let v71 : BitVec 32 := Scalar.maxsi c0_i32_29 v10
  let c16_i32_52 : BitVec 32 := 16#32
  let c0_i32_40 : BitVec 32 := 0#32
  let c1_i32_42 : BitVec 32 := 1#32
  let arg25 : BitVec 32 := Scf.iv c0_i32_40 c1_i32_42 k0_t1
  let v105 : BitVec 32 := Scalar.muli c16_i32_52 arg25
  let v106 : BitVec 32 := Scalar.addi v71 v105
  let v109 : BitVec 32 := Scalar.subi v106 v10
  let c8_i32_105 : BitVec 32 := 8#32
  let v970 : BitVec 32 := Scalar.addi v109 c8_i32_105
  let v971 : BitVec 32 := Scalar.muli c16_i32_106 v970
  let v972 : Index := Scalar.indexCast v971
  ![v972.toNat]

def k0_chk26 (i : grid0.Coords) (v15 : IVec S16 32) (k0_t1 : Fin (k0_t1_loop i).trips) (v979 : IVec S16 32) (v983 : IVec S16 32) (v985 : IVec S16 32) : Prop :=
  (∀ a x, ((![v15, v979, v983, v985] : Fin 4 → IVec S16 32) a x).toNat < S1x6x16x16.size a)
theorem k0_idx26_inb : ∀ (i : grid0.Coords) (v15 : IVec S16 32) (k0_t1 : Fin (k0_t1_loop i).trips) (v979 : IVec S16 32) (v983 : IVec S16 32) (v985 : IVec S16 32) (k0_hw26 : k0_chk26 i v15 k0_t1 v979 v983 v985), ∀ a x, ((![v15, v979, v983, v985] : Fin 4 → IVec S16 32) a x).toNat < S1x6x16x16.size a := fun i v15 k0_t1 v979 v983 v985 k0_hw26 => k0_hw26
def k0_off11 (i : grid0.Coords) (k0_t1 : Fin (k0_t1_loop i).trips) : Fin 1 → Nat :=
  let c16_i32_112 : BitVec 32 := 16#32
  let c0_i32_29 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c144_i32 : BitVec 32 := 144#32
  let v10 : BitVec 32 := Scalar.muli v1 c144_i32
  let v71 : BitVec 32 := Scalar.maxsi c0_i32_29 v10
  let c16_i32_52 : BitVec 32 := 16#32
  let c0_i32_40 : BitVec 32 := 0#32
  let c1_i32_42 : BitVec 32 := 1#32
  let arg25 : BitVec 32 := Scf.iv c0_i32_40 c1_i32_42 k0_t1
  let v105 : BitVec 32 := Scalar.muli c16_i32_52 arg25
  let v106 : BitVec 32 := Scalar.addi v71 v105
  let v109 : BitVec 32 := Scalar.subi v106 v10
  let c9_i32_111 : BitVec 32 := 9#32
  let v1066 : BitVec 32 := Scalar.addi v109 c9_i32_111
  let v1067 : BitVec 32 := Scalar.muli c16_i32_112 v1066
  let v1068 : Index := Scalar.indexCast v1067
  ![v1068.toNat]

def k0_chk27 (i : grid0.Coords) (v15 : IVec S16 32) (k0_t1 : Fin (k0_t1_loop i).trips) (v1075 : IVec S16 32) (v1079 : IVec S16 32) (v1081 : IVec S16 32) : Prop :=
  (∀ a x, ((![v15, v1075, v1079, v1081] : Fin 4 → IVec S16 32) a x).toNat < S1x6x16x16.size a)
theorem k0_idx27_inb : ∀ (i : grid0.Coords) (v15 : IVec S16 32) (k0_t1 : Fin (k0_t1_loop i).trips) (v1075 : IVec S16 32) (v1079 : IVec S16 32) (v1081 : IVec S16 32) (k0_hw27 : k0_chk27 i v15 k0_t1 v1075 v1079 v1081), ∀ a x, ((![v15, v1075, v1079, v1081] : Fin 4 → IVec S16 32) a x).toNat < S1x6x16x16.size a := fun i v15 k0_t1 v1075 v1079 v1081 k0_hw27 => k0_hw27
def k0_off12 (i : grid0.Coords) (k0_t1 : Fin (k0_t1_loop i).trips) : Fin 1 → Nat :=
  let c16_i32_118 : BitVec 32 := 16#32
  let c0_i32_29 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c144_i32 : BitVec 32 := 144#32
  let v10 : BitVec 32 := Scalar.muli v1 c144_i32
  let v71 : BitVec 32 := Scalar.maxsi c0_i32_29 v10
  let c16_i32_52 : BitVec 32 := 16#32
  let c0_i32_40 : BitVec 32 := 0#32
  let c1_i32_42 : BitVec 32 := 1#32
  let arg25 : BitVec 32 := Scf.iv c0_i32_40 c1_i32_42 k0_t1
  let v105 : BitVec 32 := Scalar.muli c16_i32_52 arg25
  let v106 : BitVec 32 := Scalar.addi v71 v105
  let v109 : BitVec 32 := Scalar.subi v106 v10
  let c10_i32_117 : BitVec 32 := 10#32
  let v1162 : BitVec 32 := Scalar.addi v109 c10_i32_117
  let v1163 : BitVec 32 := Scalar.muli c16_i32_118 v1162
  let v1164 : Index := Scalar.indexCast v1163
  ![v1164.toNat]

def k0_chk28 (i : grid0.Coords) (v15 : IVec S16 32) (k0_t1 : Fin (k0_t1_loop i).trips) (v1171 : IVec S16 32) (v1175 : IVec S16 32) (v1177 : IVec S16 32) : Prop :=
  (∀ a x, ((![v15, v1171, v1175, v1177] : Fin 4 → IVec S16 32) a x).toNat < S1x6x16x16.size a)
theorem k0_idx28_inb : ∀ (i : grid0.Coords) (v15 : IVec S16 32) (k0_t1 : Fin (k0_t1_loop i).trips) (v1171 : IVec S16 32) (v1175 : IVec S16 32) (v1177 : IVec S16 32) (k0_hw28 : k0_chk28 i v15 k0_t1 v1171 v1175 v1177), ∀ a x, ((![v15, v1171, v1175, v1177] : Fin 4 → IVec S16 32) a x).toNat < S1x6x16x16.size a := fun i v15 k0_t1 v1171 v1175 v1177 k0_hw28 => k0_hw28
def k0_off13 (i : grid0.Coords) (k0_t1 : Fin (k0_t1_loop i).trips) : Fin 1 → Nat :=
  let c16_i32_124 : BitVec 32 := 16#32
  let c0_i32_29 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c144_i32 : BitVec 32 := 144#32
  let v10 : BitVec 32 := Scalar.muli v1 c144_i32
  let v71 : BitVec 32 := Scalar.maxsi c0_i32_29 v10
  let c16_i32_52 : BitVec 32 := 16#32
  let c0_i32_40 : BitVec 32 := 0#32
  let c1_i32_42 : BitVec 32 := 1#32
  let arg25 : BitVec 32 := Scf.iv c0_i32_40 c1_i32_42 k0_t1
  let v105 : BitVec 32 := Scalar.muli c16_i32_52 arg25
  let v106 : BitVec 32 := Scalar.addi v71 v105
  let v109 : BitVec 32 := Scalar.subi v106 v10
  let c11_i32_123 : BitVec 32 := 11#32
  let v1258 : BitVec 32 := Scalar.addi v109 c11_i32_123
  let v1259 : BitVec 32 := Scalar.muli c16_i32_124 v1258
  let v1260 : Index := Scalar.indexCast v1259
  ![v1260.toNat]

def k0_chk29 (i : grid0.Coords) (v15 : IVec S16 32) (k0_t1 : Fin (k0_t1_loop i).trips) (v1267 : IVec S16 32) (v1271 : IVec S16 32) (v1273 : IVec S16 32) : Prop :=
  (∀ a x, ((![v15, v1267, v1271, v1273] : Fin 4 → IVec S16 32) a x).toNat < S1x6x16x16.size a)
theorem k0_idx29_inb : ∀ (i : grid0.Coords) (v15 : IVec S16 32) (k0_t1 : Fin (k0_t1_loop i).trips) (v1267 : IVec S16 32) (v1271 : IVec S16 32) (v1273 : IVec S16 32) (k0_hw29 : k0_chk29 i v15 k0_t1 v1267 v1271 v1273), ∀ a x, ((![v15, v1267, v1271, v1273] : Fin 4 → IVec S16 32) a x).toNat < S1x6x16x16.size a := fun i v15 k0_t1 v1267 v1271 v1273 k0_hw29 => k0_hw29
def k0_off14 (i : grid0.Coords) (k0_t1 : Fin (k0_t1_loop i).trips) : Fin 1 → Nat :=
  let c16_i32_130 : BitVec 32 := 16#32
  let c0_i32_29 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c144_i32 : BitVec 32 := 144#32
  let v10 : BitVec 32 := Scalar.muli v1 c144_i32
  let v71 : BitVec 32 := Scalar.maxsi c0_i32_29 v10
  let c16_i32_52 : BitVec 32 := 16#32
  let c0_i32_40 : BitVec 32 := 0#32
  let c1_i32_42 : BitVec 32 := 1#32
  let arg25 : BitVec 32 := Scf.iv c0_i32_40 c1_i32_42 k0_t1
  let v105 : BitVec 32 := Scalar.muli c16_i32_52 arg25
  let v106 : BitVec 32 := Scalar.addi v71 v105
  let v109 : BitVec 32 := Scalar.subi v106 v10
  let c12_i32_129 : BitVec 32 := 12#32
  let v1354 : BitVec 32 := Scalar.addi v109 c12_i32_129
  let v1355 : BitVec 32 := Scalar.muli c16_i32_130 v1354
  let v1356 : Index := Scalar.indexCast v1355
  ![v1356.toNat]

def k0_chk30 (i : grid0.Coords) (v15 : IVec S16 32) (k0_t1 : Fin (k0_t1_loop i).trips) (v1363 : IVec S16 32) (v1367 : IVec S16 32) (v1369 : IVec S16 32) : Prop :=
  (∀ a x, ((![v15, v1363, v1367, v1369] : Fin 4 → IVec S16 32) a x).toNat < S1x6x16x16.size a)
theorem k0_idx30_inb : ∀ (i : grid0.Coords) (v15 : IVec S16 32) (k0_t1 : Fin (k0_t1_loop i).trips) (v1363 : IVec S16 32) (v1367 : IVec S16 32) (v1369 : IVec S16 32) (k0_hw30 : k0_chk30 i v15 k0_t1 v1363 v1367 v1369), ∀ a x, ((![v15, v1363, v1367, v1369] : Fin 4 → IVec S16 32) a x).toNat < S1x6x16x16.size a := fun i v15 k0_t1 v1363 v1367 v1369 k0_hw30 => k0_hw30
def k0_off15 (i : grid0.Coords) (k0_t1 : Fin (k0_t1_loop i).trips) : Fin 1 → Nat :=
  let c16_i32_136 : BitVec 32 := 16#32
  let c0_i32_29 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c144_i32 : BitVec 32 := 144#32
  let v10 : BitVec 32 := Scalar.muli v1 c144_i32
  let v71 : BitVec 32 := Scalar.maxsi c0_i32_29 v10
  let c16_i32_52 : BitVec 32 := 16#32
  let c0_i32_40 : BitVec 32 := 0#32
  let c1_i32_42 : BitVec 32 := 1#32
  let arg25 : BitVec 32 := Scf.iv c0_i32_40 c1_i32_42 k0_t1
  let v105 : BitVec 32 := Scalar.muli c16_i32_52 arg25
  let v106 : BitVec 32 := Scalar.addi v71 v105
  let v109 : BitVec 32 := Scalar.subi v106 v10
  let c13_i32_135 : BitVec 32 := 13#32
  let v1450 : BitVec 32 := Scalar.addi v109 c13_i32_135
  let v1451 : BitVec 32 := Scalar.muli c16_i32_136 v1450
  let v1452 : Index := Scalar.indexCast v1451
  ![v1452.toNat]

def k0_chk31 (i : grid0.Coords) (v15 : IVec S16 32) (k0_t1 : Fin (k0_t1_loop i).trips) (v1459 : IVec S16 32) (v1463 : IVec S16 32) (v1465 : IVec S16 32) : Prop :=
  (∀ a x, ((![v15, v1459, v1463, v1465] : Fin 4 → IVec S16 32) a x).toNat < S1x6x16x16.size a)
theorem k0_idx31_inb : ∀ (i : grid0.Coords) (v15 : IVec S16 32) (k0_t1 : Fin (k0_t1_loop i).trips) (v1459 : IVec S16 32) (v1463 : IVec S16 32) (v1465 : IVec S16 32) (k0_hw31 : k0_chk31 i v15 k0_t1 v1459 v1463 v1465), ∀ a x, ((![v15, v1459, v1463, v1465] : Fin 4 → IVec S16 32) a x).toNat < S1x6x16x16.size a := fun i v15 k0_t1 v1459 v1463 v1465 k0_hw31 => k0_hw31
def k0_off16 (i : grid0.Coords) (k0_t1 : Fin (k0_t1_loop i).trips) : Fin 1 → Nat :=
  let c16_i32_142 : BitVec 32 := 16#32
  let c0_i32_29 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c144_i32 : BitVec 32 := 144#32
  let v10 : BitVec 32 := Scalar.muli v1 c144_i32
  let v71 : BitVec 32 := Scalar.maxsi c0_i32_29 v10
  let c16_i32_52 : BitVec 32 := 16#32
  let c0_i32_40 : BitVec 32 := 0#32
  let c1_i32_42 : BitVec 32 := 1#32
  let arg25 : BitVec 32 := Scf.iv c0_i32_40 c1_i32_42 k0_t1
  let v105 : BitVec 32 := Scalar.muli c16_i32_52 arg25
  let v106 : BitVec 32 := Scalar.addi v71 v105
  let v109 : BitVec 32 := Scalar.subi v106 v10
  let c14_i32_141 : BitVec 32 := 14#32
  let v1546 : BitVec 32 := Scalar.addi v109 c14_i32_141
  let v1547 : BitVec 32 := Scalar.muli c16_i32_142 v1546
  let v1548 : Index := Scalar.indexCast v1547
  ![v1548.toNat]

def k0_chk32 (i : grid0.Coords) (v15 : IVec S16 32) (k0_t1 : Fin (k0_t1_loop i).trips) (v1555 : IVec S16 32) (v1559 : IVec S16 32) (v1561 : IVec S16 32) : Prop :=
  (∀ a x, ((![v15, v1555, v1559, v1561] : Fin 4 → IVec S16 32) a x).toNat < S1x6x16x16.size a)
theorem k0_idx32_inb : ∀ (i : grid0.Coords) (v15 : IVec S16 32) (k0_t1 : Fin (k0_t1_loop i).trips) (v1555 : IVec S16 32) (v1559 : IVec S16 32) (v1561 : IVec S16 32) (k0_hw32 : k0_chk32 i v15 k0_t1 v1555 v1559 v1561), ∀ a x, ((![v15, v1555, v1559, v1561] : Fin 4 → IVec S16 32) a x).toNat < S1x6x16x16.size a := fun i v15 k0_t1 v1555 v1559 v1561 k0_hw32 => k0_hw32
def k0_off17 (i : grid0.Coords) (k0_t1 : Fin (k0_t1_loop i).trips) : Fin 1 → Nat :=
  let c16_i32_148 : BitVec 32 := 16#32
  let c0_i32_29 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c144_i32 : BitVec 32 := 144#32
  let v10 : BitVec 32 := Scalar.muli v1 c144_i32
  let v71 : BitVec 32 := Scalar.maxsi c0_i32_29 v10
  let c16_i32_52 : BitVec 32 := 16#32
  let c0_i32_40 : BitVec 32 := 0#32
  let c1_i32_42 : BitVec 32 := 1#32
  let arg25 : BitVec 32 := Scf.iv c0_i32_40 c1_i32_42 k0_t1
  let v105 : BitVec 32 := Scalar.muli c16_i32_52 arg25
  let v106 : BitVec 32 := Scalar.addi v71 v105
  let v109 : BitVec 32 := Scalar.subi v106 v10
  let c15_i32_147 : BitVec 32 := 15#32
  let v1642 : BitVec 32 := Scalar.addi v109 c15_i32_147
  let v1643 : BitVec 32 := Scalar.muli c16_i32_148 v1642
  let v1644 : Index := Scalar.indexCast v1643
  ![v1644.toNat]
@[reducible] def k0_t2_loop (i : grid0.Coords) : Scf.Loop 32 :=
  let c0_i32_40 : BitVec 32 := 0#32
  let c0_i32_38 : BitVec 32 := 0#32
  let c96_i32 : BitVec 32 := 96#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c144_i32 : BitVec 32 := 144#32
  let v10 : BitVec 32 := Scalar.muli v1 c144_i32
  let c144_i32_23 : BitVec 32 := 144#32
  let v11 : BitVec 32 := Scalar.addi v10 c144_i32_23
  let c4532_i32 : BitVec 32 := 4532#32
  let v12 : BitVec 32 := Scalar.minsi v11 c4532_i32
  let v72 : BitVec 32 := Scalar.minsi c96_i32 v12
  let c0_i32_29 : BitVec 32 := 0#32
  let v71 : BitVec 32 := Scalar.maxsi c0_i32_29 v10
  let v73 : BitVec 32 := Scalar.subi v72 v71
  let c15_i32_30 : BitVec 32 := 15#32
  let v74 : BitVec 32 := Scalar.addi v73 c15_i32_30
  let c0_i32_32 : BitVec 32 := 0#32
  let v76 : BitVec 1 := Scalar.cmpi .sgt v74 c0_i32_32
  let v77 : BitVec 32 := Scalar.extui v76
  let c0_i32_33 : BitVec 32 := 0#32
  let v78 : BitVec 1 := Scalar.cmpi .slt v74 c0_i32_33
  let v79 : BitVec 32 := Scalar.extui v78
  let v80 : BitVec 32 := Scalar.subi v77 v79
  let c16_i32_31 : BitVec 32 := 16#32
  let c0_i32_34 : BitVec 32 := 0#32
  let v81 : BitVec 1 := Scalar.cmpi .sgt c16_i32_31 c0_i32_34
  let v82 : BitVec 32 := Scalar.extui v81
  let c0_i32_35 : BitVec 32 := 0#32
  let v83 : BitVec 1 := Scalar.cmpi .slt c16_i32_31 c0_i32_35
  let v84 : BitVec 32 := Scalar.extui v83
  let v85 : BitVec 32 := Scalar.subi v82 v84
  let v86 : BitVec 1 := Scalar.cmpi .ne v80 v85
  let v87 : BitVec 32 := Scalar.remsi v74 c16_i32_31
  let c0_i32_36 : BitVec 32 := 0#32
  let v88 : BitVec 1 := Scalar.cmpi .ne v87 c0_i32_36
  let v89 : BitVec 1 := Scalar.andi v86 v88
  let v75 : BitVec 32 := Scalar.divsi v74 c16_i32_31
  let c1_i32_37 : BitVec 32 := 1#32
  let v90 : BitVec 32 := Scalar.subi v75 c1_i32_37
  let v91 : BitVec 32 := Scalar.select v89 v90 v75
  let v92 : BitVec 32 := Scalar.maxsi c0_i32_38 v91
  let v93 : BitVec 32 := Scalar.subi v92 c0_i32_40
  let c1_i32_41 : BitVec 32 := 1#32
  let v95 : BitVec 32 := Scalar.divsi v93 c1_i32_41
  let v96 : BitVec 32 := Scalar.muli v95 c1_i32_41
  let v97 : BitVec 32 := Scalar.addi c0_i32_40 v96
  let v94 : BitVec 32 := Scalar.addi c0_i32_40 v93
  let c1_i32_43 : BitVec 32 := 1#32
  ⟨v97, v94, c1_i32_43⟩
def k0_off18 (i : grid0.Coords) (k0_t2 : Fin (k0_t2_loop i).trips) : Fin 1 → Nat :=
  let c0_i32_29 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c144_i32 : BitVec 32 := 144#32
  let v10 : BitVec 32 := Scalar.muli v1 c144_i32
  let v71 : BitVec 32 := Scalar.maxsi c0_i32_29 v10
  let c16_i32_52 : BitVec 32 := 16#32
  let c0_i32_40 : BitVec 32 := 0#32
  let c0_i32_38 : BitVec 32 := 0#32
  let c96_i32 : BitVec 32 := 96#32
  let c144_i32_23 : BitVec 32 := 144#32
  let v11 : BitVec 32 := Scalar.addi v10 c144_i32_23
  let c4532_i32 : BitVec 32 := 4532#32
  let v12 : BitVec 32 := Scalar.minsi v11 c4532_i32
  let v72 : BitVec 32 := Scalar.minsi c96_i32 v12
  let v73 : BitVec 32 := Scalar.subi v72 v71
  let c15_i32_30 : BitVec 32 := 15#32
  let v74 : BitVec 32 := Scalar.addi v73 c15_i32_30
  let c0_i32_32 : BitVec 32 := 0#32
  let v76 : BitVec 1 := Scalar.cmpi .sgt v74 c0_i32_32
  let v77 : BitVec 32 := Scalar.extui v76
  let c0_i32_33 : BitVec 32 := 0#32
  let v78 : BitVec 1 := Scalar.cmpi .slt v74 c0_i32_33
  let v79 : BitVec 32 := Scalar.extui v78
  let v80 : BitVec 32 := Scalar.subi v77 v79
  let c16_i32_31 : BitVec 32 := 16#32
  let c0_i32_34 : BitVec 32 := 0#32
  let v81 : BitVec 1 := Scalar.cmpi .sgt c16_i32_31 c0_i32_34
  let v82 : BitVec 32 := Scalar.extui v81
  let c0_i32_35 : BitVec 32 := 0#32
  let v83 : BitVec 1 := Scalar.cmpi .slt c16_i32_31 c0_i32_35
  let v84 : BitVec 32 := Scalar.extui v83
  let v85 : BitVec 32 := Scalar.subi v82 v84
  let v86 : BitVec 1 := Scalar.cmpi .ne v80 v85
  let v87 : BitVec 32 := Scalar.remsi v74 c16_i32_31
  let c0_i32_36 : BitVec 32 := 0#32
  let v88 : BitVec 1 := Scalar.cmpi .ne v87 c0_i32_36
  let v89 : BitVec 1 := Scalar.andi v86 v88
  let v75 : BitVec 32 := Scalar.divsi v74 c16_i32_31
  let c1_i32_37 : BitVec 32 := 1#32
  let v90 : BitVec 32 := Scalar.subi v75 c1_i32_37
  let v91 : BitVec 32 := Scalar.select v89 v90 v75
  let v92 : BitVec 32 := Scalar.maxsi c0_i32_38 v91
  let v93 : BitVec 32 := Scalar.subi v92 c0_i32_40
  let c1_i32_41 : BitVec 32 := 1#32
  let v95 : BitVec 32 := Scalar.divsi v93 c1_i32_41
  let v96 : BitVec 32 := Scalar.muli v95 c1_i32_41
  let v97 : BitVec 32 := Scalar.addi c0_i32_40 v96
  let c1_i32_43 : BitVec 32 := 1#32
  let arg25 : BitVec 32 := Scf.iv v97 c1_i32_43 k0_t2
  let v105 : BitVec 32 := Scalar.muli c16_i32_52 arg25
  let v106 : BitVec 32 := Scalar.addi v71 v105
  let v107 : Index := Scalar.indexCast v106
  ![v107.toNat]

def k0_chk33 (i : grid0.Coords) (v15 : IVec S16 32) (k0_t2 : Fin (k0_t2_loop i).trips) (v115 : IVec S16 32) (v119 : IVec S16 32) (v121 : IVec S16 32) : Prop :=
  (∀ a x, ((![v15, v115, v119, v121] : Fin 4 → IVec S16 32) a x).toNat < S1x6x16x16.size a)
theorem k0_idx33_inb : ∀ (i : grid0.Coords) (v15 : IVec S16 32) (k0_t2 : Fin (k0_t2_loop i).trips) (v115 : IVec S16 32) (v119 : IVec S16 32) (v121 : IVec S16 32) (k0_hw33 : k0_chk33 i v15 k0_t2 v115 v119 v121), ∀ a x, ((![v15, v115, v119, v121] : Fin 4 → IVec S16 32) a x).toNat < S1x6x16x16.size a := fun i v15 k0_t2 v115 v119 v121 k0_hw33 => k0_hw33
def k0_off19 (i : grid0.Coords) (k0_t2 : Fin (k0_t2_loop i).trips) : Fin 1 → Nat :=
  let c16_i32_58 : BitVec 32 := 16#32
  let c0_i32_29 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c144_i32 : BitVec 32 := 144#32
  let v10 : BitVec 32 := Scalar.muli v1 c144_i32
  let v71 : BitVec 32 := Scalar.maxsi c0_i32_29 v10
  let c16_i32_52 : BitVec 32 := 16#32
  let c0_i32_40 : BitVec 32 := 0#32
  let c0_i32_38 : BitVec 32 := 0#32
  let c96_i32 : BitVec 32 := 96#32
  let c144_i32_23 : BitVec 32 := 144#32
  let v11 : BitVec 32 := Scalar.addi v10 c144_i32_23
  let c4532_i32 : BitVec 32 := 4532#32
  let v12 : BitVec 32 := Scalar.minsi v11 c4532_i32
  let v72 : BitVec 32 := Scalar.minsi c96_i32 v12
  let v73 : BitVec 32 := Scalar.subi v72 v71
  let c15_i32_30 : BitVec 32 := 15#32
  let v74 : BitVec 32 := Scalar.addi v73 c15_i32_30
  let c0_i32_32 : BitVec 32 := 0#32
  let v76 : BitVec 1 := Scalar.cmpi .sgt v74 c0_i32_32
  let v77 : BitVec 32 := Scalar.extui v76
  let c0_i32_33 : BitVec 32 := 0#32
  let v78 : BitVec 1 := Scalar.cmpi .slt v74 c0_i32_33
  let v79 : BitVec 32 := Scalar.extui v78
  let v80 : BitVec 32 := Scalar.subi v77 v79
  let c16_i32_31 : BitVec 32 := 16#32
  let c0_i32_34 : BitVec 32 := 0#32
  let v81 : BitVec 1 := Scalar.cmpi .sgt c16_i32_31 c0_i32_34
  let v82 : BitVec 32 := Scalar.extui v81
  let c0_i32_35 : BitVec 32 := 0#32
  let v83 : BitVec 1 := Scalar.cmpi .slt c16_i32_31 c0_i32_35
  let v84 : BitVec 32 := Scalar.extui v83
  let v85 : BitVec 32 := Scalar.subi v82 v84
  let v86 : BitVec 1 := Scalar.cmpi .ne v80 v85
  let v87 : BitVec 32 := Scalar.remsi v74 c16_i32_31
  let c0_i32_36 : BitVec 32 := 0#32
  let v88 : BitVec 1 := Scalar.cmpi .ne v87 c0_i32_36
  let v89 : BitVec 1 := Scalar.andi v86 v88
  let v75 : BitVec 32 := Scalar.divsi v74 c16_i32_31
  let c1_i32_37 : BitVec 32 := 1#32
  let v90 : BitVec 32 := Scalar.subi v75 c1_i32_37
  let v91 : BitVec 32 := Scalar.select v89 v90 v75
  let v92 : BitVec 32 := Scalar.maxsi c0_i32_38 v91
  let v93 : BitVec 32 := Scalar.subi v92 c0_i32_40
  let c1_i32_41 : BitVec 32 := 1#32
  let v95 : BitVec 32 := Scalar.divsi v93 c1_i32_41
  let v96 : BitVec 32 := Scalar.muli v95 c1_i32_41
  let v97 : BitVec 32 := Scalar.addi c0_i32_40 v96
  let c1_i32_43 : BitVec 32 := 1#32
  let arg25 : BitVec 32 := Scf.iv v97 c1_i32_43 k0_t2
  let v105 : BitVec 32 := Scalar.muli c16_i32_52 arg25
  let v106 : BitVec 32 := Scalar.addi v71 v105
  let v109 : BitVec 32 := Scalar.subi v106 v10
  let c0_i32_57 : BitVec 32 := 0#32
  let v202 : BitVec 32 := Scalar.addi v109 c0_i32_57
  let v203 : BitVec 32 := Scalar.muli c16_i32_58 v202
  let v204 : Index := Scalar.indexCast v203
  ![v204.toNat]

def k0_chk34 (i : grid0.Coords) (v15 : IVec S16 32) (k0_t2 : Fin (k0_t2_loop i).trips) (v211 : IVec S16 32) (v215 : IVec S16 32) (v217 : IVec S16 32) : Prop :=
  (∀ a x, ((![v15, v211, v215, v217] : Fin 4 → IVec S16 32) a x).toNat < S1x6x16x16.size a)
theorem k0_idx34_inb : ∀ (i : grid0.Coords) (v15 : IVec S16 32) (k0_t2 : Fin (k0_t2_loop i).trips) (v211 : IVec S16 32) (v215 : IVec S16 32) (v217 : IVec S16 32) (k0_hw34 : k0_chk34 i v15 k0_t2 v211 v215 v217), ∀ a x, ((![v15, v211, v215, v217] : Fin 4 → IVec S16 32) a x).toNat < S1x6x16x16.size a := fun i v15 k0_t2 v211 v215 v217 k0_hw34 => k0_hw34
def k0_off20 (i : grid0.Coords) (k0_t2 : Fin (k0_t2_loop i).trips) : Fin 1 → Nat :=
  let c16_i32_64 : BitVec 32 := 16#32
  let c0_i32_29 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c144_i32 : BitVec 32 := 144#32
  let v10 : BitVec 32 := Scalar.muli v1 c144_i32
  let v71 : BitVec 32 := Scalar.maxsi c0_i32_29 v10
  let c16_i32_52 : BitVec 32 := 16#32
  let c0_i32_40 : BitVec 32 := 0#32
  let c0_i32_38 : BitVec 32 := 0#32
  let c96_i32 : BitVec 32 := 96#32
  let c144_i32_23 : BitVec 32 := 144#32
  let v11 : BitVec 32 := Scalar.addi v10 c144_i32_23
  let c4532_i32 : BitVec 32 := 4532#32
  let v12 : BitVec 32 := Scalar.minsi v11 c4532_i32
  let v72 : BitVec 32 := Scalar.minsi c96_i32 v12
  let v73 : BitVec 32 := Scalar.subi v72 v71
  let c15_i32_30 : BitVec 32 := 15#32
  let v74 : BitVec 32 := Scalar.addi v73 c15_i32_30
  let c0_i32_32 : BitVec 32 := 0#32
  let v76 : BitVec 1 := Scalar.cmpi .sgt v74 c0_i32_32
  let v77 : BitVec 32 := Scalar.extui v76
  let c0_i32_33 : BitVec 32 := 0#32
  let v78 : BitVec 1 := Scalar.cmpi .slt v74 c0_i32_33
  let v79 : BitVec 32 := Scalar.extui v78
  let v80 : BitVec 32 := Scalar.subi v77 v79
  let c16_i32_31 : BitVec 32 := 16#32
  let c0_i32_34 : BitVec 32 := 0#32
  let v81 : BitVec 1 := Scalar.cmpi .sgt c16_i32_31 c0_i32_34
  let v82 : BitVec 32 := Scalar.extui v81
  let c0_i32_35 : BitVec 32 := 0#32
  let v83 : BitVec 1 := Scalar.cmpi .slt c16_i32_31 c0_i32_35
  let v84 : BitVec 32 := Scalar.extui v83
  let v85 : BitVec 32 := Scalar.subi v82 v84
  let v86 : BitVec 1 := Scalar.cmpi .ne v80 v85
  let v87 : BitVec 32 := Scalar.remsi v74 c16_i32_31
  let c0_i32_36 : BitVec 32 := 0#32
  let v88 : BitVec 1 := Scalar.cmpi .ne v87 c0_i32_36
  let v89 : BitVec 1 := Scalar.andi v86 v88
  let v75 : BitVec 32 := Scalar.divsi v74 c16_i32_31
  let c1_i32_37 : BitVec 32 := 1#32
  let v90 : BitVec 32 := Scalar.subi v75 c1_i32_37
  let v91 : BitVec 32 := Scalar.select v89 v90 v75
  let v92 : BitVec 32 := Scalar.maxsi c0_i32_38 v91
  let v93 : BitVec 32 := Scalar.subi v92 c0_i32_40
  let c1_i32_41 : BitVec 32 := 1#32
  let v95 : BitVec 32 := Scalar.divsi v93 c1_i32_41
  let v96 : BitVec 32 := Scalar.muli v95 c1_i32_41
  let v97 : BitVec 32 := Scalar.addi c0_i32_40 v96
  let c1_i32_43 : BitVec 32 := 1#32
  let arg25 : BitVec 32 := Scf.iv v97 c1_i32_43 k0_t2
  let v105 : BitVec 32 := Scalar.muli c16_i32_52 arg25
  let v106 : BitVec 32 := Scalar.addi v71 v105
  let v109 : BitVec 32 := Scalar.subi v106 v10
  let c1_i32_63 : BitVec 32 := 1#32
  let v298 : BitVec 32 := Scalar.addi v109 c1_i32_63
  let v299 : BitVec 32 := Scalar.muli c16_i32_64 v298
  let v300 : Index := Scalar.indexCast v299
  ![v300.toNat]

def k0_chk35 (i : grid0.Coords) (v15 : IVec S16 32) (k0_t2 : Fin (k0_t2_loop i).trips) (v307 : IVec S16 32) (v311 : IVec S16 32) (v313 : IVec S16 32) : Prop :=
  (∀ a x, ((![v15, v307, v311, v313] : Fin 4 → IVec S16 32) a x).toNat < S1x6x16x16.size a)
theorem k0_idx35_inb : ∀ (i : grid0.Coords) (v15 : IVec S16 32) (k0_t2 : Fin (k0_t2_loop i).trips) (v307 : IVec S16 32) (v311 : IVec S16 32) (v313 : IVec S16 32) (k0_hw35 : k0_chk35 i v15 k0_t2 v307 v311 v313), ∀ a x, ((![v15, v307, v311, v313] : Fin 4 → IVec S16 32) a x).toNat < S1x6x16x16.size a := fun i v15 k0_t2 v307 v311 v313 k0_hw35 => k0_hw35
def k0_off21 (i : grid0.Coords) (k0_t2 : Fin (k0_t2_loop i).trips) : Fin 1 → Nat :=
  let c16_i32_70 : BitVec 32 := 16#32
  let c0_i32_29 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c144_i32 : BitVec 32 := 144#32
  let v10 : BitVec 32 := Scalar.muli v1 c144_i32
  let v71 : BitVec 32 := Scalar.maxsi c0_i32_29 v10
  let c16_i32_52 : BitVec 32 := 16#32
  let c0_i32_40 : BitVec 32 := 0#32
  let c0_i32_38 : BitVec 32 := 0#32
  let c96_i32 : BitVec 32 := 96#32
  let c144_i32_23 : BitVec 32 := 144#32
  let v11 : BitVec 32 := Scalar.addi v10 c144_i32_23
  let c4532_i32 : BitVec 32 := 4532#32
  let v12 : BitVec 32 := Scalar.minsi v11 c4532_i32
  let v72 : BitVec 32 := Scalar.minsi c96_i32 v12
  let v73 : BitVec 32 := Scalar.subi v72 v71
  let c15_i32_30 : BitVec 32 := 15#32
  let v74 : BitVec 32 := Scalar.addi v73 c15_i32_30
  let c0_i32_32 : BitVec 32 := 0#32
  let v76 : BitVec 1 := Scalar.cmpi .sgt v74 c0_i32_32
  let v77 : BitVec 32 := Scalar.extui v76
  let c0_i32_33 : BitVec 32 := 0#32
  let v78 : BitVec 1 := Scalar.cmpi .slt v74 c0_i32_33
  let v79 : BitVec 32 := Scalar.extui v78
  let v80 : BitVec 32 := Scalar.subi v77 v79
  let c16_i32_31 : BitVec 32 := 16#32
  let c0_i32_34 : BitVec 32 := 0#32
  let v81 : BitVec 1 := Scalar.cmpi .sgt c16_i32_31 c0_i32_34
  let v82 : BitVec 32 := Scalar.extui v81
  let c0_i32_35 : BitVec 32 := 0#32
  let v83 : BitVec 1 := Scalar.cmpi .slt c16_i32_31 c0_i32_35
  let v84 : BitVec 32 := Scalar.extui v83
  let v85 : BitVec 32 := Scalar.subi v82 v84
  let v86 : BitVec 1 := Scalar.cmpi .ne v80 v85
  let v87 : BitVec 32 := Scalar.remsi v74 c16_i32_31
  let c0_i32_36 : BitVec 32 := 0#32
  let v88 : BitVec 1 := Scalar.cmpi .ne v87 c0_i32_36
  let v89 : BitVec 1 := Scalar.andi v86 v88
  let v75 : BitVec 32 := Scalar.divsi v74 c16_i32_31
  let c1_i32_37 : BitVec 32 := 1#32
  let v90 : BitVec 32 := Scalar.subi v75 c1_i32_37
  let v91 : BitVec 32 := Scalar.select v89 v90 v75
  let v92 : BitVec 32 := Scalar.maxsi c0_i32_38 v91
  let v93 : BitVec 32 := Scalar.subi v92 c0_i32_40
  let c1_i32_41 : BitVec 32 := 1#32
  let v95 : BitVec 32 := Scalar.divsi v93 c1_i32_41
  let v96 : BitVec 32 := Scalar.muli v95 c1_i32_41
  let v97 : BitVec 32 := Scalar.addi c0_i32_40 v96
  let c1_i32_43 : BitVec 32 := 1#32
  let arg25 : BitVec 32 := Scf.iv v97 c1_i32_43 k0_t2
  let v105 : BitVec 32 := Scalar.muli c16_i32_52 arg25
  let v106 : BitVec 32 := Scalar.addi v71 v105
  let v109 : BitVec 32 := Scalar.subi v106 v10
  let c2_i32_69 : BitVec 32 := 2#32
  let v394 : BitVec 32 := Scalar.addi v109 c2_i32_69
  let v395 : BitVec 32 := Scalar.muli c16_i32_70 v394
  let v396 : Index := Scalar.indexCast v395
  ![v396.toNat]

def k0_chk36 (i : grid0.Coords) (v15 : IVec S16 32) (k0_t2 : Fin (k0_t2_loop i).trips) (v403 : IVec S16 32) (v407 : IVec S16 32) (v409 : IVec S16 32) : Prop :=
  (∀ a x, ((![v15, v403, v407, v409] : Fin 4 → IVec S16 32) a x).toNat < S1x6x16x16.size a)
theorem k0_idx36_inb : ∀ (i : grid0.Coords) (v15 : IVec S16 32) (k0_t2 : Fin (k0_t2_loop i).trips) (v403 : IVec S16 32) (v407 : IVec S16 32) (v409 : IVec S16 32) (k0_hw36 : k0_chk36 i v15 k0_t2 v403 v407 v409), ∀ a x, ((![v15, v403, v407, v409] : Fin 4 → IVec S16 32) a x).toNat < S1x6x16x16.size a := fun i v15 k0_t2 v403 v407 v409 k0_hw36 => k0_hw36
def k0_off22 (i : grid0.Coords) (k0_t2 : Fin (k0_t2_loop i).trips) : Fin 1 → Nat :=
  let c16_i32_76 : BitVec 32 := 16#32
  let c0_i32_29 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c144_i32 : BitVec 32 := 144#32
  let v10 : BitVec 32 := Scalar.muli v1 c144_i32
  let v71 : BitVec 32 := Scalar.maxsi c0_i32_29 v10
  let c16_i32_52 : BitVec 32 := 16#32
  let c0_i32_40 : BitVec 32 := 0#32
  let c0_i32_38 : BitVec 32 := 0#32
  let c96_i32 : BitVec 32 := 96#32
  let c144_i32_23 : BitVec 32 := 144#32
  let v11 : BitVec 32 := Scalar.addi v10 c144_i32_23
  let c4532_i32 : BitVec 32 := 4532#32
  let v12 : BitVec 32 := Scalar.minsi v11 c4532_i32
  let v72 : BitVec 32 := Scalar.minsi c96_i32 v12
  let v73 : BitVec 32 := Scalar.subi v72 v71
  let c15_i32_30 : BitVec 32 := 15#32
  let v74 : BitVec 32 := Scalar.addi v73 c15_i32_30
  let c0_i32_32 : BitVec 32 := 0#32
  let v76 : BitVec 1 := Scalar.cmpi .sgt v74 c0_i32_32
  let v77 : BitVec 32 := Scalar.extui v76
  let c0_i32_33 : BitVec 32 := 0#32
  let v78 : BitVec 1 := Scalar.cmpi .slt v74 c0_i32_33
  let v79 : BitVec 32 := Scalar.extui v78
  let v80 : BitVec 32 := Scalar.subi v77 v79
  let c16_i32_31 : BitVec 32 := 16#32
  let c0_i32_34 : BitVec 32 := 0#32
  let v81 : BitVec 1 := Scalar.cmpi .sgt c16_i32_31 c0_i32_34
  let v82 : BitVec 32 := Scalar.extui v81
  let c0_i32_35 : BitVec 32 := 0#32
  let v83 : BitVec 1 := Scalar.cmpi .slt c16_i32_31 c0_i32_35
  let v84 : BitVec 32 := Scalar.extui v83
  let v85 : BitVec 32 := Scalar.subi v82 v84
  let v86 : BitVec 1 := Scalar.cmpi .ne v80 v85
  let v87 : BitVec 32 := Scalar.remsi v74 c16_i32_31
  let c0_i32_36 : BitVec 32 := 0#32
  let v88 : BitVec 1 := Scalar.cmpi .ne v87 c0_i32_36
  let v89 : BitVec 1 := Scalar.andi v86 v88
  let v75 : BitVec 32 := Scalar.divsi v74 c16_i32_31
  let c1_i32_37 : BitVec 32 := 1#32
  let v90 : BitVec 32 := Scalar.subi v75 c1_i32_37
  let v91 : BitVec 32 := Scalar.select v89 v90 v75
  let v92 : BitVec 32 := Scalar.maxsi c0_i32_38 v91
  let v93 : BitVec 32 := Scalar.subi v92 c0_i32_40
  let c1_i32_41 : BitVec 32 := 1#32
  let v95 : BitVec 32 := Scalar.divsi v93 c1_i32_41
  let v96 : BitVec 32 := Scalar.muli v95 c1_i32_41
  let v97 : BitVec 32 := Scalar.addi c0_i32_40 v96
  let c1_i32_43 : BitVec 32 := 1#32
  let arg25 : BitVec 32 := Scf.iv v97 c1_i32_43 k0_t2
  let v105 : BitVec 32 := Scalar.muli c16_i32_52 arg25
  let v106 : BitVec 32 := Scalar.addi v71 v105
  let v109 : BitVec 32 := Scalar.subi v106 v10
  let c3_i32_75 : BitVec 32 := 3#32
  let v490 : BitVec 32 := Scalar.addi v109 c3_i32_75
  let v491 : BitVec 32 := Scalar.muli c16_i32_76 v490
  let v492 : Index := Scalar.indexCast v491
  ![v492.toNat]

def k0_chk37 (i : grid0.Coords) (v15 : IVec S16 32) (k0_t2 : Fin (k0_t2_loop i).trips) (v499 : IVec S16 32) (v503 : IVec S16 32) (v505 : IVec S16 32) : Prop :=
  (∀ a x, ((![v15, v499, v503, v505] : Fin 4 → IVec S16 32) a x).toNat < S1x6x16x16.size a)
theorem k0_idx37_inb : ∀ (i : grid0.Coords) (v15 : IVec S16 32) (k0_t2 : Fin (k0_t2_loop i).trips) (v499 : IVec S16 32) (v503 : IVec S16 32) (v505 : IVec S16 32) (k0_hw37 : k0_chk37 i v15 k0_t2 v499 v503 v505), ∀ a x, ((![v15, v499, v503, v505] : Fin 4 → IVec S16 32) a x).toNat < S1x6x16x16.size a := fun i v15 k0_t2 v499 v503 v505 k0_hw37 => k0_hw37
def k0_off23 (i : grid0.Coords) (k0_t2 : Fin (k0_t2_loop i).trips) : Fin 1 → Nat :=
  let c16_i32_82 : BitVec 32 := 16#32
  let c0_i32_29 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c144_i32 : BitVec 32 := 144#32
  let v10 : BitVec 32 := Scalar.muli v1 c144_i32
  let v71 : BitVec 32 := Scalar.maxsi c0_i32_29 v10
  let c16_i32_52 : BitVec 32 := 16#32
  let c0_i32_40 : BitVec 32 := 0#32
  let c0_i32_38 : BitVec 32 := 0#32
  let c96_i32 : BitVec 32 := 96#32
  let c144_i32_23 : BitVec 32 := 144#32
  let v11 : BitVec 32 := Scalar.addi v10 c144_i32_23
  let c4532_i32 : BitVec 32 := 4532#32
  let v12 : BitVec 32 := Scalar.minsi v11 c4532_i32
  let v72 : BitVec 32 := Scalar.minsi c96_i32 v12
  let v73 : BitVec 32 := Scalar.subi v72 v71
  let c15_i32_30 : BitVec 32 := 15#32
  let v74 : BitVec 32 := Scalar.addi v73 c15_i32_30
  let c0_i32_32 : BitVec 32 := 0#32
  let v76 : BitVec 1 := Scalar.cmpi .sgt v74 c0_i32_32
  let v77 : BitVec 32 := Scalar.extui v76
  let c0_i32_33 : BitVec 32 := 0#32
  let v78 : BitVec 1 := Scalar.cmpi .slt v74 c0_i32_33
  let v79 : BitVec 32 := Scalar.extui v78
  let v80 : BitVec 32 := Scalar.subi v77 v79
  let c16_i32_31 : BitVec 32 := 16#32
  let c0_i32_34 : BitVec 32 := 0#32
  let v81 : BitVec 1 := Scalar.cmpi .sgt c16_i32_31 c0_i32_34
  let v82 : BitVec 32 := Scalar.extui v81
  let c0_i32_35 : BitVec 32 := 0#32
  let v83 : BitVec 1 := Scalar.cmpi .slt c16_i32_31 c0_i32_35
  let v84 : BitVec 32 := Scalar.extui v83
  let v85 : BitVec 32 := Scalar.subi v82 v84
  let v86 : BitVec 1 := Scalar.cmpi .ne v80 v85
  let v87 : BitVec 32 := Scalar.remsi v74 c16_i32_31
  let c0_i32_36 : BitVec 32 := 0#32
  let v88 : BitVec 1 := Scalar.cmpi .ne v87 c0_i32_36
  let v89 : BitVec 1 := Scalar.andi v86 v88
  let v75 : BitVec 32 := Scalar.divsi v74 c16_i32_31
  let c1_i32_37 : BitVec 32 := 1#32
  let v90 : BitVec 32 := Scalar.subi v75 c1_i32_37
  let v91 : BitVec 32 := Scalar.select v89 v90 v75
  let v92 : BitVec 32 := Scalar.maxsi c0_i32_38 v91
  let v93 : BitVec 32 := Scalar.subi v92 c0_i32_40
  let c1_i32_41 : BitVec 32 := 1#32
  let v95 : BitVec 32 := Scalar.divsi v93 c1_i32_41
  let v96 : BitVec 32 := Scalar.muli v95 c1_i32_41
  let v97 : BitVec 32 := Scalar.addi c0_i32_40 v96
  let c1_i32_43 : BitVec 32 := 1#32
  let arg25 : BitVec 32 := Scf.iv v97 c1_i32_43 k0_t2
  let v105 : BitVec 32 := Scalar.muli c16_i32_52 arg25
  let v106 : BitVec 32 := Scalar.addi v71 v105
  let v109 : BitVec 32 := Scalar.subi v106 v10
  let c4_i32_81 : BitVec 32 := 4#32
  let v586 : BitVec 32 := Scalar.addi v109 c4_i32_81
  let v587 : BitVec 32 := Scalar.muli c16_i32_82 v586
  let v588 : Index := Scalar.indexCast v587
  ![v588.toNat]

def k0_chk38 (i : grid0.Coords) (v15 : IVec S16 32) (k0_t2 : Fin (k0_t2_loop i).trips) (v595 : IVec S16 32) (v599 : IVec S16 32) (v601 : IVec S16 32) : Prop :=
  (∀ a x, ((![v15, v595, v599, v601] : Fin 4 → IVec S16 32) a x).toNat < S1x6x16x16.size a)
theorem k0_idx38_inb : ∀ (i : grid0.Coords) (v15 : IVec S16 32) (k0_t2 : Fin (k0_t2_loop i).trips) (v595 : IVec S16 32) (v599 : IVec S16 32) (v601 : IVec S16 32) (k0_hw38 : k0_chk38 i v15 k0_t2 v595 v599 v601), ∀ a x, ((![v15, v595, v599, v601] : Fin 4 → IVec S16 32) a x).toNat < S1x6x16x16.size a := fun i v15 k0_t2 v595 v599 v601 k0_hw38 => k0_hw38
def k0_off24 (i : grid0.Coords) (k0_t2 : Fin (k0_t2_loop i).trips) : Fin 1 → Nat :=
  let c16_i32_88 : BitVec 32 := 16#32
  let c0_i32_29 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c144_i32 : BitVec 32 := 144#32
  let v10 : BitVec 32 := Scalar.muli v1 c144_i32
  let v71 : BitVec 32 := Scalar.maxsi c0_i32_29 v10
  let c16_i32_52 : BitVec 32 := 16#32
  let c0_i32_40 : BitVec 32 := 0#32
  let c0_i32_38 : BitVec 32 := 0#32
  let c96_i32 : BitVec 32 := 96#32
  let c144_i32_23 : BitVec 32 := 144#32
  let v11 : BitVec 32 := Scalar.addi v10 c144_i32_23
  let c4532_i32 : BitVec 32 := 4532#32
  let v12 : BitVec 32 := Scalar.minsi v11 c4532_i32
  let v72 : BitVec 32 := Scalar.minsi c96_i32 v12
  let v73 : BitVec 32 := Scalar.subi v72 v71
  let c15_i32_30 : BitVec 32 := 15#32
  let v74 : BitVec 32 := Scalar.addi v73 c15_i32_30
  let c0_i32_32 : BitVec 32 := 0#32
  let v76 : BitVec 1 := Scalar.cmpi .sgt v74 c0_i32_32
  let v77 : BitVec 32 := Scalar.extui v76
  let c0_i32_33 : BitVec 32 := 0#32
  let v78 : BitVec 1 := Scalar.cmpi .slt v74 c0_i32_33
  let v79 : BitVec 32 := Scalar.extui v78
  let v80 : BitVec 32 := Scalar.subi v77 v79
  let c16_i32_31 : BitVec 32 := 16#32
  let c0_i32_34 : BitVec 32 := 0#32
  let v81 : BitVec 1 := Scalar.cmpi .sgt c16_i32_31 c0_i32_34
  let v82 : BitVec 32 := Scalar.extui v81
  let c0_i32_35 : BitVec 32 := 0#32
  let v83 : BitVec 1 := Scalar.cmpi .slt c16_i32_31 c0_i32_35
  let v84 : BitVec 32 := Scalar.extui v83
  let v85 : BitVec 32 := Scalar.subi v82 v84
  let v86 : BitVec 1 := Scalar.cmpi .ne v80 v85
  let v87 : BitVec 32 := Scalar.remsi v74 c16_i32_31
  let c0_i32_36 : BitVec 32 := 0#32
  let v88 : BitVec 1 := Scalar.cmpi .ne v87 c0_i32_36
  let v89 : BitVec 1 := Scalar.andi v86 v88
  let v75 : BitVec 32 := Scalar.divsi v74 c16_i32_31
  let c1_i32_37 : BitVec 32 := 1#32
  let v90 : BitVec 32 := Scalar.subi v75 c1_i32_37
  let v91 : BitVec 32 := Scalar.select v89 v90 v75
  let v92 : BitVec 32 := Scalar.maxsi c0_i32_38 v91
  let v93 : BitVec 32 := Scalar.subi v92 c0_i32_40
  let c1_i32_41 : BitVec 32 := 1#32
  let v95 : BitVec 32 := Scalar.divsi v93 c1_i32_41
  let v96 : BitVec 32 := Scalar.muli v95 c1_i32_41
  let v97 : BitVec 32 := Scalar.addi c0_i32_40 v96
  let c1_i32_43 : BitVec 32 := 1#32
  let arg25 : BitVec 32 := Scf.iv v97 c1_i32_43 k0_t2
  let v105 : BitVec 32 := Scalar.muli c16_i32_52 arg25
  let v106 : BitVec 32 := Scalar.addi v71 v105
  let v109 : BitVec 32 := Scalar.subi v106 v10
  let c5_i32_87 : BitVec 32 := 5#32
  let v682 : BitVec 32 := Scalar.addi v109 c5_i32_87
  let v683 : BitVec 32 := Scalar.muli c16_i32_88 v682
  let v684 : Index := Scalar.indexCast v683
  ![v684.toNat]

def k0_chk39 (i : grid0.Coords) (v15 : IVec S16 32) (k0_t2 : Fin (k0_t2_loop i).trips) (v691 : IVec S16 32) (v695 : IVec S16 32) (v697 : IVec S16 32) : Prop :=
  (∀ a x, ((![v15, v691, v695, v697] : Fin 4 → IVec S16 32) a x).toNat < S1x6x16x16.size a)
theorem k0_idx39_inb : ∀ (i : grid0.Coords) (v15 : IVec S16 32) (k0_t2 : Fin (k0_t2_loop i).trips) (v691 : IVec S16 32) (v695 : IVec S16 32) (v697 : IVec S16 32) (k0_hw39 : k0_chk39 i v15 k0_t2 v691 v695 v697), ∀ a x, ((![v15, v691, v695, v697] : Fin 4 → IVec S16 32) a x).toNat < S1x6x16x16.size a := fun i v15 k0_t2 v691 v695 v697 k0_hw39 => k0_hw39
def k0_off25 (i : grid0.Coords) (k0_t2 : Fin (k0_t2_loop i).trips) : Fin 1 → Nat :=
  let c16_i32_94 : BitVec 32 := 16#32
  let c0_i32_29 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c144_i32 : BitVec 32 := 144#32
  let v10 : BitVec 32 := Scalar.muli v1 c144_i32
  let v71 : BitVec 32 := Scalar.maxsi c0_i32_29 v10
  let c16_i32_52 : BitVec 32 := 16#32
  let c0_i32_40 : BitVec 32 := 0#32
  let c0_i32_38 : BitVec 32 := 0#32
  let c96_i32 : BitVec 32 := 96#32
  let c144_i32_23 : BitVec 32 := 144#32
  let v11 : BitVec 32 := Scalar.addi v10 c144_i32_23
  let c4532_i32 : BitVec 32 := 4532#32
  let v12 : BitVec 32 := Scalar.minsi v11 c4532_i32
  let v72 : BitVec 32 := Scalar.minsi c96_i32 v12
  let v73 : BitVec 32 := Scalar.subi v72 v71
  let c15_i32_30 : BitVec 32 := 15#32
  let v74 : BitVec 32 := Scalar.addi v73 c15_i32_30
  let c0_i32_32 : BitVec 32 := 0#32
  let v76 : BitVec 1 := Scalar.cmpi .sgt v74 c0_i32_32
  let v77 : BitVec 32 := Scalar.extui v76
  let c0_i32_33 : BitVec 32 := 0#32
  let v78 : BitVec 1 := Scalar.cmpi .slt v74 c0_i32_33
  let v79 : BitVec 32 := Scalar.extui v78
  let v80 : BitVec 32 := Scalar.subi v77 v79
  let c16_i32_31 : BitVec 32 := 16#32
  let c0_i32_34 : BitVec 32 := 0#32
  let v81 : BitVec 1 := Scalar.cmpi .sgt c16_i32_31 c0_i32_34
  let v82 : BitVec 32 := Scalar.extui v81
  let c0_i32_35 : BitVec 32 := 0#32
  let v83 : BitVec 1 := Scalar.cmpi .slt c16_i32_31 c0_i32_35
  let v84 : BitVec 32 := Scalar.extui v83
  let v85 : BitVec 32 := Scalar.subi v82 v84
  let v86 : BitVec 1 := Scalar.cmpi .ne v80 v85
  let v87 : BitVec 32 := Scalar.remsi v74 c16_i32_31
  let c0_i32_36 : BitVec 32 := 0#32
  let v88 : BitVec 1 := Scalar.cmpi .ne v87 c0_i32_36
  let v89 : BitVec 1 := Scalar.andi v86 v88
  let v75 : BitVec 32 := Scalar.divsi v74 c16_i32_31
  let c1_i32_37 : BitVec 32 := 1#32
  let v90 : BitVec 32 := Scalar.subi v75 c1_i32_37
  let v91 : BitVec 32 := Scalar.select v89 v90 v75
  let v92 : BitVec 32 := Scalar.maxsi c0_i32_38 v91
  let v93 : BitVec 32 := Scalar.subi v92 c0_i32_40
  let c1_i32_41 : BitVec 32 := 1#32
  let v95 : BitVec 32 := Scalar.divsi v93 c1_i32_41
  let v96 : BitVec 32 := Scalar.muli v95 c1_i32_41
  let v97 : BitVec 32 := Scalar.addi c0_i32_40 v96
  let c1_i32_43 : BitVec 32 := 1#32
  let arg25 : BitVec 32 := Scf.iv v97 c1_i32_43 k0_t2
  let v105 : BitVec 32 := Scalar.muli c16_i32_52 arg25
  let v106 : BitVec 32 := Scalar.addi v71 v105
  let v109 : BitVec 32 := Scalar.subi v106 v10
  let c6_i32_93 : BitVec 32 := 6#32
  let v778 : BitVec 32 := Scalar.addi v109 c6_i32_93
  let v779 : BitVec 32 := Scalar.muli c16_i32_94 v778
  let v780 : Index := Scalar.indexCast v779
  ![v780.toNat]

def k0_chk40 (i : grid0.Coords) (v15 : IVec S16 32) (k0_t2 : Fin (k0_t2_loop i).trips) (v787 : IVec S16 32) (v791 : IVec S16 32) (v793 : IVec S16 32) : Prop :=
  (∀ a x, ((![v15, v787, v791, v793] : Fin 4 → IVec S16 32) a x).toNat < S1x6x16x16.size a)
theorem k0_idx40_inb : ∀ (i : grid0.Coords) (v15 : IVec S16 32) (k0_t2 : Fin (k0_t2_loop i).trips) (v787 : IVec S16 32) (v791 : IVec S16 32) (v793 : IVec S16 32) (k0_hw40 : k0_chk40 i v15 k0_t2 v787 v791 v793), ∀ a x, ((![v15, v787, v791, v793] : Fin 4 → IVec S16 32) a x).toNat < S1x6x16x16.size a := fun i v15 k0_t2 v787 v791 v793 k0_hw40 => k0_hw40
def k0_off26 (i : grid0.Coords) (k0_t2 : Fin (k0_t2_loop i).trips) : Fin 1 → Nat :=
  let c16_i32_100 : BitVec 32 := 16#32
  let c0_i32_29 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c144_i32 : BitVec 32 := 144#32
  let v10 : BitVec 32 := Scalar.muli v1 c144_i32
  let v71 : BitVec 32 := Scalar.maxsi c0_i32_29 v10
  let c16_i32_52 : BitVec 32 := 16#32
  let c0_i32_40 : BitVec 32 := 0#32
  let c0_i32_38 : BitVec 32 := 0#32
  let c96_i32 : BitVec 32 := 96#32
  let c144_i32_23 : BitVec 32 := 144#32
  let v11 : BitVec 32 := Scalar.addi v10 c144_i32_23
  let c4532_i32 : BitVec 32 := 4532#32
  let v12 : BitVec 32 := Scalar.minsi v11 c4532_i32
  let v72 : BitVec 32 := Scalar.minsi c96_i32 v12
  let v73 : BitVec 32 := Scalar.subi v72 v71
  let c15_i32_30 : BitVec 32 := 15#32
  let v74 : BitVec 32 := Scalar.addi v73 c15_i32_30
  let c0_i32_32 : BitVec 32 := 0#32
  let v76 : BitVec 1 := Scalar.cmpi .sgt v74 c0_i32_32
  let v77 : BitVec 32 := Scalar.extui v76
  let c0_i32_33 : BitVec 32 := 0#32
  let v78 : BitVec 1 := Scalar.cmpi .slt v74 c0_i32_33
  let v79 : BitVec 32 := Scalar.extui v78
  let v80 : BitVec 32 := Scalar.subi v77 v79
  let c16_i32_31 : BitVec 32 := 16#32
  let c0_i32_34 : BitVec 32 := 0#32
  let v81 : BitVec 1 := Scalar.cmpi .sgt c16_i32_31 c0_i32_34
  let v82 : BitVec 32 := Scalar.extui v81
  let c0_i32_35 : BitVec 32 := 0#32
  let v83 : BitVec 1 := Scalar.cmpi .slt c16_i32_31 c0_i32_35
  let v84 : BitVec 32 := Scalar.extui v83
  let v85 : BitVec 32 := Scalar.subi v82 v84
  let v86 : BitVec 1 := Scalar.cmpi .ne v80 v85
  let v87 : BitVec 32 := Scalar.remsi v74 c16_i32_31
  let c0_i32_36 : BitVec 32 := 0#32
  let v88 : BitVec 1 := Scalar.cmpi .ne v87 c0_i32_36
  let v89 : BitVec 1 := Scalar.andi v86 v88
  let v75 : BitVec 32 := Scalar.divsi v74 c16_i32_31
  let c1_i32_37 : BitVec 32 := 1#32
  let v90 : BitVec 32 := Scalar.subi v75 c1_i32_37
  let v91 : BitVec 32 := Scalar.select v89 v90 v75
  let v92 : BitVec 32 := Scalar.maxsi c0_i32_38 v91
  let v93 : BitVec 32 := Scalar.subi v92 c0_i32_40
  let c1_i32_41 : BitVec 32 := 1#32
  let v95 : BitVec 32 := Scalar.divsi v93 c1_i32_41
  let v96 : BitVec 32 := Scalar.muli v95 c1_i32_41
  let v97 : BitVec 32 := Scalar.addi c0_i32_40 v96
  let c1_i32_43 : BitVec 32 := 1#32
  let arg25 : BitVec 32 := Scf.iv v97 c1_i32_43 k0_t2
  let v105 : BitVec 32 := Scalar.muli c16_i32_52 arg25
  let v106 : BitVec 32 := Scalar.addi v71 v105
  let v109 : BitVec 32 := Scalar.subi v106 v10
  let c7_i32_99 : BitVec 32 := 7#32
  let v874 : BitVec 32 := Scalar.addi v109 c7_i32_99
  let v875 : BitVec 32 := Scalar.muli c16_i32_100 v874
  let v876 : Index := Scalar.indexCast v875
  ![v876.toNat]

def k0_chk41 (i : grid0.Coords) (v15 : IVec S16 32) (k0_t2 : Fin (k0_t2_loop i).trips) (v883 : IVec S16 32) (v887 : IVec S16 32) (v889 : IVec S16 32) : Prop :=
  (∀ a x, ((![v15, v883, v887, v889] : Fin 4 → IVec S16 32) a x).toNat < S1x6x16x16.size a)
theorem k0_idx41_inb : ∀ (i : grid0.Coords) (v15 : IVec S16 32) (k0_t2 : Fin (k0_t2_loop i).trips) (v883 : IVec S16 32) (v887 : IVec S16 32) (v889 : IVec S16 32) (k0_hw41 : k0_chk41 i v15 k0_t2 v883 v887 v889), ∀ a x, ((![v15, v883, v887, v889] : Fin 4 → IVec S16 32) a x).toNat < S1x6x16x16.size a := fun i v15 k0_t2 v883 v887 v889 k0_hw41 => k0_hw41
def k0_off27 (i : grid0.Coords) (k0_t2 : Fin (k0_t2_loop i).trips) : Fin 1 → Nat :=
  let c16_i32_106 : BitVec 32 := 16#32
  let c0_i32_29 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c144_i32 : BitVec 32 := 144#32
  let v10 : BitVec 32 := Scalar.muli v1 c144_i32
  let v71 : BitVec 32 := Scalar.maxsi c0_i32_29 v10
  let c16_i32_52 : BitVec 32 := 16#32
  let c0_i32_40 : BitVec 32 := 0#32
  let c0_i32_38 : BitVec 32 := 0#32
  let c96_i32 : BitVec 32 := 96#32
  let c144_i32_23 : BitVec 32 := 144#32
  let v11 : BitVec 32 := Scalar.addi v10 c144_i32_23
  let c4532_i32 : BitVec 32 := 4532#32
  let v12 : BitVec 32 := Scalar.minsi v11 c4532_i32
  let v72 : BitVec 32 := Scalar.minsi c96_i32 v12
  let v73 : BitVec 32 := Scalar.subi v72 v71
  let c15_i32_30 : BitVec 32 := 15#32
  let v74 : BitVec 32 := Scalar.addi v73 c15_i32_30
  let c0_i32_32 : BitVec 32 := 0#32
  let v76 : BitVec 1 := Scalar.cmpi .sgt v74 c0_i32_32
  let v77 : BitVec 32 := Scalar.extui v76
  let c0_i32_33 : BitVec 32 := 0#32
  let v78 : BitVec 1 := Scalar.cmpi .slt v74 c0_i32_33
  let v79 : BitVec 32 := Scalar.extui v78
  let v80 : BitVec 32 := Scalar.subi v77 v79
  let c16_i32_31 : BitVec 32 := 16#32
  let c0_i32_34 : BitVec 32 := 0#32
  let v81 : BitVec 1 := Scalar.cmpi .sgt c16_i32_31 c0_i32_34
  let v82 : BitVec 32 := Scalar.extui v81
  let c0_i32_35 : BitVec 32 := 0#32
  let v83 : BitVec 1 := Scalar.cmpi .slt c16_i32_31 c0_i32_35
  let v84 : BitVec 32 := Scalar.extui v83
  let v85 : BitVec 32 := Scalar.subi v82 v84
  let v86 : BitVec 1 := Scalar.cmpi .ne v80 v85
  let v87 : BitVec 32 := Scalar.remsi v74 c16_i32_31
  let c0_i32_36 : BitVec 32 := 0#32
  let v88 : BitVec 1 := Scalar.cmpi .ne v87 c0_i32_36
  let v89 : BitVec 1 := Scalar.andi v86 v88
  let v75 : BitVec 32 := Scalar.divsi v74 c16_i32_31
  let c1_i32_37 : BitVec 32 := 1#32
  let v90 : BitVec 32 := Scalar.subi v75 c1_i32_37
  let v91 : BitVec 32 := Scalar.select v89 v90 v75
  let v92 : BitVec 32 := Scalar.maxsi c0_i32_38 v91
  let v93 : BitVec 32 := Scalar.subi v92 c0_i32_40
  let c1_i32_41 : BitVec 32 := 1#32
  let v95 : BitVec 32 := Scalar.divsi v93 c1_i32_41
  let v96 : BitVec 32 := Scalar.muli v95 c1_i32_41
  let v97 : BitVec 32 := Scalar.addi c0_i32_40 v96
  let c1_i32_43 : BitVec 32 := 1#32
  let arg25 : BitVec 32 := Scf.iv v97 c1_i32_43 k0_t2
  let v105 : BitVec 32 := Scalar.muli c16_i32_52 arg25
  let v106 : BitVec 32 := Scalar.addi v71 v105
  let v109 : BitVec 32 := Scalar.subi v106 v10
  let c8_i32_105 : BitVec 32 := 8#32
  let v970 : BitVec 32 := Scalar.addi v109 c8_i32_105
  let v971 : BitVec 32 := Scalar.muli c16_i32_106 v970
  let v972 : Index := Scalar.indexCast v971
  ![v972.toNat]

def k0_chk42 (i : grid0.Coords) (v15 : IVec S16 32) (k0_t2 : Fin (k0_t2_loop i).trips) (v979 : IVec S16 32) (v983 : IVec S16 32) (v985 : IVec S16 32) : Prop :=
  (∀ a x, ((![v15, v979, v983, v985] : Fin 4 → IVec S16 32) a x).toNat < S1x6x16x16.size a)
theorem k0_idx42_inb : ∀ (i : grid0.Coords) (v15 : IVec S16 32) (k0_t2 : Fin (k0_t2_loop i).trips) (v979 : IVec S16 32) (v983 : IVec S16 32) (v985 : IVec S16 32) (k0_hw42 : k0_chk42 i v15 k0_t2 v979 v983 v985), ∀ a x, ((![v15, v979, v983, v985] : Fin 4 → IVec S16 32) a x).toNat < S1x6x16x16.size a := fun i v15 k0_t2 v979 v983 v985 k0_hw42 => k0_hw42
def k0_off28 (i : grid0.Coords) (k0_t2 : Fin (k0_t2_loop i).trips) : Fin 1 → Nat :=
  let c16_i32_112 : BitVec 32 := 16#32
  let c0_i32_29 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c144_i32 : BitVec 32 := 144#32
  let v10 : BitVec 32 := Scalar.muli v1 c144_i32
  let v71 : BitVec 32 := Scalar.maxsi c0_i32_29 v10
  let c16_i32_52 : BitVec 32 := 16#32
  let c0_i32_40 : BitVec 32 := 0#32
  let c0_i32_38 : BitVec 32 := 0#32
  let c96_i32 : BitVec 32 := 96#32
  let c144_i32_23 : BitVec 32 := 144#32
  let v11 : BitVec 32 := Scalar.addi v10 c144_i32_23
  let c4532_i32 : BitVec 32 := 4532#32
  let v12 : BitVec 32 := Scalar.minsi v11 c4532_i32
  let v72 : BitVec 32 := Scalar.minsi c96_i32 v12
  let v73 : BitVec 32 := Scalar.subi v72 v71
  let c15_i32_30 : BitVec 32 := 15#32
  let v74 : BitVec 32 := Scalar.addi v73 c15_i32_30
  let c0_i32_32 : BitVec 32 := 0#32
  let v76 : BitVec 1 := Scalar.cmpi .sgt v74 c0_i32_32
  let v77 : BitVec 32 := Scalar.extui v76
  let c0_i32_33 : BitVec 32 := 0#32
  let v78 : BitVec 1 := Scalar.cmpi .slt v74 c0_i32_33
  let v79 : BitVec 32 := Scalar.extui v78
  let v80 : BitVec 32 := Scalar.subi v77 v79
  let c16_i32_31 : BitVec 32 := 16#32
  let c0_i32_34 : BitVec 32 := 0#32
  let v81 : BitVec 1 := Scalar.cmpi .sgt c16_i32_31 c0_i32_34
  let v82 : BitVec 32 := Scalar.extui v81
  let c0_i32_35 : BitVec 32 := 0#32
  let v83 : BitVec 1 := Scalar.cmpi .slt c16_i32_31 c0_i32_35
  let v84 : BitVec 32 := Scalar.extui v83
  let v85 : BitVec 32 := Scalar.subi v82 v84
  let v86 : BitVec 1 := Scalar.cmpi .ne v80 v85
  let v87 : BitVec 32 := Scalar.remsi v74 c16_i32_31
  let c0_i32_36 : BitVec 32 := 0#32
  let v88 : BitVec 1 := Scalar.cmpi .ne v87 c0_i32_36
  let v89 : BitVec 1 := Scalar.andi v86 v88
  let v75 : BitVec 32 := Scalar.divsi v74 c16_i32_31
  let c1_i32_37 : BitVec 32 := 1#32
  let v90 : BitVec 32 := Scalar.subi v75 c1_i32_37
  let v91 : BitVec 32 := Scalar.select v89 v90 v75
  let v92 : BitVec 32 := Scalar.maxsi c0_i32_38 v91
  let v93 : BitVec 32 := Scalar.subi v92 c0_i32_40
  let c1_i32_41 : BitVec 32 := 1#32
  let v95 : BitVec 32 := Scalar.divsi v93 c1_i32_41
  let v96 : BitVec 32 := Scalar.muli v95 c1_i32_41
  let v97 : BitVec 32 := Scalar.addi c0_i32_40 v96
  let c1_i32_43 : BitVec 32 := 1#32
  let arg25 : BitVec 32 := Scf.iv v97 c1_i32_43 k0_t2
  let v105 : BitVec 32 := Scalar.muli c16_i32_52 arg25
  let v106 : BitVec 32 := Scalar.addi v71 v105
  let v109 : BitVec 32 := Scalar.subi v106 v10
  let c9_i32_111 : BitVec 32 := 9#32
  let v1066 : BitVec 32 := Scalar.addi v109 c9_i32_111
  let v1067 : BitVec 32 := Scalar.muli c16_i32_112 v1066
  let v1068 : Index := Scalar.indexCast v1067
  ![v1068.toNat]

def k0_chk43 (i : grid0.Coords) (v15 : IVec S16 32) (k0_t2 : Fin (k0_t2_loop i).trips) (v1075 : IVec S16 32) (v1079 : IVec S16 32) (v1081 : IVec S16 32) : Prop :=
  (∀ a x, ((![v15, v1075, v1079, v1081] : Fin 4 → IVec S16 32) a x).toNat < S1x6x16x16.size a)
theorem k0_idx43_inb : ∀ (i : grid0.Coords) (v15 : IVec S16 32) (k0_t2 : Fin (k0_t2_loop i).trips) (v1075 : IVec S16 32) (v1079 : IVec S16 32) (v1081 : IVec S16 32) (k0_hw43 : k0_chk43 i v15 k0_t2 v1075 v1079 v1081), ∀ a x, ((![v15, v1075, v1079, v1081] : Fin 4 → IVec S16 32) a x).toNat < S1x6x16x16.size a := fun i v15 k0_t2 v1075 v1079 v1081 k0_hw43 => k0_hw43
def k0_off29 (i : grid0.Coords) (k0_t2 : Fin (k0_t2_loop i).trips) : Fin 1 → Nat :=
  let c16_i32_118 : BitVec 32 := 16#32
  let c0_i32_29 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c144_i32 : BitVec 32 := 144#32
  let v10 : BitVec 32 := Scalar.muli v1 c144_i32
  let v71 : BitVec 32 := Scalar.maxsi c0_i32_29 v10
  let c16_i32_52 : BitVec 32 := 16#32
  let c0_i32_40 : BitVec 32 := 0#32
  let c0_i32_38 : BitVec 32 := 0#32
  let c96_i32 : BitVec 32 := 96#32
  let c144_i32_23 : BitVec 32 := 144#32
  let v11 : BitVec 32 := Scalar.addi v10 c144_i32_23
  let c4532_i32 : BitVec 32 := 4532#32
  let v12 : BitVec 32 := Scalar.minsi v11 c4532_i32
  let v72 : BitVec 32 := Scalar.minsi c96_i32 v12
  let v73 : BitVec 32 := Scalar.subi v72 v71
  let c15_i32_30 : BitVec 32 := 15#32
  let v74 : BitVec 32 := Scalar.addi v73 c15_i32_30
  let c0_i32_32 : BitVec 32 := 0#32
  let v76 : BitVec 1 := Scalar.cmpi .sgt v74 c0_i32_32
  let v77 : BitVec 32 := Scalar.extui v76
  let c0_i32_33 : BitVec 32 := 0#32
  let v78 : BitVec 1 := Scalar.cmpi .slt v74 c0_i32_33
  let v79 : BitVec 32 := Scalar.extui v78
  let v80 : BitVec 32 := Scalar.subi v77 v79
  let c16_i32_31 : BitVec 32 := 16#32
  let c0_i32_34 : BitVec 32 := 0#32
  let v81 : BitVec 1 := Scalar.cmpi .sgt c16_i32_31 c0_i32_34
  let v82 : BitVec 32 := Scalar.extui v81
  let c0_i32_35 : BitVec 32 := 0#32
  let v83 : BitVec 1 := Scalar.cmpi .slt c16_i32_31 c0_i32_35
  let v84 : BitVec 32 := Scalar.extui v83
  let v85 : BitVec 32 := Scalar.subi v82 v84
  let v86 : BitVec 1 := Scalar.cmpi .ne v80 v85
  let v87 : BitVec 32 := Scalar.remsi v74 c16_i32_31
  let c0_i32_36 : BitVec 32 := 0#32
  let v88 : BitVec 1 := Scalar.cmpi .ne v87 c0_i32_36
  let v89 : BitVec 1 := Scalar.andi v86 v88
  let v75 : BitVec 32 := Scalar.divsi v74 c16_i32_31
  let c1_i32_37 : BitVec 32 := 1#32
  let v90 : BitVec 32 := Scalar.subi v75 c1_i32_37
  let v91 : BitVec 32 := Scalar.select v89 v90 v75
  let v92 : BitVec 32 := Scalar.maxsi c0_i32_38 v91
  let v93 : BitVec 32 := Scalar.subi v92 c0_i32_40
  let c1_i32_41 : BitVec 32 := 1#32
  let v95 : BitVec 32 := Scalar.divsi v93 c1_i32_41
  let v96 : BitVec 32 := Scalar.muli v95 c1_i32_41
  let v97 : BitVec 32 := Scalar.addi c0_i32_40 v96
  let c1_i32_43 : BitVec 32 := 1#32
  let arg25 : BitVec 32 := Scf.iv v97 c1_i32_43 k0_t2
  let v105 : BitVec 32 := Scalar.muli c16_i32_52 arg25
  let v106 : BitVec 32 := Scalar.addi v71 v105
  let v109 : BitVec 32 := Scalar.subi v106 v10
  let c10_i32_117 : BitVec 32 := 10#32
  let v1162 : BitVec 32 := Scalar.addi v109 c10_i32_117
  let v1163 : BitVec 32 := Scalar.muli c16_i32_118 v1162
  let v1164 : Index := Scalar.indexCast v1163
  ![v1164.toNat]

def k0_chk44 (i : grid0.Coords) (v15 : IVec S16 32) (k0_t2 : Fin (k0_t2_loop i).trips) (v1171 : IVec S16 32) (v1175 : IVec S16 32) (v1177 : IVec S16 32) : Prop :=
  (∀ a x, ((![v15, v1171, v1175, v1177] : Fin 4 → IVec S16 32) a x).toNat < S1x6x16x16.size a)
theorem k0_idx44_inb : ∀ (i : grid0.Coords) (v15 : IVec S16 32) (k0_t2 : Fin (k0_t2_loop i).trips) (v1171 : IVec S16 32) (v1175 : IVec S16 32) (v1177 : IVec S16 32) (k0_hw44 : k0_chk44 i v15 k0_t2 v1171 v1175 v1177), ∀ a x, ((![v15, v1171, v1175, v1177] : Fin 4 → IVec S16 32) a x).toNat < S1x6x16x16.size a := fun i v15 k0_t2 v1171 v1175 v1177 k0_hw44 => k0_hw44
def k0_off30 (i : grid0.Coords) (k0_t2 : Fin (k0_t2_loop i).trips) : Fin 1 → Nat :=
  let c16_i32_124 : BitVec 32 := 16#32
  let c0_i32_29 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c144_i32 : BitVec 32 := 144#32
  let v10 : BitVec 32 := Scalar.muli v1 c144_i32
  let v71 : BitVec 32 := Scalar.maxsi c0_i32_29 v10
  let c16_i32_52 : BitVec 32 := 16#32
  let c0_i32_40 : BitVec 32 := 0#32
  let c0_i32_38 : BitVec 32 := 0#32
  let c96_i32 : BitVec 32 := 96#32
  let c144_i32_23 : BitVec 32 := 144#32
  let v11 : BitVec 32 := Scalar.addi v10 c144_i32_23
  let c4532_i32 : BitVec 32 := 4532#32
  let v12 : BitVec 32 := Scalar.minsi v11 c4532_i32
  let v72 : BitVec 32 := Scalar.minsi c96_i32 v12
  let v73 : BitVec 32 := Scalar.subi v72 v71
  let c15_i32_30 : BitVec 32 := 15#32
  let v74 : BitVec 32 := Scalar.addi v73 c15_i32_30
  let c0_i32_32 : BitVec 32 := 0#32
  let v76 : BitVec 1 := Scalar.cmpi .sgt v74 c0_i32_32
  let v77 : BitVec 32 := Scalar.extui v76
  let c0_i32_33 : BitVec 32 := 0#32
  let v78 : BitVec 1 := Scalar.cmpi .slt v74 c0_i32_33
  let v79 : BitVec 32 := Scalar.extui v78
  let v80 : BitVec 32 := Scalar.subi v77 v79
  let c16_i32_31 : BitVec 32 := 16#32
  let c0_i32_34 : BitVec 32 := 0#32
  let v81 : BitVec 1 := Scalar.cmpi .sgt c16_i32_31 c0_i32_34
  let v82 : BitVec 32 := Scalar.extui v81
  let c0_i32_35 : BitVec 32 := 0#32
  let v83 : BitVec 1 := Scalar.cmpi .slt c16_i32_31 c0_i32_35
  let v84 : BitVec 32 := Scalar.extui v83
  let v85 : BitVec 32 := Scalar.subi v82 v84
  let v86 : BitVec 1 := Scalar.cmpi .ne v80 v85
  let v87 : BitVec 32 := Scalar.remsi v74 c16_i32_31
  let c0_i32_36 : BitVec 32 := 0#32
  let v88 : BitVec 1 := Scalar.cmpi .ne v87 c0_i32_36
  let v89 : BitVec 1 := Scalar.andi v86 v88
  let v75 : BitVec 32 := Scalar.divsi v74 c16_i32_31
  let c1_i32_37 : BitVec 32 := 1#32
  let v90 : BitVec 32 := Scalar.subi v75 c1_i32_37
  let v91 : BitVec 32 := Scalar.select v89 v90 v75
  let v92 : BitVec 32 := Scalar.maxsi c0_i32_38 v91
  let v93 : BitVec 32 := Scalar.subi v92 c0_i32_40
  let c1_i32_41 : BitVec 32 := 1#32
  let v95 : BitVec 32 := Scalar.divsi v93 c1_i32_41
  let v96 : BitVec 32 := Scalar.muli v95 c1_i32_41
  let v97 : BitVec 32 := Scalar.addi c0_i32_40 v96
  let c1_i32_43 : BitVec 32 := 1#32
  let arg25 : BitVec 32 := Scf.iv v97 c1_i32_43 k0_t2
  let v105 : BitVec 32 := Scalar.muli c16_i32_52 arg25
  let v106 : BitVec 32 := Scalar.addi v71 v105
  let v109 : BitVec 32 := Scalar.subi v106 v10
  let c11_i32_123 : BitVec 32 := 11#32
  let v1258 : BitVec 32 := Scalar.addi v109 c11_i32_123
  let v1259 : BitVec 32 := Scalar.muli c16_i32_124 v1258
  let v1260 : Index := Scalar.indexCast v1259
  ![v1260.toNat]

def k0_chk45 (i : grid0.Coords) (v15 : IVec S16 32) (k0_t2 : Fin (k0_t2_loop i).trips) (v1267 : IVec S16 32) (v1271 : IVec S16 32) (v1273 : IVec S16 32) : Prop :=
  (∀ a x, ((![v15, v1267, v1271, v1273] : Fin 4 → IVec S16 32) a x).toNat < S1x6x16x16.size a)
theorem k0_idx45_inb : ∀ (i : grid0.Coords) (v15 : IVec S16 32) (k0_t2 : Fin (k0_t2_loop i).trips) (v1267 : IVec S16 32) (v1271 : IVec S16 32) (v1273 : IVec S16 32) (k0_hw45 : k0_chk45 i v15 k0_t2 v1267 v1271 v1273), ∀ a x, ((![v15, v1267, v1271, v1273] : Fin 4 → IVec S16 32) a x).toNat < S1x6x16x16.size a := fun i v15 k0_t2 v1267 v1271 v1273 k0_hw45 => k0_hw45
def k0_off31 (i : grid0.Coords) (k0_t2 : Fin (k0_t2_loop i).trips) : Fin 1 → Nat :=
  let c16_i32_130 : BitVec 32 := 16#32
  let c0_i32_29 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c144_i32 : BitVec 32 := 144#32
  let v10 : BitVec 32 := Scalar.muli v1 c144_i32
  let v71 : BitVec 32 := Scalar.maxsi c0_i32_29 v10
  let c16_i32_52 : BitVec 32 := 16#32
  let c0_i32_40 : BitVec 32 := 0#32
  let c0_i32_38 : BitVec 32 := 0#32
  let c96_i32 : BitVec 32 := 96#32
  let c144_i32_23 : BitVec 32 := 144#32
  let v11 : BitVec 32 := Scalar.addi v10 c144_i32_23
  let c4532_i32 : BitVec 32 := 4532#32
  let v12 : BitVec 32 := Scalar.minsi v11 c4532_i32
  let v72 : BitVec 32 := Scalar.minsi c96_i32 v12
  let v73 : BitVec 32 := Scalar.subi v72 v71
  let c15_i32_30 : BitVec 32 := 15#32
  let v74 : BitVec 32 := Scalar.addi v73 c15_i32_30
  let c0_i32_32 : BitVec 32 := 0#32
  let v76 : BitVec 1 := Scalar.cmpi .sgt v74 c0_i32_32
  let v77 : BitVec 32 := Scalar.extui v76
  let c0_i32_33 : BitVec 32 := 0#32
  let v78 : BitVec 1 := Scalar.cmpi .slt v74 c0_i32_33
  let v79 : BitVec 32 := Scalar.extui v78
  let v80 : BitVec 32 := Scalar.subi v77 v79
  let c16_i32_31 : BitVec 32 := 16#32
  let c0_i32_34 : BitVec 32 := 0#32
  let v81 : BitVec 1 := Scalar.cmpi .sgt c16_i32_31 c0_i32_34
  let v82 : BitVec 32 := Scalar.extui v81
  let c0_i32_35 : BitVec 32 := 0#32
  let v83 : BitVec 1 := Scalar.cmpi .slt c16_i32_31 c0_i32_35
  let v84 : BitVec 32 := Scalar.extui v83
  let v85 : BitVec 32 := Scalar.subi v82 v84
  let v86 : BitVec 1 := Scalar.cmpi .ne v80 v85
  let v87 : BitVec 32 := Scalar.remsi v74 c16_i32_31
  let c0_i32_36 : BitVec 32 := 0#32
  let v88 : BitVec 1 := Scalar.cmpi .ne v87 c0_i32_36
  let v89 : BitVec 1 := Scalar.andi v86 v88
  let v75 : BitVec 32 := Scalar.divsi v74 c16_i32_31
  let c1_i32_37 : BitVec 32 := 1#32
  let v90 : BitVec 32 := Scalar.subi v75 c1_i32_37
  let v91 : BitVec 32 := Scalar.select v89 v90 v75
  let v92 : BitVec 32 := Scalar.maxsi c0_i32_38 v91
  let v93 : BitVec 32 := Scalar.subi v92 c0_i32_40
  let c1_i32_41 : BitVec 32 := 1#32
  let v95 : BitVec 32 := Scalar.divsi v93 c1_i32_41
  let v96 : BitVec 32 := Scalar.muli v95 c1_i32_41
  let v97 : BitVec 32 := Scalar.addi c0_i32_40 v96
  let c1_i32_43 : BitVec 32 := 1#32
  let arg25 : BitVec 32 := Scf.iv v97 c1_i32_43 k0_t2
  let v105 : BitVec 32 := Scalar.muli c16_i32_52 arg25
  let v106 : BitVec 32 := Scalar.addi v71 v105
  let v109 : BitVec 32 := Scalar.subi v106 v10
  let c12_i32_129 : BitVec 32 := 12#32
  let v1354 : BitVec 32 := Scalar.addi v109 c12_i32_129
  let v1355 : BitVec 32 := Scalar.muli c16_i32_130 v1354
  let v1356 : Index := Scalar.indexCast v1355
  ![v1356.toNat]

def k0_chk46 (i : grid0.Coords) (v15 : IVec S16 32) (k0_t2 : Fin (k0_t2_loop i).trips) (v1363 : IVec S16 32) (v1367 : IVec S16 32) (v1369 : IVec S16 32) : Prop :=
  (∀ a x, ((![v15, v1363, v1367, v1369] : Fin 4 → IVec S16 32) a x).toNat < S1x6x16x16.size a)
theorem k0_idx46_inb : ∀ (i : grid0.Coords) (v15 : IVec S16 32) (k0_t2 : Fin (k0_t2_loop i).trips) (v1363 : IVec S16 32) (v1367 : IVec S16 32) (v1369 : IVec S16 32) (k0_hw46 : k0_chk46 i v15 k0_t2 v1363 v1367 v1369), ∀ a x, ((![v15, v1363, v1367, v1369] : Fin 4 → IVec S16 32) a x).toNat < S1x6x16x16.size a := fun i v15 k0_t2 v1363 v1367 v1369 k0_hw46 => k0_hw46
def k0_off32 (i : grid0.Coords) (k0_t2 : Fin (k0_t2_loop i).trips) : Fin 1 → Nat :=
  let c16_i32_136 : BitVec 32 := 16#32
  let c0_i32_29 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c144_i32 : BitVec 32 := 144#32
  let v10 : BitVec 32 := Scalar.muli v1 c144_i32
  let v71 : BitVec 32 := Scalar.maxsi c0_i32_29 v10
  let c16_i32_52 : BitVec 32 := 16#32
  let c0_i32_40 : BitVec 32 := 0#32
  let c0_i32_38 : BitVec 32 := 0#32
  let c96_i32 : BitVec 32 := 96#32
  let c144_i32_23 : BitVec 32 := 144#32
  let v11 : BitVec 32 := Scalar.addi v10 c144_i32_23
  let c4532_i32 : BitVec 32 := 4532#32
  let v12 : BitVec 32 := Scalar.minsi v11 c4532_i32
  let v72 : BitVec 32 := Scalar.minsi c96_i32 v12
  let v73 : BitVec 32 := Scalar.subi v72 v71
  let c15_i32_30 : BitVec 32 := 15#32
  let v74 : BitVec 32 := Scalar.addi v73 c15_i32_30
  let c0_i32_32 : BitVec 32 := 0#32
  let v76 : BitVec 1 := Scalar.cmpi .sgt v74 c0_i32_32
  let v77 : BitVec 32 := Scalar.extui v76
  let c0_i32_33 : BitVec 32 := 0#32
  let v78 : BitVec 1 := Scalar.cmpi .slt v74 c0_i32_33
  let v79 : BitVec 32 := Scalar.extui v78
  let v80 : BitVec 32 := Scalar.subi v77 v79
  let c16_i32_31 : BitVec 32 := 16#32
  let c0_i32_34 : BitVec 32 := 0#32
  let v81 : BitVec 1 := Scalar.cmpi .sgt c16_i32_31 c0_i32_34
  let v82 : BitVec 32 := Scalar.extui v81
  let c0_i32_35 : BitVec 32 := 0#32
  let v83 : BitVec 1 := Scalar.cmpi .slt c16_i32_31 c0_i32_35
  let v84 : BitVec 32 := Scalar.extui v83
  let v85 : BitVec 32 := Scalar.subi v82 v84
  let v86 : BitVec 1 := Scalar.cmpi .ne v80 v85
  let v87 : BitVec 32 := Scalar.remsi v74 c16_i32_31
  let c0_i32_36 : BitVec 32 := 0#32
  let v88 : BitVec 1 := Scalar.cmpi .ne v87 c0_i32_36
  let v89 : BitVec 1 := Scalar.andi v86 v88
  let v75 : BitVec 32 := Scalar.divsi v74 c16_i32_31
  let c1_i32_37 : BitVec 32 := 1#32
  let v90 : BitVec 32 := Scalar.subi v75 c1_i32_37
  let v91 : BitVec 32 := Scalar.select v89 v90 v75
  let v92 : BitVec 32 := Scalar.maxsi c0_i32_38 v91
  let v93 : BitVec 32 := Scalar.subi v92 c0_i32_40
  let c1_i32_41 : BitVec 32 := 1#32
  let v95 : BitVec 32 := Scalar.divsi v93 c1_i32_41
  let v96 : BitVec 32 := Scalar.muli v95 c1_i32_41
  let v97 : BitVec 32 := Scalar.addi c0_i32_40 v96
  let c1_i32_43 : BitVec 32 := 1#32
  let arg25 : BitVec 32 := Scf.iv v97 c1_i32_43 k0_t2
  let v105 : BitVec 32 := Scalar.muli c16_i32_52 arg25
  let v106 : BitVec 32 := Scalar.addi v71 v105
  let v109 : BitVec 32 := Scalar.subi v106 v10
  let c13_i32_135 : BitVec 32 := 13#32
  let v1450 : BitVec 32 := Scalar.addi v109 c13_i32_135
  let v1451 : BitVec 32 := Scalar.muli c16_i32_136 v1450
  let v1452 : Index := Scalar.indexCast v1451
  ![v1452.toNat]

def k0_chk47 (i : grid0.Coords) (v15 : IVec S16 32) (k0_t2 : Fin (k0_t2_loop i).trips) (v1459 : IVec S16 32) (v1463 : IVec S16 32) (v1465 : IVec S16 32) : Prop :=
  (∀ a x, ((![v15, v1459, v1463, v1465] : Fin 4 → IVec S16 32) a x).toNat < S1x6x16x16.size a)
theorem k0_idx47_inb : ∀ (i : grid0.Coords) (v15 : IVec S16 32) (k0_t2 : Fin (k0_t2_loop i).trips) (v1459 : IVec S16 32) (v1463 : IVec S16 32) (v1465 : IVec S16 32) (k0_hw47 : k0_chk47 i v15 k0_t2 v1459 v1463 v1465), ∀ a x, ((![v15, v1459, v1463, v1465] : Fin 4 → IVec S16 32) a x).toNat < S1x6x16x16.size a := fun i v15 k0_t2 v1459 v1463 v1465 k0_hw47 => k0_hw47
def k0_off33 (i : grid0.Coords) (k0_t2 : Fin (k0_t2_loop i).trips) : Fin 1 → Nat :=
  let c16_i32_142 : BitVec 32 := 16#32
  let c0_i32_29 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c144_i32 : BitVec 32 := 144#32
  let v10 : BitVec 32 := Scalar.muli v1 c144_i32
  let v71 : BitVec 32 := Scalar.maxsi c0_i32_29 v10
  let c16_i32_52 : BitVec 32 := 16#32
  let c0_i32_40 : BitVec 32 := 0#32
  let c0_i32_38 : BitVec 32 := 0#32
  let c96_i32 : BitVec 32 := 96#32
  let c144_i32_23 : BitVec 32 := 144#32
  let v11 : BitVec 32 := Scalar.addi v10 c144_i32_23
  let c4532_i32 : BitVec 32 := 4532#32
  let v12 : BitVec 32 := Scalar.minsi v11 c4532_i32
  let v72 : BitVec 32 := Scalar.minsi c96_i32 v12
  let v73 : BitVec 32 := Scalar.subi v72 v71
  let c15_i32_30 : BitVec 32 := 15#32
  let v74 : BitVec 32 := Scalar.addi v73 c15_i32_30
  let c0_i32_32 : BitVec 32 := 0#32
  let v76 : BitVec 1 := Scalar.cmpi .sgt v74 c0_i32_32
  let v77 : BitVec 32 := Scalar.extui v76
  let c0_i32_33 : BitVec 32 := 0#32
  let v78 : BitVec 1 := Scalar.cmpi .slt v74 c0_i32_33
  let v79 : BitVec 32 := Scalar.extui v78
  let v80 : BitVec 32 := Scalar.subi v77 v79
  let c16_i32_31 : BitVec 32 := 16#32
  let c0_i32_34 : BitVec 32 := 0#32
  let v81 : BitVec 1 := Scalar.cmpi .sgt c16_i32_31 c0_i32_34
  let v82 : BitVec 32 := Scalar.extui v81
  let c0_i32_35 : BitVec 32 := 0#32
  let v83 : BitVec 1 := Scalar.cmpi .slt c16_i32_31 c0_i32_35
  let v84 : BitVec 32 := Scalar.extui v83
  let v85 : BitVec 32 := Scalar.subi v82 v84
  let v86 : BitVec 1 := Scalar.cmpi .ne v80 v85
  let v87 : BitVec 32 := Scalar.remsi v74 c16_i32_31
  let c0_i32_36 : BitVec 32 := 0#32
  let v88 : BitVec 1 := Scalar.cmpi .ne v87 c0_i32_36
  let v89 : BitVec 1 := Scalar.andi v86 v88
  let v75 : BitVec 32 := Scalar.divsi v74 c16_i32_31
  let c1_i32_37 : BitVec 32 := 1#32
  let v90 : BitVec 32 := Scalar.subi v75 c1_i32_37
  let v91 : BitVec 32 := Scalar.select v89 v90 v75
  let v92 : BitVec 32 := Scalar.maxsi c0_i32_38 v91
  let v93 : BitVec 32 := Scalar.subi v92 c0_i32_40
  let c1_i32_41 : BitVec 32 := 1#32
  let v95 : BitVec 32 := Scalar.divsi v93 c1_i32_41
  let v96 : BitVec 32 := Scalar.muli v95 c1_i32_41
  let v97 : BitVec 32 := Scalar.addi c0_i32_40 v96
  let c1_i32_43 : BitVec 32 := 1#32
  let arg25 : BitVec 32 := Scf.iv v97 c1_i32_43 k0_t2
  let v105 : BitVec 32 := Scalar.muli c16_i32_52 arg25
  let v106 : BitVec 32 := Scalar.addi v71 v105
  let v109 : BitVec 32 := Scalar.subi v106 v10
  let c14_i32_141 : BitVec 32 := 14#32
  let v1546 : BitVec 32 := Scalar.addi v109 c14_i32_141
  let v1547 : BitVec 32 := Scalar.muli c16_i32_142 v1546
  let v1548 : Index := Scalar.indexCast v1547
  ![v1548.toNat]

def k0_chk48 (i : grid0.Coords) (v15 : IVec S16 32) (k0_t2 : Fin (k0_t2_loop i).trips) (v1555 : IVec S16 32) (v1559 : IVec S16 32) (v1561 : IVec S16 32) : Prop :=
  (∀ a x, ((![v15, v1555, v1559, v1561] : Fin 4 → IVec S16 32) a x).toNat < S1x6x16x16.size a)
theorem k0_idx48_inb : ∀ (i : grid0.Coords) (v15 : IVec S16 32) (k0_t2 : Fin (k0_t2_loop i).trips) (v1555 : IVec S16 32) (v1559 : IVec S16 32) (v1561 : IVec S16 32) (k0_hw48 : k0_chk48 i v15 k0_t2 v1555 v1559 v1561), ∀ a x, ((![v15, v1555, v1559, v1561] : Fin 4 → IVec S16 32) a x).toNat < S1x6x16x16.size a := fun i v15 k0_t2 v1555 v1559 v1561 k0_hw48 => k0_hw48
def k0_off34 (i : grid0.Coords) (k0_t2 : Fin (k0_t2_loop i).trips) : Fin 1 → Nat :=
  let c16_i32_148 : BitVec 32 := 16#32
  let c0_i32_29 : BitVec 32 := 0#32
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c144_i32 : BitVec 32 := 144#32
  let v10 : BitVec 32 := Scalar.muli v1 c144_i32
  let v71 : BitVec 32 := Scalar.maxsi c0_i32_29 v10
  let c16_i32_52 : BitVec 32 := 16#32
  let c0_i32_40 : BitVec 32 := 0#32
  let c0_i32_38 : BitVec 32 := 0#32
  let c96_i32 : BitVec 32 := 96#32
  let c144_i32_23 : BitVec 32 := 144#32
  let v11 : BitVec 32 := Scalar.addi v10 c144_i32_23
  let c4532_i32 : BitVec 32 := 4532#32
  let v12 : BitVec 32 := Scalar.minsi v11 c4532_i32
  let v72 : BitVec 32 := Scalar.minsi c96_i32 v12
  let v73 : BitVec 32 := Scalar.subi v72 v71
  let c15_i32_30 : BitVec 32 := 15#32
  let v74 : BitVec 32 := Scalar.addi v73 c15_i32_30
  let c0_i32_32 : BitVec 32 := 0#32
  let v76 : BitVec 1 := Scalar.cmpi .sgt v74 c0_i32_32
  let v77 : BitVec 32 := Scalar.extui v76
  let c0_i32_33 : BitVec 32 := 0#32
  let v78 : BitVec 1 := Scalar.cmpi .slt v74 c0_i32_33
  let v79 : BitVec 32 := Scalar.extui v78
  let v80 : BitVec 32 := Scalar.subi v77 v79
  let c16_i32_31 : BitVec 32 := 16#32
  let c0_i32_34 : BitVec 32 := 0#32
  let v81 : BitVec 1 := Scalar.cmpi .sgt c16_i32_31 c0_i32_34
  let v82 : BitVec 32 := Scalar.extui v81
  let c0_i32_35 : BitVec 32 := 0#32
  let v83 : BitVec 1 := Scalar.cmpi .slt c16_i32_31 c0_i32_35
  let v84 : BitVec 32 := Scalar.extui v83
  let v85 : BitVec 32 := Scalar.subi v82 v84
  let v86 : BitVec 1 := Scalar.cmpi .ne v80 v85
  let v87 : BitVec 32 := Scalar.remsi v74 c16_i32_31
  let c0_i32_36 : BitVec 32 := 0#32
  let v88 : BitVec 1 := Scalar.cmpi .ne v87 c0_i32_36
  let v89 : BitVec 1 := Scalar.andi v86 v88
  let v75 : BitVec 32 := Scalar.divsi v74 c16_i32_31
  let c1_i32_37 : BitVec 32 := 1#32
  let v90 : BitVec 32 := Scalar.subi v75 c1_i32_37
  let v91 : BitVec 32 := Scalar.select v89 v90 v75
  let v92 : BitVec 32 := Scalar.maxsi c0_i32_38 v91
  let v93 : BitVec 32 := Scalar.subi v92 c0_i32_40
  let c1_i32_41 : BitVec 32 := 1#32
  let v95 : BitVec 32 := Scalar.divsi v93 c1_i32_41
  let v96 : BitVec 32 := Scalar.muli v95 c1_i32_41
  let v97 : BitVec 32 := Scalar.addi c0_i32_40 v96
  let c1_i32_43 : BitVec 32 := 1#32
  let arg25 : BitVec 32 := Scf.iv v97 c1_i32_43 k0_t2
  let v105 : BitVec 32 := Scalar.muli c16_i32_52 arg25
  let v106 : BitVec 32 := Scalar.addi v71 v105
  let v109 : BitVec 32 := Scalar.subi v106 v10
  let c15_i32_147 : BitVec 32 := 15#32
  let v1642 : BitVec 32 := Scalar.addi v109 c15_i32_147
  let v1643 : BitVec 32 := Scalar.muli c16_i32_148 v1642
  let v1644 : Index := Scalar.indexCast v1643
  ![v1644.toNat]
@[reducible] def k0_t3_loop : Scf.Loop 32 :=
  let c0_i32_45 : BitVec 32 := 0#32
  let c6_i32_46 : BitVec 32 := 6#32
  let v98 : BitVec 32 := Scalar.addi c0_i32_45 c6_i32_46
  let c1_i32_47 : BitVec 32 := 1#32
  ⟨c0_i32_45, v98, c1_i32_47⟩

def k0_chk49 (v13 : IVec S16 32) (v106 : IVec S16 32) (v108 : IVec S16 32) : Prop :=
  (∀ a x, ((![v106, v13, v108] : Fin 3 → IVec S16 32) a x).toNat < S6x16x16.size a)
theorem k0_idx49_inb : ∀ (v13 : IVec S16 32) (v106 : IVec S16 32) (v108 : IVec S16 32) (k0_hw49 : k0_chk49 v13 v106 v108), ∀ a x, ((![v106, v13, v108] : Fin 3 → IVec S16 32) a x).toNat < S6x16x16.size a := fun v13 v106 v108 k0_hw49 => k0_hw49

def k0_chk50 (v13 : IVec S16 32) (v106 : IVec S16 32) (v111 : IVec S16 32) : Prop :=
  (∀ a x, ((![v106, v13, v111] : Fin 3 → IVec S16 32) a x).toNat < S6x16x16.size a)
theorem k0_idx50_inb : ∀ (v13 : IVec S16 32) (v106 : IVec S16 32) (v111 : IVec S16 32) (k0_hw50 : k0_chk50 v13 v106 v111), ∀ a x, ((![v106, v13, v111] : Fin 3 → IVec S16 32) a x).toNat < S6x16x16.size a := fun v13 v106 v111 k0_hw50 => k0_hw50

def k0_chk51 (v13 : IVec S16 32) (v106 : IVec S16 32) (v114 : IVec S16 32) : Prop :=
  (∀ a x, ((![v106, v13, v114] : Fin 3 → IVec S16 32) a x).toNat < S6x16x16.size a)
theorem k0_idx51_inb : ∀ (v13 : IVec S16 32) (v106 : IVec S16 32) (v114 : IVec S16 32) (k0_hw51 : k0_chk51 v13 v106 v114), ∀ a x, ((![v106, v13, v114] : Fin 3 → IVec S16 32) a x).toNat < S6x16x16.size a := fun v13 v106 v114 k0_hw51 => k0_hw51

def k0_chk52 (v13 : IVec S16 32) (v106 : IVec S16 32) (v117 : IVec S16 32) : Prop :=
  (∀ a x, ((![v106, v13, v117] : Fin 3 → IVec S16 32) a x).toNat < S6x16x16.size a)
theorem k0_idx52_inb : ∀ (v13 : IVec S16 32) (v106 : IVec S16 32) (v117 : IVec S16 32) (k0_hw52 : k0_chk52 v13 v106 v117), ∀ a x, ((![v106, v13, v117] : Fin 3 → IVec S16 32) a x).toNat < S6x16x16.size a := fun v13 v106 v117 k0_hw52 => k0_hw52

def k0_chk53 (v13 : IVec S16 32) (v106 : IVec S16 32) (v120 : IVec S16 32) : Prop :=
  (∀ a x, ((![v106, v13, v120] : Fin 3 → IVec S16 32) a x).toNat < S6x16x16.size a)
theorem k0_idx53_inb : ∀ (v13 : IVec S16 32) (v106 : IVec S16 32) (v120 : IVec S16 32) (k0_hw53 : k0_chk53 v13 v106 v120), ∀ a x, ((![v106, v13, v120] : Fin 3 → IVec S16 32) a x).toNat < S6x16x16.size a := fun v13 v106 v120 k0_hw53 => k0_hw53

def k0_chk54 (v13 : IVec S16 32) (v106 : IVec S16 32) (v123 : IVec S16 32) : Prop :=
  (∀ a x, ((![v106, v13, v123] : Fin 3 → IVec S16 32) a x).toNat < S6x16x16.size a)
theorem k0_idx54_inb : ∀ (v13 : IVec S16 32) (v106 : IVec S16 32) (v123 : IVec S16 32) (k0_hw54 : k0_chk54 v13 v106 v123), ∀ a x, ((![v106, v13, v123] : Fin 3 → IVec S16 32) a x).toNat < S6x16x16.size a := fun v13 v106 v123 k0_hw54 => k0_hw54

def k0_chk55 (v13 : IVec S16 32) (v106 : IVec S16 32) (v126 : IVec S16 32) : Prop :=
  (∀ a x, ((![v106, v13, v126] : Fin 3 → IVec S16 32) a x).toNat < S6x16x16.size a)
theorem k0_idx55_inb : ∀ (v13 : IVec S16 32) (v106 : IVec S16 32) (v126 : IVec S16 32) (k0_hw55 : k0_chk55 v13 v106 v126), ∀ a x, ((![v106, v13, v126] : Fin 3 → IVec S16 32) a x).toNat < S6x16x16.size a := fun v13 v106 v126 k0_hw55 => k0_hw55

def k0_chk56 (v13 : IVec S16 32) (v106 : IVec S16 32) (v129 : IVec S16 32) : Prop :=
  (∀ a x, ((![v106, v13, v129] : Fin 3 → IVec S16 32) a x).toNat < S6x16x16.size a)
theorem k0_idx56_inb : ∀ (v13 : IVec S16 32) (v106 : IVec S16 32) (v129 : IVec S16 32) (k0_hw56 : k0_chk56 v13 v106 v129), ∀ a x, ((![v106, v13, v129] : Fin 3 → IVec S16 32) a x).toNat < S6x16x16.size a := fun v13 v106 v129 k0_hw56 => k0_hw56

def k0_chk57 (v13 : IVec S16 32) (v106 : IVec S16 32) (v132 : IVec S16 32) : Prop :=
  (∀ a x, ((![v106, v13, v132] : Fin 3 → IVec S16 32) a x).toNat < S6x16x16.size a)
theorem k0_idx57_inb : ∀ (v13 : IVec S16 32) (v106 : IVec S16 32) (v132 : IVec S16 32) (k0_hw57 : k0_chk57 v13 v106 v132), ∀ a x, ((![v106, v13, v132] : Fin 3 → IVec S16 32) a x).toNat < S6x16x16.size a := fun v13 v106 v132 k0_hw57 => k0_hw57

def k0_chk58 (v13 : IVec S16 32) (v106 : IVec S16 32) (v135 : IVec S16 32) : Prop :=
  (∀ a x, ((![v106, v13, v135] : Fin 3 → IVec S16 32) a x).toNat < S6x16x16.size a)
theorem k0_idx58_inb : ∀ (v13 : IVec S16 32) (v106 : IVec S16 32) (v135 : IVec S16 32) (k0_hw58 : k0_chk58 v13 v106 v135), ∀ a x, ((![v106, v13, v135] : Fin 3 → IVec S16 32) a x).toNat < S6x16x16.size a := fun v13 v106 v135 k0_hw58 => k0_hw58

def k0_chk59 (v13 : IVec S16 32) (v106 : IVec S16 32) (v138 : IVec S16 32) : Prop :=
  (∀ a x, ((![v106, v13, v138] : Fin 3 → IVec S16 32) a x).toNat < S6x16x16.size a)
theorem k0_idx59_inb : ∀ (v13 : IVec S16 32) (v106 : IVec S16 32) (v138 : IVec S16 32) (k0_hw59 : k0_chk59 v13 v106 v138), ∀ a x, ((![v106, v13, v138] : Fin 3 → IVec S16 32) a x).toNat < S6x16x16.size a := fun v13 v106 v138 k0_hw59 => k0_hw59

def k0_chk60 (v13 : IVec S16 32) (v106 : IVec S16 32) (v141 : IVec S16 32) : Prop :=
  (∀ a x, ((![v106, v13, v141] : Fin 3 → IVec S16 32) a x).toNat < S6x16x16.size a)
theorem k0_idx60_inb : ∀ (v13 : IVec S16 32) (v106 : IVec S16 32) (v141 : IVec S16 32) (k0_hw60 : k0_chk60 v13 v106 v141), ∀ a x, ((![v106, v13, v141] : Fin 3 → IVec S16 32) a x).toNat < S6x16x16.size a := fun v13 v106 v141 k0_hw60 => k0_hw60

def k0_chk61 (v13 : IVec S16 32) (v106 : IVec S16 32) (v144 : IVec S16 32) : Prop :=
  (∀ a x, ((![v106, v13, v144] : Fin 3 → IVec S16 32) a x).toNat < S6x16x16.size a)
theorem k0_idx61_inb : ∀ (v13 : IVec S16 32) (v106 : IVec S16 32) (v144 : IVec S16 32) (k0_hw61 : k0_chk61 v13 v106 v144), ∀ a x, ((![v106, v13, v144] : Fin 3 → IVec S16 32) a x).toNat < S6x16x16.size a := fun v13 v106 v144 k0_hw61 => k0_hw61

def k0_chk62 (v13 : IVec S16 32) (v106 : IVec S16 32) (v147 : IVec S16 32) : Prop :=
  (∀ a x, ((![v106, v13, v147] : Fin 3 → IVec S16 32) a x).toNat < S6x16x16.size a)
theorem k0_idx62_inb : ∀ (v13 : IVec S16 32) (v106 : IVec S16 32) (v147 : IVec S16 32) (k0_hw62 : k0_chk62 v13 v106 v147), ∀ a x, ((![v106, v13, v147] : Fin 3 → IVec S16 32) a x).toNat < S6x16x16.size a := fun v13 v106 v147 k0_hw62 => k0_hw62

def k0_chk63 (v13 : IVec S16 32) (v106 : IVec S16 32) (v150 : IVec S16 32) : Prop :=
  (∀ a x, ((![v106, v13, v150] : Fin 3 → IVec S16 32) a x).toNat < S6x16x16.size a)
theorem k0_idx63_inb : ∀ (v13 : IVec S16 32) (v106 : IVec S16 32) (v150 : IVec S16 32) (k0_hw63 : k0_chk63 v13 v106 v150), ∀ a x, ((![v106, v13, v150] : Fin 3 → IVec S16 32) a x).toNat < S6x16x16.size a := fun v13 v106 v150 k0_hw63 => k0_hw63

def k0_chk64 (v13 : IVec S16 32) (v106 : IVec S16 32) (v153 : IVec S16 32) : Prop :=
  (∀ a x, ((![v106, v13, v153] : Fin 3 → IVec S16 32) a x).toNat < S6x16x16.size a)
theorem k0_idx64_inb : ∀ (v13 : IVec S16 32) (v106 : IVec S16 32) (v153 : IVec S16 32) (k0_hw64 : k0_chk64 v13 v106 v153), ∀ a x, ((![v106, v13, v153] : Fin 3 → IVec S16 32) a x).toNat < S6x16x16.size a := fun v13 v106 v153 k0_hw64 => k0_hw64
def k0_off35 (k0_t3 : Fin k0_t3_loop.trips) : Fin 2 → Nat :=
  let c0_i32_45 : BitVec 32 := 0#32
  let c1_i32_47 : BitVec 32 := 1#32
  let arg25 : BitVec 32 := Scf.iv c0_i32_45 c1_i32_47 k0_t3
  let v177 : Index := Scalar.indexCast arg25
  let c0 : Index := 0#32
  ![v177.toNat, 0]
@[reducible] def k0_t4_loop (i : grid0.Coords) (k0_t3 : Fin k0_t3_loop.trips) : Scf.Loop 32 :=
  let c0_i32_89 : BitVec 32 := 0#32
  let c0_i32_87 : BitVec 32 := 0#32
  let c0_i32_45 : BitVec 32 := 0#32
  let c1_i32_47 : BitVec 32 := 1#32
  let arg25 : BitVec 32 := Scf.iv c0_i32_45 c1_i32_47 k0_t3
  let c5_i32_78 : BitVec 32 := 5#32
  let v174 : BitVec 1 := Scalar.cmpi .sge arg25 c5_i32_78
  let c3749_i32 : BitVec 32 := 3749#32
  let c4_i32_77 : BitVec 32 := 4#32
  let v172 : BitVec 1 := Scalar.cmpi .sge arg25 c4_i32_77
  let c2391_i32 : BitVec 32 := 2391#32
  let c3_i32_76 : BitVec 32 := 3#32
  let v170 : BitVec 1 := Scalar.cmpi .sge arg25 c3_i32_76
  let c1417_i32 : BitVec 32 := 1417#32
  let c2_i32_75 : BitVec 32 := 2#32
  let v168 : BitVec 1 := Scalar.cmpi .sge arg25 c2_i32_75
  let c763_i32 : BitVec 32 := 763#32
  let c1_i32_74 : BitVec 32 := 1#32
  let v166 : BitVec 1 := Scalar.cmpi .sge arg25 c1_i32_74
  let c365_i32 : BitVec 32 := 365#32
  let c159_i32 : BitVec 32 := 159#32
  let v167 : BitVec 32 := Scalar.select v166 c365_i32 c159_i32
  let v169 : BitVec 32 := Scalar.select v168 c763_i32 v167
  let v171 : BitVec 32 := Scalar.select v170 c1417_i32 v169
  let v173 : BitVec 32 := Scalar.select v172 c2391_i32 v171
  let v175 : BitVec 32 := Scalar.select v174 c3749_i32 v173
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c144_i32 : BitVec 32 := 144#32
  let v10 : BitVec 32 := Scalar.muli v1 c144_i32
  let c144_i32_23 : BitVec 32 := 144#32
  let v11 : BitVec 32 := Scalar.addi v10 c144_i32_23
  let c4532_i32 : BitVec 32 := 4532#32
  let v12 : BitVec 32 := Scalar.minsi v11 c4532_i32
  let v176 : BitVec 32 := Scalar.minsi v175 v12
  let c5_i32_73 : BitVec 32 := 5#32
  let v163 : BitVec 1 := Scalar.cmpi .sge arg25 c5_i32_73
  let c2966_i32 : BitVec 32 := 2966#32
  let c4_i32_72 : BitVec 32 := 4#32
  let v161 : BitVec 1 := Scalar.cmpi .sge arg25 c4_i32_72
  let c1816_i32 : BitVec 32 := 1816#32
  let c3_i32_71 : BitVec 32 := 3#32
  let v159 : BitVec 1 := Scalar.cmpi .sge arg25 c3_i32_71
  let c1018_i32 : BitVec 32 := 1018#32
  let c2_i32_70 : BitVec 32 := 2#32
  let v157 : BitVec 1 := Scalar.cmpi .sge arg25 c2_i32_70
  let c508_i32 : BitVec 32 := 508#32
  let c1_i32_68 : BitVec 32 := 1#32
  let v155 : BitVec 1 := Scalar.cmpi .sge arg25 c1_i32_68
  let c222_i32 : BitVec 32 := 222#32
  let c96_i32_69 : BitVec 32 := 96#32
  let v156 : BitVec 32 := Scalar.select v155 c222_i32 c96_i32_69
  let v158 : BitVec 32 := Scalar.select v157 c508_i32 v156
  let v160 : BitVec 32 := Scalar.select v159 c1018_i32 v158
  let v162 : BitVec 32 := Scalar.select v161 c1816_i32 v160
  let v164 : BitVec 32 := Scalar.select v163 c2966_i32 v162
  let v165 : BitVec 32 := Scalar.maxsi v164 v10
  let v179 : BitVec 32 := Scalar.subi v176 v165
  let c15_i32_79 : BitVec 32 := 15#32
  let v180 : BitVec 32 := Scalar.addi v179 c15_i32_79
  let c0_i32_81 : BitVec 32 := 0#32
  let v182 : BitVec 1 := Scalar.cmpi .sgt v180 c0_i32_81
  let v183 : BitVec 32 := Scalar.extui v182
  let c0_i32_82 : BitVec 32 := 0#32
  let v184 : BitVec 1 := Scalar.cmpi .slt v180 c0_i32_82
  let v185 : BitVec 32 := Scalar.extui v184
  let v186 : BitVec 32 := Scalar.subi v183 v185
  let c16_i32_80 : BitVec 32 := 16#32
  let c0_i32_83 : BitVec 32 := 0#32
  let v187 : BitVec 1 := Scalar.cmpi .sgt c16_i32_80 c0_i32_83
  let v188 : BitVec 32 := Scalar.extui v187
  let c0_i32_84 : BitVec 32 := 0#32
  let v189 : BitVec 1 := Scalar.cmpi .slt c16_i32_80 c0_i32_84
  let v190 : BitVec 32 := Scalar.extui v189
  let v191 : BitVec 32 := Scalar.subi v188 v190
  let v192 : BitVec 1 := Scalar.cmpi .ne v186 v191
  let v193 : BitVec 32 := Scalar.remsi v180 c16_i32_80
  let c0_i32_85 : BitVec 32 := 0#32
  let v194 : BitVec 1 := Scalar.cmpi .ne v193 c0_i32_85
  let v195 : BitVec 1 := Scalar.andi v192 v194
  let v181 : BitVec 32 := Scalar.divsi v180 c16_i32_80
  let c1_i32_86 : BitVec 32 := 1#32
  let v196 : BitVec 32 := Scalar.subi v181 c1_i32_86
  let v197 : BitVec 32 := Scalar.select v195 v196 v181
  let v198 : BitVec 32 := Scalar.maxsi c0_i32_87 v197
  let v199 : BitVec 32 := Scalar.subi v198 c0_i32_89
  let c1_i32_90 : BitVec 32 := 1#32
  let v201 : BitVec 32 := Scalar.divsi v199 c1_i32_90
  let v202 : BitVec 32 := Scalar.muli v201 c1_i32_90
  let v203 : BitVec 32 := Scalar.addi c0_i32_89 v202
  let c1_i32_91 : BitVec 32 := 1#32
  ⟨c0_i32_89, v203, c1_i32_91⟩
def k0_off36 (i : grid0.Coords) (k0_t3 : Fin k0_t3_loop.trips) (k0_t4 : Fin (k0_t4_loop i k0_t3).trips) : Fin 1 → Nat :=
  let c0_i32_45 : BitVec 32 := 0#32
  let c1_i32_47 : BitVec 32 := 1#32
  let arg25 : BitVec 32 := Scf.iv c0_i32_45 c1_i32_47 k0_t3
  let c5_i32_73 : BitVec 32 := 5#32
  let v163 : BitVec 1 := Scalar.cmpi .sge arg25 c5_i32_73
  let c2966_i32 : BitVec 32 := 2966#32
  let c4_i32_72 : BitVec 32 := 4#32
  let v161 : BitVec 1 := Scalar.cmpi .sge arg25 c4_i32_72
  let c1816_i32 : BitVec 32 := 1816#32
  let c3_i32_71 : BitVec 32 := 3#32
  let v159 : BitVec 1 := Scalar.cmpi .sge arg25 c3_i32_71
  let c1018_i32 : BitVec 32 := 1018#32
  let c2_i32_70 : BitVec 32 := 2#32
  let v157 : BitVec 1 := Scalar.cmpi .sge arg25 c2_i32_70
  let c508_i32 : BitVec 32 := 508#32
  let c1_i32_68 : BitVec 32 := 1#32
  let v155 : BitVec 1 := Scalar.cmpi .sge arg25 c1_i32_68
  let c222_i32 : BitVec 32 := 222#32
  let c96_i32_69 : BitVec 32 := 96#32
  let v156 : BitVec 32 := Scalar.select v155 c222_i32 c96_i32_69
  let v158 : BitVec 32 := Scalar.select v157 c508_i32 v156
  let v160 : BitVec 32 := Scalar.select v159 c1018_i32 v158
  let v162 : BitVec 32 := Scalar.select v161 c1816_i32 v160
  let v164 : BitVec 32 := Scalar.select v163 c2966_i32 v162
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c144_i32 : BitVec 32 := 144#32
  let v10 : BitVec 32 := Scalar.muli v1 c144_i32
  let v165 : BitVec 32 := Scalar.maxsi v164 v10
  let c16_i32_146 : BitVec 32 := 16#32
  let c0_i32_89 : BitVec 32 := 0#32
  let c1_i32_91 : BitVec 32 := 1#32
  let arg26 : BitVec 32 := Scf.iv c0_i32_89 c1_i32_91 k0_t4
  let v301 : BitVec 32 := Scalar.muli c16_i32_146 arg26
  let v302 : BitVec 32 := Scalar.addi v165 v301
  let v303 : Index := Scalar.indexCast v302
  ![v303.toNat]

def k0_chk65 (i : grid0.Coords) (v15 : IVec S16 32) (k0_t3 : Fin k0_t3_loop.trips) (k0_t4 : Fin (k0_t4_loop i k0_t3).trips) (v311 : IVec S16 32) (v315 : IVec S16 32) (v317 : IVec S16 32) : Prop :=
  (∀ a x, ((![v15, v311, v315, v317] : Fin 4 → IVec S16 32) a x).toNat < S1x6x16x16.size a)
theorem k0_idx65_inb : ∀ (i : grid0.Coords) (v15 : IVec S16 32) (k0_t3 : Fin k0_t3_loop.trips) (k0_t4 : Fin (k0_t4_loop i k0_t3).trips) (v311 : IVec S16 32) (v315 : IVec S16 32) (v317 : IVec S16 32) (k0_hw65 : k0_chk65 i v15 k0_t3 k0_t4 v311 v315 v317), ∀ a x, ((![v15, v311, v315, v317] : Fin 4 → IVec S16 32) a x).toNat < S1x6x16x16.size a := fun i v15 k0_t3 k0_t4 v311 v315 v317 k0_hw65 => k0_hw65
def k0_off37 (i : grid0.Coords) (k0_t3 : Fin k0_t3_loop.trips) (k0_t4 : Fin (k0_t4_loop i k0_t3).trips) : Fin 1 → Nat :=
  let c16_i32_152 : BitVec 32 := 16#32
  let c0_i32_45 : BitVec 32 := 0#32
  let c1_i32_47 : BitVec 32 := 1#32
  let arg25 : BitVec 32 := Scf.iv c0_i32_45 c1_i32_47 k0_t3
  let c5_i32_73 : BitVec 32 := 5#32
  let v163 : BitVec 1 := Scalar.cmpi .sge arg25 c5_i32_73
  let c2966_i32 : BitVec 32 := 2966#32
  let c4_i32_72 : BitVec 32 := 4#32
  let v161 : BitVec 1 := Scalar.cmpi .sge arg25 c4_i32_72
  let c1816_i32 : BitVec 32 := 1816#32
  let c3_i32_71 : BitVec 32 := 3#32
  let v159 : BitVec 1 := Scalar.cmpi .sge arg25 c3_i32_71
  let c1018_i32 : BitVec 32 := 1018#32
  let c2_i32_70 : BitVec 32 := 2#32
  let v157 : BitVec 1 := Scalar.cmpi .sge arg25 c2_i32_70
  let c508_i32 : BitVec 32 := 508#32
  let c1_i32_68 : BitVec 32 := 1#32
  let v155 : BitVec 1 := Scalar.cmpi .sge arg25 c1_i32_68
  let c222_i32 : BitVec 32 := 222#32
  let c96_i32_69 : BitVec 32 := 96#32
  let v156 : BitVec 32 := Scalar.select v155 c222_i32 c96_i32_69
  let v158 : BitVec 32 := Scalar.select v157 c508_i32 v156
  let v160 : BitVec 32 := Scalar.select v159 c1018_i32 v158
  let v162 : BitVec 32 := Scalar.select v161 c1816_i32 v160
  let v164 : BitVec 32 := Scalar.select v163 c2966_i32 v162
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c144_i32 : BitVec 32 := 144#32
  let v10 : BitVec 32 := Scalar.muli v1 c144_i32
  let v165 : BitVec 32 := Scalar.maxsi v164 v10
  let c16_i32_146 : BitVec 32 := 16#32
  let c0_i32_89 : BitVec 32 := 0#32
  let c1_i32_91 : BitVec 32 := 1#32
  let arg26 : BitVec 32 := Scf.iv c0_i32_89 c1_i32_91 k0_t4
  let v301 : BitVec 32 := Scalar.muli c16_i32_146 arg26
  let v302 : BitVec 32 := Scalar.addi v165 v301
  let v305 : BitVec 32 := Scalar.subi v302 v10
  let c0_i32_151 : BitVec 32 := 0#32
  let v399 : BitVec 32 := Scalar.addi v305 c0_i32_151
  let v400 : BitVec 32 := Scalar.muli c16_i32_152 v399
  let v401 : Index := Scalar.indexCast v400
  ![v401.toNat]

def k0_chk66 (i : grid0.Coords) (v15 : IVec S16 32) (k0_t3 : Fin k0_t3_loop.trips) (k0_t4 : Fin (k0_t4_loop i k0_t3).trips) (v408 : IVec S16 32) (v412 : IVec S16 32) (v414 : IVec S16 32) : Prop :=
  (∀ a x, ((![v15, v408, v412, v414] : Fin 4 → IVec S16 32) a x).toNat < S1x6x16x16.size a)
theorem k0_idx66_inb : ∀ (i : grid0.Coords) (v15 : IVec S16 32) (k0_t3 : Fin k0_t3_loop.trips) (k0_t4 : Fin (k0_t4_loop i k0_t3).trips) (v408 : IVec S16 32) (v412 : IVec S16 32) (v414 : IVec S16 32) (k0_hw66 : k0_chk66 i v15 k0_t3 k0_t4 v408 v412 v414), ∀ a x, ((![v15, v408, v412, v414] : Fin 4 → IVec S16 32) a x).toNat < S1x6x16x16.size a := fun i v15 k0_t3 k0_t4 v408 v412 v414 k0_hw66 => k0_hw66
def k0_off38 (i : grid0.Coords) (k0_t3 : Fin k0_t3_loop.trips) (k0_t4 : Fin (k0_t4_loop i k0_t3).trips) : Fin 1 → Nat :=
  let c16_i32_158 : BitVec 32 := 16#32
  let c0_i32_45 : BitVec 32 := 0#32
  let c1_i32_47 : BitVec 32 := 1#32
  let arg25 : BitVec 32 := Scf.iv c0_i32_45 c1_i32_47 k0_t3
  let c5_i32_73 : BitVec 32 := 5#32
  let v163 : BitVec 1 := Scalar.cmpi .sge arg25 c5_i32_73
  let c2966_i32 : BitVec 32 := 2966#32
  let c4_i32_72 : BitVec 32 := 4#32
  let v161 : BitVec 1 := Scalar.cmpi .sge arg25 c4_i32_72
  let c1816_i32 : BitVec 32 := 1816#32
  let c3_i32_71 : BitVec 32 := 3#32
  let v159 : BitVec 1 := Scalar.cmpi .sge arg25 c3_i32_71
  let c1018_i32 : BitVec 32 := 1018#32
  let c2_i32_70 : BitVec 32 := 2#32
  let v157 : BitVec 1 := Scalar.cmpi .sge arg25 c2_i32_70
  let c508_i32 : BitVec 32 := 508#32
  let c1_i32_68 : BitVec 32 := 1#32
  let v155 : BitVec 1 := Scalar.cmpi .sge arg25 c1_i32_68
  let c222_i32 : BitVec 32 := 222#32
  let c96_i32_69 : BitVec 32 := 96#32
  let v156 : BitVec 32 := Scalar.select v155 c222_i32 c96_i32_69
  let v158 : BitVec 32 := Scalar.select v157 c508_i32 v156
  let v160 : BitVec 32 := Scalar.select v159 c1018_i32 v158
  let v162 : BitVec 32 := Scalar.select v161 c1816_i32 v160
  let v164 : BitVec 32 := Scalar.select v163 c2966_i32 v162
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c144_i32 : BitVec 32 := 144#32
  let v10 : BitVec 32 := Scalar.muli v1 c144_i32
  let v165 : BitVec 32 := Scalar.maxsi v164 v10
  let c16_i32_146 : BitVec 32 := 16#32
  let c0_i32_89 : BitVec 32 := 0#32
  let c1_i32_91 : BitVec 32 := 1#32
  let arg26 : BitVec 32 := Scf.iv c0_i32_89 c1_i32_91 k0_t4
  let v301 : BitVec 32 := Scalar.muli c16_i32_146 arg26
  let v302 : BitVec 32 := Scalar.addi v165 v301
  let v305 : BitVec 32 := Scalar.subi v302 v10
  let c1_i32_157 : BitVec 32 := 1#32
  let v496 : BitVec 32 := Scalar.addi v305 c1_i32_157
  let v497 : BitVec 32 := Scalar.muli c16_i32_158 v496
  let v498 : Index := Scalar.indexCast v497
  ![v498.toNat]

def k0_chk67 (i : grid0.Coords) (v15 : IVec S16 32) (k0_t3 : Fin k0_t3_loop.trips) (k0_t4 : Fin (k0_t4_loop i k0_t3).trips) (v505 : IVec S16 32) (v509 : IVec S16 32) (v511 : IVec S16 32) : Prop :=
  (∀ a x, ((![v15, v505, v509, v511] : Fin 4 → IVec S16 32) a x).toNat < S1x6x16x16.size a)
theorem k0_idx67_inb : ∀ (i : grid0.Coords) (v15 : IVec S16 32) (k0_t3 : Fin k0_t3_loop.trips) (k0_t4 : Fin (k0_t4_loop i k0_t3).trips) (v505 : IVec S16 32) (v509 : IVec S16 32) (v511 : IVec S16 32) (k0_hw67 : k0_chk67 i v15 k0_t3 k0_t4 v505 v509 v511), ∀ a x, ((![v15, v505, v509, v511] : Fin 4 → IVec S16 32) a x).toNat < S1x6x16x16.size a := fun i v15 k0_t3 k0_t4 v505 v509 v511 k0_hw67 => k0_hw67
def k0_off39 (i : grid0.Coords) (k0_t3 : Fin k0_t3_loop.trips) (k0_t4 : Fin (k0_t4_loop i k0_t3).trips) : Fin 1 → Nat :=
  let c16_i32_164 : BitVec 32 := 16#32
  let c0_i32_45 : BitVec 32 := 0#32
  let c1_i32_47 : BitVec 32 := 1#32
  let arg25 : BitVec 32 := Scf.iv c0_i32_45 c1_i32_47 k0_t3
  let c5_i32_73 : BitVec 32 := 5#32
  let v163 : BitVec 1 := Scalar.cmpi .sge arg25 c5_i32_73
  let c2966_i32 : BitVec 32 := 2966#32
  let c4_i32_72 : BitVec 32 := 4#32
  let v161 : BitVec 1 := Scalar.cmpi .sge arg25 c4_i32_72
  let c1816_i32 : BitVec 32 := 1816#32
  let c3_i32_71 : BitVec 32 := 3#32
  let v159 : BitVec 1 := Scalar.cmpi .sge arg25 c3_i32_71
  let c1018_i32 : BitVec 32 := 1018#32
  let c2_i32_70 : BitVec 32 := 2#32
  let v157 : BitVec 1 := Scalar.cmpi .sge arg25 c2_i32_70
  let c508_i32 : BitVec 32 := 508#32
  let c1_i32_68 : BitVec 32 := 1#32
  let v155 : BitVec 1 := Scalar.cmpi .sge arg25 c1_i32_68
  let c222_i32 : BitVec 32 := 222#32
  let c96_i32_69 : BitVec 32 := 96#32
  let v156 : BitVec 32 := Scalar.select v155 c222_i32 c96_i32_69
  let v158 : BitVec 32 := Scalar.select v157 c508_i32 v156
  let v160 : BitVec 32 := Scalar.select v159 c1018_i32 v158
  let v162 : BitVec 32 := Scalar.select v161 c1816_i32 v160
  let v164 : BitVec 32 := Scalar.select v163 c2966_i32 v162
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c144_i32 : BitVec 32 := 144#32
  let v10 : BitVec 32 := Scalar.muli v1 c144_i32
  let v165 : BitVec 32 := Scalar.maxsi v164 v10
  let c16_i32_146 : BitVec 32 := 16#32
  let c0_i32_89 : BitVec 32 := 0#32
  let c1_i32_91 : BitVec 32 := 1#32
  let arg26 : BitVec 32 := Scf.iv c0_i32_89 c1_i32_91 k0_t4
  let v301 : BitVec 32 := Scalar.muli c16_i32_146 arg26
  let v302 : BitVec 32 := Scalar.addi v165 v301
  let v305 : BitVec 32 := Scalar.subi v302 v10
  let c2_i32_163 : BitVec 32 := 2#32
  let v593 : BitVec 32 := Scalar.addi v305 c2_i32_163
  let v594 : BitVec 32 := Scalar.muli c16_i32_164 v593
  let v595 : Index := Scalar.indexCast v594
  ![v595.toNat]

def k0_chk68 (i : grid0.Coords) (v15 : IVec S16 32) (k0_t3 : Fin k0_t3_loop.trips) (k0_t4 : Fin (k0_t4_loop i k0_t3).trips) (v602 : IVec S16 32) (v606 : IVec S16 32) (v608 : IVec S16 32) : Prop :=
  (∀ a x, ((![v15, v602, v606, v608] : Fin 4 → IVec S16 32) a x).toNat < S1x6x16x16.size a)
theorem k0_idx68_inb : ∀ (i : grid0.Coords) (v15 : IVec S16 32) (k0_t3 : Fin k0_t3_loop.trips) (k0_t4 : Fin (k0_t4_loop i k0_t3).trips) (v602 : IVec S16 32) (v606 : IVec S16 32) (v608 : IVec S16 32) (k0_hw68 : k0_chk68 i v15 k0_t3 k0_t4 v602 v606 v608), ∀ a x, ((![v15, v602, v606, v608] : Fin 4 → IVec S16 32) a x).toNat < S1x6x16x16.size a := fun i v15 k0_t3 k0_t4 v602 v606 v608 k0_hw68 => k0_hw68
def k0_off40 (i : grid0.Coords) (k0_t3 : Fin k0_t3_loop.trips) (k0_t4 : Fin (k0_t4_loop i k0_t3).trips) : Fin 1 → Nat :=
  let c16_i32_170 : BitVec 32 := 16#32
  let c0_i32_45 : BitVec 32 := 0#32
  let c1_i32_47 : BitVec 32 := 1#32
  let arg25 : BitVec 32 := Scf.iv c0_i32_45 c1_i32_47 k0_t3
  let c5_i32_73 : BitVec 32 := 5#32
  let v163 : BitVec 1 := Scalar.cmpi .sge arg25 c5_i32_73
  let c2966_i32 : BitVec 32 := 2966#32
  let c4_i32_72 : BitVec 32 := 4#32
  let v161 : BitVec 1 := Scalar.cmpi .sge arg25 c4_i32_72
  let c1816_i32 : BitVec 32 := 1816#32
  let c3_i32_71 : BitVec 32 := 3#32
  let v159 : BitVec 1 := Scalar.cmpi .sge arg25 c3_i32_71
  let c1018_i32 : BitVec 32 := 1018#32
  let c2_i32_70 : BitVec 32 := 2#32
  let v157 : BitVec 1 := Scalar.cmpi .sge arg25 c2_i32_70
  let c508_i32 : BitVec 32 := 508#32
  let c1_i32_68 : BitVec 32 := 1#32
  let v155 : BitVec 1 := Scalar.cmpi .sge arg25 c1_i32_68
  let c222_i32 : BitVec 32 := 222#32
  let c96_i32_69 : BitVec 32 := 96#32
  let v156 : BitVec 32 := Scalar.select v155 c222_i32 c96_i32_69
  let v158 : BitVec 32 := Scalar.select v157 c508_i32 v156
  let v160 : BitVec 32 := Scalar.select v159 c1018_i32 v158
  let v162 : BitVec 32 := Scalar.select v161 c1816_i32 v160
  let v164 : BitVec 32 := Scalar.select v163 c2966_i32 v162
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c144_i32 : BitVec 32 := 144#32
  let v10 : BitVec 32 := Scalar.muli v1 c144_i32
  let v165 : BitVec 32 := Scalar.maxsi v164 v10
  let c16_i32_146 : BitVec 32 := 16#32
  let c0_i32_89 : BitVec 32 := 0#32
  let c1_i32_91 : BitVec 32 := 1#32
  let arg26 : BitVec 32 := Scf.iv c0_i32_89 c1_i32_91 k0_t4
  let v301 : BitVec 32 := Scalar.muli c16_i32_146 arg26
  let v302 : BitVec 32 := Scalar.addi v165 v301
  let v305 : BitVec 32 := Scalar.subi v302 v10
  let c3_i32_169 : BitVec 32 := 3#32
  let v690 : BitVec 32 := Scalar.addi v305 c3_i32_169
  let v691 : BitVec 32 := Scalar.muli c16_i32_170 v690
  let v692 : Index := Scalar.indexCast v691
  ![v692.toNat]

def k0_chk69 (i : grid0.Coords) (v15 : IVec S16 32) (k0_t3 : Fin k0_t3_loop.trips) (k0_t4 : Fin (k0_t4_loop i k0_t3).trips) (v699 : IVec S16 32) (v703 : IVec S16 32) (v705 : IVec S16 32) : Prop :=
  (∀ a x, ((![v15, v699, v703, v705] : Fin 4 → IVec S16 32) a x).toNat < S1x6x16x16.size a)
theorem k0_idx69_inb : ∀ (i : grid0.Coords) (v15 : IVec S16 32) (k0_t3 : Fin k0_t3_loop.trips) (k0_t4 : Fin (k0_t4_loop i k0_t3).trips) (v699 : IVec S16 32) (v703 : IVec S16 32) (v705 : IVec S16 32) (k0_hw69 : k0_chk69 i v15 k0_t3 k0_t4 v699 v703 v705), ∀ a x, ((![v15, v699, v703, v705] : Fin 4 → IVec S16 32) a x).toNat < S1x6x16x16.size a := fun i v15 k0_t3 k0_t4 v699 v703 v705 k0_hw69 => k0_hw69
def k0_off41 (i : grid0.Coords) (k0_t3 : Fin k0_t3_loop.trips) (k0_t4 : Fin (k0_t4_loop i k0_t3).trips) : Fin 1 → Nat :=
  let c16_i32_176 : BitVec 32 := 16#32
  let c0_i32_45 : BitVec 32 := 0#32
  let c1_i32_47 : BitVec 32 := 1#32
  let arg25 : BitVec 32 := Scf.iv c0_i32_45 c1_i32_47 k0_t3
  let c5_i32_73 : BitVec 32 := 5#32
  let v163 : BitVec 1 := Scalar.cmpi .sge arg25 c5_i32_73
  let c2966_i32 : BitVec 32 := 2966#32
  let c4_i32_72 : BitVec 32 := 4#32
  let v161 : BitVec 1 := Scalar.cmpi .sge arg25 c4_i32_72
  let c1816_i32 : BitVec 32 := 1816#32
  let c3_i32_71 : BitVec 32 := 3#32
  let v159 : BitVec 1 := Scalar.cmpi .sge arg25 c3_i32_71
  let c1018_i32 : BitVec 32 := 1018#32
  let c2_i32_70 : BitVec 32 := 2#32
  let v157 : BitVec 1 := Scalar.cmpi .sge arg25 c2_i32_70
  let c508_i32 : BitVec 32 := 508#32
  let c1_i32_68 : BitVec 32 := 1#32
  let v155 : BitVec 1 := Scalar.cmpi .sge arg25 c1_i32_68
  let c222_i32 : BitVec 32 := 222#32
  let c96_i32_69 : BitVec 32 := 96#32
  let v156 : BitVec 32 := Scalar.select v155 c222_i32 c96_i32_69
  let v158 : BitVec 32 := Scalar.select v157 c508_i32 v156
  let v160 : BitVec 32 := Scalar.select v159 c1018_i32 v158
  let v162 : BitVec 32 := Scalar.select v161 c1816_i32 v160
  let v164 : BitVec 32 := Scalar.select v163 c2966_i32 v162
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c144_i32 : BitVec 32 := 144#32
  let v10 : BitVec 32 := Scalar.muli v1 c144_i32
  let v165 : BitVec 32 := Scalar.maxsi v164 v10
  let c16_i32_146 : BitVec 32 := 16#32
  let c0_i32_89 : BitVec 32 := 0#32
  let c1_i32_91 : BitVec 32 := 1#32
  let arg26 : BitVec 32 := Scf.iv c0_i32_89 c1_i32_91 k0_t4
  let v301 : BitVec 32 := Scalar.muli c16_i32_146 arg26
  let v302 : BitVec 32 := Scalar.addi v165 v301
  let v305 : BitVec 32 := Scalar.subi v302 v10
  let c4_i32_175 : BitVec 32 := 4#32
  let v787 : BitVec 32 := Scalar.addi v305 c4_i32_175
  let v788 : BitVec 32 := Scalar.muli c16_i32_176 v787
  let v789 : Index := Scalar.indexCast v788
  ![v789.toNat]

def k0_chk70 (i : grid0.Coords) (v15 : IVec S16 32) (k0_t3 : Fin k0_t3_loop.trips) (k0_t4 : Fin (k0_t4_loop i k0_t3).trips) (v796 : IVec S16 32) (v800 : IVec S16 32) (v802 : IVec S16 32) : Prop :=
  (∀ a x, ((![v15, v796, v800, v802] : Fin 4 → IVec S16 32) a x).toNat < S1x6x16x16.size a)
theorem k0_idx70_inb : ∀ (i : grid0.Coords) (v15 : IVec S16 32) (k0_t3 : Fin k0_t3_loop.trips) (k0_t4 : Fin (k0_t4_loop i k0_t3).trips) (v796 : IVec S16 32) (v800 : IVec S16 32) (v802 : IVec S16 32) (k0_hw70 : k0_chk70 i v15 k0_t3 k0_t4 v796 v800 v802), ∀ a x, ((![v15, v796, v800, v802] : Fin 4 → IVec S16 32) a x).toNat < S1x6x16x16.size a := fun i v15 k0_t3 k0_t4 v796 v800 v802 k0_hw70 => k0_hw70
def k0_off42 (i : grid0.Coords) (k0_t3 : Fin k0_t3_loop.trips) (k0_t4 : Fin (k0_t4_loop i k0_t3).trips) : Fin 1 → Nat :=
  let c16_i32_182 : BitVec 32 := 16#32
  let c0_i32_45 : BitVec 32 := 0#32
  let c1_i32_47 : BitVec 32 := 1#32
  let arg25 : BitVec 32 := Scf.iv c0_i32_45 c1_i32_47 k0_t3
  let c5_i32_73 : BitVec 32 := 5#32
  let v163 : BitVec 1 := Scalar.cmpi .sge arg25 c5_i32_73
  let c2966_i32 : BitVec 32 := 2966#32
  let c4_i32_72 : BitVec 32 := 4#32
  let v161 : BitVec 1 := Scalar.cmpi .sge arg25 c4_i32_72
  let c1816_i32 : BitVec 32 := 1816#32
  let c3_i32_71 : BitVec 32 := 3#32
  let v159 : BitVec 1 := Scalar.cmpi .sge arg25 c3_i32_71
  let c1018_i32 : BitVec 32 := 1018#32
  let c2_i32_70 : BitVec 32 := 2#32
  let v157 : BitVec 1 := Scalar.cmpi .sge arg25 c2_i32_70
  let c508_i32 : BitVec 32 := 508#32
  let c1_i32_68 : BitVec 32 := 1#32
  let v155 : BitVec 1 := Scalar.cmpi .sge arg25 c1_i32_68
  let c222_i32 : BitVec 32 := 222#32
  let c96_i32_69 : BitVec 32 := 96#32
  let v156 : BitVec 32 := Scalar.select v155 c222_i32 c96_i32_69
  let v158 : BitVec 32 := Scalar.select v157 c508_i32 v156
  let v160 : BitVec 32 := Scalar.select v159 c1018_i32 v158
  let v162 : BitVec 32 := Scalar.select v161 c1816_i32 v160
  let v164 : BitVec 32 := Scalar.select v163 c2966_i32 v162
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c144_i32 : BitVec 32 := 144#32
  let v10 : BitVec 32 := Scalar.muli v1 c144_i32
  let v165 : BitVec 32 := Scalar.maxsi v164 v10
  let c16_i32_146 : BitVec 32 := 16#32
  let c0_i32_89 : BitVec 32 := 0#32
  let c1_i32_91 : BitVec 32 := 1#32
  let arg26 : BitVec 32 := Scf.iv c0_i32_89 c1_i32_91 k0_t4
  let v301 : BitVec 32 := Scalar.muli c16_i32_146 arg26
  let v302 : BitVec 32 := Scalar.addi v165 v301
  let v305 : BitVec 32 := Scalar.subi v302 v10
  let c5_i32_181 : BitVec 32 := 5#32
  let v884 : BitVec 32 := Scalar.addi v305 c5_i32_181
  let v885 : BitVec 32 := Scalar.muli c16_i32_182 v884
  let v886 : Index := Scalar.indexCast v885
  ![v886.toNat]

def k0_chk71 (i : grid0.Coords) (v15 : IVec S16 32) (k0_t3 : Fin k0_t3_loop.trips) (k0_t4 : Fin (k0_t4_loop i k0_t3).trips) (v893 : IVec S16 32) (v897 : IVec S16 32) (v899 : IVec S16 32) : Prop :=
  (∀ a x, ((![v15, v893, v897, v899] : Fin 4 → IVec S16 32) a x).toNat < S1x6x16x16.size a)
theorem k0_idx71_inb : ∀ (i : grid0.Coords) (v15 : IVec S16 32) (k0_t3 : Fin k0_t3_loop.trips) (k0_t4 : Fin (k0_t4_loop i k0_t3).trips) (v893 : IVec S16 32) (v897 : IVec S16 32) (v899 : IVec S16 32) (k0_hw71 : k0_chk71 i v15 k0_t3 k0_t4 v893 v897 v899), ∀ a x, ((![v15, v893, v897, v899] : Fin 4 → IVec S16 32) a x).toNat < S1x6x16x16.size a := fun i v15 k0_t3 k0_t4 v893 v897 v899 k0_hw71 => k0_hw71
def k0_off43 (i : grid0.Coords) (k0_t3 : Fin k0_t3_loop.trips) (k0_t4 : Fin (k0_t4_loop i k0_t3).trips) : Fin 1 → Nat :=
  let c16_i32_188 : BitVec 32 := 16#32
  let c0_i32_45 : BitVec 32 := 0#32
  let c1_i32_47 : BitVec 32 := 1#32
  let arg25 : BitVec 32 := Scf.iv c0_i32_45 c1_i32_47 k0_t3
  let c5_i32_73 : BitVec 32 := 5#32
  let v163 : BitVec 1 := Scalar.cmpi .sge arg25 c5_i32_73
  let c2966_i32 : BitVec 32 := 2966#32
  let c4_i32_72 : BitVec 32 := 4#32
  let v161 : BitVec 1 := Scalar.cmpi .sge arg25 c4_i32_72
  let c1816_i32 : BitVec 32 := 1816#32
  let c3_i32_71 : BitVec 32 := 3#32
  let v159 : BitVec 1 := Scalar.cmpi .sge arg25 c3_i32_71
  let c1018_i32 : BitVec 32 := 1018#32
  let c2_i32_70 : BitVec 32 := 2#32
  let v157 : BitVec 1 := Scalar.cmpi .sge arg25 c2_i32_70
  let c508_i32 : BitVec 32 := 508#32
  let c1_i32_68 : BitVec 32 := 1#32
  let v155 : BitVec 1 := Scalar.cmpi .sge arg25 c1_i32_68
  let c222_i32 : BitVec 32 := 222#32
  let c96_i32_69 : BitVec 32 := 96#32
  let v156 : BitVec 32 := Scalar.select v155 c222_i32 c96_i32_69
  let v158 : BitVec 32 := Scalar.select v157 c508_i32 v156
  let v160 : BitVec 32 := Scalar.select v159 c1018_i32 v158
  let v162 : BitVec 32 := Scalar.select v161 c1816_i32 v160
  let v164 : BitVec 32 := Scalar.select v163 c2966_i32 v162
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c144_i32 : BitVec 32 := 144#32
  let v10 : BitVec 32 := Scalar.muli v1 c144_i32
  let v165 : BitVec 32 := Scalar.maxsi v164 v10
  let c16_i32_146 : BitVec 32 := 16#32
  let c0_i32_89 : BitVec 32 := 0#32
  let c1_i32_91 : BitVec 32 := 1#32
  let arg26 : BitVec 32 := Scf.iv c0_i32_89 c1_i32_91 k0_t4
  let v301 : BitVec 32 := Scalar.muli c16_i32_146 arg26
  let v302 : BitVec 32 := Scalar.addi v165 v301
  let v305 : BitVec 32 := Scalar.subi v302 v10
  let c6_i32_187 : BitVec 32 := 6#32
  let v981 : BitVec 32 := Scalar.addi v305 c6_i32_187
  let v982 : BitVec 32 := Scalar.muli c16_i32_188 v981
  let v983 : Index := Scalar.indexCast v982
  ![v983.toNat]

def k0_chk72 (i : grid0.Coords) (v15 : IVec S16 32) (k0_t3 : Fin k0_t3_loop.trips) (k0_t4 : Fin (k0_t4_loop i k0_t3).trips) (v990 : IVec S16 32) (v994 : IVec S16 32) (v996 : IVec S16 32) : Prop :=
  (∀ a x, ((![v15, v990, v994, v996] : Fin 4 → IVec S16 32) a x).toNat < S1x6x16x16.size a)
theorem k0_idx72_inb : ∀ (i : grid0.Coords) (v15 : IVec S16 32) (k0_t3 : Fin k0_t3_loop.trips) (k0_t4 : Fin (k0_t4_loop i k0_t3).trips) (v990 : IVec S16 32) (v994 : IVec S16 32) (v996 : IVec S16 32) (k0_hw72 : k0_chk72 i v15 k0_t3 k0_t4 v990 v994 v996), ∀ a x, ((![v15, v990, v994, v996] : Fin 4 → IVec S16 32) a x).toNat < S1x6x16x16.size a := fun i v15 k0_t3 k0_t4 v990 v994 v996 k0_hw72 => k0_hw72
def k0_off44 (i : grid0.Coords) (k0_t3 : Fin k0_t3_loop.trips) (k0_t4 : Fin (k0_t4_loop i k0_t3).trips) : Fin 1 → Nat :=
  let c16_i32_194 : BitVec 32 := 16#32
  let c0_i32_45 : BitVec 32 := 0#32
  let c1_i32_47 : BitVec 32 := 1#32
  let arg25 : BitVec 32 := Scf.iv c0_i32_45 c1_i32_47 k0_t3
  let c5_i32_73 : BitVec 32 := 5#32
  let v163 : BitVec 1 := Scalar.cmpi .sge arg25 c5_i32_73
  let c2966_i32 : BitVec 32 := 2966#32
  let c4_i32_72 : BitVec 32 := 4#32
  let v161 : BitVec 1 := Scalar.cmpi .sge arg25 c4_i32_72
  let c1816_i32 : BitVec 32 := 1816#32
  let c3_i32_71 : BitVec 32 := 3#32
  let v159 : BitVec 1 := Scalar.cmpi .sge arg25 c3_i32_71
  let c1018_i32 : BitVec 32 := 1018#32
  let c2_i32_70 : BitVec 32 := 2#32
  let v157 : BitVec 1 := Scalar.cmpi .sge arg25 c2_i32_70
  let c508_i32 : BitVec 32 := 508#32
  let c1_i32_68 : BitVec 32 := 1#32
  let v155 : BitVec 1 := Scalar.cmpi .sge arg25 c1_i32_68
  let c222_i32 : BitVec 32 := 222#32
  let c96_i32_69 : BitVec 32 := 96#32
  let v156 : BitVec 32 := Scalar.select v155 c222_i32 c96_i32_69
  let v158 : BitVec 32 := Scalar.select v157 c508_i32 v156
  let v160 : BitVec 32 := Scalar.select v159 c1018_i32 v158
  let v162 : BitVec 32 := Scalar.select v161 c1816_i32 v160
  let v164 : BitVec 32 := Scalar.select v163 c2966_i32 v162
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c144_i32 : BitVec 32 := 144#32
  let v10 : BitVec 32 := Scalar.muli v1 c144_i32
  let v165 : BitVec 32 := Scalar.maxsi v164 v10
  let c16_i32_146 : BitVec 32 := 16#32
  let c0_i32_89 : BitVec 32 := 0#32
  let c1_i32_91 : BitVec 32 := 1#32
  let arg26 : BitVec 32 := Scf.iv c0_i32_89 c1_i32_91 k0_t4
  let v301 : BitVec 32 := Scalar.muli c16_i32_146 arg26
  let v302 : BitVec 32 := Scalar.addi v165 v301
  let v305 : BitVec 32 := Scalar.subi v302 v10
  let c7_i32_193 : BitVec 32 := 7#32
  let v1078 : BitVec 32 := Scalar.addi v305 c7_i32_193
  let v1079 : BitVec 32 := Scalar.muli c16_i32_194 v1078
  let v1080 : Index := Scalar.indexCast v1079
  ![v1080.toNat]

def k0_chk73 (i : grid0.Coords) (v15 : IVec S16 32) (k0_t3 : Fin k0_t3_loop.trips) (k0_t4 : Fin (k0_t4_loop i k0_t3).trips) (v1087 : IVec S16 32) (v1091 : IVec S16 32) (v1093 : IVec S16 32) : Prop :=
  (∀ a x, ((![v15, v1087, v1091, v1093] : Fin 4 → IVec S16 32) a x).toNat < S1x6x16x16.size a)
theorem k0_idx73_inb : ∀ (i : grid0.Coords) (v15 : IVec S16 32) (k0_t3 : Fin k0_t3_loop.trips) (k0_t4 : Fin (k0_t4_loop i k0_t3).trips) (v1087 : IVec S16 32) (v1091 : IVec S16 32) (v1093 : IVec S16 32) (k0_hw73 : k0_chk73 i v15 k0_t3 k0_t4 v1087 v1091 v1093), ∀ a x, ((![v15, v1087, v1091, v1093] : Fin 4 → IVec S16 32) a x).toNat < S1x6x16x16.size a := fun i v15 k0_t3 k0_t4 v1087 v1091 v1093 k0_hw73 => k0_hw73
def k0_off45 (i : grid0.Coords) (k0_t3 : Fin k0_t3_loop.trips) (k0_t4 : Fin (k0_t4_loop i k0_t3).trips) : Fin 1 → Nat :=
  let c16_i32_200 : BitVec 32 := 16#32
  let c0_i32_45 : BitVec 32 := 0#32
  let c1_i32_47 : BitVec 32 := 1#32
  let arg25 : BitVec 32 := Scf.iv c0_i32_45 c1_i32_47 k0_t3
  let c5_i32_73 : BitVec 32 := 5#32
  let v163 : BitVec 1 := Scalar.cmpi .sge arg25 c5_i32_73
  let c2966_i32 : BitVec 32 := 2966#32
  let c4_i32_72 : BitVec 32 := 4#32
  let v161 : BitVec 1 := Scalar.cmpi .sge arg25 c4_i32_72
  let c1816_i32 : BitVec 32 := 1816#32
  let c3_i32_71 : BitVec 32 := 3#32
  let v159 : BitVec 1 := Scalar.cmpi .sge arg25 c3_i32_71
  let c1018_i32 : BitVec 32 := 1018#32
  let c2_i32_70 : BitVec 32 := 2#32
  let v157 : BitVec 1 := Scalar.cmpi .sge arg25 c2_i32_70
  let c508_i32 : BitVec 32 := 508#32
  let c1_i32_68 : BitVec 32 := 1#32
  let v155 : BitVec 1 := Scalar.cmpi .sge arg25 c1_i32_68
  let c222_i32 : BitVec 32 := 222#32
  let c96_i32_69 : BitVec 32 := 96#32
  let v156 : BitVec 32 := Scalar.select v155 c222_i32 c96_i32_69
  let v158 : BitVec 32 := Scalar.select v157 c508_i32 v156
  let v160 : BitVec 32 := Scalar.select v159 c1018_i32 v158
  let v162 : BitVec 32 := Scalar.select v161 c1816_i32 v160
  let v164 : BitVec 32 := Scalar.select v163 c2966_i32 v162
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c144_i32 : BitVec 32 := 144#32
  let v10 : BitVec 32 := Scalar.muli v1 c144_i32
  let v165 : BitVec 32 := Scalar.maxsi v164 v10
  let c16_i32_146 : BitVec 32 := 16#32
  let c0_i32_89 : BitVec 32 := 0#32
  let c1_i32_91 : BitVec 32 := 1#32
  let arg26 : BitVec 32 := Scf.iv c0_i32_89 c1_i32_91 k0_t4
  let v301 : BitVec 32 := Scalar.muli c16_i32_146 arg26
  let v302 : BitVec 32 := Scalar.addi v165 v301
  let v305 : BitVec 32 := Scalar.subi v302 v10
  let c8_i32_199 : BitVec 32 := 8#32
  let v1175 : BitVec 32 := Scalar.addi v305 c8_i32_199
  let v1176 : BitVec 32 := Scalar.muli c16_i32_200 v1175
  let v1177 : Index := Scalar.indexCast v1176
  ![v1177.toNat]

def k0_chk74 (i : grid0.Coords) (v15 : IVec S16 32) (k0_t3 : Fin k0_t3_loop.trips) (k0_t4 : Fin (k0_t4_loop i k0_t3).trips) (v1184 : IVec S16 32) (v1188 : IVec S16 32) (v1190 : IVec S16 32) : Prop :=
  (∀ a x, ((![v15, v1184, v1188, v1190] : Fin 4 → IVec S16 32) a x).toNat < S1x6x16x16.size a)
theorem k0_idx74_inb : ∀ (i : grid0.Coords) (v15 : IVec S16 32) (k0_t3 : Fin k0_t3_loop.trips) (k0_t4 : Fin (k0_t4_loop i k0_t3).trips) (v1184 : IVec S16 32) (v1188 : IVec S16 32) (v1190 : IVec S16 32) (k0_hw74 : k0_chk74 i v15 k0_t3 k0_t4 v1184 v1188 v1190), ∀ a x, ((![v15, v1184, v1188, v1190] : Fin 4 → IVec S16 32) a x).toNat < S1x6x16x16.size a := fun i v15 k0_t3 k0_t4 v1184 v1188 v1190 k0_hw74 => k0_hw74
def k0_off46 (i : grid0.Coords) (k0_t3 : Fin k0_t3_loop.trips) (k0_t4 : Fin (k0_t4_loop i k0_t3).trips) : Fin 1 → Nat :=
  let c16_i32_206 : BitVec 32 := 16#32
  let c0_i32_45 : BitVec 32 := 0#32
  let c1_i32_47 : BitVec 32 := 1#32
  let arg25 : BitVec 32 := Scf.iv c0_i32_45 c1_i32_47 k0_t3
  let c5_i32_73 : BitVec 32 := 5#32
  let v163 : BitVec 1 := Scalar.cmpi .sge arg25 c5_i32_73
  let c2966_i32 : BitVec 32 := 2966#32
  let c4_i32_72 : BitVec 32 := 4#32
  let v161 : BitVec 1 := Scalar.cmpi .sge arg25 c4_i32_72
  let c1816_i32 : BitVec 32 := 1816#32
  let c3_i32_71 : BitVec 32 := 3#32
  let v159 : BitVec 1 := Scalar.cmpi .sge arg25 c3_i32_71
  let c1018_i32 : BitVec 32 := 1018#32
  let c2_i32_70 : BitVec 32 := 2#32
  let v157 : BitVec 1 := Scalar.cmpi .sge arg25 c2_i32_70
  let c508_i32 : BitVec 32 := 508#32
  let c1_i32_68 : BitVec 32 := 1#32
  let v155 : BitVec 1 := Scalar.cmpi .sge arg25 c1_i32_68
  let c222_i32 : BitVec 32 := 222#32
  let c96_i32_69 : BitVec 32 := 96#32
  let v156 : BitVec 32 := Scalar.select v155 c222_i32 c96_i32_69
  let v158 : BitVec 32 := Scalar.select v157 c508_i32 v156
  let v160 : BitVec 32 := Scalar.select v159 c1018_i32 v158
  let v162 : BitVec 32 := Scalar.select v161 c1816_i32 v160
  let v164 : BitVec 32 := Scalar.select v163 c2966_i32 v162
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c144_i32 : BitVec 32 := 144#32
  let v10 : BitVec 32 := Scalar.muli v1 c144_i32
  let v165 : BitVec 32 := Scalar.maxsi v164 v10
  let c16_i32_146 : BitVec 32 := 16#32
  let c0_i32_89 : BitVec 32 := 0#32
  let c1_i32_91 : BitVec 32 := 1#32
  let arg26 : BitVec 32 := Scf.iv c0_i32_89 c1_i32_91 k0_t4
  let v301 : BitVec 32 := Scalar.muli c16_i32_146 arg26
  let v302 : BitVec 32 := Scalar.addi v165 v301
  let v305 : BitVec 32 := Scalar.subi v302 v10
  let c9_i32_205 : BitVec 32 := 9#32
  let v1272 : BitVec 32 := Scalar.addi v305 c9_i32_205
  let v1273 : BitVec 32 := Scalar.muli c16_i32_206 v1272
  let v1274 : Index := Scalar.indexCast v1273
  ![v1274.toNat]

def k0_chk75 (i : grid0.Coords) (v15 : IVec S16 32) (k0_t3 : Fin k0_t3_loop.trips) (k0_t4 : Fin (k0_t4_loop i k0_t3).trips) (v1281 : IVec S16 32) (v1285 : IVec S16 32) (v1287 : IVec S16 32) : Prop :=
  (∀ a x, ((![v15, v1281, v1285, v1287] : Fin 4 → IVec S16 32) a x).toNat < S1x6x16x16.size a)
theorem k0_idx75_inb : ∀ (i : grid0.Coords) (v15 : IVec S16 32) (k0_t3 : Fin k0_t3_loop.trips) (k0_t4 : Fin (k0_t4_loop i k0_t3).trips) (v1281 : IVec S16 32) (v1285 : IVec S16 32) (v1287 : IVec S16 32) (k0_hw75 : k0_chk75 i v15 k0_t3 k0_t4 v1281 v1285 v1287), ∀ a x, ((![v15, v1281, v1285, v1287] : Fin 4 → IVec S16 32) a x).toNat < S1x6x16x16.size a := fun i v15 k0_t3 k0_t4 v1281 v1285 v1287 k0_hw75 => k0_hw75
def k0_off47 (i : grid0.Coords) (k0_t3 : Fin k0_t3_loop.trips) (k0_t4 : Fin (k0_t4_loop i k0_t3).trips) : Fin 1 → Nat :=
  let c16_i32_212 : BitVec 32 := 16#32
  let c0_i32_45 : BitVec 32 := 0#32
  let c1_i32_47 : BitVec 32 := 1#32
  let arg25 : BitVec 32 := Scf.iv c0_i32_45 c1_i32_47 k0_t3
  let c5_i32_73 : BitVec 32 := 5#32
  let v163 : BitVec 1 := Scalar.cmpi .sge arg25 c5_i32_73
  let c2966_i32 : BitVec 32 := 2966#32
  let c4_i32_72 : BitVec 32 := 4#32
  let v161 : BitVec 1 := Scalar.cmpi .sge arg25 c4_i32_72
  let c1816_i32 : BitVec 32 := 1816#32
  let c3_i32_71 : BitVec 32 := 3#32
  let v159 : BitVec 1 := Scalar.cmpi .sge arg25 c3_i32_71
  let c1018_i32 : BitVec 32 := 1018#32
  let c2_i32_70 : BitVec 32 := 2#32
  let v157 : BitVec 1 := Scalar.cmpi .sge arg25 c2_i32_70
  let c508_i32 : BitVec 32 := 508#32
  let c1_i32_68 : BitVec 32 := 1#32
  let v155 : BitVec 1 := Scalar.cmpi .sge arg25 c1_i32_68
  let c222_i32 : BitVec 32 := 222#32
  let c96_i32_69 : BitVec 32 := 96#32
  let v156 : BitVec 32 := Scalar.select v155 c222_i32 c96_i32_69
  let v158 : BitVec 32 := Scalar.select v157 c508_i32 v156
  let v160 : BitVec 32 := Scalar.select v159 c1018_i32 v158
  let v162 : BitVec 32 := Scalar.select v161 c1816_i32 v160
  let v164 : BitVec 32 := Scalar.select v163 c2966_i32 v162
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c144_i32 : BitVec 32 := 144#32
  let v10 : BitVec 32 := Scalar.muli v1 c144_i32
  let v165 : BitVec 32 := Scalar.maxsi v164 v10
  let c16_i32_146 : BitVec 32 := 16#32
  let c0_i32_89 : BitVec 32 := 0#32
  let c1_i32_91 : BitVec 32 := 1#32
  let arg26 : BitVec 32 := Scf.iv c0_i32_89 c1_i32_91 k0_t4
  let v301 : BitVec 32 := Scalar.muli c16_i32_146 arg26
  let v302 : BitVec 32 := Scalar.addi v165 v301
  let v305 : BitVec 32 := Scalar.subi v302 v10
  let c10_i32_211 : BitVec 32 := 10#32
  let v1369 : BitVec 32 := Scalar.addi v305 c10_i32_211
  let v1370 : BitVec 32 := Scalar.muli c16_i32_212 v1369
  let v1371 : Index := Scalar.indexCast v1370
  ![v1371.toNat]

def k0_chk76 (i : grid0.Coords) (v15 : IVec S16 32) (k0_t3 : Fin k0_t3_loop.trips) (k0_t4 : Fin (k0_t4_loop i k0_t3).trips) (v1378 : IVec S16 32) (v1382 : IVec S16 32) (v1384 : IVec S16 32) : Prop :=
  (∀ a x, ((![v15, v1378, v1382, v1384] : Fin 4 → IVec S16 32) a x).toNat < S1x6x16x16.size a)
theorem k0_idx76_inb : ∀ (i : grid0.Coords) (v15 : IVec S16 32) (k0_t3 : Fin k0_t3_loop.trips) (k0_t4 : Fin (k0_t4_loop i k0_t3).trips) (v1378 : IVec S16 32) (v1382 : IVec S16 32) (v1384 : IVec S16 32) (k0_hw76 : k0_chk76 i v15 k0_t3 k0_t4 v1378 v1382 v1384), ∀ a x, ((![v15, v1378, v1382, v1384] : Fin 4 → IVec S16 32) a x).toNat < S1x6x16x16.size a := fun i v15 k0_t3 k0_t4 v1378 v1382 v1384 k0_hw76 => k0_hw76
def k0_off48 (i : grid0.Coords) (k0_t3 : Fin k0_t3_loop.trips) (k0_t4 : Fin (k0_t4_loop i k0_t3).trips) : Fin 1 → Nat :=
  let c16_i32_218 : BitVec 32 := 16#32
  let c0_i32_45 : BitVec 32 := 0#32
  let c1_i32_47 : BitVec 32 := 1#32
  let arg25 : BitVec 32 := Scf.iv c0_i32_45 c1_i32_47 k0_t3
  let c5_i32_73 : BitVec 32 := 5#32
  let v163 : BitVec 1 := Scalar.cmpi .sge arg25 c5_i32_73
  let c2966_i32 : BitVec 32 := 2966#32
  let c4_i32_72 : BitVec 32 := 4#32
  let v161 : BitVec 1 := Scalar.cmpi .sge arg25 c4_i32_72
  let c1816_i32 : BitVec 32 := 1816#32
  let c3_i32_71 : BitVec 32 := 3#32
  let v159 : BitVec 1 := Scalar.cmpi .sge arg25 c3_i32_71
  let c1018_i32 : BitVec 32 := 1018#32
  let c2_i32_70 : BitVec 32 := 2#32
  let v157 : BitVec 1 := Scalar.cmpi .sge arg25 c2_i32_70
  let c508_i32 : BitVec 32 := 508#32
  let c1_i32_68 : BitVec 32 := 1#32
  let v155 : BitVec 1 := Scalar.cmpi .sge arg25 c1_i32_68
  let c222_i32 : BitVec 32 := 222#32
  let c96_i32_69 : BitVec 32 := 96#32
  let v156 : BitVec 32 := Scalar.select v155 c222_i32 c96_i32_69
  let v158 : BitVec 32 := Scalar.select v157 c508_i32 v156
  let v160 : BitVec 32 := Scalar.select v159 c1018_i32 v158
  let v162 : BitVec 32 := Scalar.select v161 c1816_i32 v160
  let v164 : BitVec 32 := Scalar.select v163 c2966_i32 v162
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c144_i32 : BitVec 32 := 144#32
  let v10 : BitVec 32 := Scalar.muli v1 c144_i32
  let v165 : BitVec 32 := Scalar.maxsi v164 v10
  let c16_i32_146 : BitVec 32 := 16#32
  let c0_i32_89 : BitVec 32 := 0#32
  let c1_i32_91 : BitVec 32 := 1#32
  let arg26 : BitVec 32 := Scf.iv c0_i32_89 c1_i32_91 k0_t4
  let v301 : BitVec 32 := Scalar.muli c16_i32_146 arg26
  let v302 : BitVec 32 := Scalar.addi v165 v301
  let v305 : BitVec 32 := Scalar.subi v302 v10
  let c11_i32_217 : BitVec 32 := 11#32
  let v1466 : BitVec 32 := Scalar.addi v305 c11_i32_217
  let v1467 : BitVec 32 := Scalar.muli c16_i32_218 v1466
  let v1468 : Index := Scalar.indexCast v1467
  ![v1468.toNat]

def k0_chk77 (i : grid0.Coords) (v15 : IVec S16 32) (k0_t3 : Fin k0_t3_loop.trips) (k0_t4 : Fin (k0_t4_loop i k0_t3).trips) (v1475 : IVec S16 32) (v1479 : IVec S16 32) (v1481 : IVec S16 32) : Prop :=
  (∀ a x, ((![v15, v1475, v1479, v1481] : Fin 4 → IVec S16 32) a x).toNat < S1x6x16x16.size a)
theorem k0_idx77_inb : ∀ (i : grid0.Coords) (v15 : IVec S16 32) (k0_t3 : Fin k0_t3_loop.trips) (k0_t4 : Fin (k0_t4_loop i k0_t3).trips) (v1475 : IVec S16 32) (v1479 : IVec S16 32) (v1481 : IVec S16 32) (k0_hw77 : k0_chk77 i v15 k0_t3 k0_t4 v1475 v1479 v1481), ∀ a x, ((![v15, v1475, v1479, v1481] : Fin 4 → IVec S16 32) a x).toNat < S1x6x16x16.size a := fun i v15 k0_t3 k0_t4 v1475 v1479 v1481 k0_hw77 => k0_hw77
def k0_off49 (i : grid0.Coords) (k0_t3 : Fin k0_t3_loop.trips) (k0_t4 : Fin (k0_t4_loop i k0_t3).trips) : Fin 1 → Nat :=
  let c16_i32_224 : BitVec 32 := 16#32
  let c0_i32_45 : BitVec 32 := 0#32
  let c1_i32_47 : BitVec 32 := 1#32
  let arg25 : BitVec 32 := Scf.iv c0_i32_45 c1_i32_47 k0_t3
  let c5_i32_73 : BitVec 32 := 5#32
  let v163 : BitVec 1 := Scalar.cmpi .sge arg25 c5_i32_73
  let c2966_i32 : BitVec 32 := 2966#32
  let c4_i32_72 : BitVec 32 := 4#32
  let v161 : BitVec 1 := Scalar.cmpi .sge arg25 c4_i32_72
  let c1816_i32 : BitVec 32 := 1816#32
  let c3_i32_71 : BitVec 32 := 3#32
  let v159 : BitVec 1 := Scalar.cmpi .sge arg25 c3_i32_71
  let c1018_i32 : BitVec 32 := 1018#32
  let c2_i32_70 : BitVec 32 := 2#32
  let v157 : BitVec 1 := Scalar.cmpi .sge arg25 c2_i32_70
  let c508_i32 : BitVec 32 := 508#32
  let c1_i32_68 : BitVec 32 := 1#32
  let v155 : BitVec 1 := Scalar.cmpi .sge arg25 c1_i32_68
  let c222_i32 : BitVec 32 := 222#32
  let c96_i32_69 : BitVec 32 := 96#32
  let v156 : BitVec 32 := Scalar.select v155 c222_i32 c96_i32_69
  let v158 : BitVec 32 := Scalar.select v157 c508_i32 v156
  let v160 : BitVec 32 := Scalar.select v159 c1018_i32 v158
  let v162 : BitVec 32 := Scalar.select v161 c1816_i32 v160
  let v164 : BitVec 32 := Scalar.select v163 c2966_i32 v162
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c144_i32 : BitVec 32 := 144#32
  let v10 : BitVec 32 := Scalar.muli v1 c144_i32
  let v165 : BitVec 32 := Scalar.maxsi v164 v10
  let c16_i32_146 : BitVec 32 := 16#32
  let c0_i32_89 : BitVec 32 := 0#32
  let c1_i32_91 : BitVec 32 := 1#32
  let arg26 : BitVec 32 := Scf.iv c0_i32_89 c1_i32_91 k0_t4
  let v301 : BitVec 32 := Scalar.muli c16_i32_146 arg26
  let v302 : BitVec 32 := Scalar.addi v165 v301
  let v305 : BitVec 32 := Scalar.subi v302 v10
  let c12_i32_223 : BitVec 32 := 12#32
  let v1563 : BitVec 32 := Scalar.addi v305 c12_i32_223
  let v1564 : BitVec 32 := Scalar.muli c16_i32_224 v1563
  let v1565 : Index := Scalar.indexCast v1564
  ![v1565.toNat]

def k0_chk78 (i : grid0.Coords) (v15 : IVec S16 32) (k0_t3 : Fin k0_t3_loop.trips) (k0_t4 : Fin (k0_t4_loop i k0_t3).trips) (v1572 : IVec S16 32) (v1576 : IVec S16 32) (v1578 : IVec S16 32) : Prop :=
  (∀ a x, ((![v15, v1572, v1576, v1578] : Fin 4 → IVec S16 32) a x).toNat < S1x6x16x16.size a)
theorem k0_idx78_inb : ∀ (i : grid0.Coords) (v15 : IVec S16 32) (k0_t3 : Fin k0_t3_loop.trips) (k0_t4 : Fin (k0_t4_loop i k0_t3).trips) (v1572 : IVec S16 32) (v1576 : IVec S16 32) (v1578 : IVec S16 32) (k0_hw78 : k0_chk78 i v15 k0_t3 k0_t4 v1572 v1576 v1578), ∀ a x, ((![v15, v1572, v1576, v1578] : Fin 4 → IVec S16 32) a x).toNat < S1x6x16x16.size a := fun i v15 k0_t3 k0_t4 v1572 v1576 v1578 k0_hw78 => k0_hw78
def k0_off50 (i : grid0.Coords) (k0_t3 : Fin k0_t3_loop.trips) (k0_t4 : Fin (k0_t4_loop i k0_t3).trips) : Fin 1 → Nat :=
  let c16_i32_230 : BitVec 32 := 16#32
  let c0_i32_45 : BitVec 32 := 0#32
  let c1_i32_47 : BitVec 32 := 1#32
  let arg25 : BitVec 32 := Scf.iv c0_i32_45 c1_i32_47 k0_t3
  let c5_i32_73 : BitVec 32 := 5#32
  let v163 : BitVec 1 := Scalar.cmpi .sge arg25 c5_i32_73
  let c2966_i32 : BitVec 32 := 2966#32
  let c4_i32_72 : BitVec 32 := 4#32
  let v161 : BitVec 1 := Scalar.cmpi .sge arg25 c4_i32_72
  let c1816_i32 : BitVec 32 := 1816#32
  let c3_i32_71 : BitVec 32 := 3#32
  let v159 : BitVec 1 := Scalar.cmpi .sge arg25 c3_i32_71
  let c1018_i32 : BitVec 32 := 1018#32
  let c2_i32_70 : BitVec 32 := 2#32
  let v157 : BitVec 1 := Scalar.cmpi .sge arg25 c2_i32_70
  let c508_i32 : BitVec 32 := 508#32
  let c1_i32_68 : BitVec 32 := 1#32
  let v155 : BitVec 1 := Scalar.cmpi .sge arg25 c1_i32_68
  let c222_i32 : BitVec 32 := 222#32
  let c96_i32_69 : BitVec 32 := 96#32
  let v156 : BitVec 32 := Scalar.select v155 c222_i32 c96_i32_69
  let v158 : BitVec 32 := Scalar.select v157 c508_i32 v156
  let v160 : BitVec 32 := Scalar.select v159 c1018_i32 v158
  let v162 : BitVec 32 := Scalar.select v161 c1816_i32 v160
  let v164 : BitVec 32 := Scalar.select v163 c2966_i32 v162
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c144_i32 : BitVec 32 := 144#32
  let v10 : BitVec 32 := Scalar.muli v1 c144_i32
  let v165 : BitVec 32 := Scalar.maxsi v164 v10
  let c16_i32_146 : BitVec 32 := 16#32
  let c0_i32_89 : BitVec 32 := 0#32
  let c1_i32_91 : BitVec 32 := 1#32
  let arg26 : BitVec 32 := Scf.iv c0_i32_89 c1_i32_91 k0_t4
  let v301 : BitVec 32 := Scalar.muli c16_i32_146 arg26
  let v302 : BitVec 32 := Scalar.addi v165 v301
  let v305 : BitVec 32 := Scalar.subi v302 v10
  let c13_i32_229 : BitVec 32 := 13#32
  let v1660 : BitVec 32 := Scalar.addi v305 c13_i32_229
  let v1661 : BitVec 32 := Scalar.muli c16_i32_230 v1660
  let v1662 : Index := Scalar.indexCast v1661
  ![v1662.toNat]

def k0_chk79 (i : grid0.Coords) (v15 : IVec S16 32) (k0_t3 : Fin k0_t3_loop.trips) (k0_t4 : Fin (k0_t4_loop i k0_t3).trips) (v1669 : IVec S16 32) (v1673 : IVec S16 32) (v1675 : IVec S16 32) : Prop :=
  (∀ a x, ((![v15, v1669, v1673, v1675] : Fin 4 → IVec S16 32) a x).toNat < S1x6x16x16.size a)
theorem k0_idx79_inb : ∀ (i : grid0.Coords) (v15 : IVec S16 32) (k0_t3 : Fin k0_t3_loop.trips) (k0_t4 : Fin (k0_t4_loop i k0_t3).trips) (v1669 : IVec S16 32) (v1673 : IVec S16 32) (v1675 : IVec S16 32) (k0_hw79 : k0_chk79 i v15 k0_t3 k0_t4 v1669 v1673 v1675), ∀ a x, ((![v15, v1669, v1673, v1675] : Fin 4 → IVec S16 32) a x).toNat < S1x6x16x16.size a := fun i v15 k0_t3 k0_t4 v1669 v1673 v1675 k0_hw79 => k0_hw79
def k0_off51 (i : grid0.Coords) (k0_t3 : Fin k0_t3_loop.trips) (k0_t4 : Fin (k0_t4_loop i k0_t3).trips) : Fin 1 → Nat :=
  let c16_i32_236 : BitVec 32 := 16#32
  let c0_i32_45 : BitVec 32 := 0#32
  let c1_i32_47 : BitVec 32 := 1#32
  let arg25 : BitVec 32 := Scf.iv c0_i32_45 c1_i32_47 k0_t3
  let c5_i32_73 : BitVec 32 := 5#32
  let v163 : BitVec 1 := Scalar.cmpi .sge arg25 c5_i32_73
  let c2966_i32 : BitVec 32 := 2966#32
  let c4_i32_72 : BitVec 32 := 4#32
  let v161 : BitVec 1 := Scalar.cmpi .sge arg25 c4_i32_72
  let c1816_i32 : BitVec 32 := 1816#32
  let c3_i32_71 : BitVec 32 := 3#32
  let v159 : BitVec 1 := Scalar.cmpi .sge arg25 c3_i32_71
  let c1018_i32 : BitVec 32 := 1018#32
  let c2_i32_70 : BitVec 32 := 2#32
  let v157 : BitVec 1 := Scalar.cmpi .sge arg25 c2_i32_70
  let c508_i32 : BitVec 32 := 508#32
  let c1_i32_68 : BitVec 32 := 1#32
  let v155 : BitVec 1 := Scalar.cmpi .sge arg25 c1_i32_68
  let c222_i32 : BitVec 32 := 222#32
  let c96_i32_69 : BitVec 32 := 96#32
  let v156 : BitVec 32 := Scalar.select v155 c222_i32 c96_i32_69
  let v158 : BitVec 32 := Scalar.select v157 c508_i32 v156
  let v160 : BitVec 32 := Scalar.select v159 c1018_i32 v158
  let v162 : BitVec 32 := Scalar.select v161 c1816_i32 v160
  let v164 : BitVec 32 := Scalar.select v163 c2966_i32 v162
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c144_i32 : BitVec 32 := 144#32
  let v10 : BitVec 32 := Scalar.muli v1 c144_i32
  let v165 : BitVec 32 := Scalar.maxsi v164 v10
  let c16_i32_146 : BitVec 32 := 16#32
  let c0_i32_89 : BitVec 32 := 0#32
  let c1_i32_91 : BitVec 32 := 1#32
  let arg26 : BitVec 32 := Scf.iv c0_i32_89 c1_i32_91 k0_t4
  let v301 : BitVec 32 := Scalar.muli c16_i32_146 arg26
  let v302 : BitVec 32 := Scalar.addi v165 v301
  let v305 : BitVec 32 := Scalar.subi v302 v10
  let c14_i32_235 : BitVec 32 := 14#32
  let v1757 : BitVec 32 := Scalar.addi v305 c14_i32_235
  let v1758 : BitVec 32 := Scalar.muli c16_i32_236 v1757
  let v1759 : Index := Scalar.indexCast v1758
  ![v1759.toNat]

def k0_chk80 (i : grid0.Coords) (v15 : IVec S16 32) (k0_t3 : Fin k0_t3_loop.trips) (k0_t4 : Fin (k0_t4_loop i k0_t3).trips) (v1766 : IVec S16 32) (v1770 : IVec S16 32) (v1772 : IVec S16 32) : Prop :=
  (∀ a x, ((![v15, v1766, v1770, v1772] : Fin 4 → IVec S16 32) a x).toNat < S1x6x16x16.size a)
theorem k0_idx80_inb : ∀ (i : grid0.Coords) (v15 : IVec S16 32) (k0_t3 : Fin k0_t3_loop.trips) (k0_t4 : Fin (k0_t4_loop i k0_t3).trips) (v1766 : IVec S16 32) (v1770 : IVec S16 32) (v1772 : IVec S16 32) (k0_hw80 : k0_chk80 i v15 k0_t3 k0_t4 v1766 v1770 v1772), ∀ a x, ((![v15, v1766, v1770, v1772] : Fin 4 → IVec S16 32) a x).toNat < S1x6x16x16.size a := fun i v15 k0_t3 k0_t4 v1766 v1770 v1772 k0_hw80 => k0_hw80
def k0_off52 (i : grid0.Coords) (k0_t3 : Fin k0_t3_loop.trips) (k0_t4 : Fin (k0_t4_loop i k0_t3).trips) : Fin 1 → Nat :=
  let c16_i32_242 : BitVec 32 := 16#32
  let c0_i32_45 : BitVec 32 := 0#32
  let c1_i32_47 : BitVec 32 := 1#32
  let arg25 : BitVec 32 := Scf.iv c0_i32_45 c1_i32_47 k0_t3
  let c5_i32_73 : BitVec 32 := 5#32
  let v163 : BitVec 1 := Scalar.cmpi .sge arg25 c5_i32_73
  let c2966_i32 : BitVec 32 := 2966#32
  let c4_i32_72 : BitVec 32 := 4#32
  let v161 : BitVec 1 := Scalar.cmpi .sge arg25 c4_i32_72
  let c1816_i32 : BitVec 32 := 1816#32
  let c3_i32_71 : BitVec 32 := 3#32
  let v159 : BitVec 1 := Scalar.cmpi .sge arg25 c3_i32_71
  let c1018_i32 : BitVec 32 := 1018#32
  let c2_i32_70 : BitVec 32 := 2#32
  let v157 : BitVec 1 := Scalar.cmpi .sge arg25 c2_i32_70
  let c508_i32 : BitVec 32 := 508#32
  let c1_i32_68 : BitVec 32 := 1#32
  let v155 : BitVec 1 := Scalar.cmpi .sge arg25 c1_i32_68
  let c222_i32 : BitVec 32 := 222#32
  let c96_i32_69 : BitVec 32 := 96#32
  let v156 : BitVec 32 := Scalar.select v155 c222_i32 c96_i32_69
  let v158 : BitVec 32 := Scalar.select v157 c508_i32 v156
  let v160 : BitVec 32 := Scalar.select v159 c1018_i32 v158
  let v162 : BitVec 32 := Scalar.select v161 c1816_i32 v160
  let v164 : BitVec 32 := Scalar.select v163 c2966_i32 v162
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c144_i32 : BitVec 32 := 144#32
  let v10 : BitVec 32 := Scalar.muli v1 c144_i32
  let v165 : BitVec 32 := Scalar.maxsi v164 v10
  let c16_i32_146 : BitVec 32 := 16#32
  let c0_i32_89 : BitVec 32 := 0#32
  let c1_i32_91 : BitVec 32 := 1#32
  let arg26 : BitVec 32 := Scf.iv c0_i32_89 c1_i32_91 k0_t4
  let v301 : BitVec 32 := Scalar.muli c16_i32_146 arg26
  let v302 : BitVec 32 := Scalar.addi v165 v301
  let v305 : BitVec 32 := Scalar.subi v302 v10
  let c15_i32_241 : BitVec 32 := 15#32
  let v1854 : BitVec 32 := Scalar.addi v305 c15_i32_241
  let v1855 : BitVec 32 := Scalar.muli c16_i32_242 v1854
  let v1856 : Index := Scalar.indexCast v1855
  ![v1856.toNat]
@[reducible] def k0_t5_loop (i : grid0.Coords) (k0_t3 : Fin k0_t3_loop.trips) : Scf.Loop 32 :=
  let c0_i32_89 : BitVec 32 := 0#32
  let c0_i32_87 : BitVec 32 := 0#32
  let c0_i32_45 : BitVec 32 := 0#32
  let c1_i32_47 : BitVec 32 := 1#32
  let arg25 : BitVec 32 := Scf.iv c0_i32_45 c1_i32_47 k0_t3
  let c5_i32_78 : BitVec 32 := 5#32
  let v174 : BitVec 1 := Scalar.cmpi .sge arg25 c5_i32_78
  let c3749_i32 : BitVec 32 := 3749#32
  let c4_i32_77 : BitVec 32 := 4#32
  let v172 : BitVec 1 := Scalar.cmpi .sge arg25 c4_i32_77
  let c2391_i32 : BitVec 32 := 2391#32
  let c3_i32_76 : BitVec 32 := 3#32
  let v170 : BitVec 1 := Scalar.cmpi .sge arg25 c3_i32_76
  let c1417_i32 : BitVec 32 := 1417#32
  let c2_i32_75 : BitVec 32 := 2#32
  let v168 : BitVec 1 := Scalar.cmpi .sge arg25 c2_i32_75
  let c763_i32 : BitVec 32 := 763#32
  let c1_i32_74 : BitVec 32 := 1#32
  let v166 : BitVec 1 := Scalar.cmpi .sge arg25 c1_i32_74
  let c365_i32 : BitVec 32 := 365#32
  let c159_i32 : BitVec 32 := 159#32
  let v167 : BitVec 32 := Scalar.select v166 c365_i32 c159_i32
  let v169 : BitVec 32 := Scalar.select v168 c763_i32 v167
  let v171 : BitVec 32 := Scalar.select v170 c1417_i32 v169
  let v173 : BitVec 32 := Scalar.select v172 c2391_i32 v171
  let v175 : BitVec 32 := Scalar.select v174 c3749_i32 v173
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c144_i32 : BitVec 32 := 144#32
  let v10 : BitVec 32 := Scalar.muli v1 c144_i32
  let c144_i32_23 : BitVec 32 := 144#32
  let v11 : BitVec 32 := Scalar.addi v10 c144_i32_23
  let c4532_i32 : BitVec 32 := 4532#32
  let v12 : BitVec 32 := Scalar.minsi v11 c4532_i32
  let v176 : BitVec 32 := Scalar.minsi v175 v12
  let c5_i32_73 : BitVec 32 := 5#32
  let v163 : BitVec 1 := Scalar.cmpi .sge arg25 c5_i32_73
  let c2966_i32 : BitVec 32 := 2966#32
  let c4_i32_72 : BitVec 32 := 4#32
  let v161 : BitVec 1 := Scalar.cmpi .sge arg25 c4_i32_72
  let c1816_i32 : BitVec 32 := 1816#32
  let c3_i32_71 : BitVec 32 := 3#32
  let v159 : BitVec 1 := Scalar.cmpi .sge arg25 c3_i32_71
  let c1018_i32 : BitVec 32 := 1018#32
  let c2_i32_70 : BitVec 32 := 2#32
  let v157 : BitVec 1 := Scalar.cmpi .sge arg25 c2_i32_70
  let c508_i32 : BitVec 32 := 508#32
  let c1_i32_68 : BitVec 32 := 1#32
  let v155 : BitVec 1 := Scalar.cmpi .sge arg25 c1_i32_68
  let c222_i32 : BitVec 32 := 222#32
  let c96_i32_69 : BitVec 32 := 96#32
  let v156 : BitVec 32 := Scalar.select v155 c222_i32 c96_i32_69
  let v158 : BitVec 32 := Scalar.select v157 c508_i32 v156
  let v160 : BitVec 32 := Scalar.select v159 c1018_i32 v158
  let v162 : BitVec 32 := Scalar.select v161 c1816_i32 v160
  let v164 : BitVec 32 := Scalar.select v163 c2966_i32 v162
  let v165 : BitVec 32 := Scalar.maxsi v164 v10
  let v179 : BitVec 32 := Scalar.subi v176 v165
  let c15_i32_79 : BitVec 32 := 15#32
  let v180 : BitVec 32 := Scalar.addi v179 c15_i32_79
  let c0_i32_81 : BitVec 32 := 0#32
  let v182 : BitVec 1 := Scalar.cmpi .sgt v180 c0_i32_81
  let v183 : BitVec 32 := Scalar.extui v182
  let c0_i32_82 : BitVec 32 := 0#32
  let v184 : BitVec 1 := Scalar.cmpi .slt v180 c0_i32_82
  let v185 : BitVec 32 := Scalar.extui v184
  let v186 : BitVec 32 := Scalar.subi v183 v185
  let c16_i32_80 : BitVec 32 := 16#32
  let c0_i32_83 : BitVec 32 := 0#32
  let v187 : BitVec 1 := Scalar.cmpi .sgt c16_i32_80 c0_i32_83
  let v188 : BitVec 32 := Scalar.extui v187
  let c0_i32_84 : BitVec 32 := 0#32
  let v189 : BitVec 1 := Scalar.cmpi .slt c16_i32_80 c0_i32_84
  let v190 : BitVec 32 := Scalar.extui v189
  let v191 : BitVec 32 := Scalar.subi v188 v190
  let v192 : BitVec 1 := Scalar.cmpi .ne v186 v191
  let v193 : BitVec 32 := Scalar.remsi v180 c16_i32_80
  let c0_i32_85 : BitVec 32 := 0#32
  let v194 : BitVec 1 := Scalar.cmpi .ne v193 c0_i32_85
  let v195 : BitVec 1 := Scalar.andi v192 v194
  let v181 : BitVec 32 := Scalar.divsi v180 c16_i32_80
  let c1_i32_86 : BitVec 32 := 1#32
  let v196 : BitVec 32 := Scalar.subi v181 c1_i32_86
  let v197 : BitVec 32 := Scalar.select v195 v196 v181
  let v198 : BitVec 32 := Scalar.maxsi c0_i32_87 v197
  let v199 : BitVec 32 := Scalar.subi v198 c0_i32_89
  let c1_i32_90 : BitVec 32 := 1#32
  let v201 : BitVec 32 := Scalar.divsi v199 c1_i32_90
  let v202 : BitVec 32 := Scalar.muli v201 c1_i32_90
  let v203 : BitVec 32 := Scalar.addi c0_i32_89 v202
  let v200 : BitVec 32 := Scalar.addi c0_i32_89 v199
  let c1_i32_92 : BitVec 32 := 1#32
  ⟨v203, v200, c1_i32_92⟩
def k0_off53 (i : grid0.Coords) (k0_t3 : Fin k0_t3_loop.trips) (k0_t5 : Fin (k0_t5_loop i k0_t3).trips) : Fin 1 → Nat :=
  let c0_i32_45 : BitVec 32 := 0#32
  let c1_i32_47 : BitVec 32 := 1#32
  let arg25 : BitVec 32 := Scf.iv c0_i32_45 c1_i32_47 k0_t3
  let c5_i32_73 : BitVec 32 := 5#32
  let v163 : BitVec 1 := Scalar.cmpi .sge arg25 c5_i32_73
  let c2966_i32 : BitVec 32 := 2966#32
  let c4_i32_72 : BitVec 32 := 4#32
  let v161 : BitVec 1 := Scalar.cmpi .sge arg25 c4_i32_72
  let c1816_i32 : BitVec 32 := 1816#32
  let c3_i32_71 : BitVec 32 := 3#32
  let v159 : BitVec 1 := Scalar.cmpi .sge arg25 c3_i32_71
  let c1018_i32 : BitVec 32 := 1018#32
  let c2_i32_70 : BitVec 32 := 2#32
  let v157 : BitVec 1 := Scalar.cmpi .sge arg25 c2_i32_70
  let c508_i32 : BitVec 32 := 508#32
  let c1_i32_68 : BitVec 32 := 1#32
  let v155 : BitVec 1 := Scalar.cmpi .sge arg25 c1_i32_68
  let c222_i32 : BitVec 32 := 222#32
  let c96_i32_69 : BitVec 32 := 96#32
  let v156 : BitVec 32 := Scalar.select v155 c222_i32 c96_i32_69
  let v158 : BitVec 32 := Scalar.select v157 c508_i32 v156
  let v160 : BitVec 32 := Scalar.select v159 c1018_i32 v158
  let v162 : BitVec 32 := Scalar.select v161 c1816_i32 v160
  let v164 : BitVec 32 := Scalar.select v163 c2966_i32 v162
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c144_i32 : BitVec 32 := 144#32
  let v10 : BitVec 32 := Scalar.muli v1 c144_i32
  let v165 : BitVec 32 := Scalar.maxsi v164 v10
  let c16_i32_146 : BitVec 32 := 16#32
  let c0_i32_89 : BitVec 32 := 0#32
  let c0_i32_87 : BitVec 32 := 0#32
  let c5_i32_78 : BitVec 32 := 5#32
  let v174 : BitVec 1 := Scalar.cmpi .sge arg25 c5_i32_78
  let c3749_i32 : BitVec 32 := 3749#32
  let c4_i32_77 : BitVec 32 := 4#32
  let v172 : BitVec 1 := Scalar.cmpi .sge arg25 c4_i32_77
  let c2391_i32 : BitVec 32 := 2391#32
  let c3_i32_76 : BitVec 32 := 3#32
  let v170 : BitVec 1 := Scalar.cmpi .sge arg25 c3_i32_76
  let c1417_i32 : BitVec 32 := 1417#32
  let c2_i32_75 : BitVec 32 := 2#32
  let v168 : BitVec 1 := Scalar.cmpi .sge arg25 c2_i32_75
  let c763_i32 : BitVec 32 := 763#32
  let c1_i32_74 : BitVec 32 := 1#32
  let v166 : BitVec 1 := Scalar.cmpi .sge arg25 c1_i32_74
  let c365_i32 : BitVec 32 := 365#32
  let c159_i32 : BitVec 32 := 159#32
  let v167 : BitVec 32 := Scalar.select v166 c365_i32 c159_i32
  let v169 : BitVec 32 := Scalar.select v168 c763_i32 v167
  let v171 : BitVec 32 := Scalar.select v170 c1417_i32 v169
  let v173 : BitVec 32 := Scalar.select v172 c2391_i32 v171
  let v175 : BitVec 32 := Scalar.select v174 c3749_i32 v173
  let c144_i32_23 : BitVec 32 := 144#32
  let v11 : BitVec 32 := Scalar.addi v10 c144_i32_23
  let c4532_i32 : BitVec 32 := 4532#32
  let v12 : BitVec 32 := Scalar.minsi v11 c4532_i32
  let v176 : BitVec 32 := Scalar.minsi v175 v12
  let v179 : BitVec 32 := Scalar.subi v176 v165
  let c15_i32_79 : BitVec 32 := 15#32
  let v180 : BitVec 32 := Scalar.addi v179 c15_i32_79
  let c0_i32_81 : BitVec 32 := 0#32
  let v182 : BitVec 1 := Scalar.cmpi .sgt v180 c0_i32_81
  let v183 : BitVec 32 := Scalar.extui v182
  let c0_i32_82 : BitVec 32 := 0#32
  let v184 : BitVec 1 := Scalar.cmpi .slt v180 c0_i32_82
  let v185 : BitVec 32 := Scalar.extui v184
  let v186 : BitVec 32 := Scalar.subi v183 v185
  let c16_i32_80 : BitVec 32 := 16#32
  let c0_i32_83 : BitVec 32 := 0#32
  let v187 : BitVec 1 := Scalar.cmpi .sgt c16_i32_80 c0_i32_83
  let v188 : BitVec 32 := Scalar.extui v187
  let c0_i32_84 : BitVec 32 := 0#32
  let v189 : BitVec 1 := Scalar.cmpi .slt c16_i32_80 c0_i32_84
  let v190 : BitVec 32 := Scalar.extui v189
  let v191 : BitVec 32 := Scalar.subi v188 v190
  let v192 : BitVec 1 := Scalar.cmpi .ne v186 v191
  let v193 : BitVec 32 := Scalar.remsi v180 c16_i32_80
  let c0_i32_85 : BitVec 32 := 0#32
  let v194 : BitVec 1 := Scalar.cmpi .ne v193 c0_i32_85
  let v195 : BitVec 1 := Scalar.andi v192 v194
  let v181 : BitVec 32 := Scalar.divsi v180 c16_i32_80
  let c1_i32_86 : BitVec 32 := 1#32
  let v196 : BitVec 32 := Scalar.subi v181 c1_i32_86
  let v197 : BitVec 32 := Scalar.select v195 v196 v181
  let v198 : BitVec 32 := Scalar.maxsi c0_i32_87 v197
  let v199 : BitVec 32 := Scalar.subi v198 c0_i32_89
  let c1_i32_90 : BitVec 32 := 1#32
  let v201 : BitVec 32 := Scalar.divsi v199 c1_i32_90
  let v202 : BitVec 32 := Scalar.muli v201 c1_i32_90
  let v203 : BitVec 32 := Scalar.addi c0_i32_89 v202
  let c1_i32_92 : BitVec 32 := 1#32
  let arg26 : BitVec 32 := Scf.iv v203 c1_i32_92 k0_t5
  let v301 : BitVec 32 := Scalar.muli c16_i32_146 arg26
  let v302 : BitVec 32 := Scalar.addi v165 v301
  let v303 : Index := Scalar.indexCast v302
  ![v303.toNat]

def k0_chk81 (i : grid0.Coords) (v15 : IVec S16 32) (k0_t3 : Fin k0_t3_loop.trips) (k0_t5 : Fin (k0_t5_loop i k0_t3).trips) (v311 : IVec S16 32) (v315 : IVec S16 32) (v317 : IVec S16 32) : Prop :=
  (∀ a x, ((![v15, v311, v315, v317] : Fin 4 → IVec S16 32) a x).toNat < S1x6x16x16.size a)
theorem k0_idx81_inb : ∀ (i : grid0.Coords) (v15 : IVec S16 32) (k0_t3 : Fin k0_t3_loop.trips) (k0_t5 : Fin (k0_t5_loop i k0_t3).trips) (v311 : IVec S16 32) (v315 : IVec S16 32) (v317 : IVec S16 32) (k0_hw81 : k0_chk81 i v15 k0_t3 k0_t5 v311 v315 v317), ∀ a x, ((![v15, v311, v315, v317] : Fin 4 → IVec S16 32) a x).toNat < S1x6x16x16.size a := fun i v15 k0_t3 k0_t5 v311 v315 v317 k0_hw81 => k0_hw81
def k0_off54 (i : grid0.Coords) (k0_t3 : Fin k0_t3_loop.trips) (k0_t5 : Fin (k0_t5_loop i k0_t3).trips) : Fin 1 → Nat :=
  let c16_i32_152 : BitVec 32 := 16#32
  let c0_i32_45 : BitVec 32 := 0#32
  let c1_i32_47 : BitVec 32 := 1#32
  let arg25 : BitVec 32 := Scf.iv c0_i32_45 c1_i32_47 k0_t3
  let c5_i32_73 : BitVec 32 := 5#32
  let v163 : BitVec 1 := Scalar.cmpi .sge arg25 c5_i32_73
  let c2966_i32 : BitVec 32 := 2966#32
  let c4_i32_72 : BitVec 32 := 4#32
  let v161 : BitVec 1 := Scalar.cmpi .sge arg25 c4_i32_72
  let c1816_i32 : BitVec 32 := 1816#32
  let c3_i32_71 : BitVec 32 := 3#32
  let v159 : BitVec 1 := Scalar.cmpi .sge arg25 c3_i32_71
  let c1018_i32 : BitVec 32 := 1018#32
  let c2_i32_70 : BitVec 32 := 2#32
  let v157 : BitVec 1 := Scalar.cmpi .sge arg25 c2_i32_70
  let c508_i32 : BitVec 32 := 508#32
  let c1_i32_68 : BitVec 32 := 1#32
  let v155 : BitVec 1 := Scalar.cmpi .sge arg25 c1_i32_68
  let c222_i32 : BitVec 32 := 222#32
  let c96_i32_69 : BitVec 32 := 96#32
  let v156 : BitVec 32 := Scalar.select v155 c222_i32 c96_i32_69
  let v158 : BitVec 32 := Scalar.select v157 c508_i32 v156
  let v160 : BitVec 32 := Scalar.select v159 c1018_i32 v158
  let v162 : BitVec 32 := Scalar.select v161 c1816_i32 v160
  let v164 : BitVec 32 := Scalar.select v163 c2966_i32 v162
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c144_i32 : BitVec 32 := 144#32
  let v10 : BitVec 32 := Scalar.muli v1 c144_i32
  let v165 : BitVec 32 := Scalar.maxsi v164 v10
  let c16_i32_146 : BitVec 32 := 16#32
  let c0_i32_89 : BitVec 32 := 0#32
  let c0_i32_87 : BitVec 32 := 0#32
  let c5_i32_78 : BitVec 32 := 5#32
  let v174 : BitVec 1 := Scalar.cmpi .sge arg25 c5_i32_78
  let c3749_i32 : BitVec 32 := 3749#32
  let c4_i32_77 : BitVec 32 := 4#32
  let v172 : BitVec 1 := Scalar.cmpi .sge arg25 c4_i32_77
  let c2391_i32 : BitVec 32 := 2391#32
  let c3_i32_76 : BitVec 32 := 3#32
  let v170 : BitVec 1 := Scalar.cmpi .sge arg25 c3_i32_76
  let c1417_i32 : BitVec 32 := 1417#32
  let c2_i32_75 : BitVec 32 := 2#32
  let v168 : BitVec 1 := Scalar.cmpi .sge arg25 c2_i32_75
  let c763_i32 : BitVec 32 := 763#32
  let c1_i32_74 : BitVec 32 := 1#32
  let v166 : BitVec 1 := Scalar.cmpi .sge arg25 c1_i32_74
  let c365_i32 : BitVec 32 := 365#32
  let c159_i32 : BitVec 32 := 159#32
  let v167 : BitVec 32 := Scalar.select v166 c365_i32 c159_i32
  let v169 : BitVec 32 := Scalar.select v168 c763_i32 v167
  let v171 : BitVec 32 := Scalar.select v170 c1417_i32 v169
  let v173 : BitVec 32 := Scalar.select v172 c2391_i32 v171
  let v175 : BitVec 32 := Scalar.select v174 c3749_i32 v173
  let c144_i32_23 : BitVec 32 := 144#32
  let v11 : BitVec 32 := Scalar.addi v10 c144_i32_23
  let c4532_i32 : BitVec 32 := 4532#32
  let v12 : BitVec 32 := Scalar.minsi v11 c4532_i32
  let v176 : BitVec 32 := Scalar.minsi v175 v12
  let v179 : BitVec 32 := Scalar.subi v176 v165
  let c15_i32_79 : BitVec 32 := 15#32
  let v180 : BitVec 32 := Scalar.addi v179 c15_i32_79
  let c0_i32_81 : BitVec 32 := 0#32
  let v182 : BitVec 1 := Scalar.cmpi .sgt v180 c0_i32_81
  let v183 : BitVec 32 := Scalar.extui v182
  let c0_i32_82 : BitVec 32 := 0#32
  let v184 : BitVec 1 := Scalar.cmpi .slt v180 c0_i32_82
  let v185 : BitVec 32 := Scalar.extui v184
  let v186 : BitVec 32 := Scalar.subi v183 v185
  let c16_i32_80 : BitVec 32 := 16#32
  let c0_i32_83 : BitVec 32 := 0#32
  let v187 : BitVec 1 := Scalar.cmpi .sgt c16_i32_80 c0_i32_83
  let v188 : BitVec 32 := Scalar.extui v187
  let c0_i32_84 : BitVec 32 := 0#32
  let v189 : BitVec 1 := Scalar.cmpi .slt c16_i32_80 c0_i32_84
  let v190 : BitVec 32 := Scalar.extui v189
  let v191 : BitVec 32 := Scalar.subi v188 v190
  let v192 : BitVec 1 := Scalar.cmpi .ne v186 v191
  let v193 : BitVec 32 := Scalar.remsi v180 c16_i32_80
  let c0_i32_85 : BitVec 32 := 0#32
  let v194 : BitVec 1 := Scalar.cmpi .ne v193 c0_i32_85
  let v195 : BitVec 1 := Scalar.andi v192 v194
  let v181 : BitVec 32 := Scalar.divsi v180 c16_i32_80
  let c1_i32_86 : BitVec 32 := 1#32
  let v196 : BitVec 32 := Scalar.subi v181 c1_i32_86
  let v197 : BitVec 32 := Scalar.select v195 v196 v181
  let v198 : BitVec 32 := Scalar.maxsi c0_i32_87 v197
  let v199 : BitVec 32 := Scalar.subi v198 c0_i32_89
  let c1_i32_90 : BitVec 32 := 1#32
  let v201 : BitVec 32 := Scalar.divsi v199 c1_i32_90
  let v202 : BitVec 32 := Scalar.muli v201 c1_i32_90
  let v203 : BitVec 32 := Scalar.addi c0_i32_89 v202
  let c1_i32_92 : BitVec 32 := 1#32
  let arg26 : BitVec 32 := Scf.iv v203 c1_i32_92 k0_t5
  let v301 : BitVec 32 := Scalar.muli c16_i32_146 arg26
  let v302 : BitVec 32 := Scalar.addi v165 v301
  let v305 : BitVec 32 := Scalar.subi v302 v10
  let c0_i32_151 : BitVec 32 := 0#32
  let v399 : BitVec 32 := Scalar.addi v305 c0_i32_151
  let v400 : BitVec 32 := Scalar.muli c16_i32_152 v399
  let v401 : Index := Scalar.indexCast v400
  ![v401.toNat]

def k0_chk82 (i : grid0.Coords) (v15 : IVec S16 32) (k0_t3 : Fin k0_t3_loop.trips) (k0_t5 : Fin (k0_t5_loop i k0_t3).trips) (v408 : IVec S16 32) (v412 : IVec S16 32) (v414 : IVec S16 32) : Prop :=
  (∀ a x, ((![v15, v408, v412, v414] : Fin 4 → IVec S16 32) a x).toNat < S1x6x16x16.size a)
theorem k0_idx82_inb : ∀ (i : grid0.Coords) (v15 : IVec S16 32) (k0_t3 : Fin k0_t3_loop.trips) (k0_t5 : Fin (k0_t5_loop i k0_t3).trips) (v408 : IVec S16 32) (v412 : IVec S16 32) (v414 : IVec S16 32) (k0_hw82 : k0_chk82 i v15 k0_t3 k0_t5 v408 v412 v414), ∀ a x, ((![v15, v408, v412, v414] : Fin 4 → IVec S16 32) a x).toNat < S1x6x16x16.size a := fun i v15 k0_t3 k0_t5 v408 v412 v414 k0_hw82 => k0_hw82
def k0_off55 (i : grid0.Coords) (k0_t3 : Fin k0_t3_loop.trips) (k0_t5 : Fin (k0_t5_loop i k0_t3).trips) : Fin 1 → Nat :=
  let c16_i32_158 : BitVec 32 := 16#32
  let c0_i32_45 : BitVec 32 := 0#32
  let c1_i32_47 : BitVec 32 := 1#32
  let arg25 : BitVec 32 := Scf.iv c0_i32_45 c1_i32_47 k0_t3
  let c5_i32_73 : BitVec 32 := 5#32
  let v163 : BitVec 1 := Scalar.cmpi .sge arg25 c5_i32_73
  let c2966_i32 : BitVec 32 := 2966#32
  let c4_i32_72 : BitVec 32 := 4#32
  let v161 : BitVec 1 := Scalar.cmpi .sge arg25 c4_i32_72
  let c1816_i32 : BitVec 32 := 1816#32
  let c3_i32_71 : BitVec 32 := 3#32
  let v159 : BitVec 1 := Scalar.cmpi .sge arg25 c3_i32_71
  let c1018_i32 : BitVec 32 := 1018#32
  let c2_i32_70 : BitVec 32 := 2#32
  let v157 : BitVec 1 := Scalar.cmpi .sge arg25 c2_i32_70
  let c508_i32 : BitVec 32 := 508#32
  let c1_i32_68 : BitVec 32 := 1#32
  let v155 : BitVec 1 := Scalar.cmpi .sge arg25 c1_i32_68
  let c222_i32 : BitVec 32 := 222#32
  let c96_i32_69 : BitVec 32 := 96#32
  let v156 : BitVec 32 := Scalar.select v155 c222_i32 c96_i32_69
  let v158 : BitVec 32 := Scalar.select v157 c508_i32 v156
  let v160 : BitVec 32 := Scalar.select v159 c1018_i32 v158
  let v162 : BitVec 32 := Scalar.select v161 c1816_i32 v160
  let v164 : BitVec 32 := Scalar.select v163 c2966_i32 v162
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c144_i32 : BitVec 32 := 144#32
  let v10 : BitVec 32 := Scalar.muli v1 c144_i32
  let v165 : BitVec 32 := Scalar.maxsi v164 v10
  let c16_i32_146 : BitVec 32 := 16#32
  let c0_i32_89 : BitVec 32 := 0#32
  let c0_i32_87 : BitVec 32 := 0#32
  let c5_i32_78 : BitVec 32 := 5#32
  let v174 : BitVec 1 := Scalar.cmpi .sge arg25 c5_i32_78
  let c3749_i32 : BitVec 32 := 3749#32
  let c4_i32_77 : BitVec 32 := 4#32
  let v172 : BitVec 1 := Scalar.cmpi .sge arg25 c4_i32_77
  let c2391_i32 : BitVec 32 := 2391#32
  let c3_i32_76 : BitVec 32 := 3#32
  let v170 : BitVec 1 := Scalar.cmpi .sge arg25 c3_i32_76
  let c1417_i32 : BitVec 32 := 1417#32
  let c2_i32_75 : BitVec 32 := 2#32
  let v168 : BitVec 1 := Scalar.cmpi .sge arg25 c2_i32_75
  let c763_i32 : BitVec 32 := 763#32
  let c1_i32_74 : BitVec 32 := 1#32
  let v166 : BitVec 1 := Scalar.cmpi .sge arg25 c1_i32_74
  let c365_i32 : BitVec 32 := 365#32
  let c159_i32 : BitVec 32 := 159#32
  let v167 : BitVec 32 := Scalar.select v166 c365_i32 c159_i32
  let v169 : BitVec 32 := Scalar.select v168 c763_i32 v167
  let v171 : BitVec 32 := Scalar.select v170 c1417_i32 v169
  let v173 : BitVec 32 := Scalar.select v172 c2391_i32 v171
  let v175 : BitVec 32 := Scalar.select v174 c3749_i32 v173
  let c144_i32_23 : BitVec 32 := 144#32
  let v11 : BitVec 32 := Scalar.addi v10 c144_i32_23
  let c4532_i32 : BitVec 32 := 4532#32
  let v12 : BitVec 32 := Scalar.minsi v11 c4532_i32
  let v176 : BitVec 32 := Scalar.minsi v175 v12
  let v179 : BitVec 32 := Scalar.subi v176 v165
  let c15_i32_79 : BitVec 32 := 15#32
  let v180 : BitVec 32 := Scalar.addi v179 c15_i32_79
  let c0_i32_81 : BitVec 32 := 0#32
  let v182 : BitVec 1 := Scalar.cmpi .sgt v180 c0_i32_81
  let v183 : BitVec 32 := Scalar.extui v182
  let c0_i32_82 : BitVec 32 := 0#32
  let v184 : BitVec 1 := Scalar.cmpi .slt v180 c0_i32_82
  let v185 : BitVec 32 := Scalar.extui v184
  let v186 : BitVec 32 := Scalar.subi v183 v185
  let c16_i32_80 : BitVec 32 := 16#32
  let c0_i32_83 : BitVec 32 := 0#32
  let v187 : BitVec 1 := Scalar.cmpi .sgt c16_i32_80 c0_i32_83
  let v188 : BitVec 32 := Scalar.extui v187
  let c0_i32_84 : BitVec 32 := 0#32
  let v189 : BitVec 1 := Scalar.cmpi .slt c16_i32_80 c0_i32_84
  let v190 : BitVec 32 := Scalar.extui v189
  let v191 : BitVec 32 := Scalar.subi v188 v190
  let v192 : BitVec 1 := Scalar.cmpi .ne v186 v191
  let v193 : BitVec 32 := Scalar.remsi v180 c16_i32_80
  let c0_i32_85 : BitVec 32 := 0#32
  let v194 : BitVec 1 := Scalar.cmpi .ne v193 c0_i32_85
  let v195 : BitVec 1 := Scalar.andi v192 v194
  let v181 : BitVec 32 := Scalar.divsi v180 c16_i32_80
  let c1_i32_86 : BitVec 32 := 1#32
  let v196 : BitVec 32 := Scalar.subi v181 c1_i32_86
  let v197 : BitVec 32 := Scalar.select v195 v196 v181
  let v198 : BitVec 32 := Scalar.maxsi c0_i32_87 v197
  let v199 : BitVec 32 := Scalar.subi v198 c0_i32_89
  let c1_i32_90 : BitVec 32 := 1#32
  let v201 : BitVec 32 := Scalar.divsi v199 c1_i32_90
  let v202 : BitVec 32 := Scalar.muli v201 c1_i32_90
  let v203 : BitVec 32 := Scalar.addi c0_i32_89 v202
  let c1_i32_92 : BitVec 32 := 1#32
  let arg26 : BitVec 32 := Scf.iv v203 c1_i32_92 k0_t5
  let v301 : BitVec 32 := Scalar.muli c16_i32_146 arg26
  let v302 : BitVec 32 := Scalar.addi v165 v301
  let v305 : BitVec 32 := Scalar.subi v302 v10
  let c1_i32_157 : BitVec 32 := 1#32
  let v496 : BitVec 32 := Scalar.addi v305 c1_i32_157
  let v497 : BitVec 32 := Scalar.muli c16_i32_158 v496
  let v498 : Index := Scalar.indexCast v497
  ![v498.toNat]

def k0_chk83 (i : grid0.Coords) (v15 : IVec S16 32) (k0_t3 : Fin k0_t3_loop.trips) (k0_t5 : Fin (k0_t5_loop i k0_t3).trips) (v505 : IVec S16 32) (v509 : IVec S16 32) (v511 : IVec S16 32) : Prop :=
  (∀ a x, ((![v15, v505, v509, v511] : Fin 4 → IVec S16 32) a x).toNat < S1x6x16x16.size a)
theorem k0_idx83_inb : ∀ (i : grid0.Coords) (v15 : IVec S16 32) (k0_t3 : Fin k0_t3_loop.trips) (k0_t5 : Fin (k0_t5_loop i k0_t3).trips) (v505 : IVec S16 32) (v509 : IVec S16 32) (v511 : IVec S16 32) (k0_hw83 : k0_chk83 i v15 k0_t3 k0_t5 v505 v509 v511), ∀ a x, ((![v15, v505, v509, v511] : Fin 4 → IVec S16 32) a x).toNat < S1x6x16x16.size a := fun i v15 k0_t3 k0_t5 v505 v509 v511 k0_hw83 => k0_hw83
def k0_off56 (i : grid0.Coords) (k0_t3 : Fin k0_t3_loop.trips) (k0_t5 : Fin (k0_t5_loop i k0_t3).trips) : Fin 1 → Nat :=
  let c16_i32_164 : BitVec 32 := 16#32
  let c0_i32_45 : BitVec 32 := 0#32
  let c1_i32_47 : BitVec 32 := 1#32
  let arg25 : BitVec 32 := Scf.iv c0_i32_45 c1_i32_47 k0_t3
  let c5_i32_73 : BitVec 32 := 5#32
  let v163 : BitVec 1 := Scalar.cmpi .sge arg25 c5_i32_73
  let c2966_i32 : BitVec 32 := 2966#32
  let c4_i32_72 : BitVec 32 := 4#32
  let v161 : BitVec 1 := Scalar.cmpi .sge arg25 c4_i32_72
  let c1816_i32 : BitVec 32 := 1816#32
  let c3_i32_71 : BitVec 32 := 3#32
  let v159 : BitVec 1 := Scalar.cmpi .sge arg25 c3_i32_71
  let c1018_i32 : BitVec 32 := 1018#32
  let c2_i32_70 : BitVec 32 := 2#32
  let v157 : BitVec 1 := Scalar.cmpi .sge arg25 c2_i32_70
  let c508_i32 : BitVec 32 := 508#32
  let c1_i32_68 : BitVec 32 := 1#32
  let v155 : BitVec 1 := Scalar.cmpi .sge arg25 c1_i32_68
  let c222_i32 : BitVec 32 := 222#32
  let c96_i32_69 : BitVec 32 := 96#32
  let v156 : BitVec 32 := Scalar.select v155 c222_i32 c96_i32_69
  let v158 : BitVec 32 := Scalar.select v157 c508_i32 v156
  let v160 : BitVec 32 := Scalar.select v159 c1018_i32 v158
  let v162 : BitVec 32 := Scalar.select v161 c1816_i32 v160
  let v164 : BitVec 32 := Scalar.select v163 c2966_i32 v162
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c144_i32 : BitVec 32 := 144#32
  let v10 : BitVec 32 := Scalar.muli v1 c144_i32
  let v165 : BitVec 32 := Scalar.maxsi v164 v10
  let c16_i32_146 : BitVec 32 := 16#32
  let c0_i32_89 : BitVec 32 := 0#32
  let c0_i32_87 : BitVec 32 := 0#32
  let c5_i32_78 : BitVec 32 := 5#32
  let v174 : BitVec 1 := Scalar.cmpi .sge arg25 c5_i32_78
  let c3749_i32 : BitVec 32 := 3749#32
  let c4_i32_77 : BitVec 32 := 4#32
  let v172 : BitVec 1 := Scalar.cmpi .sge arg25 c4_i32_77
  let c2391_i32 : BitVec 32 := 2391#32
  let c3_i32_76 : BitVec 32 := 3#32
  let v170 : BitVec 1 := Scalar.cmpi .sge arg25 c3_i32_76
  let c1417_i32 : BitVec 32 := 1417#32
  let c2_i32_75 : BitVec 32 := 2#32
  let v168 : BitVec 1 := Scalar.cmpi .sge arg25 c2_i32_75
  let c763_i32 : BitVec 32 := 763#32
  let c1_i32_74 : BitVec 32 := 1#32
  let v166 : BitVec 1 := Scalar.cmpi .sge arg25 c1_i32_74
  let c365_i32 : BitVec 32 := 365#32
  let c159_i32 : BitVec 32 := 159#32
  let v167 : BitVec 32 := Scalar.select v166 c365_i32 c159_i32
  let v169 : BitVec 32 := Scalar.select v168 c763_i32 v167
  let v171 : BitVec 32 := Scalar.select v170 c1417_i32 v169
  let v173 : BitVec 32 := Scalar.select v172 c2391_i32 v171
  let v175 : BitVec 32 := Scalar.select v174 c3749_i32 v173
  let c144_i32_23 : BitVec 32 := 144#32
  let v11 : BitVec 32 := Scalar.addi v10 c144_i32_23
  let c4532_i32 : BitVec 32 := 4532#32
  let v12 : BitVec 32 := Scalar.minsi v11 c4532_i32
  let v176 : BitVec 32 := Scalar.minsi v175 v12
  let v179 : BitVec 32 := Scalar.subi v176 v165
  let c15_i32_79 : BitVec 32 := 15#32
  let v180 : BitVec 32 := Scalar.addi v179 c15_i32_79
  let c0_i32_81 : BitVec 32 := 0#32
  let v182 : BitVec 1 := Scalar.cmpi .sgt v180 c0_i32_81
  let v183 : BitVec 32 := Scalar.extui v182
  let c0_i32_82 : BitVec 32 := 0#32
  let v184 : BitVec 1 := Scalar.cmpi .slt v180 c0_i32_82
  let v185 : BitVec 32 := Scalar.extui v184
  let v186 : BitVec 32 := Scalar.subi v183 v185
  let c16_i32_80 : BitVec 32 := 16#32
  let c0_i32_83 : BitVec 32 := 0#32
  let v187 : BitVec 1 := Scalar.cmpi .sgt c16_i32_80 c0_i32_83
  let v188 : BitVec 32 := Scalar.extui v187
  let c0_i32_84 : BitVec 32 := 0#32
  let v189 : BitVec 1 := Scalar.cmpi .slt c16_i32_80 c0_i32_84
  let v190 : BitVec 32 := Scalar.extui v189
  let v191 : BitVec 32 := Scalar.subi v188 v190
  let v192 : BitVec 1 := Scalar.cmpi .ne v186 v191
  let v193 : BitVec 32 := Scalar.remsi v180 c16_i32_80
  let c0_i32_85 : BitVec 32 := 0#32
  let v194 : BitVec 1 := Scalar.cmpi .ne v193 c0_i32_85
  let v195 : BitVec 1 := Scalar.andi v192 v194
  let v181 : BitVec 32 := Scalar.divsi v180 c16_i32_80
  let c1_i32_86 : BitVec 32 := 1#32
  let v196 : BitVec 32 := Scalar.subi v181 c1_i32_86
  let v197 : BitVec 32 := Scalar.select v195 v196 v181
  let v198 : BitVec 32 := Scalar.maxsi c0_i32_87 v197
  let v199 : BitVec 32 := Scalar.subi v198 c0_i32_89
  let c1_i32_90 : BitVec 32 := 1#32
  let v201 : BitVec 32 := Scalar.divsi v199 c1_i32_90
  let v202 : BitVec 32 := Scalar.muli v201 c1_i32_90
  let v203 : BitVec 32 := Scalar.addi c0_i32_89 v202
  let c1_i32_92 : BitVec 32 := 1#32
  let arg26 : BitVec 32 := Scf.iv v203 c1_i32_92 k0_t5
  let v301 : BitVec 32 := Scalar.muli c16_i32_146 arg26
  let v302 : BitVec 32 := Scalar.addi v165 v301
  let v305 : BitVec 32 := Scalar.subi v302 v10
  let c2_i32_163 : BitVec 32 := 2#32
  let v593 : BitVec 32 := Scalar.addi v305 c2_i32_163
  let v594 : BitVec 32 := Scalar.muli c16_i32_164 v593
  let v595 : Index := Scalar.indexCast v594
  ![v595.toNat]

def k0_chk84 (i : grid0.Coords) (v15 : IVec S16 32) (k0_t3 : Fin k0_t3_loop.trips) (k0_t5 : Fin (k0_t5_loop i k0_t3).trips) (v602 : IVec S16 32) (v606 : IVec S16 32) (v608 : IVec S16 32) : Prop :=
  (∀ a x, ((![v15, v602, v606, v608] : Fin 4 → IVec S16 32) a x).toNat < S1x6x16x16.size a)
theorem k0_idx84_inb : ∀ (i : grid0.Coords) (v15 : IVec S16 32) (k0_t3 : Fin k0_t3_loop.trips) (k0_t5 : Fin (k0_t5_loop i k0_t3).trips) (v602 : IVec S16 32) (v606 : IVec S16 32) (v608 : IVec S16 32) (k0_hw84 : k0_chk84 i v15 k0_t3 k0_t5 v602 v606 v608), ∀ a x, ((![v15, v602, v606, v608] : Fin 4 → IVec S16 32) a x).toNat < S1x6x16x16.size a := fun i v15 k0_t3 k0_t5 v602 v606 v608 k0_hw84 => k0_hw84
def k0_off57 (i : grid0.Coords) (k0_t3 : Fin k0_t3_loop.trips) (k0_t5 : Fin (k0_t5_loop i k0_t3).trips) : Fin 1 → Nat :=
  let c16_i32_170 : BitVec 32 := 16#32
  let c0_i32_45 : BitVec 32 := 0#32
  let c1_i32_47 : BitVec 32 := 1#32
  let arg25 : BitVec 32 := Scf.iv c0_i32_45 c1_i32_47 k0_t3
  let c5_i32_73 : BitVec 32 := 5#32
  let v163 : BitVec 1 := Scalar.cmpi .sge arg25 c5_i32_73
  let c2966_i32 : BitVec 32 := 2966#32
  let c4_i32_72 : BitVec 32 := 4#32
  let v161 : BitVec 1 := Scalar.cmpi .sge arg25 c4_i32_72
  let c1816_i32 : BitVec 32 := 1816#32
  let c3_i32_71 : BitVec 32 := 3#32
  let v159 : BitVec 1 := Scalar.cmpi .sge arg25 c3_i32_71
  let c1018_i32 : BitVec 32 := 1018#32
  let c2_i32_70 : BitVec 32 := 2#32
  let v157 : BitVec 1 := Scalar.cmpi .sge arg25 c2_i32_70
  let c508_i32 : BitVec 32 := 508#32
  let c1_i32_68 : BitVec 32 := 1#32
  let v155 : BitVec 1 := Scalar.cmpi .sge arg25 c1_i32_68
  let c222_i32 : BitVec 32 := 222#32
  let c96_i32_69 : BitVec 32 := 96#32
  let v156 : BitVec 32 := Scalar.select v155 c222_i32 c96_i32_69
  let v158 : BitVec 32 := Scalar.select v157 c508_i32 v156
  let v160 : BitVec 32 := Scalar.select v159 c1018_i32 v158
  let v162 : BitVec 32 := Scalar.select v161 c1816_i32 v160
  let v164 : BitVec 32 := Scalar.select v163 c2966_i32 v162
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c144_i32 : BitVec 32 := 144#32
  let v10 : BitVec 32 := Scalar.muli v1 c144_i32
  let v165 : BitVec 32 := Scalar.maxsi v164 v10
  let c16_i32_146 : BitVec 32 := 16#32
  let c0_i32_89 : BitVec 32 := 0#32
  let c0_i32_87 : BitVec 32 := 0#32
  let c5_i32_78 : BitVec 32 := 5#32
  let v174 : BitVec 1 := Scalar.cmpi .sge arg25 c5_i32_78
  let c3749_i32 : BitVec 32 := 3749#32
  let c4_i32_77 : BitVec 32 := 4#32
  let v172 : BitVec 1 := Scalar.cmpi .sge arg25 c4_i32_77
  let c2391_i32 : BitVec 32 := 2391#32
  let c3_i32_76 : BitVec 32 := 3#32
  let v170 : BitVec 1 := Scalar.cmpi .sge arg25 c3_i32_76
  let c1417_i32 : BitVec 32 := 1417#32
  let c2_i32_75 : BitVec 32 := 2#32
  let v168 : BitVec 1 := Scalar.cmpi .sge arg25 c2_i32_75
  let c763_i32 : BitVec 32 := 763#32
  let c1_i32_74 : BitVec 32 := 1#32
  let v166 : BitVec 1 := Scalar.cmpi .sge arg25 c1_i32_74
  let c365_i32 : BitVec 32 := 365#32
  let c159_i32 : BitVec 32 := 159#32
  let v167 : BitVec 32 := Scalar.select v166 c365_i32 c159_i32
  let v169 : BitVec 32 := Scalar.select v168 c763_i32 v167
  let v171 : BitVec 32 := Scalar.select v170 c1417_i32 v169
  let v173 : BitVec 32 := Scalar.select v172 c2391_i32 v171
  let v175 : BitVec 32 := Scalar.select v174 c3749_i32 v173
  let c144_i32_23 : BitVec 32 := 144#32
  let v11 : BitVec 32 := Scalar.addi v10 c144_i32_23
  let c4532_i32 : BitVec 32 := 4532#32
  let v12 : BitVec 32 := Scalar.minsi v11 c4532_i32
  let v176 : BitVec 32 := Scalar.minsi v175 v12
  let v179 : BitVec 32 := Scalar.subi v176 v165
  let c15_i32_79 : BitVec 32 := 15#32
  let v180 : BitVec 32 := Scalar.addi v179 c15_i32_79
  let c0_i32_81 : BitVec 32 := 0#32
  let v182 : BitVec 1 := Scalar.cmpi .sgt v180 c0_i32_81
  let v183 : BitVec 32 := Scalar.extui v182
  let c0_i32_82 : BitVec 32 := 0#32
  let v184 : BitVec 1 := Scalar.cmpi .slt v180 c0_i32_82
  let v185 : BitVec 32 := Scalar.extui v184
  let v186 : BitVec 32 := Scalar.subi v183 v185
  let c16_i32_80 : BitVec 32 := 16#32
  let c0_i32_83 : BitVec 32 := 0#32
  let v187 : BitVec 1 := Scalar.cmpi .sgt c16_i32_80 c0_i32_83
  let v188 : BitVec 32 := Scalar.extui v187
  let c0_i32_84 : BitVec 32 := 0#32
  let v189 : BitVec 1 := Scalar.cmpi .slt c16_i32_80 c0_i32_84
  let v190 : BitVec 32 := Scalar.extui v189
  let v191 : BitVec 32 := Scalar.subi v188 v190
  let v192 : BitVec 1 := Scalar.cmpi .ne v186 v191
  let v193 : BitVec 32 := Scalar.remsi v180 c16_i32_80
  let c0_i32_85 : BitVec 32 := 0#32
  let v194 : BitVec 1 := Scalar.cmpi .ne v193 c0_i32_85
  let v195 : BitVec 1 := Scalar.andi v192 v194
  let v181 : BitVec 32 := Scalar.divsi v180 c16_i32_80
  let c1_i32_86 : BitVec 32 := 1#32
  let v196 : BitVec 32 := Scalar.subi v181 c1_i32_86
  let v197 : BitVec 32 := Scalar.select v195 v196 v181
  let v198 : BitVec 32 := Scalar.maxsi c0_i32_87 v197
  let v199 : BitVec 32 := Scalar.subi v198 c0_i32_89
  let c1_i32_90 : BitVec 32 := 1#32
  let v201 : BitVec 32 := Scalar.divsi v199 c1_i32_90
  let v202 : BitVec 32 := Scalar.muli v201 c1_i32_90
  let v203 : BitVec 32 := Scalar.addi c0_i32_89 v202
  let c1_i32_92 : BitVec 32 := 1#32
  let arg26 : BitVec 32 := Scf.iv v203 c1_i32_92 k0_t5
  let v301 : BitVec 32 := Scalar.muli c16_i32_146 arg26
  let v302 : BitVec 32 := Scalar.addi v165 v301
  let v305 : BitVec 32 := Scalar.subi v302 v10
  let c3_i32_169 : BitVec 32 := 3#32
  let v690 : BitVec 32 := Scalar.addi v305 c3_i32_169
  let v691 : BitVec 32 := Scalar.muli c16_i32_170 v690
  let v692 : Index := Scalar.indexCast v691
  ![v692.toNat]

def k0_chk85 (i : grid0.Coords) (v15 : IVec S16 32) (k0_t3 : Fin k0_t3_loop.trips) (k0_t5 : Fin (k0_t5_loop i k0_t3).trips) (v699 : IVec S16 32) (v703 : IVec S16 32) (v705 : IVec S16 32) : Prop :=
  (∀ a x, ((![v15, v699, v703, v705] : Fin 4 → IVec S16 32) a x).toNat < S1x6x16x16.size a)
theorem k0_idx85_inb : ∀ (i : grid0.Coords) (v15 : IVec S16 32) (k0_t3 : Fin k0_t3_loop.trips) (k0_t5 : Fin (k0_t5_loop i k0_t3).trips) (v699 : IVec S16 32) (v703 : IVec S16 32) (v705 : IVec S16 32) (k0_hw85 : k0_chk85 i v15 k0_t3 k0_t5 v699 v703 v705), ∀ a x, ((![v15, v699, v703, v705] : Fin 4 → IVec S16 32) a x).toNat < S1x6x16x16.size a := fun i v15 k0_t3 k0_t5 v699 v703 v705 k0_hw85 => k0_hw85
def k0_off58 (i : grid0.Coords) (k0_t3 : Fin k0_t3_loop.trips) (k0_t5 : Fin (k0_t5_loop i k0_t3).trips) : Fin 1 → Nat :=
  let c16_i32_176 : BitVec 32 := 16#32
  let c0_i32_45 : BitVec 32 := 0#32
  let c1_i32_47 : BitVec 32 := 1#32
  let arg25 : BitVec 32 := Scf.iv c0_i32_45 c1_i32_47 k0_t3
  let c5_i32_73 : BitVec 32 := 5#32
  let v163 : BitVec 1 := Scalar.cmpi .sge arg25 c5_i32_73
  let c2966_i32 : BitVec 32 := 2966#32
  let c4_i32_72 : BitVec 32 := 4#32
  let v161 : BitVec 1 := Scalar.cmpi .sge arg25 c4_i32_72
  let c1816_i32 : BitVec 32 := 1816#32
  let c3_i32_71 : BitVec 32 := 3#32
  let v159 : BitVec 1 := Scalar.cmpi .sge arg25 c3_i32_71
  let c1018_i32 : BitVec 32 := 1018#32
  let c2_i32_70 : BitVec 32 := 2#32
  let v157 : BitVec 1 := Scalar.cmpi .sge arg25 c2_i32_70
  let c508_i32 : BitVec 32 := 508#32
  let c1_i32_68 : BitVec 32 := 1#32
  let v155 : BitVec 1 := Scalar.cmpi .sge arg25 c1_i32_68
  let c222_i32 : BitVec 32 := 222#32
  let c96_i32_69 : BitVec 32 := 96#32
  let v156 : BitVec 32 := Scalar.select v155 c222_i32 c96_i32_69
  let v158 : BitVec 32 := Scalar.select v157 c508_i32 v156
  let v160 : BitVec 32 := Scalar.select v159 c1018_i32 v158
  let v162 : BitVec 32 := Scalar.select v161 c1816_i32 v160
  let v164 : BitVec 32 := Scalar.select v163 c2966_i32 v162
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c144_i32 : BitVec 32 := 144#32
  let v10 : BitVec 32 := Scalar.muli v1 c144_i32
  let v165 : BitVec 32 := Scalar.maxsi v164 v10
  let c16_i32_146 : BitVec 32 := 16#32
  let c0_i32_89 : BitVec 32 := 0#32
  let c0_i32_87 : BitVec 32 := 0#32
  let c5_i32_78 : BitVec 32 := 5#32
  let v174 : BitVec 1 := Scalar.cmpi .sge arg25 c5_i32_78
  let c3749_i32 : BitVec 32 := 3749#32
  let c4_i32_77 : BitVec 32 := 4#32
  let v172 : BitVec 1 := Scalar.cmpi .sge arg25 c4_i32_77
  let c2391_i32 : BitVec 32 := 2391#32
  let c3_i32_76 : BitVec 32 := 3#32
  let v170 : BitVec 1 := Scalar.cmpi .sge arg25 c3_i32_76
  let c1417_i32 : BitVec 32 := 1417#32
  let c2_i32_75 : BitVec 32 := 2#32
  let v168 : BitVec 1 := Scalar.cmpi .sge arg25 c2_i32_75
  let c763_i32 : BitVec 32 := 763#32
  let c1_i32_74 : BitVec 32 := 1#32
  let v166 : BitVec 1 := Scalar.cmpi .sge arg25 c1_i32_74
  let c365_i32 : BitVec 32 := 365#32
  let c159_i32 : BitVec 32 := 159#32
  let v167 : BitVec 32 := Scalar.select v166 c365_i32 c159_i32
  let v169 : BitVec 32 := Scalar.select v168 c763_i32 v167
  let v171 : BitVec 32 := Scalar.select v170 c1417_i32 v169
  let v173 : BitVec 32 := Scalar.select v172 c2391_i32 v171
  let v175 : BitVec 32 := Scalar.select v174 c3749_i32 v173
  let c144_i32_23 : BitVec 32 := 144#32
  let v11 : BitVec 32 := Scalar.addi v10 c144_i32_23
  let c4532_i32 : BitVec 32 := 4532#32
  let v12 : BitVec 32 := Scalar.minsi v11 c4532_i32
  let v176 : BitVec 32 := Scalar.minsi v175 v12
  let v179 : BitVec 32 := Scalar.subi v176 v165
  let c15_i32_79 : BitVec 32 := 15#32
  let v180 : BitVec 32 := Scalar.addi v179 c15_i32_79
  let c0_i32_81 : BitVec 32 := 0#32
  let v182 : BitVec 1 := Scalar.cmpi .sgt v180 c0_i32_81
  let v183 : BitVec 32 := Scalar.extui v182
  let c0_i32_82 : BitVec 32 := 0#32
  let v184 : BitVec 1 := Scalar.cmpi .slt v180 c0_i32_82
  let v185 : BitVec 32 := Scalar.extui v184
  let v186 : BitVec 32 := Scalar.subi v183 v185
  let c16_i32_80 : BitVec 32 := 16#32
  let c0_i32_83 : BitVec 32 := 0#32
  let v187 : BitVec 1 := Scalar.cmpi .sgt c16_i32_80 c0_i32_83
  let v188 : BitVec 32 := Scalar.extui v187
  let c0_i32_84 : BitVec 32 := 0#32
  let v189 : BitVec 1 := Scalar.cmpi .slt c16_i32_80 c0_i32_84
  let v190 : BitVec 32 := Scalar.extui v189
  let v191 : BitVec 32 := Scalar.subi v188 v190
  let v192 : BitVec 1 := Scalar.cmpi .ne v186 v191
  let v193 : BitVec 32 := Scalar.remsi v180 c16_i32_80
  let c0_i32_85 : BitVec 32 := 0#32
  let v194 : BitVec 1 := Scalar.cmpi .ne v193 c0_i32_85
  let v195 : BitVec 1 := Scalar.andi v192 v194
  let v181 : BitVec 32 := Scalar.divsi v180 c16_i32_80
  let c1_i32_86 : BitVec 32 := 1#32
  let v196 : BitVec 32 := Scalar.subi v181 c1_i32_86
  let v197 : BitVec 32 := Scalar.select v195 v196 v181
  let v198 : BitVec 32 := Scalar.maxsi c0_i32_87 v197
  let v199 : BitVec 32 := Scalar.subi v198 c0_i32_89
  let c1_i32_90 : BitVec 32 := 1#32
  let v201 : BitVec 32 := Scalar.divsi v199 c1_i32_90
  let v202 : BitVec 32 := Scalar.muli v201 c1_i32_90
  let v203 : BitVec 32 := Scalar.addi c0_i32_89 v202
  let c1_i32_92 : BitVec 32 := 1#32
  let arg26 : BitVec 32 := Scf.iv v203 c1_i32_92 k0_t5
  let v301 : BitVec 32 := Scalar.muli c16_i32_146 arg26
  let v302 : BitVec 32 := Scalar.addi v165 v301
  let v305 : BitVec 32 := Scalar.subi v302 v10
  let c4_i32_175 : BitVec 32 := 4#32
  let v787 : BitVec 32 := Scalar.addi v305 c4_i32_175
  let v788 : BitVec 32 := Scalar.muli c16_i32_176 v787
  let v789 : Index := Scalar.indexCast v788
  ![v789.toNat]

def k0_chk86 (i : grid0.Coords) (v15 : IVec S16 32) (k0_t3 : Fin k0_t3_loop.trips) (k0_t5 : Fin (k0_t5_loop i k0_t3).trips) (v796 : IVec S16 32) (v800 : IVec S16 32) (v802 : IVec S16 32) : Prop :=
  (∀ a x, ((![v15, v796, v800, v802] : Fin 4 → IVec S16 32) a x).toNat < S1x6x16x16.size a)
theorem k0_idx86_inb : ∀ (i : grid0.Coords) (v15 : IVec S16 32) (k0_t3 : Fin k0_t3_loop.trips) (k0_t5 : Fin (k0_t5_loop i k0_t3).trips) (v796 : IVec S16 32) (v800 : IVec S16 32) (v802 : IVec S16 32) (k0_hw86 : k0_chk86 i v15 k0_t3 k0_t5 v796 v800 v802), ∀ a x, ((![v15, v796, v800, v802] : Fin 4 → IVec S16 32) a x).toNat < S1x6x16x16.size a := fun i v15 k0_t3 k0_t5 v796 v800 v802 k0_hw86 => k0_hw86
def k0_off59 (i : grid0.Coords) (k0_t3 : Fin k0_t3_loop.trips) (k0_t5 : Fin (k0_t5_loop i k0_t3).trips) : Fin 1 → Nat :=
  let c16_i32_182 : BitVec 32 := 16#32
  let c0_i32_45 : BitVec 32 := 0#32
  let c1_i32_47 : BitVec 32 := 1#32
  let arg25 : BitVec 32 := Scf.iv c0_i32_45 c1_i32_47 k0_t3
  let c5_i32_73 : BitVec 32 := 5#32
  let v163 : BitVec 1 := Scalar.cmpi .sge arg25 c5_i32_73
  let c2966_i32 : BitVec 32 := 2966#32
  let c4_i32_72 : BitVec 32 := 4#32
  let v161 : BitVec 1 := Scalar.cmpi .sge arg25 c4_i32_72
  let c1816_i32 : BitVec 32 := 1816#32
  let c3_i32_71 : BitVec 32 := 3#32
  let v159 : BitVec 1 := Scalar.cmpi .sge arg25 c3_i32_71
  let c1018_i32 : BitVec 32 := 1018#32
  let c2_i32_70 : BitVec 32 := 2#32
  let v157 : BitVec 1 := Scalar.cmpi .sge arg25 c2_i32_70
  let c508_i32 : BitVec 32 := 508#32
  let c1_i32_68 : BitVec 32 := 1#32
  let v155 : BitVec 1 := Scalar.cmpi .sge arg25 c1_i32_68
  let c222_i32 : BitVec 32 := 222#32
  let c96_i32_69 : BitVec 32 := 96#32
  let v156 : BitVec 32 := Scalar.select v155 c222_i32 c96_i32_69
  let v158 : BitVec 32 := Scalar.select v157 c508_i32 v156
  let v160 : BitVec 32 := Scalar.select v159 c1018_i32 v158
  let v162 : BitVec 32 := Scalar.select v161 c1816_i32 v160
  let v164 : BitVec 32 := Scalar.select v163 c2966_i32 v162
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c144_i32 : BitVec 32 := 144#32
  let v10 : BitVec 32 := Scalar.muli v1 c144_i32
  let v165 : BitVec 32 := Scalar.maxsi v164 v10
  let c16_i32_146 : BitVec 32 := 16#32
  let c0_i32_89 : BitVec 32 := 0#32
  let c0_i32_87 : BitVec 32 := 0#32
  let c5_i32_78 : BitVec 32 := 5#32
  let v174 : BitVec 1 := Scalar.cmpi .sge arg25 c5_i32_78
  let c3749_i32 : BitVec 32 := 3749#32
  let c4_i32_77 : BitVec 32 := 4#32
  let v172 : BitVec 1 := Scalar.cmpi .sge arg25 c4_i32_77
  let c2391_i32 : BitVec 32 := 2391#32
  let c3_i32_76 : BitVec 32 := 3#32
  let v170 : BitVec 1 := Scalar.cmpi .sge arg25 c3_i32_76
  let c1417_i32 : BitVec 32 := 1417#32
  let c2_i32_75 : BitVec 32 := 2#32
  let v168 : BitVec 1 := Scalar.cmpi .sge arg25 c2_i32_75
  let c763_i32 : BitVec 32 := 763#32
  let c1_i32_74 : BitVec 32 := 1#32
  let v166 : BitVec 1 := Scalar.cmpi .sge arg25 c1_i32_74
  let c365_i32 : BitVec 32 := 365#32
  let c159_i32 : BitVec 32 := 159#32
  let v167 : BitVec 32 := Scalar.select v166 c365_i32 c159_i32
  let v169 : BitVec 32 := Scalar.select v168 c763_i32 v167
  let v171 : BitVec 32 := Scalar.select v170 c1417_i32 v169
  let v173 : BitVec 32 := Scalar.select v172 c2391_i32 v171
  let v175 : BitVec 32 := Scalar.select v174 c3749_i32 v173
  let c144_i32_23 : BitVec 32 := 144#32
  let v11 : BitVec 32 := Scalar.addi v10 c144_i32_23
  let c4532_i32 : BitVec 32 := 4532#32
  let v12 : BitVec 32 := Scalar.minsi v11 c4532_i32
  let v176 : BitVec 32 := Scalar.minsi v175 v12
  let v179 : BitVec 32 := Scalar.subi v176 v165
  let c15_i32_79 : BitVec 32 := 15#32
  let v180 : BitVec 32 := Scalar.addi v179 c15_i32_79
  let c0_i32_81 : BitVec 32 := 0#32
  let v182 : BitVec 1 := Scalar.cmpi .sgt v180 c0_i32_81
  let v183 : BitVec 32 := Scalar.extui v182
  let c0_i32_82 : BitVec 32 := 0#32
  let v184 : BitVec 1 := Scalar.cmpi .slt v180 c0_i32_82
  let v185 : BitVec 32 := Scalar.extui v184
  let v186 : BitVec 32 := Scalar.subi v183 v185
  let c16_i32_80 : BitVec 32 := 16#32
  let c0_i32_83 : BitVec 32 := 0#32
  let v187 : BitVec 1 := Scalar.cmpi .sgt c16_i32_80 c0_i32_83
  let v188 : BitVec 32 := Scalar.extui v187
  let c0_i32_84 : BitVec 32 := 0#32
  let v189 : BitVec 1 := Scalar.cmpi .slt c16_i32_80 c0_i32_84
  let v190 : BitVec 32 := Scalar.extui v189
  let v191 : BitVec 32 := Scalar.subi v188 v190
  let v192 : BitVec 1 := Scalar.cmpi .ne v186 v191
  let v193 : BitVec 32 := Scalar.remsi v180 c16_i32_80
  let c0_i32_85 : BitVec 32 := 0#32
  let v194 : BitVec 1 := Scalar.cmpi .ne v193 c0_i32_85
  let v195 : BitVec 1 := Scalar.andi v192 v194
  let v181 : BitVec 32 := Scalar.divsi v180 c16_i32_80
  let c1_i32_86 : BitVec 32 := 1#32
  let v196 : BitVec 32 := Scalar.subi v181 c1_i32_86
  let v197 : BitVec 32 := Scalar.select v195 v196 v181
  let v198 : BitVec 32 := Scalar.maxsi c0_i32_87 v197
  let v199 : BitVec 32 := Scalar.subi v198 c0_i32_89
  let c1_i32_90 : BitVec 32 := 1#32
  let v201 : BitVec 32 := Scalar.divsi v199 c1_i32_90
  let v202 : BitVec 32 := Scalar.muli v201 c1_i32_90
  let v203 : BitVec 32 := Scalar.addi c0_i32_89 v202
  let c1_i32_92 : BitVec 32 := 1#32
  let arg26 : BitVec 32 := Scf.iv v203 c1_i32_92 k0_t5
  let v301 : BitVec 32 := Scalar.muli c16_i32_146 arg26
  let v302 : BitVec 32 := Scalar.addi v165 v301
  let v305 : BitVec 32 := Scalar.subi v302 v10
  let c5_i32_181 : BitVec 32 := 5#32
  let v884 : BitVec 32 := Scalar.addi v305 c5_i32_181
  let v885 : BitVec 32 := Scalar.muli c16_i32_182 v884
  let v886 : Index := Scalar.indexCast v885
  ![v886.toNat]

def k0_chk87 (i : grid0.Coords) (v15 : IVec S16 32) (k0_t3 : Fin k0_t3_loop.trips) (k0_t5 : Fin (k0_t5_loop i k0_t3).trips) (v893 : IVec S16 32) (v897 : IVec S16 32) (v899 : IVec S16 32) : Prop :=
  (∀ a x, ((![v15, v893, v897, v899] : Fin 4 → IVec S16 32) a x).toNat < S1x6x16x16.size a)
theorem k0_idx87_inb : ∀ (i : grid0.Coords) (v15 : IVec S16 32) (k0_t3 : Fin k0_t3_loop.trips) (k0_t5 : Fin (k0_t5_loop i k0_t3).trips) (v893 : IVec S16 32) (v897 : IVec S16 32) (v899 : IVec S16 32) (k0_hw87 : k0_chk87 i v15 k0_t3 k0_t5 v893 v897 v899), ∀ a x, ((![v15, v893, v897, v899] : Fin 4 → IVec S16 32) a x).toNat < S1x6x16x16.size a := fun i v15 k0_t3 k0_t5 v893 v897 v899 k0_hw87 => k0_hw87
def k0_off60 (i : grid0.Coords) (k0_t3 : Fin k0_t3_loop.trips) (k0_t5 : Fin (k0_t5_loop i k0_t3).trips) : Fin 1 → Nat :=
  let c16_i32_188 : BitVec 32 := 16#32
  let c0_i32_45 : BitVec 32 := 0#32
  let c1_i32_47 : BitVec 32 := 1#32
  let arg25 : BitVec 32 := Scf.iv c0_i32_45 c1_i32_47 k0_t3
  let c5_i32_73 : BitVec 32 := 5#32
  let v163 : BitVec 1 := Scalar.cmpi .sge arg25 c5_i32_73
  let c2966_i32 : BitVec 32 := 2966#32
  let c4_i32_72 : BitVec 32 := 4#32
  let v161 : BitVec 1 := Scalar.cmpi .sge arg25 c4_i32_72
  let c1816_i32 : BitVec 32 := 1816#32
  let c3_i32_71 : BitVec 32 := 3#32
  let v159 : BitVec 1 := Scalar.cmpi .sge arg25 c3_i32_71
  let c1018_i32 : BitVec 32 := 1018#32
  let c2_i32_70 : BitVec 32 := 2#32
  let v157 : BitVec 1 := Scalar.cmpi .sge arg25 c2_i32_70
  let c508_i32 : BitVec 32 := 508#32
  let c1_i32_68 : BitVec 32 := 1#32
  let v155 : BitVec 1 := Scalar.cmpi .sge arg25 c1_i32_68
  let c222_i32 : BitVec 32 := 222#32
  let c96_i32_69 : BitVec 32 := 96#32
  let v156 : BitVec 32 := Scalar.select v155 c222_i32 c96_i32_69
  let v158 : BitVec 32 := Scalar.select v157 c508_i32 v156
  let v160 : BitVec 32 := Scalar.select v159 c1018_i32 v158
  let v162 : BitVec 32 := Scalar.select v161 c1816_i32 v160
  let v164 : BitVec 32 := Scalar.select v163 c2966_i32 v162
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c144_i32 : BitVec 32 := 144#32
  let v10 : BitVec 32 := Scalar.muli v1 c144_i32
  let v165 : BitVec 32 := Scalar.maxsi v164 v10
  let c16_i32_146 : BitVec 32 := 16#32
  let c0_i32_89 : BitVec 32 := 0#32
  let c0_i32_87 : BitVec 32 := 0#32
  let c5_i32_78 : BitVec 32 := 5#32
  let v174 : BitVec 1 := Scalar.cmpi .sge arg25 c5_i32_78
  let c3749_i32 : BitVec 32 := 3749#32
  let c4_i32_77 : BitVec 32 := 4#32
  let v172 : BitVec 1 := Scalar.cmpi .sge arg25 c4_i32_77
  let c2391_i32 : BitVec 32 := 2391#32
  let c3_i32_76 : BitVec 32 := 3#32
  let v170 : BitVec 1 := Scalar.cmpi .sge arg25 c3_i32_76
  let c1417_i32 : BitVec 32 := 1417#32
  let c2_i32_75 : BitVec 32 := 2#32
  let v168 : BitVec 1 := Scalar.cmpi .sge arg25 c2_i32_75
  let c763_i32 : BitVec 32 := 763#32
  let c1_i32_74 : BitVec 32 := 1#32
  let v166 : BitVec 1 := Scalar.cmpi .sge arg25 c1_i32_74
  let c365_i32 : BitVec 32 := 365#32
  let c159_i32 : BitVec 32 := 159#32
  let v167 : BitVec 32 := Scalar.select v166 c365_i32 c159_i32
  let v169 : BitVec 32 := Scalar.select v168 c763_i32 v167
  let v171 : BitVec 32 := Scalar.select v170 c1417_i32 v169
  let v173 : BitVec 32 := Scalar.select v172 c2391_i32 v171
  let v175 : BitVec 32 := Scalar.select v174 c3749_i32 v173
  let c144_i32_23 : BitVec 32 := 144#32
  let v11 : BitVec 32 := Scalar.addi v10 c144_i32_23
  let c4532_i32 : BitVec 32 := 4532#32
  let v12 : BitVec 32 := Scalar.minsi v11 c4532_i32
  let v176 : BitVec 32 := Scalar.minsi v175 v12
  let v179 : BitVec 32 := Scalar.subi v176 v165
  let c15_i32_79 : BitVec 32 := 15#32
  let v180 : BitVec 32 := Scalar.addi v179 c15_i32_79
  let c0_i32_81 : BitVec 32 := 0#32
  let v182 : BitVec 1 := Scalar.cmpi .sgt v180 c0_i32_81
  let v183 : BitVec 32 := Scalar.extui v182
  let c0_i32_82 : BitVec 32 := 0#32
  let v184 : BitVec 1 := Scalar.cmpi .slt v180 c0_i32_82
  let v185 : BitVec 32 := Scalar.extui v184
  let v186 : BitVec 32 := Scalar.subi v183 v185
  let c16_i32_80 : BitVec 32 := 16#32
  let c0_i32_83 : BitVec 32 := 0#32
  let v187 : BitVec 1 := Scalar.cmpi .sgt c16_i32_80 c0_i32_83
  let v188 : BitVec 32 := Scalar.extui v187
  let c0_i32_84 : BitVec 32 := 0#32
  let v189 : BitVec 1 := Scalar.cmpi .slt c16_i32_80 c0_i32_84
  let v190 : BitVec 32 := Scalar.extui v189
  let v191 : BitVec 32 := Scalar.subi v188 v190
  let v192 : BitVec 1 := Scalar.cmpi .ne v186 v191
  let v193 : BitVec 32 := Scalar.remsi v180 c16_i32_80
  let c0_i32_85 : BitVec 32 := 0#32
  let v194 : BitVec 1 := Scalar.cmpi .ne v193 c0_i32_85
  let v195 : BitVec 1 := Scalar.andi v192 v194
  let v181 : BitVec 32 := Scalar.divsi v180 c16_i32_80
  let c1_i32_86 : BitVec 32 := 1#32
  let v196 : BitVec 32 := Scalar.subi v181 c1_i32_86
  let v197 : BitVec 32 := Scalar.select v195 v196 v181
  let v198 : BitVec 32 := Scalar.maxsi c0_i32_87 v197
  let v199 : BitVec 32 := Scalar.subi v198 c0_i32_89
  let c1_i32_90 : BitVec 32 := 1#32
  let v201 : BitVec 32 := Scalar.divsi v199 c1_i32_90
  let v202 : BitVec 32 := Scalar.muli v201 c1_i32_90
  let v203 : BitVec 32 := Scalar.addi c0_i32_89 v202
  let c1_i32_92 : BitVec 32 := 1#32
  let arg26 : BitVec 32 := Scf.iv v203 c1_i32_92 k0_t5
  let v301 : BitVec 32 := Scalar.muli c16_i32_146 arg26
  let v302 : BitVec 32 := Scalar.addi v165 v301
  let v305 : BitVec 32 := Scalar.subi v302 v10
  let c6_i32_187 : BitVec 32 := 6#32
  let v981 : BitVec 32 := Scalar.addi v305 c6_i32_187
  let v982 : BitVec 32 := Scalar.muli c16_i32_188 v981
  let v983 : Index := Scalar.indexCast v982
  ![v983.toNat]

def k0_chk88 (i : grid0.Coords) (v15 : IVec S16 32) (k0_t3 : Fin k0_t3_loop.trips) (k0_t5 : Fin (k0_t5_loop i k0_t3).trips) (v990 : IVec S16 32) (v994 : IVec S16 32) (v996 : IVec S16 32) : Prop :=
  (∀ a x, ((![v15, v990, v994, v996] : Fin 4 → IVec S16 32) a x).toNat < S1x6x16x16.size a)
theorem k0_idx88_inb : ∀ (i : grid0.Coords) (v15 : IVec S16 32) (k0_t3 : Fin k0_t3_loop.trips) (k0_t5 : Fin (k0_t5_loop i k0_t3).trips) (v990 : IVec S16 32) (v994 : IVec S16 32) (v996 : IVec S16 32) (k0_hw88 : k0_chk88 i v15 k0_t3 k0_t5 v990 v994 v996), ∀ a x, ((![v15, v990, v994, v996] : Fin 4 → IVec S16 32) a x).toNat < S1x6x16x16.size a := fun i v15 k0_t3 k0_t5 v990 v994 v996 k0_hw88 => k0_hw88
def k0_off61 (i : grid0.Coords) (k0_t3 : Fin k0_t3_loop.trips) (k0_t5 : Fin (k0_t5_loop i k0_t3).trips) : Fin 1 → Nat :=
  let c16_i32_194 : BitVec 32 := 16#32
  let c0_i32_45 : BitVec 32 := 0#32
  let c1_i32_47 : BitVec 32 := 1#32
  let arg25 : BitVec 32 := Scf.iv c0_i32_45 c1_i32_47 k0_t3
  let c5_i32_73 : BitVec 32 := 5#32
  let v163 : BitVec 1 := Scalar.cmpi .sge arg25 c5_i32_73
  let c2966_i32 : BitVec 32 := 2966#32
  let c4_i32_72 : BitVec 32 := 4#32
  let v161 : BitVec 1 := Scalar.cmpi .sge arg25 c4_i32_72
  let c1816_i32 : BitVec 32 := 1816#32
  let c3_i32_71 : BitVec 32 := 3#32
  let v159 : BitVec 1 := Scalar.cmpi .sge arg25 c3_i32_71
  let c1018_i32 : BitVec 32 := 1018#32
  let c2_i32_70 : BitVec 32 := 2#32
  let v157 : BitVec 1 := Scalar.cmpi .sge arg25 c2_i32_70
  let c508_i32 : BitVec 32 := 508#32
  let c1_i32_68 : BitVec 32 := 1#32
  let v155 : BitVec 1 := Scalar.cmpi .sge arg25 c1_i32_68
  let c222_i32 : BitVec 32 := 222#32
  let c96_i32_69 : BitVec 32 := 96#32
  let v156 : BitVec 32 := Scalar.select v155 c222_i32 c96_i32_69
  let v158 : BitVec 32 := Scalar.select v157 c508_i32 v156
  let v160 : BitVec 32 := Scalar.select v159 c1018_i32 v158
  let v162 : BitVec 32 := Scalar.select v161 c1816_i32 v160
  let v164 : BitVec 32 := Scalar.select v163 c2966_i32 v162
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c144_i32 : BitVec 32 := 144#32
  let v10 : BitVec 32 := Scalar.muli v1 c144_i32
  let v165 : BitVec 32 := Scalar.maxsi v164 v10
  let c16_i32_146 : BitVec 32 := 16#32
  let c0_i32_89 : BitVec 32 := 0#32
  let c0_i32_87 : BitVec 32 := 0#32
  let c5_i32_78 : BitVec 32 := 5#32
  let v174 : BitVec 1 := Scalar.cmpi .sge arg25 c5_i32_78
  let c3749_i32 : BitVec 32 := 3749#32
  let c4_i32_77 : BitVec 32 := 4#32
  let v172 : BitVec 1 := Scalar.cmpi .sge arg25 c4_i32_77
  let c2391_i32 : BitVec 32 := 2391#32
  let c3_i32_76 : BitVec 32 := 3#32
  let v170 : BitVec 1 := Scalar.cmpi .sge arg25 c3_i32_76
  let c1417_i32 : BitVec 32 := 1417#32
  let c2_i32_75 : BitVec 32 := 2#32
  let v168 : BitVec 1 := Scalar.cmpi .sge arg25 c2_i32_75
  let c763_i32 : BitVec 32 := 763#32
  let c1_i32_74 : BitVec 32 := 1#32
  let v166 : BitVec 1 := Scalar.cmpi .sge arg25 c1_i32_74
  let c365_i32 : BitVec 32 := 365#32
  let c159_i32 : BitVec 32 := 159#32
  let v167 : BitVec 32 := Scalar.select v166 c365_i32 c159_i32
  let v169 : BitVec 32 := Scalar.select v168 c763_i32 v167
  let v171 : BitVec 32 := Scalar.select v170 c1417_i32 v169
  let v173 : BitVec 32 := Scalar.select v172 c2391_i32 v171
  let v175 : BitVec 32 := Scalar.select v174 c3749_i32 v173
  let c144_i32_23 : BitVec 32 := 144#32
  let v11 : BitVec 32 := Scalar.addi v10 c144_i32_23
  let c4532_i32 : BitVec 32 := 4532#32
  let v12 : BitVec 32 := Scalar.minsi v11 c4532_i32
  let v176 : BitVec 32 := Scalar.minsi v175 v12
  let v179 : BitVec 32 := Scalar.subi v176 v165
  let c15_i32_79 : BitVec 32 := 15#32
  let v180 : BitVec 32 := Scalar.addi v179 c15_i32_79
  let c0_i32_81 : BitVec 32 := 0#32
  let v182 : BitVec 1 := Scalar.cmpi .sgt v180 c0_i32_81
  let v183 : BitVec 32 := Scalar.extui v182
  let c0_i32_82 : BitVec 32 := 0#32
  let v184 : BitVec 1 := Scalar.cmpi .slt v180 c0_i32_82
  let v185 : BitVec 32 := Scalar.extui v184
  let v186 : BitVec 32 := Scalar.subi v183 v185
  let c16_i32_80 : BitVec 32 := 16#32
  let c0_i32_83 : BitVec 32 := 0#32
  let v187 : BitVec 1 := Scalar.cmpi .sgt c16_i32_80 c0_i32_83
  let v188 : BitVec 32 := Scalar.extui v187
  let c0_i32_84 : BitVec 32 := 0#32
  let v189 : BitVec 1 := Scalar.cmpi .slt c16_i32_80 c0_i32_84
  let v190 : BitVec 32 := Scalar.extui v189
  let v191 : BitVec 32 := Scalar.subi v188 v190
  let v192 : BitVec 1 := Scalar.cmpi .ne v186 v191
  let v193 : BitVec 32 := Scalar.remsi v180 c16_i32_80
  let c0_i32_85 : BitVec 32 := 0#32
  let v194 : BitVec 1 := Scalar.cmpi .ne v193 c0_i32_85
  let v195 : BitVec 1 := Scalar.andi v192 v194
  let v181 : BitVec 32 := Scalar.divsi v180 c16_i32_80
  let c1_i32_86 : BitVec 32 := 1#32
  let v196 : BitVec 32 := Scalar.subi v181 c1_i32_86
  let v197 : BitVec 32 := Scalar.select v195 v196 v181
  let v198 : BitVec 32 := Scalar.maxsi c0_i32_87 v197
  let v199 : BitVec 32 := Scalar.subi v198 c0_i32_89
  let c1_i32_90 : BitVec 32 := 1#32
  let v201 : BitVec 32 := Scalar.divsi v199 c1_i32_90
  let v202 : BitVec 32 := Scalar.muli v201 c1_i32_90
  let v203 : BitVec 32 := Scalar.addi c0_i32_89 v202
  let c1_i32_92 : BitVec 32 := 1#32
  let arg26 : BitVec 32 := Scf.iv v203 c1_i32_92 k0_t5
  let v301 : BitVec 32 := Scalar.muli c16_i32_146 arg26
  let v302 : BitVec 32 := Scalar.addi v165 v301
  let v305 : BitVec 32 := Scalar.subi v302 v10
  let c7_i32_193 : BitVec 32 := 7#32
  let v1078 : BitVec 32 := Scalar.addi v305 c7_i32_193
  let v1079 : BitVec 32 := Scalar.muli c16_i32_194 v1078
  let v1080 : Index := Scalar.indexCast v1079
  ![v1080.toNat]

def k0_chk89 (i : grid0.Coords) (v15 : IVec S16 32) (k0_t3 : Fin k0_t3_loop.trips) (k0_t5 : Fin (k0_t5_loop i k0_t3).trips) (v1087 : IVec S16 32) (v1091 : IVec S16 32) (v1093 : IVec S16 32) : Prop :=
  (∀ a x, ((![v15, v1087, v1091, v1093] : Fin 4 → IVec S16 32) a x).toNat < S1x6x16x16.size a)
theorem k0_idx89_inb : ∀ (i : grid0.Coords) (v15 : IVec S16 32) (k0_t3 : Fin k0_t3_loop.trips) (k0_t5 : Fin (k0_t5_loop i k0_t3).trips) (v1087 : IVec S16 32) (v1091 : IVec S16 32) (v1093 : IVec S16 32) (k0_hw89 : k0_chk89 i v15 k0_t3 k0_t5 v1087 v1091 v1093), ∀ a x, ((![v15, v1087, v1091, v1093] : Fin 4 → IVec S16 32) a x).toNat < S1x6x16x16.size a := fun i v15 k0_t3 k0_t5 v1087 v1091 v1093 k0_hw89 => k0_hw89
def k0_off62 (i : grid0.Coords) (k0_t3 : Fin k0_t3_loop.trips) (k0_t5 : Fin (k0_t5_loop i k0_t3).trips) : Fin 1 → Nat :=
  let c16_i32_200 : BitVec 32 := 16#32
  let c0_i32_45 : BitVec 32 := 0#32
  let c1_i32_47 : BitVec 32 := 1#32
  let arg25 : BitVec 32 := Scf.iv c0_i32_45 c1_i32_47 k0_t3
  let c5_i32_73 : BitVec 32 := 5#32
  let v163 : BitVec 1 := Scalar.cmpi .sge arg25 c5_i32_73
  let c2966_i32 : BitVec 32 := 2966#32
  let c4_i32_72 : BitVec 32 := 4#32
  let v161 : BitVec 1 := Scalar.cmpi .sge arg25 c4_i32_72
  let c1816_i32 : BitVec 32 := 1816#32
  let c3_i32_71 : BitVec 32 := 3#32
  let v159 : BitVec 1 := Scalar.cmpi .sge arg25 c3_i32_71
  let c1018_i32 : BitVec 32 := 1018#32
  let c2_i32_70 : BitVec 32 := 2#32
  let v157 : BitVec 1 := Scalar.cmpi .sge arg25 c2_i32_70
  let c508_i32 : BitVec 32 := 508#32
  let c1_i32_68 : BitVec 32 := 1#32
  let v155 : BitVec 1 := Scalar.cmpi .sge arg25 c1_i32_68
  let c222_i32 : BitVec 32 := 222#32
  let c96_i32_69 : BitVec 32 := 96#32
  let v156 : BitVec 32 := Scalar.select v155 c222_i32 c96_i32_69
  let v158 : BitVec 32 := Scalar.select v157 c508_i32 v156
  let v160 : BitVec 32 := Scalar.select v159 c1018_i32 v158
  let v162 : BitVec 32 := Scalar.select v161 c1816_i32 v160
  let v164 : BitVec 32 := Scalar.select v163 c2966_i32 v162
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c144_i32 : BitVec 32 := 144#32
  let v10 : BitVec 32 := Scalar.muli v1 c144_i32
  let v165 : BitVec 32 := Scalar.maxsi v164 v10
  let c16_i32_146 : BitVec 32 := 16#32
  let c0_i32_89 : BitVec 32 := 0#32
  let c0_i32_87 : BitVec 32 := 0#32
  let c5_i32_78 : BitVec 32 := 5#32
  let v174 : BitVec 1 := Scalar.cmpi .sge arg25 c5_i32_78
  let c3749_i32 : BitVec 32 := 3749#32
  let c4_i32_77 : BitVec 32 := 4#32
  let v172 : BitVec 1 := Scalar.cmpi .sge arg25 c4_i32_77
  let c2391_i32 : BitVec 32 := 2391#32
  let c3_i32_76 : BitVec 32 := 3#32
  let v170 : BitVec 1 := Scalar.cmpi .sge arg25 c3_i32_76
  let c1417_i32 : BitVec 32 := 1417#32
  let c2_i32_75 : BitVec 32 := 2#32
  let v168 : BitVec 1 := Scalar.cmpi .sge arg25 c2_i32_75
  let c763_i32 : BitVec 32 := 763#32
  let c1_i32_74 : BitVec 32 := 1#32
  let v166 : BitVec 1 := Scalar.cmpi .sge arg25 c1_i32_74
  let c365_i32 : BitVec 32 := 365#32
  let c159_i32 : BitVec 32 := 159#32
  let v167 : BitVec 32 := Scalar.select v166 c365_i32 c159_i32
  let v169 : BitVec 32 := Scalar.select v168 c763_i32 v167
  let v171 : BitVec 32 := Scalar.select v170 c1417_i32 v169
  let v173 : BitVec 32 := Scalar.select v172 c2391_i32 v171
  let v175 : BitVec 32 := Scalar.select v174 c3749_i32 v173
  let c144_i32_23 : BitVec 32 := 144#32
  let v11 : BitVec 32 := Scalar.addi v10 c144_i32_23
  let c4532_i32 : BitVec 32 := 4532#32
  let v12 : BitVec 32 := Scalar.minsi v11 c4532_i32
  let v176 : BitVec 32 := Scalar.minsi v175 v12
  let v179 : BitVec 32 := Scalar.subi v176 v165
  let c15_i32_79 : BitVec 32 := 15#32
  let v180 : BitVec 32 := Scalar.addi v179 c15_i32_79
  let c0_i32_81 : BitVec 32 := 0#32
  let v182 : BitVec 1 := Scalar.cmpi .sgt v180 c0_i32_81
  let v183 : BitVec 32 := Scalar.extui v182
  let c0_i32_82 : BitVec 32 := 0#32
  let v184 : BitVec 1 := Scalar.cmpi .slt v180 c0_i32_82
  let v185 : BitVec 32 := Scalar.extui v184
  let v186 : BitVec 32 := Scalar.subi v183 v185
  let c16_i32_80 : BitVec 32 := 16#32
  let c0_i32_83 : BitVec 32 := 0#32
  let v187 : BitVec 1 := Scalar.cmpi .sgt c16_i32_80 c0_i32_83
  let v188 : BitVec 32 := Scalar.extui v187
  let c0_i32_84 : BitVec 32 := 0#32
  let v189 : BitVec 1 := Scalar.cmpi .slt c16_i32_80 c0_i32_84
  let v190 : BitVec 32 := Scalar.extui v189
  let v191 : BitVec 32 := Scalar.subi v188 v190
  let v192 : BitVec 1 := Scalar.cmpi .ne v186 v191
  let v193 : BitVec 32 := Scalar.remsi v180 c16_i32_80
  let c0_i32_85 : BitVec 32 := 0#32
  let v194 : BitVec 1 := Scalar.cmpi .ne v193 c0_i32_85
  let v195 : BitVec 1 := Scalar.andi v192 v194
  let v181 : BitVec 32 := Scalar.divsi v180 c16_i32_80
  let c1_i32_86 : BitVec 32 := 1#32
  let v196 : BitVec 32 := Scalar.subi v181 c1_i32_86
  let v197 : BitVec 32 := Scalar.select v195 v196 v181
  let v198 : BitVec 32 := Scalar.maxsi c0_i32_87 v197
  let v199 : BitVec 32 := Scalar.subi v198 c0_i32_89
  let c1_i32_90 : BitVec 32 := 1#32
  let v201 : BitVec 32 := Scalar.divsi v199 c1_i32_90
  let v202 : BitVec 32 := Scalar.muli v201 c1_i32_90
  let v203 : BitVec 32 := Scalar.addi c0_i32_89 v202
  let c1_i32_92 : BitVec 32 := 1#32
  let arg26 : BitVec 32 := Scf.iv v203 c1_i32_92 k0_t5
  let v301 : BitVec 32 := Scalar.muli c16_i32_146 arg26
  let v302 : BitVec 32 := Scalar.addi v165 v301
  let v305 : BitVec 32 := Scalar.subi v302 v10
  let c8_i32_199 : BitVec 32 := 8#32
  let v1175 : BitVec 32 := Scalar.addi v305 c8_i32_199
  let v1176 : BitVec 32 := Scalar.muli c16_i32_200 v1175
  let v1177 : Index := Scalar.indexCast v1176
  ![v1177.toNat]

def k0_chk90 (i : grid0.Coords) (v15 : IVec S16 32) (k0_t3 : Fin k0_t3_loop.trips) (k0_t5 : Fin (k0_t5_loop i k0_t3).trips) (v1184 : IVec S16 32) (v1188 : IVec S16 32) (v1190 : IVec S16 32) : Prop :=
  (∀ a x, ((![v15, v1184, v1188, v1190] : Fin 4 → IVec S16 32) a x).toNat < S1x6x16x16.size a)
theorem k0_idx90_inb : ∀ (i : grid0.Coords) (v15 : IVec S16 32) (k0_t3 : Fin k0_t3_loop.trips) (k0_t5 : Fin (k0_t5_loop i k0_t3).trips) (v1184 : IVec S16 32) (v1188 : IVec S16 32) (v1190 : IVec S16 32) (k0_hw90 : k0_chk90 i v15 k0_t3 k0_t5 v1184 v1188 v1190), ∀ a x, ((![v15, v1184, v1188, v1190] : Fin 4 → IVec S16 32) a x).toNat < S1x6x16x16.size a := fun i v15 k0_t3 k0_t5 v1184 v1188 v1190 k0_hw90 => k0_hw90
def k0_off63 (i : grid0.Coords) (k0_t3 : Fin k0_t3_loop.trips) (k0_t5 : Fin (k0_t5_loop i k0_t3).trips) : Fin 1 → Nat :=
  let c16_i32_206 : BitVec 32 := 16#32
  let c0_i32_45 : BitVec 32 := 0#32
  let c1_i32_47 : BitVec 32 := 1#32
  let arg25 : BitVec 32 := Scf.iv c0_i32_45 c1_i32_47 k0_t3
  let c5_i32_73 : BitVec 32 := 5#32
  let v163 : BitVec 1 := Scalar.cmpi .sge arg25 c5_i32_73
  let c2966_i32 : BitVec 32 := 2966#32
  let c4_i32_72 : BitVec 32 := 4#32
  let v161 : BitVec 1 := Scalar.cmpi .sge arg25 c4_i32_72
  let c1816_i32 : BitVec 32 := 1816#32
  let c3_i32_71 : BitVec 32 := 3#32
  let v159 : BitVec 1 := Scalar.cmpi .sge arg25 c3_i32_71
  let c1018_i32 : BitVec 32 := 1018#32
  let c2_i32_70 : BitVec 32 := 2#32
  let v157 : BitVec 1 := Scalar.cmpi .sge arg25 c2_i32_70
  let c508_i32 : BitVec 32 := 508#32
  let c1_i32_68 : BitVec 32 := 1#32
  let v155 : BitVec 1 := Scalar.cmpi .sge arg25 c1_i32_68
  let c222_i32 : BitVec 32 := 222#32
  let c96_i32_69 : BitVec 32 := 96#32
  let v156 : BitVec 32 := Scalar.select v155 c222_i32 c96_i32_69
  let v158 : BitVec 32 := Scalar.select v157 c508_i32 v156
  let v160 : BitVec 32 := Scalar.select v159 c1018_i32 v158
  let v162 : BitVec 32 := Scalar.select v161 c1816_i32 v160
  let v164 : BitVec 32 := Scalar.select v163 c2966_i32 v162
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c144_i32 : BitVec 32 := 144#32
  let v10 : BitVec 32 := Scalar.muli v1 c144_i32
  let v165 : BitVec 32 := Scalar.maxsi v164 v10
  let c16_i32_146 : BitVec 32 := 16#32
  let c0_i32_89 : BitVec 32 := 0#32
  let c0_i32_87 : BitVec 32 := 0#32
  let c5_i32_78 : BitVec 32 := 5#32
  let v174 : BitVec 1 := Scalar.cmpi .sge arg25 c5_i32_78
  let c3749_i32 : BitVec 32 := 3749#32
  let c4_i32_77 : BitVec 32 := 4#32
  let v172 : BitVec 1 := Scalar.cmpi .sge arg25 c4_i32_77
  let c2391_i32 : BitVec 32 := 2391#32
  let c3_i32_76 : BitVec 32 := 3#32
  let v170 : BitVec 1 := Scalar.cmpi .sge arg25 c3_i32_76
  let c1417_i32 : BitVec 32 := 1417#32
  let c2_i32_75 : BitVec 32 := 2#32
  let v168 : BitVec 1 := Scalar.cmpi .sge arg25 c2_i32_75
  let c763_i32 : BitVec 32 := 763#32
  let c1_i32_74 : BitVec 32 := 1#32
  let v166 : BitVec 1 := Scalar.cmpi .sge arg25 c1_i32_74
  let c365_i32 : BitVec 32 := 365#32
  let c159_i32 : BitVec 32 := 159#32
  let v167 : BitVec 32 := Scalar.select v166 c365_i32 c159_i32
  let v169 : BitVec 32 := Scalar.select v168 c763_i32 v167
  let v171 : BitVec 32 := Scalar.select v170 c1417_i32 v169
  let v173 : BitVec 32 := Scalar.select v172 c2391_i32 v171
  let v175 : BitVec 32 := Scalar.select v174 c3749_i32 v173
  let c144_i32_23 : BitVec 32 := 144#32
  let v11 : BitVec 32 := Scalar.addi v10 c144_i32_23
  let c4532_i32 : BitVec 32 := 4532#32
  let v12 : BitVec 32 := Scalar.minsi v11 c4532_i32
  let v176 : BitVec 32 := Scalar.minsi v175 v12
  let v179 : BitVec 32 := Scalar.subi v176 v165
  let c15_i32_79 : BitVec 32 := 15#32
  let v180 : BitVec 32 := Scalar.addi v179 c15_i32_79
  let c0_i32_81 : BitVec 32 := 0#32
  let v182 : BitVec 1 := Scalar.cmpi .sgt v180 c0_i32_81
  let v183 : BitVec 32 := Scalar.extui v182
  let c0_i32_82 : BitVec 32 := 0#32
  let v184 : BitVec 1 := Scalar.cmpi .slt v180 c0_i32_82
  let v185 : BitVec 32 := Scalar.extui v184
  let v186 : BitVec 32 := Scalar.subi v183 v185
  let c16_i32_80 : BitVec 32 := 16#32
  let c0_i32_83 : BitVec 32 := 0#32
  let v187 : BitVec 1 := Scalar.cmpi .sgt c16_i32_80 c0_i32_83
  let v188 : BitVec 32 := Scalar.extui v187
  let c0_i32_84 : BitVec 32 := 0#32
  let v189 : BitVec 1 := Scalar.cmpi .slt c16_i32_80 c0_i32_84
  let v190 : BitVec 32 := Scalar.extui v189
  let v191 : BitVec 32 := Scalar.subi v188 v190
  let v192 : BitVec 1 := Scalar.cmpi .ne v186 v191
  let v193 : BitVec 32 := Scalar.remsi v180 c16_i32_80
  let c0_i32_85 : BitVec 32 := 0#32
  let v194 : BitVec 1 := Scalar.cmpi .ne v193 c0_i32_85
  let v195 : BitVec 1 := Scalar.andi v192 v194
  let v181 : BitVec 32 := Scalar.divsi v180 c16_i32_80
  let c1_i32_86 : BitVec 32 := 1#32
  let v196 : BitVec 32 := Scalar.subi v181 c1_i32_86
  let v197 : BitVec 32 := Scalar.select v195 v196 v181
  let v198 : BitVec 32 := Scalar.maxsi c0_i32_87 v197
  let v199 : BitVec 32 := Scalar.subi v198 c0_i32_89
  let c1_i32_90 : BitVec 32 := 1#32
  let v201 : BitVec 32 := Scalar.divsi v199 c1_i32_90
  let v202 : BitVec 32 := Scalar.muli v201 c1_i32_90
  let v203 : BitVec 32 := Scalar.addi c0_i32_89 v202
  let c1_i32_92 : BitVec 32 := 1#32
  let arg26 : BitVec 32 := Scf.iv v203 c1_i32_92 k0_t5
  let v301 : BitVec 32 := Scalar.muli c16_i32_146 arg26
  let v302 : BitVec 32 := Scalar.addi v165 v301
  let v305 : BitVec 32 := Scalar.subi v302 v10
  let c9_i32_205 : BitVec 32 := 9#32
  let v1272 : BitVec 32 := Scalar.addi v305 c9_i32_205
  let v1273 : BitVec 32 := Scalar.muli c16_i32_206 v1272
  let v1274 : Index := Scalar.indexCast v1273
  ![v1274.toNat]

def k0_chk91 (i : grid0.Coords) (v15 : IVec S16 32) (k0_t3 : Fin k0_t3_loop.trips) (k0_t5 : Fin (k0_t5_loop i k0_t3).trips) (v1281 : IVec S16 32) (v1285 : IVec S16 32) (v1287 : IVec S16 32) : Prop :=
  (∀ a x, ((![v15, v1281, v1285, v1287] : Fin 4 → IVec S16 32) a x).toNat < S1x6x16x16.size a)
theorem k0_idx91_inb : ∀ (i : grid0.Coords) (v15 : IVec S16 32) (k0_t3 : Fin k0_t3_loop.trips) (k0_t5 : Fin (k0_t5_loop i k0_t3).trips) (v1281 : IVec S16 32) (v1285 : IVec S16 32) (v1287 : IVec S16 32) (k0_hw91 : k0_chk91 i v15 k0_t3 k0_t5 v1281 v1285 v1287), ∀ a x, ((![v15, v1281, v1285, v1287] : Fin 4 → IVec S16 32) a x).toNat < S1x6x16x16.size a := fun i v15 k0_t3 k0_t5 v1281 v1285 v1287 k0_hw91 => k0_hw91
def k0_off64 (i : grid0.Coords) (k0_t3 : Fin k0_t3_loop.trips) (k0_t5 : Fin (k0_t5_loop i k0_t3).trips) : Fin 1 → Nat :=
  let c16_i32_212 : BitVec 32 := 16#32
  let c0_i32_45 : BitVec 32 := 0#32
  let c1_i32_47 : BitVec 32 := 1#32
  let arg25 : BitVec 32 := Scf.iv c0_i32_45 c1_i32_47 k0_t3
  let c5_i32_73 : BitVec 32 := 5#32
  let v163 : BitVec 1 := Scalar.cmpi .sge arg25 c5_i32_73
  let c2966_i32 : BitVec 32 := 2966#32
  let c4_i32_72 : BitVec 32 := 4#32
  let v161 : BitVec 1 := Scalar.cmpi .sge arg25 c4_i32_72
  let c1816_i32 : BitVec 32 := 1816#32
  let c3_i32_71 : BitVec 32 := 3#32
  let v159 : BitVec 1 := Scalar.cmpi .sge arg25 c3_i32_71
  let c1018_i32 : BitVec 32 := 1018#32
  let c2_i32_70 : BitVec 32 := 2#32
  let v157 : BitVec 1 := Scalar.cmpi .sge arg25 c2_i32_70
  let c508_i32 : BitVec 32 := 508#32
  let c1_i32_68 : BitVec 32 := 1#32
  let v155 : BitVec 1 := Scalar.cmpi .sge arg25 c1_i32_68
  let c222_i32 : BitVec 32 := 222#32
  let c96_i32_69 : BitVec 32 := 96#32
  let v156 : BitVec 32 := Scalar.select v155 c222_i32 c96_i32_69
  let v158 : BitVec 32 := Scalar.select v157 c508_i32 v156
  let v160 : BitVec 32 := Scalar.select v159 c1018_i32 v158
  let v162 : BitVec 32 := Scalar.select v161 c1816_i32 v160
  let v164 : BitVec 32 := Scalar.select v163 c2966_i32 v162
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c144_i32 : BitVec 32 := 144#32
  let v10 : BitVec 32 := Scalar.muli v1 c144_i32
  let v165 : BitVec 32 := Scalar.maxsi v164 v10
  let c16_i32_146 : BitVec 32 := 16#32
  let c0_i32_89 : BitVec 32 := 0#32
  let c0_i32_87 : BitVec 32 := 0#32
  let c5_i32_78 : BitVec 32 := 5#32
  let v174 : BitVec 1 := Scalar.cmpi .sge arg25 c5_i32_78
  let c3749_i32 : BitVec 32 := 3749#32
  let c4_i32_77 : BitVec 32 := 4#32
  let v172 : BitVec 1 := Scalar.cmpi .sge arg25 c4_i32_77
  let c2391_i32 : BitVec 32 := 2391#32
  let c3_i32_76 : BitVec 32 := 3#32
  let v170 : BitVec 1 := Scalar.cmpi .sge arg25 c3_i32_76
  let c1417_i32 : BitVec 32 := 1417#32
  let c2_i32_75 : BitVec 32 := 2#32
  let v168 : BitVec 1 := Scalar.cmpi .sge arg25 c2_i32_75
  let c763_i32 : BitVec 32 := 763#32
  let c1_i32_74 : BitVec 32 := 1#32
  let v166 : BitVec 1 := Scalar.cmpi .sge arg25 c1_i32_74
  let c365_i32 : BitVec 32 := 365#32
  let c159_i32 : BitVec 32 := 159#32
  let v167 : BitVec 32 := Scalar.select v166 c365_i32 c159_i32
  let v169 : BitVec 32 := Scalar.select v168 c763_i32 v167
  let v171 : BitVec 32 := Scalar.select v170 c1417_i32 v169
  let v173 : BitVec 32 := Scalar.select v172 c2391_i32 v171
  let v175 : BitVec 32 := Scalar.select v174 c3749_i32 v173
  let c144_i32_23 : BitVec 32 := 144#32
  let v11 : BitVec 32 := Scalar.addi v10 c144_i32_23
  let c4532_i32 : BitVec 32 := 4532#32
  let v12 : BitVec 32 := Scalar.minsi v11 c4532_i32
  let v176 : BitVec 32 := Scalar.minsi v175 v12
  let v179 : BitVec 32 := Scalar.subi v176 v165
  let c15_i32_79 : BitVec 32 := 15#32
  let v180 : BitVec 32 := Scalar.addi v179 c15_i32_79
  let c0_i32_81 : BitVec 32 := 0#32
  let v182 : BitVec 1 := Scalar.cmpi .sgt v180 c0_i32_81
  let v183 : BitVec 32 := Scalar.extui v182
  let c0_i32_82 : BitVec 32 := 0#32
  let v184 : BitVec 1 := Scalar.cmpi .slt v180 c0_i32_82
  let v185 : BitVec 32 := Scalar.extui v184
  let v186 : BitVec 32 := Scalar.subi v183 v185
  let c16_i32_80 : BitVec 32 := 16#32
  let c0_i32_83 : BitVec 32 := 0#32
  let v187 : BitVec 1 := Scalar.cmpi .sgt c16_i32_80 c0_i32_83
  let v188 : BitVec 32 := Scalar.extui v187
  let c0_i32_84 : BitVec 32 := 0#32
  let v189 : BitVec 1 := Scalar.cmpi .slt c16_i32_80 c0_i32_84
  let v190 : BitVec 32 := Scalar.extui v189
  let v191 : BitVec 32 := Scalar.subi v188 v190
  let v192 : BitVec 1 := Scalar.cmpi .ne v186 v191
  let v193 : BitVec 32 := Scalar.remsi v180 c16_i32_80
  let c0_i32_85 : BitVec 32 := 0#32
  let v194 : BitVec 1 := Scalar.cmpi .ne v193 c0_i32_85
  let v195 : BitVec 1 := Scalar.andi v192 v194
  let v181 : BitVec 32 := Scalar.divsi v180 c16_i32_80
  let c1_i32_86 : BitVec 32 := 1#32
  let v196 : BitVec 32 := Scalar.subi v181 c1_i32_86
  let v197 : BitVec 32 := Scalar.select v195 v196 v181
  let v198 : BitVec 32 := Scalar.maxsi c0_i32_87 v197
  let v199 : BitVec 32 := Scalar.subi v198 c0_i32_89
  let c1_i32_90 : BitVec 32 := 1#32
  let v201 : BitVec 32 := Scalar.divsi v199 c1_i32_90
  let v202 : BitVec 32 := Scalar.muli v201 c1_i32_90
  let v203 : BitVec 32 := Scalar.addi c0_i32_89 v202
  let c1_i32_92 : BitVec 32 := 1#32
  let arg26 : BitVec 32 := Scf.iv v203 c1_i32_92 k0_t5
  let v301 : BitVec 32 := Scalar.muli c16_i32_146 arg26
  let v302 : BitVec 32 := Scalar.addi v165 v301
  let v305 : BitVec 32 := Scalar.subi v302 v10
  let c10_i32_211 : BitVec 32 := 10#32
  let v1369 : BitVec 32 := Scalar.addi v305 c10_i32_211
  let v1370 : BitVec 32 := Scalar.muli c16_i32_212 v1369
  let v1371 : Index := Scalar.indexCast v1370
  ![v1371.toNat]

def k0_chk92 (i : grid0.Coords) (v15 : IVec S16 32) (k0_t3 : Fin k0_t3_loop.trips) (k0_t5 : Fin (k0_t5_loop i k0_t3).trips) (v1378 : IVec S16 32) (v1382 : IVec S16 32) (v1384 : IVec S16 32) : Prop :=
  (∀ a x, ((![v15, v1378, v1382, v1384] : Fin 4 → IVec S16 32) a x).toNat < S1x6x16x16.size a)
theorem k0_idx92_inb : ∀ (i : grid0.Coords) (v15 : IVec S16 32) (k0_t3 : Fin k0_t3_loop.trips) (k0_t5 : Fin (k0_t5_loop i k0_t3).trips) (v1378 : IVec S16 32) (v1382 : IVec S16 32) (v1384 : IVec S16 32) (k0_hw92 : k0_chk92 i v15 k0_t3 k0_t5 v1378 v1382 v1384), ∀ a x, ((![v15, v1378, v1382, v1384] : Fin 4 → IVec S16 32) a x).toNat < S1x6x16x16.size a := fun i v15 k0_t3 k0_t5 v1378 v1382 v1384 k0_hw92 => k0_hw92
def k0_off65 (i : grid0.Coords) (k0_t3 : Fin k0_t3_loop.trips) (k0_t5 : Fin (k0_t5_loop i k0_t3).trips) : Fin 1 → Nat :=
  let c16_i32_218 : BitVec 32 := 16#32
  let c0_i32_45 : BitVec 32 := 0#32
  let c1_i32_47 : BitVec 32 := 1#32
  let arg25 : BitVec 32 := Scf.iv c0_i32_45 c1_i32_47 k0_t3
  let c5_i32_73 : BitVec 32 := 5#32
  let v163 : BitVec 1 := Scalar.cmpi .sge arg25 c5_i32_73
  let c2966_i32 : BitVec 32 := 2966#32
  let c4_i32_72 : BitVec 32 := 4#32
  let v161 : BitVec 1 := Scalar.cmpi .sge arg25 c4_i32_72
  let c1816_i32 : BitVec 32 := 1816#32
  let c3_i32_71 : BitVec 32 := 3#32
  let v159 : BitVec 1 := Scalar.cmpi .sge arg25 c3_i32_71
  let c1018_i32 : BitVec 32 := 1018#32
  let c2_i32_70 : BitVec 32 := 2#32
  let v157 : BitVec 1 := Scalar.cmpi .sge arg25 c2_i32_70
  let c508_i32 : BitVec 32 := 508#32
  let c1_i32_68 : BitVec 32 := 1#32
  let v155 : BitVec 1 := Scalar.cmpi .sge arg25 c1_i32_68
  let c222_i32 : BitVec 32 := 222#32
  let c96_i32_69 : BitVec 32 := 96#32
  let v156 : BitVec 32 := Scalar.select v155 c222_i32 c96_i32_69
  let v158 : BitVec 32 := Scalar.select v157 c508_i32 v156
  let v160 : BitVec 32 := Scalar.select v159 c1018_i32 v158
  let v162 : BitVec 32 := Scalar.select v161 c1816_i32 v160
  let v164 : BitVec 32 := Scalar.select v163 c2966_i32 v162
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c144_i32 : BitVec 32 := 144#32
  let v10 : BitVec 32 := Scalar.muli v1 c144_i32
  let v165 : BitVec 32 := Scalar.maxsi v164 v10
  let c16_i32_146 : BitVec 32 := 16#32
  let c0_i32_89 : BitVec 32 := 0#32
  let c0_i32_87 : BitVec 32 := 0#32
  let c5_i32_78 : BitVec 32 := 5#32
  let v174 : BitVec 1 := Scalar.cmpi .sge arg25 c5_i32_78
  let c3749_i32 : BitVec 32 := 3749#32
  let c4_i32_77 : BitVec 32 := 4#32
  let v172 : BitVec 1 := Scalar.cmpi .sge arg25 c4_i32_77
  let c2391_i32 : BitVec 32 := 2391#32
  let c3_i32_76 : BitVec 32 := 3#32
  let v170 : BitVec 1 := Scalar.cmpi .sge arg25 c3_i32_76
  let c1417_i32 : BitVec 32 := 1417#32
  let c2_i32_75 : BitVec 32 := 2#32
  let v168 : BitVec 1 := Scalar.cmpi .sge arg25 c2_i32_75
  let c763_i32 : BitVec 32 := 763#32
  let c1_i32_74 : BitVec 32 := 1#32
  let v166 : BitVec 1 := Scalar.cmpi .sge arg25 c1_i32_74
  let c365_i32 : BitVec 32 := 365#32
  let c159_i32 : BitVec 32 := 159#32
  let v167 : BitVec 32 := Scalar.select v166 c365_i32 c159_i32
  let v169 : BitVec 32 := Scalar.select v168 c763_i32 v167
  let v171 : BitVec 32 := Scalar.select v170 c1417_i32 v169
  let v173 : BitVec 32 := Scalar.select v172 c2391_i32 v171
  let v175 : BitVec 32 := Scalar.select v174 c3749_i32 v173
  let c144_i32_23 : BitVec 32 := 144#32
  let v11 : BitVec 32 := Scalar.addi v10 c144_i32_23
  let c4532_i32 : BitVec 32 := 4532#32
  let v12 : BitVec 32 := Scalar.minsi v11 c4532_i32
  let v176 : BitVec 32 := Scalar.minsi v175 v12
  let v179 : BitVec 32 := Scalar.subi v176 v165
  let c15_i32_79 : BitVec 32 := 15#32
  let v180 : BitVec 32 := Scalar.addi v179 c15_i32_79
  let c0_i32_81 : BitVec 32 := 0#32
  let v182 : BitVec 1 := Scalar.cmpi .sgt v180 c0_i32_81
  let v183 : BitVec 32 := Scalar.extui v182
  let c0_i32_82 : BitVec 32 := 0#32
  let v184 : BitVec 1 := Scalar.cmpi .slt v180 c0_i32_82
  let v185 : BitVec 32 := Scalar.extui v184
  let v186 : BitVec 32 := Scalar.subi v183 v185
  let c16_i32_80 : BitVec 32 := 16#32
  let c0_i32_83 : BitVec 32 := 0#32
  let v187 : BitVec 1 := Scalar.cmpi .sgt c16_i32_80 c0_i32_83
  let v188 : BitVec 32 := Scalar.extui v187
  let c0_i32_84 : BitVec 32 := 0#32
  let v189 : BitVec 1 := Scalar.cmpi .slt c16_i32_80 c0_i32_84
  let v190 : BitVec 32 := Scalar.extui v189
  let v191 : BitVec 32 := Scalar.subi v188 v190
  let v192 : BitVec 1 := Scalar.cmpi .ne v186 v191
  let v193 : BitVec 32 := Scalar.remsi v180 c16_i32_80
  let c0_i32_85 : BitVec 32 := 0#32
  let v194 : BitVec 1 := Scalar.cmpi .ne v193 c0_i32_85
  let v195 : BitVec 1 := Scalar.andi v192 v194
  let v181 : BitVec 32 := Scalar.divsi v180 c16_i32_80
  let c1_i32_86 : BitVec 32 := 1#32
  let v196 : BitVec 32 := Scalar.subi v181 c1_i32_86
  let v197 : BitVec 32 := Scalar.select v195 v196 v181
  let v198 : BitVec 32 := Scalar.maxsi c0_i32_87 v197
  let v199 : BitVec 32 := Scalar.subi v198 c0_i32_89
  let c1_i32_90 : BitVec 32 := 1#32
  let v201 : BitVec 32 := Scalar.divsi v199 c1_i32_90
  let v202 : BitVec 32 := Scalar.muli v201 c1_i32_90
  let v203 : BitVec 32 := Scalar.addi c0_i32_89 v202
  let c1_i32_92 : BitVec 32 := 1#32
  let arg26 : BitVec 32 := Scf.iv v203 c1_i32_92 k0_t5
  let v301 : BitVec 32 := Scalar.muli c16_i32_146 arg26
  let v302 : BitVec 32 := Scalar.addi v165 v301
  let v305 : BitVec 32 := Scalar.subi v302 v10
  let c11_i32_217 : BitVec 32 := 11#32
  let v1466 : BitVec 32 := Scalar.addi v305 c11_i32_217
  let v1467 : BitVec 32 := Scalar.muli c16_i32_218 v1466
  let v1468 : Index := Scalar.indexCast v1467
  ![v1468.toNat]

def k0_chk93 (i : grid0.Coords) (v15 : IVec S16 32) (k0_t3 : Fin k0_t3_loop.trips) (k0_t5 : Fin (k0_t5_loop i k0_t3).trips) (v1475 : IVec S16 32) (v1479 : IVec S16 32) (v1481 : IVec S16 32) : Prop :=
  (∀ a x, ((![v15, v1475, v1479, v1481] : Fin 4 → IVec S16 32) a x).toNat < S1x6x16x16.size a)
theorem k0_idx93_inb : ∀ (i : grid0.Coords) (v15 : IVec S16 32) (k0_t3 : Fin k0_t3_loop.trips) (k0_t5 : Fin (k0_t5_loop i k0_t3).trips) (v1475 : IVec S16 32) (v1479 : IVec S16 32) (v1481 : IVec S16 32) (k0_hw93 : k0_chk93 i v15 k0_t3 k0_t5 v1475 v1479 v1481), ∀ a x, ((![v15, v1475, v1479, v1481] : Fin 4 → IVec S16 32) a x).toNat < S1x6x16x16.size a := fun i v15 k0_t3 k0_t5 v1475 v1479 v1481 k0_hw93 => k0_hw93
def k0_off66 (i : grid0.Coords) (k0_t3 : Fin k0_t3_loop.trips) (k0_t5 : Fin (k0_t5_loop i k0_t3).trips) : Fin 1 → Nat :=
  let c16_i32_224 : BitVec 32 := 16#32
  let c0_i32_45 : BitVec 32 := 0#32
  let c1_i32_47 : BitVec 32 := 1#32
  let arg25 : BitVec 32 := Scf.iv c0_i32_45 c1_i32_47 k0_t3
  let c5_i32_73 : BitVec 32 := 5#32
  let v163 : BitVec 1 := Scalar.cmpi .sge arg25 c5_i32_73
  let c2966_i32 : BitVec 32 := 2966#32
  let c4_i32_72 : BitVec 32 := 4#32
  let v161 : BitVec 1 := Scalar.cmpi .sge arg25 c4_i32_72
  let c1816_i32 : BitVec 32 := 1816#32
  let c3_i32_71 : BitVec 32 := 3#32
  let v159 : BitVec 1 := Scalar.cmpi .sge arg25 c3_i32_71
  let c1018_i32 : BitVec 32 := 1018#32
  let c2_i32_70 : BitVec 32 := 2#32
  let v157 : BitVec 1 := Scalar.cmpi .sge arg25 c2_i32_70
  let c508_i32 : BitVec 32 := 508#32
  let c1_i32_68 : BitVec 32 := 1#32
  let v155 : BitVec 1 := Scalar.cmpi .sge arg25 c1_i32_68
  let c222_i32 : BitVec 32 := 222#32
  let c96_i32_69 : BitVec 32 := 96#32
  let v156 : BitVec 32 := Scalar.select v155 c222_i32 c96_i32_69
  let v158 : BitVec 32 := Scalar.select v157 c508_i32 v156
  let v160 : BitVec 32 := Scalar.select v159 c1018_i32 v158
  let v162 : BitVec 32 := Scalar.select v161 c1816_i32 v160
  let v164 : BitVec 32 := Scalar.select v163 c2966_i32 v162
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c144_i32 : BitVec 32 := 144#32
  let v10 : BitVec 32 := Scalar.muli v1 c144_i32
  let v165 : BitVec 32 := Scalar.maxsi v164 v10
  let c16_i32_146 : BitVec 32 := 16#32
  let c0_i32_89 : BitVec 32 := 0#32
  let c0_i32_87 : BitVec 32 := 0#32
  let c5_i32_78 : BitVec 32 := 5#32
  let v174 : BitVec 1 := Scalar.cmpi .sge arg25 c5_i32_78
  let c3749_i32 : BitVec 32 := 3749#32
  let c4_i32_77 : BitVec 32 := 4#32
  let v172 : BitVec 1 := Scalar.cmpi .sge arg25 c4_i32_77
  let c2391_i32 : BitVec 32 := 2391#32
  let c3_i32_76 : BitVec 32 := 3#32
  let v170 : BitVec 1 := Scalar.cmpi .sge arg25 c3_i32_76
  let c1417_i32 : BitVec 32 := 1417#32
  let c2_i32_75 : BitVec 32 := 2#32
  let v168 : BitVec 1 := Scalar.cmpi .sge arg25 c2_i32_75
  let c763_i32 : BitVec 32 := 763#32
  let c1_i32_74 : BitVec 32 := 1#32
  let v166 : BitVec 1 := Scalar.cmpi .sge arg25 c1_i32_74
  let c365_i32 : BitVec 32 := 365#32
  let c159_i32 : BitVec 32 := 159#32
  let v167 : BitVec 32 := Scalar.select v166 c365_i32 c159_i32
  let v169 : BitVec 32 := Scalar.select v168 c763_i32 v167
  let v171 : BitVec 32 := Scalar.select v170 c1417_i32 v169
  let v173 : BitVec 32 := Scalar.select v172 c2391_i32 v171
  let v175 : BitVec 32 := Scalar.select v174 c3749_i32 v173
  let c144_i32_23 : BitVec 32 := 144#32
  let v11 : BitVec 32 := Scalar.addi v10 c144_i32_23
  let c4532_i32 : BitVec 32 := 4532#32
  let v12 : BitVec 32 := Scalar.minsi v11 c4532_i32
  let v176 : BitVec 32 := Scalar.minsi v175 v12
  let v179 : BitVec 32 := Scalar.subi v176 v165
  let c15_i32_79 : BitVec 32 := 15#32
  let v180 : BitVec 32 := Scalar.addi v179 c15_i32_79
  let c0_i32_81 : BitVec 32 := 0#32
  let v182 : BitVec 1 := Scalar.cmpi .sgt v180 c0_i32_81
  let v183 : BitVec 32 := Scalar.extui v182
  let c0_i32_82 : BitVec 32 := 0#32
  let v184 : BitVec 1 := Scalar.cmpi .slt v180 c0_i32_82
  let v185 : BitVec 32 := Scalar.extui v184
  let v186 : BitVec 32 := Scalar.subi v183 v185
  let c16_i32_80 : BitVec 32 := 16#32
  let c0_i32_83 : BitVec 32 := 0#32
  let v187 : BitVec 1 := Scalar.cmpi .sgt c16_i32_80 c0_i32_83
  let v188 : BitVec 32 := Scalar.extui v187
  let c0_i32_84 : BitVec 32 := 0#32
  let v189 : BitVec 1 := Scalar.cmpi .slt c16_i32_80 c0_i32_84
  let v190 : BitVec 32 := Scalar.extui v189
  let v191 : BitVec 32 := Scalar.subi v188 v190
  let v192 : BitVec 1 := Scalar.cmpi .ne v186 v191
  let v193 : BitVec 32 := Scalar.remsi v180 c16_i32_80
  let c0_i32_85 : BitVec 32 := 0#32
  let v194 : BitVec 1 := Scalar.cmpi .ne v193 c0_i32_85
  let v195 : BitVec 1 := Scalar.andi v192 v194
  let v181 : BitVec 32 := Scalar.divsi v180 c16_i32_80
  let c1_i32_86 : BitVec 32 := 1#32
  let v196 : BitVec 32 := Scalar.subi v181 c1_i32_86
  let v197 : BitVec 32 := Scalar.select v195 v196 v181
  let v198 : BitVec 32 := Scalar.maxsi c0_i32_87 v197
  let v199 : BitVec 32 := Scalar.subi v198 c0_i32_89
  let c1_i32_90 : BitVec 32 := 1#32
  let v201 : BitVec 32 := Scalar.divsi v199 c1_i32_90
  let v202 : BitVec 32 := Scalar.muli v201 c1_i32_90
  let v203 : BitVec 32 := Scalar.addi c0_i32_89 v202
  let c1_i32_92 : BitVec 32 := 1#32
  let arg26 : BitVec 32 := Scf.iv v203 c1_i32_92 k0_t5
  let v301 : BitVec 32 := Scalar.muli c16_i32_146 arg26
  let v302 : BitVec 32 := Scalar.addi v165 v301
  let v305 : BitVec 32 := Scalar.subi v302 v10
  let c12_i32_223 : BitVec 32 := 12#32
  let v1563 : BitVec 32 := Scalar.addi v305 c12_i32_223
  let v1564 : BitVec 32 := Scalar.muli c16_i32_224 v1563
  let v1565 : Index := Scalar.indexCast v1564
  ![v1565.toNat]

def k0_chk94 (i : grid0.Coords) (v15 : IVec S16 32) (k0_t3 : Fin k0_t3_loop.trips) (k0_t5 : Fin (k0_t5_loop i k0_t3).trips) (v1572 : IVec S16 32) (v1576 : IVec S16 32) (v1578 : IVec S16 32) : Prop :=
  (∀ a x, ((![v15, v1572, v1576, v1578] : Fin 4 → IVec S16 32) a x).toNat < S1x6x16x16.size a)
theorem k0_idx94_inb : ∀ (i : grid0.Coords) (v15 : IVec S16 32) (k0_t3 : Fin k0_t3_loop.trips) (k0_t5 : Fin (k0_t5_loop i k0_t3).trips) (v1572 : IVec S16 32) (v1576 : IVec S16 32) (v1578 : IVec S16 32) (k0_hw94 : k0_chk94 i v15 k0_t3 k0_t5 v1572 v1576 v1578), ∀ a x, ((![v15, v1572, v1576, v1578] : Fin 4 → IVec S16 32) a x).toNat < S1x6x16x16.size a := fun i v15 k0_t3 k0_t5 v1572 v1576 v1578 k0_hw94 => k0_hw94
def k0_off67 (i : grid0.Coords) (k0_t3 : Fin k0_t3_loop.trips) (k0_t5 : Fin (k0_t5_loop i k0_t3).trips) : Fin 1 → Nat :=
  let c16_i32_230 : BitVec 32 := 16#32
  let c0_i32_45 : BitVec 32 := 0#32
  let c1_i32_47 : BitVec 32 := 1#32
  let arg25 : BitVec 32 := Scf.iv c0_i32_45 c1_i32_47 k0_t3
  let c5_i32_73 : BitVec 32 := 5#32
  let v163 : BitVec 1 := Scalar.cmpi .sge arg25 c5_i32_73
  let c2966_i32 : BitVec 32 := 2966#32
  let c4_i32_72 : BitVec 32 := 4#32
  let v161 : BitVec 1 := Scalar.cmpi .sge arg25 c4_i32_72
  let c1816_i32 : BitVec 32 := 1816#32
  let c3_i32_71 : BitVec 32 := 3#32
  let v159 : BitVec 1 := Scalar.cmpi .sge arg25 c3_i32_71
  let c1018_i32 : BitVec 32 := 1018#32
  let c2_i32_70 : BitVec 32 := 2#32
  let v157 : BitVec 1 := Scalar.cmpi .sge arg25 c2_i32_70
  let c508_i32 : BitVec 32 := 508#32
  let c1_i32_68 : BitVec 32 := 1#32
  let v155 : BitVec 1 := Scalar.cmpi .sge arg25 c1_i32_68
  let c222_i32 : BitVec 32 := 222#32
  let c96_i32_69 : BitVec 32 := 96#32
  let v156 : BitVec 32 := Scalar.select v155 c222_i32 c96_i32_69
  let v158 : BitVec 32 := Scalar.select v157 c508_i32 v156
  let v160 : BitVec 32 := Scalar.select v159 c1018_i32 v158
  let v162 : BitVec 32 := Scalar.select v161 c1816_i32 v160
  let v164 : BitVec 32 := Scalar.select v163 c2966_i32 v162
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c144_i32 : BitVec 32 := 144#32
  let v10 : BitVec 32 := Scalar.muli v1 c144_i32
  let v165 : BitVec 32 := Scalar.maxsi v164 v10
  let c16_i32_146 : BitVec 32 := 16#32
  let c0_i32_89 : BitVec 32 := 0#32
  let c0_i32_87 : BitVec 32 := 0#32
  let c5_i32_78 : BitVec 32 := 5#32
  let v174 : BitVec 1 := Scalar.cmpi .sge arg25 c5_i32_78
  let c3749_i32 : BitVec 32 := 3749#32
  let c4_i32_77 : BitVec 32 := 4#32
  let v172 : BitVec 1 := Scalar.cmpi .sge arg25 c4_i32_77
  let c2391_i32 : BitVec 32 := 2391#32
  let c3_i32_76 : BitVec 32 := 3#32
  let v170 : BitVec 1 := Scalar.cmpi .sge arg25 c3_i32_76
  let c1417_i32 : BitVec 32 := 1417#32
  let c2_i32_75 : BitVec 32 := 2#32
  let v168 : BitVec 1 := Scalar.cmpi .sge arg25 c2_i32_75
  let c763_i32 : BitVec 32 := 763#32
  let c1_i32_74 : BitVec 32 := 1#32
  let v166 : BitVec 1 := Scalar.cmpi .sge arg25 c1_i32_74
  let c365_i32 : BitVec 32 := 365#32
  let c159_i32 : BitVec 32 := 159#32
  let v167 : BitVec 32 := Scalar.select v166 c365_i32 c159_i32
  let v169 : BitVec 32 := Scalar.select v168 c763_i32 v167
  let v171 : BitVec 32 := Scalar.select v170 c1417_i32 v169
  let v173 : BitVec 32 := Scalar.select v172 c2391_i32 v171
  let v175 : BitVec 32 := Scalar.select v174 c3749_i32 v173
  let c144_i32_23 : BitVec 32 := 144#32
  let v11 : BitVec 32 := Scalar.addi v10 c144_i32_23
  let c4532_i32 : BitVec 32 := 4532#32
  let v12 : BitVec 32 := Scalar.minsi v11 c4532_i32
  let v176 : BitVec 32 := Scalar.minsi v175 v12
  let v179 : BitVec 32 := Scalar.subi v176 v165
  let c15_i32_79 : BitVec 32 := 15#32
  let v180 : BitVec 32 := Scalar.addi v179 c15_i32_79
  let c0_i32_81 : BitVec 32 := 0#32
  let v182 : BitVec 1 := Scalar.cmpi .sgt v180 c0_i32_81
  let v183 : BitVec 32 := Scalar.extui v182
  let c0_i32_82 : BitVec 32 := 0#32
  let v184 : BitVec 1 := Scalar.cmpi .slt v180 c0_i32_82
  let v185 : BitVec 32 := Scalar.extui v184
  let v186 : BitVec 32 := Scalar.subi v183 v185
  let c16_i32_80 : BitVec 32 := 16#32
  let c0_i32_83 : BitVec 32 := 0#32
  let v187 : BitVec 1 := Scalar.cmpi .sgt c16_i32_80 c0_i32_83
  let v188 : BitVec 32 := Scalar.extui v187
  let c0_i32_84 : BitVec 32 := 0#32
  let v189 : BitVec 1 := Scalar.cmpi .slt c16_i32_80 c0_i32_84
  let v190 : BitVec 32 := Scalar.extui v189
  let v191 : BitVec 32 := Scalar.subi v188 v190
  let v192 : BitVec 1 := Scalar.cmpi .ne v186 v191
  let v193 : BitVec 32 := Scalar.remsi v180 c16_i32_80
  let c0_i32_85 : BitVec 32 := 0#32
  let v194 : BitVec 1 := Scalar.cmpi .ne v193 c0_i32_85
  let v195 : BitVec 1 := Scalar.andi v192 v194
  let v181 : BitVec 32 := Scalar.divsi v180 c16_i32_80
  let c1_i32_86 : BitVec 32 := 1#32
  let v196 : BitVec 32 := Scalar.subi v181 c1_i32_86
  let v197 : BitVec 32 := Scalar.select v195 v196 v181
  let v198 : BitVec 32 := Scalar.maxsi c0_i32_87 v197
  let v199 : BitVec 32 := Scalar.subi v198 c0_i32_89
  let c1_i32_90 : BitVec 32 := 1#32
  let v201 : BitVec 32 := Scalar.divsi v199 c1_i32_90
  let v202 : BitVec 32 := Scalar.muli v201 c1_i32_90
  let v203 : BitVec 32 := Scalar.addi c0_i32_89 v202
  let c1_i32_92 : BitVec 32 := 1#32
  let arg26 : BitVec 32 := Scf.iv v203 c1_i32_92 k0_t5
  let v301 : BitVec 32 := Scalar.muli c16_i32_146 arg26
  let v302 : BitVec 32 := Scalar.addi v165 v301
  let v305 : BitVec 32 := Scalar.subi v302 v10
  let c13_i32_229 : BitVec 32 := 13#32
  let v1660 : BitVec 32 := Scalar.addi v305 c13_i32_229
  let v1661 : BitVec 32 := Scalar.muli c16_i32_230 v1660
  let v1662 : Index := Scalar.indexCast v1661
  ![v1662.toNat]

def k0_chk95 (i : grid0.Coords) (v15 : IVec S16 32) (k0_t3 : Fin k0_t3_loop.trips) (k0_t5 : Fin (k0_t5_loop i k0_t3).trips) (v1669 : IVec S16 32) (v1673 : IVec S16 32) (v1675 : IVec S16 32) : Prop :=
  (∀ a x, ((![v15, v1669, v1673, v1675] : Fin 4 → IVec S16 32) a x).toNat < S1x6x16x16.size a)
theorem k0_idx95_inb : ∀ (i : grid0.Coords) (v15 : IVec S16 32) (k0_t3 : Fin k0_t3_loop.trips) (k0_t5 : Fin (k0_t5_loop i k0_t3).trips) (v1669 : IVec S16 32) (v1673 : IVec S16 32) (v1675 : IVec S16 32) (k0_hw95 : k0_chk95 i v15 k0_t3 k0_t5 v1669 v1673 v1675), ∀ a x, ((![v15, v1669, v1673, v1675] : Fin 4 → IVec S16 32) a x).toNat < S1x6x16x16.size a := fun i v15 k0_t3 k0_t5 v1669 v1673 v1675 k0_hw95 => k0_hw95
def k0_off68 (i : grid0.Coords) (k0_t3 : Fin k0_t3_loop.trips) (k0_t5 : Fin (k0_t5_loop i k0_t3).trips) : Fin 1 → Nat :=
  let c16_i32_236 : BitVec 32 := 16#32
  let c0_i32_45 : BitVec 32 := 0#32
  let c1_i32_47 : BitVec 32 := 1#32
  let arg25 : BitVec 32 := Scf.iv c0_i32_45 c1_i32_47 k0_t3
  let c5_i32_73 : BitVec 32 := 5#32
  let v163 : BitVec 1 := Scalar.cmpi .sge arg25 c5_i32_73
  let c2966_i32 : BitVec 32 := 2966#32
  let c4_i32_72 : BitVec 32 := 4#32
  let v161 : BitVec 1 := Scalar.cmpi .sge arg25 c4_i32_72
  let c1816_i32 : BitVec 32 := 1816#32
  let c3_i32_71 : BitVec 32 := 3#32
  let v159 : BitVec 1 := Scalar.cmpi .sge arg25 c3_i32_71
  let c1018_i32 : BitVec 32 := 1018#32
  let c2_i32_70 : BitVec 32 := 2#32
  let v157 : BitVec 1 := Scalar.cmpi .sge arg25 c2_i32_70
  let c508_i32 : BitVec 32 := 508#32
  let c1_i32_68 : BitVec 32 := 1#32
  let v155 : BitVec 1 := Scalar.cmpi .sge arg25 c1_i32_68
  let c222_i32 : BitVec 32 := 222#32
  let c96_i32_69 : BitVec 32 := 96#32
  let v156 : BitVec 32 := Scalar.select v155 c222_i32 c96_i32_69
  let v158 : BitVec 32 := Scalar.select v157 c508_i32 v156
  let v160 : BitVec 32 := Scalar.select v159 c1018_i32 v158
  let v162 : BitVec 32 := Scalar.select v161 c1816_i32 v160
  let v164 : BitVec 32 := Scalar.select v163 c2966_i32 v162
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c144_i32 : BitVec 32 := 144#32
  let v10 : BitVec 32 := Scalar.muli v1 c144_i32
  let v165 : BitVec 32 := Scalar.maxsi v164 v10
  let c16_i32_146 : BitVec 32 := 16#32
  let c0_i32_89 : BitVec 32 := 0#32
  let c0_i32_87 : BitVec 32 := 0#32
  let c5_i32_78 : BitVec 32 := 5#32
  let v174 : BitVec 1 := Scalar.cmpi .sge arg25 c5_i32_78
  let c3749_i32 : BitVec 32 := 3749#32
  let c4_i32_77 : BitVec 32 := 4#32
  let v172 : BitVec 1 := Scalar.cmpi .sge arg25 c4_i32_77
  let c2391_i32 : BitVec 32 := 2391#32
  let c3_i32_76 : BitVec 32 := 3#32
  let v170 : BitVec 1 := Scalar.cmpi .sge arg25 c3_i32_76
  let c1417_i32 : BitVec 32 := 1417#32
  let c2_i32_75 : BitVec 32 := 2#32
  let v168 : BitVec 1 := Scalar.cmpi .sge arg25 c2_i32_75
  let c763_i32 : BitVec 32 := 763#32
  let c1_i32_74 : BitVec 32 := 1#32
  let v166 : BitVec 1 := Scalar.cmpi .sge arg25 c1_i32_74
  let c365_i32 : BitVec 32 := 365#32
  let c159_i32 : BitVec 32 := 159#32
  let v167 : BitVec 32 := Scalar.select v166 c365_i32 c159_i32
  let v169 : BitVec 32 := Scalar.select v168 c763_i32 v167
  let v171 : BitVec 32 := Scalar.select v170 c1417_i32 v169
  let v173 : BitVec 32 := Scalar.select v172 c2391_i32 v171
  let v175 : BitVec 32 := Scalar.select v174 c3749_i32 v173
  let c144_i32_23 : BitVec 32 := 144#32
  let v11 : BitVec 32 := Scalar.addi v10 c144_i32_23
  let c4532_i32 : BitVec 32 := 4532#32
  let v12 : BitVec 32 := Scalar.minsi v11 c4532_i32
  let v176 : BitVec 32 := Scalar.minsi v175 v12
  let v179 : BitVec 32 := Scalar.subi v176 v165
  let c15_i32_79 : BitVec 32 := 15#32
  let v180 : BitVec 32 := Scalar.addi v179 c15_i32_79
  let c0_i32_81 : BitVec 32 := 0#32
  let v182 : BitVec 1 := Scalar.cmpi .sgt v180 c0_i32_81
  let v183 : BitVec 32 := Scalar.extui v182
  let c0_i32_82 : BitVec 32 := 0#32
  let v184 : BitVec 1 := Scalar.cmpi .slt v180 c0_i32_82
  let v185 : BitVec 32 := Scalar.extui v184
  let v186 : BitVec 32 := Scalar.subi v183 v185
  let c16_i32_80 : BitVec 32 := 16#32
  let c0_i32_83 : BitVec 32 := 0#32
  let v187 : BitVec 1 := Scalar.cmpi .sgt c16_i32_80 c0_i32_83
  let v188 : BitVec 32 := Scalar.extui v187
  let c0_i32_84 : BitVec 32 := 0#32
  let v189 : BitVec 1 := Scalar.cmpi .slt c16_i32_80 c0_i32_84
  let v190 : BitVec 32 := Scalar.extui v189
  let v191 : BitVec 32 := Scalar.subi v188 v190
  let v192 : BitVec 1 := Scalar.cmpi .ne v186 v191
  let v193 : BitVec 32 := Scalar.remsi v180 c16_i32_80
  let c0_i32_85 : BitVec 32 := 0#32
  let v194 : BitVec 1 := Scalar.cmpi .ne v193 c0_i32_85
  let v195 : BitVec 1 := Scalar.andi v192 v194
  let v181 : BitVec 32 := Scalar.divsi v180 c16_i32_80
  let c1_i32_86 : BitVec 32 := 1#32
  let v196 : BitVec 32 := Scalar.subi v181 c1_i32_86
  let v197 : BitVec 32 := Scalar.select v195 v196 v181
  let v198 : BitVec 32 := Scalar.maxsi c0_i32_87 v197
  let v199 : BitVec 32 := Scalar.subi v198 c0_i32_89
  let c1_i32_90 : BitVec 32 := 1#32
  let v201 : BitVec 32 := Scalar.divsi v199 c1_i32_90
  let v202 : BitVec 32 := Scalar.muli v201 c1_i32_90
  let v203 : BitVec 32 := Scalar.addi c0_i32_89 v202
  let c1_i32_92 : BitVec 32 := 1#32
  let arg26 : BitVec 32 := Scf.iv v203 c1_i32_92 k0_t5
  let v301 : BitVec 32 := Scalar.muli c16_i32_146 arg26
  let v302 : BitVec 32 := Scalar.addi v165 v301
  let v305 : BitVec 32 := Scalar.subi v302 v10
  let c14_i32_235 : BitVec 32 := 14#32
  let v1757 : BitVec 32 := Scalar.addi v305 c14_i32_235
  let v1758 : BitVec 32 := Scalar.muli c16_i32_236 v1757
  let v1759 : Index := Scalar.indexCast v1758
  ![v1759.toNat]

def k0_chk96 (i : grid0.Coords) (v15 : IVec S16 32) (k0_t3 : Fin k0_t3_loop.trips) (k0_t5 : Fin (k0_t5_loop i k0_t3).trips) (v1766 : IVec S16 32) (v1770 : IVec S16 32) (v1772 : IVec S16 32) : Prop :=
  (∀ a x, ((![v15, v1766, v1770, v1772] : Fin 4 → IVec S16 32) a x).toNat < S1x6x16x16.size a)
theorem k0_idx96_inb : ∀ (i : grid0.Coords) (v15 : IVec S16 32) (k0_t3 : Fin k0_t3_loop.trips) (k0_t5 : Fin (k0_t5_loop i k0_t3).trips) (v1766 : IVec S16 32) (v1770 : IVec S16 32) (v1772 : IVec S16 32) (k0_hw96 : k0_chk96 i v15 k0_t3 k0_t5 v1766 v1770 v1772), ∀ a x, ((![v15, v1766, v1770, v1772] : Fin 4 → IVec S16 32) a x).toNat < S1x6x16x16.size a := fun i v15 k0_t3 k0_t5 v1766 v1770 v1772 k0_hw96 => k0_hw96
def k0_off69 (i : grid0.Coords) (k0_t3 : Fin k0_t3_loop.trips) (k0_t5 : Fin (k0_t5_loop i k0_t3).trips) : Fin 1 → Nat :=
  let c16_i32_242 : BitVec 32 := 16#32
  let c0_i32_45 : BitVec 32 := 0#32
  let c1_i32_47 : BitVec 32 := 1#32
  let arg25 : BitVec 32 := Scf.iv c0_i32_45 c1_i32_47 k0_t3
  let c5_i32_73 : BitVec 32 := 5#32
  let v163 : BitVec 1 := Scalar.cmpi .sge arg25 c5_i32_73
  let c2966_i32 : BitVec 32 := 2966#32
  let c4_i32_72 : BitVec 32 := 4#32
  let v161 : BitVec 1 := Scalar.cmpi .sge arg25 c4_i32_72
  let c1816_i32 : BitVec 32 := 1816#32
  let c3_i32_71 : BitVec 32 := 3#32
  let v159 : BitVec 1 := Scalar.cmpi .sge arg25 c3_i32_71
  let c1018_i32 : BitVec 32 := 1018#32
  let c2_i32_70 : BitVec 32 := 2#32
  let v157 : BitVec 1 := Scalar.cmpi .sge arg25 c2_i32_70
  let c508_i32 : BitVec 32 := 508#32
  let c1_i32_68 : BitVec 32 := 1#32
  let v155 : BitVec 1 := Scalar.cmpi .sge arg25 c1_i32_68
  let c222_i32 : BitVec 32 := 222#32
  let c96_i32_69 : BitVec 32 := 96#32
  let v156 : BitVec 32 := Scalar.select v155 c222_i32 c96_i32_69
  let v158 : BitVec 32 := Scalar.select v157 c508_i32 v156
  let v160 : BitVec 32 := Scalar.select v159 c1018_i32 v158
  let v162 : BitVec 32 := Scalar.select v161 c1816_i32 v160
  let v164 : BitVec 32 := Scalar.select v163 c2966_i32 v162
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c144_i32 : BitVec 32 := 144#32
  let v10 : BitVec 32 := Scalar.muli v1 c144_i32
  let v165 : BitVec 32 := Scalar.maxsi v164 v10
  let c16_i32_146 : BitVec 32 := 16#32
  let c0_i32_89 : BitVec 32 := 0#32
  let c0_i32_87 : BitVec 32 := 0#32
  let c5_i32_78 : BitVec 32 := 5#32
  let v174 : BitVec 1 := Scalar.cmpi .sge arg25 c5_i32_78
  let c3749_i32 : BitVec 32 := 3749#32
  let c4_i32_77 : BitVec 32 := 4#32
  let v172 : BitVec 1 := Scalar.cmpi .sge arg25 c4_i32_77
  let c2391_i32 : BitVec 32 := 2391#32
  let c3_i32_76 : BitVec 32 := 3#32
  let v170 : BitVec 1 := Scalar.cmpi .sge arg25 c3_i32_76
  let c1417_i32 : BitVec 32 := 1417#32
  let c2_i32_75 : BitVec 32 := 2#32
  let v168 : BitVec 1 := Scalar.cmpi .sge arg25 c2_i32_75
  let c763_i32 : BitVec 32 := 763#32
  let c1_i32_74 : BitVec 32 := 1#32
  let v166 : BitVec 1 := Scalar.cmpi .sge arg25 c1_i32_74
  let c365_i32 : BitVec 32 := 365#32
  let c159_i32 : BitVec 32 := 159#32
  let v167 : BitVec 32 := Scalar.select v166 c365_i32 c159_i32
  let v169 : BitVec 32 := Scalar.select v168 c763_i32 v167
  let v171 : BitVec 32 := Scalar.select v170 c1417_i32 v169
  let v173 : BitVec 32 := Scalar.select v172 c2391_i32 v171
  let v175 : BitVec 32 := Scalar.select v174 c3749_i32 v173
  let c144_i32_23 : BitVec 32 := 144#32
  let v11 : BitVec 32 := Scalar.addi v10 c144_i32_23
  let c4532_i32 : BitVec 32 := 4532#32
  let v12 : BitVec 32 := Scalar.minsi v11 c4532_i32
  let v176 : BitVec 32 := Scalar.minsi v175 v12
  let v179 : BitVec 32 := Scalar.subi v176 v165
  let c15_i32_79 : BitVec 32 := 15#32
  let v180 : BitVec 32 := Scalar.addi v179 c15_i32_79
  let c0_i32_81 : BitVec 32 := 0#32
  let v182 : BitVec 1 := Scalar.cmpi .sgt v180 c0_i32_81
  let v183 : BitVec 32 := Scalar.extui v182
  let c0_i32_82 : BitVec 32 := 0#32
  let v184 : BitVec 1 := Scalar.cmpi .slt v180 c0_i32_82
  let v185 : BitVec 32 := Scalar.extui v184
  let v186 : BitVec 32 := Scalar.subi v183 v185
  let c16_i32_80 : BitVec 32 := 16#32
  let c0_i32_83 : BitVec 32 := 0#32
  let v187 : BitVec 1 := Scalar.cmpi .sgt c16_i32_80 c0_i32_83
  let v188 : BitVec 32 := Scalar.extui v187
  let c0_i32_84 : BitVec 32 := 0#32
  let v189 : BitVec 1 := Scalar.cmpi .slt c16_i32_80 c0_i32_84
  let v190 : BitVec 32 := Scalar.extui v189
  let v191 : BitVec 32 := Scalar.subi v188 v190
  let v192 : BitVec 1 := Scalar.cmpi .ne v186 v191
  let v193 : BitVec 32 := Scalar.remsi v180 c16_i32_80
  let c0_i32_85 : BitVec 32 := 0#32
  let v194 : BitVec 1 := Scalar.cmpi .ne v193 c0_i32_85
  let v195 : BitVec 1 := Scalar.andi v192 v194
  let v181 : BitVec 32 := Scalar.divsi v180 c16_i32_80
  let c1_i32_86 : BitVec 32 := 1#32
  let v196 : BitVec 32 := Scalar.subi v181 c1_i32_86
  let v197 : BitVec 32 := Scalar.select v195 v196 v181
  let v198 : BitVec 32 := Scalar.maxsi c0_i32_87 v197
  let v199 : BitVec 32 := Scalar.subi v198 c0_i32_89
  let c1_i32_90 : BitVec 32 := 1#32
  let v201 : BitVec 32 := Scalar.divsi v199 c1_i32_90
  let v202 : BitVec 32 := Scalar.muli v201 c1_i32_90
  let v203 : BitVec 32 := Scalar.addi c0_i32_89 v202
  let c1_i32_92 : BitVec 32 := 1#32
  let arg26 : BitVec 32 := Scf.iv v203 c1_i32_92 k0_t5
  let v301 : BitVec 32 := Scalar.muli c16_i32_146 arg26
  let v302 : BitVec 32 := Scalar.addi v165 v301
  let v305 : BitVec 32 := Scalar.subi v302 v10
  let c15_i32_241 : BitVec 32 := 15#32
  let v1854 : BitVec 32 := Scalar.addi v305 c15_i32_241
  let v1855 : BitVec 32 := Scalar.muli c16_i32_242 v1854
  let v1856 : Index := Scalar.indexCast v1855
  ![v1856.toNat]

def k0_chk97 (v13 : IVec S16 32) (v106 : IVec S16 32) (v205 : IVec S16 32) : Prop :=
  (∀ a x, ((![v106, v13, v205] : Fin 3 → IVec S16 32) a x).toNat < S6x16x16.size a)
theorem k0_idx97_inb : ∀ (v13 : IVec S16 32) (v106 : IVec S16 32) (v205 : IVec S16 32) (k0_hw97 : k0_chk97 v13 v106 v205), ∀ a x, ((![v106, v13, v205] : Fin 3 → IVec S16 32) a x).toNat < S6x16x16.size a := fun v13 v106 v205 k0_hw97 => k0_hw97

def k0_chk98 (v13 : IVec S16 32) (v106 : IVec S16 32) (v208 : IVec S16 32) : Prop :=
  (∀ a x, ((![v106, v13, v208] : Fin 3 → IVec S16 32) a x).toNat < S6x16x16.size a)
theorem k0_idx98_inb : ∀ (v13 : IVec S16 32) (v106 : IVec S16 32) (v208 : IVec S16 32) (k0_hw98 : k0_chk98 v13 v106 v208), ∀ a x, ((![v106, v13, v208] : Fin 3 → IVec S16 32) a x).toNat < S6x16x16.size a := fun v13 v106 v208 k0_hw98 => k0_hw98

def k0_chk99 (v13 : IVec S16 32) (v106 : IVec S16 32) (v211 : IVec S16 32) : Prop :=
  (∀ a x, ((![v106, v13, v211] : Fin 3 → IVec S16 32) a x).toNat < S6x16x16.size a)
theorem k0_idx99_inb : ∀ (v13 : IVec S16 32) (v106 : IVec S16 32) (v211 : IVec S16 32) (k0_hw99 : k0_chk99 v13 v106 v211), ∀ a x, ((![v106, v13, v211] : Fin 3 → IVec S16 32) a x).toNat < S6x16x16.size a := fun v13 v106 v211 k0_hw99 => k0_hw99

def k0_chk100 (v13 : IVec S16 32) (v106 : IVec S16 32) (v214 : IVec S16 32) : Prop :=
  (∀ a x, ((![v106, v13, v214] : Fin 3 → IVec S16 32) a x).toNat < S6x16x16.size a)
theorem k0_idx100_inb : ∀ (v13 : IVec S16 32) (v106 : IVec S16 32) (v214 : IVec S16 32) (k0_hw100 : k0_chk100 v13 v106 v214), ∀ a x, ((![v106, v13, v214] : Fin 3 → IVec S16 32) a x).toNat < S6x16x16.size a := fun v13 v106 v214 k0_hw100 => k0_hw100

def k0_chk101 (v13 : IVec S16 32) (v106 : IVec S16 32) (v217 : IVec S16 32) : Prop :=
  (∀ a x, ((![v106, v13, v217] : Fin 3 → IVec S16 32) a x).toNat < S6x16x16.size a)
theorem k0_idx101_inb : ∀ (v13 : IVec S16 32) (v106 : IVec S16 32) (v217 : IVec S16 32) (k0_hw101 : k0_chk101 v13 v106 v217), ∀ a x, ((![v106, v13, v217] : Fin 3 → IVec S16 32) a x).toNat < S6x16x16.size a := fun v13 v106 v217 k0_hw101 => k0_hw101

def k0_chk102 (v13 : IVec S16 32) (v106 : IVec S16 32) (v220 : IVec S16 32) : Prop :=
  (∀ a x, ((![v106, v13, v220] : Fin 3 → IVec S16 32) a x).toNat < S6x16x16.size a)
theorem k0_idx102_inb : ∀ (v13 : IVec S16 32) (v106 : IVec S16 32) (v220 : IVec S16 32) (k0_hw102 : k0_chk102 v13 v106 v220), ∀ a x, ((![v106, v13, v220] : Fin 3 → IVec S16 32) a x).toNat < S6x16x16.size a := fun v13 v106 v220 k0_hw102 => k0_hw102

def k0_chk103 (v13 : IVec S16 32) (v106 : IVec S16 32) (v223 : IVec S16 32) : Prop :=
  (∀ a x, ((![v106, v13, v223] : Fin 3 → IVec S16 32) a x).toNat < S6x16x16.size a)
theorem k0_idx103_inb : ∀ (v13 : IVec S16 32) (v106 : IVec S16 32) (v223 : IVec S16 32) (k0_hw103 : k0_chk103 v13 v106 v223), ∀ a x, ((![v106, v13, v223] : Fin 3 → IVec S16 32) a x).toNat < S6x16x16.size a := fun v13 v106 v223 k0_hw103 => k0_hw103

def k0_chk104 (v13 : IVec S16 32) (v106 : IVec S16 32) (v226 : IVec S16 32) : Prop :=
  (∀ a x, ((![v106, v13, v226] : Fin 3 → IVec S16 32) a x).toNat < S6x16x16.size a)
theorem k0_idx104_inb : ∀ (v13 : IVec S16 32) (v106 : IVec S16 32) (v226 : IVec S16 32) (k0_hw104 : k0_chk104 v13 v106 v226), ∀ a x, ((![v106, v13, v226] : Fin 3 → IVec S16 32) a x).toNat < S6x16x16.size a := fun v13 v106 v226 k0_hw104 => k0_hw104

def k0_chk105 (v13 : IVec S16 32) (v106 : IVec S16 32) (v229 : IVec S16 32) : Prop :=
  (∀ a x, ((![v106, v13, v229] : Fin 3 → IVec S16 32) a x).toNat < S6x16x16.size a)
theorem k0_idx105_inb : ∀ (v13 : IVec S16 32) (v106 : IVec S16 32) (v229 : IVec S16 32) (k0_hw105 : k0_chk105 v13 v106 v229), ∀ a x, ((![v106, v13, v229] : Fin 3 → IVec S16 32) a x).toNat < S6x16x16.size a := fun v13 v106 v229 k0_hw105 => k0_hw105

def k0_chk106 (v13 : IVec S16 32) (v106 : IVec S16 32) (v232 : IVec S16 32) : Prop :=
  (∀ a x, ((![v106, v13, v232] : Fin 3 → IVec S16 32) a x).toNat < S6x16x16.size a)
theorem k0_idx106_inb : ∀ (v13 : IVec S16 32) (v106 : IVec S16 32) (v232 : IVec S16 32) (k0_hw106 : k0_chk106 v13 v106 v232), ∀ a x, ((![v106, v13, v232] : Fin 3 → IVec S16 32) a x).toNat < S6x16x16.size a := fun v13 v106 v232 k0_hw106 => k0_hw106

def k0_chk107 (v13 : IVec S16 32) (v106 : IVec S16 32) (v235 : IVec S16 32) : Prop :=
  (∀ a x, ((![v106, v13, v235] : Fin 3 → IVec S16 32) a x).toNat < S6x16x16.size a)
theorem k0_idx107_inb : ∀ (v13 : IVec S16 32) (v106 : IVec S16 32) (v235 : IVec S16 32) (k0_hw107 : k0_chk107 v13 v106 v235), ∀ a x, ((![v106, v13, v235] : Fin 3 → IVec S16 32) a x).toNat < S6x16x16.size a := fun v13 v106 v235 k0_hw107 => k0_hw107

def k0_chk108 (v13 : IVec S16 32) (v106 : IVec S16 32) (v238 : IVec S16 32) : Prop :=
  (∀ a x, ((![v106, v13, v238] : Fin 3 → IVec S16 32) a x).toNat < S6x16x16.size a)
theorem k0_idx108_inb : ∀ (v13 : IVec S16 32) (v106 : IVec S16 32) (v238 : IVec S16 32) (k0_hw108 : k0_chk108 v13 v106 v238), ∀ a x, ((![v106, v13, v238] : Fin 3 → IVec S16 32) a x).toNat < S6x16x16.size a := fun v13 v106 v238 k0_hw108 => k0_hw108

def k0_chk109 (v13 : IVec S16 32) (v106 : IVec S16 32) (v241 : IVec S16 32) : Prop :=
  (∀ a x, ((![v106, v13, v241] : Fin 3 → IVec S16 32) a x).toNat < S6x16x16.size a)
theorem k0_idx109_inb : ∀ (v13 : IVec S16 32) (v106 : IVec S16 32) (v241 : IVec S16 32) (k0_hw109 : k0_chk109 v13 v106 v241), ∀ a x, ((![v106, v13, v241] : Fin 3 → IVec S16 32) a x).toNat < S6x16x16.size a := fun v13 v106 v241 k0_hw109 => k0_hw109

def k0_chk110 (v13 : IVec S16 32) (v106 : IVec S16 32) (v244 : IVec S16 32) : Prop :=
  (∀ a x, ((![v106, v13, v244] : Fin 3 → IVec S16 32) a x).toNat < S6x16x16.size a)
theorem k0_idx110_inb : ∀ (v13 : IVec S16 32) (v106 : IVec S16 32) (v244 : IVec S16 32) (k0_hw110 : k0_chk110 v13 v106 v244), ∀ a x, ((![v106, v13, v244] : Fin 3 → IVec S16 32) a x).toNat < S6x16x16.size a := fun v13 v106 v244 k0_hw110 => k0_hw110

def k0_chk111 (v13 : IVec S16 32) (v106 : IVec S16 32) (v247 : IVec S16 32) : Prop :=
  (∀ a x, ((![v106, v13, v247] : Fin 3 → IVec S16 32) a x).toNat < S6x16x16.size a)
theorem k0_idx111_inb : ∀ (v13 : IVec S16 32) (v106 : IVec S16 32) (v247 : IVec S16 32) (k0_hw111 : k0_chk111 v13 v106 v247), ∀ a x, ((![v106, v13, v247] : Fin 3 → IVec S16 32) a x).toNat < S6x16x16.size a := fun v13 v106 v247 k0_hw111 => k0_hw111

def k0_chk112 (v13 : IVec S16 32) (v106 : IVec S16 32) (v250 : IVec S16 32) : Prop :=
  (∀ a x, ((![v106, v13, v250] : Fin 3 → IVec S16 32) a x).toNat < S6x16x16.size a)
theorem k0_idx112_inb : ∀ (v13 : IVec S16 32) (v106 : IVec S16 32) (v250 : IVec S16 32) (k0_hw112 : k0_chk112 v13 v106 v250), ∀ a x, ((![v106, v13, v250] : Fin 3 → IVec S16 32) a x).toNat < S6x16x16.size a := fun v13 v106 v250 k0_hw112 => k0_hw112
def k0_off70 (k0_t3 : Fin k0_t3_loop.trips) : Fin 2 → Nat :=
  let c0_i32_45 : BitVec 32 := 0#32
  let c1_i32_47 : BitVec 32 := 1#32
  let arg25 : BitVec 32 := Scf.iv c0_i32_45 c1_i32_47 k0_t3
  let v274 : Index := Scalar.indexCast arg25
  let c0_131 : Index := 0#32
  ![v274.toNat, 0]
@[reducible] def k0_t6_loop (i : grid0.Coords) (k0_t3 : Fin k0_t3_loop.trips) : Scf.Loop 32 :=
  let c0_i32_142 : BitVec 32 := 0#32
  let c0_i32_140 : BitVec 32 := 0#32
  let c0_i32_45 : BitVec 32 := 0#32
  let c1_i32_47 : BitVec 32 := 1#32
  let arg25 : BitVec 32 := Scf.iv c0_i32_45 c1_i32_47 k0_t3
  let c5_i32_129 : BitVec 32 := 5#32
  let v271 : BitVec 1 := Scalar.cmpi .sge arg25 c5_i32_129
  let c4532_i32_130 : BitVec 32 := 4532#32
  let c4_i32_127 : BitVec 32 := 4#32
  let v269 : BitVec 1 := Scalar.cmpi .sge arg25 c4_i32_127
  let c2966_i32_128 : BitVec 32 := 2966#32
  let c3_i32_125 : BitVec 32 := 3#32
  let v267 : BitVec 1 := Scalar.cmpi .sge arg25 c3_i32_125
  let c1816_i32_126 : BitVec 32 := 1816#32
  let c2_i32_123 : BitVec 32 := 2#32
  let v265 : BitVec 1 := Scalar.cmpi .sge arg25 c2_i32_123
  let c1018_i32_124 : BitVec 32 := 1018#32
  let c1_i32_120 : BitVec 32 := 1#32
  let v263 : BitVec 1 := Scalar.cmpi .sge arg25 c1_i32_120
  let c508_i32_121 : BitVec 32 := 508#32
  let c222_i32_122 : BitVec 32 := 222#32
  let v264 : BitVec 32 := Scalar.select v263 c508_i32_121 c222_i32_122
  let v266 : BitVec 32 := Scalar.select v265 c1018_i32_124 v264
  let v268 : BitVec 32 := Scalar.select v267 c1816_i32_126 v266
  let v270 : BitVec 32 := Scalar.select v269 c2966_i32_128 v268
  let v272 : BitVec 32 := Scalar.select v271 c4532_i32_130 v270
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c144_i32 : BitVec 32 := 144#32
  let v10 : BitVec 32 := Scalar.muli v1 c144_i32
  let c144_i32_23 : BitVec 32 := 144#32
  let v11 : BitVec 32 := Scalar.addi v10 c144_i32_23
  let c4532_i32 : BitVec 32 := 4532#32
  let v12 : BitVec 32 := Scalar.minsi v11 c4532_i32
  let v273 : BitVec 32 := Scalar.minsi v272 v12
  let c5_i32_118 : BitVec 32 := 5#32
  let v260 : BitVec 1 := Scalar.cmpi .sge arg25 c5_i32_118
  let c3749_i32_119 : BitVec 32 := 3749#32
  let c4_i32_116 : BitVec 32 := 4#32
  let v258 : BitVec 1 := Scalar.cmpi .sge arg25 c4_i32_116
  let c2391_i32_117 : BitVec 32 := 2391#32
  let c3_i32_114 : BitVec 32 := 3#32
  let v256 : BitVec 1 := Scalar.cmpi .sge arg25 c3_i32_114
  let c1417_i32_115 : BitVec 32 := 1417#32
  let c2_i32_112 : BitVec 32 := 2#32
  let v254 : BitVec 1 := Scalar.cmpi .sge arg25 c2_i32_112
  let c763_i32_113 : BitVec 32 := 763#32
  let c1_i32_109 : BitVec 32 := 1#32
  let v252 : BitVec 1 := Scalar.cmpi .sge arg25 c1_i32_109
  let c365_i32_110 : BitVec 32 := 365#32
  let c159_i32_111 : BitVec 32 := 159#32
  let v253 : BitVec 32 := Scalar.select v252 c365_i32_110 c159_i32_111
  let v255 : BitVec 32 := Scalar.select v254 c763_i32_113 v253
  let v257 : BitVec 32 := Scalar.select v256 c1417_i32_115 v255
  let v259 : BitVec 32 := Scalar.select v258 c2391_i32_117 v257
  let v261 : BitVec 32 := Scalar.select v260 c3749_i32_119 v259
  let v262 : BitVec 32 := Scalar.maxsi v261 v10
  let v276 : BitVec 32 := Scalar.subi v273 v262
  let c15_i32_132 : BitVec 32 := 15#32
  let v277 : BitVec 32 := Scalar.addi v276 c15_i32_132
  let c0_i32_134 : BitVec 32 := 0#32
  let v279 : BitVec 1 := Scalar.cmpi .sgt v277 c0_i32_134
  let v280 : BitVec 32 := Scalar.extui v279
  let c0_i32_135 : BitVec 32 := 0#32
  let v281 : BitVec 1 := Scalar.cmpi .slt v277 c0_i32_135
  let v282 : BitVec 32 := Scalar.extui v281
  let v283 : BitVec 32 := Scalar.subi v280 v282
  let c16_i32_133 : BitVec 32 := 16#32
  let c0_i32_136 : BitVec 32 := 0#32
  let v284 : BitVec 1 := Scalar.cmpi .sgt c16_i32_133 c0_i32_136
  let v285 : BitVec 32 := Scalar.extui v284
  let c0_i32_137 : BitVec 32 := 0#32
  let v286 : BitVec 1 := Scalar.cmpi .slt c16_i32_133 c0_i32_137
  let v287 : BitVec 32 := Scalar.extui v286
  let v288 : BitVec 32 := Scalar.subi v285 v287
  let v289 : BitVec 1 := Scalar.cmpi .ne v283 v288
  let v290 : BitVec 32 := Scalar.remsi v277 c16_i32_133
  let c0_i32_138 : BitVec 32 := 0#32
  let v291 : BitVec 1 := Scalar.cmpi .ne v290 c0_i32_138
  let v292 : BitVec 1 := Scalar.andi v289 v291
  let v278 : BitVec 32 := Scalar.divsi v277 c16_i32_133
  let c1_i32_139 : BitVec 32 := 1#32
  let v293 : BitVec 32 := Scalar.subi v278 c1_i32_139
  let v294 : BitVec 32 := Scalar.select v292 v293 v278
  let v295 : BitVec 32 := Scalar.maxsi c0_i32_140 v294
  let v296 : BitVec 32 := Scalar.subi v295 c0_i32_142
  let c1_i32_143 : BitVec 32 := 1#32
  let v298 : BitVec 32 := Scalar.divsi v296 c1_i32_143
  let v299 : BitVec 32 := Scalar.muli v298 c1_i32_143
  let v300 : BitVec 32 := Scalar.addi c0_i32_142 v299
  let c1_i32_144 : BitVec 32 := 1#32
  ⟨c0_i32_142, v300, c1_i32_144⟩
def k0_off71 (i : grid0.Coords) (k0_t3 : Fin k0_t3_loop.trips) (k0_t6 : Fin (k0_t6_loop i k0_t3).trips) : Fin 1 → Nat :=
  let c0_i32_45 : BitVec 32 := 0#32
  let c1_i32_47 : BitVec 32 := 1#32
  let arg25 : BitVec 32 := Scf.iv c0_i32_45 c1_i32_47 k0_t3
  let c5_i32_118 : BitVec 32 := 5#32
  let v260 : BitVec 1 := Scalar.cmpi .sge arg25 c5_i32_118
  let c3749_i32_119 : BitVec 32 := 3749#32
  let c4_i32_116 : BitVec 32 := 4#32
  let v258 : BitVec 1 := Scalar.cmpi .sge arg25 c4_i32_116
  let c2391_i32_117 : BitVec 32 := 2391#32
  let c3_i32_114 : BitVec 32 := 3#32
  let v256 : BitVec 1 := Scalar.cmpi .sge arg25 c3_i32_114
  let c1417_i32_115 : BitVec 32 := 1417#32
  let c2_i32_112 : BitVec 32 := 2#32
  let v254 : BitVec 1 := Scalar.cmpi .sge arg25 c2_i32_112
  let c763_i32_113 : BitVec 32 := 763#32
  let c1_i32_109 : BitVec 32 := 1#32
  let v252 : BitVec 1 := Scalar.cmpi .sge arg25 c1_i32_109
  let c365_i32_110 : BitVec 32 := 365#32
  let c159_i32_111 : BitVec 32 := 159#32
  let v253 : BitVec 32 := Scalar.select v252 c365_i32_110 c159_i32_111
  let v255 : BitVec 32 := Scalar.select v254 c763_i32_113 v253
  let v257 : BitVec 32 := Scalar.select v256 c1417_i32_115 v255
  let v259 : BitVec 32 := Scalar.select v258 c2391_i32_117 v257
  let v261 : BitVec 32 := Scalar.select v260 c3749_i32_119 v259
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c144_i32 : BitVec 32 := 144#32
  let v10 : BitVec 32 := Scalar.muli v1 c144_i32
  let v262 : BitVec 32 := Scalar.maxsi v261 v10
  let c16_i32_146 : BitVec 32 := 16#32
  let c0_i32_142 : BitVec 32 := 0#32
  let c1_i32_144 : BitVec 32 := 1#32
  let arg26 : BitVec 32 := Scf.iv c0_i32_142 c1_i32_144 k0_t6
  let v301 : BitVec 32 := Scalar.muli c16_i32_146 arg26
  let v302 : BitVec 32 := Scalar.addi v262 v301
  let v303 : Index := Scalar.indexCast v302
  ![v303.toNat]

def k0_chk113 (i : grid0.Coords) (v15 : IVec S16 32) (k0_t3 : Fin k0_t3_loop.trips) (k0_t6 : Fin (k0_t6_loop i k0_t3).trips) (v311 : IVec S16 32) (v315 : IVec S16 32) (v317 : IVec S16 32) : Prop :=
  (∀ a x, ((![v15, v311, v315, v317] : Fin 4 → IVec S16 32) a x).toNat < S1x6x16x16.size a)
theorem k0_idx113_inb : ∀ (i : grid0.Coords) (v15 : IVec S16 32) (k0_t3 : Fin k0_t3_loop.trips) (k0_t6 : Fin (k0_t6_loop i k0_t3).trips) (v311 : IVec S16 32) (v315 : IVec S16 32) (v317 : IVec S16 32) (k0_hw113 : k0_chk113 i v15 k0_t3 k0_t6 v311 v315 v317), ∀ a x, ((![v15, v311, v315, v317] : Fin 4 → IVec S16 32) a x).toNat < S1x6x16x16.size a := fun i v15 k0_t3 k0_t6 v311 v315 v317 k0_hw113 => k0_hw113
def k0_off72 (i : grid0.Coords) (k0_t3 : Fin k0_t3_loop.trips) (k0_t6 : Fin (k0_t6_loop i k0_t3).trips) : Fin 1 → Nat :=
  let c16_i32_152 : BitVec 32 := 16#32
  let c0_i32_45 : BitVec 32 := 0#32
  let c1_i32_47 : BitVec 32 := 1#32
  let arg25 : BitVec 32 := Scf.iv c0_i32_45 c1_i32_47 k0_t3
  let c5_i32_118 : BitVec 32 := 5#32
  let v260 : BitVec 1 := Scalar.cmpi .sge arg25 c5_i32_118
  let c3749_i32_119 : BitVec 32 := 3749#32
  let c4_i32_116 : BitVec 32 := 4#32
  let v258 : BitVec 1 := Scalar.cmpi .sge arg25 c4_i32_116
  let c2391_i32_117 : BitVec 32 := 2391#32
  let c3_i32_114 : BitVec 32 := 3#32
  let v256 : BitVec 1 := Scalar.cmpi .sge arg25 c3_i32_114
  let c1417_i32_115 : BitVec 32 := 1417#32
  let c2_i32_112 : BitVec 32 := 2#32
  let v254 : BitVec 1 := Scalar.cmpi .sge arg25 c2_i32_112
  let c763_i32_113 : BitVec 32 := 763#32
  let c1_i32_109 : BitVec 32 := 1#32
  let v252 : BitVec 1 := Scalar.cmpi .sge arg25 c1_i32_109
  let c365_i32_110 : BitVec 32 := 365#32
  let c159_i32_111 : BitVec 32 := 159#32
  let v253 : BitVec 32 := Scalar.select v252 c365_i32_110 c159_i32_111
  let v255 : BitVec 32 := Scalar.select v254 c763_i32_113 v253
  let v257 : BitVec 32 := Scalar.select v256 c1417_i32_115 v255
  let v259 : BitVec 32 := Scalar.select v258 c2391_i32_117 v257
  let v261 : BitVec 32 := Scalar.select v260 c3749_i32_119 v259
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c144_i32 : BitVec 32 := 144#32
  let v10 : BitVec 32 := Scalar.muli v1 c144_i32
  let v262 : BitVec 32 := Scalar.maxsi v261 v10
  let c16_i32_146 : BitVec 32 := 16#32
  let c0_i32_142 : BitVec 32 := 0#32
  let c1_i32_144 : BitVec 32 := 1#32
  let arg26 : BitVec 32 := Scf.iv c0_i32_142 c1_i32_144 k0_t6
  let v301 : BitVec 32 := Scalar.muli c16_i32_146 arg26
  let v302 : BitVec 32 := Scalar.addi v262 v301
  let v305 : BitVec 32 := Scalar.subi v302 v10
  let c0_i32_151 : BitVec 32 := 0#32
  let v399 : BitVec 32 := Scalar.addi v305 c0_i32_151
  let v400 : BitVec 32 := Scalar.muli c16_i32_152 v399
  let v401 : Index := Scalar.indexCast v400
  ![v401.toNat]

def k0_chk114 (i : grid0.Coords) (v15 : IVec S16 32) (k0_t3 : Fin k0_t3_loop.trips) (k0_t6 : Fin (k0_t6_loop i k0_t3).trips) (v408 : IVec S16 32) (v412 : IVec S16 32) (v414 : IVec S16 32) : Prop :=
  (∀ a x, ((![v15, v408, v412, v414] : Fin 4 → IVec S16 32) a x).toNat < S1x6x16x16.size a)
theorem k0_idx114_inb : ∀ (i : grid0.Coords) (v15 : IVec S16 32) (k0_t3 : Fin k0_t3_loop.trips) (k0_t6 : Fin (k0_t6_loop i k0_t3).trips) (v408 : IVec S16 32) (v412 : IVec S16 32) (v414 : IVec S16 32) (k0_hw114 : k0_chk114 i v15 k0_t3 k0_t6 v408 v412 v414), ∀ a x, ((![v15, v408, v412, v414] : Fin 4 → IVec S16 32) a x).toNat < S1x6x16x16.size a := fun i v15 k0_t3 k0_t6 v408 v412 v414 k0_hw114 => k0_hw114
def k0_off73 (i : grid0.Coords) (k0_t3 : Fin k0_t3_loop.trips) (k0_t6 : Fin (k0_t6_loop i k0_t3).trips) : Fin 1 → Nat :=
  let c16_i32_158 : BitVec 32 := 16#32
  let c0_i32_45 : BitVec 32 := 0#32
  let c1_i32_47 : BitVec 32 := 1#32
  let arg25 : BitVec 32 := Scf.iv c0_i32_45 c1_i32_47 k0_t3
  let c5_i32_118 : BitVec 32 := 5#32
  let v260 : BitVec 1 := Scalar.cmpi .sge arg25 c5_i32_118
  let c3749_i32_119 : BitVec 32 := 3749#32
  let c4_i32_116 : BitVec 32 := 4#32
  let v258 : BitVec 1 := Scalar.cmpi .sge arg25 c4_i32_116
  let c2391_i32_117 : BitVec 32 := 2391#32
  let c3_i32_114 : BitVec 32 := 3#32
  let v256 : BitVec 1 := Scalar.cmpi .sge arg25 c3_i32_114
  let c1417_i32_115 : BitVec 32 := 1417#32
  let c2_i32_112 : BitVec 32 := 2#32
  let v254 : BitVec 1 := Scalar.cmpi .sge arg25 c2_i32_112
  let c763_i32_113 : BitVec 32 := 763#32
  let c1_i32_109 : BitVec 32 := 1#32
  let v252 : BitVec 1 := Scalar.cmpi .sge arg25 c1_i32_109
  let c365_i32_110 : BitVec 32 := 365#32
  let c159_i32_111 : BitVec 32 := 159#32
  let v253 : BitVec 32 := Scalar.select v252 c365_i32_110 c159_i32_111
  let v255 : BitVec 32 := Scalar.select v254 c763_i32_113 v253
  let v257 : BitVec 32 := Scalar.select v256 c1417_i32_115 v255
  let v259 : BitVec 32 := Scalar.select v258 c2391_i32_117 v257
  let v261 : BitVec 32 := Scalar.select v260 c3749_i32_119 v259
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c144_i32 : BitVec 32 := 144#32
  let v10 : BitVec 32 := Scalar.muli v1 c144_i32
  let v262 : BitVec 32 := Scalar.maxsi v261 v10
  let c16_i32_146 : BitVec 32 := 16#32
  let c0_i32_142 : BitVec 32 := 0#32
  let c1_i32_144 : BitVec 32 := 1#32
  let arg26 : BitVec 32 := Scf.iv c0_i32_142 c1_i32_144 k0_t6
  let v301 : BitVec 32 := Scalar.muli c16_i32_146 arg26
  let v302 : BitVec 32 := Scalar.addi v262 v301
  let v305 : BitVec 32 := Scalar.subi v302 v10
  let c1_i32_157 : BitVec 32 := 1#32
  let v496 : BitVec 32 := Scalar.addi v305 c1_i32_157
  let v497 : BitVec 32 := Scalar.muli c16_i32_158 v496
  let v498 : Index := Scalar.indexCast v497
  ![v498.toNat]

def k0_chk115 (i : grid0.Coords) (v15 : IVec S16 32) (k0_t3 : Fin k0_t3_loop.trips) (k0_t6 : Fin (k0_t6_loop i k0_t3).trips) (v505 : IVec S16 32) (v509 : IVec S16 32) (v511 : IVec S16 32) : Prop :=
  (∀ a x, ((![v15, v505, v509, v511] : Fin 4 → IVec S16 32) a x).toNat < S1x6x16x16.size a)
theorem k0_idx115_inb : ∀ (i : grid0.Coords) (v15 : IVec S16 32) (k0_t3 : Fin k0_t3_loop.trips) (k0_t6 : Fin (k0_t6_loop i k0_t3).trips) (v505 : IVec S16 32) (v509 : IVec S16 32) (v511 : IVec S16 32) (k0_hw115 : k0_chk115 i v15 k0_t3 k0_t6 v505 v509 v511), ∀ a x, ((![v15, v505, v509, v511] : Fin 4 → IVec S16 32) a x).toNat < S1x6x16x16.size a := fun i v15 k0_t3 k0_t6 v505 v509 v511 k0_hw115 => k0_hw115
def k0_off74 (i : grid0.Coords) (k0_t3 : Fin k0_t3_loop.trips) (k0_t6 : Fin (k0_t6_loop i k0_t3).trips) : Fin 1 → Nat :=
  let c16_i32_164 : BitVec 32 := 16#32
  let c0_i32_45 : BitVec 32 := 0#32
  let c1_i32_47 : BitVec 32 := 1#32
  let arg25 : BitVec 32 := Scf.iv c0_i32_45 c1_i32_47 k0_t3
  let c5_i32_118 : BitVec 32 := 5#32
  let v260 : BitVec 1 := Scalar.cmpi .sge arg25 c5_i32_118
  let c3749_i32_119 : BitVec 32 := 3749#32
  let c4_i32_116 : BitVec 32 := 4#32
  let v258 : BitVec 1 := Scalar.cmpi .sge arg25 c4_i32_116
  let c2391_i32_117 : BitVec 32 := 2391#32
  let c3_i32_114 : BitVec 32 := 3#32
  let v256 : BitVec 1 := Scalar.cmpi .sge arg25 c3_i32_114
  let c1417_i32_115 : BitVec 32 := 1417#32
  let c2_i32_112 : BitVec 32 := 2#32
  let v254 : BitVec 1 := Scalar.cmpi .sge arg25 c2_i32_112
  let c763_i32_113 : BitVec 32 := 763#32
  let c1_i32_109 : BitVec 32 := 1#32
  let v252 : BitVec 1 := Scalar.cmpi .sge arg25 c1_i32_109
  let c365_i32_110 : BitVec 32 := 365#32
  let c159_i32_111 : BitVec 32 := 159#32
  let v253 : BitVec 32 := Scalar.select v252 c365_i32_110 c159_i32_111
  let v255 : BitVec 32 := Scalar.select v254 c763_i32_113 v253
  let v257 : BitVec 32 := Scalar.select v256 c1417_i32_115 v255
  let v259 : BitVec 32 := Scalar.select v258 c2391_i32_117 v257
  let v261 : BitVec 32 := Scalar.select v260 c3749_i32_119 v259
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c144_i32 : BitVec 32 := 144#32
  let v10 : BitVec 32 := Scalar.muli v1 c144_i32
  let v262 : BitVec 32 := Scalar.maxsi v261 v10
  let c16_i32_146 : BitVec 32 := 16#32
  let c0_i32_142 : BitVec 32 := 0#32
  let c1_i32_144 : BitVec 32 := 1#32
  let arg26 : BitVec 32 := Scf.iv c0_i32_142 c1_i32_144 k0_t6
  let v301 : BitVec 32 := Scalar.muli c16_i32_146 arg26
  let v302 : BitVec 32 := Scalar.addi v262 v301
  let v305 : BitVec 32 := Scalar.subi v302 v10
  let c2_i32_163 : BitVec 32 := 2#32
  let v593 : BitVec 32 := Scalar.addi v305 c2_i32_163
  let v594 : BitVec 32 := Scalar.muli c16_i32_164 v593
  let v595 : Index := Scalar.indexCast v594
  ![v595.toNat]

def k0_chk116 (i : grid0.Coords) (v15 : IVec S16 32) (k0_t3 : Fin k0_t3_loop.trips) (k0_t6 : Fin (k0_t6_loop i k0_t3).trips) (v602 : IVec S16 32) (v606 : IVec S16 32) (v608 : IVec S16 32) : Prop :=
  (∀ a x, ((![v15, v602, v606, v608] : Fin 4 → IVec S16 32) a x).toNat < S1x6x16x16.size a)
theorem k0_idx116_inb : ∀ (i : grid0.Coords) (v15 : IVec S16 32) (k0_t3 : Fin k0_t3_loop.trips) (k0_t6 : Fin (k0_t6_loop i k0_t3).trips) (v602 : IVec S16 32) (v606 : IVec S16 32) (v608 : IVec S16 32) (k0_hw116 : k0_chk116 i v15 k0_t3 k0_t6 v602 v606 v608), ∀ a x, ((![v15, v602, v606, v608] : Fin 4 → IVec S16 32) a x).toNat < S1x6x16x16.size a := fun i v15 k0_t3 k0_t6 v602 v606 v608 k0_hw116 => k0_hw116
def k0_off75 (i : grid0.Coords) (k0_t3 : Fin k0_t3_loop.trips) (k0_t6 : Fin (k0_t6_loop i k0_t3).trips) : Fin 1 → Nat :=
  let c16_i32_170 : BitVec 32 := 16#32
  let c0_i32_45 : BitVec 32 := 0#32
  let c1_i32_47 : BitVec 32 := 1#32
  let arg25 : BitVec 32 := Scf.iv c0_i32_45 c1_i32_47 k0_t3
  let c5_i32_118 : BitVec 32 := 5#32
  let v260 : BitVec 1 := Scalar.cmpi .sge arg25 c5_i32_118
  let c3749_i32_119 : BitVec 32 := 3749#32
  let c4_i32_116 : BitVec 32 := 4#32
  let v258 : BitVec 1 := Scalar.cmpi .sge arg25 c4_i32_116
  let c2391_i32_117 : BitVec 32 := 2391#32
  let c3_i32_114 : BitVec 32 := 3#32
  let v256 : BitVec 1 := Scalar.cmpi .sge arg25 c3_i32_114
  let c1417_i32_115 : BitVec 32 := 1417#32
  let c2_i32_112 : BitVec 32 := 2#32
  let v254 : BitVec 1 := Scalar.cmpi .sge arg25 c2_i32_112
  let c763_i32_113 : BitVec 32 := 763#32
  let c1_i32_109 : BitVec 32 := 1#32
  let v252 : BitVec 1 := Scalar.cmpi .sge arg25 c1_i32_109
  let c365_i32_110 : BitVec 32 := 365#32
  let c159_i32_111 : BitVec 32 := 159#32
  let v253 : BitVec 32 := Scalar.select v252 c365_i32_110 c159_i32_111
  let v255 : BitVec 32 := Scalar.select v254 c763_i32_113 v253
  let v257 : BitVec 32 := Scalar.select v256 c1417_i32_115 v255
  let v259 : BitVec 32 := Scalar.select v258 c2391_i32_117 v257
  let v261 : BitVec 32 := Scalar.select v260 c3749_i32_119 v259
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c144_i32 : BitVec 32 := 144#32
  let v10 : BitVec 32 := Scalar.muli v1 c144_i32
  let v262 : BitVec 32 := Scalar.maxsi v261 v10
  let c16_i32_146 : BitVec 32 := 16#32
  let c0_i32_142 : BitVec 32 := 0#32
  let c1_i32_144 : BitVec 32 := 1#32
  let arg26 : BitVec 32 := Scf.iv c0_i32_142 c1_i32_144 k0_t6
  let v301 : BitVec 32 := Scalar.muli c16_i32_146 arg26
  let v302 : BitVec 32 := Scalar.addi v262 v301
  let v305 : BitVec 32 := Scalar.subi v302 v10
  let c3_i32_169 : BitVec 32 := 3#32
  let v690 : BitVec 32 := Scalar.addi v305 c3_i32_169
  let v691 : BitVec 32 := Scalar.muli c16_i32_170 v690
  let v692 : Index := Scalar.indexCast v691
  ![v692.toNat]

def k0_chk117 (i : grid0.Coords) (v15 : IVec S16 32) (k0_t3 : Fin k0_t3_loop.trips) (k0_t6 : Fin (k0_t6_loop i k0_t3).trips) (v699 : IVec S16 32) (v703 : IVec S16 32) (v705 : IVec S16 32) : Prop :=
  (∀ a x, ((![v15, v699, v703, v705] : Fin 4 → IVec S16 32) a x).toNat < S1x6x16x16.size a)
theorem k0_idx117_inb : ∀ (i : grid0.Coords) (v15 : IVec S16 32) (k0_t3 : Fin k0_t3_loop.trips) (k0_t6 : Fin (k0_t6_loop i k0_t3).trips) (v699 : IVec S16 32) (v703 : IVec S16 32) (v705 : IVec S16 32) (k0_hw117 : k0_chk117 i v15 k0_t3 k0_t6 v699 v703 v705), ∀ a x, ((![v15, v699, v703, v705] : Fin 4 → IVec S16 32) a x).toNat < S1x6x16x16.size a := fun i v15 k0_t3 k0_t6 v699 v703 v705 k0_hw117 => k0_hw117
def k0_off76 (i : grid0.Coords) (k0_t3 : Fin k0_t3_loop.trips) (k0_t6 : Fin (k0_t6_loop i k0_t3).trips) : Fin 1 → Nat :=
  let c16_i32_176 : BitVec 32 := 16#32
  let c0_i32_45 : BitVec 32 := 0#32
  let c1_i32_47 : BitVec 32 := 1#32
  let arg25 : BitVec 32 := Scf.iv c0_i32_45 c1_i32_47 k0_t3
  let c5_i32_118 : BitVec 32 := 5#32
  let v260 : BitVec 1 := Scalar.cmpi .sge arg25 c5_i32_118
  let c3749_i32_119 : BitVec 32 := 3749#32
  let c4_i32_116 : BitVec 32 := 4#32
  let v258 : BitVec 1 := Scalar.cmpi .sge arg25 c4_i32_116
  let c2391_i32_117 : BitVec 32 := 2391#32
  let c3_i32_114 : BitVec 32 := 3#32
  let v256 : BitVec 1 := Scalar.cmpi .sge arg25 c3_i32_114
  let c1417_i32_115 : BitVec 32 := 1417#32
  let c2_i32_112 : BitVec 32 := 2#32
  let v254 : BitVec 1 := Scalar.cmpi .sge arg25 c2_i32_112
  let c763_i32_113 : BitVec 32 := 763#32
  let c1_i32_109 : BitVec 32 := 1#32
  let v252 : BitVec 1 := Scalar.cmpi .sge arg25 c1_i32_109
  let c365_i32_110 : BitVec 32 := 365#32
  let c159_i32_111 : BitVec 32 := 159#32
  let v253 : BitVec 32 := Scalar.select v252 c365_i32_110 c159_i32_111
  let v255 : BitVec 32 := Scalar.select v254 c763_i32_113 v253
  let v257 : BitVec 32 := Scalar.select v256 c1417_i32_115 v255
  let v259 : BitVec 32 := Scalar.select v258 c2391_i32_117 v257
  let v261 : BitVec 32 := Scalar.select v260 c3749_i32_119 v259
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c144_i32 : BitVec 32 := 144#32
  let v10 : BitVec 32 := Scalar.muli v1 c144_i32
  let v262 : BitVec 32 := Scalar.maxsi v261 v10
  let c16_i32_146 : BitVec 32 := 16#32
  let c0_i32_142 : BitVec 32 := 0#32
  let c1_i32_144 : BitVec 32 := 1#32
  let arg26 : BitVec 32 := Scf.iv c0_i32_142 c1_i32_144 k0_t6
  let v301 : BitVec 32 := Scalar.muli c16_i32_146 arg26
  let v302 : BitVec 32 := Scalar.addi v262 v301
  let v305 : BitVec 32 := Scalar.subi v302 v10
  let c4_i32_175 : BitVec 32 := 4#32
  let v787 : BitVec 32 := Scalar.addi v305 c4_i32_175
  let v788 : BitVec 32 := Scalar.muli c16_i32_176 v787
  let v789 : Index := Scalar.indexCast v788
  ![v789.toNat]

def k0_chk118 (i : grid0.Coords) (v15 : IVec S16 32) (k0_t3 : Fin k0_t3_loop.trips) (k0_t6 : Fin (k0_t6_loop i k0_t3).trips) (v796 : IVec S16 32) (v800 : IVec S16 32) (v802 : IVec S16 32) : Prop :=
  (∀ a x, ((![v15, v796, v800, v802] : Fin 4 → IVec S16 32) a x).toNat < S1x6x16x16.size a)
theorem k0_idx118_inb : ∀ (i : grid0.Coords) (v15 : IVec S16 32) (k0_t3 : Fin k0_t3_loop.trips) (k0_t6 : Fin (k0_t6_loop i k0_t3).trips) (v796 : IVec S16 32) (v800 : IVec S16 32) (v802 : IVec S16 32) (k0_hw118 : k0_chk118 i v15 k0_t3 k0_t6 v796 v800 v802), ∀ a x, ((![v15, v796, v800, v802] : Fin 4 → IVec S16 32) a x).toNat < S1x6x16x16.size a := fun i v15 k0_t3 k0_t6 v796 v800 v802 k0_hw118 => k0_hw118
def k0_off77 (i : grid0.Coords) (k0_t3 : Fin k0_t3_loop.trips) (k0_t6 : Fin (k0_t6_loop i k0_t3).trips) : Fin 1 → Nat :=
  let c16_i32_182 : BitVec 32 := 16#32
  let c0_i32_45 : BitVec 32 := 0#32
  let c1_i32_47 : BitVec 32 := 1#32
  let arg25 : BitVec 32 := Scf.iv c0_i32_45 c1_i32_47 k0_t3
  let c5_i32_118 : BitVec 32 := 5#32
  let v260 : BitVec 1 := Scalar.cmpi .sge arg25 c5_i32_118
  let c3749_i32_119 : BitVec 32 := 3749#32
  let c4_i32_116 : BitVec 32 := 4#32
  let v258 : BitVec 1 := Scalar.cmpi .sge arg25 c4_i32_116
  let c2391_i32_117 : BitVec 32 := 2391#32
  let c3_i32_114 : BitVec 32 := 3#32
  let v256 : BitVec 1 := Scalar.cmpi .sge arg25 c3_i32_114
  let c1417_i32_115 : BitVec 32 := 1417#32
  let c2_i32_112 : BitVec 32 := 2#32
  let v254 : BitVec 1 := Scalar.cmpi .sge arg25 c2_i32_112
  let c763_i32_113 : BitVec 32 := 763#32
  let c1_i32_109 : BitVec 32 := 1#32
  let v252 : BitVec 1 := Scalar.cmpi .sge arg25 c1_i32_109
  let c365_i32_110 : BitVec 32 := 365#32
  let c159_i32_111 : BitVec 32 := 159#32
  let v253 : BitVec 32 := Scalar.select v252 c365_i32_110 c159_i32_111
  let v255 : BitVec 32 := Scalar.select v254 c763_i32_113 v253
  let v257 : BitVec 32 := Scalar.select v256 c1417_i32_115 v255
  let v259 : BitVec 32 := Scalar.select v258 c2391_i32_117 v257
  let v261 : BitVec 32 := Scalar.select v260 c3749_i32_119 v259
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c144_i32 : BitVec 32 := 144#32
  let v10 : BitVec 32 := Scalar.muli v1 c144_i32
  let v262 : BitVec 32 := Scalar.maxsi v261 v10
  let c16_i32_146 : BitVec 32 := 16#32
  let c0_i32_142 : BitVec 32 := 0#32
  let c1_i32_144 : BitVec 32 := 1#32
  let arg26 : BitVec 32 := Scf.iv c0_i32_142 c1_i32_144 k0_t6
  let v301 : BitVec 32 := Scalar.muli c16_i32_146 arg26
  let v302 : BitVec 32 := Scalar.addi v262 v301
  let v305 : BitVec 32 := Scalar.subi v302 v10
  let c5_i32_181 : BitVec 32 := 5#32
  let v884 : BitVec 32 := Scalar.addi v305 c5_i32_181
  let v885 : BitVec 32 := Scalar.muli c16_i32_182 v884
  let v886 : Index := Scalar.indexCast v885
  ![v886.toNat]

def k0_chk119 (i : grid0.Coords) (v15 : IVec S16 32) (k0_t3 : Fin k0_t3_loop.trips) (k0_t6 : Fin (k0_t6_loop i k0_t3).trips) (v893 : IVec S16 32) (v897 : IVec S16 32) (v899 : IVec S16 32) : Prop :=
  (∀ a x, ((![v15, v893, v897, v899] : Fin 4 → IVec S16 32) a x).toNat < S1x6x16x16.size a)
theorem k0_idx119_inb : ∀ (i : grid0.Coords) (v15 : IVec S16 32) (k0_t3 : Fin k0_t3_loop.trips) (k0_t6 : Fin (k0_t6_loop i k0_t3).trips) (v893 : IVec S16 32) (v897 : IVec S16 32) (v899 : IVec S16 32) (k0_hw119 : k0_chk119 i v15 k0_t3 k0_t6 v893 v897 v899), ∀ a x, ((![v15, v893, v897, v899] : Fin 4 → IVec S16 32) a x).toNat < S1x6x16x16.size a := fun i v15 k0_t3 k0_t6 v893 v897 v899 k0_hw119 => k0_hw119
def k0_off78 (i : grid0.Coords) (k0_t3 : Fin k0_t3_loop.trips) (k0_t6 : Fin (k0_t6_loop i k0_t3).trips) : Fin 1 → Nat :=
  let c16_i32_188 : BitVec 32 := 16#32
  let c0_i32_45 : BitVec 32 := 0#32
  let c1_i32_47 : BitVec 32 := 1#32
  let arg25 : BitVec 32 := Scf.iv c0_i32_45 c1_i32_47 k0_t3
  let c5_i32_118 : BitVec 32 := 5#32
  let v260 : BitVec 1 := Scalar.cmpi .sge arg25 c5_i32_118
  let c3749_i32_119 : BitVec 32 := 3749#32
  let c4_i32_116 : BitVec 32 := 4#32
  let v258 : BitVec 1 := Scalar.cmpi .sge arg25 c4_i32_116
  let c2391_i32_117 : BitVec 32 := 2391#32
  let c3_i32_114 : BitVec 32 := 3#32
  let v256 : BitVec 1 := Scalar.cmpi .sge arg25 c3_i32_114
  let c1417_i32_115 : BitVec 32 := 1417#32
  let c2_i32_112 : BitVec 32 := 2#32
  let v254 : BitVec 1 := Scalar.cmpi .sge arg25 c2_i32_112
  let c763_i32_113 : BitVec 32 := 763#32
  let c1_i32_109 : BitVec 32 := 1#32
  let v252 : BitVec 1 := Scalar.cmpi .sge arg25 c1_i32_109
  let c365_i32_110 : BitVec 32 := 365#32
  let c159_i32_111 : BitVec 32 := 159#32
  let v253 : BitVec 32 := Scalar.select v252 c365_i32_110 c159_i32_111
  let v255 : BitVec 32 := Scalar.select v254 c763_i32_113 v253
  let v257 : BitVec 32 := Scalar.select v256 c1417_i32_115 v255
  let v259 : BitVec 32 := Scalar.select v258 c2391_i32_117 v257
  let v261 : BitVec 32 := Scalar.select v260 c3749_i32_119 v259
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c144_i32 : BitVec 32 := 144#32
  let v10 : BitVec 32 := Scalar.muli v1 c144_i32
  let v262 : BitVec 32 := Scalar.maxsi v261 v10
  let c16_i32_146 : BitVec 32 := 16#32
  let c0_i32_142 : BitVec 32 := 0#32
  let c1_i32_144 : BitVec 32 := 1#32
  let arg26 : BitVec 32 := Scf.iv c0_i32_142 c1_i32_144 k0_t6
  let v301 : BitVec 32 := Scalar.muli c16_i32_146 arg26
  let v302 : BitVec 32 := Scalar.addi v262 v301
  let v305 : BitVec 32 := Scalar.subi v302 v10
  let c6_i32_187 : BitVec 32 := 6#32
  let v981 : BitVec 32 := Scalar.addi v305 c6_i32_187
  let v982 : BitVec 32 := Scalar.muli c16_i32_188 v981
  let v983 : Index := Scalar.indexCast v982
  ![v983.toNat]

def k0_chk120 (i : grid0.Coords) (v15 : IVec S16 32) (k0_t3 : Fin k0_t3_loop.trips) (k0_t6 : Fin (k0_t6_loop i k0_t3).trips) (v990 : IVec S16 32) (v994 : IVec S16 32) (v996 : IVec S16 32) : Prop :=
  (∀ a x, ((![v15, v990, v994, v996] : Fin 4 → IVec S16 32) a x).toNat < S1x6x16x16.size a)
theorem k0_idx120_inb : ∀ (i : grid0.Coords) (v15 : IVec S16 32) (k0_t3 : Fin k0_t3_loop.trips) (k0_t6 : Fin (k0_t6_loop i k0_t3).trips) (v990 : IVec S16 32) (v994 : IVec S16 32) (v996 : IVec S16 32) (k0_hw120 : k0_chk120 i v15 k0_t3 k0_t6 v990 v994 v996), ∀ a x, ((![v15, v990, v994, v996] : Fin 4 → IVec S16 32) a x).toNat < S1x6x16x16.size a := fun i v15 k0_t3 k0_t6 v990 v994 v996 k0_hw120 => k0_hw120
def k0_off79 (i : grid0.Coords) (k0_t3 : Fin k0_t3_loop.trips) (k0_t6 : Fin (k0_t6_loop i k0_t3).trips) : Fin 1 → Nat :=
  let c16_i32_194 : BitVec 32 := 16#32
  let c0_i32_45 : BitVec 32 := 0#32
  let c1_i32_47 : BitVec 32 := 1#32
  let arg25 : BitVec 32 := Scf.iv c0_i32_45 c1_i32_47 k0_t3
  let c5_i32_118 : BitVec 32 := 5#32
  let v260 : BitVec 1 := Scalar.cmpi .sge arg25 c5_i32_118
  let c3749_i32_119 : BitVec 32 := 3749#32
  let c4_i32_116 : BitVec 32 := 4#32
  let v258 : BitVec 1 := Scalar.cmpi .sge arg25 c4_i32_116
  let c2391_i32_117 : BitVec 32 := 2391#32
  let c3_i32_114 : BitVec 32 := 3#32
  let v256 : BitVec 1 := Scalar.cmpi .sge arg25 c3_i32_114
  let c1417_i32_115 : BitVec 32 := 1417#32
  let c2_i32_112 : BitVec 32 := 2#32
  let v254 : BitVec 1 := Scalar.cmpi .sge arg25 c2_i32_112
  let c763_i32_113 : BitVec 32 := 763#32
  let c1_i32_109 : BitVec 32 := 1#32
  let v252 : BitVec 1 := Scalar.cmpi .sge arg25 c1_i32_109
  let c365_i32_110 : BitVec 32 := 365#32
  let c159_i32_111 : BitVec 32 := 159#32
  let v253 : BitVec 32 := Scalar.select v252 c365_i32_110 c159_i32_111
  let v255 : BitVec 32 := Scalar.select v254 c763_i32_113 v253
  let v257 : BitVec 32 := Scalar.select v256 c1417_i32_115 v255
  let v259 : BitVec 32 := Scalar.select v258 c2391_i32_117 v257
  let v261 : BitVec 32 := Scalar.select v260 c3749_i32_119 v259
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c144_i32 : BitVec 32 := 144#32
  let v10 : BitVec 32 := Scalar.muli v1 c144_i32
  let v262 : BitVec 32 := Scalar.maxsi v261 v10
  let c16_i32_146 : BitVec 32 := 16#32
  let c0_i32_142 : BitVec 32 := 0#32
  let c1_i32_144 : BitVec 32 := 1#32
  let arg26 : BitVec 32 := Scf.iv c0_i32_142 c1_i32_144 k0_t6
  let v301 : BitVec 32 := Scalar.muli c16_i32_146 arg26
  let v302 : BitVec 32 := Scalar.addi v262 v301
  let v305 : BitVec 32 := Scalar.subi v302 v10
  let c7_i32_193 : BitVec 32 := 7#32
  let v1078 : BitVec 32 := Scalar.addi v305 c7_i32_193
  let v1079 : BitVec 32 := Scalar.muli c16_i32_194 v1078
  let v1080 : Index := Scalar.indexCast v1079
  ![v1080.toNat]

def k0_chk121 (i : grid0.Coords) (v15 : IVec S16 32) (k0_t3 : Fin k0_t3_loop.trips) (k0_t6 : Fin (k0_t6_loop i k0_t3).trips) (v1087 : IVec S16 32) (v1091 : IVec S16 32) (v1093 : IVec S16 32) : Prop :=
  (∀ a x, ((![v15, v1087, v1091, v1093] : Fin 4 → IVec S16 32) a x).toNat < S1x6x16x16.size a)
theorem k0_idx121_inb : ∀ (i : grid0.Coords) (v15 : IVec S16 32) (k0_t3 : Fin k0_t3_loop.trips) (k0_t6 : Fin (k0_t6_loop i k0_t3).trips) (v1087 : IVec S16 32) (v1091 : IVec S16 32) (v1093 : IVec S16 32) (k0_hw121 : k0_chk121 i v15 k0_t3 k0_t6 v1087 v1091 v1093), ∀ a x, ((![v15, v1087, v1091, v1093] : Fin 4 → IVec S16 32) a x).toNat < S1x6x16x16.size a := fun i v15 k0_t3 k0_t6 v1087 v1091 v1093 k0_hw121 => k0_hw121
def k0_off80 (i : grid0.Coords) (k0_t3 : Fin k0_t3_loop.trips) (k0_t6 : Fin (k0_t6_loop i k0_t3).trips) : Fin 1 → Nat :=
  let c16_i32_200 : BitVec 32 := 16#32
  let c0_i32_45 : BitVec 32 := 0#32
  let c1_i32_47 : BitVec 32 := 1#32
  let arg25 : BitVec 32 := Scf.iv c0_i32_45 c1_i32_47 k0_t3
  let c5_i32_118 : BitVec 32 := 5#32
  let v260 : BitVec 1 := Scalar.cmpi .sge arg25 c5_i32_118
  let c3749_i32_119 : BitVec 32 := 3749#32
  let c4_i32_116 : BitVec 32 := 4#32
  let v258 : BitVec 1 := Scalar.cmpi .sge arg25 c4_i32_116
  let c2391_i32_117 : BitVec 32 := 2391#32
  let c3_i32_114 : BitVec 32 := 3#32
  let v256 : BitVec 1 := Scalar.cmpi .sge arg25 c3_i32_114
  let c1417_i32_115 : BitVec 32 := 1417#32
  let c2_i32_112 : BitVec 32 := 2#32
  let v254 : BitVec 1 := Scalar.cmpi .sge arg25 c2_i32_112
  let c763_i32_113 : BitVec 32 := 763#32
  let c1_i32_109 : BitVec 32 := 1#32
  let v252 : BitVec 1 := Scalar.cmpi .sge arg25 c1_i32_109
  let c365_i32_110 : BitVec 32 := 365#32
  let c159_i32_111 : BitVec 32 := 159#32
  let v253 : BitVec 32 := Scalar.select v252 c365_i32_110 c159_i32_111
  let v255 : BitVec 32 := Scalar.select v254 c763_i32_113 v253
  let v257 : BitVec 32 := Scalar.select v256 c1417_i32_115 v255
  let v259 : BitVec 32 := Scalar.select v258 c2391_i32_117 v257
  let v261 : BitVec 32 := Scalar.select v260 c3749_i32_119 v259
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c144_i32 : BitVec 32 := 144#32
  let v10 : BitVec 32 := Scalar.muli v1 c144_i32
  let v262 : BitVec 32 := Scalar.maxsi v261 v10
  let c16_i32_146 : BitVec 32 := 16#32
  let c0_i32_142 : BitVec 32 := 0#32
  let c1_i32_144 : BitVec 32 := 1#32
  let arg26 : BitVec 32 := Scf.iv c0_i32_142 c1_i32_144 k0_t6
  let v301 : BitVec 32 := Scalar.muli c16_i32_146 arg26
  let v302 : BitVec 32 := Scalar.addi v262 v301
  let v305 : BitVec 32 := Scalar.subi v302 v10
  let c8_i32_199 : BitVec 32 := 8#32
  let v1175 : BitVec 32 := Scalar.addi v305 c8_i32_199
  let v1176 : BitVec 32 := Scalar.muli c16_i32_200 v1175
  let v1177 : Index := Scalar.indexCast v1176
  ![v1177.toNat]

def k0_chk122 (i : grid0.Coords) (v15 : IVec S16 32) (k0_t3 : Fin k0_t3_loop.trips) (k0_t6 : Fin (k0_t6_loop i k0_t3).trips) (v1184 : IVec S16 32) (v1188 : IVec S16 32) (v1190 : IVec S16 32) : Prop :=
  (∀ a x, ((![v15, v1184, v1188, v1190] : Fin 4 → IVec S16 32) a x).toNat < S1x6x16x16.size a)
theorem k0_idx122_inb : ∀ (i : grid0.Coords) (v15 : IVec S16 32) (k0_t3 : Fin k0_t3_loop.trips) (k0_t6 : Fin (k0_t6_loop i k0_t3).trips) (v1184 : IVec S16 32) (v1188 : IVec S16 32) (v1190 : IVec S16 32) (k0_hw122 : k0_chk122 i v15 k0_t3 k0_t6 v1184 v1188 v1190), ∀ a x, ((![v15, v1184, v1188, v1190] : Fin 4 → IVec S16 32) a x).toNat < S1x6x16x16.size a := fun i v15 k0_t3 k0_t6 v1184 v1188 v1190 k0_hw122 => k0_hw122
def k0_off81 (i : grid0.Coords) (k0_t3 : Fin k0_t3_loop.trips) (k0_t6 : Fin (k0_t6_loop i k0_t3).trips) : Fin 1 → Nat :=
  let c16_i32_206 : BitVec 32 := 16#32
  let c0_i32_45 : BitVec 32 := 0#32
  let c1_i32_47 : BitVec 32 := 1#32
  let arg25 : BitVec 32 := Scf.iv c0_i32_45 c1_i32_47 k0_t3
  let c5_i32_118 : BitVec 32 := 5#32
  let v260 : BitVec 1 := Scalar.cmpi .sge arg25 c5_i32_118
  let c3749_i32_119 : BitVec 32 := 3749#32
  let c4_i32_116 : BitVec 32 := 4#32
  let v258 : BitVec 1 := Scalar.cmpi .sge arg25 c4_i32_116
  let c2391_i32_117 : BitVec 32 := 2391#32
  let c3_i32_114 : BitVec 32 := 3#32
  let v256 : BitVec 1 := Scalar.cmpi .sge arg25 c3_i32_114
  let c1417_i32_115 : BitVec 32 := 1417#32
  let c2_i32_112 : BitVec 32 := 2#32
  let v254 : BitVec 1 := Scalar.cmpi .sge arg25 c2_i32_112
  let c763_i32_113 : BitVec 32 := 763#32
  let c1_i32_109 : BitVec 32 := 1#32
  let v252 : BitVec 1 := Scalar.cmpi .sge arg25 c1_i32_109
  let c365_i32_110 : BitVec 32 := 365#32
  let c159_i32_111 : BitVec 32 := 159#32
  let v253 : BitVec 32 := Scalar.select v252 c365_i32_110 c159_i32_111
  let v255 : BitVec 32 := Scalar.select v254 c763_i32_113 v253
  let v257 : BitVec 32 := Scalar.select v256 c1417_i32_115 v255
  let v259 : BitVec 32 := Scalar.select v258 c2391_i32_117 v257
  let v261 : BitVec 32 := Scalar.select v260 c3749_i32_119 v259
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c144_i32 : BitVec 32 := 144#32
  let v10 : BitVec 32 := Scalar.muli v1 c144_i32
  let v262 : BitVec 32 := Scalar.maxsi v261 v10
  let c16_i32_146 : BitVec 32 := 16#32
  let c0_i32_142 : BitVec 32 := 0#32
  let c1_i32_144 : BitVec 32 := 1#32
  let arg26 : BitVec 32 := Scf.iv c0_i32_142 c1_i32_144 k0_t6
  let v301 : BitVec 32 := Scalar.muli c16_i32_146 arg26
  let v302 : BitVec 32 := Scalar.addi v262 v301
  let v305 : BitVec 32 := Scalar.subi v302 v10
  let c9_i32_205 : BitVec 32 := 9#32
  let v1272 : BitVec 32 := Scalar.addi v305 c9_i32_205
  let v1273 : BitVec 32 := Scalar.muli c16_i32_206 v1272
  let v1274 : Index := Scalar.indexCast v1273
  ![v1274.toNat]

def k0_chk123 (i : grid0.Coords) (v15 : IVec S16 32) (k0_t3 : Fin k0_t3_loop.trips) (k0_t6 : Fin (k0_t6_loop i k0_t3).trips) (v1281 : IVec S16 32) (v1285 : IVec S16 32) (v1287 : IVec S16 32) : Prop :=
  (∀ a x, ((![v15, v1281, v1285, v1287] : Fin 4 → IVec S16 32) a x).toNat < S1x6x16x16.size a)
theorem k0_idx123_inb : ∀ (i : grid0.Coords) (v15 : IVec S16 32) (k0_t3 : Fin k0_t3_loop.trips) (k0_t6 : Fin (k0_t6_loop i k0_t3).trips) (v1281 : IVec S16 32) (v1285 : IVec S16 32) (v1287 : IVec S16 32) (k0_hw123 : k0_chk123 i v15 k0_t3 k0_t6 v1281 v1285 v1287), ∀ a x, ((![v15, v1281, v1285, v1287] : Fin 4 → IVec S16 32) a x).toNat < S1x6x16x16.size a := fun i v15 k0_t3 k0_t6 v1281 v1285 v1287 k0_hw123 => k0_hw123
def k0_off82 (i : grid0.Coords) (k0_t3 : Fin k0_t3_loop.trips) (k0_t6 : Fin (k0_t6_loop i k0_t3).trips) : Fin 1 → Nat :=
  let c16_i32_212 : BitVec 32 := 16#32
  let c0_i32_45 : BitVec 32 := 0#32
  let c1_i32_47 : BitVec 32 := 1#32
  let arg25 : BitVec 32 := Scf.iv c0_i32_45 c1_i32_47 k0_t3
  let c5_i32_118 : BitVec 32 := 5#32
  let v260 : BitVec 1 := Scalar.cmpi .sge arg25 c5_i32_118
  let c3749_i32_119 : BitVec 32 := 3749#32
  let c4_i32_116 : BitVec 32 := 4#32
  let v258 : BitVec 1 := Scalar.cmpi .sge arg25 c4_i32_116
  let c2391_i32_117 : BitVec 32 := 2391#32
  let c3_i32_114 : BitVec 32 := 3#32
  let v256 : BitVec 1 := Scalar.cmpi .sge arg25 c3_i32_114
  let c1417_i32_115 : BitVec 32 := 1417#32
  let c2_i32_112 : BitVec 32 := 2#32
  let v254 : BitVec 1 := Scalar.cmpi .sge arg25 c2_i32_112
  let c763_i32_113 : BitVec 32 := 763#32
  let c1_i32_109 : BitVec 32 := 1#32
  let v252 : BitVec 1 := Scalar.cmpi .sge arg25 c1_i32_109
  let c365_i32_110 : BitVec 32 := 365#32
  let c159_i32_111 : BitVec 32 := 159#32
  let v253 : BitVec 32 := Scalar.select v252 c365_i32_110 c159_i32_111
  let v255 : BitVec 32 := Scalar.select v254 c763_i32_113 v253
  let v257 : BitVec 32 := Scalar.select v256 c1417_i32_115 v255
  let v259 : BitVec 32 := Scalar.select v258 c2391_i32_117 v257
  let v261 : BitVec 32 := Scalar.select v260 c3749_i32_119 v259
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c144_i32 : BitVec 32 := 144#32
  let v10 : BitVec 32 := Scalar.muli v1 c144_i32
  let v262 : BitVec 32 := Scalar.maxsi v261 v10
  let c16_i32_146 : BitVec 32 := 16#32
  let c0_i32_142 : BitVec 32 := 0#32
  let c1_i32_144 : BitVec 32 := 1#32
  let arg26 : BitVec 32 := Scf.iv c0_i32_142 c1_i32_144 k0_t6
  let v301 : BitVec 32 := Scalar.muli c16_i32_146 arg26
  let v302 : BitVec 32 := Scalar.addi v262 v301
  let v305 : BitVec 32 := Scalar.subi v302 v10
  let c10_i32_211 : BitVec 32 := 10#32
  let v1369 : BitVec 32 := Scalar.addi v305 c10_i32_211
  let v1370 : BitVec 32 := Scalar.muli c16_i32_212 v1369
  let v1371 : Index := Scalar.indexCast v1370
  ![v1371.toNat]

def k0_chk124 (i : grid0.Coords) (v15 : IVec S16 32) (k0_t3 : Fin k0_t3_loop.trips) (k0_t6 : Fin (k0_t6_loop i k0_t3).trips) (v1378 : IVec S16 32) (v1382 : IVec S16 32) (v1384 : IVec S16 32) : Prop :=
  (∀ a x, ((![v15, v1378, v1382, v1384] : Fin 4 → IVec S16 32) a x).toNat < S1x6x16x16.size a)
theorem k0_idx124_inb : ∀ (i : grid0.Coords) (v15 : IVec S16 32) (k0_t3 : Fin k0_t3_loop.trips) (k0_t6 : Fin (k0_t6_loop i k0_t3).trips) (v1378 : IVec S16 32) (v1382 : IVec S16 32) (v1384 : IVec S16 32) (k0_hw124 : k0_chk124 i v15 k0_t3 k0_t6 v1378 v1382 v1384), ∀ a x, ((![v15, v1378, v1382, v1384] : Fin 4 → IVec S16 32) a x).toNat < S1x6x16x16.size a := fun i v15 k0_t3 k0_t6 v1378 v1382 v1384 k0_hw124 => k0_hw124
def k0_off83 (i : grid0.Coords) (k0_t3 : Fin k0_t3_loop.trips) (k0_t6 : Fin (k0_t6_loop i k0_t3).trips) : Fin 1 → Nat :=
  let c16_i32_218 : BitVec 32 := 16#32
  let c0_i32_45 : BitVec 32 := 0#32
  let c1_i32_47 : BitVec 32 := 1#32
  let arg25 : BitVec 32 := Scf.iv c0_i32_45 c1_i32_47 k0_t3
  let c5_i32_118 : BitVec 32 := 5#32
  let v260 : BitVec 1 := Scalar.cmpi .sge arg25 c5_i32_118
  let c3749_i32_119 : BitVec 32 := 3749#32
  let c4_i32_116 : BitVec 32 := 4#32
  let v258 : BitVec 1 := Scalar.cmpi .sge arg25 c4_i32_116
  let c2391_i32_117 : BitVec 32 := 2391#32
  let c3_i32_114 : BitVec 32 := 3#32
  let v256 : BitVec 1 := Scalar.cmpi .sge arg25 c3_i32_114
  let c1417_i32_115 : BitVec 32 := 1417#32
  let c2_i32_112 : BitVec 32 := 2#32
  let v254 : BitVec 1 := Scalar.cmpi .sge arg25 c2_i32_112
  let c763_i32_113 : BitVec 32 := 763#32
  let c1_i32_109 : BitVec 32 := 1#32
  let v252 : BitVec 1 := Scalar.cmpi .sge arg25 c1_i32_109
  let c365_i32_110 : BitVec 32 := 365#32
  let c159_i32_111 : BitVec 32 := 159#32
  let v253 : BitVec 32 := Scalar.select v252 c365_i32_110 c159_i32_111
  let v255 : BitVec 32 := Scalar.select v254 c763_i32_113 v253
  let v257 : BitVec 32 := Scalar.select v256 c1417_i32_115 v255
  let v259 : BitVec 32 := Scalar.select v258 c2391_i32_117 v257
  let v261 : BitVec 32 := Scalar.select v260 c3749_i32_119 v259
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c144_i32 : BitVec 32 := 144#32
  let v10 : BitVec 32 := Scalar.muli v1 c144_i32
  let v262 : BitVec 32 := Scalar.maxsi v261 v10
  let c16_i32_146 : BitVec 32 := 16#32
  let c0_i32_142 : BitVec 32 := 0#32
  let c1_i32_144 : BitVec 32 := 1#32
  let arg26 : BitVec 32 := Scf.iv c0_i32_142 c1_i32_144 k0_t6
  let v301 : BitVec 32 := Scalar.muli c16_i32_146 arg26
  let v302 : BitVec 32 := Scalar.addi v262 v301
  let v305 : BitVec 32 := Scalar.subi v302 v10
  let c11_i32_217 : BitVec 32 := 11#32
  let v1466 : BitVec 32 := Scalar.addi v305 c11_i32_217
  let v1467 : BitVec 32 := Scalar.muli c16_i32_218 v1466
  let v1468 : Index := Scalar.indexCast v1467
  ![v1468.toNat]

def k0_chk125 (i : grid0.Coords) (v15 : IVec S16 32) (k0_t3 : Fin k0_t3_loop.trips) (k0_t6 : Fin (k0_t6_loop i k0_t3).trips) (v1475 : IVec S16 32) (v1479 : IVec S16 32) (v1481 : IVec S16 32) : Prop :=
  (∀ a x, ((![v15, v1475, v1479, v1481] : Fin 4 → IVec S16 32) a x).toNat < S1x6x16x16.size a)
theorem k0_idx125_inb : ∀ (i : grid0.Coords) (v15 : IVec S16 32) (k0_t3 : Fin k0_t3_loop.trips) (k0_t6 : Fin (k0_t6_loop i k0_t3).trips) (v1475 : IVec S16 32) (v1479 : IVec S16 32) (v1481 : IVec S16 32) (k0_hw125 : k0_chk125 i v15 k0_t3 k0_t6 v1475 v1479 v1481), ∀ a x, ((![v15, v1475, v1479, v1481] : Fin 4 → IVec S16 32) a x).toNat < S1x6x16x16.size a := fun i v15 k0_t3 k0_t6 v1475 v1479 v1481 k0_hw125 => k0_hw125
def k0_off84 (i : grid0.Coords) (k0_t3 : Fin k0_t3_loop.trips) (k0_t6 : Fin (k0_t6_loop i k0_t3).trips) : Fin 1 → Nat :=
  let c16_i32_224 : BitVec 32 := 16#32
  let c0_i32_45 : BitVec 32 := 0#32
  let c1_i32_47 : BitVec 32 := 1#32
  let arg25 : BitVec 32 := Scf.iv c0_i32_45 c1_i32_47 k0_t3
  let c5_i32_118 : BitVec 32 := 5#32
  let v260 : BitVec 1 := Scalar.cmpi .sge arg25 c5_i32_118
  let c3749_i32_119 : BitVec 32 := 3749#32
  let c4_i32_116 : BitVec 32 := 4#32
  let v258 : BitVec 1 := Scalar.cmpi .sge arg25 c4_i32_116
  let c2391_i32_117 : BitVec 32 := 2391#32
  let c3_i32_114 : BitVec 32 := 3#32
  let v256 : BitVec 1 := Scalar.cmpi .sge arg25 c3_i32_114
  let c1417_i32_115 : BitVec 32 := 1417#32
  let c2_i32_112 : BitVec 32 := 2#32
  let v254 : BitVec 1 := Scalar.cmpi .sge arg25 c2_i32_112
  let c763_i32_113 : BitVec 32 := 763#32
  let c1_i32_109 : BitVec 32 := 1#32
  let v252 : BitVec 1 := Scalar.cmpi .sge arg25 c1_i32_109
  let c365_i32_110 : BitVec 32 := 365#32
  let c159_i32_111 : BitVec 32 := 159#32
  let v253 : BitVec 32 := Scalar.select v252 c365_i32_110 c159_i32_111
  let v255 : BitVec 32 := Scalar.select v254 c763_i32_113 v253
  let v257 : BitVec 32 := Scalar.select v256 c1417_i32_115 v255
  let v259 : BitVec 32 := Scalar.select v258 c2391_i32_117 v257
  let v261 : BitVec 32 := Scalar.select v260 c3749_i32_119 v259
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c144_i32 : BitVec 32 := 144#32
  let v10 : BitVec 32 := Scalar.muli v1 c144_i32
  let v262 : BitVec 32 := Scalar.maxsi v261 v10
  let c16_i32_146 : BitVec 32 := 16#32
  let c0_i32_142 : BitVec 32 := 0#32
  let c1_i32_144 : BitVec 32 := 1#32
  let arg26 : BitVec 32 := Scf.iv c0_i32_142 c1_i32_144 k0_t6
  let v301 : BitVec 32 := Scalar.muli c16_i32_146 arg26
  let v302 : BitVec 32 := Scalar.addi v262 v301
  let v305 : BitVec 32 := Scalar.subi v302 v10
  let c12_i32_223 : BitVec 32 := 12#32
  let v1563 : BitVec 32 := Scalar.addi v305 c12_i32_223
  let v1564 : BitVec 32 := Scalar.muli c16_i32_224 v1563
  let v1565 : Index := Scalar.indexCast v1564
  ![v1565.toNat]

def k0_chk126 (i : grid0.Coords) (v15 : IVec S16 32) (k0_t3 : Fin k0_t3_loop.trips) (k0_t6 : Fin (k0_t6_loop i k0_t3).trips) (v1572 : IVec S16 32) (v1576 : IVec S16 32) (v1578 : IVec S16 32) : Prop :=
  (∀ a x, ((![v15, v1572, v1576, v1578] : Fin 4 → IVec S16 32) a x).toNat < S1x6x16x16.size a)
theorem k0_idx126_inb : ∀ (i : grid0.Coords) (v15 : IVec S16 32) (k0_t3 : Fin k0_t3_loop.trips) (k0_t6 : Fin (k0_t6_loop i k0_t3).trips) (v1572 : IVec S16 32) (v1576 : IVec S16 32) (v1578 : IVec S16 32) (k0_hw126 : k0_chk126 i v15 k0_t3 k0_t6 v1572 v1576 v1578), ∀ a x, ((![v15, v1572, v1576, v1578] : Fin 4 → IVec S16 32) a x).toNat < S1x6x16x16.size a := fun i v15 k0_t3 k0_t6 v1572 v1576 v1578 k0_hw126 => k0_hw126
def k0_off85 (i : grid0.Coords) (k0_t3 : Fin k0_t3_loop.trips) (k0_t6 : Fin (k0_t6_loop i k0_t3).trips) : Fin 1 → Nat :=
  let c16_i32_230 : BitVec 32 := 16#32
  let c0_i32_45 : BitVec 32 := 0#32
  let c1_i32_47 : BitVec 32 := 1#32
  let arg25 : BitVec 32 := Scf.iv c0_i32_45 c1_i32_47 k0_t3
  let c5_i32_118 : BitVec 32 := 5#32
  let v260 : BitVec 1 := Scalar.cmpi .sge arg25 c5_i32_118
  let c3749_i32_119 : BitVec 32 := 3749#32
  let c4_i32_116 : BitVec 32 := 4#32
  let v258 : BitVec 1 := Scalar.cmpi .sge arg25 c4_i32_116
  let c2391_i32_117 : BitVec 32 := 2391#32
  let c3_i32_114 : BitVec 32 := 3#32
  let v256 : BitVec 1 := Scalar.cmpi .sge arg25 c3_i32_114
  let c1417_i32_115 : BitVec 32 := 1417#32
  let c2_i32_112 : BitVec 32 := 2#32
  let v254 : BitVec 1 := Scalar.cmpi .sge arg25 c2_i32_112
  let c763_i32_113 : BitVec 32 := 763#32
  let c1_i32_109 : BitVec 32 := 1#32
  let v252 : BitVec 1 := Scalar.cmpi .sge arg25 c1_i32_109
  let c365_i32_110 : BitVec 32 := 365#32
  let c159_i32_111 : BitVec 32 := 159#32
  let v253 : BitVec 32 := Scalar.select v252 c365_i32_110 c159_i32_111
  let v255 : BitVec 32 := Scalar.select v254 c763_i32_113 v253
  let v257 : BitVec 32 := Scalar.select v256 c1417_i32_115 v255
  let v259 : BitVec 32 := Scalar.select v258 c2391_i32_117 v257
  let v261 : BitVec 32 := Scalar.select v260 c3749_i32_119 v259
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c144_i32 : BitVec 32 := 144#32
  let v10 : BitVec 32 := Scalar.muli v1 c144_i32
  let v262 : BitVec 32 := Scalar.maxsi v261 v10
  let c16_i32_146 : BitVec 32 := 16#32
  let c0_i32_142 : BitVec 32 := 0#32
  let c1_i32_144 : BitVec 32 := 1#32
  let arg26 : BitVec 32 := Scf.iv c0_i32_142 c1_i32_144 k0_t6
  let v301 : BitVec 32 := Scalar.muli c16_i32_146 arg26
  let v302 : BitVec 32 := Scalar.addi v262 v301
  let v305 : BitVec 32 := Scalar.subi v302 v10
  let c13_i32_229 : BitVec 32 := 13#32
  let v1660 : BitVec 32 := Scalar.addi v305 c13_i32_229
  let v1661 : BitVec 32 := Scalar.muli c16_i32_230 v1660
  let v1662 : Index := Scalar.indexCast v1661
  ![v1662.toNat]

def k0_chk127 (i : grid0.Coords) (v15 : IVec S16 32) (k0_t3 : Fin k0_t3_loop.trips) (k0_t6 : Fin (k0_t6_loop i k0_t3).trips) (v1669 : IVec S16 32) (v1673 : IVec S16 32) (v1675 : IVec S16 32) : Prop :=
  (∀ a x, ((![v15, v1669, v1673, v1675] : Fin 4 → IVec S16 32) a x).toNat < S1x6x16x16.size a)
theorem k0_idx127_inb : ∀ (i : grid0.Coords) (v15 : IVec S16 32) (k0_t3 : Fin k0_t3_loop.trips) (k0_t6 : Fin (k0_t6_loop i k0_t3).trips) (v1669 : IVec S16 32) (v1673 : IVec S16 32) (v1675 : IVec S16 32) (k0_hw127 : k0_chk127 i v15 k0_t3 k0_t6 v1669 v1673 v1675), ∀ a x, ((![v15, v1669, v1673, v1675] : Fin 4 → IVec S16 32) a x).toNat < S1x6x16x16.size a := fun i v15 k0_t3 k0_t6 v1669 v1673 v1675 k0_hw127 => k0_hw127
def k0_off86 (i : grid0.Coords) (k0_t3 : Fin k0_t3_loop.trips) (k0_t6 : Fin (k0_t6_loop i k0_t3).trips) : Fin 1 → Nat :=
  let c16_i32_236 : BitVec 32 := 16#32
  let c0_i32_45 : BitVec 32 := 0#32
  let c1_i32_47 : BitVec 32 := 1#32
  let arg25 : BitVec 32 := Scf.iv c0_i32_45 c1_i32_47 k0_t3
  let c5_i32_118 : BitVec 32 := 5#32
  let v260 : BitVec 1 := Scalar.cmpi .sge arg25 c5_i32_118
  let c3749_i32_119 : BitVec 32 := 3749#32
  let c4_i32_116 : BitVec 32 := 4#32
  let v258 : BitVec 1 := Scalar.cmpi .sge arg25 c4_i32_116
  let c2391_i32_117 : BitVec 32 := 2391#32
  let c3_i32_114 : BitVec 32 := 3#32
  let v256 : BitVec 1 := Scalar.cmpi .sge arg25 c3_i32_114
  let c1417_i32_115 : BitVec 32 := 1417#32
  let c2_i32_112 : BitVec 32 := 2#32
  let v254 : BitVec 1 := Scalar.cmpi .sge arg25 c2_i32_112
  let c763_i32_113 : BitVec 32 := 763#32
  let c1_i32_109 : BitVec 32 := 1#32
  let v252 : BitVec 1 := Scalar.cmpi .sge arg25 c1_i32_109
  let c365_i32_110 : BitVec 32 := 365#32
  let c159_i32_111 : BitVec 32 := 159#32
  let v253 : BitVec 32 := Scalar.select v252 c365_i32_110 c159_i32_111
  let v255 : BitVec 32 := Scalar.select v254 c763_i32_113 v253
  let v257 : BitVec 32 := Scalar.select v256 c1417_i32_115 v255
  let v259 : BitVec 32 := Scalar.select v258 c2391_i32_117 v257
  let v261 : BitVec 32 := Scalar.select v260 c3749_i32_119 v259
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c144_i32 : BitVec 32 := 144#32
  let v10 : BitVec 32 := Scalar.muli v1 c144_i32
  let v262 : BitVec 32 := Scalar.maxsi v261 v10
  let c16_i32_146 : BitVec 32 := 16#32
  let c0_i32_142 : BitVec 32 := 0#32
  let c1_i32_144 : BitVec 32 := 1#32
  let arg26 : BitVec 32 := Scf.iv c0_i32_142 c1_i32_144 k0_t6
  let v301 : BitVec 32 := Scalar.muli c16_i32_146 arg26
  let v302 : BitVec 32 := Scalar.addi v262 v301
  let v305 : BitVec 32 := Scalar.subi v302 v10
  let c14_i32_235 : BitVec 32 := 14#32
  let v1757 : BitVec 32 := Scalar.addi v305 c14_i32_235
  let v1758 : BitVec 32 := Scalar.muli c16_i32_236 v1757
  let v1759 : Index := Scalar.indexCast v1758
  ![v1759.toNat]

def k0_chk128 (i : grid0.Coords) (v15 : IVec S16 32) (k0_t3 : Fin k0_t3_loop.trips) (k0_t6 : Fin (k0_t6_loop i k0_t3).trips) (v1766 : IVec S16 32) (v1770 : IVec S16 32) (v1772 : IVec S16 32) : Prop :=
  (∀ a x, ((![v15, v1766, v1770, v1772] : Fin 4 → IVec S16 32) a x).toNat < S1x6x16x16.size a)
theorem k0_idx128_inb : ∀ (i : grid0.Coords) (v15 : IVec S16 32) (k0_t3 : Fin k0_t3_loop.trips) (k0_t6 : Fin (k0_t6_loop i k0_t3).trips) (v1766 : IVec S16 32) (v1770 : IVec S16 32) (v1772 : IVec S16 32) (k0_hw128 : k0_chk128 i v15 k0_t3 k0_t6 v1766 v1770 v1772), ∀ a x, ((![v15, v1766, v1770, v1772] : Fin 4 → IVec S16 32) a x).toNat < S1x6x16x16.size a := fun i v15 k0_t3 k0_t6 v1766 v1770 v1772 k0_hw128 => k0_hw128
def k0_off87 (i : grid0.Coords) (k0_t3 : Fin k0_t3_loop.trips) (k0_t6 : Fin (k0_t6_loop i k0_t3).trips) : Fin 1 → Nat :=
  let c16_i32_242 : BitVec 32 := 16#32
  let c0_i32_45 : BitVec 32 := 0#32
  let c1_i32_47 : BitVec 32 := 1#32
  let arg25 : BitVec 32 := Scf.iv c0_i32_45 c1_i32_47 k0_t3
  let c5_i32_118 : BitVec 32 := 5#32
  let v260 : BitVec 1 := Scalar.cmpi .sge arg25 c5_i32_118
  let c3749_i32_119 : BitVec 32 := 3749#32
  let c4_i32_116 : BitVec 32 := 4#32
  let v258 : BitVec 1 := Scalar.cmpi .sge arg25 c4_i32_116
  let c2391_i32_117 : BitVec 32 := 2391#32
  let c3_i32_114 : BitVec 32 := 3#32
  let v256 : BitVec 1 := Scalar.cmpi .sge arg25 c3_i32_114
  let c1417_i32_115 : BitVec 32 := 1417#32
  let c2_i32_112 : BitVec 32 := 2#32
  let v254 : BitVec 1 := Scalar.cmpi .sge arg25 c2_i32_112
  let c763_i32_113 : BitVec 32 := 763#32
  let c1_i32_109 : BitVec 32 := 1#32
  let v252 : BitVec 1 := Scalar.cmpi .sge arg25 c1_i32_109
  let c365_i32_110 : BitVec 32 := 365#32
  let c159_i32_111 : BitVec 32 := 159#32
  let v253 : BitVec 32 := Scalar.select v252 c365_i32_110 c159_i32_111
  let v255 : BitVec 32 := Scalar.select v254 c763_i32_113 v253
  let v257 : BitVec 32 := Scalar.select v256 c1417_i32_115 v255
  let v259 : BitVec 32 := Scalar.select v258 c2391_i32_117 v257
  let v261 : BitVec 32 := Scalar.select v260 c3749_i32_119 v259
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c144_i32 : BitVec 32 := 144#32
  let v10 : BitVec 32 := Scalar.muli v1 c144_i32
  let v262 : BitVec 32 := Scalar.maxsi v261 v10
  let c16_i32_146 : BitVec 32 := 16#32
  let c0_i32_142 : BitVec 32 := 0#32
  let c1_i32_144 : BitVec 32 := 1#32
  let arg26 : BitVec 32 := Scf.iv c0_i32_142 c1_i32_144 k0_t6
  let v301 : BitVec 32 := Scalar.muli c16_i32_146 arg26
  let v302 : BitVec 32 := Scalar.addi v262 v301
  let v305 : BitVec 32 := Scalar.subi v302 v10
  let c15_i32_241 : BitVec 32 := 15#32
  let v1854 : BitVec 32 := Scalar.addi v305 c15_i32_241
  let v1855 : BitVec 32 := Scalar.muli c16_i32_242 v1854
  let v1856 : Index := Scalar.indexCast v1855
  ![v1856.toNat]
@[reducible] def k0_t7_loop (i : grid0.Coords) (k0_t3 : Fin k0_t3_loop.trips) : Scf.Loop 32 :=
  let c0_i32_142 : BitVec 32 := 0#32
  let c0_i32_140 : BitVec 32 := 0#32
  let c0_i32_45 : BitVec 32 := 0#32
  let c1_i32_47 : BitVec 32 := 1#32
  let arg25 : BitVec 32 := Scf.iv c0_i32_45 c1_i32_47 k0_t3
  let c5_i32_129 : BitVec 32 := 5#32
  let v271 : BitVec 1 := Scalar.cmpi .sge arg25 c5_i32_129
  let c4532_i32_130 : BitVec 32 := 4532#32
  let c4_i32_127 : BitVec 32 := 4#32
  let v269 : BitVec 1 := Scalar.cmpi .sge arg25 c4_i32_127
  let c2966_i32_128 : BitVec 32 := 2966#32
  let c3_i32_125 : BitVec 32 := 3#32
  let v267 : BitVec 1 := Scalar.cmpi .sge arg25 c3_i32_125
  let c1816_i32_126 : BitVec 32 := 1816#32
  let c2_i32_123 : BitVec 32 := 2#32
  let v265 : BitVec 1 := Scalar.cmpi .sge arg25 c2_i32_123
  let c1018_i32_124 : BitVec 32 := 1018#32
  let c1_i32_120 : BitVec 32 := 1#32
  let v263 : BitVec 1 := Scalar.cmpi .sge arg25 c1_i32_120
  let c508_i32_121 : BitVec 32 := 508#32
  let c222_i32_122 : BitVec 32 := 222#32
  let v264 : BitVec 32 := Scalar.select v263 c508_i32_121 c222_i32_122
  let v266 : BitVec 32 := Scalar.select v265 c1018_i32_124 v264
  let v268 : BitVec 32 := Scalar.select v267 c1816_i32_126 v266
  let v270 : BitVec 32 := Scalar.select v269 c2966_i32_128 v268
  let v272 : BitVec 32 := Scalar.select v271 c4532_i32_130 v270
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c144_i32 : BitVec 32 := 144#32
  let v10 : BitVec 32 := Scalar.muli v1 c144_i32
  let c144_i32_23 : BitVec 32 := 144#32
  let v11 : BitVec 32 := Scalar.addi v10 c144_i32_23
  let c4532_i32 : BitVec 32 := 4532#32
  let v12 : BitVec 32 := Scalar.minsi v11 c4532_i32
  let v273 : BitVec 32 := Scalar.minsi v272 v12
  let c5_i32_118 : BitVec 32 := 5#32
  let v260 : BitVec 1 := Scalar.cmpi .sge arg25 c5_i32_118
  let c3749_i32_119 : BitVec 32 := 3749#32
  let c4_i32_116 : BitVec 32 := 4#32
  let v258 : BitVec 1 := Scalar.cmpi .sge arg25 c4_i32_116
  let c2391_i32_117 : BitVec 32 := 2391#32
  let c3_i32_114 : BitVec 32 := 3#32
  let v256 : BitVec 1 := Scalar.cmpi .sge arg25 c3_i32_114
  let c1417_i32_115 : BitVec 32 := 1417#32
  let c2_i32_112 : BitVec 32 := 2#32
  let v254 : BitVec 1 := Scalar.cmpi .sge arg25 c2_i32_112
  let c763_i32_113 : BitVec 32 := 763#32
  let c1_i32_109 : BitVec 32 := 1#32
  let v252 : BitVec 1 := Scalar.cmpi .sge arg25 c1_i32_109
  let c365_i32_110 : BitVec 32 := 365#32
  let c159_i32_111 : BitVec 32 := 159#32
  let v253 : BitVec 32 := Scalar.select v252 c365_i32_110 c159_i32_111
  let v255 : BitVec 32 := Scalar.select v254 c763_i32_113 v253
  let v257 : BitVec 32 := Scalar.select v256 c1417_i32_115 v255
  let v259 : BitVec 32 := Scalar.select v258 c2391_i32_117 v257
  let v261 : BitVec 32 := Scalar.select v260 c3749_i32_119 v259
  let v262 : BitVec 32 := Scalar.maxsi v261 v10
  let v276 : BitVec 32 := Scalar.subi v273 v262
  let c15_i32_132 : BitVec 32 := 15#32
  let v277 : BitVec 32 := Scalar.addi v276 c15_i32_132
  let c0_i32_134 : BitVec 32 := 0#32
  let v279 : BitVec 1 := Scalar.cmpi .sgt v277 c0_i32_134
  let v280 : BitVec 32 := Scalar.extui v279
  let c0_i32_135 : BitVec 32 := 0#32
  let v281 : BitVec 1 := Scalar.cmpi .slt v277 c0_i32_135
  let v282 : BitVec 32 := Scalar.extui v281
  let v283 : BitVec 32 := Scalar.subi v280 v282
  let c16_i32_133 : BitVec 32 := 16#32
  let c0_i32_136 : BitVec 32 := 0#32
  let v284 : BitVec 1 := Scalar.cmpi .sgt c16_i32_133 c0_i32_136
  let v285 : BitVec 32 := Scalar.extui v284
  let c0_i32_137 : BitVec 32 := 0#32
  let v286 : BitVec 1 := Scalar.cmpi .slt c16_i32_133 c0_i32_137
  let v287 : BitVec 32 := Scalar.extui v286
  let v288 : BitVec 32 := Scalar.subi v285 v287
  let v289 : BitVec 1 := Scalar.cmpi .ne v283 v288
  let v290 : BitVec 32 := Scalar.remsi v277 c16_i32_133
  let c0_i32_138 : BitVec 32 := 0#32
  let v291 : BitVec 1 := Scalar.cmpi .ne v290 c0_i32_138
  let v292 : BitVec 1 := Scalar.andi v289 v291
  let v278 : BitVec 32 := Scalar.divsi v277 c16_i32_133
  let c1_i32_139 : BitVec 32 := 1#32
  let v293 : BitVec 32 := Scalar.subi v278 c1_i32_139
  let v294 : BitVec 32 := Scalar.select v292 v293 v278
  let v295 : BitVec 32 := Scalar.maxsi c0_i32_140 v294
  let v296 : BitVec 32 := Scalar.subi v295 c0_i32_142
  let c1_i32_143 : BitVec 32 := 1#32
  let v298 : BitVec 32 := Scalar.divsi v296 c1_i32_143
  let v299 : BitVec 32 := Scalar.muli v298 c1_i32_143
  let v300 : BitVec 32 := Scalar.addi c0_i32_142 v299
  let v297 : BitVec 32 := Scalar.addi c0_i32_142 v296
  let c1_i32_145 : BitVec 32 := 1#32
  ⟨v300, v297, c1_i32_145⟩
def k0_off88 (i : grid0.Coords) (k0_t3 : Fin k0_t3_loop.trips) (k0_t7 : Fin (k0_t7_loop i k0_t3).trips) : Fin 1 → Nat :=
  let c0_i32_45 : BitVec 32 := 0#32
  let c1_i32_47 : BitVec 32 := 1#32
  let arg25 : BitVec 32 := Scf.iv c0_i32_45 c1_i32_47 k0_t3
  let c5_i32_118 : BitVec 32 := 5#32
  let v260 : BitVec 1 := Scalar.cmpi .sge arg25 c5_i32_118
  let c3749_i32_119 : BitVec 32 := 3749#32
  let c4_i32_116 : BitVec 32 := 4#32
  let v258 : BitVec 1 := Scalar.cmpi .sge arg25 c4_i32_116
  let c2391_i32_117 : BitVec 32 := 2391#32
  let c3_i32_114 : BitVec 32 := 3#32
  let v256 : BitVec 1 := Scalar.cmpi .sge arg25 c3_i32_114
  let c1417_i32_115 : BitVec 32 := 1417#32
  let c2_i32_112 : BitVec 32 := 2#32
  let v254 : BitVec 1 := Scalar.cmpi .sge arg25 c2_i32_112
  let c763_i32_113 : BitVec 32 := 763#32
  let c1_i32_109 : BitVec 32 := 1#32
  let v252 : BitVec 1 := Scalar.cmpi .sge arg25 c1_i32_109
  let c365_i32_110 : BitVec 32 := 365#32
  let c159_i32_111 : BitVec 32 := 159#32
  let v253 : BitVec 32 := Scalar.select v252 c365_i32_110 c159_i32_111
  let v255 : BitVec 32 := Scalar.select v254 c763_i32_113 v253
  let v257 : BitVec 32 := Scalar.select v256 c1417_i32_115 v255
  let v259 : BitVec 32 := Scalar.select v258 c2391_i32_117 v257
  let v261 : BitVec 32 := Scalar.select v260 c3749_i32_119 v259
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c144_i32 : BitVec 32 := 144#32
  let v10 : BitVec 32 := Scalar.muli v1 c144_i32
  let v262 : BitVec 32 := Scalar.maxsi v261 v10
  let c16_i32_146 : BitVec 32 := 16#32
  let c0_i32_142 : BitVec 32 := 0#32
  let c0_i32_140 : BitVec 32 := 0#32
  let c5_i32_129 : BitVec 32 := 5#32
  let v271 : BitVec 1 := Scalar.cmpi .sge arg25 c5_i32_129
  let c4532_i32_130 : BitVec 32 := 4532#32
  let c4_i32_127 : BitVec 32 := 4#32
  let v269 : BitVec 1 := Scalar.cmpi .sge arg25 c4_i32_127
  let c2966_i32_128 : BitVec 32 := 2966#32
  let c3_i32_125 : BitVec 32 := 3#32
  let v267 : BitVec 1 := Scalar.cmpi .sge arg25 c3_i32_125
  let c1816_i32_126 : BitVec 32 := 1816#32
  let c2_i32_123 : BitVec 32 := 2#32
  let v265 : BitVec 1 := Scalar.cmpi .sge arg25 c2_i32_123
  let c1018_i32_124 : BitVec 32 := 1018#32
  let c1_i32_120 : BitVec 32 := 1#32
  let v263 : BitVec 1 := Scalar.cmpi .sge arg25 c1_i32_120
  let c508_i32_121 : BitVec 32 := 508#32
  let c222_i32_122 : BitVec 32 := 222#32
  let v264 : BitVec 32 := Scalar.select v263 c508_i32_121 c222_i32_122
  let v266 : BitVec 32 := Scalar.select v265 c1018_i32_124 v264
  let v268 : BitVec 32 := Scalar.select v267 c1816_i32_126 v266
  let v270 : BitVec 32 := Scalar.select v269 c2966_i32_128 v268
  let v272 : BitVec 32 := Scalar.select v271 c4532_i32_130 v270
  let c144_i32_23 : BitVec 32 := 144#32
  let v11 : BitVec 32 := Scalar.addi v10 c144_i32_23
  let c4532_i32 : BitVec 32 := 4532#32
  let v12 : BitVec 32 := Scalar.minsi v11 c4532_i32
  let v273 : BitVec 32 := Scalar.minsi v272 v12
  let v276 : BitVec 32 := Scalar.subi v273 v262
  let c15_i32_132 : BitVec 32 := 15#32
  let v277 : BitVec 32 := Scalar.addi v276 c15_i32_132
  let c0_i32_134 : BitVec 32 := 0#32
  let v279 : BitVec 1 := Scalar.cmpi .sgt v277 c0_i32_134
  let v280 : BitVec 32 := Scalar.extui v279
  let c0_i32_135 : BitVec 32 := 0#32
  let v281 : BitVec 1 := Scalar.cmpi .slt v277 c0_i32_135
  let v282 : BitVec 32 := Scalar.extui v281
  let v283 : BitVec 32 := Scalar.subi v280 v282
  let c16_i32_133 : BitVec 32 := 16#32
  let c0_i32_136 : BitVec 32 := 0#32
  let v284 : BitVec 1 := Scalar.cmpi .sgt c16_i32_133 c0_i32_136
  let v285 : BitVec 32 := Scalar.extui v284
  let c0_i32_137 : BitVec 32 := 0#32
  let v286 : BitVec 1 := Scalar.cmpi .slt c16_i32_133 c0_i32_137
  let v287 : BitVec 32 := Scalar.extui v286
  let v288 : BitVec 32 := Scalar.subi v285 v287
  let v289 : BitVec 1 := Scalar.cmpi .ne v283 v288
  let v290 : BitVec 32 := Scalar.remsi v277 c16_i32_133
  let c0_i32_138 : BitVec 32 := 0#32
  let v291 : BitVec 1 := Scalar.cmpi .ne v290 c0_i32_138
  let v292 : BitVec 1 := Scalar.andi v289 v291
  let v278 : BitVec 32 := Scalar.divsi v277 c16_i32_133
  let c1_i32_139 : BitVec 32 := 1#32
  let v293 : BitVec 32 := Scalar.subi v278 c1_i32_139
  let v294 : BitVec 32 := Scalar.select v292 v293 v278
  let v295 : BitVec 32 := Scalar.maxsi c0_i32_140 v294
  let v296 : BitVec 32 := Scalar.subi v295 c0_i32_142
  let c1_i32_143 : BitVec 32 := 1#32
  let v298 : BitVec 32 := Scalar.divsi v296 c1_i32_143
  let v299 : BitVec 32 := Scalar.muli v298 c1_i32_143
  let v300 : BitVec 32 := Scalar.addi c0_i32_142 v299
  let c1_i32_145 : BitVec 32 := 1#32
  let arg26 : BitVec 32 := Scf.iv v300 c1_i32_145 k0_t7
  let v301 : BitVec 32 := Scalar.muli c16_i32_146 arg26
  let v302 : BitVec 32 := Scalar.addi v262 v301
  let v303 : Index := Scalar.indexCast v302
  ![v303.toNat]

def k0_chk129 (i : grid0.Coords) (v15 : IVec S16 32) (k0_t3 : Fin k0_t3_loop.trips) (k0_t7 : Fin (k0_t7_loop i k0_t3).trips) (v311 : IVec S16 32) (v315 : IVec S16 32) (v317 : IVec S16 32) : Prop :=
  (∀ a x, ((![v15, v311, v315, v317] : Fin 4 → IVec S16 32) a x).toNat < S1x6x16x16.size a)
theorem k0_idx129_inb : ∀ (i : grid0.Coords) (v15 : IVec S16 32) (k0_t3 : Fin k0_t3_loop.trips) (k0_t7 : Fin (k0_t7_loop i k0_t3).trips) (v311 : IVec S16 32) (v315 : IVec S16 32) (v317 : IVec S16 32) (k0_hw129 : k0_chk129 i v15 k0_t3 k0_t7 v311 v315 v317), ∀ a x, ((![v15, v311, v315, v317] : Fin 4 → IVec S16 32) a x).toNat < S1x6x16x16.size a := fun i v15 k0_t3 k0_t7 v311 v315 v317 k0_hw129 => k0_hw129
def k0_off89 (i : grid0.Coords) (k0_t3 : Fin k0_t3_loop.trips) (k0_t7 : Fin (k0_t7_loop i k0_t3).trips) : Fin 1 → Nat :=
  let c16_i32_152 : BitVec 32 := 16#32
  let c0_i32_45 : BitVec 32 := 0#32
  let c1_i32_47 : BitVec 32 := 1#32
  let arg25 : BitVec 32 := Scf.iv c0_i32_45 c1_i32_47 k0_t3
  let c5_i32_118 : BitVec 32 := 5#32
  let v260 : BitVec 1 := Scalar.cmpi .sge arg25 c5_i32_118
  let c3749_i32_119 : BitVec 32 := 3749#32
  let c4_i32_116 : BitVec 32 := 4#32
  let v258 : BitVec 1 := Scalar.cmpi .sge arg25 c4_i32_116
  let c2391_i32_117 : BitVec 32 := 2391#32
  let c3_i32_114 : BitVec 32 := 3#32
  let v256 : BitVec 1 := Scalar.cmpi .sge arg25 c3_i32_114
  let c1417_i32_115 : BitVec 32 := 1417#32
  let c2_i32_112 : BitVec 32 := 2#32
  let v254 : BitVec 1 := Scalar.cmpi .sge arg25 c2_i32_112
  let c763_i32_113 : BitVec 32 := 763#32
  let c1_i32_109 : BitVec 32 := 1#32
  let v252 : BitVec 1 := Scalar.cmpi .sge arg25 c1_i32_109
  let c365_i32_110 : BitVec 32 := 365#32
  let c159_i32_111 : BitVec 32 := 159#32
  let v253 : BitVec 32 := Scalar.select v252 c365_i32_110 c159_i32_111
  let v255 : BitVec 32 := Scalar.select v254 c763_i32_113 v253
  let v257 : BitVec 32 := Scalar.select v256 c1417_i32_115 v255
  let v259 : BitVec 32 := Scalar.select v258 c2391_i32_117 v257
  let v261 : BitVec 32 := Scalar.select v260 c3749_i32_119 v259
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c144_i32 : BitVec 32 := 144#32
  let v10 : BitVec 32 := Scalar.muli v1 c144_i32
  let v262 : BitVec 32 := Scalar.maxsi v261 v10
  let c16_i32_146 : BitVec 32 := 16#32
  let c0_i32_142 : BitVec 32 := 0#32
  let c0_i32_140 : BitVec 32 := 0#32
  let c5_i32_129 : BitVec 32 := 5#32
  let v271 : BitVec 1 := Scalar.cmpi .sge arg25 c5_i32_129
  let c4532_i32_130 : BitVec 32 := 4532#32
  let c4_i32_127 : BitVec 32 := 4#32
  let v269 : BitVec 1 := Scalar.cmpi .sge arg25 c4_i32_127
  let c2966_i32_128 : BitVec 32 := 2966#32
  let c3_i32_125 : BitVec 32 := 3#32
  let v267 : BitVec 1 := Scalar.cmpi .sge arg25 c3_i32_125
  let c1816_i32_126 : BitVec 32 := 1816#32
  let c2_i32_123 : BitVec 32 := 2#32
  let v265 : BitVec 1 := Scalar.cmpi .sge arg25 c2_i32_123
  let c1018_i32_124 : BitVec 32 := 1018#32
  let c1_i32_120 : BitVec 32 := 1#32
  let v263 : BitVec 1 := Scalar.cmpi .sge arg25 c1_i32_120
  let c508_i32_121 : BitVec 32 := 508#32
  let c222_i32_122 : BitVec 32 := 222#32
  let v264 : BitVec 32 := Scalar.select v263 c508_i32_121 c222_i32_122
  let v266 : BitVec 32 := Scalar.select v265 c1018_i32_124 v264
  let v268 : BitVec 32 := Scalar.select v267 c1816_i32_126 v266
  let v270 : BitVec 32 := Scalar.select v269 c2966_i32_128 v268
  let v272 : BitVec 32 := Scalar.select v271 c4532_i32_130 v270
  let c144_i32_23 : BitVec 32 := 144#32
  let v11 : BitVec 32 := Scalar.addi v10 c144_i32_23
  let c4532_i32 : BitVec 32 := 4532#32
  let v12 : BitVec 32 := Scalar.minsi v11 c4532_i32
  let v273 : BitVec 32 := Scalar.minsi v272 v12
  let v276 : BitVec 32 := Scalar.subi v273 v262
  let c15_i32_132 : BitVec 32 := 15#32
  let v277 : BitVec 32 := Scalar.addi v276 c15_i32_132
  let c0_i32_134 : BitVec 32 := 0#32
  let v279 : BitVec 1 := Scalar.cmpi .sgt v277 c0_i32_134
  let v280 : BitVec 32 := Scalar.extui v279
  let c0_i32_135 : BitVec 32 := 0#32
  let v281 : BitVec 1 := Scalar.cmpi .slt v277 c0_i32_135
  let v282 : BitVec 32 := Scalar.extui v281
  let v283 : BitVec 32 := Scalar.subi v280 v282
  let c16_i32_133 : BitVec 32 := 16#32
  let c0_i32_136 : BitVec 32 := 0#32
  let v284 : BitVec 1 := Scalar.cmpi .sgt c16_i32_133 c0_i32_136
  let v285 : BitVec 32 := Scalar.extui v284
  let c0_i32_137 : BitVec 32 := 0#32
  let v286 : BitVec 1 := Scalar.cmpi .slt c16_i32_133 c0_i32_137
  let v287 : BitVec 32 := Scalar.extui v286
  let v288 : BitVec 32 := Scalar.subi v285 v287
  let v289 : BitVec 1 := Scalar.cmpi .ne v283 v288
  let v290 : BitVec 32 := Scalar.remsi v277 c16_i32_133
  let c0_i32_138 : BitVec 32 := 0#32
  let v291 : BitVec 1 := Scalar.cmpi .ne v290 c0_i32_138
  let v292 : BitVec 1 := Scalar.andi v289 v291
  let v278 : BitVec 32 := Scalar.divsi v277 c16_i32_133
  let c1_i32_139 : BitVec 32 := 1#32
  let v293 : BitVec 32 := Scalar.subi v278 c1_i32_139
  let v294 : BitVec 32 := Scalar.select v292 v293 v278
  let v295 : BitVec 32 := Scalar.maxsi c0_i32_140 v294
  let v296 : BitVec 32 := Scalar.subi v295 c0_i32_142
  let c1_i32_143 : BitVec 32 := 1#32
  let v298 : BitVec 32 := Scalar.divsi v296 c1_i32_143
  let v299 : BitVec 32 := Scalar.muli v298 c1_i32_143
  let v300 : BitVec 32 := Scalar.addi c0_i32_142 v299
  let c1_i32_145 : BitVec 32 := 1#32
  let arg26 : BitVec 32 := Scf.iv v300 c1_i32_145 k0_t7
  let v301 : BitVec 32 := Scalar.muli c16_i32_146 arg26
  let v302 : BitVec 32 := Scalar.addi v262 v301
  let v305 : BitVec 32 := Scalar.subi v302 v10
  let c0_i32_151 : BitVec 32 := 0#32
  let v399 : BitVec 32 := Scalar.addi v305 c0_i32_151
  let v400 : BitVec 32 := Scalar.muli c16_i32_152 v399
  let v401 : Index := Scalar.indexCast v400
  ![v401.toNat]

def k0_chk130 (i : grid0.Coords) (v15 : IVec S16 32) (k0_t3 : Fin k0_t3_loop.trips) (k0_t7 : Fin (k0_t7_loop i k0_t3).trips) (v408 : IVec S16 32) (v412 : IVec S16 32) (v414 : IVec S16 32) : Prop :=
  (∀ a x, ((![v15, v408, v412, v414] : Fin 4 → IVec S16 32) a x).toNat < S1x6x16x16.size a)
theorem k0_idx130_inb : ∀ (i : grid0.Coords) (v15 : IVec S16 32) (k0_t3 : Fin k0_t3_loop.trips) (k0_t7 : Fin (k0_t7_loop i k0_t3).trips) (v408 : IVec S16 32) (v412 : IVec S16 32) (v414 : IVec S16 32) (k0_hw130 : k0_chk130 i v15 k0_t3 k0_t7 v408 v412 v414), ∀ a x, ((![v15, v408, v412, v414] : Fin 4 → IVec S16 32) a x).toNat < S1x6x16x16.size a := fun i v15 k0_t3 k0_t7 v408 v412 v414 k0_hw130 => k0_hw130
def k0_off90 (i : grid0.Coords) (k0_t3 : Fin k0_t3_loop.trips) (k0_t7 : Fin (k0_t7_loop i k0_t3).trips) : Fin 1 → Nat :=
  let c16_i32_158 : BitVec 32 := 16#32
  let c0_i32_45 : BitVec 32 := 0#32
  let c1_i32_47 : BitVec 32 := 1#32
  let arg25 : BitVec 32 := Scf.iv c0_i32_45 c1_i32_47 k0_t3
  let c5_i32_118 : BitVec 32 := 5#32
  let v260 : BitVec 1 := Scalar.cmpi .sge arg25 c5_i32_118
  let c3749_i32_119 : BitVec 32 := 3749#32
  let c4_i32_116 : BitVec 32 := 4#32
  let v258 : BitVec 1 := Scalar.cmpi .sge arg25 c4_i32_116
  let c2391_i32_117 : BitVec 32 := 2391#32
  let c3_i32_114 : BitVec 32 := 3#32
  let v256 : BitVec 1 := Scalar.cmpi .sge arg25 c3_i32_114
  let c1417_i32_115 : BitVec 32 := 1417#32
  let c2_i32_112 : BitVec 32 := 2#32
  let v254 : BitVec 1 := Scalar.cmpi .sge arg25 c2_i32_112
  let c763_i32_113 : BitVec 32 := 763#32
  let c1_i32_109 : BitVec 32 := 1#32
  let v252 : BitVec 1 := Scalar.cmpi .sge arg25 c1_i32_109
  let c365_i32_110 : BitVec 32 := 365#32
  let c159_i32_111 : BitVec 32 := 159#32
  let v253 : BitVec 32 := Scalar.select v252 c365_i32_110 c159_i32_111
  let v255 : BitVec 32 := Scalar.select v254 c763_i32_113 v253
  let v257 : BitVec 32 := Scalar.select v256 c1417_i32_115 v255
  let v259 : BitVec 32 := Scalar.select v258 c2391_i32_117 v257
  let v261 : BitVec 32 := Scalar.select v260 c3749_i32_119 v259
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c144_i32 : BitVec 32 := 144#32
  let v10 : BitVec 32 := Scalar.muli v1 c144_i32
  let v262 : BitVec 32 := Scalar.maxsi v261 v10
  let c16_i32_146 : BitVec 32 := 16#32
  let c0_i32_142 : BitVec 32 := 0#32
  let c0_i32_140 : BitVec 32 := 0#32
  let c5_i32_129 : BitVec 32 := 5#32
  let v271 : BitVec 1 := Scalar.cmpi .sge arg25 c5_i32_129
  let c4532_i32_130 : BitVec 32 := 4532#32
  let c4_i32_127 : BitVec 32 := 4#32
  let v269 : BitVec 1 := Scalar.cmpi .sge arg25 c4_i32_127
  let c2966_i32_128 : BitVec 32 := 2966#32
  let c3_i32_125 : BitVec 32 := 3#32
  let v267 : BitVec 1 := Scalar.cmpi .sge arg25 c3_i32_125
  let c1816_i32_126 : BitVec 32 := 1816#32
  let c2_i32_123 : BitVec 32 := 2#32
  let v265 : BitVec 1 := Scalar.cmpi .sge arg25 c2_i32_123
  let c1018_i32_124 : BitVec 32 := 1018#32
  let c1_i32_120 : BitVec 32 := 1#32
  let v263 : BitVec 1 := Scalar.cmpi .sge arg25 c1_i32_120
  let c508_i32_121 : BitVec 32 := 508#32
  let c222_i32_122 : BitVec 32 := 222#32
  let v264 : BitVec 32 := Scalar.select v263 c508_i32_121 c222_i32_122
  let v266 : BitVec 32 := Scalar.select v265 c1018_i32_124 v264
  let v268 : BitVec 32 := Scalar.select v267 c1816_i32_126 v266
  let v270 : BitVec 32 := Scalar.select v269 c2966_i32_128 v268
  let v272 : BitVec 32 := Scalar.select v271 c4532_i32_130 v270
  let c144_i32_23 : BitVec 32 := 144#32
  let v11 : BitVec 32 := Scalar.addi v10 c144_i32_23
  let c4532_i32 : BitVec 32 := 4532#32
  let v12 : BitVec 32 := Scalar.minsi v11 c4532_i32
  let v273 : BitVec 32 := Scalar.minsi v272 v12
  let v276 : BitVec 32 := Scalar.subi v273 v262
  let c15_i32_132 : BitVec 32 := 15#32
  let v277 : BitVec 32 := Scalar.addi v276 c15_i32_132
  let c0_i32_134 : BitVec 32 := 0#32
  let v279 : BitVec 1 := Scalar.cmpi .sgt v277 c0_i32_134
  let v280 : BitVec 32 := Scalar.extui v279
  let c0_i32_135 : BitVec 32 := 0#32
  let v281 : BitVec 1 := Scalar.cmpi .slt v277 c0_i32_135
  let v282 : BitVec 32 := Scalar.extui v281
  let v283 : BitVec 32 := Scalar.subi v280 v282
  let c16_i32_133 : BitVec 32 := 16#32
  let c0_i32_136 : BitVec 32 := 0#32
  let v284 : BitVec 1 := Scalar.cmpi .sgt c16_i32_133 c0_i32_136
  let v285 : BitVec 32 := Scalar.extui v284
  let c0_i32_137 : BitVec 32 := 0#32
  let v286 : BitVec 1 := Scalar.cmpi .slt c16_i32_133 c0_i32_137
  let v287 : BitVec 32 := Scalar.extui v286
  let v288 : BitVec 32 := Scalar.subi v285 v287
  let v289 : BitVec 1 := Scalar.cmpi .ne v283 v288
  let v290 : BitVec 32 := Scalar.remsi v277 c16_i32_133
  let c0_i32_138 : BitVec 32 := 0#32
  let v291 : BitVec 1 := Scalar.cmpi .ne v290 c0_i32_138
  let v292 : BitVec 1 := Scalar.andi v289 v291
  let v278 : BitVec 32 := Scalar.divsi v277 c16_i32_133
  let c1_i32_139 : BitVec 32 := 1#32
  let v293 : BitVec 32 := Scalar.subi v278 c1_i32_139
  let v294 : BitVec 32 := Scalar.select v292 v293 v278
  let v295 : BitVec 32 := Scalar.maxsi c0_i32_140 v294
  let v296 : BitVec 32 := Scalar.subi v295 c0_i32_142
  let c1_i32_143 : BitVec 32 := 1#32
  let v298 : BitVec 32 := Scalar.divsi v296 c1_i32_143
  let v299 : BitVec 32 := Scalar.muli v298 c1_i32_143
  let v300 : BitVec 32 := Scalar.addi c0_i32_142 v299
  let c1_i32_145 : BitVec 32 := 1#32
  let arg26 : BitVec 32 := Scf.iv v300 c1_i32_145 k0_t7
  let v301 : BitVec 32 := Scalar.muli c16_i32_146 arg26
  let v302 : BitVec 32 := Scalar.addi v262 v301
  let v305 : BitVec 32 := Scalar.subi v302 v10
  let c1_i32_157 : BitVec 32 := 1#32
  let v496 : BitVec 32 := Scalar.addi v305 c1_i32_157
  let v497 : BitVec 32 := Scalar.muli c16_i32_158 v496
  let v498 : Index := Scalar.indexCast v497
  ![v498.toNat]

def k0_chk131 (i : grid0.Coords) (v15 : IVec S16 32) (k0_t3 : Fin k0_t3_loop.trips) (k0_t7 : Fin (k0_t7_loop i k0_t3).trips) (v505 : IVec S16 32) (v509 : IVec S16 32) (v511 : IVec S16 32) : Prop :=
  (∀ a x, ((![v15, v505, v509, v511] : Fin 4 → IVec S16 32) a x).toNat < S1x6x16x16.size a)
theorem k0_idx131_inb : ∀ (i : grid0.Coords) (v15 : IVec S16 32) (k0_t3 : Fin k0_t3_loop.trips) (k0_t7 : Fin (k0_t7_loop i k0_t3).trips) (v505 : IVec S16 32) (v509 : IVec S16 32) (v511 : IVec S16 32) (k0_hw131 : k0_chk131 i v15 k0_t3 k0_t7 v505 v509 v511), ∀ a x, ((![v15, v505, v509, v511] : Fin 4 → IVec S16 32) a x).toNat < S1x6x16x16.size a := fun i v15 k0_t3 k0_t7 v505 v509 v511 k0_hw131 => k0_hw131
def k0_off91 (i : grid0.Coords) (k0_t3 : Fin k0_t3_loop.trips) (k0_t7 : Fin (k0_t7_loop i k0_t3).trips) : Fin 1 → Nat :=
  let c16_i32_164 : BitVec 32 := 16#32
  let c0_i32_45 : BitVec 32 := 0#32
  let c1_i32_47 : BitVec 32 := 1#32
  let arg25 : BitVec 32 := Scf.iv c0_i32_45 c1_i32_47 k0_t3
  let c5_i32_118 : BitVec 32 := 5#32
  let v260 : BitVec 1 := Scalar.cmpi .sge arg25 c5_i32_118
  let c3749_i32_119 : BitVec 32 := 3749#32
  let c4_i32_116 : BitVec 32 := 4#32
  let v258 : BitVec 1 := Scalar.cmpi .sge arg25 c4_i32_116
  let c2391_i32_117 : BitVec 32 := 2391#32
  let c3_i32_114 : BitVec 32 := 3#32
  let v256 : BitVec 1 := Scalar.cmpi .sge arg25 c3_i32_114
  let c1417_i32_115 : BitVec 32 := 1417#32
  let c2_i32_112 : BitVec 32 := 2#32
  let v254 : BitVec 1 := Scalar.cmpi .sge arg25 c2_i32_112
  let c763_i32_113 : BitVec 32 := 763#32
  let c1_i32_109 : BitVec 32 := 1#32
  let v252 : BitVec 1 := Scalar.cmpi .sge arg25 c1_i32_109
  let c365_i32_110 : BitVec 32 := 365#32
  let c159_i32_111 : BitVec 32 := 159#32
  let v253 : BitVec 32 := Scalar.select v252 c365_i32_110 c159_i32_111
  let v255 : BitVec 32 := Scalar.select v254 c763_i32_113 v253
  let v257 : BitVec 32 := Scalar.select v256 c1417_i32_115 v255
  let v259 : BitVec 32 := Scalar.select v258 c2391_i32_117 v257
  let v261 : BitVec 32 := Scalar.select v260 c3749_i32_119 v259
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c144_i32 : BitVec 32 := 144#32
  let v10 : BitVec 32 := Scalar.muli v1 c144_i32
  let v262 : BitVec 32 := Scalar.maxsi v261 v10
  let c16_i32_146 : BitVec 32 := 16#32
  let c0_i32_142 : BitVec 32 := 0#32
  let c0_i32_140 : BitVec 32 := 0#32
  let c5_i32_129 : BitVec 32 := 5#32
  let v271 : BitVec 1 := Scalar.cmpi .sge arg25 c5_i32_129
  let c4532_i32_130 : BitVec 32 := 4532#32
  let c4_i32_127 : BitVec 32 := 4#32
  let v269 : BitVec 1 := Scalar.cmpi .sge arg25 c4_i32_127
  let c2966_i32_128 : BitVec 32 := 2966#32
  let c3_i32_125 : BitVec 32 := 3#32
  let v267 : BitVec 1 := Scalar.cmpi .sge arg25 c3_i32_125
  let c1816_i32_126 : BitVec 32 := 1816#32
  let c2_i32_123 : BitVec 32 := 2#32
  let v265 : BitVec 1 := Scalar.cmpi .sge arg25 c2_i32_123
  let c1018_i32_124 : BitVec 32 := 1018#32
  let c1_i32_120 : BitVec 32 := 1#32
  let v263 : BitVec 1 := Scalar.cmpi .sge arg25 c1_i32_120
  let c508_i32_121 : BitVec 32 := 508#32
  let c222_i32_122 : BitVec 32 := 222#32
  let v264 : BitVec 32 := Scalar.select v263 c508_i32_121 c222_i32_122
  let v266 : BitVec 32 := Scalar.select v265 c1018_i32_124 v264
  let v268 : BitVec 32 := Scalar.select v267 c1816_i32_126 v266
  let v270 : BitVec 32 := Scalar.select v269 c2966_i32_128 v268
  let v272 : BitVec 32 := Scalar.select v271 c4532_i32_130 v270
  let c144_i32_23 : BitVec 32 := 144#32
  let v11 : BitVec 32 := Scalar.addi v10 c144_i32_23
  let c4532_i32 : BitVec 32 := 4532#32
  let v12 : BitVec 32 := Scalar.minsi v11 c4532_i32
  let v273 : BitVec 32 := Scalar.minsi v272 v12
  let v276 : BitVec 32 := Scalar.subi v273 v262
  let c15_i32_132 : BitVec 32 := 15#32
  let v277 : BitVec 32 := Scalar.addi v276 c15_i32_132
  let c0_i32_134 : BitVec 32 := 0#32
  let v279 : BitVec 1 := Scalar.cmpi .sgt v277 c0_i32_134
  let v280 : BitVec 32 := Scalar.extui v279
  let c0_i32_135 : BitVec 32 := 0#32
  let v281 : BitVec 1 := Scalar.cmpi .slt v277 c0_i32_135
  let v282 : BitVec 32 := Scalar.extui v281
  let v283 : BitVec 32 := Scalar.subi v280 v282
  let c16_i32_133 : BitVec 32 := 16#32
  let c0_i32_136 : BitVec 32 := 0#32
  let v284 : BitVec 1 := Scalar.cmpi .sgt c16_i32_133 c0_i32_136
  let v285 : BitVec 32 := Scalar.extui v284
  let c0_i32_137 : BitVec 32 := 0#32
  let v286 : BitVec 1 := Scalar.cmpi .slt c16_i32_133 c0_i32_137
  let v287 : BitVec 32 := Scalar.extui v286
  let v288 : BitVec 32 := Scalar.subi v285 v287
  let v289 : BitVec 1 := Scalar.cmpi .ne v283 v288
  let v290 : BitVec 32 := Scalar.remsi v277 c16_i32_133
  let c0_i32_138 : BitVec 32 := 0#32
  let v291 : BitVec 1 := Scalar.cmpi .ne v290 c0_i32_138
  let v292 : BitVec 1 := Scalar.andi v289 v291
  let v278 : BitVec 32 := Scalar.divsi v277 c16_i32_133
  let c1_i32_139 : BitVec 32 := 1#32
  let v293 : BitVec 32 := Scalar.subi v278 c1_i32_139
  let v294 : BitVec 32 := Scalar.select v292 v293 v278
  let v295 : BitVec 32 := Scalar.maxsi c0_i32_140 v294
  let v296 : BitVec 32 := Scalar.subi v295 c0_i32_142
  let c1_i32_143 : BitVec 32 := 1#32
  let v298 : BitVec 32 := Scalar.divsi v296 c1_i32_143
  let v299 : BitVec 32 := Scalar.muli v298 c1_i32_143
  let v300 : BitVec 32 := Scalar.addi c0_i32_142 v299
  let c1_i32_145 : BitVec 32 := 1#32
  let arg26 : BitVec 32 := Scf.iv v300 c1_i32_145 k0_t7
  let v301 : BitVec 32 := Scalar.muli c16_i32_146 arg26
  let v302 : BitVec 32 := Scalar.addi v262 v301
  let v305 : BitVec 32 := Scalar.subi v302 v10
  let c2_i32_163 : BitVec 32 := 2#32
  let v593 : BitVec 32 := Scalar.addi v305 c2_i32_163
  let v594 : BitVec 32 := Scalar.muli c16_i32_164 v593
  let v595 : Index := Scalar.indexCast v594
  ![v595.toNat]

def k0_chk132 (i : grid0.Coords) (v15 : IVec S16 32) (k0_t3 : Fin k0_t3_loop.trips) (k0_t7 : Fin (k0_t7_loop i k0_t3).trips) (v602 : IVec S16 32) (v606 : IVec S16 32) (v608 : IVec S16 32) : Prop :=
  (∀ a x, ((![v15, v602, v606, v608] : Fin 4 → IVec S16 32) a x).toNat < S1x6x16x16.size a)
theorem k0_idx132_inb : ∀ (i : grid0.Coords) (v15 : IVec S16 32) (k0_t3 : Fin k0_t3_loop.trips) (k0_t7 : Fin (k0_t7_loop i k0_t3).trips) (v602 : IVec S16 32) (v606 : IVec S16 32) (v608 : IVec S16 32) (k0_hw132 : k0_chk132 i v15 k0_t3 k0_t7 v602 v606 v608), ∀ a x, ((![v15, v602, v606, v608] : Fin 4 → IVec S16 32) a x).toNat < S1x6x16x16.size a := fun i v15 k0_t3 k0_t7 v602 v606 v608 k0_hw132 => k0_hw132
def k0_off92 (i : grid0.Coords) (k0_t3 : Fin k0_t3_loop.trips) (k0_t7 : Fin (k0_t7_loop i k0_t3).trips) : Fin 1 → Nat :=
  let c16_i32_170 : BitVec 32 := 16#32
  let c0_i32_45 : BitVec 32 := 0#32
  let c1_i32_47 : BitVec 32 := 1#32
  let arg25 : BitVec 32 := Scf.iv c0_i32_45 c1_i32_47 k0_t3
  let c5_i32_118 : BitVec 32 := 5#32
  let v260 : BitVec 1 := Scalar.cmpi .sge arg25 c5_i32_118
  let c3749_i32_119 : BitVec 32 := 3749#32
  let c4_i32_116 : BitVec 32 := 4#32
  let v258 : BitVec 1 := Scalar.cmpi .sge arg25 c4_i32_116
  let c2391_i32_117 : BitVec 32 := 2391#32
  let c3_i32_114 : BitVec 32 := 3#32
  let v256 : BitVec 1 := Scalar.cmpi .sge arg25 c3_i32_114
  let c1417_i32_115 : BitVec 32 := 1417#32
  let c2_i32_112 : BitVec 32 := 2#32
  let v254 : BitVec 1 := Scalar.cmpi .sge arg25 c2_i32_112
  let c763_i32_113 : BitVec 32 := 763#32
  let c1_i32_109 : BitVec 32 := 1#32
  let v252 : BitVec 1 := Scalar.cmpi .sge arg25 c1_i32_109
  let c365_i32_110 : BitVec 32 := 365#32
  let c159_i32_111 : BitVec 32 := 159#32
  let v253 : BitVec 32 := Scalar.select v252 c365_i32_110 c159_i32_111
  let v255 : BitVec 32 := Scalar.select v254 c763_i32_113 v253
  let v257 : BitVec 32 := Scalar.select v256 c1417_i32_115 v255
  let v259 : BitVec 32 := Scalar.select v258 c2391_i32_117 v257
  let v261 : BitVec 32 := Scalar.select v260 c3749_i32_119 v259
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c144_i32 : BitVec 32 := 144#32
  let v10 : BitVec 32 := Scalar.muli v1 c144_i32
  let v262 : BitVec 32 := Scalar.maxsi v261 v10
  let c16_i32_146 : BitVec 32 := 16#32
  let c0_i32_142 : BitVec 32 := 0#32
  let c0_i32_140 : BitVec 32 := 0#32
  let c5_i32_129 : BitVec 32 := 5#32
  let v271 : BitVec 1 := Scalar.cmpi .sge arg25 c5_i32_129
  let c4532_i32_130 : BitVec 32 := 4532#32
  let c4_i32_127 : BitVec 32 := 4#32
  let v269 : BitVec 1 := Scalar.cmpi .sge arg25 c4_i32_127
  let c2966_i32_128 : BitVec 32 := 2966#32
  let c3_i32_125 : BitVec 32 := 3#32
  let v267 : BitVec 1 := Scalar.cmpi .sge arg25 c3_i32_125
  let c1816_i32_126 : BitVec 32 := 1816#32
  let c2_i32_123 : BitVec 32 := 2#32
  let v265 : BitVec 1 := Scalar.cmpi .sge arg25 c2_i32_123
  let c1018_i32_124 : BitVec 32 := 1018#32
  let c1_i32_120 : BitVec 32 := 1#32
  let v263 : BitVec 1 := Scalar.cmpi .sge arg25 c1_i32_120
  let c508_i32_121 : BitVec 32 := 508#32
  let c222_i32_122 : BitVec 32 := 222#32
  let v264 : BitVec 32 := Scalar.select v263 c508_i32_121 c222_i32_122
  let v266 : BitVec 32 := Scalar.select v265 c1018_i32_124 v264
  let v268 : BitVec 32 := Scalar.select v267 c1816_i32_126 v266
  let v270 : BitVec 32 := Scalar.select v269 c2966_i32_128 v268
  let v272 : BitVec 32 := Scalar.select v271 c4532_i32_130 v270
  let c144_i32_23 : BitVec 32 := 144#32
  let v11 : BitVec 32 := Scalar.addi v10 c144_i32_23
  let c4532_i32 : BitVec 32 := 4532#32
  let v12 : BitVec 32 := Scalar.minsi v11 c4532_i32
  let v273 : BitVec 32 := Scalar.minsi v272 v12
  let v276 : BitVec 32 := Scalar.subi v273 v262
  let c15_i32_132 : BitVec 32 := 15#32
  let v277 : BitVec 32 := Scalar.addi v276 c15_i32_132
  let c0_i32_134 : BitVec 32 := 0#32
  let v279 : BitVec 1 := Scalar.cmpi .sgt v277 c0_i32_134
  let v280 : BitVec 32 := Scalar.extui v279
  let c0_i32_135 : BitVec 32 := 0#32
  let v281 : BitVec 1 := Scalar.cmpi .slt v277 c0_i32_135
  let v282 : BitVec 32 := Scalar.extui v281
  let v283 : BitVec 32 := Scalar.subi v280 v282
  let c16_i32_133 : BitVec 32 := 16#32
  let c0_i32_136 : BitVec 32 := 0#32
  let v284 : BitVec 1 := Scalar.cmpi .sgt c16_i32_133 c0_i32_136
  let v285 : BitVec 32 := Scalar.extui v284
  let c0_i32_137 : BitVec 32 := 0#32
  let v286 : BitVec 1 := Scalar.cmpi .slt c16_i32_133 c0_i32_137
  let v287 : BitVec 32 := Scalar.extui v286
  let v288 : BitVec 32 := Scalar.subi v285 v287
  let v289 : BitVec 1 := Scalar.cmpi .ne v283 v288
  let v290 : BitVec 32 := Scalar.remsi v277 c16_i32_133
  let c0_i32_138 : BitVec 32 := 0#32
  let v291 : BitVec 1 := Scalar.cmpi .ne v290 c0_i32_138
  let v292 : BitVec 1 := Scalar.andi v289 v291
  let v278 : BitVec 32 := Scalar.divsi v277 c16_i32_133
  let c1_i32_139 : BitVec 32 := 1#32
  let v293 : BitVec 32 := Scalar.subi v278 c1_i32_139
  let v294 : BitVec 32 := Scalar.select v292 v293 v278
  let v295 : BitVec 32 := Scalar.maxsi c0_i32_140 v294
  let v296 : BitVec 32 := Scalar.subi v295 c0_i32_142
  let c1_i32_143 : BitVec 32 := 1#32
  let v298 : BitVec 32 := Scalar.divsi v296 c1_i32_143
  let v299 : BitVec 32 := Scalar.muli v298 c1_i32_143
  let v300 : BitVec 32 := Scalar.addi c0_i32_142 v299
  let c1_i32_145 : BitVec 32 := 1#32
  let arg26 : BitVec 32 := Scf.iv v300 c1_i32_145 k0_t7
  let v301 : BitVec 32 := Scalar.muli c16_i32_146 arg26
  let v302 : BitVec 32 := Scalar.addi v262 v301
  let v305 : BitVec 32 := Scalar.subi v302 v10
  let c3_i32_169 : BitVec 32 := 3#32
  let v690 : BitVec 32 := Scalar.addi v305 c3_i32_169
  let v691 : BitVec 32 := Scalar.muli c16_i32_170 v690
  let v692 : Index := Scalar.indexCast v691
  ![v692.toNat]

def k0_chk133 (i : grid0.Coords) (v15 : IVec S16 32) (k0_t3 : Fin k0_t3_loop.trips) (k0_t7 : Fin (k0_t7_loop i k0_t3).trips) (v699 : IVec S16 32) (v703 : IVec S16 32) (v705 : IVec S16 32) : Prop :=
  (∀ a x, ((![v15, v699, v703, v705] : Fin 4 → IVec S16 32) a x).toNat < S1x6x16x16.size a)
theorem k0_idx133_inb : ∀ (i : grid0.Coords) (v15 : IVec S16 32) (k0_t3 : Fin k0_t3_loop.trips) (k0_t7 : Fin (k0_t7_loop i k0_t3).trips) (v699 : IVec S16 32) (v703 : IVec S16 32) (v705 : IVec S16 32) (k0_hw133 : k0_chk133 i v15 k0_t3 k0_t7 v699 v703 v705), ∀ a x, ((![v15, v699, v703, v705] : Fin 4 → IVec S16 32) a x).toNat < S1x6x16x16.size a := fun i v15 k0_t3 k0_t7 v699 v703 v705 k0_hw133 => k0_hw133
def k0_off93 (i : grid0.Coords) (k0_t3 : Fin k0_t3_loop.trips) (k0_t7 : Fin (k0_t7_loop i k0_t3).trips) : Fin 1 → Nat :=
  let c16_i32_176 : BitVec 32 := 16#32
  let c0_i32_45 : BitVec 32 := 0#32
  let c1_i32_47 : BitVec 32 := 1#32
  let arg25 : BitVec 32 := Scf.iv c0_i32_45 c1_i32_47 k0_t3
  let c5_i32_118 : BitVec 32 := 5#32
  let v260 : BitVec 1 := Scalar.cmpi .sge arg25 c5_i32_118
  let c3749_i32_119 : BitVec 32 := 3749#32
  let c4_i32_116 : BitVec 32 := 4#32
  let v258 : BitVec 1 := Scalar.cmpi .sge arg25 c4_i32_116
  let c2391_i32_117 : BitVec 32 := 2391#32
  let c3_i32_114 : BitVec 32 := 3#32
  let v256 : BitVec 1 := Scalar.cmpi .sge arg25 c3_i32_114
  let c1417_i32_115 : BitVec 32 := 1417#32
  let c2_i32_112 : BitVec 32 := 2#32
  let v254 : BitVec 1 := Scalar.cmpi .sge arg25 c2_i32_112
  let c763_i32_113 : BitVec 32 := 763#32
  let c1_i32_109 : BitVec 32 := 1#32
  let v252 : BitVec 1 := Scalar.cmpi .sge arg25 c1_i32_109
  let c365_i32_110 : BitVec 32 := 365#32
  let c159_i32_111 : BitVec 32 := 159#32
  let v253 : BitVec 32 := Scalar.select v252 c365_i32_110 c159_i32_111
  let v255 : BitVec 32 := Scalar.select v254 c763_i32_113 v253
  let v257 : BitVec 32 := Scalar.select v256 c1417_i32_115 v255
  let v259 : BitVec 32 := Scalar.select v258 c2391_i32_117 v257
  let v261 : BitVec 32 := Scalar.select v260 c3749_i32_119 v259
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c144_i32 : BitVec 32 := 144#32
  let v10 : BitVec 32 := Scalar.muli v1 c144_i32
  let v262 : BitVec 32 := Scalar.maxsi v261 v10
  let c16_i32_146 : BitVec 32 := 16#32
  let c0_i32_142 : BitVec 32 := 0#32
  let c0_i32_140 : BitVec 32 := 0#32
  let c5_i32_129 : BitVec 32 := 5#32
  let v271 : BitVec 1 := Scalar.cmpi .sge arg25 c5_i32_129
  let c4532_i32_130 : BitVec 32 := 4532#32
  let c4_i32_127 : BitVec 32 := 4#32
  let v269 : BitVec 1 := Scalar.cmpi .sge arg25 c4_i32_127
  let c2966_i32_128 : BitVec 32 := 2966#32
  let c3_i32_125 : BitVec 32 := 3#32
  let v267 : BitVec 1 := Scalar.cmpi .sge arg25 c3_i32_125
  let c1816_i32_126 : BitVec 32 := 1816#32
  let c2_i32_123 : BitVec 32 := 2#32
  let v265 : BitVec 1 := Scalar.cmpi .sge arg25 c2_i32_123
  let c1018_i32_124 : BitVec 32 := 1018#32
  let c1_i32_120 : BitVec 32 := 1#32
  let v263 : BitVec 1 := Scalar.cmpi .sge arg25 c1_i32_120
  let c508_i32_121 : BitVec 32 := 508#32
  let c222_i32_122 : BitVec 32 := 222#32
  let v264 : BitVec 32 := Scalar.select v263 c508_i32_121 c222_i32_122
  let v266 : BitVec 32 := Scalar.select v265 c1018_i32_124 v264
  let v268 : BitVec 32 := Scalar.select v267 c1816_i32_126 v266
  let v270 : BitVec 32 := Scalar.select v269 c2966_i32_128 v268
  let v272 : BitVec 32 := Scalar.select v271 c4532_i32_130 v270
  let c144_i32_23 : BitVec 32 := 144#32
  let v11 : BitVec 32 := Scalar.addi v10 c144_i32_23
  let c4532_i32 : BitVec 32 := 4532#32
  let v12 : BitVec 32 := Scalar.minsi v11 c4532_i32
  let v273 : BitVec 32 := Scalar.minsi v272 v12
  let v276 : BitVec 32 := Scalar.subi v273 v262
  let c15_i32_132 : BitVec 32 := 15#32
  let v277 : BitVec 32 := Scalar.addi v276 c15_i32_132
  let c0_i32_134 : BitVec 32 := 0#32
  let v279 : BitVec 1 := Scalar.cmpi .sgt v277 c0_i32_134
  let v280 : BitVec 32 := Scalar.extui v279
  let c0_i32_135 : BitVec 32 := 0#32
  let v281 : BitVec 1 := Scalar.cmpi .slt v277 c0_i32_135
  let v282 : BitVec 32 := Scalar.extui v281
  let v283 : BitVec 32 := Scalar.subi v280 v282
  let c16_i32_133 : BitVec 32 := 16#32
  let c0_i32_136 : BitVec 32 := 0#32
  let v284 : BitVec 1 := Scalar.cmpi .sgt c16_i32_133 c0_i32_136
  let v285 : BitVec 32 := Scalar.extui v284
  let c0_i32_137 : BitVec 32 := 0#32
  let v286 : BitVec 1 := Scalar.cmpi .slt c16_i32_133 c0_i32_137
  let v287 : BitVec 32 := Scalar.extui v286
  let v288 : BitVec 32 := Scalar.subi v285 v287
  let v289 : BitVec 1 := Scalar.cmpi .ne v283 v288
  let v290 : BitVec 32 := Scalar.remsi v277 c16_i32_133
  let c0_i32_138 : BitVec 32 := 0#32
  let v291 : BitVec 1 := Scalar.cmpi .ne v290 c0_i32_138
  let v292 : BitVec 1 := Scalar.andi v289 v291
  let v278 : BitVec 32 := Scalar.divsi v277 c16_i32_133
  let c1_i32_139 : BitVec 32 := 1#32
  let v293 : BitVec 32 := Scalar.subi v278 c1_i32_139
  let v294 : BitVec 32 := Scalar.select v292 v293 v278
  let v295 : BitVec 32 := Scalar.maxsi c0_i32_140 v294
  let v296 : BitVec 32 := Scalar.subi v295 c0_i32_142
  let c1_i32_143 : BitVec 32 := 1#32
  let v298 : BitVec 32 := Scalar.divsi v296 c1_i32_143
  let v299 : BitVec 32 := Scalar.muli v298 c1_i32_143
  let v300 : BitVec 32 := Scalar.addi c0_i32_142 v299
  let c1_i32_145 : BitVec 32 := 1#32
  let arg26 : BitVec 32 := Scf.iv v300 c1_i32_145 k0_t7
  let v301 : BitVec 32 := Scalar.muli c16_i32_146 arg26
  let v302 : BitVec 32 := Scalar.addi v262 v301
  let v305 : BitVec 32 := Scalar.subi v302 v10
  let c4_i32_175 : BitVec 32 := 4#32
  let v787 : BitVec 32 := Scalar.addi v305 c4_i32_175
  let v788 : BitVec 32 := Scalar.muli c16_i32_176 v787
  let v789 : Index := Scalar.indexCast v788
  ![v789.toNat]

def k0_chk134 (i : grid0.Coords) (v15 : IVec S16 32) (k0_t3 : Fin k0_t3_loop.trips) (k0_t7 : Fin (k0_t7_loop i k0_t3).trips) (v796 : IVec S16 32) (v800 : IVec S16 32) (v802 : IVec S16 32) : Prop :=
  (∀ a x, ((![v15, v796, v800, v802] : Fin 4 → IVec S16 32) a x).toNat < S1x6x16x16.size a)
theorem k0_idx134_inb : ∀ (i : grid0.Coords) (v15 : IVec S16 32) (k0_t3 : Fin k0_t3_loop.trips) (k0_t7 : Fin (k0_t7_loop i k0_t3).trips) (v796 : IVec S16 32) (v800 : IVec S16 32) (v802 : IVec S16 32) (k0_hw134 : k0_chk134 i v15 k0_t3 k0_t7 v796 v800 v802), ∀ a x, ((![v15, v796, v800, v802] : Fin 4 → IVec S16 32) a x).toNat < S1x6x16x16.size a := fun i v15 k0_t3 k0_t7 v796 v800 v802 k0_hw134 => k0_hw134
def k0_off94 (i : grid0.Coords) (k0_t3 : Fin k0_t3_loop.trips) (k0_t7 : Fin (k0_t7_loop i k0_t3).trips) : Fin 1 → Nat :=
  let c16_i32_182 : BitVec 32 := 16#32
  let c0_i32_45 : BitVec 32 := 0#32
  let c1_i32_47 : BitVec 32 := 1#32
  let arg25 : BitVec 32 := Scf.iv c0_i32_45 c1_i32_47 k0_t3
  let c5_i32_118 : BitVec 32 := 5#32
  let v260 : BitVec 1 := Scalar.cmpi .sge arg25 c5_i32_118
  let c3749_i32_119 : BitVec 32 := 3749#32
  let c4_i32_116 : BitVec 32 := 4#32
  let v258 : BitVec 1 := Scalar.cmpi .sge arg25 c4_i32_116
  let c2391_i32_117 : BitVec 32 := 2391#32
  let c3_i32_114 : BitVec 32 := 3#32
  let v256 : BitVec 1 := Scalar.cmpi .sge arg25 c3_i32_114
  let c1417_i32_115 : BitVec 32 := 1417#32
  let c2_i32_112 : BitVec 32 := 2#32
  let v254 : BitVec 1 := Scalar.cmpi .sge arg25 c2_i32_112
  let c763_i32_113 : BitVec 32 := 763#32
  let c1_i32_109 : BitVec 32 := 1#32
  let v252 : BitVec 1 := Scalar.cmpi .sge arg25 c1_i32_109
  let c365_i32_110 : BitVec 32 := 365#32
  let c159_i32_111 : BitVec 32 := 159#32
  let v253 : BitVec 32 := Scalar.select v252 c365_i32_110 c159_i32_111
  let v255 : BitVec 32 := Scalar.select v254 c763_i32_113 v253
  let v257 : BitVec 32 := Scalar.select v256 c1417_i32_115 v255
  let v259 : BitVec 32 := Scalar.select v258 c2391_i32_117 v257
  let v261 : BitVec 32 := Scalar.select v260 c3749_i32_119 v259
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c144_i32 : BitVec 32 := 144#32
  let v10 : BitVec 32 := Scalar.muli v1 c144_i32
  let v262 : BitVec 32 := Scalar.maxsi v261 v10
  let c16_i32_146 : BitVec 32 := 16#32
  let c0_i32_142 : BitVec 32 := 0#32
  let c0_i32_140 : BitVec 32 := 0#32
  let c5_i32_129 : BitVec 32 := 5#32
  let v271 : BitVec 1 := Scalar.cmpi .sge arg25 c5_i32_129
  let c4532_i32_130 : BitVec 32 := 4532#32
  let c4_i32_127 : BitVec 32 := 4#32
  let v269 : BitVec 1 := Scalar.cmpi .sge arg25 c4_i32_127
  let c2966_i32_128 : BitVec 32 := 2966#32
  let c3_i32_125 : BitVec 32 := 3#32
  let v267 : BitVec 1 := Scalar.cmpi .sge arg25 c3_i32_125
  let c1816_i32_126 : BitVec 32 := 1816#32
  let c2_i32_123 : BitVec 32 := 2#32
  let v265 : BitVec 1 := Scalar.cmpi .sge arg25 c2_i32_123
  let c1018_i32_124 : BitVec 32 := 1018#32
  let c1_i32_120 : BitVec 32 := 1#32
  let v263 : BitVec 1 := Scalar.cmpi .sge arg25 c1_i32_120
  let c508_i32_121 : BitVec 32 := 508#32
  let c222_i32_122 : BitVec 32 := 222#32
  let v264 : BitVec 32 := Scalar.select v263 c508_i32_121 c222_i32_122
  let v266 : BitVec 32 := Scalar.select v265 c1018_i32_124 v264
  let v268 : BitVec 32 := Scalar.select v267 c1816_i32_126 v266
  let v270 : BitVec 32 := Scalar.select v269 c2966_i32_128 v268
  let v272 : BitVec 32 := Scalar.select v271 c4532_i32_130 v270
  let c144_i32_23 : BitVec 32 := 144#32
  let v11 : BitVec 32 := Scalar.addi v10 c144_i32_23
  let c4532_i32 : BitVec 32 := 4532#32
  let v12 : BitVec 32 := Scalar.minsi v11 c4532_i32
  let v273 : BitVec 32 := Scalar.minsi v272 v12
  let v276 : BitVec 32 := Scalar.subi v273 v262
  let c15_i32_132 : BitVec 32 := 15#32
  let v277 : BitVec 32 := Scalar.addi v276 c15_i32_132
  let c0_i32_134 : BitVec 32 := 0#32
  let v279 : BitVec 1 := Scalar.cmpi .sgt v277 c0_i32_134
  let v280 : BitVec 32 := Scalar.extui v279
  let c0_i32_135 : BitVec 32 := 0#32
  let v281 : BitVec 1 := Scalar.cmpi .slt v277 c0_i32_135
  let v282 : BitVec 32 := Scalar.extui v281
  let v283 : BitVec 32 := Scalar.subi v280 v282
  let c16_i32_133 : BitVec 32 := 16#32
  let c0_i32_136 : BitVec 32 := 0#32
  let v284 : BitVec 1 := Scalar.cmpi .sgt c16_i32_133 c0_i32_136
  let v285 : BitVec 32 := Scalar.extui v284
  let c0_i32_137 : BitVec 32 := 0#32
  let v286 : BitVec 1 := Scalar.cmpi .slt c16_i32_133 c0_i32_137
  let v287 : BitVec 32 := Scalar.extui v286
  let v288 : BitVec 32 := Scalar.subi v285 v287
  let v289 : BitVec 1 := Scalar.cmpi .ne v283 v288
  let v290 : BitVec 32 := Scalar.remsi v277 c16_i32_133
  let c0_i32_138 : BitVec 32 := 0#32
  let v291 : BitVec 1 := Scalar.cmpi .ne v290 c0_i32_138
  let v292 : BitVec 1 := Scalar.andi v289 v291
  let v278 : BitVec 32 := Scalar.divsi v277 c16_i32_133
  let c1_i32_139 : BitVec 32 := 1#32
  let v293 : BitVec 32 := Scalar.subi v278 c1_i32_139
  let v294 : BitVec 32 := Scalar.select v292 v293 v278
  let v295 : BitVec 32 := Scalar.maxsi c0_i32_140 v294
  let v296 : BitVec 32 := Scalar.subi v295 c0_i32_142
  let c1_i32_143 : BitVec 32 := 1#32
  let v298 : BitVec 32 := Scalar.divsi v296 c1_i32_143
  let v299 : BitVec 32 := Scalar.muli v298 c1_i32_143
  let v300 : BitVec 32 := Scalar.addi c0_i32_142 v299
  let c1_i32_145 : BitVec 32 := 1#32
  let arg26 : BitVec 32 := Scf.iv v300 c1_i32_145 k0_t7
  let v301 : BitVec 32 := Scalar.muli c16_i32_146 arg26
  let v302 : BitVec 32 := Scalar.addi v262 v301
  let v305 : BitVec 32 := Scalar.subi v302 v10
  let c5_i32_181 : BitVec 32 := 5#32
  let v884 : BitVec 32 := Scalar.addi v305 c5_i32_181
  let v885 : BitVec 32 := Scalar.muli c16_i32_182 v884
  let v886 : Index := Scalar.indexCast v885
  ![v886.toNat]

def k0_chk135 (i : grid0.Coords) (v15 : IVec S16 32) (k0_t3 : Fin k0_t3_loop.trips) (k0_t7 : Fin (k0_t7_loop i k0_t3).trips) (v893 : IVec S16 32) (v897 : IVec S16 32) (v899 : IVec S16 32) : Prop :=
  (∀ a x, ((![v15, v893, v897, v899] : Fin 4 → IVec S16 32) a x).toNat < S1x6x16x16.size a)
theorem k0_idx135_inb : ∀ (i : grid0.Coords) (v15 : IVec S16 32) (k0_t3 : Fin k0_t3_loop.trips) (k0_t7 : Fin (k0_t7_loop i k0_t3).trips) (v893 : IVec S16 32) (v897 : IVec S16 32) (v899 : IVec S16 32) (k0_hw135 : k0_chk135 i v15 k0_t3 k0_t7 v893 v897 v899), ∀ a x, ((![v15, v893, v897, v899] : Fin 4 → IVec S16 32) a x).toNat < S1x6x16x16.size a := fun i v15 k0_t3 k0_t7 v893 v897 v899 k0_hw135 => k0_hw135
def k0_off95 (i : grid0.Coords) (k0_t3 : Fin k0_t3_loop.trips) (k0_t7 : Fin (k0_t7_loop i k0_t3).trips) : Fin 1 → Nat :=
  let c16_i32_188 : BitVec 32 := 16#32
  let c0_i32_45 : BitVec 32 := 0#32
  let c1_i32_47 : BitVec 32 := 1#32
  let arg25 : BitVec 32 := Scf.iv c0_i32_45 c1_i32_47 k0_t3
  let c5_i32_118 : BitVec 32 := 5#32
  let v260 : BitVec 1 := Scalar.cmpi .sge arg25 c5_i32_118
  let c3749_i32_119 : BitVec 32 := 3749#32
  let c4_i32_116 : BitVec 32 := 4#32
  let v258 : BitVec 1 := Scalar.cmpi .sge arg25 c4_i32_116
  let c2391_i32_117 : BitVec 32 := 2391#32
  let c3_i32_114 : BitVec 32 := 3#32
  let v256 : BitVec 1 := Scalar.cmpi .sge arg25 c3_i32_114
  let c1417_i32_115 : BitVec 32 := 1417#32
  let c2_i32_112 : BitVec 32 := 2#32
  let v254 : BitVec 1 := Scalar.cmpi .sge arg25 c2_i32_112
  let c763_i32_113 : BitVec 32 := 763#32
  let c1_i32_109 : BitVec 32 := 1#32
  let v252 : BitVec 1 := Scalar.cmpi .sge arg25 c1_i32_109
  let c365_i32_110 : BitVec 32 := 365#32
  let c159_i32_111 : BitVec 32 := 159#32
  let v253 : BitVec 32 := Scalar.select v252 c365_i32_110 c159_i32_111
  let v255 : BitVec 32 := Scalar.select v254 c763_i32_113 v253
  let v257 : BitVec 32 := Scalar.select v256 c1417_i32_115 v255
  let v259 : BitVec 32 := Scalar.select v258 c2391_i32_117 v257
  let v261 : BitVec 32 := Scalar.select v260 c3749_i32_119 v259
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c144_i32 : BitVec 32 := 144#32
  let v10 : BitVec 32 := Scalar.muli v1 c144_i32
  let v262 : BitVec 32 := Scalar.maxsi v261 v10
  let c16_i32_146 : BitVec 32 := 16#32
  let c0_i32_142 : BitVec 32 := 0#32
  let c0_i32_140 : BitVec 32 := 0#32
  let c5_i32_129 : BitVec 32 := 5#32
  let v271 : BitVec 1 := Scalar.cmpi .sge arg25 c5_i32_129
  let c4532_i32_130 : BitVec 32 := 4532#32
  let c4_i32_127 : BitVec 32 := 4#32
  let v269 : BitVec 1 := Scalar.cmpi .sge arg25 c4_i32_127
  let c2966_i32_128 : BitVec 32 := 2966#32
  let c3_i32_125 : BitVec 32 := 3#32
  let v267 : BitVec 1 := Scalar.cmpi .sge arg25 c3_i32_125
  let c1816_i32_126 : BitVec 32 := 1816#32
  let c2_i32_123 : BitVec 32 := 2#32
  let v265 : BitVec 1 := Scalar.cmpi .sge arg25 c2_i32_123
  let c1018_i32_124 : BitVec 32 := 1018#32
  let c1_i32_120 : BitVec 32 := 1#32
  let v263 : BitVec 1 := Scalar.cmpi .sge arg25 c1_i32_120
  let c508_i32_121 : BitVec 32 := 508#32
  let c222_i32_122 : BitVec 32 := 222#32
  let v264 : BitVec 32 := Scalar.select v263 c508_i32_121 c222_i32_122
  let v266 : BitVec 32 := Scalar.select v265 c1018_i32_124 v264
  let v268 : BitVec 32 := Scalar.select v267 c1816_i32_126 v266
  let v270 : BitVec 32 := Scalar.select v269 c2966_i32_128 v268
  let v272 : BitVec 32 := Scalar.select v271 c4532_i32_130 v270
  let c144_i32_23 : BitVec 32 := 144#32
  let v11 : BitVec 32 := Scalar.addi v10 c144_i32_23
  let c4532_i32 : BitVec 32 := 4532#32
  let v12 : BitVec 32 := Scalar.minsi v11 c4532_i32
  let v273 : BitVec 32 := Scalar.minsi v272 v12
  let v276 : BitVec 32 := Scalar.subi v273 v262
  let c15_i32_132 : BitVec 32 := 15#32
  let v277 : BitVec 32 := Scalar.addi v276 c15_i32_132
  let c0_i32_134 : BitVec 32 := 0#32
  let v279 : BitVec 1 := Scalar.cmpi .sgt v277 c0_i32_134
  let v280 : BitVec 32 := Scalar.extui v279
  let c0_i32_135 : BitVec 32 := 0#32
  let v281 : BitVec 1 := Scalar.cmpi .slt v277 c0_i32_135
  let v282 : BitVec 32 := Scalar.extui v281
  let v283 : BitVec 32 := Scalar.subi v280 v282
  let c16_i32_133 : BitVec 32 := 16#32
  let c0_i32_136 : BitVec 32 := 0#32
  let v284 : BitVec 1 := Scalar.cmpi .sgt c16_i32_133 c0_i32_136
  let v285 : BitVec 32 := Scalar.extui v284
  let c0_i32_137 : BitVec 32 := 0#32
  let v286 : BitVec 1 := Scalar.cmpi .slt c16_i32_133 c0_i32_137
  let v287 : BitVec 32 := Scalar.extui v286
  let v288 : BitVec 32 := Scalar.subi v285 v287
  let v289 : BitVec 1 := Scalar.cmpi .ne v283 v288
  let v290 : BitVec 32 := Scalar.remsi v277 c16_i32_133
  let c0_i32_138 : BitVec 32 := 0#32
  let v291 : BitVec 1 := Scalar.cmpi .ne v290 c0_i32_138
  let v292 : BitVec 1 := Scalar.andi v289 v291
  let v278 : BitVec 32 := Scalar.divsi v277 c16_i32_133
  let c1_i32_139 : BitVec 32 := 1#32
  let v293 : BitVec 32 := Scalar.subi v278 c1_i32_139
  let v294 : BitVec 32 := Scalar.select v292 v293 v278
  let v295 : BitVec 32 := Scalar.maxsi c0_i32_140 v294
  let v296 : BitVec 32 := Scalar.subi v295 c0_i32_142
  let c1_i32_143 : BitVec 32 := 1#32
  let v298 : BitVec 32 := Scalar.divsi v296 c1_i32_143
  let v299 : BitVec 32 := Scalar.muli v298 c1_i32_143
  let v300 : BitVec 32 := Scalar.addi c0_i32_142 v299
  let c1_i32_145 : BitVec 32 := 1#32
  let arg26 : BitVec 32 := Scf.iv v300 c1_i32_145 k0_t7
  let v301 : BitVec 32 := Scalar.muli c16_i32_146 arg26
  let v302 : BitVec 32 := Scalar.addi v262 v301
  let v305 : BitVec 32 := Scalar.subi v302 v10
  let c6_i32_187 : BitVec 32 := 6#32
  let v981 : BitVec 32 := Scalar.addi v305 c6_i32_187
  let v982 : BitVec 32 := Scalar.muli c16_i32_188 v981
  let v983 : Index := Scalar.indexCast v982
  ![v983.toNat]

def k0_chk136 (i : grid0.Coords) (v15 : IVec S16 32) (k0_t3 : Fin k0_t3_loop.trips) (k0_t7 : Fin (k0_t7_loop i k0_t3).trips) (v990 : IVec S16 32) (v994 : IVec S16 32) (v996 : IVec S16 32) : Prop :=
  (∀ a x, ((![v15, v990, v994, v996] : Fin 4 → IVec S16 32) a x).toNat < S1x6x16x16.size a)
theorem k0_idx136_inb : ∀ (i : grid0.Coords) (v15 : IVec S16 32) (k0_t3 : Fin k0_t3_loop.trips) (k0_t7 : Fin (k0_t7_loop i k0_t3).trips) (v990 : IVec S16 32) (v994 : IVec S16 32) (v996 : IVec S16 32) (k0_hw136 : k0_chk136 i v15 k0_t3 k0_t7 v990 v994 v996), ∀ a x, ((![v15, v990, v994, v996] : Fin 4 → IVec S16 32) a x).toNat < S1x6x16x16.size a := fun i v15 k0_t3 k0_t7 v990 v994 v996 k0_hw136 => k0_hw136
def k0_off96 (i : grid0.Coords) (k0_t3 : Fin k0_t3_loop.trips) (k0_t7 : Fin (k0_t7_loop i k0_t3).trips) : Fin 1 → Nat :=
  let c16_i32_194 : BitVec 32 := 16#32
  let c0_i32_45 : BitVec 32 := 0#32
  let c1_i32_47 : BitVec 32 := 1#32
  let arg25 : BitVec 32 := Scf.iv c0_i32_45 c1_i32_47 k0_t3
  let c5_i32_118 : BitVec 32 := 5#32
  let v260 : BitVec 1 := Scalar.cmpi .sge arg25 c5_i32_118
  let c3749_i32_119 : BitVec 32 := 3749#32
  let c4_i32_116 : BitVec 32 := 4#32
  let v258 : BitVec 1 := Scalar.cmpi .sge arg25 c4_i32_116
  let c2391_i32_117 : BitVec 32 := 2391#32
  let c3_i32_114 : BitVec 32 := 3#32
  let v256 : BitVec 1 := Scalar.cmpi .sge arg25 c3_i32_114
  let c1417_i32_115 : BitVec 32 := 1417#32
  let c2_i32_112 : BitVec 32 := 2#32
  let v254 : BitVec 1 := Scalar.cmpi .sge arg25 c2_i32_112
  let c763_i32_113 : BitVec 32 := 763#32
  let c1_i32_109 : BitVec 32 := 1#32
  let v252 : BitVec 1 := Scalar.cmpi .sge arg25 c1_i32_109
  let c365_i32_110 : BitVec 32 := 365#32
  let c159_i32_111 : BitVec 32 := 159#32
  let v253 : BitVec 32 := Scalar.select v252 c365_i32_110 c159_i32_111
  let v255 : BitVec 32 := Scalar.select v254 c763_i32_113 v253
  let v257 : BitVec 32 := Scalar.select v256 c1417_i32_115 v255
  let v259 : BitVec 32 := Scalar.select v258 c2391_i32_117 v257
  let v261 : BitVec 32 := Scalar.select v260 c3749_i32_119 v259
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c144_i32 : BitVec 32 := 144#32
  let v10 : BitVec 32 := Scalar.muli v1 c144_i32
  let v262 : BitVec 32 := Scalar.maxsi v261 v10
  let c16_i32_146 : BitVec 32 := 16#32
  let c0_i32_142 : BitVec 32 := 0#32
  let c0_i32_140 : BitVec 32 := 0#32
  let c5_i32_129 : BitVec 32 := 5#32
  let v271 : BitVec 1 := Scalar.cmpi .sge arg25 c5_i32_129
  let c4532_i32_130 : BitVec 32 := 4532#32
  let c4_i32_127 : BitVec 32 := 4#32
  let v269 : BitVec 1 := Scalar.cmpi .sge arg25 c4_i32_127
  let c2966_i32_128 : BitVec 32 := 2966#32
  let c3_i32_125 : BitVec 32 := 3#32
  let v267 : BitVec 1 := Scalar.cmpi .sge arg25 c3_i32_125
  let c1816_i32_126 : BitVec 32 := 1816#32
  let c2_i32_123 : BitVec 32 := 2#32
  let v265 : BitVec 1 := Scalar.cmpi .sge arg25 c2_i32_123
  let c1018_i32_124 : BitVec 32 := 1018#32
  let c1_i32_120 : BitVec 32 := 1#32
  let v263 : BitVec 1 := Scalar.cmpi .sge arg25 c1_i32_120
  let c508_i32_121 : BitVec 32 := 508#32
  let c222_i32_122 : BitVec 32 := 222#32
  let v264 : BitVec 32 := Scalar.select v263 c508_i32_121 c222_i32_122
  let v266 : BitVec 32 := Scalar.select v265 c1018_i32_124 v264
  let v268 : BitVec 32 := Scalar.select v267 c1816_i32_126 v266
  let v270 : BitVec 32 := Scalar.select v269 c2966_i32_128 v268
  let v272 : BitVec 32 := Scalar.select v271 c4532_i32_130 v270
  let c144_i32_23 : BitVec 32 := 144#32
  let v11 : BitVec 32 := Scalar.addi v10 c144_i32_23
  let c4532_i32 : BitVec 32 := 4532#32
  let v12 : BitVec 32 := Scalar.minsi v11 c4532_i32
  let v273 : BitVec 32 := Scalar.minsi v272 v12
  let v276 : BitVec 32 := Scalar.subi v273 v262
  let c15_i32_132 : BitVec 32 := 15#32
  let v277 : BitVec 32 := Scalar.addi v276 c15_i32_132
  let c0_i32_134 : BitVec 32 := 0#32
  let v279 : BitVec 1 := Scalar.cmpi .sgt v277 c0_i32_134
  let v280 : BitVec 32 := Scalar.extui v279
  let c0_i32_135 : BitVec 32 := 0#32
  let v281 : BitVec 1 := Scalar.cmpi .slt v277 c0_i32_135
  let v282 : BitVec 32 := Scalar.extui v281
  let v283 : BitVec 32 := Scalar.subi v280 v282
  let c16_i32_133 : BitVec 32 := 16#32
  let c0_i32_136 : BitVec 32 := 0#32
  let v284 : BitVec 1 := Scalar.cmpi .sgt c16_i32_133 c0_i32_136
  let v285 : BitVec 32 := Scalar.extui v284
  let c0_i32_137 : BitVec 32 := 0#32
  let v286 : BitVec 1 := Scalar.cmpi .slt c16_i32_133 c0_i32_137
  let v287 : BitVec 32 := Scalar.extui v286
  let v288 : BitVec 32 := Scalar.subi v285 v287
  let v289 : BitVec 1 := Scalar.cmpi .ne v283 v288
  let v290 : BitVec 32 := Scalar.remsi v277 c16_i32_133
  let c0_i32_138 : BitVec 32 := 0#32
  let v291 : BitVec 1 := Scalar.cmpi .ne v290 c0_i32_138
  let v292 : BitVec 1 := Scalar.andi v289 v291
  let v278 : BitVec 32 := Scalar.divsi v277 c16_i32_133
  let c1_i32_139 : BitVec 32 := 1#32
  let v293 : BitVec 32 := Scalar.subi v278 c1_i32_139
  let v294 : BitVec 32 := Scalar.select v292 v293 v278
  let v295 : BitVec 32 := Scalar.maxsi c0_i32_140 v294
  let v296 : BitVec 32 := Scalar.subi v295 c0_i32_142
  let c1_i32_143 : BitVec 32 := 1#32
  let v298 : BitVec 32 := Scalar.divsi v296 c1_i32_143
  let v299 : BitVec 32 := Scalar.muli v298 c1_i32_143
  let v300 : BitVec 32 := Scalar.addi c0_i32_142 v299
  let c1_i32_145 : BitVec 32 := 1#32
  let arg26 : BitVec 32 := Scf.iv v300 c1_i32_145 k0_t7
  let v301 : BitVec 32 := Scalar.muli c16_i32_146 arg26
  let v302 : BitVec 32 := Scalar.addi v262 v301
  let v305 : BitVec 32 := Scalar.subi v302 v10
  let c7_i32_193 : BitVec 32 := 7#32
  let v1078 : BitVec 32 := Scalar.addi v305 c7_i32_193
  let v1079 : BitVec 32 := Scalar.muli c16_i32_194 v1078
  let v1080 : Index := Scalar.indexCast v1079
  ![v1080.toNat]

def k0_chk137 (i : grid0.Coords) (v15 : IVec S16 32) (k0_t3 : Fin k0_t3_loop.trips) (k0_t7 : Fin (k0_t7_loop i k0_t3).trips) (v1087 : IVec S16 32) (v1091 : IVec S16 32) (v1093 : IVec S16 32) : Prop :=
  (∀ a x, ((![v15, v1087, v1091, v1093] : Fin 4 → IVec S16 32) a x).toNat < S1x6x16x16.size a)
theorem k0_idx137_inb : ∀ (i : grid0.Coords) (v15 : IVec S16 32) (k0_t3 : Fin k0_t3_loop.trips) (k0_t7 : Fin (k0_t7_loop i k0_t3).trips) (v1087 : IVec S16 32) (v1091 : IVec S16 32) (v1093 : IVec S16 32) (k0_hw137 : k0_chk137 i v15 k0_t3 k0_t7 v1087 v1091 v1093), ∀ a x, ((![v15, v1087, v1091, v1093] : Fin 4 → IVec S16 32) a x).toNat < S1x6x16x16.size a := fun i v15 k0_t3 k0_t7 v1087 v1091 v1093 k0_hw137 => k0_hw137
def k0_off97 (i : grid0.Coords) (k0_t3 : Fin k0_t3_loop.trips) (k0_t7 : Fin (k0_t7_loop i k0_t3).trips) : Fin 1 → Nat :=
  let c16_i32_200 : BitVec 32 := 16#32
  let c0_i32_45 : BitVec 32 := 0#32
  let c1_i32_47 : BitVec 32 := 1#32
  let arg25 : BitVec 32 := Scf.iv c0_i32_45 c1_i32_47 k0_t3
  let c5_i32_118 : BitVec 32 := 5#32
  let v260 : BitVec 1 := Scalar.cmpi .sge arg25 c5_i32_118
  let c3749_i32_119 : BitVec 32 := 3749#32
  let c4_i32_116 : BitVec 32 := 4#32
  let v258 : BitVec 1 := Scalar.cmpi .sge arg25 c4_i32_116
  let c2391_i32_117 : BitVec 32 := 2391#32
  let c3_i32_114 : BitVec 32 := 3#32
  let v256 : BitVec 1 := Scalar.cmpi .sge arg25 c3_i32_114
  let c1417_i32_115 : BitVec 32 := 1417#32
  let c2_i32_112 : BitVec 32 := 2#32
  let v254 : BitVec 1 := Scalar.cmpi .sge arg25 c2_i32_112
  let c763_i32_113 : BitVec 32 := 763#32
  let c1_i32_109 : BitVec 32 := 1#32
  let v252 : BitVec 1 := Scalar.cmpi .sge arg25 c1_i32_109
  let c365_i32_110 : BitVec 32 := 365#32
  let c159_i32_111 : BitVec 32 := 159#32
  let v253 : BitVec 32 := Scalar.select v252 c365_i32_110 c159_i32_111
  let v255 : BitVec 32 := Scalar.select v254 c763_i32_113 v253
  let v257 : BitVec 32 := Scalar.select v256 c1417_i32_115 v255
  let v259 : BitVec 32 := Scalar.select v258 c2391_i32_117 v257
  let v261 : BitVec 32 := Scalar.select v260 c3749_i32_119 v259
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c144_i32 : BitVec 32 := 144#32
  let v10 : BitVec 32 := Scalar.muli v1 c144_i32
  let v262 : BitVec 32 := Scalar.maxsi v261 v10
  let c16_i32_146 : BitVec 32 := 16#32
  let c0_i32_142 : BitVec 32 := 0#32
  let c0_i32_140 : BitVec 32 := 0#32
  let c5_i32_129 : BitVec 32 := 5#32
  let v271 : BitVec 1 := Scalar.cmpi .sge arg25 c5_i32_129
  let c4532_i32_130 : BitVec 32 := 4532#32
  let c4_i32_127 : BitVec 32 := 4#32
  let v269 : BitVec 1 := Scalar.cmpi .sge arg25 c4_i32_127
  let c2966_i32_128 : BitVec 32 := 2966#32
  let c3_i32_125 : BitVec 32 := 3#32
  let v267 : BitVec 1 := Scalar.cmpi .sge arg25 c3_i32_125
  let c1816_i32_126 : BitVec 32 := 1816#32
  let c2_i32_123 : BitVec 32 := 2#32
  let v265 : BitVec 1 := Scalar.cmpi .sge arg25 c2_i32_123
  let c1018_i32_124 : BitVec 32 := 1018#32
  let c1_i32_120 : BitVec 32 := 1#32
  let v263 : BitVec 1 := Scalar.cmpi .sge arg25 c1_i32_120
  let c508_i32_121 : BitVec 32 := 508#32
  let c222_i32_122 : BitVec 32 := 222#32
  let v264 : BitVec 32 := Scalar.select v263 c508_i32_121 c222_i32_122
  let v266 : BitVec 32 := Scalar.select v265 c1018_i32_124 v264
  let v268 : BitVec 32 := Scalar.select v267 c1816_i32_126 v266
  let v270 : BitVec 32 := Scalar.select v269 c2966_i32_128 v268
  let v272 : BitVec 32 := Scalar.select v271 c4532_i32_130 v270
  let c144_i32_23 : BitVec 32 := 144#32
  let v11 : BitVec 32 := Scalar.addi v10 c144_i32_23
  let c4532_i32 : BitVec 32 := 4532#32
  let v12 : BitVec 32 := Scalar.minsi v11 c4532_i32
  let v273 : BitVec 32 := Scalar.minsi v272 v12
  let v276 : BitVec 32 := Scalar.subi v273 v262
  let c15_i32_132 : BitVec 32 := 15#32
  let v277 : BitVec 32 := Scalar.addi v276 c15_i32_132
  let c0_i32_134 : BitVec 32 := 0#32
  let v279 : BitVec 1 := Scalar.cmpi .sgt v277 c0_i32_134
  let v280 : BitVec 32 := Scalar.extui v279
  let c0_i32_135 : BitVec 32 := 0#32
  let v281 : BitVec 1 := Scalar.cmpi .slt v277 c0_i32_135
  let v282 : BitVec 32 := Scalar.extui v281
  let v283 : BitVec 32 := Scalar.subi v280 v282
  let c16_i32_133 : BitVec 32 := 16#32
  let c0_i32_136 : BitVec 32 := 0#32
  let v284 : BitVec 1 := Scalar.cmpi .sgt c16_i32_133 c0_i32_136
  let v285 : BitVec 32 := Scalar.extui v284
  let c0_i32_137 : BitVec 32 := 0#32
  let v286 : BitVec 1 := Scalar.cmpi .slt c16_i32_133 c0_i32_137
  let v287 : BitVec 32 := Scalar.extui v286
  let v288 : BitVec 32 := Scalar.subi v285 v287
  let v289 : BitVec 1 := Scalar.cmpi .ne v283 v288
  let v290 : BitVec 32 := Scalar.remsi v277 c16_i32_133
  let c0_i32_138 : BitVec 32 := 0#32
  let v291 : BitVec 1 := Scalar.cmpi .ne v290 c0_i32_138
  let v292 : BitVec 1 := Scalar.andi v289 v291
  let v278 : BitVec 32 := Scalar.divsi v277 c16_i32_133
  let c1_i32_139 : BitVec 32 := 1#32
  let v293 : BitVec 32 := Scalar.subi v278 c1_i32_139
  let v294 : BitVec 32 := Scalar.select v292 v293 v278
  let v295 : BitVec 32 := Scalar.maxsi c0_i32_140 v294
  let v296 : BitVec 32 := Scalar.subi v295 c0_i32_142
  let c1_i32_143 : BitVec 32 := 1#32
  let v298 : BitVec 32 := Scalar.divsi v296 c1_i32_143
  let v299 : BitVec 32 := Scalar.muli v298 c1_i32_143
  let v300 : BitVec 32 := Scalar.addi c0_i32_142 v299
  let c1_i32_145 : BitVec 32 := 1#32
  let arg26 : BitVec 32 := Scf.iv v300 c1_i32_145 k0_t7
  let v301 : BitVec 32 := Scalar.muli c16_i32_146 arg26
  let v302 : BitVec 32 := Scalar.addi v262 v301
  let v305 : BitVec 32 := Scalar.subi v302 v10
  let c8_i32_199 : BitVec 32 := 8#32
  let v1175 : BitVec 32 := Scalar.addi v305 c8_i32_199
  let v1176 : BitVec 32 := Scalar.muli c16_i32_200 v1175
  let v1177 : Index := Scalar.indexCast v1176
  ![v1177.toNat]

def k0_chk138 (i : grid0.Coords) (v15 : IVec S16 32) (k0_t3 : Fin k0_t3_loop.trips) (k0_t7 : Fin (k0_t7_loop i k0_t3).trips) (v1184 : IVec S16 32) (v1188 : IVec S16 32) (v1190 : IVec S16 32) : Prop :=
  (∀ a x, ((![v15, v1184, v1188, v1190] : Fin 4 → IVec S16 32) a x).toNat < S1x6x16x16.size a)
theorem k0_idx138_inb : ∀ (i : grid0.Coords) (v15 : IVec S16 32) (k0_t3 : Fin k0_t3_loop.trips) (k0_t7 : Fin (k0_t7_loop i k0_t3).trips) (v1184 : IVec S16 32) (v1188 : IVec S16 32) (v1190 : IVec S16 32) (k0_hw138 : k0_chk138 i v15 k0_t3 k0_t7 v1184 v1188 v1190), ∀ a x, ((![v15, v1184, v1188, v1190] : Fin 4 → IVec S16 32) a x).toNat < S1x6x16x16.size a := fun i v15 k0_t3 k0_t7 v1184 v1188 v1190 k0_hw138 => k0_hw138
def k0_off98 (i : grid0.Coords) (k0_t3 : Fin k0_t3_loop.trips) (k0_t7 : Fin (k0_t7_loop i k0_t3).trips) : Fin 1 → Nat :=
  let c16_i32_206 : BitVec 32 := 16#32
  let c0_i32_45 : BitVec 32 := 0#32
  let c1_i32_47 : BitVec 32 := 1#32
  let arg25 : BitVec 32 := Scf.iv c0_i32_45 c1_i32_47 k0_t3
  let c5_i32_118 : BitVec 32 := 5#32
  let v260 : BitVec 1 := Scalar.cmpi .sge arg25 c5_i32_118
  let c3749_i32_119 : BitVec 32 := 3749#32
  let c4_i32_116 : BitVec 32 := 4#32
  let v258 : BitVec 1 := Scalar.cmpi .sge arg25 c4_i32_116
  let c2391_i32_117 : BitVec 32 := 2391#32
  let c3_i32_114 : BitVec 32 := 3#32
  let v256 : BitVec 1 := Scalar.cmpi .sge arg25 c3_i32_114
  let c1417_i32_115 : BitVec 32 := 1417#32
  let c2_i32_112 : BitVec 32 := 2#32
  let v254 : BitVec 1 := Scalar.cmpi .sge arg25 c2_i32_112
  let c763_i32_113 : BitVec 32 := 763#32
  let c1_i32_109 : BitVec 32 := 1#32
  let v252 : BitVec 1 := Scalar.cmpi .sge arg25 c1_i32_109
  let c365_i32_110 : BitVec 32 := 365#32
  let c159_i32_111 : BitVec 32 := 159#32
  let v253 : BitVec 32 := Scalar.select v252 c365_i32_110 c159_i32_111
  let v255 : BitVec 32 := Scalar.select v254 c763_i32_113 v253
  let v257 : BitVec 32 := Scalar.select v256 c1417_i32_115 v255
  let v259 : BitVec 32 := Scalar.select v258 c2391_i32_117 v257
  let v261 : BitVec 32 := Scalar.select v260 c3749_i32_119 v259
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c144_i32 : BitVec 32 := 144#32
  let v10 : BitVec 32 := Scalar.muli v1 c144_i32
  let v262 : BitVec 32 := Scalar.maxsi v261 v10
  let c16_i32_146 : BitVec 32 := 16#32
  let c0_i32_142 : BitVec 32 := 0#32
  let c0_i32_140 : BitVec 32 := 0#32
  let c5_i32_129 : BitVec 32 := 5#32
  let v271 : BitVec 1 := Scalar.cmpi .sge arg25 c5_i32_129
  let c4532_i32_130 : BitVec 32 := 4532#32
  let c4_i32_127 : BitVec 32 := 4#32
  let v269 : BitVec 1 := Scalar.cmpi .sge arg25 c4_i32_127
  let c2966_i32_128 : BitVec 32 := 2966#32
  let c3_i32_125 : BitVec 32 := 3#32
  let v267 : BitVec 1 := Scalar.cmpi .sge arg25 c3_i32_125
  let c1816_i32_126 : BitVec 32 := 1816#32
  let c2_i32_123 : BitVec 32 := 2#32
  let v265 : BitVec 1 := Scalar.cmpi .sge arg25 c2_i32_123
  let c1018_i32_124 : BitVec 32 := 1018#32
  let c1_i32_120 : BitVec 32 := 1#32
  let v263 : BitVec 1 := Scalar.cmpi .sge arg25 c1_i32_120
  let c508_i32_121 : BitVec 32 := 508#32
  let c222_i32_122 : BitVec 32 := 222#32
  let v264 : BitVec 32 := Scalar.select v263 c508_i32_121 c222_i32_122
  let v266 : BitVec 32 := Scalar.select v265 c1018_i32_124 v264
  let v268 : BitVec 32 := Scalar.select v267 c1816_i32_126 v266
  let v270 : BitVec 32 := Scalar.select v269 c2966_i32_128 v268
  let v272 : BitVec 32 := Scalar.select v271 c4532_i32_130 v270
  let c144_i32_23 : BitVec 32 := 144#32
  let v11 : BitVec 32 := Scalar.addi v10 c144_i32_23
  let c4532_i32 : BitVec 32 := 4532#32
  let v12 : BitVec 32 := Scalar.minsi v11 c4532_i32
  let v273 : BitVec 32 := Scalar.minsi v272 v12
  let v276 : BitVec 32 := Scalar.subi v273 v262
  let c15_i32_132 : BitVec 32 := 15#32
  let v277 : BitVec 32 := Scalar.addi v276 c15_i32_132
  let c0_i32_134 : BitVec 32 := 0#32
  let v279 : BitVec 1 := Scalar.cmpi .sgt v277 c0_i32_134
  let v280 : BitVec 32 := Scalar.extui v279
  let c0_i32_135 : BitVec 32 := 0#32
  let v281 : BitVec 1 := Scalar.cmpi .slt v277 c0_i32_135
  let v282 : BitVec 32 := Scalar.extui v281
  let v283 : BitVec 32 := Scalar.subi v280 v282
  let c16_i32_133 : BitVec 32 := 16#32
  let c0_i32_136 : BitVec 32 := 0#32
  let v284 : BitVec 1 := Scalar.cmpi .sgt c16_i32_133 c0_i32_136
  let v285 : BitVec 32 := Scalar.extui v284
  let c0_i32_137 : BitVec 32 := 0#32
  let v286 : BitVec 1 := Scalar.cmpi .slt c16_i32_133 c0_i32_137
  let v287 : BitVec 32 := Scalar.extui v286
  let v288 : BitVec 32 := Scalar.subi v285 v287
  let v289 : BitVec 1 := Scalar.cmpi .ne v283 v288
  let v290 : BitVec 32 := Scalar.remsi v277 c16_i32_133
  let c0_i32_138 : BitVec 32 := 0#32
  let v291 : BitVec 1 := Scalar.cmpi .ne v290 c0_i32_138
  let v292 : BitVec 1 := Scalar.andi v289 v291
  let v278 : BitVec 32 := Scalar.divsi v277 c16_i32_133
  let c1_i32_139 : BitVec 32 := 1#32
  let v293 : BitVec 32 := Scalar.subi v278 c1_i32_139
  let v294 : BitVec 32 := Scalar.select v292 v293 v278
  let v295 : BitVec 32 := Scalar.maxsi c0_i32_140 v294
  let v296 : BitVec 32 := Scalar.subi v295 c0_i32_142
  let c1_i32_143 : BitVec 32 := 1#32
  let v298 : BitVec 32 := Scalar.divsi v296 c1_i32_143
  let v299 : BitVec 32 := Scalar.muli v298 c1_i32_143
  let v300 : BitVec 32 := Scalar.addi c0_i32_142 v299
  let c1_i32_145 : BitVec 32 := 1#32
  let arg26 : BitVec 32 := Scf.iv v300 c1_i32_145 k0_t7
  let v301 : BitVec 32 := Scalar.muli c16_i32_146 arg26
  let v302 : BitVec 32 := Scalar.addi v262 v301
  let v305 : BitVec 32 := Scalar.subi v302 v10
  let c9_i32_205 : BitVec 32 := 9#32
  let v1272 : BitVec 32 := Scalar.addi v305 c9_i32_205
  let v1273 : BitVec 32 := Scalar.muli c16_i32_206 v1272
  let v1274 : Index := Scalar.indexCast v1273
  ![v1274.toNat]

def k0_chk139 (i : grid0.Coords) (v15 : IVec S16 32) (k0_t3 : Fin k0_t3_loop.trips) (k0_t7 : Fin (k0_t7_loop i k0_t3).trips) (v1281 : IVec S16 32) (v1285 : IVec S16 32) (v1287 : IVec S16 32) : Prop :=
  (∀ a x, ((![v15, v1281, v1285, v1287] : Fin 4 → IVec S16 32) a x).toNat < S1x6x16x16.size a)
theorem k0_idx139_inb : ∀ (i : grid0.Coords) (v15 : IVec S16 32) (k0_t3 : Fin k0_t3_loop.trips) (k0_t7 : Fin (k0_t7_loop i k0_t3).trips) (v1281 : IVec S16 32) (v1285 : IVec S16 32) (v1287 : IVec S16 32) (k0_hw139 : k0_chk139 i v15 k0_t3 k0_t7 v1281 v1285 v1287), ∀ a x, ((![v15, v1281, v1285, v1287] : Fin 4 → IVec S16 32) a x).toNat < S1x6x16x16.size a := fun i v15 k0_t3 k0_t7 v1281 v1285 v1287 k0_hw139 => k0_hw139
def k0_off99 (i : grid0.Coords) (k0_t3 : Fin k0_t3_loop.trips) (k0_t7 : Fin (k0_t7_loop i k0_t3).trips) : Fin 1 → Nat :=
  let c16_i32_212 : BitVec 32 := 16#32
  let c0_i32_45 : BitVec 32 := 0#32
  let c1_i32_47 : BitVec 32 := 1#32
  let arg25 : BitVec 32 := Scf.iv c0_i32_45 c1_i32_47 k0_t3
  let c5_i32_118 : BitVec 32 := 5#32
  let v260 : BitVec 1 := Scalar.cmpi .sge arg25 c5_i32_118
  let c3749_i32_119 : BitVec 32 := 3749#32
  let c4_i32_116 : BitVec 32 := 4#32
  let v258 : BitVec 1 := Scalar.cmpi .sge arg25 c4_i32_116
  let c2391_i32_117 : BitVec 32 := 2391#32
  let c3_i32_114 : BitVec 32 := 3#32
  let v256 : BitVec 1 := Scalar.cmpi .sge arg25 c3_i32_114
  let c1417_i32_115 : BitVec 32 := 1417#32
  let c2_i32_112 : BitVec 32 := 2#32
  let v254 : BitVec 1 := Scalar.cmpi .sge arg25 c2_i32_112
  let c763_i32_113 : BitVec 32 := 763#32
  let c1_i32_109 : BitVec 32 := 1#32
  let v252 : BitVec 1 := Scalar.cmpi .sge arg25 c1_i32_109
  let c365_i32_110 : BitVec 32 := 365#32
  let c159_i32_111 : BitVec 32 := 159#32
  let v253 : BitVec 32 := Scalar.select v252 c365_i32_110 c159_i32_111
  let v255 : BitVec 32 := Scalar.select v254 c763_i32_113 v253
  let v257 : BitVec 32 := Scalar.select v256 c1417_i32_115 v255
  let v259 : BitVec 32 := Scalar.select v258 c2391_i32_117 v257
  let v261 : BitVec 32 := Scalar.select v260 c3749_i32_119 v259
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c144_i32 : BitVec 32 := 144#32
  let v10 : BitVec 32 := Scalar.muli v1 c144_i32
  let v262 : BitVec 32 := Scalar.maxsi v261 v10
  let c16_i32_146 : BitVec 32 := 16#32
  let c0_i32_142 : BitVec 32 := 0#32
  let c0_i32_140 : BitVec 32 := 0#32
  let c5_i32_129 : BitVec 32 := 5#32
  let v271 : BitVec 1 := Scalar.cmpi .sge arg25 c5_i32_129
  let c4532_i32_130 : BitVec 32 := 4532#32
  let c4_i32_127 : BitVec 32 := 4#32
  let v269 : BitVec 1 := Scalar.cmpi .sge arg25 c4_i32_127
  let c2966_i32_128 : BitVec 32 := 2966#32
  let c3_i32_125 : BitVec 32 := 3#32
  let v267 : BitVec 1 := Scalar.cmpi .sge arg25 c3_i32_125
  let c1816_i32_126 : BitVec 32 := 1816#32
  let c2_i32_123 : BitVec 32 := 2#32
  let v265 : BitVec 1 := Scalar.cmpi .sge arg25 c2_i32_123
  let c1018_i32_124 : BitVec 32 := 1018#32
  let c1_i32_120 : BitVec 32 := 1#32
  let v263 : BitVec 1 := Scalar.cmpi .sge arg25 c1_i32_120
  let c508_i32_121 : BitVec 32 := 508#32
  let c222_i32_122 : BitVec 32 := 222#32
  let v264 : BitVec 32 := Scalar.select v263 c508_i32_121 c222_i32_122
  let v266 : BitVec 32 := Scalar.select v265 c1018_i32_124 v264
  let v268 : BitVec 32 := Scalar.select v267 c1816_i32_126 v266
  let v270 : BitVec 32 := Scalar.select v269 c2966_i32_128 v268
  let v272 : BitVec 32 := Scalar.select v271 c4532_i32_130 v270
  let c144_i32_23 : BitVec 32 := 144#32
  let v11 : BitVec 32 := Scalar.addi v10 c144_i32_23
  let c4532_i32 : BitVec 32 := 4532#32
  let v12 : BitVec 32 := Scalar.minsi v11 c4532_i32
  let v273 : BitVec 32 := Scalar.minsi v272 v12
  let v276 : BitVec 32 := Scalar.subi v273 v262
  let c15_i32_132 : BitVec 32 := 15#32
  let v277 : BitVec 32 := Scalar.addi v276 c15_i32_132
  let c0_i32_134 : BitVec 32 := 0#32
  let v279 : BitVec 1 := Scalar.cmpi .sgt v277 c0_i32_134
  let v280 : BitVec 32 := Scalar.extui v279
  let c0_i32_135 : BitVec 32 := 0#32
  let v281 : BitVec 1 := Scalar.cmpi .slt v277 c0_i32_135
  let v282 : BitVec 32 := Scalar.extui v281
  let v283 : BitVec 32 := Scalar.subi v280 v282
  let c16_i32_133 : BitVec 32 := 16#32
  let c0_i32_136 : BitVec 32 := 0#32
  let v284 : BitVec 1 := Scalar.cmpi .sgt c16_i32_133 c0_i32_136
  let v285 : BitVec 32 := Scalar.extui v284
  let c0_i32_137 : BitVec 32 := 0#32
  let v286 : BitVec 1 := Scalar.cmpi .slt c16_i32_133 c0_i32_137
  let v287 : BitVec 32 := Scalar.extui v286
  let v288 : BitVec 32 := Scalar.subi v285 v287
  let v289 : BitVec 1 := Scalar.cmpi .ne v283 v288
  let v290 : BitVec 32 := Scalar.remsi v277 c16_i32_133
  let c0_i32_138 : BitVec 32 := 0#32
  let v291 : BitVec 1 := Scalar.cmpi .ne v290 c0_i32_138
  let v292 : BitVec 1 := Scalar.andi v289 v291
  let v278 : BitVec 32 := Scalar.divsi v277 c16_i32_133
  let c1_i32_139 : BitVec 32 := 1#32
  let v293 : BitVec 32 := Scalar.subi v278 c1_i32_139
  let v294 : BitVec 32 := Scalar.select v292 v293 v278
  let v295 : BitVec 32 := Scalar.maxsi c0_i32_140 v294
  let v296 : BitVec 32 := Scalar.subi v295 c0_i32_142
  let c1_i32_143 : BitVec 32 := 1#32
  let v298 : BitVec 32 := Scalar.divsi v296 c1_i32_143
  let v299 : BitVec 32 := Scalar.muli v298 c1_i32_143
  let v300 : BitVec 32 := Scalar.addi c0_i32_142 v299
  let c1_i32_145 : BitVec 32 := 1#32
  let arg26 : BitVec 32 := Scf.iv v300 c1_i32_145 k0_t7
  let v301 : BitVec 32 := Scalar.muli c16_i32_146 arg26
  let v302 : BitVec 32 := Scalar.addi v262 v301
  let v305 : BitVec 32 := Scalar.subi v302 v10
  let c10_i32_211 : BitVec 32 := 10#32
  let v1369 : BitVec 32 := Scalar.addi v305 c10_i32_211
  let v1370 : BitVec 32 := Scalar.muli c16_i32_212 v1369
  let v1371 : Index := Scalar.indexCast v1370
  ![v1371.toNat]

def k0_chk140 (i : grid0.Coords) (v15 : IVec S16 32) (k0_t3 : Fin k0_t3_loop.trips) (k0_t7 : Fin (k0_t7_loop i k0_t3).trips) (v1378 : IVec S16 32) (v1382 : IVec S16 32) (v1384 : IVec S16 32) : Prop :=
  (∀ a x, ((![v15, v1378, v1382, v1384] : Fin 4 → IVec S16 32) a x).toNat < S1x6x16x16.size a)
theorem k0_idx140_inb : ∀ (i : grid0.Coords) (v15 : IVec S16 32) (k0_t3 : Fin k0_t3_loop.trips) (k0_t7 : Fin (k0_t7_loop i k0_t3).trips) (v1378 : IVec S16 32) (v1382 : IVec S16 32) (v1384 : IVec S16 32) (k0_hw140 : k0_chk140 i v15 k0_t3 k0_t7 v1378 v1382 v1384), ∀ a x, ((![v15, v1378, v1382, v1384] : Fin 4 → IVec S16 32) a x).toNat < S1x6x16x16.size a := fun i v15 k0_t3 k0_t7 v1378 v1382 v1384 k0_hw140 => k0_hw140
def k0_off100 (i : grid0.Coords) (k0_t3 : Fin k0_t3_loop.trips) (k0_t7 : Fin (k0_t7_loop i k0_t3).trips) : Fin 1 → Nat :=
  let c16_i32_218 : BitVec 32 := 16#32
  let c0_i32_45 : BitVec 32 := 0#32
  let c1_i32_47 : BitVec 32 := 1#32
  let arg25 : BitVec 32 := Scf.iv c0_i32_45 c1_i32_47 k0_t3
  let c5_i32_118 : BitVec 32 := 5#32
  let v260 : BitVec 1 := Scalar.cmpi .sge arg25 c5_i32_118
  let c3749_i32_119 : BitVec 32 := 3749#32
  let c4_i32_116 : BitVec 32 := 4#32
  let v258 : BitVec 1 := Scalar.cmpi .sge arg25 c4_i32_116
  let c2391_i32_117 : BitVec 32 := 2391#32
  let c3_i32_114 : BitVec 32 := 3#32
  let v256 : BitVec 1 := Scalar.cmpi .sge arg25 c3_i32_114
  let c1417_i32_115 : BitVec 32 := 1417#32
  let c2_i32_112 : BitVec 32 := 2#32
  let v254 : BitVec 1 := Scalar.cmpi .sge arg25 c2_i32_112
  let c763_i32_113 : BitVec 32 := 763#32
  let c1_i32_109 : BitVec 32 := 1#32
  let v252 : BitVec 1 := Scalar.cmpi .sge arg25 c1_i32_109
  let c365_i32_110 : BitVec 32 := 365#32
  let c159_i32_111 : BitVec 32 := 159#32
  let v253 : BitVec 32 := Scalar.select v252 c365_i32_110 c159_i32_111
  let v255 : BitVec 32 := Scalar.select v254 c763_i32_113 v253
  let v257 : BitVec 32 := Scalar.select v256 c1417_i32_115 v255
  let v259 : BitVec 32 := Scalar.select v258 c2391_i32_117 v257
  let v261 : BitVec 32 := Scalar.select v260 c3749_i32_119 v259
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c144_i32 : BitVec 32 := 144#32
  let v10 : BitVec 32 := Scalar.muli v1 c144_i32
  let v262 : BitVec 32 := Scalar.maxsi v261 v10
  let c16_i32_146 : BitVec 32 := 16#32
  let c0_i32_142 : BitVec 32 := 0#32
  let c0_i32_140 : BitVec 32 := 0#32
  let c5_i32_129 : BitVec 32 := 5#32
  let v271 : BitVec 1 := Scalar.cmpi .sge arg25 c5_i32_129
  let c4532_i32_130 : BitVec 32 := 4532#32
  let c4_i32_127 : BitVec 32 := 4#32
  let v269 : BitVec 1 := Scalar.cmpi .sge arg25 c4_i32_127
  let c2966_i32_128 : BitVec 32 := 2966#32
  let c3_i32_125 : BitVec 32 := 3#32
  let v267 : BitVec 1 := Scalar.cmpi .sge arg25 c3_i32_125
  let c1816_i32_126 : BitVec 32 := 1816#32
  let c2_i32_123 : BitVec 32 := 2#32
  let v265 : BitVec 1 := Scalar.cmpi .sge arg25 c2_i32_123
  let c1018_i32_124 : BitVec 32 := 1018#32
  let c1_i32_120 : BitVec 32 := 1#32
  let v263 : BitVec 1 := Scalar.cmpi .sge arg25 c1_i32_120
  let c508_i32_121 : BitVec 32 := 508#32
  let c222_i32_122 : BitVec 32 := 222#32
  let v264 : BitVec 32 := Scalar.select v263 c508_i32_121 c222_i32_122
  let v266 : BitVec 32 := Scalar.select v265 c1018_i32_124 v264
  let v268 : BitVec 32 := Scalar.select v267 c1816_i32_126 v266
  let v270 : BitVec 32 := Scalar.select v269 c2966_i32_128 v268
  let v272 : BitVec 32 := Scalar.select v271 c4532_i32_130 v270
  let c144_i32_23 : BitVec 32 := 144#32
  let v11 : BitVec 32 := Scalar.addi v10 c144_i32_23
  let c4532_i32 : BitVec 32 := 4532#32
  let v12 : BitVec 32 := Scalar.minsi v11 c4532_i32
  let v273 : BitVec 32 := Scalar.minsi v272 v12
  let v276 : BitVec 32 := Scalar.subi v273 v262
  let c15_i32_132 : BitVec 32 := 15#32
  let v277 : BitVec 32 := Scalar.addi v276 c15_i32_132
  let c0_i32_134 : BitVec 32 := 0#32
  let v279 : BitVec 1 := Scalar.cmpi .sgt v277 c0_i32_134
  let v280 : BitVec 32 := Scalar.extui v279
  let c0_i32_135 : BitVec 32 := 0#32
  let v281 : BitVec 1 := Scalar.cmpi .slt v277 c0_i32_135
  let v282 : BitVec 32 := Scalar.extui v281
  let v283 : BitVec 32 := Scalar.subi v280 v282
  let c16_i32_133 : BitVec 32 := 16#32
  let c0_i32_136 : BitVec 32 := 0#32
  let v284 : BitVec 1 := Scalar.cmpi .sgt c16_i32_133 c0_i32_136
  let v285 : BitVec 32 := Scalar.extui v284
  let c0_i32_137 : BitVec 32 := 0#32
  let v286 : BitVec 1 := Scalar.cmpi .slt c16_i32_133 c0_i32_137
  let v287 : BitVec 32 := Scalar.extui v286
  let v288 : BitVec 32 := Scalar.subi v285 v287
  let v289 : BitVec 1 := Scalar.cmpi .ne v283 v288
  let v290 : BitVec 32 := Scalar.remsi v277 c16_i32_133
  let c0_i32_138 : BitVec 32 := 0#32
  let v291 : BitVec 1 := Scalar.cmpi .ne v290 c0_i32_138
  let v292 : BitVec 1 := Scalar.andi v289 v291
  let v278 : BitVec 32 := Scalar.divsi v277 c16_i32_133
  let c1_i32_139 : BitVec 32 := 1#32
  let v293 : BitVec 32 := Scalar.subi v278 c1_i32_139
  let v294 : BitVec 32 := Scalar.select v292 v293 v278
  let v295 : BitVec 32 := Scalar.maxsi c0_i32_140 v294
  let v296 : BitVec 32 := Scalar.subi v295 c0_i32_142
  let c1_i32_143 : BitVec 32 := 1#32
  let v298 : BitVec 32 := Scalar.divsi v296 c1_i32_143
  let v299 : BitVec 32 := Scalar.muli v298 c1_i32_143
  let v300 : BitVec 32 := Scalar.addi c0_i32_142 v299
  let c1_i32_145 : BitVec 32 := 1#32
  let arg26 : BitVec 32 := Scf.iv v300 c1_i32_145 k0_t7
  let v301 : BitVec 32 := Scalar.muli c16_i32_146 arg26
  let v302 : BitVec 32 := Scalar.addi v262 v301
  let v305 : BitVec 32 := Scalar.subi v302 v10
  let c11_i32_217 : BitVec 32 := 11#32
  let v1466 : BitVec 32 := Scalar.addi v305 c11_i32_217
  let v1467 : BitVec 32 := Scalar.muli c16_i32_218 v1466
  let v1468 : Index := Scalar.indexCast v1467
  ![v1468.toNat]

def k0_chk141 (i : grid0.Coords) (v15 : IVec S16 32) (k0_t3 : Fin k0_t3_loop.trips) (k0_t7 : Fin (k0_t7_loop i k0_t3).trips) (v1475 : IVec S16 32) (v1479 : IVec S16 32) (v1481 : IVec S16 32) : Prop :=
  (∀ a x, ((![v15, v1475, v1479, v1481] : Fin 4 → IVec S16 32) a x).toNat < S1x6x16x16.size a)
theorem k0_idx141_inb : ∀ (i : grid0.Coords) (v15 : IVec S16 32) (k0_t3 : Fin k0_t3_loop.trips) (k0_t7 : Fin (k0_t7_loop i k0_t3).trips) (v1475 : IVec S16 32) (v1479 : IVec S16 32) (v1481 : IVec S16 32) (k0_hw141 : k0_chk141 i v15 k0_t3 k0_t7 v1475 v1479 v1481), ∀ a x, ((![v15, v1475, v1479, v1481] : Fin 4 → IVec S16 32) a x).toNat < S1x6x16x16.size a := fun i v15 k0_t3 k0_t7 v1475 v1479 v1481 k0_hw141 => k0_hw141
def k0_off101 (i : grid0.Coords) (k0_t3 : Fin k0_t3_loop.trips) (k0_t7 : Fin (k0_t7_loop i k0_t3).trips) : Fin 1 → Nat :=
  let c16_i32_224 : BitVec 32 := 16#32
  let c0_i32_45 : BitVec 32 := 0#32
  let c1_i32_47 : BitVec 32 := 1#32
  let arg25 : BitVec 32 := Scf.iv c0_i32_45 c1_i32_47 k0_t3
  let c5_i32_118 : BitVec 32 := 5#32
  let v260 : BitVec 1 := Scalar.cmpi .sge arg25 c5_i32_118
  let c3749_i32_119 : BitVec 32 := 3749#32
  let c4_i32_116 : BitVec 32 := 4#32
  let v258 : BitVec 1 := Scalar.cmpi .sge arg25 c4_i32_116
  let c2391_i32_117 : BitVec 32 := 2391#32
  let c3_i32_114 : BitVec 32 := 3#32
  let v256 : BitVec 1 := Scalar.cmpi .sge arg25 c3_i32_114
  let c1417_i32_115 : BitVec 32 := 1417#32
  let c2_i32_112 : BitVec 32 := 2#32
  let v254 : BitVec 1 := Scalar.cmpi .sge arg25 c2_i32_112
  let c763_i32_113 : BitVec 32 := 763#32
  let c1_i32_109 : BitVec 32 := 1#32
  let v252 : BitVec 1 := Scalar.cmpi .sge arg25 c1_i32_109
  let c365_i32_110 : BitVec 32 := 365#32
  let c159_i32_111 : BitVec 32 := 159#32
  let v253 : BitVec 32 := Scalar.select v252 c365_i32_110 c159_i32_111
  let v255 : BitVec 32 := Scalar.select v254 c763_i32_113 v253
  let v257 : BitVec 32 := Scalar.select v256 c1417_i32_115 v255
  let v259 : BitVec 32 := Scalar.select v258 c2391_i32_117 v257
  let v261 : BitVec 32 := Scalar.select v260 c3749_i32_119 v259
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c144_i32 : BitVec 32 := 144#32
  let v10 : BitVec 32 := Scalar.muli v1 c144_i32
  let v262 : BitVec 32 := Scalar.maxsi v261 v10
  let c16_i32_146 : BitVec 32 := 16#32
  let c0_i32_142 : BitVec 32 := 0#32
  let c0_i32_140 : BitVec 32 := 0#32
  let c5_i32_129 : BitVec 32 := 5#32
  let v271 : BitVec 1 := Scalar.cmpi .sge arg25 c5_i32_129
  let c4532_i32_130 : BitVec 32 := 4532#32
  let c4_i32_127 : BitVec 32 := 4#32
  let v269 : BitVec 1 := Scalar.cmpi .sge arg25 c4_i32_127
  let c2966_i32_128 : BitVec 32 := 2966#32
  let c3_i32_125 : BitVec 32 := 3#32
  let v267 : BitVec 1 := Scalar.cmpi .sge arg25 c3_i32_125
  let c1816_i32_126 : BitVec 32 := 1816#32
  let c2_i32_123 : BitVec 32 := 2#32
  let v265 : BitVec 1 := Scalar.cmpi .sge arg25 c2_i32_123
  let c1018_i32_124 : BitVec 32 := 1018#32
  let c1_i32_120 : BitVec 32 := 1#32
  let v263 : BitVec 1 := Scalar.cmpi .sge arg25 c1_i32_120
  let c508_i32_121 : BitVec 32 := 508#32
  let c222_i32_122 : BitVec 32 := 222#32
  let v264 : BitVec 32 := Scalar.select v263 c508_i32_121 c222_i32_122
  let v266 : BitVec 32 := Scalar.select v265 c1018_i32_124 v264
  let v268 : BitVec 32 := Scalar.select v267 c1816_i32_126 v266
  let v270 : BitVec 32 := Scalar.select v269 c2966_i32_128 v268
  let v272 : BitVec 32 := Scalar.select v271 c4532_i32_130 v270
  let c144_i32_23 : BitVec 32 := 144#32
  let v11 : BitVec 32 := Scalar.addi v10 c144_i32_23
  let c4532_i32 : BitVec 32 := 4532#32
  let v12 : BitVec 32 := Scalar.minsi v11 c4532_i32
  let v273 : BitVec 32 := Scalar.minsi v272 v12
  let v276 : BitVec 32 := Scalar.subi v273 v262
  let c15_i32_132 : BitVec 32 := 15#32
  let v277 : BitVec 32 := Scalar.addi v276 c15_i32_132
  let c0_i32_134 : BitVec 32 := 0#32
  let v279 : BitVec 1 := Scalar.cmpi .sgt v277 c0_i32_134
  let v280 : BitVec 32 := Scalar.extui v279
  let c0_i32_135 : BitVec 32 := 0#32
  let v281 : BitVec 1 := Scalar.cmpi .slt v277 c0_i32_135
  let v282 : BitVec 32 := Scalar.extui v281
  let v283 : BitVec 32 := Scalar.subi v280 v282
  let c16_i32_133 : BitVec 32 := 16#32
  let c0_i32_136 : BitVec 32 := 0#32
  let v284 : BitVec 1 := Scalar.cmpi .sgt c16_i32_133 c0_i32_136
  let v285 : BitVec 32 := Scalar.extui v284
  let c0_i32_137 : BitVec 32 := 0#32
  let v286 : BitVec 1 := Scalar.cmpi .slt c16_i32_133 c0_i32_137
  let v287 : BitVec 32 := Scalar.extui v286
  let v288 : BitVec 32 := Scalar.subi v285 v287
  let v289 : BitVec 1 := Scalar.cmpi .ne v283 v288
  let v290 : BitVec 32 := Scalar.remsi v277 c16_i32_133
  let c0_i32_138 : BitVec 32 := 0#32
  let v291 : BitVec 1 := Scalar.cmpi .ne v290 c0_i32_138
  let v292 : BitVec 1 := Scalar.andi v289 v291
  let v278 : BitVec 32 := Scalar.divsi v277 c16_i32_133
  let c1_i32_139 : BitVec 32 := 1#32
  let v293 : BitVec 32 := Scalar.subi v278 c1_i32_139
  let v294 : BitVec 32 := Scalar.select v292 v293 v278
  let v295 : BitVec 32 := Scalar.maxsi c0_i32_140 v294
  let v296 : BitVec 32 := Scalar.subi v295 c0_i32_142
  let c1_i32_143 : BitVec 32 := 1#32
  let v298 : BitVec 32 := Scalar.divsi v296 c1_i32_143
  let v299 : BitVec 32 := Scalar.muli v298 c1_i32_143
  let v300 : BitVec 32 := Scalar.addi c0_i32_142 v299
  let c1_i32_145 : BitVec 32 := 1#32
  let arg26 : BitVec 32 := Scf.iv v300 c1_i32_145 k0_t7
  let v301 : BitVec 32 := Scalar.muli c16_i32_146 arg26
  let v302 : BitVec 32 := Scalar.addi v262 v301
  let v305 : BitVec 32 := Scalar.subi v302 v10
  let c12_i32_223 : BitVec 32 := 12#32
  let v1563 : BitVec 32 := Scalar.addi v305 c12_i32_223
  let v1564 : BitVec 32 := Scalar.muli c16_i32_224 v1563
  let v1565 : Index := Scalar.indexCast v1564
  ![v1565.toNat]

def k0_chk142 (i : grid0.Coords) (v15 : IVec S16 32) (k0_t3 : Fin k0_t3_loop.trips) (k0_t7 : Fin (k0_t7_loop i k0_t3).trips) (v1572 : IVec S16 32) (v1576 : IVec S16 32) (v1578 : IVec S16 32) : Prop :=
  (∀ a x, ((![v15, v1572, v1576, v1578] : Fin 4 → IVec S16 32) a x).toNat < S1x6x16x16.size a)
theorem k0_idx142_inb : ∀ (i : grid0.Coords) (v15 : IVec S16 32) (k0_t3 : Fin k0_t3_loop.trips) (k0_t7 : Fin (k0_t7_loop i k0_t3).trips) (v1572 : IVec S16 32) (v1576 : IVec S16 32) (v1578 : IVec S16 32) (k0_hw142 : k0_chk142 i v15 k0_t3 k0_t7 v1572 v1576 v1578), ∀ a x, ((![v15, v1572, v1576, v1578] : Fin 4 → IVec S16 32) a x).toNat < S1x6x16x16.size a := fun i v15 k0_t3 k0_t7 v1572 v1576 v1578 k0_hw142 => k0_hw142
def k0_off102 (i : grid0.Coords) (k0_t3 : Fin k0_t3_loop.trips) (k0_t7 : Fin (k0_t7_loop i k0_t3).trips) : Fin 1 → Nat :=
  let c16_i32_230 : BitVec 32 := 16#32
  let c0_i32_45 : BitVec 32 := 0#32
  let c1_i32_47 : BitVec 32 := 1#32
  let arg25 : BitVec 32 := Scf.iv c0_i32_45 c1_i32_47 k0_t3
  let c5_i32_118 : BitVec 32 := 5#32
  let v260 : BitVec 1 := Scalar.cmpi .sge arg25 c5_i32_118
  let c3749_i32_119 : BitVec 32 := 3749#32
  let c4_i32_116 : BitVec 32 := 4#32
  let v258 : BitVec 1 := Scalar.cmpi .sge arg25 c4_i32_116
  let c2391_i32_117 : BitVec 32 := 2391#32
  let c3_i32_114 : BitVec 32 := 3#32
  let v256 : BitVec 1 := Scalar.cmpi .sge arg25 c3_i32_114
  let c1417_i32_115 : BitVec 32 := 1417#32
  let c2_i32_112 : BitVec 32 := 2#32
  let v254 : BitVec 1 := Scalar.cmpi .sge arg25 c2_i32_112
  let c763_i32_113 : BitVec 32 := 763#32
  let c1_i32_109 : BitVec 32 := 1#32
  let v252 : BitVec 1 := Scalar.cmpi .sge arg25 c1_i32_109
  let c365_i32_110 : BitVec 32 := 365#32
  let c159_i32_111 : BitVec 32 := 159#32
  let v253 : BitVec 32 := Scalar.select v252 c365_i32_110 c159_i32_111
  let v255 : BitVec 32 := Scalar.select v254 c763_i32_113 v253
  let v257 : BitVec 32 := Scalar.select v256 c1417_i32_115 v255
  let v259 : BitVec 32 := Scalar.select v258 c2391_i32_117 v257
  let v261 : BitVec 32 := Scalar.select v260 c3749_i32_119 v259
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c144_i32 : BitVec 32 := 144#32
  let v10 : BitVec 32 := Scalar.muli v1 c144_i32
  let v262 : BitVec 32 := Scalar.maxsi v261 v10
  let c16_i32_146 : BitVec 32 := 16#32
  let c0_i32_142 : BitVec 32 := 0#32
  let c0_i32_140 : BitVec 32 := 0#32
  let c5_i32_129 : BitVec 32 := 5#32
  let v271 : BitVec 1 := Scalar.cmpi .sge arg25 c5_i32_129
  let c4532_i32_130 : BitVec 32 := 4532#32
  let c4_i32_127 : BitVec 32 := 4#32
  let v269 : BitVec 1 := Scalar.cmpi .sge arg25 c4_i32_127
  let c2966_i32_128 : BitVec 32 := 2966#32
  let c3_i32_125 : BitVec 32 := 3#32
  let v267 : BitVec 1 := Scalar.cmpi .sge arg25 c3_i32_125
  let c1816_i32_126 : BitVec 32 := 1816#32
  let c2_i32_123 : BitVec 32 := 2#32
  let v265 : BitVec 1 := Scalar.cmpi .sge arg25 c2_i32_123
  let c1018_i32_124 : BitVec 32 := 1018#32
  let c1_i32_120 : BitVec 32 := 1#32
  let v263 : BitVec 1 := Scalar.cmpi .sge arg25 c1_i32_120
  let c508_i32_121 : BitVec 32 := 508#32
  let c222_i32_122 : BitVec 32 := 222#32
  let v264 : BitVec 32 := Scalar.select v263 c508_i32_121 c222_i32_122
  let v266 : BitVec 32 := Scalar.select v265 c1018_i32_124 v264
  let v268 : BitVec 32 := Scalar.select v267 c1816_i32_126 v266
  let v270 : BitVec 32 := Scalar.select v269 c2966_i32_128 v268
  let v272 : BitVec 32 := Scalar.select v271 c4532_i32_130 v270
  let c144_i32_23 : BitVec 32 := 144#32
  let v11 : BitVec 32 := Scalar.addi v10 c144_i32_23
  let c4532_i32 : BitVec 32 := 4532#32
  let v12 : BitVec 32 := Scalar.minsi v11 c4532_i32
  let v273 : BitVec 32 := Scalar.minsi v272 v12
  let v276 : BitVec 32 := Scalar.subi v273 v262
  let c15_i32_132 : BitVec 32 := 15#32
  let v277 : BitVec 32 := Scalar.addi v276 c15_i32_132
  let c0_i32_134 : BitVec 32 := 0#32
  let v279 : BitVec 1 := Scalar.cmpi .sgt v277 c0_i32_134
  let v280 : BitVec 32 := Scalar.extui v279
  let c0_i32_135 : BitVec 32 := 0#32
  let v281 : BitVec 1 := Scalar.cmpi .slt v277 c0_i32_135
  let v282 : BitVec 32 := Scalar.extui v281
  let v283 : BitVec 32 := Scalar.subi v280 v282
  let c16_i32_133 : BitVec 32 := 16#32
  let c0_i32_136 : BitVec 32 := 0#32
  let v284 : BitVec 1 := Scalar.cmpi .sgt c16_i32_133 c0_i32_136
  let v285 : BitVec 32 := Scalar.extui v284
  let c0_i32_137 : BitVec 32 := 0#32
  let v286 : BitVec 1 := Scalar.cmpi .slt c16_i32_133 c0_i32_137
  let v287 : BitVec 32 := Scalar.extui v286
  let v288 : BitVec 32 := Scalar.subi v285 v287
  let v289 : BitVec 1 := Scalar.cmpi .ne v283 v288
  let v290 : BitVec 32 := Scalar.remsi v277 c16_i32_133
  let c0_i32_138 : BitVec 32 := 0#32
  let v291 : BitVec 1 := Scalar.cmpi .ne v290 c0_i32_138
  let v292 : BitVec 1 := Scalar.andi v289 v291
  let v278 : BitVec 32 := Scalar.divsi v277 c16_i32_133
  let c1_i32_139 : BitVec 32 := 1#32
  let v293 : BitVec 32 := Scalar.subi v278 c1_i32_139
  let v294 : BitVec 32 := Scalar.select v292 v293 v278
  let v295 : BitVec 32 := Scalar.maxsi c0_i32_140 v294
  let v296 : BitVec 32 := Scalar.subi v295 c0_i32_142
  let c1_i32_143 : BitVec 32 := 1#32
  let v298 : BitVec 32 := Scalar.divsi v296 c1_i32_143
  let v299 : BitVec 32 := Scalar.muli v298 c1_i32_143
  let v300 : BitVec 32 := Scalar.addi c0_i32_142 v299
  let c1_i32_145 : BitVec 32 := 1#32
  let arg26 : BitVec 32 := Scf.iv v300 c1_i32_145 k0_t7
  let v301 : BitVec 32 := Scalar.muli c16_i32_146 arg26
  let v302 : BitVec 32 := Scalar.addi v262 v301
  let v305 : BitVec 32 := Scalar.subi v302 v10
  let c13_i32_229 : BitVec 32 := 13#32
  let v1660 : BitVec 32 := Scalar.addi v305 c13_i32_229
  let v1661 : BitVec 32 := Scalar.muli c16_i32_230 v1660
  let v1662 : Index := Scalar.indexCast v1661
  ![v1662.toNat]

def k0_chk143 (i : grid0.Coords) (v15 : IVec S16 32) (k0_t3 : Fin k0_t3_loop.trips) (k0_t7 : Fin (k0_t7_loop i k0_t3).trips) (v1669 : IVec S16 32) (v1673 : IVec S16 32) (v1675 : IVec S16 32) : Prop :=
  (∀ a x, ((![v15, v1669, v1673, v1675] : Fin 4 → IVec S16 32) a x).toNat < S1x6x16x16.size a)
theorem k0_idx143_inb : ∀ (i : grid0.Coords) (v15 : IVec S16 32) (k0_t3 : Fin k0_t3_loop.trips) (k0_t7 : Fin (k0_t7_loop i k0_t3).trips) (v1669 : IVec S16 32) (v1673 : IVec S16 32) (v1675 : IVec S16 32) (k0_hw143 : k0_chk143 i v15 k0_t3 k0_t7 v1669 v1673 v1675), ∀ a x, ((![v15, v1669, v1673, v1675] : Fin 4 → IVec S16 32) a x).toNat < S1x6x16x16.size a := fun i v15 k0_t3 k0_t7 v1669 v1673 v1675 k0_hw143 => k0_hw143
def k0_off103 (i : grid0.Coords) (k0_t3 : Fin k0_t3_loop.trips) (k0_t7 : Fin (k0_t7_loop i k0_t3).trips) : Fin 1 → Nat :=
  let c16_i32_236 : BitVec 32 := 16#32
  let c0_i32_45 : BitVec 32 := 0#32
  let c1_i32_47 : BitVec 32 := 1#32
  let arg25 : BitVec 32 := Scf.iv c0_i32_45 c1_i32_47 k0_t3
  let c5_i32_118 : BitVec 32 := 5#32
  let v260 : BitVec 1 := Scalar.cmpi .sge arg25 c5_i32_118
  let c3749_i32_119 : BitVec 32 := 3749#32
  let c4_i32_116 : BitVec 32 := 4#32
  let v258 : BitVec 1 := Scalar.cmpi .sge arg25 c4_i32_116
  let c2391_i32_117 : BitVec 32 := 2391#32
  let c3_i32_114 : BitVec 32 := 3#32
  let v256 : BitVec 1 := Scalar.cmpi .sge arg25 c3_i32_114
  let c1417_i32_115 : BitVec 32 := 1417#32
  let c2_i32_112 : BitVec 32 := 2#32
  let v254 : BitVec 1 := Scalar.cmpi .sge arg25 c2_i32_112
  let c763_i32_113 : BitVec 32 := 763#32
  let c1_i32_109 : BitVec 32 := 1#32
  let v252 : BitVec 1 := Scalar.cmpi .sge arg25 c1_i32_109
  let c365_i32_110 : BitVec 32 := 365#32
  let c159_i32_111 : BitVec 32 := 159#32
  let v253 : BitVec 32 := Scalar.select v252 c365_i32_110 c159_i32_111
  let v255 : BitVec 32 := Scalar.select v254 c763_i32_113 v253
  let v257 : BitVec 32 := Scalar.select v256 c1417_i32_115 v255
  let v259 : BitVec 32 := Scalar.select v258 c2391_i32_117 v257
  let v261 : BitVec 32 := Scalar.select v260 c3749_i32_119 v259
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c144_i32 : BitVec 32 := 144#32
  let v10 : BitVec 32 := Scalar.muli v1 c144_i32
  let v262 : BitVec 32 := Scalar.maxsi v261 v10
  let c16_i32_146 : BitVec 32 := 16#32
  let c0_i32_142 : BitVec 32 := 0#32
  let c0_i32_140 : BitVec 32 := 0#32
  let c5_i32_129 : BitVec 32 := 5#32
  let v271 : BitVec 1 := Scalar.cmpi .sge arg25 c5_i32_129
  let c4532_i32_130 : BitVec 32 := 4532#32
  let c4_i32_127 : BitVec 32 := 4#32
  let v269 : BitVec 1 := Scalar.cmpi .sge arg25 c4_i32_127
  let c2966_i32_128 : BitVec 32 := 2966#32
  let c3_i32_125 : BitVec 32 := 3#32
  let v267 : BitVec 1 := Scalar.cmpi .sge arg25 c3_i32_125
  let c1816_i32_126 : BitVec 32 := 1816#32
  let c2_i32_123 : BitVec 32 := 2#32
  let v265 : BitVec 1 := Scalar.cmpi .sge arg25 c2_i32_123
  let c1018_i32_124 : BitVec 32 := 1018#32
  let c1_i32_120 : BitVec 32 := 1#32
  let v263 : BitVec 1 := Scalar.cmpi .sge arg25 c1_i32_120
  let c508_i32_121 : BitVec 32 := 508#32
  let c222_i32_122 : BitVec 32 := 222#32
  let v264 : BitVec 32 := Scalar.select v263 c508_i32_121 c222_i32_122
  let v266 : BitVec 32 := Scalar.select v265 c1018_i32_124 v264
  let v268 : BitVec 32 := Scalar.select v267 c1816_i32_126 v266
  let v270 : BitVec 32 := Scalar.select v269 c2966_i32_128 v268
  let v272 : BitVec 32 := Scalar.select v271 c4532_i32_130 v270
  let c144_i32_23 : BitVec 32 := 144#32
  let v11 : BitVec 32 := Scalar.addi v10 c144_i32_23
  let c4532_i32 : BitVec 32 := 4532#32
  let v12 : BitVec 32 := Scalar.minsi v11 c4532_i32
  let v273 : BitVec 32 := Scalar.minsi v272 v12
  let v276 : BitVec 32 := Scalar.subi v273 v262
  let c15_i32_132 : BitVec 32 := 15#32
  let v277 : BitVec 32 := Scalar.addi v276 c15_i32_132
  let c0_i32_134 : BitVec 32 := 0#32
  let v279 : BitVec 1 := Scalar.cmpi .sgt v277 c0_i32_134
  let v280 : BitVec 32 := Scalar.extui v279
  let c0_i32_135 : BitVec 32 := 0#32
  let v281 : BitVec 1 := Scalar.cmpi .slt v277 c0_i32_135
  let v282 : BitVec 32 := Scalar.extui v281
  let v283 : BitVec 32 := Scalar.subi v280 v282
  let c16_i32_133 : BitVec 32 := 16#32
  let c0_i32_136 : BitVec 32 := 0#32
  let v284 : BitVec 1 := Scalar.cmpi .sgt c16_i32_133 c0_i32_136
  let v285 : BitVec 32 := Scalar.extui v284
  let c0_i32_137 : BitVec 32 := 0#32
  let v286 : BitVec 1 := Scalar.cmpi .slt c16_i32_133 c0_i32_137
  let v287 : BitVec 32 := Scalar.extui v286
  let v288 : BitVec 32 := Scalar.subi v285 v287
  let v289 : BitVec 1 := Scalar.cmpi .ne v283 v288
  let v290 : BitVec 32 := Scalar.remsi v277 c16_i32_133
  let c0_i32_138 : BitVec 32 := 0#32
  let v291 : BitVec 1 := Scalar.cmpi .ne v290 c0_i32_138
  let v292 : BitVec 1 := Scalar.andi v289 v291
  let v278 : BitVec 32 := Scalar.divsi v277 c16_i32_133
  let c1_i32_139 : BitVec 32 := 1#32
  let v293 : BitVec 32 := Scalar.subi v278 c1_i32_139
  let v294 : BitVec 32 := Scalar.select v292 v293 v278
  let v295 : BitVec 32 := Scalar.maxsi c0_i32_140 v294
  let v296 : BitVec 32 := Scalar.subi v295 c0_i32_142
  let c1_i32_143 : BitVec 32 := 1#32
  let v298 : BitVec 32 := Scalar.divsi v296 c1_i32_143
  let v299 : BitVec 32 := Scalar.muli v298 c1_i32_143
  let v300 : BitVec 32 := Scalar.addi c0_i32_142 v299
  let c1_i32_145 : BitVec 32 := 1#32
  let arg26 : BitVec 32 := Scf.iv v300 c1_i32_145 k0_t7
  let v301 : BitVec 32 := Scalar.muli c16_i32_146 arg26
  let v302 : BitVec 32 := Scalar.addi v262 v301
  let v305 : BitVec 32 := Scalar.subi v302 v10
  let c14_i32_235 : BitVec 32 := 14#32
  let v1757 : BitVec 32 := Scalar.addi v305 c14_i32_235
  let v1758 : BitVec 32 := Scalar.muli c16_i32_236 v1757
  let v1759 : Index := Scalar.indexCast v1758
  ![v1759.toNat]

def k0_chk144 (i : grid0.Coords) (v15 : IVec S16 32) (k0_t3 : Fin k0_t3_loop.trips) (k0_t7 : Fin (k0_t7_loop i k0_t3).trips) (v1766 : IVec S16 32) (v1770 : IVec S16 32) (v1772 : IVec S16 32) : Prop :=
  (∀ a x, ((![v15, v1766, v1770, v1772] : Fin 4 → IVec S16 32) a x).toNat < S1x6x16x16.size a)
theorem k0_idx144_inb : ∀ (i : grid0.Coords) (v15 : IVec S16 32) (k0_t3 : Fin k0_t3_loop.trips) (k0_t7 : Fin (k0_t7_loop i k0_t3).trips) (v1766 : IVec S16 32) (v1770 : IVec S16 32) (v1772 : IVec S16 32) (k0_hw144 : k0_chk144 i v15 k0_t3 k0_t7 v1766 v1770 v1772), ∀ a x, ((![v15, v1766, v1770, v1772] : Fin 4 → IVec S16 32) a x).toNat < S1x6x16x16.size a := fun i v15 k0_t3 k0_t7 v1766 v1770 v1772 k0_hw144 => k0_hw144
def k0_off104 (i : grid0.Coords) (k0_t3 : Fin k0_t3_loop.trips) (k0_t7 : Fin (k0_t7_loop i k0_t3).trips) : Fin 1 → Nat :=
  let c16_i32_242 : BitVec 32 := 16#32
  let c0_i32_45 : BitVec 32 := 0#32
  let c1_i32_47 : BitVec 32 := 1#32
  let arg25 : BitVec 32 := Scf.iv c0_i32_45 c1_i32_47 k0_t3
  let c5_i32_118 : BitVec 32 := 5#32
  let v260 : BitVec 1 := Scalar.cmpi .sge arg25 c5_i32_118
  let c3749_i32_119 : BitVec 32 := 3749#32
  let c4_i32_116 : BitVec 32 := 4#32
  let v258 : BitVec 1 := Scalar.cmpi .sge arg25 c4_i32_116
  let c2391_i32_117 : BitVec 32 := 2391#32
  let c3_i32_114 : BitVec 32 := 3#32
  let v256 : BitVec 1 := Scalar.cmpi .sge arg25 c3_i32_114
  let c1417_i32_115 : BitVec 32 := 1417#32
  let c2_i32_112 : BitVec 32 := 2#32
  let v254 : BitVec 1 := Scalar.cmpi .sge arg25 c2_i32_112
  let c763_i32_113 : BitVec 32 := 763#32
  let c1_i32_109 : BitVec 32 := 1#32
  let v252 : BitVec 1 := Scalar.cmpi .sge arg25 c1_i32_109
  let c365_i32_110 : BitVec 32 := 365#32
  let c159_i32_111 : BitVec 32 := 159#32
  let v253 : BitVec 32 := Scalar.select v252 c365_i32_110 c159_i32_111
  let v255 : BitVec 32 := Scalar.select v254 c763_i32_113 v253
  let v257 : BitVec 32 := Scalar.select v256 c1417_i32_115 v255
  let v259 : BitVec 32 := Scalar.select v258 c2391_i32_117 v257
  let v261 : BitVec 32 := Scalar.select v260 c3749_i32_119 v259
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c144_i32 : BitVec 32 := 144#32
  let v10 : BitVec 32 := Scalar.muli v1 c144_i32
  let v262 : BitVec 32 := Scalar.maxsi v261 v10
  let c16_i32_146 : BitVec 32 := 16#32
  let c0_i32_142 : BitVec 32 := 0#32
  let c0_i32_140 : BitVec 32 := 0#32
  let c5_i32_129 : BitVec 32 := 5#32
  let v271 : BitVec 1 := Scalar.cmpi .sge arg25 c5_i32_129
  let c4532_i32_130 : BitVec 32 := 4532#32
  let c4_i32_127 : BitVec 32 := 4#32
  let v269 : BitVec 1 := Scalar.cmpi .sge arg25 c4_i32_127
  let c2966_i32_128 : BitVec 32 := 2966#32
  let c3_i32_125 : BitVec 32 := 3#32
  let v267 : BitVec 1 := Scalar.cmpi .sge arg25 c3_i32_125
  let c1816_i32_126 : BitVec 32 := 1816#32
  let c2_i32_123 : BitVec 32 := 2#32
  let v265 : BitVec 1 := Scalar.cmpi .sge arg25 c2_i32_123
  let c1018_i32_124 : BitVec 32 := 1018#32
  let c1_i32_120 : BitVec 32 := 1#32
  let v263 : BitVec 1 := Scalar.cmpi .sge arg25 c1_i32_120
  let c508_i32_121 : BitVec 32 := 508#32
  let c222_i32_122 : BitVec 32 := 222#32
  let v264 : BitVec 32 := Scalar.select v263 c508_i32_121 c222_i32_122
  let v266 : BitVec 32 := Scalar.select v265 c1018_i32_124 v264
  let v268 : BitVec 32 := Scalar.select v267 c1816_i32_126 v266
  let v270 : BitVec 32 := Scalar.select v269 c2966_i32_128 v268
  let v272 : BitVec 32 := Scalar.select v271 c4532_i32_130 v270
  let c144_i32_23 : BitVec 32 := 144#32
  let v11 : BitVec 32 := Scalar.addi v10 c144_i32_23
  let c4532_i32 : BitVec 32 := 4532#32
  let v12 : BitVec 32 := Scalar.minsi v11 c4532_i32
  let v273 : BitVec 32 := Scalar.minsi v272 v12
  let v276 : BitVec 32 := Scalar.subi v273 v262
  let c15_i32_132 : BitVec 32 := 15#32
  let v277 : BitVec 32 := Scalar.addi v276 c15_i32_132
  let c0_i32_134 : BitVec 32 := 0#32
  let v279 : BitVec 1 := Scalar.cmpi .sgt v277 c0_i32_134
  let v280 : BitVec 32 := Scalar.extui v279
  let c0_i32_135 : BitVec 32 := 0#32
  let v281 : BitVec 1 := Scalar.cmpi .slt v277 c0_i32_135
  let v282 : BitVec 32 := Scalar.extui v281
  let v283 : BitVec 32 := Scalar.subi v280 v282
  let c16_i32_133 : BitVec 32 := 16#32
  let c0_i32_136 : BitVec 32 := 0#32
  let v284 : BitVec 1 := Scalar.cmpi .sgt c16_i32_133 c0_i32_136
  let v285 : BitVec 32 := Scalar.extui v284
  let c0_i32_137 : BitVec 32 := 0#32
  let v286 : BitVec 1 := Scalar.cmpi .slt c16_i32_133 c0_i32_137
  let v287 : BitVec 32 := Scalar.extui v286
  let v288 : BitVec 32 := Scalar.subi v285 v287
  let v289 : BitVec 1 := Scalar.cmpi .ne v283 v288
  let v290 : BitVec 32 := Scalar.remsi v277 c16_i32_133
  let c0_i32_138 : BitVec 32 := 0#32
  let v291 : BitVec 1 := Scalar.cmpi .ne v290 c0_i32_138
  let v292 : BitVec 1 := Scalar.andi v289 v291
  let v278 : BitVec 32 := Scalar.divsi v277 c16_i32_133
  let c1_i32_139 : BitVec 32 := 1#32
  let v293 : BitVec 32 := Scalar.subi v278 c1_i32_139
  let v294 : BitVec 32 := Scalar.select v292 v293 v278
  let v295 : BitVec 32 := Scalar.maxsi c0_i32_140 v294
  let v296 : BitVec 32 := Scalar.subi v295 c0_i32_142
  let c1_i32_143 : BitVec 32 := 1#32
  let v298 : BitVec 32 := Scalar.divsi v296 c1_i32_143
  let v299 : BitVec 32 := Scalar.muli v298 c1_i32_143
  let v300 : BitVec 32 := Scalar.addi c0_i32_142 v299
  let c1_i32_145 : BitVec 32 := 1#32
  let arg26 : BitVec 32 := Scf.iv v300 c1_i32_145 k0_t7
  let v301 : BitVec 32 := Scalar.muli c16_i32_146 arg26
  let v302 : BitVec 32 := Scalar.addi v262 v301
  let v305 : BitVec 32 := Scalar.subi v302 v10
  let c15_i32_241 : BitVec 32 := 15#32
  let v1854 : BitVec 32 := Scalar.addi v305 c15_i32_241
  let v1855 : BitVec 32 := Scalar.muli c16_i32_242 v1854
  let v1856 : Index := Scalar.indexCast v1855
  ![v1856.toNat]
def k0_cond1 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32 : BitVec 32 := 31#32
  let v99 : BitVec 1 := Scalar.cmpi .slt v1 c31_i32
  let v100 : BitVec 32 := Scalar.extui v99
  let c0_i32_49 : BitVec 32 := 0#32
  let v101 : BitVec 1 := Scalar.cmpi .ne v100 c0_i32_49
  v101

def k0_off105 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c144_i32 : BitVec 32 := 144#32
  let v10 : BitVec 32 := Scalar.muli v1 c144_i32
  let c16_i32_52 : BitVec 32 := 16#32
  let v105 : BitVec 32 := Scalar.muli v10 c16_i32_52
  ![v105.toNat]
def k0_cond2 (i : grid0.Coords) : BitVec 1 :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c31_i32_50 : BitVec 32 := 31#32
  let v102 : BitVec 1 := Scalar.cmpi .eq v1 c31_i32_50
  let v103 : BitVec 32 := Scalar.extui v102
  let c0_i32_51 : BitVec 32 := 0#32
  let v104 : BitVec 1 := Scalar.cmpi .ne v103 c0_i32_51
  v104

def k0_off106 (i : grid0.Coords) : Fin 1 → Nat :=
  let arg1 : BitVec 32 := BitVec.ofNat 32 (i 1).val
  let c2_i32 : BitVec 32 := 2#32
  let v0 : BitVec 32 := Scalar.muli arg1 c2_i32
  let arg0 : BitVec 32 := BitVec.ofNat 32 (i 0).val
  let v1 : BitVec 32 := Scalar.addi v0 arg0
  let c144_i32 : BitVec 32 := 144#32
  let v10 : BitVec 32 := Scalar.muli v1 c144_i32
  let c16_i32_52 : BitVec 32 := 16#32
  let v105 : BitVec 32 := Scalar.muli v10 c16_i32_52
  ![v105.toNat]
abbrev scKind : Fin 1 → Kind := fun | 0 => .scVector | ⟨_ + 1, h⟩ => absurd h (Nat.not_lt.2 (Nat.le_add_left _ _))
abbrev scNCore : Fin 1 → Nat := fun | 0 => 2 | ⟨_ + 1, h⟩ => absurd h (Nat.not_lt.2 (Nat.le_add_left _ _))
abbrev scNSub : Fin 1 → Nat := fun | 0 => 16 | ⟨_ + 1, h⟩ => absurd h (Nat.not_lt.2 (Nat.le_add_left _ _))
-- ==== ReferenceIdeal.lean ====
abbrev S1x6x16x16 : Shape := ⟨4, ![1, 6, 16, 16]⟩
abbrev S16x16 : Shape := ⟨2, ![16, 16]⟩
abbrev S16x16x16 : Shape := ⟨3, ![16, 16, 16]⟩
abbrev S63 : Shape := ⟨1, ![63]⟩
abbrev S143 : Shape := ⟨1, ![143]⟩
abbrev S255 : Shape := ⟨1, ![255]⟩
abbrev S399 : Shape := ⟨1, ![399]⟩
abbrev S575 : Shape := ⟨1, ![575]⟩
abbrev S783 : Shape := ⟨1, ![783]⟩
abbrev S1x6x4x4x4x4 : Shape := ⟨6, ![1, 6, 4, 4, 4, 4]⟩
abbrev S1x4x4x6x4x4 : Shape := ⟨6, ![1, 4, 4, 6, 4, 4]⟩
abbrev S1x16x6x16 : Shape := ⟨4, ![1, 16, 6, 16]⟩
abbrev S96x16 : Shape := ⟨2, ![96, 16]⟩
abbrev S1x1x16x16 : Shape := ⟨4, ![1, 1, 16, 16]⟩
abbrev S1x1x4x4x4x4 : Shape := ⟨6, ![1, 1, 4, 4, 4, 4]⟩
abbrev S1x4x4x1x4x4 : Shape := ⟨6, ![1, 4, 4, 1, 4, 4]⟩
abbrev S1x16x1x16 : Shape := ⟨4, ![1, 16, 1, 16]⟩
abbrev S1x16x16 : Shape := ⟨3, ![1, 16, 16]⟩
abbrev S_ : Shape := ⟨0, ![]⟩
abbrev S63x1 : Shape := ⟨2, ![63, 1]⟩
abbrev S63x2 : Shape := ⟨2, ![63, 2]⟩
abbrev S63x16 : Shape := ⟨2, ![63, 16]⟩
abbrev S1x16 : Shape := ⟨2, ![1, 16]⟩
abbrev S16 : Shape := ⟨1, ![16]⟩
abbrev S1x2x16x16 : Shape := ⟨4, ![1, 2, 16, 16]⟩
abbrev S1x2x4x4x4x4 : Shape := ⟨6, ![1, 2, 4, 4, 4, 4]⟩
abbrev S1x4x4x2x4x4 : Shape := ⟨6, ![1, 4, 4, 2, 4, 4]⟩
abbrev S1x16x2x16 : Shape := ⟨4, ![1, 16, 2, 16]⟩
abbrev S2x16x16 : Shape := ⟨3, ![2, 16, 16]⟩
abbrev S143x1 : Shape := ⟨2, ![143, 1]⟩
abbrev S143x2 : Shape := ⟨2, ![143, 2]⟩
abbrev S143x16 : Shape := ⟨2, ![143, 16]⟩
abbrev S1x3x16x16 : Shape := ⟨4, ![1, 3, 16, 16]⟩
abbrev S1x3x4x4x4x4 : Shape := ⟨6, ![1, 3, 4, 4, 4, 4]⟩
abbrev S1x4x4x3x4x4 : Shape := ⟨6, ![1, 4, 4, 3, 4, 4]⟩
abbrev S1x16x3x16 : Shape := ⟨4, ![1, 16, 3, 16]⟩
abbrev S3x16x16 : Shape := ⟨3, ![3, 16, 16]⟩
abbrev S255x1 : Shape := ⟨2, ![255, 1]⟩
abbrev S255x2 : Shape := ⟨2, ![255, 2]⟩
abbrev S255x16 : Shape := ⟨2, ![255, 16]⟩
abbrev S1x4x16x16 : Shape := ⟨4, ![1, 4, 16, 16]⟩
abbrev S1x4x4x4x4x4 : Shape := ⟨6, ![1, 4, 4, 4, 4, 4]⟩
abbrev S1x16x4x16 : Shape := ⟨4, ![1, 16, 4, 16]⟩
abbrev S4x16x16 : Shape := ⟨3, ![4, 16, 16]⟩
abbrev S399x1 : Shape := ⟨2, ![399, 1]⟩
abbrev S399x2 : Shape := ⟨2, ![399, 2]⟩
abbrev S399x16 : Shape := ⟨2, ![399, 16]⟩
abbrev S1x5x16x16 : Shape := ⟨4, ![1, 5, 16, 16]⟩
abbrev S1x5x4x4x4x4 : Shape := ⟨6, ![1, 5, 4, 4, 4, 4]⟩
abbrev S1x4x4x5x4x4 : Shape := ⟨6, ![1, 4, 4, 5, 4, 4]⟩
abbrev S1x16x5x16 : Shape := ⟨4, ![1, 16, 5, 16]⟩
abbrev S5x16x16 : Shape := ⟨3, ![5, 16, 16]⟩
abbrev S575x1 : Shape := ⟨2, ![575, 1]⟩
abbrev S575x2 : Shape := ⟨2, ![575, 2]⟩
abbrev S575x16 : Shape := ⟨2, ![575, 16]⟩
abbrev S6x16x16 : Shape := ⟨3, ![6, 16, 16]⟩
abbrev S783x1 : Shape := ⟨2, ![783, 1]⟩
abbrev S783x2 : Shape := ⟨2, ![783, 2]⟩
abbrev S783x16 : Shape := ⟨2, ![783, 16]⟩
abbrev S4532x16 : Shape := ⟨2, ![4532, 16]⟩

abbrev nBuf : Space → Nat
  | .hbm => 260
  | .vmem => 0
  | .smem => 0
  | _ => 0

abbrev hbmTy0_0 (i : Nat) : BufTy := match i % 128 with
  | 0 => ⟨S1x6x16x16, .f32⟩
  | 1 => ⟨S16x16, .f32⟩
  | 2 => ⟨S16x16x16, .f32⟩
  | 3 => ⟨S16x16, .f32⟩
  | 4 => ⟨S16x16x16, .f32⟩
  | 5 => ⟨S16x16, .f32⟩
  | 6 => ⟨S63, .i32⟩
  | 7 => ⟨S63, .i1⟩
  | 8 => ⟨S63, .i32⟩
  | 9 => ⟨S63, .i1⟩
  | 10 => ⟨S143, .i32⟩
  | 11 => ⟨S143, .i1⟩
  | 12 => ⟨S143, .i32⟩
  | 13 => ⟨S143, .i1⟩
  | 14 => ⟨S255, .i32⟩
  | 15 => ⟨S255, .i1⟩
  | 16 => ⟨S255, .i32⟩
  | 17 => ⟨S255, .i1⟩
  | 18 => ⟨S399, .i32⟩
  | 19 => ⟨S399, .i1⟩
  | 20 => ⟨S399, .i32⟩
  | 21 => ⟨S399, .i1⟩
  | 22 => ⟨S575, .i32⟩
  | 23 => ⟨S575, .i1⟩
  | 24 => ⟨S575, .i32⟩
  | 25 => ⟨S575, .i1⟩
  | 26 => ⟨S783, .i32⟩
  | 27 => ⟨S783, .i1⟩
  | 28 => ⟨S783, .i32⟩
  | 29 => ⟨S783, .i1⟩
  | 30 => ⟨S1x6x4x4x4x4, .f32⟩
  | 31 => ⟨S1x6x4x4x4x4, .f32⟩
  | 32 => ⟨S1x4x4x6x4x4, .f32⟩
  | 33 => ⟨S1x16x6x16, .f32⟩
  | 34 => ⟨S1x6x16x16, .f32⟩
  | 35 => ⟨S16x16, .f32⟩
  | 36 => ⟨S1x6x16x16, .f32⟩
  | 37 => ⟨S96x16, .f32⟩
  | 38 => ⟨S1x1x16x16, .f32⟩
  | 39 => ⟨S1x1x4x4x4x4, .f32⟩
  | 40 => ⟨S1x1x4x4x4x4, .f32⟩
  | 41 => ⟨S1x4x4x1x4x4, .f32⟩
  | 42 => ⟨S1x16x1x16, .f32⟩
  | 43 => ⟨S1x1x16x16, .f32⟩
  | 44 => ⟨S1x16x16, .f32⟩
  | 45 => ⟨S_, .i32⟩
  | 46 => ⟨S63, .i32⟩
  | 47 => ⟨S63, .i32⟩
  | 48 => ⟨S63, .i32⟩
  | 49 => ⟨S_, .i32⟩
  | 50 => ⟨S63, .i32⟩
  | 51 => ⟨S63, .i32⟩
  | 52 => ⟨S63, .i32⟩
  | 53 => ⟨S63x1, .i32⟩
  | 54 => ⟨S63x1, .i32⟩
  | 55 => ⟨S63x2, .i32⟩
  | 56 => ⟨S63x16, .f32⟩
  | 57 => ⟨S1x16x16, .f32⟩
  | 58 => ⟨S16x16, .f32⟩
  | 59 => ⟨S16x16, .f32⟩
  | 60 => ⟨S63x16, .f32⟩
  | 61 => ⟨S1x16, .f32⟩
  | 62 => ⟨S16, .f32⟩
  | 63 => ⟨S1x16, .f32⟩
  | 64 => ⟨S63x16, .f32⟩
  | 65 => ⟨S63x16, .f32⟩
  | 66 => ⟨S1x16x16, .f32⟩
  | 67 => ⟨S16x16, .f32⟩
  | 68 => ⟨S16x16, .f32⟩
  | 69 => ⟨S63x16, .f32⟩
  | 70 => ⟨S1x16, .f32⟩
  | 71 => ⟨S16, .f32⟩
  | 72 => ⟨S1x16, .f32⟩
  | 73 => ⟨S63x16, .f32⟩
  | 74 => ⟨S63x16, .f32⟩
  | 75 => ⟨S1x2x16x16, .f32⟩
  | 76 => ⟨S1x2x4x4x4x4, .f32⟩
  | 77 => ⟨S1x2x4x4x4x4, .f32⟩
  | 78 => ⟨S1x4x4x2x4x4, .f32⟩
  | 79 => ⟨S1x16x2x16, .f32⟩
  | 80 => ⟨S1x2x16x16, .f32⟩
  | 81 => ⟨S2x16x16, .f32⟩
  | 82 => ⟨S_, .i32⟩
  | 83 => ⟨S143, .i32⟩
  | 84 => ⟨S143, .i32⟩
  | 85 => ⟨S143, .i32⟩
  | 86 => ⟨S_, .i32⟩
  | 87 => ⟨S143, .i32⟩
  | 88 => ⟨S143, .i32⟩
  | 89 => ⟨S143, .i32⟩
  | 90 => ⟨S143x1, .i32⟩
  | 91 => ⟨S143x1, .i32⟩
  | 92 => ⟨S143x2, .i32⟩
  | 93 => ⟨S143x16, .f32⟩
  | 94 => ⟨S1x16x16, .f32⟩
  | 95 => ⟨S16x16, .f32⟩
  | 96 => ⟨S16x16, .f32⟩
  | 97 => ⟨S143x16, .f32⟩
  | 98 => ⟨S1x16, .f32⟩
  | 99 => ⟨S16, .f32⟩
  | 100 => ⟨S1x16, .f32⟩
  | 101 => ⟨S143x16, .f32⟩
  | 102 => ⟨S143x16, .f32⟩
  | 103 => ⟨S1x16x16, .f32⟩
  | 104 => ⟨S16x16, .f32⟩
  | 105 => ⟨S16x16, .f32⟩
  | 106 => ⟨S143x16, .f32⟩
  | 107 => ⟨S1x16, .f32⟩
  | 108 => ⟨S16, .f32⟩
  | 109 => ⟨S1x16, .f32⟩
  | 110 => ⟨S143x16, .f32⟩
  | 111 => ⟨S143x16, .f32⟩
  | 112 => ⟨S1x3x16x16, .f32⟩
  | 113 => ⟨S1x3x4x4x4x4, .f32⟩
  | 114 => ⟨S1x3x4x4x4x4, .f32⟩
  | 115 => ⟨S1x4x4x3x4x4, .f32⟩
  | 116 => ⟨S1x16x3x16, .f32⟩
  | 117 => ⟨S1x3x16x16, .f32⟩
  | 118 => ⟨S3x16x16, .f32⟩
  | 119 => ⟨S_, .i32⟩
  | 120 => ⟨S255, .i32⟩
  | 121 => ⟨S255, .i32⟩
  | 122 => ⟨S255, .i32⟩
  | 123 => ⟨S_, .i32⟩
  | 124 => ⟨S255, .i32⟩
  | 125 => ⟨S255, .i32⟩
  | 126 => ⟨S255, .i32⟩
  | 127 => ⟨S255x1, .i32⟩
  | _ => ⟨S1x6x16x16, .f32⟩

abbrev hbmTy0_1 (i : Nat) : BufTy := match i % 128 with
  | 0 => ⟨S255x1, .i32⟩
  | 1 => ⟨S255x2, .i32⟩
  | 2 => ⟨S255x16, .f32⟩
  | 3 => ⟨S1x16x16, .f32⟩
  | 4 => ⟨S16x16, .f32⟩
  | 5 => ⟨S16x16, .f32⟩
  | 6 => ⟨S255x16, .f32⟩
  | 7 => ⟨S1x16, .f32⟩
  | 8 => ⟨S16, .f32⟩
  | 9 => ⟨S1x16, .f32⟩
  | 10 => ⟨S255x16, .f32⟩
  | 11 => ⟨S255x16, .f32⟩
  | 12 => ⟨S1x16x16, .f32⟩
  | 13 => ⟨S16x16, .f32⟩
  | 14 => ⟨S16x16, .f32⟩
  | 15 => ⟨S255x16, .f32⟩
  | 16 => ⟨S1x16, .f32⟩
  | 17 => ⟨S16, .f32⟩
  | 18 => ⟨S1x16, .f32⟩
  | 19 => ⟨S255x16, .f32⟩
  | 20 => ⟨S255x16, .f32⟩
  | 21 => ⟨S1x4x16x16, .f32⟩
  | 22 => ⟨S1x4x4x4x4x4, .f32⟩
  | 23 => ⟨S1x4x4x4x4x4, .f32⟩
  | 24 => ⟨S1x4x4x4x4x4, .f32⟩
  | 25 => ⟨S1x16x4x16, .f32⟩
  | 26 => ⟨S1x4x16x16, .f32⟩
  | 27 => ⟨S4x16x16, .f32⟩
  | 28 => ⟨S_, .i32⟩
  | 29 => ⟨S399, .i32⟩
  | 30 => ⟨S399, .i32⟩
  | 31 => ⟨S399, .i32⟩
  | 32 => ⟨S_, .i32⟩
  | 33 => ⟨S399, .i32⟩
  | 34 => ⟨S399, .i32⟩
  | 35 => ⟨S399, .i32⟩
  | 36 => ⟨S399x1, .i32⟩
  | 37 => ⟨S399x1, .i32⟩
  | 38 => ⟨S399x2, .i32⟩
  | 39 => ⟨S399x16, .f32⟩
  | 40 => ⟨S1x16x16, .f32⟩
  | 41 => ⟨S16x16, .f32⟩
  | 42 => ⟨S16x16, .f32⟩
  | 43 => ⟨S399x16, .f32⟩
  | 44 => ⟨S1x16, .f32⟩
  | 45 => ⟨S16, .f32⟩
  | 46 => ⟨S1x16, .f32⟩
  | 47 => ⟨S399x16, .f32⟩
  | 48 => ⟨S399x16, .f32⟩
  | 49 => ⟨S1x16x16, .f32⟩
  | 50 => ⟨S16x16, .f32⟩
  | 51 => ⟨S16x16, .f32⟩
  | 52 => ⟨S399x16, .f32⟩
  | 53 => ⟨S1x16, .f32⟩
  | 54 => ⟨S16, .f32⟩
  | 55 => ⟨S1x16, .f32⟩
  | 56 => ⟨S399x16, .f32⟩
  | 57 => ⟨S399x16, .f32⟩
  | 58 => ⟨S1x5x16x16, .f32⟩
  | 59 => ⟨S1x5x4x4x4x4, .f32⟩
  | 60 => ⟨S1x5x4x4x4x4, .f32⟩
  | 61 => ⟨S1x4x4x5x4x4, .f32⟩
  | 62 => ⟨S1x16x5x16, .f32⟩
  | 63 => ⟨S1x5x16x16, .f32⟩
  | 64 => ⟨S5x16x16, .f32⟩
  | 65 => ⟨S_, .i32⟩
  | 66 => ⟨S575, .i32⟩
  | 67 => ⟨S575, .i32⟩
  | 68 => ⟨S575, .i32⟩
  | 69 => ⟨S_, .i32⟩
  | 70 => ⟨S575, .i32⟩
  | 71 => ⟨S575, .i32⟩
  | 72 => ⟨S575, .i32⟩
  | 73 => ⟨S575x1, .i32⟩
  | 74 => ⟨S575x1, .i32⟩
  | 75 => ⟨S575x2, .i32⟩
  | 76 => ⟨S575x16, .f32⟩
  | 77 => ⟨S1x16x16, .f32⟩
  | 78 => ⟨S16x16, .f32⟩
  | 79 => ⟨S16x16, .f32⟩
  | 80 => ⟨S575x16, .f32⟩
  | 81 => ⟨S1x16, .f32⟩
  | 82 => ⟨S16, .f32⟩
  | 83 => ⟨S1x16, .f32⟩
  | 84 => ⟨S575x16, .f32⟩
  | 85 => ⟨S575x16, .f32⟩
  | 86 => ⟨S1x16x16, .f32⟩
  | 87 => ⟨S16x16, .f32⟩
  | 88 => ⟨S16x16, .f32⟩
  | 89 => ⟨S575x16, .f32⟩
  | 90 => ⟨S1x16, .f32⟩
  | 91 => ⟨S16, .f32⟩
  | 92 => ⟨S1x16, .f32⟩
  | 93 => ⟨S575x16, .f32⟩
  | 94 => ⟨S575x16, .f32⟩
  | 95 => ⟨S1x6x4x4x4x4, .f32⟩
  | 96 => ⟨S1x6x4x4x4x4, .f32⟩
  | 97 => ⟨S1x4x4x6x4x4, .f32⟩
  | 98 => ⟨S1x16x6x16, .f32⟩
  | 99 => ⟨S1x6x16x16, .f32⟩
  | 100 => ⟨S6x16x16, .f32⟩
  | 101 => ⟨S_, .i32⟩
  | 102 => ⟨S783, .i32⟩
  | 103 => ⟨S783, .i32⟩
  | 104 => ⟨S783, .i32⟩
  | 105 => ⟨S_, .i32⟩
  | 106 => ⟨S783, .i32⟩
  | 107 => ⟨S783, .i32⟩
  | 108 => ⟨S783, .i32⟩
  | 109 => ⟨S783x1, .i32⟩
  | 110 => ⟨S783x1, .i32⟩
  | 111 => ⟨S783x2, .i32⟩
  | 112 => ⟨S783x16, .f32⟩
  | 113 => ⟨S1x16x16, .f32⟩
  | 114 => ⟨S16x16, .f32⟩
  | 115 => ⟨S16x16, .f32⟩
  | 116 => ⟨S783x16, .f32⟩
  | 117 => ⟨S1x16, .f32⟩
  | 118 => ⟨S16, .f32⟩
  | 119 => ⟨S1x16, .f32⟩
  | 120 => ⟨S783x16, .f32⟩
  | 121 => ⟨S783x16, .f32⟩
  | 122 => ⟨S1x16x16, .f32⟩
  | 123 => ⟨S16x16, .f32⟩
  | 124 => ⟨S16x16, .f32⟩
  | 125 => ⟨S783x16, .f32⟩
  | 126 => ⟨S1x16, .f32⟩
  | 127 => ⟨S16, .f32⟩
  | _ => ⟨S1x6x16x16, .f32⟩

abbrev hbmTy0_2 (i : Nat) : BufTy := match i % 128 with
  | 0 => ⟨S1x16, .f32⟩
  | 1 => ⟨S783x16, .f32⟩
  | 2 => ⟨S783x16, .f32⟩
  | 3 => ⟨S4532x16, .f32⟩
  | _ => ⟨S1x6x16x16, .f32⟩

abbrev hbmTy (i : Nat) : BufTy := match i / 128 with
  | 0 => hbmTy0_0 i
  | 1 => hbmTy0_1 i
  | 2 => hbmTy0_2 i
  | _ => ⟨S1x6x16x16, .f32⟩

abbrev bufTy : (tb : Table) → Fin (tcTables nBuf tb) → BufTy
  | .hbm, ⟨i, _⟩ => hbmTy i
  | _, _ => ⟨S1x6x16x16, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_arg5 : Ref sig .tc := ⟨.hbm, 5, rfl⟩
abbrev main_c : Ref sig .tc := ⟨.hbm, 6, rfl⟩
abbrev main_c_0 : Ref sig .tc := ⟨.hbm, 7, rfl⟩
abbrev main_c_1 : Ref sig .tc := ⟨.hbm, 8, rfl⟩
abbrev main_c_2 : Ref sig .tc := ⟨.hbm, 9, rfl⟩
abbrev main_c_3 : Ref sig .tc := ⟨.hbm, 10, rfl⟩
abbrev main_c_4 : Ref sig .tc := ⟨.hbm, 11, rfl⟩
abbrev main_c_5 : Ref sig .tc := ⟨.hbm, 12, rfl⟩
abbrev main_c_6 : Ref sig .tc := ⟨.hbm, 13, rfl⟩
abbrev main_c_7 : Ref sig .tc := ⟨.hbm, 14, rfl⟩
abbrev main_c_8 : Ref sig .tc := ⟨.hbm, 15, rfl⟩
abbrev main_c_9 : Ref sig .tc := ⟨.hbm, 16, rfl⟩
abbrev main_c_10 : Ref sig .tc := ⟨.hbm, 17, rfl⟩
abbrev main_c_11 : Ref sig .tc := ⟨.hbm, 18, rfl⟩
abbrev main_c_12 : Ref sig .tc := ⟨.hbm, 19, rfl⟩
abbrev main_c_13 : Ref sig .tc := ⟨.hbm, 20, rfl⟩
abbrev main_c_14 : Ref sig .tc := ⟨.hbm, 21, rfl⟩
abbrev main_c_15 : Ref sig .tc := ⟨.hbm, 22, rfl⟩
abbrev main_c_16 : Ref sig .tc := ⟨.hbm, 23, rfl⟩
abbrev main_c_17 : Ref sig .tc := ⟨.hbm, 24, rfl⟩
abbrev main_c_18 : Ref sig .tc := ⟨.hbm, 25, rfl⟩
abbrev main_c_19 : Ref sig .tc := ⟨.hbm, 26, rfl⟩
abbrev main_c_20 : Ref sig .tc := ⟨.hbm, 27, rfl⟩
abbrev main_c_21 : Ref sig .tc := ⟨.hbm, 28, rfl⟩
abbrev main_c_22 : Ref sig .tc := ⟨.hbm, 29, rfl⟩
abbrev main_v0 : Ref sig .tc := ⟨.hbm, 30, rfl⟩
abbrev main_v1 : Ref sig .tc := ⟨.hbm, 31, rfl⟩
abbrev main_v2 : Ref sig .tc := ⟨.hbm, 32, rfl⟩
abbrev main_v3 : Ref sig .tc := ⟨.hbm, 33, rfl⟩
abbrev main_v4 : Ref sig .tc := ⟨.hbm, 34, rfl⟩
abbrev main_v5 : Ref sig .tc := ⟨.hbm, 35, rfl⟩
abbrev main_v6 : Ref sig .tc := ⟨.hbm, 36, rfl⟩
abbrev main_v7 : Ref sig .tc := ⟨.hbm, 37, rfl⟩
abbrev main_v8 : Ref sig .tc := ⟨.hbm, 38, rfl⟩
abbrev main_v9 : Ref sig .tc := ⟨.hbm, 39, rfl⟩
abbrev main_v10 : Ref sig .tc := ⟨.hbm, 40, rfl⟩
abbrev main_v11 : Ref sig .tc := ⟨.hbm, 41, rfl⟩
abbrev main_v12 : Ref sig .tc := ⟨.hbm, 42, rfl⟩
abbrev main_v13 : Ref sig .tc := ⟨.hbm, 43, rfl⟩
abbrev main_v14 : Ref sig .tc := ⟨.hbm, 44, rfl⟩
abbrev main_c_23 : Ref sig .tc := ⟨.hbm, 45, rfl⟩
abbrev main_v15 : Ref sig .tc := ⟨.hbm, 46, rfl⟩
abbrev main_v16 : Ref sig .tc := ⟨.hbm, 47, rfl⟩
abbrev main_v17 : Ref sig .tc := ⟨.hbm, 48, rfl⟩
abbrev main_c_24 : Ref sig .tc := ⟨.hbm, 49, rfl⟩
abbrev main_v18 : Ref sig .tc := ⟨.hbm, 50, rfl⟩
abbrev main_v19 : Ref sig .tc := ⟨.hbm, 51, rfl⟩
abbrev main_v20 : Ref sig .tc := ⟨.hbm, 52, rfl⟩
abbrev main_v21 : Ref sig .tc := ⟨.hbm, 53, rfl⟩
abbrev main_v22 : Ref sig .tc := ⟨.hbm, 54, rfl⟩
abbrev main_v23 : Ref sig .tc := ⟨.hbm, 55, rfl⟩
abbrev main_v24 : Ref sig .tc := ⟨.hbm, 56, rfl⟩
abbrev main_v25 : Ref sig .tc := ⟨.hbm, 57, rfl⟩
abbrev main_v26 : Ref sig .tc := ⟨.hbm, 58, rfl⟩
abbrev main_v27 : Ref sig .tc := ⟨.hbm, 59, rfl⟩
abbrev main_v28 : Ref sig .tc := ⟨.hbm, 60, rfl⟩
abbrev main_v29 : Ref sig .tc := ⟨.hbm, 61, rfl⟩
abbrev main_v30 : Ref sig .tc := ⟨.hbm, 62, rfl⟩
abbrev main_v31 : Ref sig .tc := ⟨.hbm, 63, rfl⟩
abbrev main_v32 : Ref sig .tc := ⟨.hbm, 64, rfl⟩
abbrev main_v33 : Ref sig .tc := ⟨.hbm, 65, rfl⟩
abbrev main_v34 : Ref sig .tc := ⟨.hbm, 66, rfl⟩
abbrev main_v35 : Ref sig .tc := ⟨.hbm, 67, rfl⟩
abbrev main_v36 : Ref sig .tc := ⟨.hbm, 68, rfl⟩
abbrev main_v37 : Ref sig .tc := ⟨.hbm, 69, rfl⟩
abbrev main_v38 : Ref sig .tc := ⟨.hbm, 70, rfl⟩
abbrev main_v39 : Ref sig .tc := ⟨.hbm, 71, rfl⟩
abbrev main_v40 : Ref sig .tc := ⟨.hbm, 72, rfl⟩
abbrev main_v41 : Ref sig .tc := ⟨.hbm, 73, rfl⟩
abbrev main_v42 : Ref sig .tc := ⟨.hbm, 74, rfl⟩
abbrev main_v43 : Ref sig .tc := ⟨.hbm, 75, rfl⟩
abbrev main_v44 : Ref sig .tc := ⟨.hbm, 76, rfl⟩
abbrev main_v45 : Ref sig .tc := ⟨.hbm, 77, rfl⟩
abbrev main_v46 : Ref sig .tc := ⟨.hbm, 78, rfl⟩
abbrev main_v47 : Ref sig .tc := ⟨.hbm, 79, rfl⟩
abbrev main_v48 : Ref sig .tc := ⟨.hbm, 80, rfl⟩
abbrev main_v49 : Ref sig .tc := ⟨.hbm, 81, rfl⟩
abbrev main_c_25 : Ref sig .tc := ⟨.hbm, 82, rfl⟩
abbrev main_v50 : Ref sig .tc := ⟨.hbm, 83, rfl⟩
abbrev main_v51 : Ref sig .tc := ⟨.hbm, 84, rfl⟩
abbrev main_v52 : Ref sig .tc := ⟨.hbm, 85, rfl⟩
abbrev main_c_26 : Ref sig .tc := ⟨.hbm, 86, rfl⟩
abbrev main_v53 : Ref sig .tc := ⟨.hbm, 87, rfl⟩
abbrev main_v54 : Ref sig .tc := ⟨.hbm, 88, rfl⟩
abbrev main_v55 : Ref sig .tc := ⟨.hbm, 89, rfl⟩
abbrev main_v56 : Ref sig .tc := ⟨.hbm, 90, rfl⟩
abbrev main_v57 : Ref sig .tc := ⟨.hbm, 91, rfl⟩
abbrev main_v58 : Ref sig .tc := ⟨.hbm, 92, rfl⟩
abbrev main_v59 : Ref sig .tc := ⟨.hbm, 93, rfl⟩
abbrev main_v60 : Ref sig .tc := ⟨.hbm, 94, rfl⟩
abbrev main_v61 : Ref sig .tc := ⟨.hbm, 95, rfl⟩
abbrev main_v62 : Ref sig .tc := ⟨.hbm, 96, rfl⟩
abbrev main_v63 : Ref sig .tc := ⟨.hbm, 97, rfl⟩
abbrev main_v64 : Ref sig .tc := ⟨.hbm, 98, rfl⟩
abbrev main_v65 : Ref sig .tc := ⟨.hbm, 99, rfl⟩
abbrev main_v66 : Ref sig .tc := ⟨.hbm, 100, rfl⟩
abbrev main_v67 : Ref sig .tc := ⟨.hbm, 101, rfl⟩
abbrev main_v68 : Ref sig .tc := ⟨.hbm, 102, rfl⟩
abbrev main_v69 : Ref sig .tc := ⟨.hbm, 103, rfl⟩
abbrev main_v70 : Ref sig .tc := ⟨.hbm, 104, rfl⟩
abbrev main_v71 : Ref sig .tc := ⟨.hbm, 105, rfl⟩
abbrev main_v72 : Ref sig .tc := ⟨.hbm, 106, rfl⟩
abbrev main_v73 : Ref sig .tc := ⟨.hbm, 107, rfl⟩
abbrev main_v74 : Ref sig .tc := ⟨.hbm, 108, rfl⟩
abbrev main_v75 : Ref sig .tc := ⟨.hbm, 109, rfl⟩
abbrev main_v76 : Ref sig .tc := ⟨.hbm, 110, rfl⟩
abbrev main_v77 : Ref sig .tc := ⟨.hbm, 111, rfl⟩
abbrev main_v78 : Ref sig .tc := ⟨.hbm, 112, rfl⟩
abbrev main_v79 : Ref sig .tc := ⟨.hbm, 113, rfl⟩
abbrev main_v80 : Ref sig .tc := ⟨.hbm, 114, rfl⟩
abbrev main_v81 : Ref sig .tc := ⟨.hbm, 115, rfl⟩
abbrev main_v82 : Ref sig .tc := ⟨.hbm, 116, rfl⟩
abbrev main_v83 : Ref sig .tc := ⟨.hbm, 117, rfl⟩
abbrev main_v84 : Ref sig .tc := ⟨.hbm, 118, rfl⟩
abbrev main_c_27 : Ref sig .tc := ⟨.hbm, 119, rfl⟩
abbrev main_v85 : Ref sig .tc := ⟨.hbm, 120, rfl⟩
abbrev main_v86 : Ref sig .tc := ⟨.hbm, 121, rfl⟩
abbrev main_v87 : Ref sig .tc := ⟨.hbm, 122, rfl⟩
abbrev main_c_28 : Ref sig .tc := ⟨.hbm, 123, rfl⟩
abbrev main_v88 : Ref sig .tc := ⟨.hbm, 124, rfl⟩
abbrev main_v89 : Ref sig .tc := ⟨.hbm, 125, rfl⟩
abbrev main_v90 : Ref sig .tc := ⟨.hbm, 126, rfl⟩
abbrev main_v91 : Ref sig .tc := ⟨.hbm, 127, rfl⟩
abbrev main_v92 : Ref sig .tc := ⟨.hbm, 128, rfl⟩
abbrev main_v93 : Ref sig .tc := ⟨.hbm, 129, rfl⟩
abbrev main_v94 : Ref sig .tc := ⟨.hbm, 130, rfl⟩
abbrev main_v95 : Ref sig .tc := ⟨.hbm, 131, rfl⟩
abbrev main_v96 : Ref sig .tc := ⟨.hbm, 132, rfl⟩
abbrev main_v97 : Ref sig .tc := ⟨.hbm, 133, rfl⟩
abbrev main_v98 : Ref sig .tc := ⟨.hbm, 134, rfl⟩
abbrev main_v99 : Ref sig .tc := ⟨.hbm, 135, rfl⟩
abbrev main_v100 : Ref sig .tc := ⟨.hbm, 136, rfl⟩
abbrev main_v101 : Ref sig .tc := ⟨.hbm, 137, rfl⟩
abbrev main_v102 : Ref sig .tc := ⟨.hbm, 138, rfl⟩
abbrev main_v103 : Ref sig .tc := ⟨.hbm, 139, rfl⟩
abbrev main_v104 : Ref sig .tc := ⟨.hbm, 140, rfl⟩
abbrev main_v105 : Ref sig .tc := ⟨.hbm, 141, rfl⟩
abbrev main_v106 : Ref sig .tc := ⟨.hbm, 142, rfl⟩
abbrev main_v107 : Ref sig .tc := ⟨.hbm, 143, rfl⟩
abbrev main_v108 : Ref sig .tc := ⟨.hbm, 144, rfl⟩
abbrev main_v109 : Ref sig .tc := ⟨.hbm, 145, rfl⟩
abbrev main_v110 : Ref sig .tc := ⟨.hbm, 146, rfl⟩
abbrev main_v111 : Ref sig .tc := ⟨.hbm, 147, rfl⟩
abbrev main_v112 : Ref sig .tc := ⟨.hbm, 148, rfl⟩
abbrev main_v113 : Ref sig .tc := ⟨.hbm, 149, rfl⟩
abbrev main_v114 : Ref sig .tc := ⟨.hbm, 150, rfl⟩
abbrev main_v115 : Ref sig .tc := ⟨.hbm, 151, rfl⟩
abbrev main_v116 : Ref sig .tc := ⟨.hbm, 152, rfl⟩
abbrev main_v117 : Ref sig .tc := ⟨.hbm, 153, rfl⟩
abbrev main_v118 : Ref sig .tc := ⟨.hbm, 154, rfl⟩
abbrev main_v119 : Ref sig .tc := ⟨.hbm, 155, rfl⟩
abbrev main_c_29 : Ref sig .tc := ⟨.hbm, 156, rfl⟩
abbrev main_v120 : Ref sig .tc := ⟨.hbm, 157, rfl⟩
abbrev main_v121 : Ref sig .tc := ⟨.hbm, 158, rfl⟩
abbrev main_v122 : Ref sig .tc := ⟨.hbm, 159, rfl⟩
abbrev main_c_30 : Ref sig .tc := ⟨.hbm, 160, rfl⟩
abbrev main_v123 : Ref sig .tc := ⟨.hbm, 161, rfl⟩
abbrev main_v124 : Ref sig .tc := ⟨.hbm, 162, rfl⟩
abbrev main_v125 : Ref sig .tc := ⟨.hbm, 163, rfl⟩
abbrev main_v126 : Ref sig .tc := ⟨.hbm, 164, rfl⟩
abbrev main_v127 : Ref sig .tc := ⟨.hbm, 165, rfl⟩
abbrev main_v128 : Ref sig .tc := ⟨.hbm, 166, rfl⟩
abbrev main_v129 : Ref sig .tc := ⟨.hbm, 167, rfl⟩
abbrev main_v130 : Ref sig .tc := ⟨.hbm, 168, rfl⟩
abbrev main_v131 : Ref sig .tc := ⟨.hbm, 169, rfl⟩
abbrev main_v132 : Ref sig .tc := ⟨.hbm, 170, rfl⟩
abbrev main_v133 : Ref sig .tc := ⟨.hbm, 171, rfl⟩
abbrev main_v134 : Ref sig .tc := ⟨.hbm, 172, rfl⟩
abbrev main_v135 : Ref sig .tc := ⟨.hbm, 173, rfl⟩
abbrev main_v136 : Ref sig .tc := ⟨.hbm, 174, rfl⟩
abbrev main_v137 : Ref sig .tc := ⟨.hbm, 175, rfl⟩
abbrev main_v138 : Ref sig .tc := ⟨.hbm, 176, rfl⟩
abbrev main_v139 : Ref sig .tc := ⟨.hbm, 177, rfl⟩
abbrev main_v140 : Ref sig .tc := ⟨.hbm, 178, rfl⟩
abbrev main_v141 : Ref sig .tc := ⟨.hbm, 179, rfl⟩
abbrev main_v142 : Ref sig .tc := ⟨.hbm, 180, rfl⟩
abbrev main_v143 : Ref sig .tc := ⟨.hbm, 181, rfl⟩
abbrev main_v144 : Ref sig .tc := ⟨.hbm, 182, rfl⟩
abbrev main_v145 : Ref sig .tc := ⟨.hbm, 183, rfl⟩
abbrev main_v146 : Ref sig .tc := ⟨.hbm, 184, rfl⟩
abbrev main_v147 : Ref sig .tc := ⟨.hbm, 185, rfl⟩
abbrev main_v148 : Ref sig .tc := ⟨.hbm, 186, rfl⟩
abbrev main_v149 : Ref sig .tc := ⟨.hbm, 187, rfl⟩
abbrev main_v150 : Ref sig .tc := ⟨.hbm, 188, rfl⟩
abbrev main_v151 : Ref sig .tc := ⟨.hbm, 189, rfl⟩
abbrev main_v152 : Ref sig .tc := ⟨.hbm, 190, rfl⟩
abbrev main_v153 : Ref sig .tc := ⟨.hbm, 191, rfl⟩
abbrev main_v154 : Ref sig .tc := ⟨.hbm, 192, rfl⟩
abbrev main_c_31 : Ref sig .tc := ⟨.hbm, 193, rfl⟩
abbrev main_v155 : Ref sig .tc := ⟨.hbm, 194, rfl⟩
abbrev main_v156 : Ref sig .tc := ⟨.hbm, 195, rfl⟩
abbrev main_v157 : Ref sig .tc := ⟨.hbm, 196, rfl⟩
abbrev main_c_32 : Ref sig .tc := ⟨.hbm, 197, rfl⟩
abbrev main_v158 : Ref sig .tc := ⟨.hbm, 198, rfl⟩
abbrev main_v159 : Ref sig .tc := ⟨.hbm, 199, rfl⟩
abbrev main_v160 : Ref sig .tc := ⟨.hbm, 200, rfl⟩
abbrev main_v161 : Ref sig .tc := ⟨.hbm, 201, rfl⟩
abbrev main_v162 : Ref sig .tc := ⟨.hbm, 202, rfl⟩
abbrev main_v163 : Ref sig .tc := ⟨.hbm, 203, rfl⟩
abbrev main_v164 : Ref sig .tc := ⟨.hbm, 204, rfl⟩
abbrev main_v165 : Ref sig .tc := ⟨.hbm, 205, rfl⟩
abbrev main_v166 : Ref sig .tc := ⟨.hbm, 206, rfl⟩
abbrev main_v167 : Ref sig .tc := ⟨.hbm, 207, rfl⟩
abbrev main_v168 : Ref sig .tc := ⟨.hbm, 208, rfl⟩
abbrev main_v169 : Ref sig .tc := ⟨.hbm, 209, rfl⟩
abbrev main_v170 : Ref sig .tc := ⟨.hbm, 210, rfl⟩
abbrev main_v171 : Ref sig .tc := ⟨.hbm, 211, rfl⟩
abbrev main_v172 : Ref sig .tc := ⟨.hbm, 212, rfl⟩
abbrev main_v173 : Ref sig .tc := ⟨.hbm, 213, rfl⟩
abbrev main_v174 : Ref sig .tc := ⟨.hbm, 214, rfl⟩
abbrev main_v175 : Ref sig .tc := ⟨.hbm, 215, rfl⟩
abbrev main_v176 : Ref sig .tc := ⟨.hbm, 216, rfl⟩
abbrev main_v177 : Ref sig .tc := ⟨.hbm, 217, rfl⟩
abbrev main_v178 : Ref sig .tc := ⟨.hbm, 218, rfl⟩
abbrev main_v179 : Ref sig .tc := ⟨.hbm, 219, rfl⟩
abbrev main_v180 : Ref sig .tc := ⟨.hbm, 220, rfl⟩
abbrev main_v181 : Ref sig .tc := ⟨.hbm, 221, rfl⟩
abbrev main_v182 : Ref sig .tc := ⟨.hbm, 222, rfl⟩
abbrev main_v183 : Ref sig .tc := ⟨.hbm, 223, rfl⟩
abbrev main_v184 : Ref sig .tc := ⟨.hbm, 224, rfl⟩
abbrev main_v185 : Ref sig .tc := ⟨.hbm, 225, rfl⟩
abbrev main_v186 : Ref sig .tc := ⟨.hbm, 226, rfl⟩
abbrev main_v187 : Ref sig .tc := ⟨.hbm, 227, rfl⟩
abbrev main_v188 : Ref sig .tc := ⟨.hbm, 228, rfl⟩
abbrev main_c_33 : Ref sig .tc := ⟨.hbm, 229, rfl⟩
abbrev main_v189 : Ref sig .tc := ⟨.hbm, 230, rfl⟩
abbrev main_v190 : Ref sig .tc := ⟨.hbm, 231, rfl⟩
abbrev main_v191 : Ref sig .tc := ⟨.hbm, 232, rfl⟩
abbrev main_c_34 : Ref sig .tc := ⟨.hbm, 233, rfl⟩
abbrev main_v192 : Ref sig .tc := ⟨.hbm, 234, rfl⟩
abbrev main_v193 : Ref sig .tc := ⟨.hbm, 235, rfl⟩
abbrev main_v194 : Ref sig .tc := ⟨.hbm, 236, rfl⟩
abbrev main_v195 : Ref sig .tc := ⟨.hbm, 237, rfl⟩
abbrev main_v196 : Ref sig .tc := ⟨.hbm, 238, rfl⟩
abbrev main_v197 : Ref sig .tc := ⟨.hbm, 239, rfl⟩
abbrev main_v198 : Ref sig .tc := ⟨.hbm, 240, rfl⟩
abbrev main_v199 : Ref sig .tc := ⟨.hbm, 241, rfl⟩
abbrev main_v200 : Ref sig .tc := ⟨.hbm, 242, rfl⟩
abbrev main_v201 : Ref sig .tc := ⟨.hbm, 243, rfl⟩
abbrev main_v202 : Ref sig .tc := ⟨.hbm, 244, rfl⟩
abbrev main_v203 : Ref sig .tc := ⟨.hbm, 245, rfl⟩
abbrev main_v204 : Ref sig .tc := ⟨.hbm, 246, rfl⟩
abbrev main_v205 : Ref sig .tc := ⟨.hbm, 247, rfl⟩
abbrev main_v206 : Ref sig .tc := ⟨.hbm, 248, rfl⟩
abbrev main_v207 : Ref sig .tc := ⟨.hbm, 249, rfl⟩
abbrev main_v208 : Ref sig .tc := ⟨.hbm, 250, rfl⟩
abbrev main_v209 : Ref sig .tc := ⟨.hbm, 251, rfl⟩
abbrev main_v210 : Ref sig .tc := ⟨.hbm, 252, rfl⟩
abbrev main_v211 : Ref sig .tc := ⟨.hbm, 253, rfl⟩
abbrev main_v212 : Ref sig .tc := ⟨.hbm, 254, rfl⟩
abbrev main_v213 : Ref sig .tc := ⟨.hbm, 255, rfl⟩
abbrev main_v214 : Ref sig .tc := ⟨.hbm, 256, rfl⟩
abbrev main_v215 : Ref sig .tc := ⟨.hbm, 257, rfl⟩
abbrev main_v216 : Ref sig .tc := ⟨.hbm, 258, rfl⟩
abbrev main_v217 : Ref sig .tc := ⟨.hbm, 259, rfl⟩

abbrev nD : Nat := 1
abbrev τ : Topo := Topo.v7x

variable {F : FTy → Type} [FloatOps F]
-- ==== Proof.Text.lean ====
/-
The kernel's text folded back into the loops it was unrolled from: one row of a group, a group of sixteen
rows, the sixteen columns of a weight table, one segment's loop, and the whole body of a tile.
-/
module

public import proofs.«01_k».proof.Proof.Gen.KernelIdeal

@[expose] public section

noncomputable section

namespace Cert.KernelIdeal.Kqv

open Idealize.ShloMosaic Idealize.SL.Sem
open Cert.KernelIdeal.Gen

variable {F : FTy → Type} [FloatOps F]

/-- The programs a tile of grid point `i` runs. -/
abbrev TileProg (F : FTy → Type) [FloatOps F] (i : grid0.Coords) (α : Type) : Type 1 :=
  Prog (TpuEff nD τ sig (Elt F) Λ₀ (.scVector ((i 0).castLE hcore0) ((i 1).castLE hsub0))) α

/-- A property of sixteen things, from each of them. -/
theorem forall16 {P : Fin 16 → Prop} (h0 : P 0) (h1 : P 1) (h2 : P 2) (h3 : P 3) (h4 : P 4) (h5 : P 5) (h6 : P 6)
    (h7 : P 7) (h8 : P 8) (h9 : P 9) (h10 : P 10) (h11 : P 11) (h12 : P 12) (h13 : P 13) (h14 : P 14) (h15 : P 15)
    (r : Fin 16) : P r := by
  fin_cases r <;> assumption

/-! ## One row -/

theorem slice1 (d : Fin 16) : S16.Slices ![d.val] S1 := by
  revert d; decide

/-- Lane `d` of a vector register, as the kernel takes it. -/
def laneOf {V : EltTy} (e : Vec F S16 V) (d : Fin 16) : Elt F V :=
  extractAt ![0] (extractStridedSlice S1 ![d.val] e (slice1 d)) inpos_S1_p0

/-- Lane `d` of `e` times column `d`. -/
def term (e : FVec F S16 .f32) (c : Fin 16 → FVec F S16 .f32) (d : Fin 16) : FVec F S16 .f32 :=
  mulf (broadcast S16 (laneOf (V := .f32) e d)) (c d)

/-- Sixteen vectors summed as a balanced tree. -/
def tree (t : Fin 16 → FVec F S16 .f32) : FVec F S16 .f32 :=
  addf (addf (addf (addf (t 0) (t 1)) (addf (t 2) (t 3))) (addf (addf (t 4) (t 5)) (addf (t 6) (t 7))))
    (addf (addf (addf (t 8) (t 9)) (addf (t 10) (t 11))) (addf (addf (t 12) (t 13)) (addf (t 14) (t 15))))

/-- The sixteen dot products of a patch with the columns, and a bias where there is one. -/
def rowVal (c : Fin 16 → FVec F S16 .f32) : Option (FVec F S16 .f32) → FVec F S16 .f32 → FVec F S16 .f32
  | none, e => tree (term e c)
  | some b, e => addf (tree (term e c)) b

/-- The flat index of each patch element, for the row whose base index is lane `r` of `b`. -/
def rowIdx (offv : IVec S16 32) (b : Vec F S16 .i32) (r : Fin 16) : IVec S16 32 :=
  addi (broadcast S16 (laneOf (V := .i32) b r : BitVec 32)) offv

/-- The four coordinates of a flat index in the image. -/
def coords (zero v : IVec S16 32) : Fin 4 → IVec S16 32 :=
  ![zero, shrsi v (broadcast S16 8#32), andi (shrsi v (broadcast S16 4#32)) (broadcast S16 15#32),
    andi v (broadcast S16 15#32)]

/-- One row: gather its patch, take the dot products, store the sixteen results at `off`. -/
def rowP (i : grid0.Coords) (x : Memref sig .scVector .vmem S1x6x16x16 .f32)
    (buf : Memref sig .scVector .vmem S2544 .f32) (v : Fin 4 → IVec S16 32) (fin : Vec F S16 .f32 → Vec F S16 .f32)
    (off : Fin 1 → ℕ) (hoff : ∀ a, off a + S16.size a ≤ S2544.size a) : TileProg F i PUnit := do
  let h : ∀ a y, (v a y).toNat < S1x6x16x16.size a :=
    (← Prog.lift (TpuEff.assume (∀ a y, (v a y).toNat < S1x6x16x16.size a) (decidable_of_iff' _ Iff.rfl))).down
  let e : Vec F S16 .f32 ← SparseCore.vectorLoadIdx x v h (View.loads_vmem h_S1x6x16x16)
  let _ : Vec F S16 .f32 ← Prog.lift (.load buf (Rect.unit (s := S2544) off S16.size hoff).toLoadRect
    (View.loadsAt_vmem h_S16))
  Prog.lift (.store buf (Rect.unit (s := S2544) off S16.size hoff) (fin e) Finset.univ
    (View.stores_vmem_bits_univ h_S16 rfl) (.inl rfl))

/-! ## A group of sixteen rows -/

/-- The first row of a tile, as a word. -/
def myLo (i : grid0.Coords) : BitVec 32 :=
  Scalar.muli (Scalar.addi (Scalar.muli (BitVec.ofNat 32 (i 1).val) 2#32) (BitVec.ofNat 32 (i 0).val)) 144#32

/-- The row group `n` of a segment begins with, the segment's first row being `lo`. -/
def grpLo (lo n : BitVec 32) : BitVec 32 := Scalar.addi lo (Scalar.muli 16#32 n)

/-- Where the group reads its base indices. -/
def offIdx (lo n : BitVec 32) : Fin 1 → ℕ := ![(Scalar.indexCast (grpLo lo n)).toNat]

/-- Where its row `r` is stored in the tile's buffer. -/
def offRow (i : grid0.Coords) (lo n : BitVec 32) (r : ℕ) : Fin 1 → ℕ :=
  ![(Scalar.indexCast (Scalar.muli 16#32
    (Scalar.addi (Scalar.subi (grpLo lo n) (myLo i)) (BitVec.ofNat 32 r)))).toNat]

/-- A group: load sixteen base indices, then do the sixteen rows. -/
def groupP (i : grid0.Coords) (x : Memref sig .scVector .vmem S1x6x16x16 .f32)
    (idx : Memref sig .scVector .vmem S4548 .i32)
    (buf : Memref sig .scVector .vmem S2544 .f32) (zero offv : IVec S16 32)
    (fin : Vec F S16 .f32 → Vec F S16 .f32) (lo n : BitVec 32)
    (hI : ∀ a, offIdx lo n a + S16.size a ≤ S4548.size a)
    (hR : ∀ (r : Fin 16) a, offRow i lo n r a + S16.size a ≤ S2544.size a) : TileProg F i PUnit := do
  let b : Vec F S16 .i32 ← Prog.lift (.load idx (Rect.unit (s := S4548) (offIdx lo n) S16.size hI).toLoadRect
    (View.loadsAt_vmem h_S16))
  rowP i x buf (coords zero (rowIdx offv b 0)) fin (offRow i lo n 0) (hR 0)
  rowP i x buf (coords zero (rowIdx offv b 1)) fin (offRow i lo n 1) (hR 1)
  rowP i x buf (coords zero (rowIdx offv b 2)) fin (offRow i lo n 2) (hR 2)
  rowP i x buf (coords zero (rowIdx offv b 3)) fin (offRow i lo n 3) (hR 3)
  rowP i x buf (coords zero (rowIdx offv b 4)) fin (offRow i lo n 4) (hR 4)
  rowP i x buf (coords zero (rowIdx offv b 5)) fin (offRow i lo n 5) (hR 5)
  rowP i x buf (coords zero (rowIdx offv b 6)) fin (offRow i lo n 6) (hR 6)
  rowP i x buf (coords zero (rowIdx offv b 7)) fin (offRow i lo n 7) (hR 7)
  rowP i x buf (coords zero (rowIdx offv b 8)) fin (offRow i lo n 8) (hR 8)
  rowP i x buf (coords zero (rowIdx offv b 9)) fin (offRow i lo n 9) (hR 9)
  rowP i x buf (coords zero (rowIdx offv b 10)) fin (offRow i lo n 10) (hR 10)
  rowP i x buf (coords zero (rowIdx offv b 11)) fin (offRow i lo n 11) (hR 11)
  rowP i x buf (coords zero (rowIdx offv b 12)) fin (offRow i lo n 12) (hR 12)
  rowP i x buf (coords zero (rowIdx offv b 13)) fin (offRow i lo n 13) (hR 13)
  rowP i x buf (coords zero (rowIdx offv b 14)) fin (offRow i lo n 14) (hR 14)
  rowP i x buf (coords zero (rowIdx offv b 15)) fin (offRow i lo n 15) (hR 15)
  pure ⟨⟩

/-! ## The columns of a weight table -/

/-- One gather of sixteen words of a table. -/
def colP (i : grid0.Coords) {s : Shape} (hs : 0 < s.numel) (w : Memref sig .scVector .vmem s .f32)
    (v : Fin s.rank → IVec S16 32) : TileProg F i (Vec F S16 .f32) := do
  let h : ∀ a y, (v a y).toNat < s.size a :=
    (← Prog.lift (TpuEff.assume (∀ a y, (v a y).toNat < s.size a) (decidable_of_iff' _ Iff.rfl))).down
  SparseCore.vectorLoadIdx w v h (View.loads_vmem hs)

/-- Sixteen gathers, one per column. -/
def colsP (i : grid0.Coords) {s : Shape} (hs : 0 < s.numel) (w : Memref sig .scVector .vmem s .f32)
    (v : Fin 16 → Fin s.rank → IVec S16 32) : TileProg F i (Fin 16 → Vec F S16 .f32) := do
  let c0 ← colP i hs w (v 0)
  let c1 ← colP i hs w (v 1)
  let c2 ← colP i hs w (v 2)
  let c3 ← colP i hs w (v 3)
  let c4 ← colP i hs w (v 4)
  let c5 ← colP i hs w (v 5)
  let c6 ← colP i hs w (v 6)
  let c7 ← colP i hs w (v 7)
  let c8 ← colP i hs w (v 8)
  let c9 ← colP i hs w (v 9)
  let c10 ← colP i hs w (v 10)
  let c11 ← colP i hs w (v 11)
  let c12 ← colP i hs w (v 12)
  let c13 ← colP i hs w (v 13)
  let c14 ← colP i hs w (v 14)
  let c15 ← colP i hs w (v 15)
  pure ![c0, c1, c2, c3, c4, c5, c6, c7, c8, c9, c10, c11, c12, c13, c14, c15]

/-- The lane numbers. -/
def lane : IVec S16 32 := iota .scVector S16 32 [0] iota_S16_d0_w32_scVector
/-- The vector of zeros, as the kernel makes it. -/
def zeroV : IVec S16 32 := muli lane (broadcast S16 0#32)
/-- The sixteen flat offsets of a patch: `16 * (lane / 4) + lane % 4`. -/
def offV : IVec S16 32 :=
  addi (muli (shrsi lane (broadcast S16 2#32)) (broadcast S16 16#32)) (andi lane (broadcast S16 3#32))
/-- The vector that names column `d`. -/
def colIx (d : ℕ) : IVec S16 32 := addi zeroV (broadcast S16 (BitVec.ofNat 32 d))

/-! ## A segment -/

section Body

variable (i : grid0.Coords)
  (arg2 : Memref sig .scVector .hbm S1x6x16x16 .f32) (harg2 : arg2.IsWhole)
  (arg3 : Memref sig .scVector .hbm S16x16 .f32) (harg3 : arg3.IsWhole)
  (arg4 : Memref sig .scVector .hbm S16x16x16 .f32) (harg4 : arg4.IsWhole)
  (arg5 : Memref sig .scVector .hbm S16x16 .f32) (harg5 : arg5.IsWhole)
  (arg6 : Memref sig .scVector .hbm S16x16x16 .f32) (harg6 : arg6.IsWhole)
  (arg7 : Memref sig .scVector .hbm S16x16 .f32) (harg7 : arg7.IsWhole)
  (arg8 : Memref sig .scVector .hbm S4548 .i32) (harg8 : arg8.IsWhole)
  (arg9 : Memref sig .scVector .hbm S72512 .f32) (harg9 : arg9.IsWhole)
  (arg10 : Memref sig .scVector .vmem S1x6x16x16 .f32) (harg10 : arg10.IsWhole)
  (arg11 : Memref sig .scVector .vmem S16x16 .f32) (harg11 : arg11.IsWhole)
  (arg12 : Memref sig .scVector .vmem S6x16x16 .f32) (harg12 : arg12.IsWhole)
  (arg13 : Memref sig .scVector .vmem S16x16 .f32) (harg13 : arg13.IsWhole)
  (arg14 : Memref sig .scVector .vmem S6x16x16 .f32) (harg14 : arg14.IsWhole)
  (arg15 : Memref sig .scVector .vmem S16x16 .f32) (harg15 : arg15.IsWhole)
  (arg16 : Memref sig .scVector .vmem S4548 .i32) (harg16 : arg16.IsWhole)
  (arg17 : Memref sig .scVector .vmem S2544 .f32) (harg17 : arg17.IsWhole)
  (arg18 arg19 arg20 arg21 arg22 arg23 arg24 v106_r0 v106_r1 : DmaSems sig S_)

/-- The first row of the query segment, on this tile. -/
def loQ : BitVec 32 := Scalar.maxsi 0#32 (myLo i)

/-- The query segment: its groups, and the remainder loop, which has no trip. -/
def segQ {α : Type} (fin : Vec F S16 .f32 → Vec F S16 .f32) (rest : TileProg F i α) : TileProg F i α := do
  Scf.Loop.for (k0_t1_loop i) (k0_t1_ok i) ⟨⟩ fun t _ =>
    groupP i arg10 arg16 arg17 zeroV offV fin (loQ i) (Scf.iv 0#32 1#32 t) (k0_off1_inb i t)
      (forall16 (k0_off2_inb i t) (k0_off3_inb i t) (k0_off4_inb i t) (k0_off5_inb i t) (k0_off6_inb i t) (k0_off7_inb i t) (k0_off8_inb i t) (k0_off9_inb i t) (k0_off10_inb i t) (k0_off11_inb i t) (k0_off12_inb i t) (k0_off13_inb i t) (k0_off14_inb i t) (k0_off15_inb i t) (k0_off16_inb i t) (k0_off17_inb i t))
  Scf.Loop.for (k0_t2_loop i) (k0_t2_ok i) ⟨⟩ fun t _ =>
    groupP i arg10 arg16 arg17 zeroV offV fin (loQ i) (Scf.iv (k0_t2_loop i).lb 1#32 t) (k0_off18_inb i t)
      (forall16 (k0_off19_inb i t) (k0_off20_inb i t) (k0_off21_inb i t) (k0_off22_inb i t) (k0_off23_inb i t) (k0_off24_inb i t) (k0_off25_inb i t) (k0_off26_inb i t) (k0_off27_inb i t) (k0_off28_inb i t) (k0_off29_inb i t) (k0_off30_inb i t) (k0_off31_inb i t) (k0_off32_inb i t) (k0_off33_inb i t) (k0_off34_inb i t))
  rest

/-- A value of step `k`, of six. -/
def pick (k : ℕ) (a0 a1 a2 a3 a4 a5 : BitVec 32) : BitVec 32 :=
  let w : BitVec 32 := Scf.iv 0#32 1#32 k
  Scalar.select (Scalar.cmpi .sge w 5#32) a5 (Scalar.select (Scalar.cmpi .sge w 4#32) a4
    (Scalar.select (Scalar.cmpi .sge w 3#32) a3 (Scalar.select (Scalar.cmpi .sge w 2#32) a2
      (Scalar.select (Scalar.cmpi .sge w 1#32) a1 a0))))

/-- The first row of step `k`'s key segment, on this tile, -/
def loK (k : ℕ) : BitVec 32 := Scalar.maxsi (pick k 96#32 222#32 508#32 1018#32 1816#32 2966#32) (myLo i)
/-- and of its value segment. -/
def loV (k : ℕ) : BitVec 32 := Scalar.maxsi (pick k 159#32 365#32 763#32 1417#32 2391#32 3749#32) (myLo i)

/-- The key segment of step `k`. -/
def segK {α : Type} (k : Fin k0_t3_loop.trips) (fin : Vec F S16 .f32 → Vec F S16 .f32) (rest : TileProg F i α) :
    TileProg F i α := do
  Scf.Loop.for (k0_t4_loop i k) (k0_t4_ok i k) ⟨⟩ fun t _ =>
    groupP i arg10 arg16 arg17 zeroV offV fin (loK i k) (Scf.iv 0#32 1#32 t) (k0_off36_inb i k t)
      (forall16 (k0_off37_inb i k t) (k0_off38_inb i k t) (k0_off39_inb i k t) (k0_off40_inb i k t) (k0_off41_inb i k t) (k0_off42_inb i k t) (k0_off43_inb i k t) (k0_off44_inb i k t) (k0_off45_inb i k t) (k0_off46_inb i k t) (k0_off47_inb i k t) (k0_off48_inb i k t) (k0_off49_inb i k t) (k0_off50_inb i k t) (k0_off51_inb i k t) (k0_off52_inb i k t))
  Scf.Loop.for (k0_t5_loop i k) (k0_t5_ok i k) ⟨⟩ fun t _ =>
    groupP i arg10 arg16 arg17 zeroV offV fin (loK i k) (Scf.iv (k0_t5_loop i k).lb 1#32 t) (k0_off53_inb i k t)
      (forall16 (k0_off54_inb i k t) (k0_off55_inb i k t) (k0_off56_inb i k t) (k0_off57_inb i k t) (k0_off58_inb i k t) (k0_off59_inb i k t) (k0_off60_inb i k t) (k0_off61_inb i k t) (k0_off62_inb i k t) (k0_off63_inb i k t) (k0_off64_inb i k t) (k0_off65_inb i k t) (k0_off66_inb i k t) (k0_off67_inb i k t) (k0_off68_inb i k t) (k0_off69_inb i k t))
  rest

/-- The value segment of step `k`. -/
def segV {α : Type} (k : Fin k0_t3_loop.trips) (fin : Vec F S16 .f32 → Vec F S16 .f32) (rest : TileProg F i α) :
    TileProg F i α := do
  Scf.Loop.for (k0_t6_loop i k) (k0_t6_ok i k) ⟨⟩ fun t _ =>
    groupP i arg10 arg16 arg17 zeroV offV fin (loV i k) (Scf.iv 0#32 1#32 t) (k0_off71_inb i k t)
      (forall16 (k0_off72_inb i k t) (k0_off73_inb i k t) (k0_off74_inb i k t) (k0_off75_inb i k t) (k0_off76_inb i k t) (k0_off77_inb i k t) (k0_off78_inb i k t) (k0_off79_inb i k t) (k0_off80_inb i k t) (k0_off81_inb i k t) (k0_off82_inb i k t) (k0_off83_inb i k t) (k0_off84_inb i k t) (k0_off85_inb i k t) (k0_off86_inb i k t) (k0_off87_inb i k t))
  Scf.Loop.for (k0_t7_loop i k) (k0_t7_ok i k) ⟨⟩ fun t _ =>
    groupP i arg10 arg16 arg17 zeroV offV fin (loV i k) (Scf.iv (k0_t7_loop i k).lb 1#32 t) (k0_off88_inb i k t)
      (forall16 (k0_off89_inb i k t) (k0_off90_inb i k t) (k0_off91_inb i k t) (k0_off92_inb i k t) (k0_off93_inb i k t) (k0_off94_inb i k t) (k0_off95_inb i k t) (k0_off96_inb i k t) (k0_off97_inb i k t) (k0_off98_inb i k t) (k0_off99_inb i k t) (k0_off100_inb i k t) (k0_off101_inb i k t) (k0_off102_inb i k t) (k0_off103_inb i k t) (k0_off104_inb i k t))
  rest

/-- The vector that names step `k`. -/
def stepIx (k : ℕ) : IVec S16 32 := addi zeroV (broadcast S16 (Scf.iv 0#32 1#32 k))

/-- What the text does between the key columns and the rest of the value columns: it runs the key segment and
    gathers the first value column. -/
def keysP (k : Fin k0_t3_loop.trips) (ck : Fin 16 → Vec F S16 .f32) :
    TileProg F i (Σ' (_ : Vec F S16 .f32), IVec S16 32) := do
  let bk : Vec F S1x16 .f32 ← Prog.lift (.load arg13 (Rect.unit (s := S16x16) (k0_off35 k) S1x16.size
    (k0_off35_inb k)).toLoadRect (View.loadsAt_vmem h_S1x16))
  segK i arg10 arg16 arg17 k (rowVal ck (some (shapeCast S16 bk shapeCasts_S1x16_S16))) do
    let c0 ← colP i h_S6x16x16 arg14 ![stepIx k, lane, colIx 0]
    pure ⟨c0, colIx 1⟩

/-- Step `k`: the keys, then the values. -/
def stepP (k : Fin k0_t3_loop.trips) : TileProg F i PUnit := do
  let ck ← colsP i h_S6x16x16 arg12 fun d => ![stepIx k, lane, colIx d]
  let ⟨c0, x1⟩ ← keysP i arg10 arg13 arg14 arg16 arg17 k ck
  let c1 ← colP i h_S6x16x16 arg14 ![stepIx k, lane, x1]
  let c2 ← colP i h_S6x16x16 arg14 ![stepIx k, lane, colIx 2]
  let c3 ← colP i h_S6x16x16 arg14 ![stepIx k, lane, colIx 3]
  let c4 ← colP i h_S6x16x16 arg14 ![stepIx k, lane, colIx 4]
  let c5 ← colP i h_S6x16x16 arg14 ![stepIx k, lane, colIx 5]
  let c6 ← colP i h_S6x16x16 arg14 ![stepIx k, lane, colIx 6]
  let c7 ← colP i h_S6x16x16 arg14 ![stepIx k, lane, colIx 7]
  let c8 ← colP i h_S6x16x16 arg14 ![stepIx k, lane, colIx 8]
  let c9 ← colP i h_S6x16x16 arg14 ![stepIx k, lane, colIx 9]
  let c10 ← colP i h_S6x16x16 arg14 ![stepIx k, lane, colIx 10]
  let c11 ← colP i h_S6x16x16 arg14 ![stepIx k, lane, colIx 11]
  let c12 ← colP i h_S6x16x16 arg14 ![stepIx k, lane, colIx 12]
  let c13 ← colP i h_S6x16x16 arg14 ![stepIx k, lane, colIx 13]
  let c14 ← colP i h_S6x16x16 arg14 ![stepIx k, lane, colIx 14]
  let c15 ← colP i h_S6x16x16 arg14 ![stepIx k, lane, colIx 15]
  let bv : Vec F S1x16 .f32 ← Prog.lift (.load arg15 (Rect.unit (s := S16x16) (k0_off70 k) S1x16.size
    (k0_off70_inb k)).toLoadRect (View.loadsAt_vmem h_S1x16))
  segV i arg10 arg16 arg17 k (rowVal ![c0, c1, c2, c3, c4, c5, c6, c7, c8, c9, c10, c11, c12, c13, c14, c15]
    (some (shapeCast S16 bv shapeCasts_S1x16_S16))) (pure ⟨⟩)

/-- The first six tables of sixteen, which is all the kernel copies of a weight. -/
def six (a : Memref sig .scVector .hbm S16x16x16 .f32) : Memref sig .scVector .hbm S6x16x16 .f32 :=
  a.slice (Rect.unit (s := S16x16x16) ![0, 0, 0] S6x16x16.size inb_S16x16x16_S6x16x16_0_0_0) (fun _ => rfl)

/-- The seven copies in, and their waits. -/
def copyIn : TileProg F i PUnit := do
  Prog.lift (.enqueueDma arg2 (.here arg10) (.dma arg18.sem) harg2.wordExact harg10.wordExact ⟨Or.inl rfl, trivial⟩)
  Prog.lift (.enqueueDma arg3 (.here arg11) (.dma arg19.sem) harg3.wordExact harg11.wordExact ⟨Or.inl rfl, trivial⟩)
  Prog.lift (.enqueueDma (arg4.slice (Rect.unit (s := S16x16x16) ![0, 0, 0] S6x16x16.size inb_S16x16x16_S6x16x16_0_0_0) (fun _ => rfl)) (.here arg12) (.dma arg20.sem) (View.wordExact_bits rfl) harg12.wordExact ⟨Or.inl rfl, trivial⟩)
  Prog.lift (.enqueueDma arg5 (.here arg13) (.dma arg21.sem) harg5.wordExact harg13.wordExact ⟨Or.inl rfl, trivial⟩)
  Prog.lift (.enqueueDma (arg6.slice (Rect.unit (s := S16x16x16) ![0, 0, 0] S6x16x16.size inb_S16x16x16_S6x16x16_0_0_0) (fun _ => rfl)) (.here arg14) (.dma arg22.sem) (View.wordExact_bits rfl) harg14.wordExact ⟨Or.inl rfl, trivial⟩)
  Prog.lift (.enqueueDma arg7 (.here arg15) (.dma arg23.sem) harg7.wordExact harg15.wordExact ⟨Or.inl rfl, trivial⟩)
  Prog.lift (.enqueueDma arg8 (.here arg16) (.dma arg24.sem) harg8.wordExact harg16.wordExact ⟨Or.inl rfl, trivial⟩)
  Prog.lift (.waitDma2 arg18.sem arg2 arg10 harg2.wordExact harg10.wordExact)
  Prog.lift (.waitDma2 arg19.sem arg3 arg11 harg3.wordExact harg11.wordExact)
  Prog.lift (.waitDma2 arg20.sem (arg4.slice (Rect.unit (s := S16x16x16) ![0, 0, 0] S6x16x16.size inb_S16x16x16_S6x16x16_0_0_0) (fun _ => rfl)) arg12 (View.wordExact_bits rfl) harg12.wordExact)
  Prog.lift (.waitDma2 arg21.sem arg5 arg13 harg5.wordExact harg13.wordExact)
  Prog.lift (.waitDma2 arg22.sem (arg6.slice (Rect.unit (s := S16x16x16) ![0, 0, 0] S6x16x16.size inb_S16x16x16_S6x16x16_0_0_0) (fun _ => rfl)) arg14 (View.wordExact_bits rfl) harg14.wordExact)
  Prog.lift (.waitDma2 arg23.sem arg7 arg15 harg7.wordExact harg15.wordExact)
  Prog.lift (.waitDma2 arg24.sem arg8 arg16 harg8.wordExact harg16.wordExact)

/-- The copy out: 144 rows, or the last tile's 68. -/
def copyOut : TileProg F i PUnit := do
  if k0_h1 : k0_cond1 i = 1#1 then do
    Prog.lift (.enqueueDma (arg17.slice (Rect.unit (s := S2544) ![0] S2304.size inb_S2544_S2304_0) (fun _ => rfl))
      (.here (arg9.slice (Rect.unit (s := S72512) (k0_off105 i) S2304.size (k0_off105_inb i k0_h1)) (fun _ => rfl)))
      (.dma v106_r0.sem) (View.wordExact_bits rfl) (View.wordExact_bits rfl) ⟨Or.inl rfl, trivial⟩)
    Prog.lift (.waitDma2 v106_r0.sem
      (arg17.slice (Rect.unit (s := S2544) ![0] S2304.size inb_S2544_S2304_0) (fun _ => rfl))
      (arg9.slice (Rect.unit (s := S72512) (k0_off105 i) S2304.size (k0_off105_inb i k0_h1)) (fun _ => rfl))
      (View.wordExact_bits rfl) (View.wordExact_bits rfl))
    pure ⟨⟩
  else do
    pure ⟨⟩
  if k0_h2 : k0_cond2 i = 1#1 then do
    Prog.lift (.enqueueDma (arg17.slice (Rect.unit (s := S2544) ![0] S1088.size inb_S2544_S1088_0) (fun _ => rfl))
      (.here (arg9.slice (Rect.unit (s := S72512) (k0_off106 i) S1088.size (k0_off106_inb i k0_h2)) (fun _ => rfl)))
      (.dma v106_r1.sem) (View.wordExact_bits rfl) (View.wordExact_bits rfl) ⟨Or.inl rfl, trivial⟩)
    Prog.lift (.waitDma2 v106_r1.sem
      (arg17.slice (Rect.unit (s := S2544) ![0] S1088.size inb_S2544_S1088_0) (fun _ => rfl))
      (arg9.slice (Rect.unit (s := S72512) (k0_off106 i) S1088.size (k0_off106_inb i k0_h2)) (fun _ => rfl))
      (View.wordExact_bits rfl) (View.wordExact_bits rfl))
    pure ⟨⟩
  else do
    pure ⟨⟩
  pure ⟨⟩

/-- A tile's body. -/
def bodyP : TileProg F i PUnit := do
  copyIn i arg2 harg2 arg3 harg3 arg4 arg5 harg5 arg6 arg7 harg7 arg8 harg8 arg10 harg10 arg11 harg11 arg12 harg12
    arg13 harg13 arg14 harg14 arg15 harg15 arg16 harg16 arg18 arg19 arg20 arg21 arg22 arg23 arg24
  let cq ← colsP i h_S16x16 arg11 fun d => ![lane, colIx d]
  segQ i arg10 arg16 arg17 (rowVal cq none) do
  Scf.Loop.for k0_t3_loop k0_t3_ok ⟨⟩ fun k _ => stepP i arg10 arg12 arg13 arg14 arg15 arg16 arg17 k
  copyOut i arg9 arg17 v106_r0 v106_r1

set_option maxHeartbeats 4000000 in
set_option maxRecDepth 65536 in
/-- The printed body is this one. -/
theorem body_eq : cc0__sc_body (F := F) i arg2 harg2 arg3 harg3 arg4 harg4 arg5 harg5 arg6 harg6 arg7 harg7 arg8 harg8 arg9 harg9
    arg10 harg10 arg11 harg11 arg12 harg12 arg13 harg13 arg14 harg14 arg15 harg15 arg16 harg16 arg17 harg17
    arg18 arg19 arg20 arg21 arg22 arg23 arg24 v106_r0 v106_r1
    = bodyP i arg2 harg2 arg3 harg3 arg4 arg5 harg5 arg6 arg7 harg7 arg8 harg8 arg9
        arg10 harg10 arg11 harg11 arg12 harg12 arg13 harg13 arg14 harg14 arg15 harg15 arg16 harg16 arg17
        arg18 arg19 arg20 arg21 arg22 arg23 arg24 v106_r0 v106_r1 := by
  rfl

end Body

end Cert.KernelIdeal.Kqv
-- ==== Proof.Words.lean ====
/-
The words the kernel computes with, as numbers: the table of base indices, the offsets inside a patch, the
coordinates of an image element, and where each tile's part of each segment begins and how many groups it takes.
-/
module

public import proofs.«01_k».proof.Proof.Text
public import Idealize.ShloMosaic.Lib.LoopRemainder

@[expose] public section

noncomputable section

namespace Cert.KernelIdeal.Kqv

open Idealize.ShloMosaic Idealize.SL.Sem
open Cert.KernelIdeal.Gen

/-! ## The base indices -/

/-- The base index of row `t`. -/
def base (t : ℕ) : BitVec 32 := if h : t < 4548 then lit0 ⟨t, h⟩ else 0#32

/-- The table of base indices, as the program's constant lists it. -/
def idxTab : S4548.Idx → BitVec 32 := fun j => lit0 (S4548.rowMajor j)

theorem lit0_le : ∀ t : Fin 4548, (lit0 t).toNat ≤ 1484 := by decide +kernel

theorem base_le (t : ℕ) : (base t).toNat ≤ 1484 := by
  unfold base; split
  · exact lit0_le _
  · exact Nat.zero_le _

theorem idxTab_eq (j : S4548.Idx) : idxTab j = base (j 0).val := by
  have h : S4548.rowMajor j = ⟨(j 0).val, (j 0).isLt⟩ := Fin.ext (by
    exact Shape.rowMajor_val_one j)
  unfold idxTab base
  rw [h, dif_pos (show (j 0).val < 4548 from (j 0).isLt)]

/-! ## Lanes -/

/-- Lane `l` of a vector register. -/
def ln (l : Fin 16) : S16.Idx := fun a => ⟨l.val, by obtain rfl : a = 0 := Subsingleton.elim _ _; exact l.isLt⟩

/-- The lane a one-axis index names. -/
def nl (y : S16.Idx) : Fin 16 := ⟨(y 0).val, (y 0).isLt⟩

theorem ln_nl (y : S16.Idx) : y = ln (nl y) := by
  funext a; obtain rfl : a = 0 := Subsingleton.elim _ _; rfl

theorem lane_ln : ∀ l : Fin 16, lane (ln l) = BitVec.ofNat 32 l.val := by decide +kernel
theorem zeroV_ln : ∀ l : Fin 16, zeroV (ln l) = 0#32 := by decide +kernel
theorem offV_ln : ∀ l : Fin 16, offV (ln l) = BitVec.ofNat 32 (16 * (l.val / 4) + l.val % 4) := by decide +kernel

theorem colIx_ln (d : ℕ) (l : Fin 16) : colIx d (ln l) = BitVec.ofNat 32 d := by
  show zeroV (ln l) + BitVec.ofNat 32 d = _
  rw [zeroV_ln, BitVec.zero_add]

/-! ## The coordinates of a patch element -/

/-- The flat index of each patch element, for base index `w`. -/
def patchIx (w : BitVec 32) : IVec S16 32 := addi (broadcast S16 w) offV

theorem laneOf_eq {F : FTy → Type} [FloatOps F] {V : EltTy} (e : Vec F S16 V) (d : Fin 16) : laneOf e d = e (ln d) := by
  unfold laneOf extractAt extractStridedSlice
  refine congrArg e (funext fun a => Fin.ext ?_)
  obtain rfl : a = 0 := Subsingleton.elim _ _
  simp [ln]

theorem rowIdx_eq {F : FTy → Type} [FloatOps F] (b : Vec F S16 .i32) (r : Fin 16) :
    rowIdx offV b r = patchIx (b (ln r)) := by
  unfold rowIdx patchIx
  rw [laneOf_eq]

/-- The offset of patch element `l`. -/
def off16 (l : Fin 16) : ℕ := 16 * (l.val / 4) + l.val % 4

theorem off16_lt (l : Fin 16) : off16 l ≤ 51 := by revert l; decide

theorem patchIx_toNat (w : BitVec 32) (hw : w.toNat ≤ 1484) (l : Fin 16) :
    (patchIx w (ln l)).toNat = w.toNat + off16 l := by
  show (w + offV (ln l)).toNat = _
  rw [offV_ln, BitVec.toNat_add, BitVec.toNat_ofNat]
  have := off16_lt l
  unfold off16 at *
  omega

theorem shr_toNat (n : BitVec 32) (k : ℕ) (hk : k < 32) (hn : n.toNat < 2 ^ 31) :
    (IntOp.shrsi .vector n (BitVec.ofNat 32 k)).toNat = n.toNat / 2 ^ k := by
  unfold IntOp.shrsi
  have hk' : (BitVec.ofNat 32 k).toNat = k := by rw [BitVec.toNat_ofNat]; omega
  rw [hk', if_pos hk]
  show (n.sshiftRight (BitVec.ofNat 32 k).toNat).toNat = _
  rw [hk', BitVec.sshiftRight_eq_of_msb_false (by rw [BitVec.msb_eq_false_iff_two_mul_lt]; omega),
    BitVec.toNat_ushiftRight, Nat.shiftRight_eq_div_pow]

theorem and15_toNat (n : BitVec 32) : (n &&& 15#32).toNat = n.toNat % 16 := by
  rw [BitVec.toNat_and]
  exact Nat.and_two_pow_sub_one_eq_mod n.toNat 4

/-- The coordinates of the image element of flat index `n`. -/
def pixel (n : ℕ) : Fin 4 → ℕ := ![0, n / 256, n / 16 % 16, n % 16]

theorem coords_toNat (w : BitVec 32) (hw : w.toNat ≤ 1484) (a : Fin 4) (l : Fin 16) :
    (coords zeroV (patchIx w) a (ln l)).toNat = pixel (w.toNat + off16 l) a := by
  have h := patchIx_toNat w hw l
  have := off16_lt l
  fin_cases a
  · show (zeroV (ln l)).toNat = 0; rw [zeroV_ln]; rfl
  · show (IntOp.shrsi .vector (patchIx w (ln l)) (BitVec.ofNat 32 8)).toNat = _
    rw [shr_toNat _ _ (by omega) (by omega), h]; rfl
  · show (IntOp.shrsi .vector (patchIx w (ln l)) (BitVec.ofNat 32 4) &&& 15#32).toNat = _
    rw [and15_toNat, shr_toNat _ _ (by omega) (by omega), h]; rfl
  · show (patchIx w (ln l) &&& 15#32).toNat = _
    rw [and15_toNat, h]; rfl

theorem pixel_lt (n : ℕ) (hn : n < 1536) (a : Fin 4) : pixel n a < S1x6x16x16.size a := by
  fin_cases a
  · show 0 < 1; omega
  · show n / 256 < 6; omega
  · show n / 16 % 16 < 16; omega
  · show n % 16 < 16; omega

theorem coords_inb (w : BitVec 32) (hw : w.toNat ≤ 1484) :
    ∀ a y, (coords zeroV (patchIx w) a y).toNat < S1x6x16x16.size a := by
  intro a y
  rw [ln_nl y, coords_toNat w hw]
  have := off16_lt (nl y)
  exact pixel_lt _ (by omega) a

/-! ## Tiles and segments -/

/-- The tile's number. -/
def wid (i : grid0.Coords) : ℕ := 2 * (i 1).val + (i 0).val
theorem wid_lt (i : grid0.Coords) : wid i < 32 := by
  have h0 : (i 0).val < 2 := (i 0).isLt
  have h1 : (i 1).val < 16 := (i 1).isLt
  unfold wid; omega

/-- The tile's first row, -/
def rowLo (i : grid0.Coords) : ℕ := 144 * wid i
/-- and the first row past it. -/
def rowHi (i : grid0.Coords) : ℕ := min (144 * wid i + 144) 4532

/-- The grid point of two coordinates. -/
def pt (c : Fin 2) (s : Fin 16) : grid0.Coords :=
  fun | 0 => c | 1 => s | ⟨_ + 2, h⟩ => absurd h (Nat.not_lt.2 (Nat.le_add_left _ _))

theorem pt_eta (i : grid0.Coords) : i = pt (i 0) (i 1) := by
  funext a
  match a with
  | 0 => rfl
  | 1 => rfl
  | ⟨_ + 2, h⟩ => exact absurd h (Nat.not_lt.2 (Nat.le_add_left _ _))

theorem myLo_pt : ∀ (c : Fin 2) (s : Fin 16), (myLo (pt c s)).toNat = rowLo (pt c s) := by decide +kernel
theorem myLo_toNat (i : grid0.Coords) : (myLo i).toNat = rowLo i := by rw [pt_eta i]; exact myLo_pt _ _

/-- Where the key segment of step `k` begins, -/
def keyAt : ℕ → ℕ
  | 0 => 96 | 1 => 222 | 2 => 508 | 3 => 1018 | 4 => 1816 | 5 => 2966 | _ => 4532
/-- and where its value segment does. -/
def valAt : ℕ → ℕ
  | 0 => 159 | 1 => 365 | 2 => 763 | 3 => 1417 | 4 => 2391 | 5 => 3749 | _ => 4532

theorem loQ_pt : ∀ (c : Fin 2) (s : Fin 16), (loQ (pt c s)).toNat = rowLo (pt c s) := by decide +kernel
theorem loK_pt : ∀ (c : Fin 2) (s : Fin 16) (k : Fin 6),
    (loK (pt c s) k.val).toNat = max (keyAt k.val) (rowLo (pt c s)) := by decide +kernel
theorem loV_pt : ∀ (c : Fin 2) (s : Fin 16) (k : Fin 6),
    (loV (pt c s) k.val).toNat = max (valAt k.val) (rowLo (pt c s)) := by decide +kernel

/-- The groups it takes to cover the rows from `lo` to `hi`. -/
def groups (lo hi : ℕ) : ℕ := (hi - lo + 15) / 16

theorem tripsQ_pt : ∀ (c : Fin 2) (s : Fin 16),
    (k0_t1_loop (pt c s)).trips = groups (rowLo (pt c s)) (min 96 (rowHi (pt c s))) := by decide +kernel
theorem trips6 : k0_t3_loop.trips = 6 := by decide +kernel
theorem tripsK_pt : ∀ (c : Fin 2) (s : Fin 16) (k : Fin k0_t3_loop.trips),
    (k0_t4_loop (pt c s) k).trips
      = groups (max (keyAt k.val) (rowLo (pt c s))) (min (valAt k.val) (rowHi (pt c s))) := by decide +kernel
theorem tripsV_pt : ∀ (c : Fin 2) (s : Fin 16) (k : Fin k0_t3_loop.trips),
    (k0_t6_loop (pt c s) k).trips
      = groups (max (valAt k.val) (rowLo (pt c s))) (min (keyAt (k.val + 1)) (rowHi (pt c s))) := by decide +kernel

theorem tripsQ (i : grid0.Coords) : (k0_t1_loop i).trips = groups (rowLo i) (min 96 (rowHi i)) := by
  rw [pt_eta i]; exact tripsQ_pt _ _
theorem tripsK (i : grid0.Coords) (k : Fin k0_t3_loop.trips) :
    (k0_t4_loop i k).trips = groups (max (keyAt k.val) (rowLo i)) (min (valAt k.val) (rowHi i)) := by
  rw [pt_eta i]; exact tripsK_pt _ _ _
theorem tripsV (i : grid0.Coords) (k : Fin k0_t3_loop.trips) :
    (k0_t6_loop i k).trips = groups (max (valAt k.val) (rowLo i)) (min (keyAt (k.val + 1)) (rowHi i)) := by
  rw [pt_eta i]; exact tripsV_pt _ _ _

theorem loQ_toNat (i : grid0.Coords) : (loQ i).toNat = rowLo i := by rw [pt_eta i]; exact loQ_pt _ _
theorem loK_toNat (i : grid0.Coords) (k : Fin k0_t3_loop.trips) :
    (loK i k.val).toNat = max (keyAt k.val) (rowLo i) := by
  rw [pt_eta i]; exact loK_pt _ _ (k.cast trips6)
theorem loV_toNat (i : grid0.Coords) (k : Fin k0_t3_loop.trips) :
    (loV i k.val).toNat = max (valAt k.val) (rowLo i) := by
  rw [pt_eta i]; exact loV_pt _ _ (k.cast trips6)

/-! ## The remainder loops -/

theorem restQ_pt : ∀ (c : Fin 2) (s : Fin 16), (k0_t2_loop (pt c s)).trips = 0 := by decide +kernel
theorem restK_pt : ∀ (c : Fin 2) (s : Fin 16) (k : Fin k0_t3_loop.trips), (k0_t5_loop (pt c s) k).trips = 0 := by
  decide +kernel
theorem restV_pt : ∀ (c : Fin 2) (s : Fin 16) (k : Fin k0_t3_loop.trips), (k0_t7_loop (pt c s) k).trips = 0 := by
  decide +kernel
theorem restQ (i : grid0.Coords) : (k0_t2_loop i).trips = 0 := by rw [pt_eta i]; exact restQ_pt _ _
theorem restK (i : grid0.Coords) (k : Fin k0_t3_loop.trips) : (k0_t5_loop i k).trips = 0 := by
  rw [pt_eta i]; exact restK_pt _ _ _
theorem restV (i : grid0.Coords) (k : Fin k0_t3_loop.trips) : (k0_t7_loop i k).trips = 0 := by
  rw [pt_eta i]; exact restV_pt _ _ _

/-! ## A group's offsets -/

theorem iv_toNat (t : ℕ) (ht : t < 2 ^ 31) : (Scf.iv 0#32 1#32 t).toNat = t := by
  unfold Scf.iv
  rw [BitVec.zero_add, BitVec.mul_one, BitVec.toNat_ofNat]; omega

theorem grpLo_toNat (lo : BitVec 32) (t : ℕ) (h : lo.toNat + 16 * t < 5000) :
    (grpLo lo (Scf.iv 0#32 1#32 t)).toNat = lo.toNat + 16 * t := by
  have ht := iv_toNat t (by omega)
  show (lo + 16#32 * Scf.iv 0#32 1#32 t).toNat = _
  rw [BitVec.toNat_add, BitVec.toNat_mul, ht]
  simp only [BitVec.toNat_ofNat]
  omega

theorem index_toNat (w : BitVec 32) (h : w.toNat < 2 ^ 31) : (Scalar.indexCast w).toNat = w.toNat := rfl

/-- Group `t` reads its base indices at its own first row, -/
theorem offIdx_eq (lo : BitVec 32) (t : ℕ) (h : lo.toNat + 16 * t < 5000) :
    offIdx lo (Scf.iv 0#32 1#32 t) = ![lo.toNat + 16 * t] := by
  have hg := grpLo_toNat lo t h
  unfold offIdx
  rw [index_toNat _ (by omega), hg]

/-- and stores its row `r` sixteen words to a row, counted from the tile's first. -/
theorem offRow_eq (i : grid0.Coords) (lo : BitVec 32) (t r : ℕ) (h : lo.toNat + 16 * t < 5000) (hr : r < 16)
    (hlo : rowLo i ≤ lo.toNat) :
    offRow i lo (Scf.iv 0#32 1#32 t) r = ![16 * (lo.toNat + 16 * t + r - rowLo i)] := by
  have hg := grpLo_toNat lo t h
  have hm := myLo_toNat i
  have : (Scalar.muli 16#32 (Scalar.addi (Scalar.subi (grpLo lo (Scf.iv 0#32 1#32 t)) (myLo i)) (BitVec.ofNat 32 r))).toNat
      = 16 * (lo.toNat + 16 * t + r - rowLo i) := by
    show (16#32 * (grpLo lo (Scf.iv 0#32 1#32 t) - myLo i + BitVec.ofNat 32 r)).toNat = _
    rw [BitVec.toNat_mul, BitVec.toNat_add, BitVec.toNat_sub, hg, hm]
    simp only [BitVec.toNat_ofNat]
    omega
  unfold offRow
  rw [index_toNat _ (by omega), this]

end Cert.KernelIdeal.Kqv
-- ==== Proof.Value.lean ====
/-
What each row of the result is: the patch a base index names, its sixteen dot products with the columns of the
row's segment, and the segment's bias. Then the tile's buffer as rows are stored into it.
-/
module

public import proofs.«01_k».proof.Proof.Words
public import Idealize.ShloMosaic.Lib.Writes

@[expose] public section

noncomputable section

namespace Cert.KernelIdeal.Kqv

open Idealize.ShloMosaic Idealize.SL.Sem
open Cert.KernelIdeal.Gen

variable {F : FTy → Type} [FloatOps F]

/-! ## A row's patch -/

/-- Pixel `n` of the image, row-major. -/
def pixIx (n : ℕ) (hn : n < 1536) : S1x6x16x16.Idx := fun a => ⟨pixel n a, pixel_lt n hn a⟩

/-- The patch at base index `w`: its sixteen elements. -/
def patch (X : Vec F S1x6x16x16 .f32) (w : BitVec 32) (hw : w.toNat ≤ 1484) : Vec F S16 .f32 := fun y =>
  X (pixIx (w.toNat + off16 (nl y)) (by have := off16_lt (nl y); omega))

/-- The patch of row `t`. -/
def rowPatch (X : Vec F S1x6x16x16 .f32) (t : ℕ) : Vec F S16 .f32 := patch X (base t) (base_le t)

/-- It is what the kernel gathers. -/
theorem patch_eq (X : Vec F S1x6x16x16 .f32) (w : BitVec 32) (hw : w.toNat ≤ 1484)
    (h : ∀ a y, (coords zeroV (patchIx w) a y).toNat < S1x6x16x16.size a) :
    loadIdx X (coords zeroV (patchIx w)) h = patch X w hw := by
  funext y
  refine congrArg X (funext fun a => Fin.ext ?_)
  show (coords zeroV (patchIx w) a y).toNat = pixel (w.toNat + off16 (nl y)) a
  conv_lhs => rw [ln_nl y]
  exact coords_toNat w hw a (nl y)

/-! ## The columns -/

/-- Element `(l, d)` of a square table. -/
def at2 (l d : Fin 16) : S16x16.Idx := fun | 0 => ⟨l.val, l.isLt⟩ | 1 => ⟨d.val, d.isLt⟩ | ⟨_ + 2, h⟩ => absurd h (Nat.not_lt.2 (Nat.le_add_left _ _))
/-- Element `(k, l, d)` of a stack of six. -/
def at3 (k : Fin 6) (l d : Fin 16) : S6x16x16.Idx :=
  fun | 0 => ⟨k.val, k.isLt⟩ | 1 => ⟨l.val, l.isLt⟩ | 2 => ⟨d.val, d.isLt⟩ | ⟨_ + 3, h⟩ => absurd h (Nat.not_lt.2 (Nat.le_add_left _ _))

/-- Column `d` of a square table, -/
def col2 (W : Vec F S16x16 .f32) (d : Fin 16) : Vec F S16 .f32 := fun y => W (at2 (nl y) d)
/-- of table `k` of a stack, -/
def col3 (W : Vec F S6x16x16 .f32) (k : Fin 6) (d : Fin 16) : Vec F S16 .f32 := fun y => W (at3 k (nl y) d)
/-- and row `k` of a table of biases. -/
def biasRow (B : Vec F S16x16 .f32) (k : Fin 6) : Vec F S16 .f32 := fun y => B (at2 (k.castLE (by omega)) (nl y))

/-! ## The rows -/

/-- The step whose keys and values row `t` is among. -/
def stepOf (t : ℕ) : Fin 6 :=
  if t < 222 then 0 else if t < 508 then 1 else if t < 1018 then 2 else if t < 1816 then 3 else if t < 2966 then 4 else 5

/-- Row `t` of the result. -/
def outRow (X : Vec F S1x6x16x16 .f32) (WQ : Vec F S16x16 .f32) (WK : Vec F S6x16x16 .f32) (BK : Vec F S16x16 .f32)
    (WV : Vec F S6x16x16 .f32) (BV : Vec F S16x16 .f32) (t : ℕ) : Vec F S16 .f32 :=
  if t < 96 then rowVal (col2 WQ) none (rowPatch X t)
  else if t < valAt (stepOf t).val then rowVal (col3 WK (stepOf t)) (some (biasRow BK (stepOf t))) (rowPatch X t)
  else rowVal (col3 WV (stepOf t)) (some (biasRow BV (stepOf t))) (rowPatch X t)

theorem stepOf_eq (k : Fin 6) (t : ℕ) (h1 : keyAt k.val ≤ t) (h2 : t < keyAt (k.val + 1)) : stepOf t = k := by
  unfold stepOf
  fin_cases k <;> simp only [keyAt] at h1 h2 <;> (repeat' split) <;> first | rfl | omega

theorem seg_order (k : Fin 6) : 96 ≤ keyAt k.val ∧ keyAt k.val < valAt k.val ∧ valAt k.val < keyAt (k.val + 1)
    ∧ keyAt (k.val + 1) ≤ 4532 := by
  revert k; decide

section Rows

variable (X : Vec F S1x6x16x16 .f32) (WQ : Vec F S16x16 .f32) (WK : Vec F S6x16x16 .f32) (BK : Vec F S16x16 .f32)
    (WV : Vec F S6x16x16 .f32) (BV : Vec F S16x16 .f32)

theorem outRow_q (t : ℕ) (h : t < 96) : outRow X WQ WK BK WV BV t = rowVal (col2 WQ) none (rowPatch X t) := by
  unfold outRow; rw [if_pos h]

theorem outRow_k (k : Fin 6) (t : ℕ) (h1 : keyAt k.val ≤ t) (h2 : t < valAt k.val) :
    outRow X WQ WK BK WV BV t = rowVal (col3 WK k) (some (biasRow BK k)) (rowPatch X t) := by
  have ho := seg_order k
  unfold outRow
  rw [if_neg (by omega), stepOf_eq k t h1 (by omega), if_pos h2]

theorem outRow_v (k : Fin 6) (t : ℕ) (h1 : valAt k.val ≤ t) (h2 : t < keyAt (k.val + 1)) :
    outRow X WQ WK BK WV BV t = rowVal (col3 WV k) (some (biasRow BV k)) (rowPatch X t) := by
  have ho := seg_order k
  unfold outRow
  rw [if_neg (by omega), stepOf_eq k t (by omega) h2, if_neg (by omega)]

end Rows

/-! ## The tile's buffer -/

/-- The rows up to `n` are in the buffer, at sixteen words a row from row `lo`. -/
def Good (out : ℕ → Vec F S16 .f32) (lo n : ℕ) (f : Vec F S2544 .f32) : Prop :=
  ∀ j : S2544.Idx, lo + (j 0).val / 16 < n → f j = out (lo + (j 0).val / 16) (ln ⟨(j 0).val % 16, by omega⟩)

theorem Good.mono {out : ℕ → Vec F S16 .f32} {lo n n' : ℕ} {f : Vec F S2544 .f32} (h : Good out lo n f) (hn : n' ≤ n) :
    Good out lo n' f := fun j hj => h j (by omega)

theorem Good.start {out : ℕ → Vec F S16 .f32} {lo n : ℕ} (f : Vec F S2544 .f32) (hn : n ≤ lo) : Good out lo n f :=
  fun j hj => absurd hj (by omega)

/-- A row stored in order keeps the rows before it, and adds itself if it is one of the tile's. -/
theorem Good.store {out : ℕ → Vec F S16 .f32} {lo T hi : ℕ} {f f' : Vec F S2544 .f32} {v : Vec F S16 .f32}
    (h : Good out lo (min T hi) f) (hT : lo ≤ T) (hv : T < hi → out T = v)
    (hin : ∀ j : S2544.Idx, (j 0).val / 16 = T - lo → f' j = v (ln ⟨(j 0).val % 16, by omega⟩))
    (hout : ∀ j : S2544.Idx, (j 0).val / 16 ≠ T - lo → f' j = f j) : Good out lo (min (T + 1) hi) f' := by
  intro j hj
  by_cases e : (j 0).val / 16 = T - lo
  · rw [hin j e, show lo + (j 0).val / 16 = T by omega, hv (by omega)]
  · rw [hout j e]; exact h j (by omega)

end Cert.KernelIdeal.Kqv
-- ==== Proof.Base.lean ====
/-
The set-up every module about the kernel's run shares: the program as the launch theorem sees it, the algebra the
run is reasoned in, a tile's thread, and the buffers as that thread names them.
-/
module

public import proofs.«01_k».proof.Proof.Value
public import Idealize.ShloMosaic.Lib.SparseCore.Quiescent
public import Idealize.ShloMosaic.Lib.SparseCore.Ops
public import Idealize.ShloMosaic.Lib.StableHlo.Run
public import Idealize.ShloMosaic.Lib.Pipeline.Kit
public import Idealize.ShloMosaic.Lib.Tactic

@[expose] public section

noncomputable section

namespace Cert.KernelIdeal.Kqv

open Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

/-! ## The program as the launch theorem sees it -/

abbrev ΛP : Labels := Pipeline.Sig Λ₀ (Fin 0) fun p => (pcfgs (F := F) p).Adm
abbrev K : SparseCore.Cfg τ sig (ΛP (F := F)) 1 := sc (F := F)
abbrev D [FloatOps F] : Defs nD τ sig (Elt F) (ΛP (F := F)) := Pipeline.defs pcfgs defs₀
abbrev 𝒱₀ : Variants := Variants.none
abbrev 𝒱 : Variants := 𝒱₀.lift
abbrev v₀ : 𝒱.V := Sum.inl none

theorem scFacts : (K (F := F)).Facts :=
  ⟨show sc_start ≠ sc_taskDone by decide, show (SemLoc.reg sc_start : SemLoc sig).isScoped .scScalar = false by decide,
    show (SemLoc.reg sc_taskDone : SemLoc sig).isScoped .scScalar = false by decide,
    show (SemLoc.reg sc_go : SemLoc sig).isScoped .scVector = false by decide,
    show (SemLoc.reg sc_done : SemLoc sig).isScoped .tc = false by decide,
    show ∀ (b : DevRef τ sig) (c : Fin τ.nSC), b.owner = .sc c → sig.taskShared b.table b.idx = false by decide,
    fun _ => rfl⟩

/-! ## The algebra: the handshakes' rounds beside the copies' counters -/

abbrev UH : Type := URounds (GSem nD τ sig) ℕ
abbrev UU : Type := UH × Counters

/-- The algebra the run is reasoned in. -/
abbrev MM (F : FTy → Type) : Type := MT nD τ sig (HIx 1) (Elt F) ℕ UU ℕ

local notation "𝕄" => MT nD τ sig (HIx 1) (Elt F) ℕ UU ℕ

/-- The handshakes' rounds are its left factor. -/
abbrev EH : Emb UH (MT nD τ sig (HIx 1) (Elt F) ℕ UU ℕ) := embL

/-! ## A tile's thread and its buffers -/

abbrev cV (i : grid0.Coords) : Fin τ.nSC := (i 0).castLE hcore0
abbrev jV (i : grid0.Coords) : Fin τ.nSub := (i 1).castLE hsub0
/-- The thread of grid point `i` on device `d`. -/
abbrev tile (d : Dev nD) (i : grid0.Coords) : Thread nD τ := V d (cV i) (jV i)

abbrev sX : Memref sig .scVector .vmem S1x6x16x16 .f32 := Memref.whole cc0_scratch0
abbrev sWQ : Memref sig .scVector .vmem S16x16 .f32 := Memref.whole cc0_scratch1
abbrev sWK : Memref sig .scVector .vmem S6x16x16 .f32 := Memref.whole cc0_scratch2
abbrev sBK : Memref sig .scVector .vmem S16x16 .f32 := Memref.whole cc0_scratch3
abbrev sWV : Memref sig .scVector .vmem S6x16x16 .f32 := Memref.whole cc0_scratch4
abbrev sBV : Memref sig .scVector .vmem S16x16 .f32 := Memref.whole cc0_scratch5
abbrev sI : Memref sig .scVector .vmem S4548 .i32 := Memref.whole cc0_scratch6
abbrev sO : Memref sig .scVector .vmem S2544 .f32 := Memref.whole cc0_scratch7

/-- A whole buffer of a tile, held outright at `f`. -/
abbrev own (d : Dev nD) (i : grid0.Coords) (b : Ref sig .scVector)
    (f : Buf (Elt F) ((tile d i).loc b)) : sProp 𝕄 := (tile d i).loc b ↦{fullShare} f

end Cert.KernelIdeal.Kqv
-- ==== Proof.Rows.lean ====
/-
The run of one row and of a group of sixteen: from a buffer that holds the rows before, to one that holds them and
the new ones.
-/
module

public import proofs.«01_k».proof.Proof.Base

@[expose] public section

noncomputable section

namespace Cert.KernelIdeal.Kqv

open Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable (d : Dev nD) (i : grid0.Coords)

/-! ## Sixteen words stored in the buffer -/

abbrev rowRect (off : Fin 1 → ℕ) (hoff : ∀ a, off a + S16.size a ≤ S2544.size a) : Rect S2544 :=
  Rect.unit (s := S2544) off S16.size hoff

/-- The buffer with sixteen words stored at `off`. -/
abbrev stored (off : Fin 1 → ℕ) (hoff : ∀ a, off a + S16.size a ≤ S2544.size a) (f : Vec F S2544 .f32) (v : Vec F S16 .f32) :
    Vec F S2544 .f32 := (sO.access (rowRect off hoff)).write (Elt F) f v Finset.univ

theorem stored_in (off : Fin 1 → ℕ) (hoff : ∀ a, off a + S16.size a ≤ S2544.size a) (f : Vec F S2544 .f32) (v : Vec F S16 .f32)
    (ρ : ℕ) (ho : off = ![16 * ρ]) (j : S2544.Idx) (hj : (j 0).val / 16 = ρ) :
    stored off hoff f v j = v (ln ⟨(j 0).val % 16, by omega⟩) := by
  subst ho
  have e : (sO.access (rowRect ![16 * ρ] hoff)).emb (ln ⟨(j 0).val % 16, by omega⟩) = j := by
    refine funext fun (a : Fin 1) => Fin.ext ?_
    obtain rfl : a = 0 := Subsingleton.elim _ _
    show 16 * ρ + 1 * ((j 0).val % 16) = (j 0).val
    omega
  have h := View.write_emb_of_mem (v := sO.access (rowRect ![16 * ρ] hoff)) (Val := Elt F) f v
    (M := Finset.univ) (x := ln ⟨(j 0).val % 16, by omega⟩) (Finset.mem_univ _)
  rw [e] at h
  exact h

theorem stored_out (off : Fin 1 → ℕ) (hoff : ∀ a, off a + S16.size a ≤ S2544.size a) (f : Vec F S2544 .f32) (v : Vec F S16 .f32)
    (ρ : ℕ) (ho : off = ![16 * ρ]) (j : S2544.Idx) (hj : (j 0).val / 16 ≠ ρ) : stored off hoff f v j = f j := by
  subst ho
  refine View.write_of_not_mem (v := sO.access (rowRect ![16 * ρ] hoff)) f v Finset.univ fun hm => ?_
  obtain ⟨x, -, hx⟩ := Finset.mem_map.mp hm
  have h0 := congrArg (fun y : S2544.Idx => (y 0).val) hx
  have h1 : 16 * ρ + 1 * (x 0).val = (j 0).val := h0
  have h2 : (x 0).val < 16 := (x 0).isLt
  omega

/-! ## One row -/

/-- What the rows are stored from and into: the image, and the buffer with the rows before row `T` of those below `hi`. -/
def Rows (X : Vec F S1x6x16x16 .f32) (out : ℕ → Vec F S16 .f32) (hi T : ℕ) : sProp 𝕄 :=
  iprop(own d i cc0_scratch0 X ∗ ∃ f : Vec F S2544 .f32, ⌜Good out (rowLo i) (min T hi) f⌝ ∗ own d i cc0_scratch7 f)

theorem wp_row {α : Type} (X : Vec F S1x6x16x16 .f32) (out : ℕ → Vec F S16 .f32) (hi T : ℕ) (hT : rowLo i ≤ T)
    {v : Fin 4 → IVec S16 32} {fin : Vec F S16 .f32 → Vec F S16 .f32} {off : Fin 1 → ℕ}
    {hoff : ∀ a, off a + S16.size a ≤ S2544.size a}
    (hv : v = coords zeroV (patchIx (base T))) (ho : off = ![16 * (T - rowLo i)])
    (hval : T < hi → out T = fin (rowPatch X T))
    {k : PUnit → TileProg F i α} {Q : α → sProp 𝕄} :
    Rows d i X out hi T
      ⊢ iprop((Rows d i X out hi (T + 1) -∗ wp frame (wpE defs₀ 𝒱₀ (tile d i) none) Set.univ (k ⟨⟩) Q)
          -∗ wp frame (wpE defs₀ 𝒱₀ (tile d i) none) Set.univ (rowP i sX sO v fin off hoff >>= k) Q) := by
  have hin : ∀ a y, (v a y).toNat < S1x6x16x16.size a := hv ▸ coords_inb (base T) (base_le T)
  have hp : loadIdx X v hin = rowPatch X T := by subst hv; exact patch_eq X (base T) (base_le T) hin
  rw [show (rowP i sX sO v fin off hoff >>= k)
      = .op (.assume (∀ a y, (v a y).toNat < S1x6x16x16.size a) (decidable_of_iff' _ Iff.rfl)) fun h =>
          SparseCore.vectorLoadIdx sX v h.down (View.loads_vmem h_S1x6x16x16) >>= fun e =>
            .op (.load sO (rowRect off hoff).toLoadRect (View.loadsAt_vmem h_S16)) fun _ =>
              .op (.store sO (rowRect off hoff) (fin e) Finset.univ (View.stores_vmem_bits_univ h_S16 rfl) (.inl rfl)) fun _ =>
                k ⟨⟩ from rfl,
    wp_assume_of _ _ _ _ hin]
  unfold Rows
  iintro ⟨HX, %f, %hf, HO⟩ HK
  iapply (SparseCore.wp_vectorLoadIdx 𝒱₀ (tile d i) none Set.univ (base := sX) (S := Finset.univ) (q := fullShare) (f := X)
    (Finset.subset_univ _)) $$ HX
  iintro HX
  iapply (wp_load_rect 𝒱₀ (tile d i) none Set.univ (m := sO) (r := rowRect off hoff) (S := Finset.univ) (q := fullShare) (f := f)
    (Finset.subset_univ _)) $$ HO
  iintro HO
  iapply (wp_store 𝒱₀ (tile d i) none Set.univ (m := sO) (r := rowRect off hoff) (S := Finset.univ) (f := f)
    (Finset.subset_univ _)) $$ HO
  iintro HO
  iapply HK
  isplitl [HX]; · iexact HX
  iexists (stored off hoff f (fin (loadIdx X v hin)))
  isplitr
  · ipureintro
    exact hf.store hT (fun h => by rw [hval h, hp]) (stored_in off hoff f _ _ ho) (stored_out off hoff f _ _ ho)
  · rw [show (sX.access (.whole S1x6x16x16)).read (Elt F) X = X from Memref.read_access_whole (Elt F) cc0_scratch0 X]
    iexact HO

/-! ## A group -/

/-- The base indices a group loads. -/
abbrev idxAtOff (off : Fin 1 → ℕ) (hoff : ∀ a, off a + S16.size a ≤ S4548.size a) : Vec F S16 .i32 :=
  (sI.access (Rect.unit (s := S4548) off S16.size hoff)).read (Elt F) idxTab

theorem idxAtOff_ln (off : Fin 1 → ℕ) (hoff : ∀ a, off a + S16.size a ≤ S4548.size a) (T : ℕ) (ho : off = ![T]) (r : Fin 16) :
    idxAtOff (F := F) off hoff (ln r) = base (T + r.val) := by
  subst ho
  refine (idxTab_eq _).trans (congrArg base ?_)
  show T + 1 * r.val = _
  omega

theorem wp_group (X : Vec F S1x6x16x16 .f32) (out : ℕ → Vec F S16 .f32) (hi T : ℕ) (hT : rowLo i ≤ T)
    {fin : Vec F S16 .f32 → Vec F S16 .f32} {lo n : BitVec 32}
    {hI : ∀ a, offIdx lo n a + S16.size a ≤ S4548.size a}
    {hR : ∀ (r : Fin 16) a, offRow i lo n r a + S16.size a ≤ S2544.size a}
    (hoI : offIdx lo n = ![T]) (hoR : ∀ r : ℕ, r < 16 → offRow i lo n r = ![16 * (T + r - rowLo i)])
    (hval : ∀ t, T ≤ t → t < hi → out t = fin (rowPatch X t)) :
    iprop(own d i cc0_scratch6 (idxTab : Vec F S4548 .i32) ∗ Rows d i X out hi T)
      ⊢ wp frame (wpE defs₀ 𝒱₀ (tile d i) none) Set.univ (groupP i sX sI sO zeroV offV fin lo n hI hR)
          fun _ => iprop(own d i cc0_scratch6 (idxTab : Vec F S4548 .i32) ∗ Rows d i X out hi (T + 16)) := by
  have hb : ∀ r : Fin 16, coords zeroV (rowIdx offV (idxAtOff (F := F) (offIdx lo n) hI) r)
      = coords zeroV (patchIx (base (T + r.val))) := fun r => by
    rw [rowIdx_eq, idxAtOff_ln _ _ T hoI]
  unfold groupP
  iintro ⟨HI, HR⟩
  iapply (wp_load_rect 𝒱₀ (tile d i) none Set.univ (m := sI) (r := Rect.unit (s := S4548) (offIdx lo n) S16.size hI)
    (S := Finset.univ) (q := fullShare) (f := (idxTab : Vec F S4548 .i32)) (Finset.subset_univ _)) $$ HI
  iintro HI
  have row := fun (r : Fin 16) {k : PUnit → TileProg F i PUnit} {Q : PUnit → sProp 𝕄} =>
    wp_row (F := F) (k := k) (Q := Q) (fin := fin) (hoff := hR r) d i X out hi (T + r.val) (by omega) (hb r) (hoR r.val r.isLt) (hval _ (by omega))
  iapply (row 0) $$ HR; iintro HR
  iapply (row 1) $$ HR; iintro HR
  iapply (row 2) $$ HR; iintro HR
  iapply (row 3) $$ HR; iintro HR
  iapply (row 4) $$ HR; iintro HR
  iapply (row 5) $$ HR; iintro HR
  iapply (row 6) $$ HR; iintro HR
  iapply (row 7) $$ HR; iintro HR
  iapply (row 8) $$ HR; iintro HR
  iapply (row 9) $$ HR; iintro HR
  iapply (row 10) $$ HR; iintro HR
  iapply (row 11) $$ HR; iintro HR
  iapply (row 12) $$ HR; iintro HR
  iapply (row 13) $$ HR; iintro HR
  iapply (row 14) $$ HR; iintro HR
  iapply (row 15) $$ HR; iintro HR
  rw [Prog.pure_eq_ret, wp_ret]; imodintro
  isplitl [HI]; · iexact HI
  iexact HR

end Cert.KernelIdeal.Kqv
-- ==== Proof.Segs.lean ====
/-
The run of a segment, of the gathers of the columns, of a step, and of the six steps.
-/
module

public import proofs.«01_k».proof.Proof.Rows

@[expose] public section

noncomputable section

namespace Cert.KernelIdeal.Kqv

open Cert.KernelIdeal.Gen
open Idealize.ShloMosaic
open Idealize.ShloMosaic.SparseCore (S V T)
open Idealize.ShloMosaic.SparseCore.Cfg (HIx Pay)
open Idealize.SL Idealize.SL.RA Idealize.SL.BI
open scoped Idealize.SL.BI
open Idealize.SL.BI.BIBase Idealize.SL.BI.Laws Idealize.SL.ProofMode Idealize.SL.Sem
open Idealize.ShloMosaic.Tactic

variable {F : FTy → Type} [FloatOps F]

local notation "𝕄" => MT nD τ sig (HIx 1) (Elt F) ℕ UU ℕ

variable (d : Dev nD) (i : grid0.Coords)

/-! ## The columns -/

/-- One gather of a whole buffer, its indices in range, yields the gather of its contents. -/
theorem wp_col {α : Type} {s : Shape} {hs : 0 < s.numel} {w : Memref sig .scVector .vmem s .f32}
    {v : Fin s.rank → IVec S16 32} {W : Buf (Elt F) ((w.access (.whole s)).loc (tile d i))} {c : Vec F S16 .f32}
    (hin : ∀ a y, (v a y).toNat < s.size a)
    (hc : loadIdx ((w.access (.whole s)).read (Elt F) W) v hin = c)
    {k : Vec F S16 .f32 → TileProg F i α} {Q : α → sProp 𝕄} :
    ((w.access (.whole s)).loc (tile d i) ↦{fullShare} W)
      ⊢ iprop((((w.access (.whole s)).loc (tile d i) ↦{fullShare} W)
            -∗ wp frame (wpE defs₀ 𝒱₀ (tile d i) none) Set.univ (k c) Q)
          -∗ wp frame (wpE defs₀ 𝒱₀ (tile d i) none) Set.univ (colP i hs w v >>= k) Q) := by
  subst hc
  rw [show (colP i hs w v >>= k)
      = .op (.assume (∀ a y, (v a y).toNat < s.size a) (decidable_of_iff' _ Iff.rfl)) fun h =>
          SparseCore.vectorLoadIdx w v h.down (View.loads_vmem hs) >>= k from rfl,
    wp_assume_of _ _ _ _ hin]
  exact SparseCore.wp_vectorLoadIdx 𝒱₀ (tile d i) none Set.univ (base := w) (S := Finset.univ) (q := fullShare) (f := W)
    (Finset.subset_univ _)

theorem vec16_eta {α : Type} (c : Fin 16 → α) :
    ![c 0, c 1, c 2, c 3, c 4, c 5, c 6, c 7, c 8, c 9, c 10, c 11, c 12, c 13, c 14, c 15] = c := by
  funext x; fin_cases x <;> rfl

/-- Sixteen of them. -/
theorem wp_cols {s : Shape} {hs : 0 < s.numel} {w : Memref sig .scVector .vmem s .f32}
    {v : Fin 16 → Fin s.rank → IVec S16 32} {W : Buf (Elt F) ((w.access (.whole s)).loc (tile d i))}
    {c : Fin 16 → Vec F S16 .f32}
    (hin : ∀ x a y, (v x a y).toNat < s.size a)
    (hc : ∀ x, loadIdx ((w.access (.whole s)).read (Elt F) W) (v x) (hin x) = c x) :
    ((w.access (.whole s)).loc (tile d i) ↦{fullShare} W)
      ⊢ wp frame (wpE defs₀ 𝒱₀ (tile d i) none) Set.univ (colsP i hs w v)
          fun c' => (iprop(⌜c' = c⌝ ∗ ((w.access (.whole s)).loc (tile d i) ↦{fullShare} W)) : sProp 𝕄) := by
  have col := fun (x : Fin 16) {α : Type} {k : Vec F S16 .f32 → TileProg F i α} {Q : α → sProp 𝕄} =>
    wp_col (F := F) (hs := hs) (k := k) (Q := Q) d i (hin x) (hc x)
  unfold colsP
  iintro H
  iapply (col 0) $$ H; iintro H
  iapply (col 1) $$ H; iintro H
  iapply (col 2) $$ H; iintro H
  iapply (col 3) $$ H; iintro H
  iapply (col 4) $$ H; iintro H
  iapply (col 5) $$ H; iintro H
  iapply (col 6) $$ H; iintro H
  iapply (col 7) $$ H; iintro H
  iapply (col 8) $$ H; iintro H
  iapply (col 9) $$ H; iintro H
  iapply (col 10) $$ H; iintro H
  iapply (col 11) $$ H; iintro H
  iapply (col 12) $$ H; iintro H
  iapply (col 13) $$ H; iintro H
  iapply (col 14) $$ H; iintro H
  iapply (col 15) $$ H; iintro H
  rw [Prog.pure_eq_ret, wp_ret]; imodintro
  isplitr
  · ipureintro; exact vec16_eta c
  · iexact H

theorem lane_nl (y : S16.Idx) : (lane y).toNat = (nl y).val := by
  conv_lhs => rw [ln_nl y]
  rw [lane_ln, BitVec.toNat_ofNat]
  have := (nl y).isLt; omega

theorem colIx_nl (x : Fin 16) (y : S16.Idx) : (colIx x.val y).toNat = x.val := by
  conv_lhs => rw [ln_nl y]
  rw [colIx_ln, BitVec.toNat_ofNat]
  have := x.isLt; omega

theorem stepIx_nl (k : ℕ) (hk : k < 6) (y : S16.Idx) : (stepIx k y).toNat = k := by
  conv_lhs => rw [ln_nl y]
  show (zeroV (ln (nl y)) + Scf.iv 0#32 1#32 k).toNat = k
  rw [zeroV_ln, BitVec.zero_add, iv_toNat k (by omega)]

theorem ix2_inb (x : Fin 16) : ∀ a y, ((![lane, colIx x.val] : Fin 2 → IVec S16 32) a y).toNat < S16x16.size a := by
  intro a y
  fin_cases a
  · show (lane y).toNat < 16; rw [lane_nl]; exact (nl y).isLt
  · show (colIx x.val y).toNat < 16; rw [colIx_nl]; exact x.isLt

theorem ix2_col (W : Vec F S16x16 .f32) (x : Fin 16) : loadIdx W (![lane, colIx x.val] : Fin 2 → IVec S16 32) (ix2_inb x) = col2 W x := by
  funext y
  refine congrArg W (funext fun a => Fin.ext ?_)
  fin_cases a
  · exact lane_nl y
  · exact colIx_nl x y

theorem ix3_inb (k : Fin k0_t3_loop.trips) (x : Fin 16) :
    ∀ a y, ((![stepIx k.val, lane, colIx x.val] : Fin 3 → IVec S16 32) a y).toNat < S6x16x16.size a := by
  have hk : k.val < 6 := lt_of_lt_of_eq k.isLt trips6
  intro a y
  fin_cases a
  · show (stepIx k.val y).toNat < 6; rw [stepIx_nl _ hk]; exact hk
  · show (lane y).toNat < 16; rw [lane_nl]; exact (nl y).isLt
  · show (colIx x.val y).toNat < 16; rw [colIx_nl]; exact x.isLt

theorem ix3_col (W : Vec F S6x16x16 .f32) (k : Fin k0_t3_loop.trips) (x : Fin 16) :
    loadIdx W (![stepIx k.val, lane, colIx x.val] : Fin 3 → IVec S16 32) (ix3_inb k x) = col3 W (k.cast trips6) x := by
  have hk : k.val < 6 := lt_of_lt_of_eq k.isLt trips6
  funext y
  refine congrArg W (funext fun a => Fin.ext ?_)
  fin_cases a
  · exact stepIx_nl _ hk y
  · exact lane_nl y
  · exact colIx_nl x y

/-- The bias a step loads, from the row of the table its number names. -/
theorem bias_eq (b : Vec F S1x16 .f32) (B : Vec F S16x16 .f32) (k : Fin 6)
    (hb : ∀ l : Fin 16, b (fun | 0 => ⟨0, Nat.one_pos⟩ | 1 => ⟨l.val, l.isLt⟩ | ⟨_ + 2, h⟩ => absurd h (Nat.not_lt.2 (Nat.le_add_left _ _)))
      = B (at2 (k.castLE (by omega)) l)) :
    shapeCast S16 b shapeCasts_S1x16_S16 = biasRow B k := by
  funext y
  refine Eq.trans (congrArg b (Shape.reshapeEquiv_eq_of_rowMajor _ ?_)) (hb (nl y))
  rw [Shape.rowMajor_val_two, Shape.rowMajor_val_one]
  show 0 * 16 + (nl y).val = (nl y).val
  omega

/-! ## A segment -/

section Seg

variable (X : Vec F S1x6x16x16 .f32) (out : ℕ → Vec F S16 .f32)

/-- The image, the base indices, and the buffer with the tile's rows up to `n`. -/
def Filled (n : ℕ) : sProp 𝕄 :=
  iprop(own d i cc0_scratch6 (idxTab : Vec F S4548 .i32) ∗ own d i cc0_scratch0 X
    ∗ ∃ f : Vec F S2544 .f32, ⌜Good out (rowLo i) n f⌝ ∗ own d i cc0_scratch7 f)

theorem Filled.of_le {n n' : ℕ} (h : n' ≤ n ∨ n' ≤ rowLo i) : Filled d i X out n ⊢ Filled d i X out n' := by
  unfold Filled
  iintro ⟨HI, HX, %f, %hf, HO⟩
  isplitl [HI]; · iexact HI
  isplitl [HX]; · iexact HX
  iexists f; isplitr
  · ipureintro; exact h.elim hf.mono (Good.start f)
  · iexact HO

/-- A segment's loop on this tile, from the first of its rows here to the last. -/
theorem wp_groups {α : Type} {l : Scf.Loop 32} {ok : l.OK} {lo : BitVec 32} {hi : ℕ} {fin : Vec F S16 .f32 → Vec F S16 .f32}
    {hI : ∀ (t : Fin l.trips) a, offIdx lo (Scf.iv 0#32 1#32 t) a + S16.size a ≤ S4548.size a}
    {hR : ∀ (t : Fin l.trips) (r : Fin 16) a, offRow i lo (Scf.iv 0#32 1#32 t) r a + S16.size a ≤ S2544.size a}
    (htr : l.trips = groups lo.toNat hi) (hlo : rowLo i ≤ lo.toNat) (hhi : hi ≤ 4532)
    (hval : ∀ t, lo.toNat ≤ t → t < hi → out t = fin (rowPatch X t))
    {k : PUnit → TileProg F i α} {Q : α → sProp 𝕄} :
    Filled d i X out (min lo.toNat hi)
      ⊢ iprop((Filled d i X out hi -∗ wp frame (wpE defs₀ 𝒱₀ (tile d i) none) Set.univ (k ⟨⟩) Q)
          -∗ wp frame (wpE defs₀ 𝒱₀ (tile d i) none) Set.univ
              (Scf.Loop.for l ok ⟨⟩ (fun t _ => groupP i sX sI sO zeroV offV fin lo (Scf.iv 0#32 1#32 t) (hI t) (hR t)) >>= k) Q) := by
  refine (Scf.wp_for_bind frame (wpE defs₀ 𝒱₀ (tile d i) none) Set.univ l.lb l.ub l.st ok PUnit.unit
    (fun t _ => groupP i sX sI sO zeroV offV fin lo (Scf.iv 0#32 1#32 t) (hI t) (hR t))
    (fun t _ => Filled d i X out (min (lo.toNat + 16 * t) hi)) (fun t _ => ?_) (kk := k) (Q := Q)).trans ?_
  · have ht : t.val < groups lo.toNat hi := lt_of_lt_of_eq t.isLt htr
    have hb : lo.toNat + 16 * t.val < hi := by unfold groups at ht; omega
    refine BIBase.Entails.trans ?_ ((wp_group d i X out hi (lo.toNat + 16 * t.val) (by omega) (offIdx_eq lo t (by omega))
      (fun r hr => offRow_eq i lo t r (by omega) hr hlo) (fun t' h1 h2 => hval t' (by omega) h2)).trans
        (wp_mono frame _ _ fun _ => ?_))
    · unfold Filled Rows
      exact .rfl
    · unfold Filled Rows
      rw [show lo.toNat + 16 * t.val + 16 = lo.toNat + 16 * (t.val + 1) by omega]
  · iintro H HK
    iapply H
    iintro %_ H
    iapply HK
    iapply (Filled.of_le d i X out (n := min (lo.toNat + 16 * l.trips) hi) (n' := hi) (by
      rw [htr]; unfold groups; omega))
    iexact H

/-- The remainder loop is nothing. -/
theorem rest_nil {α : Type} {l : Scf.Loop 32} {ok : l.OK} {body : Fin l.trips → PUnit → TileProg F i PUnit}
    (htr : l.trips = 0) (k : PUnit → TileProg F i α) : (Scf.Loop.for l ok ⟨⟩ body >>= k) = k ⟨⟩ := by
  rw [show Scf.Loop.for l ok ⟨⟩ body = .ret ⟨⟩ from Scf.for_eq_ret l.lb l.ub l.st ok ⟨⟩ body htr]; rfl

theorem wp_segQ {α : Type} {fin : Vec F S16 .f32 → Vec F S16 .f32} {rest : TileProg F i α} {Q : α → sProp 𝕄}
    (hval : ∀ t, t < 96 → out t = fin (rowPatch X t)) :
    Filled d i X out 0
      ⊢ iprop((Filled d i X out (min 96 (rowHi i)) -∗ wp frame (wpE defs₀ 𝒱₀ (tile d i) none) Set.univ rest Q)
          -∗ wp frame (wpE defs₀ 𝒱₀ (tile d i) none) Set.univ (segQ i sX sI sO fin rest) Q) := by
  unfold segQ
  iintro H HK
  ihave H' := (Filled.of_le d i X out (n' := min (loQ i).toNat (min 96 (rowHi i))) (by rw [loQ_toNat]; omega)) $$ H
  iapply (wp_groups d i X out (l := k0_t1_loop i) (lo := loQ i) (by rw [loQ_toNat]; exact tripsQ i) (le_of_eq (loQ_toNat i).symm) (by omega)
    (fun t _ h2 => hval t (by omega))) $$ H'
  iintro H
  rw [rest_nil i (restQ i)]
  iapply HK; iexact H

theorem wp_segK {α : Type} (k : Fin k0_t3_loop.trips) {fin : Vec F S16 .f32 → Vec F S16 .f32} {rest : TileProg F i α}
    {Q : α → sProp 𝕄} (hval : ∀ t, keyAt k.val ≤ t → t < valAt k.val → out t = fin (rowPatch X t)) :
    Filled d i X out (min (keyAt k.val) (rowHi i))
      ⊢ iprop((Filled d i X out (min (valAt k.val) (rowHi i)) -∗ wp frame (wpE defs₀ 𝒱₀ (tile d i) none) Set.univ rest Q)
          -∗ wp frame (wpE defs₀ 𝒱₀ (tile d i) none) Set.univ (segK i sX sI sO k fin rest) Q) := by
  have ho := seg_order (k.cast trips6)
  have hl : rowLo i ≤ rowHi i := by have := wid_lt i; unfold rowLo rowHi; omega
  simp only [Fin.val_cast] at ho
  unfold segK
  iintro H HK
  ihave H' := (Filled.of_le d i X out (n' := min (loK i k).toNat (min (valAt k.val) (rowHi i))) (by rw [loK_toNat]; omega)) $$ H
  iapply (wp_groups d i X out (l := k0_t4_loop i k) (lo := loK i k) (by rw [loK_toNat]; exact tripsK i k) (by rw [loK_toNat]; omega) (by omega)
    (fun t h1 h2 => hval t (by rw [loK_toNat] at h1; omega) (by omega))) $$ H'
  iintro H
  rw [rest_nil i (restK i k)]
  iapply HK; iexact H

theorem wp_segV {α : Type} (k : Fin k0_t3_loop.trips) {fin : Vec F S16 .f32 → Vec F S16 .f32} {rest : TileProg F i α}
    {Q : α → sProp 𝕄} (hval : ∀ t, valAt k.val ≤ t → t < keyAt (k.val + 1) → out t = fin (rowPatch X t)) :
    Filled d i X out (min (valAt k.val) (rowHi i))
      ⊢ iprop((Filled d i X out (min (keyAt (k.val + 1)) (rowHi i)) -∗ wp frame (wpE defs₀ 𝒱₀ (tile d i) none) Set.univ rest Q)
          -∗ wp frame (wpE defs₀ 𝒱₀ (tile d i) none) Set.univ (segV i sX sI sO k fin rest) Q) := by
  have ho := seg_order (k.cast trips6)
  have hl : rowLo i ≤ rowHi i := by have := wid_lt i; unfold rowLo rowHi; omega
  simp only [Fin.val_cast] at ho
  unfold segV
  iintro H HK
  ihave H' := (Filled.of_le d i X out (n' := min (loV i k).toNat (min (keyAt (k.val + 1)) (rowHi i))) (by rw [loV_toNat]; omega)) $$ H
  iapply (wp_groups d i X out (l := k0_t6_loop i k) (lo := loV i k) (by rw [loV_toNat]; exact tripsV i k) (by rw [loV_toNat]; omega) (by omega)
    (fun t h1 h2 => hval t (by rw [loV_toNat] at h1; omega) (by omega))) $$ H'
  iintro H
  rw [rest_nil i (restV i k)]
  iapply HK; iexact H

end Seg

/-! ## A step, and the six -/

section Steps

variable (X : Vec F S1x6x16x16 .f32) (WQ : Vec F S16x16 .f32) (WK : Vec F S6x16x16 .f32) (BK : Vec F S16x16 .f32)
    (WV : Vec F S6x16x16 .f32) (BV : Vec F S16x16 .f32)

/-- The weights and biases of the keys and values, in the tile's memory. -/
def Tables : sProp 𝕄 :=
  iprop(own d i cc0_scratch2 WK ∗ own d i cc0_scratch3 BK ∗ own d i cc0_scratch4 WV ∗ own d i cc0_scratch5 BV)

theorem read_sWK (W : Vec F S6x16x16 .f32) : (sWK.access (.whole S6x16x16)).read (Elt F) W = W :=
  Memref.read_access_whole (Elt F) cc0_scratch2 W
theorem read_sWV (W : Vec F S6x16x16 .f32) : (sWV.access (.whole S6x16x16)).read (Elt F) W = W :=
  Memref.read_access_whole (Elt F) cc0_scratch4 W
theorem read_sWQ (W : Vec F S16x16 .f32) : (sWQ.access (.whole S16x16)).read (Elt F) W = W :=
  Memref.read_access_whole (Elt F) cc0_scratch1 W

/-- The rectangle a step's bias is loaded through. -/
abbrev biasRect (off : Fin 2 → ℕ) (hoff : ∀ a, off a + S1x16.size a ≤ S16x16.size a) : Rect S16x16 :=
  Rect.unit (s := S16x16) off S1x16.size hoff

theorem bias_off (off : Fin 2 → ℕ) (hoff : ∀ a, off a + S1x16.size a ≤ S16x16.size a) (k : Fin 6) (ho : off = ![k.val, 0])
    (l : Fin 16) (x : S1x16.Idx) (h0 : (x 0).val = 0) (h1 : (x 1).val = l.val) :
    (biasRect off hoff).emb x = at2 (k.castLE (by omega)) l := by
  subst ho
  refine funext fun (a : Fin 2) => Fin.ext ?_
  fin_cases a
  · show k.val + 1 * (x 0).val = k.val; omega
  · show 0 + 1 * (x 1).val = l.val; omega

theorem bias_k (B : Vec F S16x16 .f32) (k : Fin 6) (off : Fin 2 → ℕ) (hoff : ∀ a, off a + S1x16.size a ≤ S16x16.size a)
    (ho : off = ![k.val, 0]) :
    shapeCast S16 ((sBK.access (biasRect off hoff)).read (Elt F) B) shapeCasts_S1x16_S16 = biasRow B k :=
  bias_eq _ B k fun l => congrArg B (bias_off off hoff k ho l _ rfl rfl)
theorem bias_v (B : Vec F S16x16 .f32) (k : Fin 6) (off : Fin 2 → ℕ) (hoff : ∀ a, off a + S1x16.size a ≤ S16x16.size a)
    (ho : off = ![k.val, 0]) :
    shapeCast S16 ((sBV.access (biasRect off hoff)).read (Elt F) B) shapeCasts_S1x16_S16 = biasRow B k :=
  bias_eq _ B k fun l => congrArg B (bias_off off hoff k ho l _ rfl rfl)

/-- The keys of step `k`, and the first value column. -/
theorem wp_keys (k : Fin k0_t3_loop.trips) :
    iprop(Filled d i X (outRow X WQ WK BK WV BV) (min (keyAt k.val) (rowHi i)) ∗ Tables d i WK BK WV BV)
      ⊢ wp frame (wpE defs₀ 𝒱₀ (tile d i) none) Set.univ
          (keysP i sX sBK sWV sI sO k (col3 WK (k.cast trips6)))
          fun r => iprop(⌜r = ⟨col3 WV (k.cast trips6) 0, colIx 1⟩⌝
            ∗ Filled d i X (outRow X WQ WK BK WV BV) (min (valAt k.val) (rowHi i)) ∗ Tables d i WK BK WV BV) := by
  unfold keysP Tables
  simp only [Prog.lift, Prog.bind_op, Prog.bind_ret]
  iintro ⟨HF, HWK, HBK, HWV, HBV⟩
  iapply (wp_load_rect 𝒱₀ (tile d i) none Set.univ (m := sBK) (r := biasRect (k0_off35 k) (k0_off35_inb k))
    (S := Finset.univ) (q := fullShare) (f := BK) (Finset.subset_univ _)) $$ HBK
  iintro HBK
  rw [bias_k BK (k.cast trips6) _ _ (k0_off35_eq k)]
  iapply (wp_segK d i X (outRow X WQ WK BK WV BV) k (fun t h1 h2 => outRow_k X WQ WK BK WV BV (k.cast trips6) t h1 h2)) $$ HF
  iintro HF
  iapply (wp_col (F := F) (w := sWV) (W := WV) (c := col3 WV (k.cast trips6) 0) d i (ix3_inb k 0) (by rw [read_sWV]; exact ix3_col WV k 0)) $$ HWV
  iintro HWV
  rw [Prog.pure_eq_ret, wp_ret]; imodintro
  isplitr; · ipureintro; rfl
  isplitl [HF]; · iexact HF
  isplitl [HWK]; · iexact HWK
  isplitl [HBK]; · iexact HBK
  isplitl [HWV]; · iexact HWV
  iexact HBV

/-- Step `k`. -/
theorem wp_step (k : Fin k0_t3_loop.trips) :
    iprop(Filled d i X (outRow X WQ WK BK WV BV) (min (keyAt k.val) (rowHi i)) ∗ Tables d i WK BK WV BV)
      ⊢ wp frame (wpE defs₀ 𝒱₀ (tile d i) none) Set.univ
          (stepP i sX sWK sBK sWV sBV sI sO k)
          fun _ => iprop(Filled d i X (outRow X WQ WK BK WV BV) (min (keyAt (k.val + 1)) (rowHi i)) ∗ Tables d i WK BK WV BV) := by
  unfold stepP
  rw [wp_bind]
  iintro ⟨HF, HT⟩
  iapply (wp_wand frame (wpE defs₀ 𝒱₀ (tile d i) none) Set.univ
    (Q := fun ck => iprop(⌜ck = col3 WK (k.cast trips6)⌝ ∗ Tables d i WK BK WV BV))) $$ [HT]
  · unfold Tables
    icases HT with ⟨HWK, HT⟩
    iapply (wp_wand frame (wpE defs₀ 𝒱₀ (tile d i) none) Set.univ) $$ [HWK]
    · iapply (wp_cols (F := F) (w := sWK) (W := WK) (c := col3 WK (k.cast trips6)) d i (ix3_inb k)
        (fun x => by rw [read_sWK]; exact ix3_col WK k x)) $$ HWK
    iintro %ck ⟨%hck, HWK⟩
    isplitr; · ipureintro; exact hck
    isplitl [HWK]; · iexact HWK
    iexact HT
  iintro %ck ⟨%hck, HT⟩
  subst hck
  rw [wp_bind]
  iapply (wp_wand frame (wpE defs₀ 𝒱₀ (tile d i) none) Set.univ) $$ [HF HT]
  · iapply (wp_keys d i X WQ WK BK WV BV k)
    isplitl [HF] <;> iassumption
  iintro %r ⟨%hr, HF, HT⟩
  subst hr
  dsimp only
  unfold Tables
  simp only [Prog.lift, Prog.bind_op, Prog.bind_ret]
  icases HT with ⟨HWK, HBK, HWV, HBV⟩
  have col := fun (x : Fin 16) {α : Type} {k' : Vec F S16 .f32 → TileProg F i α} {Q : α → sProp 𝕄} =>
    wp_col (F := F) (hs := h_S6x16x16) (w := sWV) (W := WV) (k := k') (Q := Q) d i (ix3_inb k x)
      (c := col3 WV (k.cast trips6) x) (by rw [read_sWV]; exact ix3_col WV k x)
  iapply (col 1) $$ HWV; iintro HWV
  iapply (col 2) $$ HWV; iintro HWV
  iapply (col 3) $$ HWV; iintro HWV
  iapply (col 4) $$ HWV; iintro HWV
  iapply (col 5) $$ HWV; iintro HWV
  iapply (col 6) $$ HWV; iintro HWV
  iapply (col 7) $$ HWV; iintro HWV
  iapply (col 8) $$ HWV; iintro HWV
  iapply (col 9) $$ HWV; iintro HWV
  iapply (col 10) $$ HWV; iintro HWV
  iapply (col 11) $$ HWV; iintro HWV
  iapply (col 12) $$ HWV; iintro HWV
  iapply (col 13) $$ HWV; iintro HWV
  iapply (col 14) $$ HWV; iintro HWV
  iapply (col 15) $$ HWV; iintro HWV
  iapply (wp_load_rect 𝒱₀ (tile d i) none Set.univ (m := sBV) (r := biasRect (k0_off70 k) (k0_off70_inb k))
    (S := Finset.univ) (q := fullShare) (f := BV) (Finset.subset_univ _)) $$ HBV
  iintro HBV
  rw [bias_v BV (k.cast trips6) _ _ (k0_off70_eq k), vec16_eta]
  iapply (wp_segV d i X (outRow X WQ WK BK WV BV) k (fun t h1 h2 => outRow_v X WQ WK BK WV BV (k.cast trips6) t h1 h2)) $$ HF
  iintro HF
  rw [Prog.pure_eq_ret, wp_ret]; imodintro
  isplitl [HF]; · iexact HF
  isplitl [HWK]; · iexact HWK
  isplitl [HBK]; · iexact HBK
  isplitl [HWV]; · iexact HWV
  iexact HBV

/-- The query columns, the query segment and the six steps: the tile's rows, all in the buffer. -/
theorem wp_rows {α : Type} {k : TileProg F i α} {Q : α → sProp 𝕄} :
    iprop(own d i cc0_scratch1 WQ ∗ Filled d i X (outRow X WQ WK BK WV BV) 0 ∗ Tables d i WK BK WV BV)
      ⊢ iprop((iprop(own d i cc0_scratch1 WQ ∗ Filled d i X (outRow X WQ WK BK WV BV) (rowHi i) ∗ Tables d i WK BK WV BV)
            -∗ wp frame (wpE defs₀ 𝒱₀ (tile d i) none) Set.univ k Q)
          -∗ wp frame (wpE defs₀ 𝒱₀ (tile d i) none) Set.univ
            (colsP i h_S16x16 sWQ (fun x => ![lane, colIx x]) >>= fun cq =>
              segQ i sX sI sO (rowVal cq none) (Scf.Loop.for k0_t3_loop k0_t3_ok PUnit.unit
                (fun k _ => stepP i sX sWK sBK sWV sBV sI sO k) >>= fun _ => k)) Q) := by
  rw [wp_bind]
  iintro ⟨HWQ, HF, HT⟩ HK
  iapply (wp_wand frame (wpE defs₀ 𝒱₀ (tile d i) none) Set.univ) $$ [HWQ]
  · iapply (wp_cols (F := F) (w := sWQ) (W := WQ) (c := col2 WQ) d i ix2_inb
      (fun x => by rw [read_sWQ]; exact ix2_col WQ x)) $$ HWQ
  iintro %cq ⟨%hcq, HWQ⟩
  subst hcq
  iapply (wp_segQ d i X (outRow X WQ WK BK WV BV) (fun t h => outRow_q X WQ WK BK WV BV t h)) $$ HF
  iintro HF
  iapply (Scf.wp_for_bind frame (wpE defs₀ 𝒱₀ (tile d i) none) Set.univ k0_t3_loop.lb k0_t3_loop.ub k0_t3_loop.st k0_t3_ok PUnit.unit
    (fun k _ => stepP i sX sWK sBK sWV sBV sI sO k)
    (fun k _ => iprop(Filled d i X (outRow X WQ WK BK WV BV) (min (keyAt k) (rowHi i)) ∗ Tables d i WK BK WV BV))
    (fun k _ => wp_step d i X WQ WK BK WV BV k)) $$ [HF HT]
  · isplitl [HF]; · iexact HF
    iexact HT
  iintro %_ ⟨HF, HT⟩
  iapply HK
  isplitl [HWQ]; · iexact HWQ
  isplitl [HF]
  · rw [show Scf.trips k0_t3_loop.lb k0_t3_loop.ub k0_t3_loop.st = 6 from trips6,
      show min (keyAt 6) (rowHi i) = rowHi i from by rw [show keyAt 6 = 4532 from rfl]; unfold rowHi; omega]
    iexact HF
  iexact HT

end Steps

end Cert.KernelIdeal.Kqv
-- ==== Proof.CopyIn.lean ====
/-
The first thing a tile does: it copies the six arguments and the base indices into its own memory, and waits for the
seven copies.
-/
module

public import proofs.«01_k».proof.Proof.Segs

@[expose] public section

noncomputable section

namespace Cert.KernelIdeal.Kqv

open Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type} [FloatOps F]

local notation "𝕄" => MT nD τ sig (HIx 1) (Elt F) ℕ UU ℕ

abbrev aX : Memref sig .scVector .hbm S1x6x16x16 .f32 := Memref.whole main_arg0_scv
abbrev aWQ : Memref sig .scVector .hbm S16x16 .f32 := Memref.whole main_arg1_scv
abbrev aWK : Memref sig .scVector .hbm S16x16x16 .f32 := Memref.whole main_arg2_scv
abbrev aBK : Memref sig .scVector .hbm S16x16 .f32 := Memref.whole main_arg3_scv
abbrev aWV : Memref sig .scVector .hbm S16x16x16 .f32 := Memref.whole main_arg4_scv
abbrev aBV : Memref sig .scVector .hbm S16x16 .f32 := Memref.whole main_arg5_scv
abbrev aI : Memref sig .scVector .hbm S4548 .i32 := Memref.whole main_c_scv
abbrev aO : Memref sig .scVector .hbm S72512 .f32 := Memref.whole main_v0_scv

variable (d : Dev nD) (i : grid0.Coords)

/-- A semaphore of a tile, at zero. -/
abbrev zero (s : DmaSems sig S_) : sProp 𝕄 := semVal ((tile d i, SemLoc.dma s.sem) : GSem nD τ sig) 0

/-- An array of the device, as a tile addresses it, at a share. -/
abbrev sees (q : PosShare TreeShare) (b : Ref sig .scVector) (f : Buf (Elt F) ((tile d i).loc b)) : sProp 𝕄 :=
  (tile d i).loc b ↦{q} f

/-- The first six tables of sixteen. -/
def first6 (W : Vec F S16x16x16 .f32) : Vec F S6x16x16 .f32 :=
  fun y => W (fun | 0 => ⟨(y 0).val, lt_trans (y 0).isLt (by decide)⟩ | 1 => y 1 | 2 => y 2
                  | ⟨_ + 3, h⟩ => absurd h (Nat.not_lt.2 (Nat.le_add_left _ _)))

/-- They are what the copy of a weight reads. -/
theorem first6_eq (W : Vec F S16x16x16 .f32) :
    (aWK.slice (Rect.unit (s := S16x16x16) ![0, 0, 0] S6x16x16.size inb_S16x16x16_S6x16x16_0_0_0) (fun _ => rfl)).view.read (Elt F) W
      = first6 W := by
  funext y
  refine congrArg W (funext fun (a : Fin 3) => Fin.ext ?_)
  fin_cases a
  · show 0 + 1 * (y 0).val = (y 0).val; omega
  · show 0 + 1 * (y 1).val = (y 1).val; omega
  · show 0 + 1 * (y 2).val = (y 2).val; omega

variable (q : PosShare TreeShare) (X : Vec F S1x6x16x16 .f32) (WQ : Vec F S16x16 .f32) (WK : Vec F S16x16x16 .f32)
  (BK : Vec F S16x16 .f32) (WV : Vec F S16x16x16 .f32) (BV : Vec F S16x16 .f32)

/-- The arguments and the base indices, at a share. -/
def Args : sProp 𝕄 :=
  iprop(sees d i q main_arg0_scv X ∗ sees d i q main_arg1_scv WQ ∗ sees d i q main_arg2_scv WK
    ∗ sees d i q main_arg3_scv BK ∗ sees d i q main_arg4_scv WV ∗ sees d i q main_arg5_scv BV
    ∗ sees d i q main_c_scv (idxTab : Vec F S4548 .i32))

/-- The seven semaphores the copies signal. -/
def Sems : sProp 𝕄 :=
  iprop(zero d i cc0_scratch8 ∗ zero d i cc0_scratch9 ∗ zero d i cc0_scratch10 ∗ zero d i cc0_scratch11
    ∗ zero d i cc0_scratch12 ∗ zero d i cc0_scratch13 ∗ zero d i cc0_scratch14)

theorem wp_copyIn (O : CellTallies nD τ sig (HIx 1)) (W : Waits sig (HIx 1)) (hO : ∀ g, O g none = 0) :
    iprop(levAts (K (F := F)).L (K (F := F)).lev ∗ Args d i q X WQ WK BK WV BV
        ∗ ((∃ f, own d i cc0_scratch0 f) ∗ (∃ f, own d i cc0_scratch1 f) ∗ (∃ f, own d i cc0_scratch2 f)
          ∗ (∃ f, own d i cc0_scratch3 f) ∗ (∃ f, own d i cc0_scratch4 f) ∗ (∃ f, own d i cc0_scratch5 f)
          ∗ (∃ f, own d i cc0_scratch6 f))
        ∗ Sems d i ∗ owes (tile d i) O W)
      ⊢ wp frame (wpE (defs₀ (F := F)) 𝒱₀ (tile d i) none) Set.univ
          (copyIn i aX (Memref.isWhole_whole _) aWQ (Memref.isWhole_whole _) aWK aBK (Memref.isWhole_whole _)
            aWV aBV (Memref.isWhole_whole _) aI (Memref.isWhole_whole _) sX (Memref.isWhole_whole _)
            sWQ (Memref.isWhole_whole _) sWK (Memref.isWhole_whole _) sBK (Memref.isWhole_whole _)
            sWV (Memref.isWhole_whole _) sBV (Memref.isWhole_whole _) sI (Memref.isWhole_whole _)
            cc0_scratch8 cc0_scratch9 cc0_scratch10 cc0_scratch11 cc0_scratch12 cc0_scratch13 cc0_scratch14)
          fun _ => iprop(Args d i q X WQ WK BK WV BV
            ∗ (own d i cc0_scratch0 X ∗ own d i cc0_scratch1 WQ ∗ own d i cc0_scratch6 (idxTab : Vec F S4548 .i32)
              ∗ Tables d i (first6 WK) BK (first6 WV) BV)
            ∗ Sems d i ∗ ∃ W', ⌜∀ p ∈ W', p ∈ W ∨ p.2 = none⌝ ∗ owes (tile d i) O W') := by
  unfold copyIn Args Sems Tables
  iintro ⟨#Hlv, ⟨HaX, HaWQ, HaWK, HaBK, HaWV, HaBV, HaI⟩, ⟨⟨%f0, H0⟩, ⟨%f1, H1⟩, ⟨%f2, H2⟩, ⟨%f3, H3⟩, ⟨%f4, H4⟩, ⟨%f5, H5⟩, ⟨%f6, H6⟩⟩,
    ⟨G8, G9, G10, G11, G12, G13, G14⟩, HO⟩
  ihave Hmw := (show levAts (K (F := F)).L (K (F := F)).lev ⊢ Transfers.MayWaits (tile d i) (default : HIx 1) O from
    (K (F := F)).mayWaits_none (thr := tile d i) hO) $$ Hlv
  ihave HaX := (show sees d i q main_arg0_scv X ⊢ ((aX).view.loc (tile d i) ↦{q} X : sProp 𝕄) from .rfl) $$ HaX
  ihave HaWQ := (show sees d i q main_arg1_scv WQ ⊢ ((aWQ).view.loc (tile d i) ↦{q} WQ : sProp 𝕄) from .rfl) $$ HaWQ
  ihave HaWK := (show sees d i q main_arg2_scv WK ⊢ ((aWK).view.loc (tile d i) ↦{q} WK : sProp 𝕄) from .rfl) $$ HaWK
  ihave HaBK := (show sees d i q main_arg3_scv BK ⊢ ((aBK).view.loc (tile d i) ↦{q} BK : sProp 𝕄) from .rfl) $$ HaBK
  ihave HaWV := (show sees d i q main_arg4_scv WV ⊢ ((aWV).view.loc (tile d i) ↦{q} WV : sProp 𝕄) from .rfl) $$ HaWV
  ihave HaBV := (show sees d i q main_arg5_scv BV ⊢ ((aBV).view.loc (tile d i) ↦{q} BV : sProp 𝕄) from .rfl) $$ HaBV
  ihave HaI := (show sees d i q main_c_scv (idxTab : Vec F S4548 .i32) ⊢ ((aI).view.loc (tile d i) ↦{q} (idxTab : Vec F S4548 .i32) : sProp 𝕄) from .rfl) $$ HaI
  ihave H0 := (show own d i cc0_scratch0 f0 ⊢ ((sX).view.loc (tile d i) ↦{fullShare} f0 : sProp 𝕄) from .rfl) $$ H0
  ihave H1 := (show own d i cc0_scratch1 f1 ⊢ ((sWQ).view.loc (tile d i) ↦{fullShare} f1 : sProp 𝕄) from .rfl) $$ H1
  ihave H2 := (show own d i cc0_scratch2 f2 ⊢ ((sWK).view.loc (tile d i) ↦{fullShare} f2 : sProp 𝕄) from .rfl) $$ H2
  ihave H3 := (show own d i cc0_scratch3 f3 ⊢ ((sBK).view.loc (tile d i) ↦{fullShare} f3 : sProp 𝕄) from .rfl) $$ H3
  ihave H4 := (show own d i cc0_scratch4 f4 ⊢ ((sWV).view.loc (tile d i) ↦{fullShare} f4 : sProp 𝕄) from .rfl) $$ H4
  ihave H5 := (show own d i cc0_scratch5 f5 ⊢ ((sBV).view.loc (tile d i) ↦{fullShare} f5 : sProp 𝕄) from .rfl) $$ H5
  ihave H6 := (show own d i cc0_scratch6 f6 ⊢ ((sI).view.loc (tile d i) ↦{fullShare} f6 : sProp 𝕄) from .rfl) $$ H6
  sl_exec
  sl_step
  rw [show View.write (Elt F) (sX).view f0 (wp_copyIn.sl.dma0 X) Finset.univ = X from (View.write_whole_univ _ _ _)]
  rw [show View.write (Elt F) (sWQ).view f1 (wp_copyIn.sl.dma0_1 WQ) Finset.univ = WQ from (View.write_whole_univ _ _ _)]
  rw [show View.write (Elt F) (sWK).view f2 (wp_copyIn.sl.dma0_2 WK) Finset.univ = first6 WK from (View.write_whole_univ _ _ _).trans (first6_eq WK)]
  rw [show View.write (Elt F) (sBK).view f3 (wp_copyIn.sl.dma0_3 BK) Finset.univ = BK from (View.write_whole_univ _ _ _)]
  rw [show View.write (Elt F) (sWV).view f4 (wp_copyIn.sl.dma0_4 WV) Finset.univ = first6 WV from (View.write_whole_univ _ _ _).trans (first6_eq WV)]
  rw [show View.write (Elt F) (sBV).view f5 (wp_copyIn.sl.dma0_5 BV) Finset.univ = BV from (View.write_whole_univ _ _ _)]
  rw [show View.write (Elt F) (sI).view f6 (wp_copyIn.sl.dma0_6 (F := F)) Finset.univ = (idxTab : Vec F S4548 .i32) from (View.write_whole_univ _ _ _)]
  isplitl [HaX HaWQ HaWK HaBK HaWV HaBV HaI]
  · isplitl [HaX]; · iexact HaX
    isplitl [HaWQ]; · iexact HaWQ
    isplitl [HaWK]; · iexact HaWK
    isplitl [HaBK]; · iexact HaBK
    isplitl [HaWV]; · iexact HaWV
    isplitl [HaBV]; · iexact HaBV
    iexact HaI
  isplitl [H0 H1 H2 H3 H4 H5 H6]
  · isplitl [H0]; · iexact H0
    isplitl [H1]; · iexact H1
    isplitl [H6]; · iexact H6
    isplitl [H2]; · iexact H2
    isplitl [H3]; · iexact H3
    isplitl [H4]; · iexact H4
    iexact H5
  isplitl [G8 G9 G10 G11 G12 G13 G14]
  · isplitl [G8]; · iexact G8
    isplitl [G9]; · iexact G9
    isplitl [G10]; · iexact G10
    isplitl [G11]; · iexact G11
    isplitl [G12]; · iexact G12
    isplitl [G13]; · iexact G13
    iexact G14
  iexists _; isplitr
  swap; · iexact HO
  ipureintro; intro p hp
  simp only [Finset.mem_insert] at hp
  rcases hp with hp | hp | hp | hp | hp | hp | hp | hp
  all_goals first | exact .inl hp | exact .inr (hp ▸ rfl)

end Cert.KernelIdeal.Kqv
-- ==== Proof.CopyOut.lean ====
/-
The last thing a tile does: it copies its rows from its own memory to its block of the result, 144 rows on every tile
but the last, 68 on that one.
-/
module

public import proofs.«01_k».proof.Proof.CopyIn

@[expose] public section

noncomputable section

namespace Cert.KernelIdeal.Kqv

open Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The blocks of the result -/

/-- Tile number `w`'s words of the result. -/
def blk (w : ℕ) : Finset S72512.Idx := Finset.univ.filter fun j => 2304 * w ≤ (j 0).val ∧ (j 0).val < 2304 * w + 2304

/-- The result: sixteen words a row. -/
def flat (out : ℕ → Vec F S16 .f32) : Vec F S72512 .f32 :=
  fun j => out ((j 0).val / 16) (ln ⟨(j 0).val % 16, by omega⟩)

/-- A slice of the result, and of a tile's buffer. -/
abbrev oRect (off sz : Fin 1 → ℕ) (hoff : ∀ a, off a + sz a ≤ S72512.size a) : Rect S72512 := Rect.unit (s := S72512) off sz hoff
abbrev bRect (sz : Fin 1 → ℕ) (hsz : ∀ a, (![0] : Fin 1 → ℕ) a + sz a ≤ S2544.size a) : Rect S2544 :=
  Rect.unit (s := S2544) ![0] sz hsz

theorem blk_set (off sz : Fin 1 → ℕ) (hoff : ∀ a, off a + sz a ≤ S72512.size a) (w : ℕ) (ho : off 0 = 2304 * w)
    (hsz : sz 0 = min 2304 (72512 - 2304 * w)) :
    (aO.slice (oRect off sz hoff) (fun _ => rfl)).view.set = blk w := by
  show ((View.whole (main_v0_scv : Ref sig .scVector)).slice (oRect off sz hoff)).set = _
  rw [View.set_slice]
  refine Finset.map_refl.trans (Finset.ext fun j => ?_)
  have hj : (j 0).val < 72512 := (j 0).isLt
  rw [blk, Finset.mem_filter, Rect.mem_set_unit]
  constructor
  · intro h
    have h0 := h 0
    exact ⟨Finset.mem_univ _, by omega, by omega⟩
  · rintro ⟨-, h1, h2⟩ (a : Fin 1)
    obtain rfl : a = 0 := Subsingleton.elim _ _
    exact ⟨by omega, by omega⟩

/-- What the copy writes is the rows. -/
theorem copied (off sz : Fin 1 → ℕ) (hoff : ∀ a, off a + sz a ≤ S72512.size a)
    (hb : ∀ a, (![0] : Fin 1 → ℕ) a + sz a ≤ S2544.size a) (w : ℕ) (ho : off 0 = 2304 * w)
    (hsz : sz 0 = min 2304 (72512 - 2304 * w)) (out : ℕ → Vec F S16 .f32) (f : Vec F S2544 .f32) (g : Vec F S72512 .f32)
    (hf : Good out (144 * w) (min (144 * w + 144) 4532) f) (j : S72512.Idx) (hj : j ∈ blk w) :
    View.write (Elt F) (aO.slice (oRect off sz hoff) (fun _ => rfl)).view g
      ((sO.slice (bRect sz hb) (fun _ => rfl)).view.read (Elt F) f) Finset.univ j = flat out j := by
  have hj0 : (j 0).val < 72512 := (j 0).isLt
  obtain ⟨-, h1, h2⟩ := Finset.mem_filter.mp hj
  have hx : (j 0).val - 2304 * w < sz 0 := by omega
  let x : (oRect off sz hoff).shape.Idx := fun (a : Fin 1) => ⟨(j 0).val - 2304 * w, by
    obtain rfl : a = 0 := Subsingleton.elim _ _; exact hx⟩
  have e : (aO.slice (oRect off sz hoff) (fun _ => rfl)).view.emb x = j := by
    refine funext fun (a : Fin 1) => Fin.ext ?_
    obtain rfl : a = 0 := Subsingleton.elim _ _
    show off 0 + 1 * ((j 0).val - 2304 * w) = (j 0).val
    omega
  have h := View.write_emb_of_mem (v := (aO.slice (oRect off sz hoff) (fun _ => rfl)).view) (Val := Elt F) g
    ((sO.slice (bRect sz hb) (fun _ => rfl)).view.read (Elt F) f) (M := Finset.univ) (x := x) (Finset.mem_univ _)
  rw [e] at h
  refine h.trans ?_
  let y : S2544.Idx := (sO.slice (bRect sz hb) (fun _ => rfl)).view.emb x
  have hy : (y 0).val = (j 0).val - 2304 * w := by
    show 0 + 1 * ((j 0).val - 2304 * w) = _
    omega
  refine (hf y (by rw [hy]; omega)).trans ?_
  unfold flat
  have e1 : 144 * w + (y 0).val / 16 = (j 0).val / 16 := by rw [hy]; omega
  have e2 : (⟨(y 0).val % 16, by omega⟩ : Fin 16) = ⟨(j 0).val % 16, by omega⟩ := Fin.ext (by show (y 0).val % 16 = (j 0).val % 16; rw [hy]; omega)
  rw [e1, e2]

theorem cond1_pt : ∀ (c : Fin 2) (s : Fin 16), k0_cond1 (pt c s) = 1#1 ↔ wid (pt c s) < 31 := by decide +kernel
theorem cond2_pt : ∀ (c : Fin 2) (s : Fin 16), k0_cond2 (pt c s) = 1#1 ↔ wid (pt c s) = 31 := by decide +kernel
theorem cond1_iff (i : grid0.Coords) : k0_cond1 i = 1#1 ↔ wid i < 31 := by rw [pt_eta i]; exact cond1_pt _ _
theorem cond2_iff (i : grid0.Coords) : k0_cond2 i = 1#1 ↔ wid i = 31 := by rw [pt_eta i]; exact cond2_pt _ _

theorem off105 (i : grid0.Coords) : k0_off105 i 0 = 2304 * wid i := by
  rw [k0_off105_eq]; show 4608 * (i 1).val + 2304 * (i 0).val = _; unfold wid; omega
theorem off106 (i : grid0.Coords) : k0_off106 i 0 = 2304 * wid i := by
  rw [k0_off106_eq]; show 4608 * (i 1).val + 2304 * (i 0).val = _; unfold wid; omega

/-! ## The copy -/

variable [FloatOps F] (d : Dev nD) (i : grid0.Coords)

/-- A tile's block of the result. -/
abbrev mine (g : Vec F S72512 .f32) : sProp 𝕄 := (tile d i).loc main_v0_scv ↦[blk (wid i)]{fullShare} g

theorem wp_copyOut (out : ℕ → Vec F S16 .f32) (f : Vec F S2544 .f32) (g : Vec F S72512 .f32)
    (hf : Good out (rowLo i) (rowHi i) f)
    (O : CellTallies nD τ sig (HIx 1)) (W : Waits sig (HIx 1)) (hO : ∀ g, O g none = 0) :
    iprop(levAts (K (F := F)).L (K (F := F)).lev ∗ mine d i g ∗ own d i cc0_scratch7 f
        ∗ (zero d i cc0_scoped0 ∗ zero d i cc0_scoped1) ∗ owes (tile d i) O W)
      ⊢ wp frame (wpE (defs₀ (F := F)) 𝒱₀ (tile d i) none) Set.univ
          (copyOut i aO sO cc0_scoped0 cc0_scoped1)
          fun _ => iprop(mine d i (flat out) ∗ own d i cc0_scratch7 f
            ∗ (zero d i cc0_scoped0 ∗ zero d i cc0_scoped1) ∗ ∃ W', ⌜∀ p ∈ W', p ∈ W ∨ p.2 = none⌝ ∗ owes (tile d i) O W') := by
  have hw := wid_lt i
  unfold copyOut
  iintro ⟨#Hlv, HM, H7, ⟨G0, G1⟩, HO⟩
  ihave Hmw := (show levAts (K (F := F)).L (K (F := F)).lev ⊢ Transfers.MayWaits (tile d i) (default : HIx 1) O from
    (K (F := F)).mayWaits_none (thr := tile d i) hO) $$ Hlv
  ihave H7 := (show own d i cc0_scratch7 f ⊢ ((sO).view.loc (tile d i) ↦{fullShare} f : sProp 𝕄) from .rfl) $$ H7
  by_cases hc : wid i < 31
  · have k0_h1 : k0_cond1 i = 1#1 := (cond1_iff i).mpr hc
    have k0_h2 : ¬ k0_cond2 i = 1#1 := fun h => by have := (cond2_iff i).mp h; omega
    have hs := blk_set (k0_off105 i) S2304.size (k0_off105_inb i k0_h1) (wid i) (off105 i) (by show 2304 = _; omega)
    have hcp := copied (F := F) (k0_off105 i) S2304.size (k0_off105_inb i k0_h1) inb_S2544_S2304_0 (wid i) (off105 i)
      (by show 2304 = _; omega) out f g hf
    ihave HM := (show mine d i g ⊢ ((aO.slice (oRect (k0_off105 i) S2304.size (k0_off105_inb i k0_h1)) (fun _ => rfl)).view.loc (tile d i)
      ↦[(aO.slice (oRect (k0_off105 i) S2304.size (k0_off105_inb i k0_h1)) (fun _ => rfl)).view.set]{fullShare} g : sProp 𝕄) from by
        rw [hs]) $$ HM
    sl_exec
    sl_step
    isplitl [HM]
    · rw [← View.write_univ_eq_writes_whole (aO.slice (oRect (k0_off105 i) S2304.size (k0_off105_inb i k0_h1)) (fun _ => rfl)).view g []
        (wp_copyOut.sl.dma0 f), hs]
      iapply (Entails.of_eq (pointsTo_congr (ℓ := (tile d i).loc main_v0_scv) (I := blk (wid i)) (q := fullShare) hcp))
      iexact HM
    isplitl [H7]; · iexact H7
    isplitl [G0 G1]; · isplitl [G0]; · iexact G0
                       iexact G1
    iexists _; isplitr
    swap; · iexact HO
    ipureintro; intro p hp
    rcases Finset.mem_insert.mp hp with hp | hp
    · exact .inr (hp ▸ rfl)
    · exact .inl hp
  · have k0_h1 : ¬ k0_cond1 i = 1#1 := fun h => hc ((cond1_iff i).mp h)
    have k0_h2 : k0_cond2 i = 1#1 := (cond2_iff i).mpr (by omega)
    have hs := blk_set (k0_off106 i) S1088.size (k0_off106_inb i k0_h2) (wid i) (off106 i) (by show 1088 = _; omega)
    have hcp := copied (F := F) (k0_off106 i) S1088.size (k0_off106_inb i k0_h2) inb_S2544_S1088_0 (wid i) (off106 i)
      (by show 1088 = _; omega) out f g hf
    ihave HM := (show mine d i g ⊢ ((aO.slice (oRect (k0_off106 i) S1088.size (k0_off106_inb i k0_h2)) (fun _ => rfl)).view.loc (tile d i)
      ↦[(aO.slice (oRect (k0_off106 i) S1088.size (k0_off106_inb i k0_h2)) (fun _ => rfl)).view.set]{fullShare} g : sProp 𝕄) from by
        rw [hs]) $$ HM
    sl_exec
    sl_step
    isplitl [HM]
    · rw [← View.write_univ_eq_writes_whole (aO.slice (oRect (k0_off106 i) S1088.size (k0_off106_inb i k0_h2)) (fun _ => rfl)).view g []
        (wp_copyOut.sl.dma0_1 f), hs]
      iapply (Entails.of_eq (pointsTo_congr (ℓ := (tile d i).loc main_v0_scv) (I := blk (wid i)) (q := fullShare) hcp))
      iexact HM
    isplitl [H7]; · iexact H7
    isplitl [G0 G1]; · isplitl [G0]; · iexact G0
                       iexact G1
    iexists _; isplitr
    swap; · iexact HO
    ipureintro; intro p hp
    rcases Finset.mem_insert.mp hp with hp | hp
    · exact .inr (hp ▸ rfl)
    · exact .inl hp

end Cert.KernelIdeal.Kqv
-- ==== Proof.Tile.lean ====
/-
A tile's whole body: the copies in, its rows, the copy out; from the tile's own memory and semaphores and its share of
the arrays, to its block of the result.
-/
module

public import proofs.«01_k».proof.Proof.CopyOut

@[expose] public section

noncomputable section

namespace Cert.KernelIdeal.Kqv

open Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

variable (d : Dev nD) (i : grid0.Coords)

/-! ## A tile's own memory and semaphores -/

/-- The kernel's scratch buffers and its semaphores. -/
abbrev bufs8 : Finset (Ref sig .scVector) :=
  {cc0_scratch0, cc0_scratch1, cc0_scratch2, cc0_scratch3, cc0_scratch4, cc0_scratch5, cc0_scratch6, cc0_scratch7}
abbrev sems9 : Finset (SemLoc sig) :=
  {.dma cc0_scratch8.sem, .dma cc0_scratch9.sem, .dma cc0_scratch10.sem, .dma cc0_scratch11.sem, .dma cc0_scratch12.sem,
    .dma cc0_scratch13.sem, .dma cc0_scratch14.sem, .dma cc0_scoped0.sem, .dma cc0_scoped1.sem}

/-- A buffer and a semaphore as this tile's. -/
def bufAt : Ref sig .scVector ↪ DevRef τ sig := ⟨(Proc.scVector (cV i) (jV i)).devRef, Proc.devRef_injective _⟩
def semAt : SemLoc sig ↪ GSem nD τ sig := ⟨fun s => (tile d i, s), fun _ _ e => (Prod.mk.inj e).2⟩

theorem bigSep_pick {α : Type} [DecidableEq α] {s t : Finset α} (h : t ⊆ s) (Φ : α → sProp 𝕄) :
    bigSep s Φ = iprop(bigSep t Φ ∗ bigSep (s \ t) Φ) := by
  conv_lhs => rw [← Finset.union_sdiff_of_subset h]
  exact bigSep_union Finset.disjoint_sdiff

theorem bufs8_own : bufs8.map (bufAt i) ⊆ ownRefs (τ := τ) (.scVector (cV i) (jV i)) := by
  intro b hb
  obtain ⟨r, hr, rfl⟩ := Finset.mem_map.mp hb
  refine SparseCore.Cfg.mem_ownRefs_of_owner (p := Proc.scVector (cV i) (jV i)) ?_
  simp only [bufs8, Finset.mem_insert, Finset.mem_singleton] at hr
  rcases hr with rfl | rfl | rfl | rfl | rfl | rfl | rfl | rfl <;> rfl

theorem sems9_scoped : ∀ s ∈ sems9, s.isScoped .scVector = true := by decide

theorem sems9_own : sems9.map (semAt d i) ⊆ ownCells (tile d i) := by
  intro g hg
  obtain ⟨s, hs, rfl⟩ := Finset.mem_map.mp hg
  exact mem_ownCells.mpr ⟨rfl, sems9_scoped s hs⟩

/-- Some contents of one of this tile's buffers. -/
abbrev some_ (b : Ref sig .scVector) : sProp 𝕄 := iprop(∃ f, own (F := F) d i b f)

/-- What is left of the tile's memory and of its semaphores. -/
def restBufs : sProp 𝕄 :=
  bigSep (ownRefs (τ := τ) (.scVector (cV i) (jV i)) \ bufs8.map (bufAt i)) fun b => iprop(∃ f, ((d, b) : Loc nD τ sig) ↦{fullShare} f)
def restSems : sProp 𝕄 := bigSep (ownCells (tile d i) \ sems9.map (semAt d i)) fun g => semVal g 0

theorem ownBufs_eq :
    (ownBufs (tile d i) : sProp 𝕄)
      = iprop((some_ d i cc0_scratch0 ∗ some_ d i cc0_scratch1 ∗ some_ d i cc0_scratch2 ∗ some_ d i cc0_scratch3
          ∗ some_ d i cc0_scratch4 ∗ some_ d i cc0_scratch5 ∗ some_ d i cc0_scratch6 ∗ some_ d i cc0_scratch7) ∗ restBufs d i) := by
  unfold SparseCore.Cfg.ownBufs restBufs
  refine (bigSep_pick (bufs8_own i) _).trans ?_
  rw [bigSep_map]
  unfold bufs8
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), bigSep_singleton]
  rfl

theorem ownSems_eq :
    (ownSems0 (tile d i) : sProp 𝕄) = iprop((Sems d i ∗ zero d i cc0_scoped0 ∗ zero d i cc0_scoped1) ∗ restSems d i) := by
  unfold SparseCore.Cfg.ownSems0 restSems Sems
  refine (bigSep_pick (sems9_own d i) _).trans ?_
  rw [bigSep_map]
  unfold sems9
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]
  have e : ∀ A B C : sProp 𝕄, iprop((A ∗ B) ∗ C) = iprop(A ∗ B ∗ C) := fun A B C =>
    BI.Entails.antisymm
      (show iprop((A ∗ B) ∗ C) ⊢ iprop(A ∗ B ∗ C) by
        iintro ⟨⟨HA, HB⟩, HC⟩; isplitl [HA]; · iexact HA
        isplitl [HB] <;> iassumption)
      (show iprop(A ∗ B ∗ C) ⊢ iprop((A ∗ B) ∗ C) by
        iintro ⟨HA, HB, HC⟩; isplitr [HC]
        · isplitl [HA] <;> iassumption
        · iexact HC)
  simp only [e]
  rfl

/-! ## The body -/

variable [FloatOps F]
variable (q : PosShare TreeShare) (X : Vec F S1x6x16x16 .f32) (WQ : Vec F S16x16 .f32) (WK : Vec F S16x16x16 .f32)
  (BK : Vec F S16x16 .f32) (WV : Vec F S16x16x16 .f32) (BV : Vec F S16x16 .f32)

/-- The kernel's result, row by row. -/
abbrev kernelRow : ℕ → Vec F S16 .f32 := outRow X WQ (first6 WK) BK (first6 WV) BV

theorem tile_body (g : Vec F S72512 .f32) (O : CellTallies nD τ sig (HIx 1)) (W : Waits sig (HIx 1)) (hO : ∀ g, O g none = 0) :
    iprop(levAts (K (F := F)).L (K (F := F)).lev ∗ emp ∗ (Args d i q X WQ WK BK WV BV ∗ mine d i g)
        ∗ scopedBufs (tile d i) ∗ scopedSems0 (tile d i) ∗ owes (tile d i) O W)
      ⊢ wp frame (wpE (defs₀ (F := F)) 𝒱₀ (tile d i) none) Set.univ
          (cc0__sc_body i aX (Memref.isWhole_whole _) aWQ (Memref.isWhole_whole _) aWK (Memref.isWhole_whole _)
            aBK (Memref.isWhole_whole _) aWV (Memref.isWhole_whole _) aBV (Memref.isWhole_whole _) aI (Memref.isWhole_whole _)
            aO (Memref.isWhole_whole _) sX (Memref.isWhole_whole _)
            sWQ (Memref.isWhole_whole _) sWK (Memref.isWhole_whole _) sBK (Memref.isWhole_whole _)
            sWV (Memref.isWhole_whole _) sBV (Memref.isWhole_whole _) sI (Memref.isWhole_whole _) sO (Memref.isWhole_whole _)
            cc0_scratch8 cc0_scratch9 cc0_scratch10 cc0_scratch11 cc0_scratch12 cc0_scratch13 cc0_scratch14
            cc0_scoped0 cc0_scoped1)
          fun _ => iprop((Args d i q X WQ WK BK WV BV ∗ mine d i (flat (kernelRow X WQ WK BK WV BV)))
            ∗ scopedBufs (tile d i) ∗ scopedSems0 (tile d i)
            ∗ ∃ W', ⌜∀ p ∈ W', p ∈ W ∨ p.2 = none⌝ ∗ owes (tile d i) O W') := by
  rw [(K (F := F)).scopedBufs_V scFacts d (cV i) (jV i), SparseCore.Cfg.scopedSems0_V (Val := Elt F) d (cV i) (jV i),
    ownSems_eq, ownBufs_eq, body_eq]
  unfold bodyP
  rw [wp_bind]
  iintro ⟨#Hlv, -, ⟨HA, HM⟩, ⟨⟨H0, H1, H2, H3, H4, H5, H6, H7⟩, HB⟩, ⟨⟨HS, HG⟩, HR⟩, HO⟩
  iapply (wp_wand frame (wpE defs₀ 𝒱₀ (tile d i) none) Set.univ) $$ [HA H0 H1 H2 H3 H4 H5 H6 HS HO]
  · iapply (wp_copyIn d i q X WQ WK BK WV BV O W hO)
    isplitr; · iexact Hlv
    isplitl [HA]; · iexact HA
    isplitl [H0 H1 H2 H3 H4 H5 H6]
    · isplitl [H0]; · iexact H0
      isplitl [H1]; · iexact H1
      isplitl [H2]; · iexact H2
      isplitl [H3]; · iexact H3
      isplitl [H4]; · iexact H4
      isplitl [H5]; · iexact H5
      iexact H6
    isplitl [HS]; · iexact HS
    iexact HO
  iintro %_ ⟨HA, ⟨H0, H1, H6, HT⟩, HS, %W₁, %hW₁, HO⟩
  icases H7 with ⟨%f7, H7⟩
  iapply (wp_rows d i X WQ (first6 WK) BK (first6 WV) BV) $$ [H0 H1 H6 H7 HT]
  · isplitl [H1]; · iexact H1
    isplitr [HT]
    · unfold Filled
      isplitl [H6]; · iexact H6
      isplitl [H0]; · iexact H0
      iexists f7; isplitr
      · ipureintro; exact Good.start f7 (Nat.zero_le _)
      · iexact H7
    · iexact HT
  iintro ⟨H1, HF, HT⟩
  unfold Filled Tables
  icases HF with ⟨H6, H0, %f, %hf, H7⟩
  icases HT with ⟨H2, H3, H4, H5⟩
  iapply (wp_wand frame (wpE defs₀ 𝒱₀ (tile d i) none) Set.univ) $$ [HM H7 HG HO]
  · iapply (wp_copyOut d i _ f g hf O W₁ hO)
    isplitr; · iexact Hlv
    isplitl [HM]; · iexact HM
    isplitl [H7]; · iexact H7
    isplitl [HG]; · iexact HG
    iexact HO
  iintro %_ ⟨HM, H7, HG, %W₂, %hW₂, HO⟩
  isplitl [HA HM]; · isplitl [HA]; · iexact HA
                     iexact HM
  isplitl [H0 H1 H2 H3 H4 H5 H6 H7 HB]
  · isplitr [HB]
    · isplitl [H0]; · iexists _; iexact H0
      isplitl [H1]; · iexists _; iexact H1
      isplitl [H2]; · iexists _; iexact H2
      isplitl [H3]; · iexists _; iexact H3
      isplitl [H4]; · iexists _; iexact H4
      isplitl [H5]; · iexists _; iexact H5
      isplitl [H6]; · iexists _; iexact H6
      iexists _; iexact H7
    · iexact HB
  isplitl [HS HG HR]
  · isplitr [HR]
    · isplitl [HS]; · iexact HS
      iexact HG
    · iexact HR
  iexists W₂; isplitr
  · ipureintro; intro p hp
    exact (hW₂ p hp).elim (hW₁ p) .inr
  · iexact HO

end Cert.KernelIdeal.Kqv
-- ==== Proof.Deal.lean ====
/-
What the launch deals the tiles: every tile a share of the arguments and of the base indices to read, and its own
block of the result to write.
-/
module

public import proofs.«01_k».proof.Proof.Tile

@[expose] public section

noncomputable section

namespace Cert.KernelIdeal.Kqv

open Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic

variable {F : FTy → Type}

local notation "𝕄" => MT nD τ sig (HIx 1) (Elt F) ℕ UU ℕ

/-! ## The blocks: disjoint, and the whole result -/

theorem blk_disjoint {w w' : ℕ} (h : w ≠ w') : Disjoint (blk w) (blk w') :=
  Finset.disjoint_left.mpr fun j hj hj' => by
    obtain ⟨-, h1, h2⟩ := Finset.mem_filter.mp hj
    obtain ⟨-, h3, h4⟩ := Finset.mem_filter.mp hj'
    omega

theorem wid_pt (c : Fin 2) (s : Fin 16) : wid (pt c s) = 2 * s.val + c.val := rfl

/-- A SparseCore's part of the result. -/
def half (c : Fin 2) : Finset S72512.Idx := Finset.univ.biUnion fun s : Fin 16 => blk (wid (pt c s))

theorem blks_disjoint (c : Fin 2) : ∀ s ∈ (Finset.univ : Finset (Fin 16)), ∀ s' ∈ (Finset.univ : Finset (Fin 16)), s ≠ s' →
    Disjoint (blk (wid (pt c s))) (blk (wid (pt c s'))) := fun s _ s' _ h => by
  refine blk_disjoint fun e => h (Fin.ext ?_)
  rw [wid_pt, wid_pt] at e; omega

theorem halves_disjoint : ∀ c ∈ (Finset.univ : Finset (Fin 2)), ∀ c' ∈ (Finset.univ : Finset (Fin 2)), c ≠ c' →
    Disjoint (half c) (half c') := fun c _ c' _ h => by
  refine (Finset.disjoint_biUnion_left _ _ _).mpr fun s _ => (Finset.disjoint_biUnion_right _ _ _).mpr fun s' _ => ?_
  refine blk_disjoint fun e => h (Fin.ext ?_)
  have := c.isLt; have := c'.isLt
  rw [wid_pt, wid_pt] at e; omega

theorem halves_cover : (Finset.univ : Finset (Fin 2)).biUnion half = Finset.univ :=
  Finset.eq_univ_of_forall fun j => by
    have hj : (j 0).val < 72512 := (j 0).isLt
    refine Finset.mem_biUnion.mpr ⟨⟨(j 0).val / 2304 % 2, by omega⟩, Finset.mem_univ _,
      Finset.mem_biUnion.mpr ⟨⟨(j 0).val / 2304 / 2, by omega⟩, Finset.mem_univ _, Finset.mem_filter.mpr ⟨Finset.mem_univ _, ?_, ?_⟩⟩⟩
    · rw [wid_pt]; show 2304 * (2 * ((j 0).val / 2304 / 2) + (j 0).val / 2304 % 2) ≤ _; omega
    · rw [wid_pt]; show _ < 2304 * (2 * ((j 0).val / 2304 / 2) + (j 0).val / 2304 % 2) + 2304; omega

/-! ## The arrays, as the device holds them -/

variable (m : (ℓ : Loc nD τ sig) → Buf (Elt F) ℓ) (d : Dev nD)

abbrev at_ (b : Ref sig .tc) : Loc nD τ sig := (SparseCore.T d).loc b

abbrev xOf : Vec F S1x6x16x16 .f32 := m (at_ d main_arg0)
abbrev wqOf : Vec F S16x16 .f32 := m (at_ d main_arg1)
abbrev wkOf : Vec F S16x16x16 .f32 := m (at_ d main_arg2)
abbrev bkOf : Vec F S16x16 .f32 := m (at_ d main_arg3)
abbrev wvOf : Vec F S16x16x16 .f32 := m (at_ d main_arg4)
abbrev bvOf : Vec F S16x16 .f32 := m (at_ d main_arg5)

/-- The arguments at their launch contents and the base indices, at a share. -/
def argsAt (q : PosShare TreeShare) : sProp 𝕄 :=
  iprop((at_ d main_arg0 ↦{q} m (at_ d main_arg0)) ∗ (at_ d main_arg1 ↦{q} m (at_ d main_arg1))
    ∗ (at_ d main_arg2 ↦{q} m (at_ d main_arg2)) ∗ (at_ d main_arg3 ↦{q} m (at_ d main_arg3))
    ∗ (at_ d main_arg4 ↦{q} m (at_ d main_arg4)) ∗ (at_ d main_arg5 ↦{q} m (at_ d main_arg5))
    ∗ (at_ d main_c ↦{q} (idxTab : Vec F S4548 .i32)))

/-- They are what a tile reads. -/
theorem argsAt_tile (i : grid0.Coords) (q : PosShare TreeShare) :
    argsAt m d q = Args d i q (xOf m d) (wqOf m d) (wkOf m d) (bkOf m d) (wvOf m d) (bvOf m d) := rfl

/-- Dealt in shares. -/
theorem argsAt_deal {n : ℕ} (hn : (Finset.univ : Finset (Fin n)).Nonempty) (q : PosShare TreeShare) :
    argsAt m d q = bigSep Finset.univ fun i : Fin n => argsAt m d (Transfers.dealOf q Finset.univ i) := by
  unfold argsAt
  rw [bigSep_sep', bigSep_sep', bigSep_sep', bigSep_sep', bigSep_sep', bigSep_sep', ← Transfers.pointsTo_deal Finset.univ hn q,
    ← Transfers.pointsTo_deal Finset.univ hn q, ← Transfers.pointsTo_deal Finset.univ hn q, ← Transfers.pointsTo_deal Finset.univ hn q,
    ← Transfers.pointsTo_deal Finset.univ hn q, ← Transfers.pointsTo_deal Finset.univ hn q, ← Transfers.pointsTo_deal Finset.univ hn q]

/-- A SparseCore's share, and a tile's. -/
def coreShare (c : Fin 2) : PosShare TreeShare := Transfers.dealOf fullShare Finset.univ c
def tileShare (c : Fin 2) (s : Fin 16) : PosShare TreeShare := Transfers.dealOf (coreShare c) Finset.univ s

/-- Part of the result, at `f`. -/
abbrev part (J : Finset S72512.Idx) (f : Vec F S72512 .f32) : sProp 𝕄 := at_ d main_v0 ↦[J]{fullShare} f

/-- What a SparseCore is handed, and what a tile is, the result's words being at `f`. -/
def forCore (f : Vec F S72512 .f32) (c : Fin 2) : sProp 𝕄 := iprop(argsAt m d (coreShare c) ∗ part d (half c) f)
def forTile (f : Vec F S72512 .f32) (c : Fin 2) (s : Fin 16) : sProp 𝕄 :=
  iprop(argsAt m d (tileShare c s) ∗ part d (blk (wid (pt c s))) f)

theorem forCore_tiles (f : Vec F S72512 .f32) (c : Fin 2) :
    forCore m d f c = bigSep Finset.univ fun s : Fin 16 => forTile m d f c s := by
  unfold forCore forTile tileShare
  rw [bigSep_sep', ← argsAt_deal m d ⟨0, Finset.mem_univ _⟩ (coreShare c), half,
    ← pointsTo_biUnion Finset.univ (ℓ := at_ d main_v0) (fun s => blk (wid (pt c s))) (blks_disjoint c)]

theorem all_cores (f : Vec F S72512 .f32) :
    iprop(argsAt m d fullShare ∗ at_ d main_v0 ↦{fullShare} f) = bigSep Finset.univ fun c : Fin 2 => forCore m d f c := by
  unfold forCore coreShare
  rw [bigSep_sep', ← argsAt_deal m d ⟨0, Finset.mem_univ _⟩ fullShare,
    ← pointsTo_biUnion Finset.univ (ℓ := at_ d main_v0) half halves_disjoint, halves_cover]

instance argsAt_storable (q : PosShare TreeShare) : BI.Storable (upEmb : UEmb _ 𝕄) (argsAt m d q) := by
  unfold argsAt; infer_instance
instance forCore_storable (f : Vec F S72512 .f32) (c : Fin 2) : BI.Storable (upEmb : UEmb _ 𝕄) (forCore m d f c) := by
  unfold forCore; infer_instance
instance forTile_storable (f : Vec F S72512 .f32) (c : Fin 2) (s : Fin 16) : BI.Storable (upEmb : UEmb _ 𝕄) (forTile m d f c s) := by
  unfold forTile; infer_instance

end Cert.KernelIdeal.Kqv
-- ==== Proof.Launch.lean ====
/-
The whole program's run: the constant of base indices, the call of the tiles, the reshape of what they leave. From any
launch memory it ends with the arguments as they were, the result's rows the kernel's, every semaphore at zero.
-/
module

public import proofs.«01_k».proof.Proof.Deal

@[expose] public section

noncomputable section

namespace Cert.KernelIdeal.Kqv

open Cert.KernelIdeal.Gen
open Idealize.ShloMosaic
open Idealize.ShloMosaic.SparseCore (S V T)
open Idealize.ShloMosaic.SparseCore.Cfg (HIx Pay tileRest ownBufs ownSems0 ownCells ownRefs mem_ownCells mem_ownRefs)
open Idealize.SL Idealize.SL.RA Idealize.SL.BI
open scoped Idealize.SL.BI
open Idealize.SL.BI.BIBase Idealize.SL.BI.Laws Idealize.SL.ProofMode Idealize.SL.Sem
open Idealize.ShloMosaic.Rounds
open Idealize.ShloMosaic.Tactic
open Idealize.ShloMosaic.StableHlo (held held_split held_sdiff_result wp_hlo_within)

variable {F : FTy → Type}

local notation "𝕄" => MT nD τ sig (HIx 1) (Elt F) ℕ UU ℕ

variable [FloatOps F]
variable (m : (ℓ : Loc nD τ sig) → Buf (Elt F) ℓ) (ρ : Dev nD → PrngReg)

/-- The rows of the result, from the launch memory. -/
abbrev rowOf (d : Dev nD) : ℕ → Vec F S16 .f32 :=
  kernelRow (xOf m d) (wqOf m d) (wkOf m d) (bkOf m d) (wvOf m d) (bvOf m d)

/-- The result as the tiles leave it, and as the program returns it. -/
abbrev flatOf (d : Dev nD) : Vec F S72512 .f32 := flat (rowOf m d)
def rowsOf (d : Dev nD) : Vec F S4532x16 .f32 := fun j => rowOf m d (j 0).val (ln ⟨(j 1).val, (j 1).isLt⟩)

theorem nCore_zero : (K (F := F)).nCore 0 = 2 := rfl
theorem nSub_zero : (K (F := F)).nSub 0 = 16 := rfl

/-- The call's payloads. -/
def P : (K (F := F)).Pay (nD := nD) (Val := Elt F) (Name := ℕ) (U := UU) where
  st := fun q d c => match q with | 0 => forCore m d (m (at_ d main_v0)) (Fin.cast nCore_zero c)
  dn := fun q d c => match q with | 0 => forCore m d (flatOf m d) (Fin.cast nCore_zero c)
  go := fun q d c i => match q with | 0 => forTile m d (m (at_ d main_v0)) (Fin.cast nCore_zero c) (Fin.cast nSub_zero i)
  td := fun q d c i => match q with | 0 => forTile m d (flatOf m d) (Fin.cast nCore_zero c) (Fin.cast nSub_zero i)
  x := fun _ _ => iprop(emp)

instance P_storable : (P (F := F) m).IsStorable where
  st q d c := match q with | 0 => forCore_storable m d _ _
  dn q d c := match q with | 0 => forCore_storable m d _ _
  go q d c i := match q with | 0 => forTile_storable m d _ _ _
  td q d c i := match q with | 0 => forTile_storable m d _ _ _

/-! ## The tiles -/

theorem defs₀_tile (c : Fin τ.nSC) (s : Fin τ.nSub) :
    defs₀ (F := F) (.scVector c s) 0 ()
      = SparseCore.onTile hcore0 hsub0 (fun c s => cc0__sc_body (pt c s) aX (Memref.isWhole_whole _) aWQ (Memref.isWhole_whole _)
          aWK (Memref.isWhole_whole _) aBK (Memref.isWhole_whole _) aWV (Memref.isWhole_whole _) aBV (Memref.isWhole_whole _)
          aI (Memref.isWhole_whole _) aO (Memref.isWhole_whole _) sX (Memref.isWhole_whole _)
          sWQ (Memref.isWhole_whole _) sWK (Memref.isWhole_whole _) sBK (Memref.isWhole_whole _)
          sWV (Memref.isWhole_whole _) sBV (Memref.isWhole_whole _) sI (Memref.isWhole_whole _) sO (Memref.isWhole_whole _)
          cc0_scratch8 cc0_scratch9 cc0_scratch10 cc0_scratch11 cc0_scratch12 cc0_scratch13 cc0_scratch14
          cc0_scoped0 cc0_scoped1) ⟨⟩ c s := rfl

omit [FloatOps F] in
theorem waits_weaken {thr : Thread nD τ} {A B C : sProp 𝕄} {O : CellTallies nD τ sig (HIx 1)} {W : Waits sig (HIx 1)} {q : Fin 1} :
    iprop(A ∗ B ∗ C ∗ ∃ W', ⌜∀ p ∈ W', p ∈ W ∨ p.2 = none⌝ ∗ owes thr O W')
      ⊢ iprop(A ∗ B ∗ C ∗ ∃ W', ⌜∀ p ∈ W', p ∈ W ∨ p.2 = none ∨ p.2 = some q⌝ ∗ owes thr O W') := by
  iintro ⟨HA, HB, HC, %W', %hW', HO⟩
  isplitl [HA]; · iexact HA
  isplitl [HB]; · iexact HB
  isplitl [HC]; · iexact HC
  iexists W'; isplitr
  · ipureintro; exact fun p hp => (hW' p hp).imp_right Or.inl
  · iexact HO

theorem tileObl : (K (F := F)).TileObl (D (F := F)) 𝒱 (P m) v₀ 0 := by
  intro d c i O W hO _ _
  simp only [show (P m).ox = fun _ _ => 0 from rfl, add_zero]
  change _ ⊢ wp _ _ _ (Pipeline.liftProg (defs₀ (F := F) (.scVector ((K (F := F)).core 0 c) ((K (F := F)).sub 0 i)) 0 ())) _
  refine BIBase.Entails.trans ?_ (Pipeline.wp_liftProg (D (F := F)) (Pipeline.defs_kernel pcfgs defs₀) 𝒱₀ _ Set.univ none _ _)
  have hc : ((K (F := F)).core 0 c).val < grid0.bound 0 ∧ ((K (F := F)).sub 0 i).val < grid0.bound 1 := ⟨c.isLt, i.isLt⟩
  rw [defs₀_tile]; simp only [SparseCore.onTile, hc, and_self, ↓reduceDIte]
  exact (tile_body d (pt ⟨_, hc.1⟩ ⟨_, hc.2⟩) (tileShare (Fin.cast nCore_zero c) (Fin.cast nSub_zero i)) (xOf m d) (wqOf m d) (wkOf m d)
    (bkOf m d) (wvOf m d) (bvOf m d) (m (at_ d main_v0)) O W hO).trans (wp_mono frame _ _ fun _ => waits_weaken)

theorem over_tiles (Φ : Fin 16 → sProp 𝕄) :
    (bigSep Finset.univ fun i : Fin ((K (F := F)).nSub 0) => Φ (Fin.cast nSub_zero i)) = bigSep Finset.univ Φ :=
  bigSep_congr fun _ _ => congrArg Φ (Fin.ext rfl)
theorem over_cores (Φ : Fin 2 → sProp 𝕄) :
    (bigSep Finset.univ fun i : Fin ((K (F := F)).nCore 0) => Φ (Fin.cast nCore_zero i)) = bigSep Finset.univ Φ :=
  bigSep_congr fun _ _ => congrArg Φ (Fin.ext rfl)

theorem vecSplit : (K (F := F)).VecSplit' (P m) 0 := by
  intro d c
  show forCore m d (m (at_ d main_v0)) (Fin.cast nCore_zero c) ⊢ |={Set.univ}=> iprop(
      (bigSep Finset.univ fun i : Fin ((K (F := F)).nSub 0) => forTile m d (m (at_ d main_v0)) (Fin.cast nCore_zero c) (Fin.cast nSub_zero i))
      ∗ ((bigSep Finset.univ fun i : Fin ((K (F := F)).nSub 0) => forTile m d (flatOf m d) (Fin.cast nCore_zero c) (Fin.cast nSub_zero i))
          -∗ forCore m d (flatOf m d) (Fin.cast nCore_zero c)))
  rw [over_tiles (F := F) (fun s => forTile m d (m (at_ d main_v0)) (Fin.cast nCore_zero c) s),
    over_tiles (F := F) (fun s => forTile m d (flatOf m d) (Fin.cast nCore_zero c) s), ← forCore_tiles, ← forCore_tiles]
  iintro H; imodintro
  isplitl [H]; · iexact H
  iintro H; iexact H

/-! ## The launch element -/

def u₀ : UU := (initOf (K (F := F)).hsCells (K (F := F)).hsToks, 1)

theorem hu₀ : (ownU (u₀ (F := F)) : sProp 𝕄)
    ⊢ |={Set.univ}=> iprop(BI.own (EH (initOf (K (F := F)).hsCells (K (F := F)).hsToks)) ∗ (bigSep Finset.univ fun _ : Dev nD => iprop(emp))
        ∗ bigSep Finset.univ fun thr : Thread nD τ => bigSep Finset.univ fun q : Fin 1 => (P m).x q thr) := by
  have e : ∀ {I : Type} (s : Finset I), (bigSep s fun _ => iprop(emp)) = (iprop(emp) : sProp 𝕄) := fun s => bigSep_emp_const s
  unfold u₀
  iintro Hu
  ihave H := (ownU_pair _ _) $$ Hu
  icases H with ⟨HH, -⟩
  imodintro
  isplitl [HH]; · iexact HH
  isplitr; · rw [e]; iempintro
  unfold P; dsimp only
  rw [show (bigSep Finset.univ fun _ : Thread nD τ => bigSep Finset.univ fun _ : Fin 1 => (iprop(emp) : sProp 𝕄)) = iprop(emp) from by
    rw [bigSep_congr fun _ _ => e _, e]]
  iempintro

/-! ## The program on the TensorCore -/

abbrev opC : HloOp τ sig (Elt F) := StableHlo.nullary main_c (fun i => lit0 (S4548.rowMajor i))
abbrev opR : HloOp τ sig (Elt F) := StableHlo.reshape main_v0 main_v1 (rfl : (.f32 : EltTy) = .f32) shapeCasts_S72512_S4532x16

/-- The program's arrays. -/
abbrev tc (b : Ref sig .tc) : DevRef τ sig := Proc.devRef .tc b
abbrev S9 : Finset (DevRef τ sig) :=
  {tc main_arg0, tc main_arg1, tc main_arg2, tc main_arg3, tc main_arg4, tc main_arg5, tc main_c, tc main_v0, tc main_v1}

/-- All nine held at a valuation. -/
def nine (d : Dev nD) (W : Valuation τ sig (Elt F)) : sProp 𝕄 :=
  iprop((at_ d main_arg0 ↦{fullShare} W (tc main_arg0)) ∗ (at_ d main_arg1 ↦{fullShare} W (tc main_arg1))
    ∗ (at_ d main_arg2 ↦{fullShare} W (tc main_arg2)) ∗ (at_ d main_arg3 ↦{fullShare} W (tc main_arg3))
    ∗ (at_ d main_arg4 ↦{fullShare} W (tc main_arg4)) ∗ (at_ d main_arg5 ↦{fullShare} W (tc main_arg5))
    ∗ (at_ d main_c ↦{fullShare} W (tc main_c)) ∗ (at_ d main_v0 ↦{fullShare} W (tc main_v0))
    ∗ (at_ d main_v1 ↦{fullShare} W (tc main_v1)))

omit [FloatOps F] in
theorem held_nine (d : Dev nD) (W : Valuation τ sig (Elt F)) : (held (T d) S9 W : sProp 𝕄) = nine d W := by
  unfold held S9 nine
  rw [SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]

/-- The launch valuation; with the constant written; with the call's result. -/
def V0 (d : Dev nD) : Valuation τ sig (Elt F) := fun b => m (d, b)
def V1 (d : Dev nD) : Valuation τ sig (Elt F) := (opC (F := F)).result (V0 m d)
def V2 (d : Dev nD) : Valuation τ sig (Elt F) := Function.update (V1 m d) (tc main_v0) (flatOf m d)

omit [FloatOps F] in
theorem unscoped_nine (d : Dev nD) : (unscopedBufs d (fun b => m ((SparseCore.T d).loc b)) : sProp 𝕄) = nine d (V0 m d) := by
  unfold unscopedBufs nine
  rw [show (Finset.univ.filter fun b : Ref sig .tc => ¬ b.isScoped)
      = {main_arg0, main_arg1, main_arg2, main_arg3, main_arg4, main_arg5, main_c, main_v0, main_v1} by decide,
    SparseCore.bigSep_insert' (by decide), SparseCore.bigSep_insert' (by decide), SparseCore.bigSep_insert' (by decide),
    SparseCore.bigSep_insert' (by decide), SparseCore.bigSep_insert' (by decide), SparseCore.bigSep_insert' (by decide),
    SparseCore.bigSep_insert' (by decide), SparseCore.bigSep_insert' (by decide), bigSep_singleton]
  rfl

omit [FloatOps F] in
theorem V1_ne (d : Dev nD) {b : Ref sig .tc} (h : b ≠ main_c) : V1 m d (tc b) = m (at_ d b) :=
  StableHlo.nullary_result_ne _ _ _ _ h
omit [FloatOps F] in
theorem V1_c (d : Dev nD) : V1 m d (tc main_c) = (idxTab : Vec F S4548 .i32) := StableHlo.nullary_result _ _ _ _
theorem V2_ne (d : Dev nD) {b : Ref sig .tc} (h : tc b ≠ tc main_v0) : V2 m d (tc b) = V1 m d (tc b) := Function.update_of_ne h _ _
theorem V2_v0 (d : Dev nD) : V2 m d (tc main_v0) = flatOf m d := Function.update_self _ _ _

/-- The reshape gives the rows. -/
theorem reshaped (d : Dev nD) : (opR (F := F)).result (V2 m d) (tc main_v1) = rowsOf m d := by
  refine (StableHlo.reshape_result _ _ _ _ _ _ _).trans ?_
  funext j
  show V2 m d (tc main_v0) (Shape.reshapeEquiv shapeCasts_S72512_S4532x16 j) = _
  have hp : ((S72512.rowMajor (Shape.reshapeEquiv shapeCasts_S72512_S4532x16 j)) : ℕ) = S4532x16.rowMajor j :=
    Shape.rowMajor_reshapeEquiv _ _
  rw [show ((S72512.rowMajor (Shape.reshapeEquiv shapeCasts_S72512_S4532x16 j)) : ℕ)
      = ((Shape.reshapeEquiv shapeCasts_S72512_S4532x16 j) 0).val from Shape.rowMajor_val_one _,
    show ((S4532x16.rowMajor j) : ℕ) = (j 0).val * 16 + (j 1).val from Shape.rowMajor_val_two _] at hp
  have h1 : (j 1).val < 16 := (j 1).isLt
  rw [V2_v0]
  unfold flatOf flat rowsOf
  dsimp only
  rw [show ((Shape.reshapeEquiv shapeCasts_S72512_S4532x16 j) 0).val / 16 = (j 0).val by omega]
  congr 2; apply Fin.ext; show ((Shape.reshapeEquiv shapeCasts_S72512_S4532x16 j) 0).val % 16 = (j 1).val; omega

/-- What the program leaves. -/
def FIN (d : Dev nD) : sProp 𝕄 :=
  iprop((at_ d main_arg0 ↦{fullShare} m (at_ d main_arg0)) ∗ (at_ d main_arg1 ↦{fullShare} m (at_ d main_arg1))
    ∗ (at_ d main_arg2 ↦{fullShare} m (at_ d main_arg2)) ∗ (at_ d main_arg3 ↦{fullShare} m (at_ d main_arg3))
    ∗ (at_ d main_arg4 ↦{fullShare} m (at_ d main_arg4)) ∗ (at_ d main_arg5 ↦{fullShare} m (at_ d main_arg5))
    ∗ (at_ d main_v1 ↦{fullShare} rowsOf m d))

theorem hC : (opC (F := F)).bufs ⊆ S9 := show ({tc main_c} : Finset (DevRef τ sig)) ⊆ S9 by decide
theorem hR : (opR (F := F)).bufs ⊆ S9 := show ({tc main_v0, tc main_v1} : Finset (DevRef τ sig)) ⊆ S9 by decide

theorem opR_ne (d : Dev nD) {b : Ref sig .tc} (h : b ≠ main_v1) (h0 : tc b ≠ tc main_v0) (hc : b ≠ main_c) :
    (opR (F := F)).result (V2 m d) (tc b) = m (at_ d b) :=
  (StableHlo.reshape_result_ne _ _ _ _ _ _ _ h).trans ((V2_ne m d h0).trans (V1_ne m d hc))

theorem nine_V1 (d : Dev nD) : nine d (V1 m d)
    = iprop((at_ d main_arg0 ↦{fullShare} m (at_ d main_arg0)) ∗ (at_ d main_arg1 ↦{fullShare} m (at_ d main_arg1))
    ∗ (at_ d main_arg2 ↦{fullShare} m (at_ d main_arg2)) ∗ (at_ d main_arg3 ↦{fullShare} m (at_ d main_arg3))
    ∗ (at_ d main_arg4 ↦{fullShare} m (at_ d main_arg4)) ∗ (at_ d main_arg5 ↦{fullShare} m (at_ d main_arg5))
    ∗ (at_ d main_c ↦{fullShare} (idxTab : Vec F S4548 .i32)) ∗ (at_ d main_v0 ↦{fullShare} m (at_ d main_v0))
    ∗ (at_ d main_v1 ↦{fullShare} m (at_ d main_v1))) := by
  unfold nine
  rw [V1_c, V1_ne m d (b := main_arg0) (by decide), V1_ne m d (b := main_arg1) (by decide), V1_ne m d (b := main_arg2) (by decide),
    V1_ne m d (b := main_arg3) (by decide), V1_ne m d (b := main_arg4) (by decide), V1_ne m d (b := main_arg5) (by decide),
    V1_ne m d (b := main_v0) (by decide), V1_ne m d (b := main_v1) (by decide)]

theorem nine_V2 (d : Dev nD) : nine d (V2 m d)
    = iprop((at_ d main_arg0 ↦{fullShare} m (at_ d main_arg0)) ∗ (at_ d main_arg1 ↦{fullShare} m (at_ d main_arg1))
    ∗ (at_ d main_arg2 ↦{fullShare} m (at_ d main_arg2)) ∗ (at_ d main_arg3 ↦{fullShare} m (at_ d main_arg3))
    ∗ (at_ d main_arg4 ↦{fullShare} m (at_ d main_arg4)) ∗ (at_ d main_arg5 ↦{fullShare} m (at_ d main_arg5))
    ∗ (at_ d main_c ↦{fullShare} (idxTab : Vec F S4548 .i32)) ∗ (at_ d main_v0 ↦{fullShare} flatOf m d)
    ∗ (at_ d main_v1 ↦{fullShare} m (at_ d main_v1))) := by
  unfold nine
  rw [V2_v0, V2_ne m d (b := main_c) (by decide), V1_c,
    V2_ne m d (b := main_arg0) (by decide), V2_ne m d (b := main_arg1) (by decide), V2_ne m d (b := main_arg2) (by decide),
    V2_ne m d (b := main_arg3) (by decide), V2_ne m d (b := main_arg4) (by decide), V2_ne m d (b := main_arg5) (by decide),
    V2_ne m d (b := main_v1) (by decide),
    V1_ne m d (b := main_arg0) (by decide), V1_ne m d (b := main_arg1) (by decide), V1_ne m d (b := main_arg2) (by decide),
    V1_ne m d (b := main_arg3) (by decide), V1_ne m d (b := main_arg4) (by decide), V1_ne m d (b := main_arg5) (by decide),
    V1_ne m d (b := main_v1) (by decide)]

theorem nine_end (d : Dev nD) : nine d ((opR (F := F)).result (V2 m d)) ⊢ FIN m d := by
  unfold nine FIN
  rw [reshaped, opR_ne m d (b := main_arg0) (by decide) (by decide) (by decide), opR_ne m d (b := main_arg1) (by decide) (by decide) (by decide),
    opR_ne m d (b := main_arg2) (by decide) (by decide) (by decide), opR_ne m d (b := main_arg3) (by decide) (by decide) (by decide),
    opR_ne m d (b := main_arg4) (by decide) (by decide) (by decide), opR_ne m d (b := main_arg5) (by decide) (by decide) (by decide)]
  iintro ⟨H0, H1, H2, H3, H4, H5, -, -, H7⟩
  isplitl [H0]; · iexact H0
  isplitl [H1]; · iexact H1
  isplitl [H2]; · iexact H2
  isplitl [H3]; · iexact H3
  isplitl [H4]; · iexact H4
  isplitl [H5]; · iexact H5
  iexact H7

theorem st0_eq (d : Dev nD) : (bigSep Finset.univ fun c : Fin ((K (F := F)).nCore 0) => (P m).st 0 d c)
    = iprop(argsAt m d fullShare ∗ at_ d main_v0 ↦{fullShare} m (at_ d main_v0)) :=
  (over_cores (F := F) (fun c => forCore m d (m (at_ d main_v0)) c)).trans (all_cores m d _).symm
theorem dn0_eq (d : Dev nD) : (bigSep Finset.univ fun c : Fin ((K (F := F)).nCore 0) => (P m).dn 0 d c)
    = iprop(argsAt m d fullShare ∗ at_ d main_v0 ↦{fullShare} flatOf m d) :=
  (over_cores (F := F) (fun c => forCore m d (flatOf m d) c)).trans (all_cores m d _).symm

theorem hmain (κ : GSem nD τ sig → ℕ) (d : Dev nD) :
    iprop((K (F := F)).ctx EH (P m) κ ∗ (K (F := F)).tcSt EH d 0 ∗ (K (F := F)).tcRes m ρ d ∗ emp)
      ⊢ wp frame (wpE ((K (F := F)).defs (D (F := F))) 𝒱 (SparseCore.T d) none) Set.univ (main d)
          fun _ => iprop((K (F := F)).tcSt EH d 1 ∗ FIN m d ∗ (K (F := F)).tcEnd d) := by
  unfold SparseCore.Cfg.tcRes SparseCore.Cfg.tcEnd
  rw [unscoped_nine]
  simp only [main, wp_bind, wp_pure]
  iintro ⟨#Hctx, Hst, ⟨Hb, Hheld, Hts, -⟩, -⟩
  -- the base indices
  iapply (wp_hlo_within 𝒱 (SparseCore.T d) none Set.univ (op := opC) (S := S9) hC (V := V0 m d)) $$ [Hb Hheld]
  · isplitl [Hb]; · iexact Hb
    rw [held_nine]; iexact Hheld
  iintro ⟨Hb, Hheld⟩
  rw [wp_ret]; imodintro
  ihave Hheld := (show (held (T d) S9 ((opC (F := F)).result (V0 m d)) : sProp 𝕄) ⊢ _ from Entails.of_eq ((held_nine d (V1 m d)).trans (nine_V1 m d))) $$ Hheld
  icases Hheld with ⟨H0, H1, H2, H3, H4, H5, Hc, Ho, Hr⟩
  -- the call
  iapply ((K (F := F)).wp_run (D (F := F)) 𝒱 (EH := EH) (P := P m) κ d 0) $$ [Hst H0 H1 H2 H3 H4 H5 Hc Ho Hb Hr Hts]
  isplitr; · iexact Hctx
  isplitl [Hst]; · iexact Hst
  isplitl [H0 H1 H2 H3 H4 H5 Hc Ho]
  · rw [st0_eq]; unfold argsAt
    isplitr [Ho]
    · isplitl [H0]; · iexact H0
      isplitl [H1]; · iexact H1
      isplitl [H2]; · iexact H2
      isplitl [H3]; · iexact H3
      isplitl [H4]; · iexact H4
      isplitl [H5]; · iexact H5
      iexact Hc
    · iexact Ho
  iintro ⟨Hst, Hdn⟩
  ihave Hdn := (Entails.of_eq (dn0_eq m d)) $$ Hdn
  unfold argsAt
  icases Hdn with ⟨⟨H0, H1, H2, H3, H4, H5, Hc⟩, Ho⟩
  -- the reshape
  iapply (wp_hlo_within 𝒱 (SparseCore.T d) none Set.univ (op := opR) (S := S9) hR (V := V2 m d)) $$ [Hb H0 H1 H2 H3 H4 H5 Hc Ho Hr]
  · isplitl [Hb]; · iexact Hb
    rw [held_nine, nine_V2]
    isplitl [H0]; · iexact H0
    isplitl [H1]; · iexact H1
    isplitl [H2]; · iexact H2
    isplitl [H3]; · iexact H3
    isplitl [H4]; · iexact H4
    isplitl [H5]; · iexact H5
    isplitl [Hc]; · iexact Hc
    isplitl [Ho]; · iexact Ho
    iexact Hr
  iintro ⟨Hb, Hheld⟩
  ihave Hheld := (Entails.of_eq (held_nine d ((opR (F := F)).result (V2 m d)))) $$ Hheld
  ihave Hfin := (nine_end m d) $$ Hheld
  rw [wp_ret]; imodintro; imodintro
  isplitl [Hst]; · iexact Hst
  isplitl [Hfin]; · iexact Hfin
  isplitl [Hb] <;> iassumption

/-! ## The end of the run -/

/-- The memory at the end: the arguments as launched, the result the kernel's rows. -/
def fq (d : Dev nD) (s' : Phys nD τ sig (Elt F)) : Prop :=
  (s'.mem.mem (at_ d main_arg0) = m (at_ d main_arg0) ∧ s'.mem.mem (at_ d main_arg1) = m (at_ d main_arg1)
    ∧ s'.mem.mem (at_ d main_arg2) = m (at_ d main_arg2) ∧ s'.mem.mem (at_ d main_arg3) = m (at_ d main_arg3)
    ∧ s'.mem.mem (at_ d main_arg4) = m (at_ d main_arg4) ∧ s'.mem.mem (at_ d main_arg5) = m (at_ d main_arg5))
  ∧ s'.mem.mem (at_ d main_v1) = rowsOf m d

omit [FloatOps F] in
/-- An array held whole is in the memory. -/
theorem in_mem (s' : Phys nD τ sig (Elt F)) (ℓ : Loc nD τ sig) (f : Buf (Elt F) ℓ) :
    iprop((ℓ ↦{fullShare} f) ∗ SI s') ⊢ (iprop(⌜s'.mem.mem ℓ = f⌝ ∗ (ℓ ↦{fullShare} f) ∗ SI s') : sProp 𝕄) := by
  refine persistent_entails_right (show iprop((ℓ ↦{fullShare} f) ∗ SI s') ⊢ (⌜s'.mem.mem ℓ = f⌝ : sProp 𝕄) from ?_)
  iintro ⟨Hx, HSI⟩
  ihave H := (SI_pointsTo_agree (st := s') (ℓ := ℓ) (I := Finset.univ) (q := fullShare) (f := f)) $$ [HSI Hx]
  · isplitl [HSI] <;> iassumption
  icases H with %hx
  ipureintro; exact funext fun i => hx i (Finset.mem_univ i)

theorem hfin (d : Dev nD) (s' : Phys nD τ sig (Elt F)) : iprop(FIN m d ∗ SI s') ⊢ (⌜fq m d s'⌝ : sProp 𝕄) := by
  unfold FIN
  iintro ⟨⟨H0, H1, H2, H3, H4, H5, H7⟩, HSI⟩
  ihave H := (in_mem s' _ _) $$ [H0 HSI]; · isplitl [H0] <;> iassumption
  icases H with ⟨%e0, -, HSI⟩
  ihave H := (in_mem s' _ _) $$ [H1 HSI]; · isplitl [H1] <;> iassumption
  icases H with ⟨%e1, -, HSI⟩
  ihave H := (in_mem s' _ _) $$ [H2 HSI]; · isplitl [H2] <;> iassumption
  icases H with ⟨%e2, -, HSI⟩
  ihave H := (in_mem s' _ _) $$ [H3 HSI]; · isplitl [H3] <;> iassumption
  icases H with ⟨%e3, -, HSI⟩
  ihave H := (in_mem s' _ _) $$ [H4 HSI]; · isplitl [H4] <;> iassumption
  icases H with ⟨%e4, -, HSI⟩
  ihave H := (in_mem s' _ _) $$ [H5 HSI]; · isplitl [H5] <;> iassumption
  icases H with ⟨%e5, -, HSI⟩
  ihave H := (in_mem s' _ _) $$ [H7 HSI]; · isplitl [H7] <;> iassumption
  icases H with ⟨%e7, -⟩
  ipureintro; exact ⟨⟨e0, e1, e2, e3, e4, e5⟩, e7⟩

def QC : PUnit × MemSt nD τ sig (Elt F) → Prop := fun r =>
  (∀ d : Dev nD, (r.2.mem (at_ d main_arg0) = m (at_ d main_arg0) ∧ r.2.mem (at_ d main_arg1) = m (at_ d main_arg1)
    ∧ r.2.mem (at_ d main_arg2) = m (at_ d main_arg2) ∧ r.2.mem (at_ d main_arg3) = m (at_ d main_arg3)
    ∧ r.2.mem (at_ d main_arg4) = m (at_ d main_arg4) ∧ r.2.mem (at_ d main_arg5) = m (at_ d main_arg5))
    ∧ r.2.mem (at_ d main_v1) = rowsOf m d) ∧ r.2.sem = fun _ => 0

theorem run_main [∀ e, Nonempty (Elt F e)] :
    θ_run (Cert.KernelIdeal.defs (F := F)) (Cert.KernelIdeal.threads (F := F)) ⟨m, fun _ => 0, ρ⟩ (QC m) :=
  SparseCore.Cfg.θ_run_sc_quiescent (K := K (F := F)) (D := D (F := F)) (𝒱 := 𝒱) (EH := EH) (P := P m) (A := ∅) scFacts v₀
    (fun q hq => match q with | 0 => nomatch hq)
    (fun q _ => match q with | 0 => tileObl m)
    (fun q _ => match q with | 0 => SparseCore.Cfg.VecSplit.of_plain (vecSplit m))
    m ρ main (fun _ => iprop(emp)) (FIN m) (u₀ (F := F)) (sep_elim_left.trans (hu₀ m)) (hmain m ρ) (fq m) (hfin m) (QC m) (fun _ h hz => ⟨h, hz⟩)

end Cert.KernelIdeal.Kqv
-- ==== Proof.Frames.lean ====
/-
The frames: the kernel's, at either reading of its floats, from the one run; the reference's.
-/
module

public import proofs.«01_k».proof.Defs
public import proofs.«01_k».proof.Proof.Gen.Kernel
public import proofs.«01_k».proof.Proof.Gen.ReferenceIdeal.Run
public import proofs.«01_k».proof.Proof.Launch

@[expose] public section

noncomputable section

namespace Cert.Proof

open Idealize.ShloMosaic Idealize.SL.Sem

theorem frame_kernel : Cert.quiescent_Kernel := fun m ρ _ =>
  (θ_run Cert.KernelIdeal.defs _ _).mono (fun _ h => ⟨fun c => (h.1 c).1, h.2⟩) (Cert.KernelIdeal.Kqv.run_main (F := Bits) m ρ)

theorem frame_kernelIdeal : Cert.quiescent_KernelIdeal := fun m ρ _ =>
  (θ_run Cert.KernelIdeal.defs _ _).mono (fun _ h => ⟨fun c => (h.1 c).1, h.2⟩) (Cert.KernelIdeal.Kqv.run_main (F := Ideal) m ρ)

/-- The reference's, from its generated run; it declares no semaphore. -/
theorem frame_reference : Cert.quiescent_ReferenceIdeal := fun m ρ _ =>
  (θ_run Cert.ReferenceIdeal.defs _ _).mono (fun r h => ⟨fun c => (h c).2, sem_eq_zero_of_no_sems (by decide) r.2⟩)
    (Cert.ReferenceIdeal.Value.run (F := Ideal) m ρ)

end Cert.Proof

end
-- ==== Proof.RefPatch.lean ====
/-
The reference's patches: an image of `C` channels reshaped, transposed and reshaped as `patchify` does, read at an index.
-/
module

public import Idealize.ShloMosaic.Lib.StackMember
public import Idealize.ShloMosaic.Lib.Pipeline.Value
public import Idealize.ShloMosaic.Lib.Pointwise.Reshape

@[expose] public section

noncomputable section

namespace Cert.Plain

open Idealize.ShloMosaic hiding ix1 ix2 ix3 ix4
open Idealize.ShloMosaic.ValueIdx

open scoped BigOperators

variable {α : Type}

/-- A rank-6 index from its coordinates, the first of extent one. -/
abbrev at6 {n1 n2 n3 n4 n5 : ℕ} (b : Fin n1) (c : Fin n2) (d : Fin n3) (e : Fin n4) (f : Fin n5) :
    (⟨6, ![1, n1, n2, n3, n4, n5]⟩ : Shape).Idx :=
  fun x => match x with | ⟨0, _⟩ => (0 : Fin 1) | ⟨1, _⟩ => b | ⟨2, _⟩ => c | ⟨3, _⟩ => d | ⟨4, _⟩ => e | ⟨5, _⟩ => f

/-- Row-major positions at ranks four and six, the first extent one. -/
theorem pos4 {n1 n2 n3 : ℕ} (b : Fin n1) (c : Fin n2) (d : Fin n3) :
    ((⟨4, ![1, n1, n2, n3]⟩ : Shape).rowMajor (ix4 0 b c d)).val = (b.val * n2 + c.val) * n3 + d.val := by
  rw [rowMajor_val4 _ (n1 * (n2 * n3)) (n2 * n3) n3 rfl rfl rfl]
  show 0 * _ + b.val * (n2 * n3) + c.val * n3 + d.val = _
  ring

theorem pos6 {n1 n2 n3 n4 n5 : ℕ} (b : Fin n1) (c : Fin n2) (d : Fin n3) (e : Fin n4) (f : Fin n5) :
    ((⟨6, ![1, n1, n2, n3, n4, n5]⟩ : Shape).rowMajor (at6 b c d e f)).val
      = (((b.val * n2 + c.val) * n3 + d.val) * n4 + e.val) * n5 + f.val := by
  rw [rowMajor_val6 _ (n1 * (n2 * (n3 * (n4 * n5)))) (n2 * (n3 * (n4 * n5))) (n3 * (n4 * n5)) (n4 * n5) n5 rfl rfl rfl rfl rfl]
  show 0 * _ + b.val * (n2 * (n3 * (n4 * n5))) + c.val * (n3 * (n4 * n5)) + d.val * (n4 * n5) + e.val * n5 + f.val = _
  ring

/-- `patchify` of `C` channels, read at channel `c`, patch `p`, pixel `l`: the image at the channel, patch and pixel that the
    last reshape makes of them. -/
theorem patchify_apply {C : ℕ} (hC : C ≤ 6) (x : (⟨4, ![1, C, 16, 16]⟩ : Shape).Idx → α)
    (h1 : (⟨4, ![1, C, 16, 16]⟩ : Shape).ShapeCasts ⟨6, ![1, C, 4, 4, 4, 4]⟩)
    (h2 : (⟨6, ![1, C, 4, 4, 4, 4]⟩ : Shape).Transposes [0, 1, 2, 4, 3, 5] ⟨6, ![1, C, 4, 4, 4, 4]⟩)
    (h3 : (⟨6, ![1, C, 4, 4, 4, 4]⟩ : Shape).Transposes [0, 2, 3, 1, 4, 5] ⟨6, ![1, 4, 4, C, 4, 4]⟩)
    (h4 : (⟨6, ![1, 4, 4, C, 4, 4]⟩ : Shape).ShapeCasts ⟨4, ![1, 16, C, 16]⟩)
    (h5 : (⟨4, ![1, 16, C, 16]⟩ : Shape).ShapeCasts ⟨4, ![1, C, 16, 16]⟩)
    (c : Fin C) (p l : Fin 16) (ch : Fin C) (y z : Fin 16) (hch : ch.val = (c.val * 16 + p.val) % C)
    (hy : y.val = (c.val * 16 + p.val) / C / 4 * 4 + l.val / 4) (hz : z.val = (c.val * 16 + p.val) / C % 4 * 4 + l.val % 4) :
    shapeCast _ (shapeCast ⟨4, ![1, 16, C, 16]⟩ (transpose ⟨6, ![1, 4, 4, C, 4, 4]⟩ [0, 2, 3, 1, 4, 5]
      (transpose ⟨6, ![1, C, 4, 4, 4, 4]⟩ [0, 1, 2, 4, 3, 5] (shapeCast _ x h1) h2) h3) h4) h5 (ix4 0 c p l) = x (ix4 0 ch y z) := by
  have hc := c.isLt; have hp := p.isLt; have hl := l.isLt
  have hjlt : (c.val * 16 + p.val) / C < 16 := Nat.div_lt_of_lt_mul (by nlinarith)
  generalize hj : (c.val * 16 + p.val) / C = j at *
  have hcp : C * j + ch.val = c.val * 16 + p.val := by rw [hch, ← hj]; exact Nat.div_add_mod _ _
  refine (shapeCast_apply _ h5 _ (ix4 0 ⟨j, hjlt⟩ ch l) ?_).trans ?_
  · rw [pos4, pos4]; show (j * C + ch.val) * 16 + l.val = _; rw [Nat.mul_comm j C, hcp]
  refine (shapeCast_apply _ h4 _ (at6 ⟨j / 4, by omega⟩ ⟨j % 4, by omega⟩ ch ⟨l.val / 4, by omega⟩ ⟨l.val % 4, by omega⟩) ?_).trans ?_
  · rw [pos6, pos4]; show (((j / 4 * 4 + j % 4) * C + ch.val) * 4 + l.val / 4) * 4 + l.val % 4 = (j * C + ch.val) * 16 + l.val
    rw [Nat.div_add_mod' j 4]; omega
  refine (transpose_apply _ _ h3 _ (at6 ch ⟨j / 4, by omega⟩ ⟨j % 4, by omega⟩ ⟨l.val / 4, by omega⟩ ⟨l.val % 4, by omega⟩) ?_).trans ?_
  · intro b; fin_cases b <;> rfl
  refine (transpose_apply _ _ h2 _ (at6 ch ⟨j / 4, by omega⟩ ⟨l.val / 4, by omega⟩ ⟨j % 4, by omega⟩ ⟨l.val % 4, by omega⟩) ?_).trans ?_
  · intro b; fin_cases b <;> rfl
  refine shapeCast_apply _ h1 _ (ix4 0 ch y z) ?_
  rw [pos6, pos4]
  show (ch.val * 16 + y.val) * 16 + z.val = (((ch.val * 4 + j / 4) * 4 + l.val / 4) * 4 + j % 4) * 4 + l.val % 4
  omega

end Cert.Plain

end
-- ==== Proof.RefGather.lean ====
/-
The reference's gather of patches by channel and patch number, read at an index, and the linear map over the patches.
-/
module

public import proofs.«01_k».proof.Proof.RefPatch

@[expose] public section

noncomputable section

namespace Cert.Plain

open Idealize.ShloMosaic hiding ix1 ix2 ix3 ix4
open Idealize.ShloMosaic.ValueIdx
open scoped BigOperators

variable {α : Type}

/-- The dimension numbers of a gather of rows of sixteen by two coordinates, the second axis of the indices holding them. -/
abbrev pairDims (C n : ℕ)
    (wf : GatherDims.WF ⟨3, ![C, 16, 16]⟩ ⟨2, ![n, 2]⟩ ⟨2, ![n, 16]⟩ [1] [0, 1] [] [0, 1] [] 1 ![1, 1, 16]) :
    GatherDims ⟨3, ![C, 16, 16]⟩ ⟨2, ![n, 2]⟩ ⟨2, ![n, 16]⟩ where
  offsetDims := [1]
  collapsedSliceDims := [0, 1]
  operandBatchingDims := []
  startIndicesBatchingDims := []
  startIndexMap := [0, 1]
  indexVectorDim := 1
  sliceSizes := ![1, 1, 16]
  wf := wf

/-- That gather read at `(r, l)`: the row that the two coordinates of row `r` name, when they are in range. -/
theorem gather_pair_apply {C n : ℕ}
    (wf : GatherDims.WF ⟨3, ![C, 16, 16]⟩ ⟨2, ![n, 2]⟩ ⟨2, ![n, 16]⟩ [1] [0, 1] [] [0, 1] [] 1 ![1, 1, 16])
    (x : (⟨3, ![C, 16, 16]⟩ : Shape).Idx → α) (idx : IVec ⟨2, ![n, 2]⟩ 32) (r : Fin n) (l : Fin 16) (c : Fin C) (p : Fin 16)
    (hc : (idx (ix2 r 0)).toInt.toNat = c.val) (hp : (idx (ix2 r 1)).toInt.toNat = p.val) :
    Host.gather (pairDims C n wf) x idx (ix2 r l) = x (ix3 c p l) := by
  have hcl := c.isLt; have hpl := p.isLt
  unfold Host.gather
  congr 1
  funext a
  refine Fin.ext ?_
  show (pairDims C n wf).start (ix2 r l) idx a + (pairDims C n wf).batchCoord (ix2 r l) a + (pairDims C n wf).offCoord (ix2 r l) a = _
  rw [GatherDims.batchCoord_eq_zero _ _ _ List.not_mem_nil, Nat.add_zero]
  unfold GatherDims.start
  rcases (by decide : ∀ a : Fin 3, a = 0 ∨ a = 1 ∨ a = 2) a with rfl | rfl | rfl
  · rw [GatherDims.offCoord_eq_zero _ _ _ (fun h => ((GatherDims.mem_sKept _ _).mp h).1 (by simp)), Nat.add_zero,
      dif_pos (show (0 : Fin 3) ∈ (pairDims C n wf).startIndexMap from by simp)]
    have hsi : ∀ hlt, (pairDims C n wf).siIdx (ix2 r l) ⟨List.idxOf (0 : Fin 3) (pairDims C n wf).startIndexMap, hlt⟩ = ix2 r 0 := by
      intro hlt; funext b; refine Fin.ext ?_
      match b with
      | ⟨0, _⟩ => rfl
      | ⟨1, _⟩ => rfl
    refine (congrArg (fun i => min (idx i).toInt.toNat (C - 1)) (hsi _)).trans ?_
    show min (idx (ix2 r 0)).toInt.toNat (C - 1) = c.val
    omega
  · rw [GatherDims.offCoord_eq_zero _ _ _ (fun h => ((GatherDims.mem_sKept _ _).mp h).1 (by simp)), Nat.add_zero,
      dif_pos (show (1 : Fin 3) ∈ (pairDims C n wf).startIndexMap from by simp)]
    have hsi : ∀ hlt, (pairDims C n wf).siIdx (ix2 r l) ⟨List.idxOf (1 : Fin 3) (pairDims C n wf).startIndexMap, hlt⟩ = ix2 r 1 := by
      intro hlt; funext b; refine Fin.ext ?_
      match b with
      | ⟨0, _⟩ => rfl
      | ⟨1, _⟩ => rfl
    refine (congrArg (fun i => min (idx i).toInt.toNat (16 - 1)) (hsi _)).trans ?_
    show min (idx (ix2 r 1)).toInt.toNat (16 - 1) = p.val
    omega
  · rw [dif_neg (show (2 : Fin 3) ∉ (pairDims C n wf).startIndexMap from by simp), Nat.zero_add]
    rfl

/-- A column of indices, guarded by a select whose condition is never true, read at a row. -/
theorem column_apply {n : ℕ} (hn : n ≠ 1) (hb : (⟨1, ![n]⟩ : Shape).BroadcastsInDim ⟨2, ![n, 1]⟩ ![0]) (a cc : IVec ⟨1, ![n]⟩ 32) (r : Fin n) (u : Fin 1) :
    broadcastInDim ⟨2, ![n, 1]⟩ ![0] hb (select (constantI ⟨1, ![n]⟩ 1 0#1) a cc) (ix2 r u) = cc (ix1 r) := by
  refine (broadcastInDim_apply _ hb _ _ (ix1 r) ?_).trans rfl
  intro b
  match b with
  | ⟨0, _⟩ => exact (if_neg hn).symm

/-- The two columns side by side, read at a row. -/
theorem pair_apply {n : ℕ} (hn : n ≠ 1) (hb : (⟨1, ![n]⟩ : Shape).BroadcastsInDim ⟨2, ![n, 1]⟩ ![0])
    (hcat : Shape.Concatenates [⟨2, ![n, 1]⟩, ⟨2, ![n, 1]⟩] ⟨2, ![n, 2]⟩ 1) (a cc b pp : IVec ⟨1, ![n]⟩ 32) (r : Fin n) :
    concatenate ⟨2, ![n, 2]⟩ 1
        [⟨⟨2, ![n, 1]⟩, broadcastInDim ⟨2, ![n, 1]⟩ ![0] hb (select (constantI ⟨1, ![n]⟩ 1 0#1) a cc)⟩,
         ⟨⟨2, ![n, 1]⟩, broadcastInDim ⟨2, ![n, 1]⟩ ![0] hb (select (constantI ⟨1, ![n]⟩ 1 0#1) b pp)⟩] hcat (ix2 r 0) = cc (ix1 r) ∧
    concatenate ⟨2, ![n, 2]⟩ 1
        [⟨⟨2, ![n, 1]⟩, broadcastInDim ⟨2, ![n, 1]⟩ ![0] hb (select (constantI ⟨1, ![n]⟩ 1 0#1) a cc)⟩,
         ⟨⟨2, ![n, 1]⟩, broadcastInDim ⟨2, ![n, 1]⟩ ![0] hb (select (constantI ⟨1, ![n]⟩ 1 0#1) b pp)⟩] hcat (ix2 r 1) = pp (ix1 r) := by
  constructor
  · refine (concatenate_pair_apply_left _ _ _ hcat _ rfl (ix2 r 0) ?_).trans (column_apply hn hb a cc r 0)
    intro b
    match b with
    | ⟨0, _⟩ => rfl
    | ⟨1, _⟩ => rfl
  · refine (concatenate_pair_apply_right _ _ _ hcat _ rfl rfl (ix2 r 0) ?_ rfl).trans (column_apply hn hb b pp r 0)
    intro b
    match b with
    | ⟨0, _⟩ => exact fun _ => rfl
    | ⟨1, _⟩ => exact fun h => absurd rfl h

/-- The transposed weights of step `i` read at an index. -/
theorem weight_apply (i : Fin 16) (W : (⟨3, ![16, 16, 16]⟩ : Shape).Idx → α)
    (h1 : (⟨3, ![16, 16, 16]⟩ : Shape).Slices ![i.val, 0, 0] ⟨3, ![1, 16, 16]⟩)
    (h2 : (⟨3, ![1, 16, 16]⟩ : Shape).ShapeCasts ⟨2, ![16, 16]⟩) (h3 : (⟨2, ![16, 16]⟩ : Shape).Transposes [1, 0] ⟨2, ![16, 16]⟩)
    (c l : Fin 16) :
    transpose ⟨2, ![16, 16]⟩ [1, 0] (shapeCast _ (extractStridedSlice ⟨3, ![1, 16, 16]⟩ ![i.val, 0, 0] W h1) h2) h3 (ix2 c l) = W (ix3 i l c) := by
  refine (transpose_apply _ _ h3 _ (ix2 l c) ?_).trans ((shapeCast_apply _ h2 _ (ix3 0 l c) ?_).trans (extractStridedSlice_apply _ _ h1 _ (ix3 i l c) ?_))
  · intro b; fin_cases b <;> rfl
  · rw [Shape.rowMajor_val_three, Shape.rowMajor_val_two]; show (0 * 16 + l.val) * 16 + c.val = l.val * 16 + c.val; omega
  · intro b
    match b with
    | ⟨0, _⟩ => rfl
    | ⟨1, _⟩ => exact (Nat.zero_add _).symm
    | ⟨2, _⟩ => exact (Nat.zero_add _).symm

/-- The bias of step `i`, copied to every row, read at an index. -/
theorem bias_apply {n : ℕ} (i : Fin 16) (B : (⟨2, ![16, 16]⟩ : Shape).Idx → α)
    (h1 : (⟨2, ![16, 16]⟩ : Shape).Slices ![i.val, 0] ⟨2, ![1, 16]⟩)
    (h2 : (⟨2, ![1, 16]⟩ : Shape).ShapeCasts ⟨1, ![16]⟩) (h3 : (⟨1, ![16]⟩ : Shape).BroadcastsInDim ⟨2, ![1, 16]⟩ ![1])
    (h4 : (⟨2, ![1, 16]⟩ : Shape).BroadcastsInDim ⟨2, ![n, 16]⟩ ![0, 1]) (r : Fin n) (l : Fin 16) :
    broadcastInDim ⟨2, ![n, 16]⟩ ![0, 1] h4 (broadcastInDim ⟨2, ![1, 16]⟩ ![1] h3
      (shapeCast _ (extractStridedSlice ⟨2, ![1, 16]⟩ ![i.val, 0] B h1) h2)) (ix2 r l) = B (ix2 i l) := by
  refine (broadcastInDim_apply _ h4 _ _ (ix2 0 l) ?_).trans ((broadcastInDim_apply _ h3 _ _ (ix1 l) ?_).trans
    ((shapeCast_apply _ h2 _ (ix2 0 l) ?_).trans (extractStridedSlice_apply _ _ h1 _ (ix2 i l) ?_)))
  · intro b
    match b with
    | ⟨0, _⟩ => rfl
    | ⟨1, _⟩ => rfl
  · intro b
    match b with
    | ⟨0, _⟩ => rfl
  · rw [Shape.rowMajor_val_two, Shape.rowMajor_val_one]; show 0 * 16 + l.val = l.val; omega
  · intro b
    match b with
    | ⟨0, _⟩ => rfl
    | ⟨1, _⟩ => exact (Nat.zero_add _).symm

end Cert.Plain

end
-- ==== Proof.RefDot.lean ====
/-
The reference's three linear maps over patches, read at an index, at the ideal values.
-/
module

public import proofs.«01_k».proof.Proof.RefGather

@[expose] public section

noncomputable section

namespace Cert.Plain

open Idealize.ShloMosaic hiding ix1 ix2 ix3 ix4
open Idealize.ShloMosaic.ValueIdx Idealize.ShloMosaic.StackMember
open scoped BigOperators

/-- A key or value row: the patch's product with the step's weights, plus the step's bias. -/
theorem affine_apply {n : ℕ} (i : Fin 16) (A : FVec Ideal ⟨2, ![n, 16]⟩ .f32) (W : FVec Ideal ⟨3, ![16, 16, 16]⟩ .f32)
    (B : FVec Ideal ⟨2, ![16, 16]⟩ .f32)
    (h1 : (⟨3, ![16, 16, 16]⟩ : Shape).Slices ![i.val, 0, 0] ⟨3, ![1, 16, 16]⟩)
    (h2 : (⟨3, ![1, 16, 16]⟩ : Shape).ShapeCasts ⟨2, ![16, 16]⟩) (h3 : (⟨2, ![16, 16]⟩ : Shape).Transposes [1, 0] ⟨2, ![16, 16]⟩)
    (g1 : (⟨2, ![16, 16]⟩ : Shape).Slices ![i.val, 0] ⟨2, ![1, 16]⟩)
    (g2 : (⟨2, ![1, 16]⟩ : Shape).ShapeCasts ⟨1, ![16]⟩) (g3 : (⟨1, ![16]⟩ : Shape).BroadcastsInDim ⟨2, ![1, 16]⟩ ![1])
    (g4 : (⟨2, ![1, 16]⟩ : Shape).BroadcastsInDim ⟨2, ![n, 16]⟩ ![0, 1]) (r : Fin n) (l : Fin 16) :
    addf (Host.dotGeneral (DotDims.plain n 16 16) none A
        (transpose ⟨2, ![16, 16]⟩ [1, 0] (shapeCast _ (extractStridedSlice ⟨3, ![1, 16, 16]⟩ ![i.val, 0, 0] W h1) h2) h3))
      (broadcastInDim ⟨2, ![n, 16]⟩ ![0, 1] g4 (broadcastInDim ⟨2, ![1, 16]⟩ ![1] g3
        (shapeCast _ (extractStridedSlice ⟨2, ![1, 16]⟩ ![i.val, 0] B g1) g2))) (ix2 r l)
      = (∑ c : Fin 16, A (ix2 r c) * W (ix3 i l c)) + B (ix2 i l) := by
  refine congrArg₂ (· + ·) ((dotGeneral_plain_apply none A _ r l).trans ?_) (bias_apply i B g1 g2 g3 g4 r l)
  exact Finset.sum_congr rfl fun c _ => congrArg (A (ix2 r c) * ·) (weight_apply i W h1 h2 h3 c l)

/-- The dimension numbers of the queries' product: the last axis of the patches with the first of the weights. -/
abbrev queryDims (wf : DotDims.WF ⟨4, ![1, 6, 16, 16]⟩ ⟨2, ![16, 16]⟩ ⟨4, ![1, 6, 16, 16]⟩ [3] [0] [0, 1, 2] [1] [] []) :
    DotDims ⟨4, ![1, 6, 16, 16]⟩ ⟨2, ![16, 16]⟩ ⟨4, ![1, 6, 16, 16]⟩ := ⟨[3], [0], [0, 1, 2], [1], [], [], wf⟩

/-- A query row: patch `p` of channel `c` times the query weights. -/
theorem query_apply (wf : DotDims.WF ⟨4, ![1, 6, 16, 16]⟩ ⟨2, ![16, 16]⟩ ⟨4, ![1, 6, 16, 16]⟩ [3] [0] [0, 1, 2] [1] [] [])
    (A : FVec Ideal ⟨4, ![1, 6, 16, 16]⟩ .f32) (W : FVec Ideal ⟨2, ![16, 16]⟩ .f32)
    (h1 : (⟨2, ![16, 16]⟩ : Shape).Transposes [1, 0] ⟨2, ![16, 16]⟩) (h2 : (⟨4, ![1, 6, 16, 16]⟩ : Shape).ShapeCasts ⟨2, ![96, 16]⟩)
    (t : Fin 96) (c : Fin 6) (p : Fin 16) (htc : t.val = c.val * 16 + p.val) (l : Fin 16) :
    shapeCast _ (Host.dotGeneral (queryDims wf) none A (transpose ⟨2, ![16, 16]⟩ [1, 0] W h1)) h2 (ix2 t l)
      = ∑ d : Fin 16, A (ix4 0 c p d) * W (ix2 l d) := by
  refine (shapeCast_apply _ h2 _ (ix4 0 c p l) ?_).trans ?_
  · rw [pos4, Shape.rowMajor_val_two]; show _ = t.val * 16 + l.val; rw [htc]
  show FloatOps.dotGeneral _ none _ A _ (ix4 0 c p l) = _
  rw [Ideal.dotGeneral_apply, ← Equiv.sum_comp (contrEquiv1 (queryDims wf) 16 rfl rfl).symm]
  refine Finset.sum_congr rfl fun d _ => ?_
  have c2 := contrEquiv1_symm_val (queryDims wf) 16 rfl rfl d
  have l2 : (queryDims wf).lhsIdx (ix4 0 c p l) ((contrEquiv1 _ 16 rfl rfl).symm d) = ix4 0 c p d := by
    funext ax; apply Fin.ext
    match ax with
    | ⟨0, _⟩ => simp [DotDims.lhsIdx]
    | ⟨1, _⟩ => simp [DotDims.lhsIdx]; rfl
    | ⟨2, _⟩ => simp [DotDims.lhsIdx]; rfl
    | ⟨3, _⟩ => simp [DotDims.lhsIdx]; exact c2
  have r2 : (queryDims wf).rhsIdx (ix4 0 c p l) ((contrEquiv1 _ 16 rfl rfl).symm d) = ix2 d l := by
    funext ax; apply Fin.ext
    match ax with
    | ⟨0, _⟩ => simp [DotDims.rhsIdx]; exact c2
    | ⟨1, _⟩ => simp [DotDims.rhsIdx]; rfl
  rw [l2, r2]
  refine congrArg (A (ix4 0 c p d) * ·) (transpose_apply _ _ h1 _ (ix2 l d) ?_)
  intro b; fin_cases b <;> rfl

end Cert.Plain

end
-- ==== Proof.Sums.lean ====
/-
The kernel's rows at the ideal values: the tree of sixteen products is the sum over the patch, and the patch a base
index names is the reference's patch of the same channel and number.
-/
module

public import proofs.«01_k».proof.Proof.Value
public import proofs.«01_k».proof.Proof.RefDot

@[expose] public section

noncomputable section

namespace Cert.Plain

open Idealize.ShloMosaic hiding ix1 ix2 ix3 ix4
open Idealize.ShloMosaic.ValueIdx
open Cert.KernelIdeal Cert.KernelIdeal.Kqv
open scoped BigOperators

/-- A balanced tree of sixteen sums is the sum. -/
theorem tree_sum (f : Fin 16 → EReal) :
    (((f 0 + f 1) + (f 2 + f 3)) + ((f 4 + f 5) + (f 6 + f 7))) + (((f 8 + f 9) + (f 10 + f 11)) + ((f 12 + f 13) + (f 14 + f 15)))
      = ∑ d, f d := by
  simp only [Fin.sum_univ_succ, Fin.sum_univ_zero, add_zero]
  simp only [add_assoc]
  rfl

/-- A query row at a lane, -/
theorem rowVal_none (c : Fin 16 → FVec Ideal S16 .f32) (e : FVec Ideal S16 .f32) (y : S16.Idx) :
    rowVal c none e y = ∑ d : Fin 16, e (ln d) * c d y := by
  have h : ∀ d, laneOf (F := Ideal) (V := .f32) e d = e (ln d) := fun d => laneOf_eq (F := Ideal) (V := .f32) e d
  rw [← tree_sum fun d => e (ln d) * c d y]
  simp only [← h]
  rfl

/-- and a key's or value's. -/
theorem rowVal_some (c : Fin 16 → FVec Ideal S16 .f32) (b e : FVec Ideal S16 .f32) (y : S16.Idx) :
    rowVal c (some b) e y = (∑ d : Fin 16, e (ln d) * c d y) + b y :=
  congrArg (· + b y) (rowVal_none c e y)

/-- The base index of patch `p` of channel `c` among the patches of `C` channels. -/
def baseOf (C c p : ℕ) : ℕ :=
  (c * 16 + p) % C * 256 + (c * 16 + p) / C / 4 * 4 * 16 + (c * 16 + p) / C % 4 * 4

/-- Element `l` of a row's patch is the image's, at the channel and pixel the reference reads. -/
theorem rowPatch_apply (X : FVec Ideal S1x6x16x16 .f32) (t : ℕ) {C c p : ℕ} (hC0 : 0 < C) (hC : C ≤ 6) (hc : c < C) (hp : p < 16)
    (hb : (base t).toNat = baseOf C c p) (l : Fin 16) (ch : Fin 6) (y z : Fin 16)
    (hch : ch.val = (c * 16 + p) % C) (hy : y.val = (c * 16 + p) / C / 4 * 4 + l.val / 4) (hz : z.val = (c * 16 + p) / C % 4 * 4 + l.val % 4) :
    rowPatch (F := Ideal) X t (ln l) = X (ix4 0 ch y z) := by
  have hl := l.isLt; have hyl := y.isLt; have hzl := z.isLt
  have hn : (base t).toNat + off16 (nl (ln l)) = ch.val * 256 + y.val * 16 + z.val := by
    rw [hb]; unfold baseOf off16; rw [← hch]; show _ + (16 * (l.val / 4) + l.val % 4) = _; omega
  refine congrArg X (funext fun a => Fin.ext ?_)
  show pixel ((base t).toNat + off16 (nl (ln l))) a = _
  rw [hn]
  fin_cases a
  · rfl
  · show (ch.val * 256 + y.val * 16 + z.val) / 256 = ch.val; omega
  · show (ch.val * 256 + y.val * 16 + z.val) / 16 % 16 = y.val; omega
  · show (ch.val * 256 + y.val * 16 + z.val) % 16 = z.val; omega

end Cert.Plain

end
-- ==== Proof.Tables.lean ====
/-
The kernel's table of base indices agrees with the reference's tables of channels and patch numbers, step by step, for
the keys' rows and for the values' rows.
-/
module

public import proofs.«01_k».proof.Proof.Sums
public import proofs.«01_k».proof.ReferenceIdeal

@[expose] public section

set_option maxRecDepth 8192

noncomputable section

namespace Cert.Plain

open Cert.KernelIdeal.Kqv

/-- Rows `kt` and `vt` of the kernel's table both name patch `p` of channel `c` among `C` channels. -/
abbrev Agree (C : ℕ) (c p : BitVec 32) (kt vt : ℕ) : Prop :=
  c.toInt.toNat < C ∧ p.toInt.toNat < 16 ∧ (base kt).toNat = baseOf C c.toInt.toNat p.toInt.toNat
    ∧ (base vt).toNat = baseOf C c.toInt.toNat p.toInt.toNat

theorem agree0 : ∀ r : Fin 63, Agree 1 0#32 (Cert.ReferenceIdeal.lit0 r) (96 + r.val) (159 + r.val) := by decide +kernel
theorem agree1 : ∀ r : Fin 143, Agree 2 (Cert.ReferenceIdeal.lit1 r) (Cert.ReferenceIdeal.lit2 r) (222 + r.val) (365 + r.val) := by
  decide +kernel
theorem agree2 : ∀ r : Fin 255, Agree 3 (Cert.ReferenceIdeal.lit3 r) (Cert.ReferenceIdeal.lit4 r) (508 + r.val) (763 + r.val) := by
  decide +kernel
theorem agree3 : ∀ r : Fin 399, Agree 4 (Cert.ReferenceIdeal.lit5 r) (Cert.ReferenceIdeal.lit6 r) (1018 + r.val) (1417 + r.val) := by
  decide +kernel
theorem agree4 : ∀ r : Fin 575, Agree 5 (Cert.ReferenceIdeal.lit7 r) (Cert.ReferenceIdeal.lit8 r) (1816 + r.val) (2391 + r.val) := by
  decide +kernel
theorem agree5 : ∀ r : Fin 783, Agree 6 (Cert.ReferenceIdeal.lit9 r) (Cert.ReferenceIdeal.lit10 r) (2966 + r.val) (3749 + r.val) := by
  decide +kernel

/-- The queries' rows are the patches of the six channels in order. -/
theorem agreeQ : ∀ t : Fin 96, (base t.val).toNat = baseOf 6 (t.val / 16) (t.val % 16) := by decide +kernel

end Cert.Plain

end
-- ==== Proof.RefRows.lean ====
/-
The reference's gathered patches, step by step, are the patches the kernel's base indices name, for the keys' rows and
for the values' rows.
-/
module

public import proofs.«01_k».proof.Proof.Tables
public import proofs.«01_k».proof.Proof.Gen.ReferenceIdeal.Run

@[expose] public section

set_option maxRecDepth 8192

noncomputable section

namespace Cert.Plain

open Idealize.ShloMosaic hiding ix1 ix2 ix3 ix4
open Idealize.ShloMosaic.ValueIdx
open Cert.KernelIdeal.Kqv (rowPatch ln base)
open Cert.ReferenceIdeal Cert.ReferenceIdeal.Gen Cert.ReferenceIdeal.Value
open scoped BigOperators

/-- The image cut to its first `C` channels, read at an index. -/
theorem cut_apply {α : Type} {C : ℕ} (hC : C ≤ 6) (X : (⟨4, ![1, 6, 16, 16]⟩ : Shape).Idx → α)
    (h : (⟨4, ![1, 6, 16, 16]⟩ : Shape).Slices ![0, 0, 0, 0] ⟨4, ![1, C, 16, 16]⟩) (ch : Fin C) (y z : Fin 16) :
    extractStridedSlice ⟨4, ![1, C, 16, 16]⟩ ![0, 0, 0, 0] X h (ix4 0 ch y z) = X (ix4 0 (ch.castLE hC) y z) := by
  refine extractStridedSlice_apply _ _ h _ _ ?_
  intro a; fin_cases a <;> exact (Nat.zero_add _).symm

/-- A gathered patch is the row's patch. -/
theorem gathered_row {C n t : ℕ} (hC0 : 0 < C) (hC : C ≤ 6) (hn : n ≠ 1) (X : FVec Ideal ⟨4, ![1, 6, 16, 16]⟩ .f32)
    (x : FVec Ideal ⟨4, ![1, C, 16, 16]⟩ .f32) (hx : ∀ ch y z, x (ix4 0 ch y z) = X (ix4 0 (ch.castLE hC) y z))
    (h1 : (⟨4, ![1, C, 16, 16]⟩ : Shape).ShapeCasts ⟨6, ![1, C, 4, 4, 4, 4]⟩)
    (h2 : (⟨6, ![1, C, 4, 4, 4, 4]⟩ : Shape).Transposes [0, 1, 2, 4, 3, 5] ⟨6, ![1, C, 4, 4, 4, 4]⟩)
    (h3 : (⟨6, ![1, C, 4, 4, 4, 4]⟩ : Shape).Transposes [0, 2, 3, 1, 4, 5] ⟨6, ![1, 4, 4, C, 4, 4]⟩)
    (h4 : (⟨6, ![1, 4, 4, C, 4, 4]⟩ : Shape).ShapeCasts ⟨4, ![1, 16, C, 16]⟩)
    (h5 : (⟨4, ![1, 16, C, 16]⟩ : Shape).ShapeCasts ⟨4, ![1, C, 16, 16]⟩)
    (h6 : (⟨4, ![1, C, 16, 16]⟩ : Shape).ShapeCasts ⟨3, ![C, 16, 16]⟩)
    (wf : GatherDims.WF ⟨3, ![C, 16, 16]⟩ ⟨2, ![n, 2]⟩ ⟨2, ![n, 16]⟩ [1] [0, 1] [] [0, 1] [] 1 ![1, 1, 16])
    (hb : (⟨1, ![n]⟩ : Shape).BroadcastsInDim ⟨2, ![n, 1]⟩ ![0])
    (hcat : Shape.Concatenates [⟨2, ![n, 1]⟩, ⟨2, ![n, 1]⟩] ⟨2, ![n, 2]⟩ 1) (a cc b pp : IVec ⟨1, ![n]⟩ 32) (r : Fin n)
    (cw pw : BitVec 32) (hcc : cc (ix1 r) = cw) (hpp : pp (ix1 r) = pw) {kt vt : ℕ} (hA : Agree C cw pw kt vt)
    (hkv : t = kt ∨ t = vt) (l : Fin 16) :
    Host.gather (pairDims C n wf)
      (shapeCast ⟨3, ![C, 16, 16]⟩ (shapeCast ⟨4, ![1, C, 16, 16]⟩ (shapeCast ⟨4, ![1, 16, C, 16]⟩ (transpose ⟨6, ![1, 4, 4, C, 4, 4]⟩ [0, 2, 3, 1, 4, 5]
        (transpose ⟨6, ![1, C, 4, 4, 4, 4]⟩ [0, 1, 2, 4, 3, 5] (shapeCast ⟨6, ![1, C, 4, 4, 4, 4]⟩ x h1) h2) h3) h4) h5) h6)
      (concatenate ⟨2, ![n, 2]⟩ 1
        [⟨⟨2, ![n, 1]⟩, broadcastInDim ⟨2, ![n, 1]⟩ ![0] hb (select (constantI ⟨1, ![n]⟩ 1 0#1) a cc)⟩,
         ⟨⟨2, ![n, 1]⟩, broadcastInDim ⟨2, ![n, 1]⟩ ![0] hb (select (constantI ⟨1, ![n]⟩ 1 0#1) b pp)⟩] hcat) (ix2 r l)
      = rowPatch (F := Ideal) X t (ln l) := by
  have hl := l.isLt
  obtain ⟨hc, hp, hk, hv⟩ := hA
  have ht : (base t).toNat = baseOf C cw.toInt.toNat pw.toInt.toNat := by rcases hkv with rfl | rfl; exacts [hk, hv]
  clear hk hv
  obtain ⟨q1, q2⟩ := pair_apply hn hb hcat a cc b pp r
  rw [hcc] at q1
  rw [hpp] at q2
  generalize hcv : cw.toInt.toNat = c at *
  generalize hpv : pw.toInt.toNat = p at *
  have hj : (c * 16 + p) / C < 16 := Nat.div_lt_of_lt_mul (by nlinarith)
  have hm : (c * 16 + p) % C < C := Nat.mod_lt _ hC0
  refine (gather_pair_apply wf _ _ r l ⟨c, hc⟩ ⟨p, hp⟩ (by rw [q1]; exact hcv) (by rw [q2]; exact hpv)).trans ?_
  refine (shapeCast_apply _ h6 _ (ix4 0 ⟨c, hc⟩ ⟨p, hp⟩ l) ?_).trans ?_
  · rw [pos4, Shape.rowMajor_val_three]; rfl
  refine (patchify_apply hC x h1 h2 h3 h4 h5 ⟨c, hc⟩ ⟨p, hp⟩ l ⟨(c * 16 + p) % C, hm⟩
    ⟨(c * 16 + p) / C / 4 * 4 + l.val / 4, by omega⟩ ⟨(c * 16 + p) / C % 4 * 4 + l.val % 4, by omega⟩ rfl rfl rfl).trans ?_
  rw [hx]
  exact (rowPatch_apply X t hC0 hC hc hp ht l _ _ _ rfl rfl rfl).symm

variable (V : Valuation τ sig (Elt Ideal))

/-- A row's position in a table of words is its number. -/
theorem wordAt0 (r : Fin 63) : S63.rowMajor (ix1 r) = r := Fin.ext (Shape.rowMajor_val_one _)
theorem wordAt1 (r : Fin 143) : S143.rowMajor (ix1 r) = r := Fin.ext (Shape.rowMajor_val_one _)
theorem wordAt2 (r : Fin 255) : S255.rowMajor (ix1 r) = r := Fin.ext (Shape.rowMajor_val_one _)
theorem wordAt3 (r : Fin 399) : S399.rowMajor (ix1 r) = r := Fin.ext (Shape.rowMajor_val_one _)
theorem wordAt4 (r : Fin 575) : S575.rowMajor (ix1 r) = r := Fin.ext (Shape.rowMajor_val_one _)
theorem wordAt5 (r : Fin 783) : S783.rowMajor (ix1 r) = r := Fin.ext (Shape.rowMajor_val_one _)

/-- Step by step, the reference's gathered patches are the rows' patches. -/
theorem gathered0 (r : Fin 63) (l : Fin 16) (t : ℕ) (ht : t = 96 + r.val ∨ t = 159 + r.val) :
    res_main_v24 V (ix2 r l) = rowPatch (F := Ideal) (V (Proc.devRef .tc main_arg0)) t (ln l) :=
  gathered_row (C := 1) (by decide) (by decide) (by decide) _ _ (cut_apply (by decide) _ _) _ _ _ _ _ _ _ _ _ _ _ _ _ r _ _
    rfl (congrArg Cert.ReferenceIdeal.lit0 (wordAt0 r)) (agree0 r) ht l
theorem gathered1 (r : Fin 143) (l : Fin 16) (t : ℕ) (ht : t = 222 + r.val ∨ t = 365 + r.val) :
    res_main_v59 V (ix2 r l) = rowPatch (F := Ideal) (V (Proc.devRef .tc main_arg0)) t (ln l) :=
  gathered_row (C := 2) (by decide) (by decide) (by decide) _ _ (cut_apply (by decide) _ _) _ _ _ _ _ _ _ _ _ _ _ _ _ r _ _
    (congrArg Cert.ReferenceIdeal.lit1 (wordAt1 r)) (congrArg Cert.ReferenceIdeal.lit2 (wordAt1 r)) (agree1 r) ht l
theorem gathered2 (r : Fin 255) (l : Fin 16) (t : ℕ) (ht : t = 508 + r.val ∨ t = 763 + r.val) :
    res_main_v94 V (ix2 r l) = rowPatch (F := Ideal) (V (Proc.devRef .tc main_arg0)) t (ln l) :=
  gathered_row (C := 3) (by decide) (by decide) (by decide) _ _ (cut_apply (by decide) _ _) _ _ _ _ _ _ _ _ _ _ _ _ _ r _ _
    (congrArg Cert.ReferenceIdeal.lit3 (wordAt2 r)) (congrArg Cert.ReferenceIdeal.lit4 (wordAt2 r)) (agree2 r) ht l
theorem gathered3 (r : Fin 399) (l : Fin 16) (t : ℕ) (ht : t = 1018 + r.val ∨ t = 1417 + r.val) :
    res_main_v129 V (ix2 r l) = rowPatch (F := Ideal) (V (Proc.devRef .tc main_arg0)) t (ln l) :=
  gathered_row (C := 4) (by decide) (by decide) (by decide) _ _ (cut_apply (by decide) _ _) _ _ _ _ _ _ _ _ _ _ _ _ _ r _ _
    (congrArg Cert.ReferenceIdeal.lit5 (wordAt3 r)) (congrArg Cert.ReferenceIdeal.lit6 (wordAt3 r)) (agree3 r) ht l
theorem gathered4 (r : Fin 575) (l : Fin 16) (t : ℕ) (ht : t = 1816 + r.val ∨ t = 2391 + r.val) :
    res_main_v164 V (ix2 r l) = rowPatch (F := Ideal) (V (Proc.devRef .tc main_arg0)) t (ln l) :=
  gathered_row (C := 5) (by decide) (by decide) (by decide) _ _ (cut_apply (by decide) _ _) _ _ _ _ _ _ _ _ _ _ _ _ _ r _ _
    (congrArg Cert.ReferenceIdeal.lit7 (wordAt4 r)) (congrArg Cert.ReferenceIdeal.lit8 (wordAt4 r)) (agree4 r) ht l
theorem gathered5 (r : Fin 783) (l : Fin 16) (t : ℕ) (ht : t = 2966 + r.val ∨ t = 3749 + r.val) :
    res_main_v198 V (ix2 r l) = rowPatch (F := Ideal) (V (Proc.devRef .tc main_arg0)) t (ln l) :=
  gathered_row (C := 6) (by decide) (by decide) (by decide) _ _ (fun _ _ _ => rfl) _ _ _ _ _ _ _ _ _ _ _ _ _ r _ _
    (congrArg Cert.ReferenceIdeal.lit9 (wordAt5 r)) (congrArg Cert.ReferenceIdeal.lit10 (wordAt5 r)) (agree5 r) ht l

end Cert.Plain

end
-- ==== Proof.RefValue.lean ====
/-
The reference's result, row by row, is the kernel's: each piece of the reference's concatenation is one segment of rows.
-/
module

public import proofs.«01_k».proof.Proof.RefRows
public import proofs.«01_k».proof.Proof.CopyIn

@[expose] public section

set_option maxRecDepth 8192

noncomputable section

namespace Cert.Plain

open Idealize.ShloMosaic hiding ix1 ix2 ix3 ix4
open Idealize.ShloMosaic.ValueIdx
open Cert.KernelIdeal.Kqv (rowPatch ln nl base rowVal col2 col3 biasRow first6 outRow outRow_q outRow_k outRow_v base)
open Cert.ReferenceIdeal Cert.ReferenceIdeal.Gen Cert.ReferenceIdeal.Value
open scoped BigOperators

/-- Row `t` of a concatenation by rows is row `r` of the piece that starts `pre` rows in. -/
theorem piece_row {α : Type} {N n : ℕ} (xs : List ((s : Shape) × (s.Idx → α)))
    (h : Shape.Concatenates (xs.map (·.1)) ⟨2, ![N, 16]⟩ 0) (t : Fin N) (l : Fin 16) (k : ℕ) (hk : k < xs.length)
    (x₁ : (⟨2, ![n, 16]⟩ : Shape).Idx → α) (hx : xs[k] = ⟨⟨2, ![n, 16]⟩, x₁⟩) (pre : ℕ)
    (hpre : (((xs.take k).map (·.1)).map fun s => if h : s.rank = 2 then s.size ((0 : Fin 2).cast h.symm) else 0).sum = pre)
    (r : Fin n) (hr : pre + r.val = t.val) : concatenate ⟨2, ![N, 16]⟩ 0 xs h (ix2 t l) = x₁ (ix2 r l) := by
  refine concatenate_apply_piece _ _ h _ k hk _ x₁ hx rfl pre hpre (ix2 r l) ?_ hr
  intro b hb
  match b with
  | ⟨0, _⟩ => exact absurd rfl hb
  | ⟨1, _⟩ => rfl

section Rows

variable (X : FVec Ideal S1x6x16x16 .f32)

/-- A row of a key or value piece is the kernel's row. -/
theorem affine_row {n t : ℕ} (k : Fin 6) (A : FVec Ideal ⟨2, ![n, 16]⟩ .f32) (W : FVec Ideal ⟨3, ![16, 16, 16]⟩ .f32)
    (B : FVec Ideal ⟨2, ![16, 16]⟩ .f32)
    (h1 : (⟨3, ![16, 16, 16]⟩ : Shape).Slices ![k.val, 0, 0] ⟨3, ![1, 16, 16]⟩)
    (h2 : (⟨3, ![1, 16, 16]⟩ : Shape).ShapeCasts ⟨2, ![16, 16]⟩) (h3 : (⟨2, ![16, 16]⟩ : Shape).Transposes [1, 0] ⟨2, ![16, 16]⟩)
    (g1 : (⟨2, ![16, 16]⟩ : Shape).Slices ![k.val, 0] ⟨2, ![1, 16]⟩)
    (g2 : (⟨2, ![1, 16]⟩ : Shape).ShapeCasts ⟨1, ![16]⟩) (g3 : (⟨1, ![16]⟩ : Shape).BroadcastsInDim ⟨2, ![1, 16]⟩ ![1])
    (g4 : (⟨2, ![1, 16]⟩ : Shape).BroadcastsInDim ⟨2, ![n, 16]⟩ ![0, 1]) (r : Fin n) (l : Fin 16)
    (hA : ∀ d, A (ix2 r d) = rowPatch (F := Ideal) X t (ln d)) :
    addf (Host.dotGeneral (DotDims.plain n 16 16) none A
        (transpose ⟨2, ![16, 16]⟩ [1, 0] (shapeCast _ (extractStridedSlice ⟨3, ![1, 16, 16]⟩ ![k.val, 0, 0] W h1) h2) h3))
      (broadcastInDim ⟨2, ![n, 16]⟩ ![0, 1] g4 (broadcastInDim ⟨2, ![1, 16]⟩ ![1] g3
        (shapeCast _ (extractStridedSlice ⟨2, ![1, 16]⟩ ![k.val, 0] B g1) g2))) (ix2 r l)
      = rowVal (F := Ideal) (col3 (first6 (F := Ideal) W) k) (some (biasRow (F := Ideal) B k)) (rowPatch (F := Ideal) X t) (ln l) := by
  refine (affine_apply (k.castLE (by omega)) A W B h1 h2 h3 g1 g2 g3 g4 r l).trans ?_
  rw [rowVal_some]
  refine congrArg₂ (· + ·) (Finset.sum_congr rfl fun d _ => congrArg₂ (· * ·) (hA d) (congrArg W ?_)) (congrArg B ?_)
  · funext a; fin_cases a <;> rfl
  · funext a; fin_cases a <;> rfl

/-- A row of the queries is the kernel's row. -/
theorem query_row (wf : DotDims.WF ⟨4, ![1, 6, 16, 16]⟩ ⟨2, ![16, 16]⟩ ⟨4, ![1, 6, 16, 16]⟩ [3] [0] [0, 1, 2] [1] [] [])
    (W : FVec Ideal ⟨2, ![16, 16]⟩ .f32)
    (h1 : (⟨4, ![1, 6, 16, 16]⟩ : Shape).ShapeCasts ⟨6, ![1, 6, 4, 4, 4, 4]⟩)
    (h2 : (⟨6, ![1, 6, 4, 4, 4, 4]⟩ : Shape).Transposes [0, 1, 2, 4, 3, 5] ⟨6, ![1, 6, 4, 4, 4, 4]⟩)
    (h3 : (⟨6, ![1, 6, 4, 4, 4, 4]⟩ : Shape).Transposes [0, 2, 3, 1, 4, 5] ⟨6, ![1, 4, 4, 6, 4, 4]⟩)
    (h4 : (⟨6, ![1, 4, 4, 6, 4, 4]⟩ : Shape).ShapeCasts ⟨4, ![1, 16, 6, 16]⟩)
    (h5 : (⟨4, ![1, 16, 6, 16]⟩ : Shape).ShapeCasts ⟨4, ![1, 6, 16, 16]⟩)
    (h6 : (⟨2, ![16, 16]⟩ : Shape).Transposes [1, 0] ⟨2, ![16, 16]⟩) (h7 : (⟨4, ![1, 6, 16, 16]⟩ : Shape).ShapeCasts ⟨2, ![96, 16]⟩)
    (t : Fin 96) (l : Fin 16) :
    shapeCast ⟨2, ![96, 16]⟩ (Host.dotGeneral (queryDims wf) none
        (shapeCast ⟨4, ![1, 6, 16, 16]⟩ (shapeCast ⟨4, ![1, 16, 6, 16]⟩ (transpose ⟨6, ![1, 4, 4, 6, 4, 4]⟩ [0, 2, 3, 1, 4, 5]
          (transpose ⟨6, ![1, 6, 4, 4, 4, 4]⟩ [0, 1, 2, 4, 3, 5] (shapeCast ⟨6, ![1, 6, 4, 4, 4, 4]⟩ X h1) h2) h3) h4) h5)
        (transpose ⟨2, ![16, 16]⟩ [1, 0] W h6)) h7 (ix2 t l)
      = rowVal (F := Ideal) (col2 (F := Ideal) W) none (rowPatch (F := Ideal) X t.val) (ln l) := by
  have ht := t.isLt
  have e : t.val / 16 * 16 + t.val % 16 = t.val := by omega
  refine (query_apply wf _ W h6 h7 t ⟨t.val / 16, by omega⟩ ⟨t.val % 16, by omega⟩ e.symm l).trans ?_
  rw [rowVal_none]
  refine Finset.sum_congr rfl fun d _ => congrArg₂ (· * ·) ?_ (congrArg W ?_)
  · have hd := d.isLt
    have hm : (t.val / 16 * 16 + t.val % 16) % 6 < 6 := Nat.mod_lt _ (by decide)
    refine (patchify_apply (C := 6) (by decide) X h1 h2 h3 h4 h5 ⟨t.val / 16, by omega⟩ ⟨t.val % 16, by omega⟩ d ⟨_, hm⟩
      ⟨(t.val / 16 * 16 + t.val % 16) / 6 / 4 * 4 + d.val / 4, by omega⟩
      ⟨(t.val / 16 * 16 + t.val % 16) / 6 % 4 * 4 + d.val % 4, by omega⟩ rfl rfl rfl).trans ?_
    exact (rowPatch_apply X t.val (C := 6) (by decide) (by decide) (by omega) (by omega) (agreeQ t) d _ _ _ rfl rfl rfl).symm
  · funext a; fin_cases a <;> rfl

end Rows

end Cert.Plain

end
-- ==== Proof.RefEq.lean ====
/-
The reference's whole result is the kernel's: the thirteen pieces of its concatenation, one after another.
-/
module

public import proofs.«01_k».proof.Proof.RefValue

@[expose] public section

set_option maxRecDepth 8192
set_option maxHeartbeats 2000000

noncomputable section

namespace Cert.Plain

open Idealize.ShloMosaic hiding ix1 ix2 ix3 ix4
open Idealize.ShloMosaic.ValueIdx
open Cert.KernelIdeal.Kqv (ln rowPatch rowVal col3 biasRow first6 outRow outRow_q outRow_k outRow_v keyAt valAt)
open Cert.ReferenceIdeal Cert.ReferenceIdeal.Gen Cert.ReferenceIdeal.Value

/-- Row `t` of the concatenation, when the piece it falls in is a step's keys or values. -/
theorem affine_piece {n : ℕ} (X : FVec Ideal S1x6x16x16 .f32) (k : Fin 6) (xs : List ((s : Shape) × (s.Idx → Ideal .f32)))
    (h : Shape.Concatenates (xs.map (·.1)) ⟨2, ![4532, 16]⟩ 0) (t : Fin 4532) (l : Fin 16) (i : ℕ) (hi : i < xs.length)
    {A : FVec Ideal ⟨2, ![n, 16]⟩ .f32} {W : FVec Ideal ⟨3, ![16, 16, 16]⟩ .f32} {B : FVec Ideal ⟨2, ![16, 16]⟩ .f32}
    {h1 : (⟨3, ![16, 16, 16]⟩ : Shape).Slices ![k.val, 0, 0] ⟨3, ![1, 16, 16]⟩}
    {h2 : (⟨3, ![1, 16, 16]⟩ : Shape).ShapeCasts ⟨2, ![16, 16]⟩} {h3 : (⟨2, ![16, 16]⟩ : Shape).Transposes [1, 0] ⟨2, ![16, 16]⟩}
    {g1 : (⟨2, ![16, 16]⟩ : Shape).Slices ![k.val, 0] ⟨2, ![1, 16]⟩}
    {g2 : (⟨2, ![1, 16]⟩ : Shape).ShapeCasts ⟨1, ![16]⟩} {g3 : (⟨1, ![16]⟩ : Shape).BroadcastsInDim ⟨2, ![1, 16]⟩ ![1]}
    {g4 : (⟨2, ![1, 16]⟩ : Shape).BroadcastsInDim ⟨2, ![n, 16]⟩ ![0, 1]} (pre : ℕ) (hlo : pre ≤ t.val) (hhi : t.val < pre + n)
    (hx : xs[i] = ⟨⟨2, ![n, 16]⟩, addf (Host.dotGeneral (DotDims.plain n 16 16) none A
        (transpose ⟨2, ![16, 16]⟩ [1, 0] (shapeCast _ (extractStridedSlice ⟨3, ![1, 16, 16]⟩ ![k.val, 0, 0] W h1) h2) h3))
      (broadcastInDim ⟨2, ![n, 16]⟩ ![0, 1] g4 (broadcastInDim ⟨2, ![1, 16]⟩ ![1] g3
        (shapeCast _ (extractStridedSlice ⟨2, ![1, 16]⟩ ![k.val, 0] B g1) g2)))⟩)
    (hpre : (((xs.take i).map (·.1)).map fun s => if h : s.rank = 2 then s.size ((0 : Fin 2).cast h.symm) else 0).sum = pre)
    (hA : ∀ (r : Fin n) d, t.val = pre + r.val → A (ix2 r d) = rowPatch (F := Ideal) X t.val (ln d)) :
    concatenate ⟨2, ![4532, 16]⟩ 0 xs h (ix2 t l)
      = rowVal (F := Ideal) (col3 (first6 (F := Ideal) W) k) (some (biasRow (F := Ideal) B k)) (rowPatch (F := Ideal) X t.val) (ln l) :=
  have e := Nat.add_sub_cancel' hlo
  (piece_row xs h t l i hi _ hx pre hpre ⟨t.val - pre, by omega⟩ e).trans
    (affine_row X k A W B h1 h2 h3 g1 g2 g3 g4 _ l fun d => hA _ d e.symm)

variable (V : Valuation τ sig (Elt Ideal))

/-- The kernel's rows, of the reference's arguments. -/
abbrev rows : ℕ → FVec Ideal S16 .f32 :=
  outRow (F := Ideal) (V (Proc.devRef .tc main_arg0)) (V (Proc.devRef .tc main_arg1))
    (first6 (F := Ideal) (V (Proc.devRef .tc main_arg2))) (V (Proc.devRef .tc main_arg3))
    (first6 (F := Ideal) (V (Proc.devRef .tc main_arg4))) (V (Proc.devRef .tc main_arg5))

/-- The queries' rows. -/
theorem result_q (t : Fin 4532) (l : Fin 16) (h : t.val < 96) : res_main_v217 V (ix2 t l) = rows V t.val (ln l) := by
  unfold res_main_v217
  rw [rows, outRow_q _ _ _ _ _ _ _ h]
  refine (piece_row _ _ t l 0 (by simp) _ rfl 0 rfl ⟨t.val, h⟩ (Nat.zero_add _)).trans ?_
  exact query_row _ _ _ _ _ _ _ _ _ _ ⟨t.val, h⟩ l

/-- Step `k`'s rows of keys, -/
theorem result_k (k : Fin 6) (t : Fin 4532) (l : Fin 16) (h1 : keyAt k.val ≤ t.val) (h2 : t.val < valAt k.val) :
    res_main_v217 V (ix2 t l) = rows V t.val (ln l) := by
  rw [rows, outRow_k _ _ _ _ _ _ k _ h1 h2]
  unfold res_main_v217
  fin_cases k
  · exact affine_piece (n := 63) _ 0 _ _ t l 1 (by simp) 96 h1 h2 rfl rfl fun r d e => gathered0 V r d _ (.inl e)
  · exact affine_piece (n := 143) _ 1 _ _ t l 3 (by simp) 222 h1 h2 rfl rfl fun r d e => gathered1 V r d _ (.inl e)
  · exact affine_piece (n := 255) _ 2 _ _ t l 5 (by simp) 508 h1 h2 rfl rfl fun r d e => gathered2 V r d _ (.inl e)
  · exact affine_piece (n := 399) _ 3 _ _ t l 7 (by simp) 1018 h1 h2 rfl rfl fun r d e => gathered3 V r d _ (.inl e)
  · exact affine_piece (n := 575) _ 4 _ _ t l 9 (by simp) 1816 h1 h2 rfl rfl fun r d e => gathered4 V r d _ (.inl e)
  · exact affine_piece (n := 783) _ 5 _ _ t l 11 (by simp) 2966 h1 h2 rfl rfl fun r d e => gathered5 V r d _ (.inl e)

/-- and of values. -/
theorem result_v (k : Fin 6) (t : Fin 4532) (l : Fin 16) (h1 : valAt k.val ≤ t.val) (h2 : t.val < keyAt (k.val + 1)) :
    res_main_v217 V (ix2 t l) = rows V t.val (ln l) := by
  rw [rows, outRow_v _ _ _ _ _ _ k _ h1 h2]
  unfold res_main_v217
  fin_cases k
  · exact affine_piece (n := 63) _ 0 _ _ t l 2 (by simp) 159 h1 h2 rfl rfl fun r d e => gathered0 V r d _ (.inr e)
  · exact affine_piece (n := 143) _ 1 _ _ t l 4 (by simp) 365 h1 h2 rfl rfl fun r d e => gathered1 V r d _ (.inr e)
  · exact affine_piece (n := 255) _ 2 _ _ t l 6 (by simp) 763 h1 h2 rfl rfl fun r d e => gathered2 V r d _ (.inr e)
  · exact affine_piece (n := 399) _ 3 _ _ t l 8 (by simp) 1417 h1 h2 rfl rfl fun r d e => gathered3 V r d _ (.inr e)
  · exact affine_piece (n := 575) _ 4 _ _ t l 10 (by simp) 2391 h1 h2 rfl rfl fun r d e => gathered4 V r d _ (.inr e)
  · exact affine_piece (n := 783) _ 5 _ _ t l 12 (by simp) 3749 h1 h2 rfl rfl fun r d e => gathered5 V r d _ (.inr e)

/-- Every row is a query's, or among some step's keys or values. -/
theorem row_kind (t : ℕ) (ht : t < 4532) : t < 96 ∨ ∃ k : Fin 6, (keyAt k.val ≤ t ∧ t < valAt k.val) ∨ (valAt k.val ≤ t ∧ t < keyAt (k.val + 1)) := by
  by_contra hn
  have hk (k : Fin 6) (a b c : ℕ) (ha : keyAt k.val = a) (hb : valAt k.val = b) (hc : keyAt (k.val + 1) = c) : t < a ∨ c ≤ t := by
    by_contra h
    exact hn (.inr ⟨k, by omega⟩)
  have := hk 0 96 159 222 rfl rfl rfl
  have := hk 1 222 365 508 rfl rfl rfl
  have := hk 2 508 763 1018 rfl rfl rfl
  have := hk 3 1018 1417 1816 rfl rfl rfl
  have := hk 4 1816 2391 2966 rfl rfl rfl
  have := hk 5 2966 3749 4532 rfl rfl rfl
  have : ¬ t < 96 := fun h => hn (.inl h)
  omega

/-- The reference's result at an index is the kernel's row at the lane. -/
theorem result_eq (j : S4532x16.Idx) : res_main_v217 V j = rows V (j 0).val (ln ⟨(j 1).val, (j 1).isLt⟩) := by
  obtain ⟨t, l, rfl⟩ : ∃ (t : Fin 4532) (l : Fin 16), j = ix2 t l := ⟨j 0, j 1, ValueIdx.eq_ix2 j⟩
  rcases row_kind t.val t.isLt with h | ⟨k, ⟨h1, h2⟩ | ⟨h1, h2⟩⟩
  · exact result_q V t l h
  · exact result_k V k t l h1 h2
  · exact result_v V k t l h1 h2

end Cert.Plain

end
-- ==== Proof.Algebraic.lean ====
/-
The equation of values: the kernel's result is the reference's, on the same arguments.
-/
module

public import proofs.«01_k».proof.Defs
public import proofs.«01_k».proof.Proof.Launch
public import proofs.«01_k».proof.Proof.RefEq

@[expose] public section

noncomputable section

namespace Cert.Proof

open Idealize.ShloMosaic Idealize.SL.Sem Idealize.ShloMosaic.StableHlo
open Cert.KernelIdeal.Kqv (rowsOf run_main)

theorem algebraic : Cert.algebraic_KernelIdeal_ReferenceIdeal := fun m ρ m' ρ' _ hargs =>
  ⟨fun c => rowsOf (F := Ideal) m c,
    (θ_run Cert.KernelIdeal.defs _ _).mono (fun _ h c => ⟨(h.1 c).2, (h.1 c).1⟩) (run_main (F := Ideal) m ρ),
    (θ_run Cert.ReferenceIdeal.defs _ _).mono (fun r h c => by
      refine ⟨(h c).1.trans (funext fun j => ?_), (h c).2⟩
      refine (Cert.Plain.result_eq (launchContents m' c) j).trans ?_
      obtain ⟨h0, h1, h2, h3, h4, h5⟩ := hargs c
      have e0 : launchContents m' c (Proc.devRef .tc Cert.ReferenceIdeal.main_arg0) = _ := h0
      have e1 : launchContents m' c (Proc.devRef .tc Cert.ReferenceIdeal.main_arg1) = _ := h1
      have e2 : launchContents m' c (Proc.devRef .tc Cert.ReferenceIdeal.main_arg2) = _ := h2
      have e3 : launchContents m' c (Proc.devRef .tc Cert.ReferenceIdeal.main_arg3) = _ := h3
      have e4 : launchContents m' c (Proc.devRef .tc Cert.ReferenceIdeal.main_arg4) = _ := h4
      have e5 : launchContents m' c (Proc.devRef .tc Cert.ReferenceIdeal.main_arg5) = _ := h5
      unfold Cert.Plain.rows
      rw [e0, e1, e2, e3, e4, e5]
      rfl) (Cert.ReferenceIdeal.Value.run (F := Ideal) m' ρ')⟩

end Cert.Proof

end
-- ==== Proof.lean ====
/-
The certificate's claim: the three frames, the idealization (which rewrote no operation), and the equation of values.
-/
module

public import proofs.«01_k».proof.Defs
public import proofs.«01_k».proof.Proof.Gen.Kernel
public import proofs.«01_k».proof.Proof.Gen.KernelIdeal
public import proofs.«01_k».proof.Proof.Gen.ReferenceIdeal
public import proofs.«01_k».proof.Proof.Gen.ReferenceIdeal.Run
public import proofs.«01_k».proof.Proof.Frames
public import proofs.«01_k».proof.Proof.Algebraic

@[expose] public section

noncomputable section

namespace Cert.Proof

theorem claim : Cert.Claim := ⟨Cert.Kernel.Gen.facts, Cert.KernelIdeal.Gen.facts, Cert.ReferenceIdeal.Gen.facts,
  frame_kernel, frame_kernelIdeal, frame_reference, trivial, algebraic⟩

end Cert.Proof

end
